-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite [hPre_finite : Cert.Pre_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).1 = (fun _ => 1#1)
    ∧ (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.1 = (fun _ => 1#1)
    ∧ (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.1 = (fun _ => 1#1)
    ∧ (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.2.1 = (fun _ => 1#1)
    ∧ (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.2.2.1 = (fun _ => 1#1)
    ∧ (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5))).2.2.2.2.2 = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite [hPre_finite : Cert.Pre_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).1 = (fun _ => 1#1)
    ∧ (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.1 = (fun _ => 1#1)
    ∧ (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.1 = (fun _ => 1#1)
    ∧ (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.2.1 = (fun _ => 1#1)
    ∧ (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.2.2.1 = (fun _ => 1#1)
    ∧ (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5))).2.2.2.2.2 = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Kernel5Ideal_pre_finite [hKernel5Ideal : Cert.Kernel5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Reference5Ideal_pre_finite [hReference5Ideal : Cert.Reference5Ideal.Facts] [hPre_finite : Cert.Pre_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v13) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_pre_finite [hKernel5Ideal : Cert.Kernel5Ideal.Facts] [hReference5Ideal : Cert.Reference5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v43_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v43_2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v64) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0_0)) (v1 : (c : Dev Cert.Kernel6Ideal.nD) → Buf (Elt Ideal) ((c.tc : Thread Cert.Kernel6Ideal.nD Cert.Kernel6Ideal.τ).loc Cert.Kernel6Ideal.main_v0_1)) (v2 : (c : Dev Cert.Kernel6Ideal.nD) → Buf (Elt Ideal) ((c.tc : Thread Cert.Kernel6Ideal.nD Cert.Kernel6Ideal.τ).loc Cert.Kernel6Ideal.main_v0_2)) (v3 : (c : Dev Cert.Kernel6Ideal.nD) → Buf (Elt Ideal) ((c.tc : Thread Cert.Kernel6Ideal.nD Cert.Kernel6Ideal.τ).loc Cert.Kernel6Ideal.main_v0_3)) (v4 : (c : Dev Cert.Kernel6Ideal.nD) → Buf (Elt Ideal) ((c.tc : Thread Cert.Kernel6Ideal.nD Cert.Kernel6Ideal.τ).loc Cert.Kernel6Ideal.main_v0_4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0_0) = v0 c
          ∧ r.2.mem ((c.tc : Thread Cert.Kernel6Ideal.nD Cert.Kernel6Ideal.τ).loc Cert.Kernel6Ideal.main_v0_1) = v1 c
          ∧ r.2.mem ((c.tc : Thread Cert.Kernel6Ideal.nD Cert.Kernel6Ideal.τ).loc Cert.Kernel6Ideal.main_v0_2) = v2 c
          ∧ r.2.mem ((c.tc : Thread Cert.Kernel6Ideal.nD Cert.Kernel6Ideal.τ).loc Cert.Kernel6Ideal.main_v0_3) = v3 c
          ∧ r.2.mem ((c.tc : Thread Cert.Kernel6Ideal.nD Cert.Kernel6Ideal.τ).loc Cert.Kernel6Ideal.main_v0_4) = v4 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_v38) = v1 c
          ∧ r.2.mem ((c.tc : Thread Cert.Reference6Ideal.nD Cert.Reference6Ideal.τ).loc Cert.Reference6Ideal.main_v39) = v2 c
          ∧ r.2.mem ((c.tc : Thread Cert.Reference6Ideal.nD Cert.Reference6Ideal.τ).loc Cert.Reference6Ideal.main_v45) = v3 c
          ∧ r.2.mem ((c.tc : Thread Cert.Reference6Ideal.nD Cert.Reference6Ideal.τ).loc Cert.Reference6Ideal.main_v51) = v4 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v14) = v0 c
          ∧ r.2.mem ((c.tc : Thread Cert.Reference8Ideal.nD Cert.Reference8Ideal.τ).loc Cert.Reference8Ideal.main_v15) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v3) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v6) = v0 c
          ∧ r.2.mem ((c.tc : Thread Cert.Reference10Ideal.nD Cert.Reference10Ideal.τ).loc Cert.Reference10Ideal.main_v30) = v1 c
          ∧ r.2.mem ((c.tc : Thread Cert.Reference10Ideal.nD Cert.Reference10Ideal.τ).loc Cert.Reference10Ideal.main_v11) = v2 c
          ∧ r.2.mem ((c.tc : Thread Cert.Reference10Ideal.nD Cert.Reference10Ideal.τ).loc Cert.Reference10Ideal.main_v17) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v6) = v0 c
          ∧ r.2.mem ((c.tc : Thread Cert.Reference11Ideal.nD Cert.Reference11Ideal.τ).loc Cert.Reference11Ideal.main_v30) = v1 c
          ∧ r.2.mem ((c.tc : Thread Cert.Reference11Ideal.nD Cert.Reference11Ideal.τ).loc Cert.Reference11Ideal.main_v11) = v2 c
          ∧ r.2.mem ((c.tc : Thread Cert.Reference11Ideal.nD Cert.Reference11Ideal.τ).loc Cert.Reference11Ideal.main_v17) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v4)) (v1 : (c : Dev Cert.Kernel12Ideal.nD) → Buf (Elt Ideal) ((c.tc : Thread Cert.Kernel12Ideal.nD Cert.Kernel12Ideal.τ).loc Cert.Kernel12Ideal.main_v5)) (v2 : (c : Dev Cert.Kernel12Ideal.nD) → Buf (Elt Ideal) ((c.tc : Thread Cert.Kernel12Ideal.nD Cert.Kernel12Ideal.τ).loc Cert.Kernel12Ideal.main_v6)) (v3 : (c : Dev Cert.Kernel12Ideal.nD) → Buf (Elt Ideal) ((c.tc : Thread Cert.Kernel12Ideal.nD Cert.Kernel12Ideal.τ).loc Cert.Kernel12Ideal.main_v7)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v4) = v0 c
          ∧ r.2.mem ((c.tc : Thread Cert.Kernel12Ideal.nD Cert.Kernel12Ideal.τ).loc Cert.Kernel12Ideal.main_v5) = v1 c
          ∧ r.2.mem ((c.tc : Thread Cert.Kernel12Ideal.nD Cert.Kernel12Ideal.τ).loc Cert.Kernel12Ideal.main_v6) = v2 c
          ∧ r.2.mem ((c.tc : Thread Cert.Kernel12Ideal.nD Cert.Kernel12Ideal.τ).loc Cert.Kernel12Ideal.main_v7) = v3 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v7) = v0 c
          ∧ r.2.mem ((c.tc : Thread Cert.Reference12Ideal.nD Cert.Reference12Ideal.τ).loc Cert.Reference12Ideal.main_v31) = v1 c
          ∧ r.2.mem ((c.tc : Thread Cert.Reference12Ideal.nD Cert.Reference12Ideal.τ).loc Cert.Reference12Ideal.main_v12) = v2 c
          ∧ r.2.mem ((c.tc : Thread Cert.Reference12Ideal.nD Cert.Reference12Ideal.τ).loc Cert.Reference12Ideal.main_v18) = v3 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v4)) (v1 : (c : Dev Cert.Kernel13Ideal.nD) → Buf (Elt Ideal) ((c.tc : Thread Cert.Kernel13Ideal.nD Cert.Kernel13Ideal.τ).loc Cert.Kernel13Ideal.main_v5)) (v2 : (c : Dev Cert.Kernel13Ideal.nD) → Buf (Elt Ideal) ((c.tc : Thread Cert.Kernel13Ideal.nD Cert.Kernel13Ideal.τ).loc Cert.Kernel13Ideal.main_v6)) (v3 : (c : Dev Cert.Kernel13Ideal.nD) → Buf (Elt Ideal) ((c.tc : Thread Cert.Kernel13Ideal.nD Cert.Kernel13Ideal.τ).loc Cert.Kernel13Ideal.main_v7)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v4) = v0 c
          ∧ r.2.mem ((c.tc : Thread Cert.Kernel13Ideal.nD Cert.Kernel13Ideal.τ).loc Cert.Kernel13Ideal.main_v5) = v1 c
          ∧ r.2.mem ((c.tc : Thread Cert.Kernel13Ideal.nD Cert.Kernel13Ideal.τ).loc Cert.Kernel13Ideal.main_v6) = v2 c
          ∧ r.2.mem ((c.tc : Thread Cert.Kernel13Ideal.nD Cert.Kernel13Ideal.τ).loc Cert.Kernel13Ideal.main_v7) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v7) = v0 c
          ∧ r.2.mem ((c.tc : Thread Cert.Reference13Ideal.nD Cert.Reference13Ideal.τ).loc Cert.Reference13Ideal.main_v31) = v1 c
          ∧ r.2.mem ((c.tc : Thread Cert.Reference13Ideal.nD Cert.Reference13Ideal.τ).loc Cert.Reference13Ideal.main_v12) = v2 c
          ∧ r.2.mem ((c.tc : Thread Cert.Reference13Ideal.nD Cert.Reference13Ideal.τ).loc Cert.Reference13Ideal.main_v18) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite (hKernel5Ideal := hKernel5Ideal) (hPre_finite := hPre_finite)
    ∧ quiescent_Reference5Ideal (hReference5Ideal := hReference5Ideal)
    ∧ quiescent_Reference5Ideal_pre_finite (hReference5Ideal := hReference5Ideal) (hPre_finite := hPre_finite)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite (hKernel5Ideal := hKernel5Ideal) (hReference5Ideal := hReference5Ideal) (hPre_finite := hPre_finite)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
-- ==== Pre_finite.lean ====
abbrev S8208x1024 : Shape := ⟨2, ![8208, 1024]⟩
abbrev S1x1024 : Shape := ⟨2, ![1, 1024]⟩
abbrev S5632x1024 : Shape := ⟨2, ![5632, 1024]⟩
abbrev S3x5632 : Shape := ⟨2, ![3, 5632]⟩
abbrev S2816x1024 : Shape := ⟨2, ![2816, 1024]⟩
abbrev S_ : Shape := ⟨0, ![]⟩

class Facts : Prop where
  bcast_S_S8208x1024 : S_.BroadcastsInDim S8208x1024 (![] : Fin 0 → Fin S8208x1024.rank)
  bcast_S_S1x1024 : S_.BroadcastsInDim S1x1024 (![] : Fin 0 → Fin S1x1024.rank)
  bcast_S_S5632x1024 : S_.BroadcastsInDim S5632x1024 (![] : Fin 0 → Fin S5632x1024.rank)
  bcast_S_S3x5632 : S_.BroadcastsInDim S3x5632 (![] : Fin 0 → Fin S3x5632.rank)
  bcast_S_S2816x1024 : S_.BroadcastsInDim S2816x1024 (![] : Fin 0 → Fin S2816x1024.rank)

variable [Facts]

def fn {F : FTy → Type} [FloatOps F] (main_arg0 : FVec F S8208x1024 .f32) (main_arg1 : FVec F S8208x1024 .f32) (main_arg2 : FVec F S1x1024 .f32) (main_arg3 : FVec F S5632x1024 .bf16) (main_arg4 : FVec F S3x5632 .f32) (main_arg5 : FVec F S2816x1024 .bf16) : IVec S8208x1024 1 × IVec S8208x1024 1 × IVec S1x1024 1 × IVec S5632x1024 1 × IVec S3x5632 1 × IVec S2816x1024 1 :=
  let main_v0 : FVec F S8208x1024 .f32 := subf main_arg0 main_arg0
  let main_cst : FVec F S_ .f32 := constant S_ .f32 0x00000000#32
  let main_v1 : FVec F S8208x1024 .f32 := broadcastInDim S8208x1024 ![] bcast_S_S8208x1024 main_cst
  let main_v2 : IVec S8208x1024 1 := cmpf .oeq main_v0 main_v1
  let main_v3 : FVec F S8208x1024 .f32 := subf main_arg1 main_arg1
  let main_cst_0 : FVec F S_ .f32 := constant S_ .f32 0x00000000#32
  let main_v4 : FVec F S8208x1024 .f32 := broadcastInDim S8208x1024 ![] bcast_S_S8208x1024 main_cst_0
  let main_v5 : IVec S8208x1024 1 := cmpf .oeq main_v3 main_v4
  let main_v6 : FVec F S1x1024 .f32 := subf main_arg2 main_arg2
  let main_cst_1 : FVec F S_ .f32 := constant S_ .f32 0x00000000#32
  let main_v7 : FVec F S1x1024 .f32 := broadcastInDim S1x1024 ![] bcast_S_S1x1024 main_cst_1
  let main_v8 : IVec S1x1024 1 := cmpf .oeq main_v6 main_v7
  let main_v9 : FVec F S5632x1024 .bf16 := subf main_arg3 main_arg3
  let main_cst_2 : FVec F S_ .bf16 := constant S_ .bf16 0x0000#16
  let main_v10 : FVec F S5632x1024 .bf16 := broadcastInDim S5632x1024 ![] bcast_S_S5632x1024 main_cst_2
  let main_v11 : IVec S5632x1024 1 := cmpf .oeq main_v9 main_v10
  let main_v12 : FVec F S3x5632 .f32 := subf main_arg4 main_arg4
  let main_cst_3 : FVec F S_ .f32 := constant S_ .f32 0x00000000#32
  let main_v13 : FVec F S3x5632 .f32 := broadcastInDim S3x5632 ![] bcast_S_S3x5632 main_cst_3
  let main_v14 : IVec S3x5632 1 := cmpf .oeq main_v12 main_v13
  let main_v15 : FVec F S2816x1024 .bf16 := subf main_arg5 main_arg5
  let main_cst_4 : FVec F S_ .bf16 := constant S_ .bf16 0x0000#16
  let main_v16 : FVec F S2816x1024 .bf16 := broadcastInDim S2816x1024 ![] bcast_S_S2816x1024 main_cst_4
  let main_v17 : IVec S2816x1024 1 := cmpf .oeq main_v15 main_v16
  (main_v2, main_v5, main_v8, main_v11, main_v14, main_v17)
-- ==== Kernel.lean ====
abbrev S8208x2816 : Shape := ⟨2, ![8208, 2816]⟩
abbrev S8208x1024 : Shape := ⟨2, ![8208, 1024]⟩
abbrev S2816x1024 : Shape := ⟨2, ![2816, 1024]⟩
abbrev S2736x1408 : Shape := ⟨2, ![2736, 1408]⟩
abbrev S2736x512 : Shape := ⟨2, ![2736, 512]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S8208x2816, .bf16⟩
  | .hbm, ⟨1, _⟩ => ⟨S8208x1024, .f32⟩
  | .hbm, ⟨2, _⟩ => ⟨S2816x1024, .bf16⟩
  | .local _ .vmem, ⟨0, _⟩ => ⟨S2736x1408, .bf16⟩
  | .local _ .vmem, ⟨1, _⟩ => ⟨S2736x1408, .bf16⟩
  | .local _ .vmem, ⟨2, _⟩ => ⟨S2736x512, .f32⟩
  | .local _ .vmem, ⟨3, _⟩ => ⟨S2736x512, .f32⟩
  | .local _ .vmem, ⟨4, _⟩ => ⟨S1408x512, .bf16⟩
  | .local _ .vmem, ⟨5, _⟩ => ⟨S1408x512, .bf16⟩
  | .local _ .vmem, ⟨6, _⟩ => ⟨S1408x512, .f32⟩
  | _, _ => ⟨S8208x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 3], ![false, false, false]⟩

def k0_cond3 (i : grid0.Coords) : BitVec 1 :=
  let arg2 : BitVec 32 := BitVec.ofNat 32 (i 2).val
  let c2_i32_6 : BitVec 32 := 2#32
  let v12 : BitVec 1 := Scalar.cmpi .eq arg2 c2_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2736x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2736x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ReferenceIdeal.lean ====
abbrev S8208x2816 : Shape := ⟨2, ![8208, 2816]⟩
abbrev S8208x1024 : Shape := ⟨2, ![8208, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 9
  | .vmem => 0
  | .smem => 0
  | _ => 0

abbrev bufTy : (tb : Table) → Fin (tcTables nBuf tb) → BufTy
  | .hbm, ⟨0, _⟩ => ⟨S8208x2816, .bf16⟩
  | .hbm, ⟨1, _⟩ => ⟨S8208x1024, .f32⟩
  | .hbm, ⟨2, _⟩ => ⟨S_, .f32⟩
  | .hbm, ⟨3, _⟩ => ⟨S2816x1024, .f32⟩
  | .hbm, ⟨4, _⟩ => ⟨S8208x2816, .f32⟩
  | .hbm, ⟨5, _⟩ => ⟨S8208x1024, .f32⟩
  | .hbm, ⟨6, _⟩ => ⟨S1024x2816, .f32⟩
  | .hbm, ⟨7, _⟩ => ⟨S2816x1024, .f32⟩
  | .hbm, ⟨8, _⟩ => ⟨S2816x1024, .bf16⟩
  | _, _ => ⟨S8208x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel2.lean ====
abbrev S2x8208x2816 : Shape := ⟨3, ![2, 8208, 2816]⟩
abbrev S8208x1024 : Shape := ⟨2, ![8208, 1024]⟩
abbrev S5632x1024 : Shape := ⟨2, ![5632, 1024]⟩
abbrev S1x2736x1408 : Shape := ⟨3, ![1, 2736, 1408]⟩
abbrev S2736x1024 : Shape := ⟨2, ![2736, 1024]⟩
abbrev S1408x1024 : Shape := ⟨2, ![1408, 1024]⟩
abbrev S2736x1408 : Shape := ⟨2, ![2736, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x8208x2816, .bf16⟩
  | .hbm, ⟨1, _⟩ => ⟨S8208x1024, .bf16⟩
  | .hbm, ⟨2, _⟩ => ⟨S5632x1024, .bf16⟩
  | .local _ .vmem, ⟨0, _⟩ => ⟨S1x2736x1408, .bf16⟩
  | .local _ .vmem, ⟨1, _⟩ => ⟨S1x2736x1408, .bf16⟩
  | .local _ .vmem, ⟨2, _⟩ => ⟨S2736x1024, .bf16⟩
  | .local _ .vmem, ⟨3, _⟩ => ⟨S2736x1024, .bf16⟩
  | .local _ .vmem, ⟨4, _⟩ => ⟨S1408x1024, .bf16⟩
  | .local _ .vmem, ⟨5, _⟩ => ⟨S1408x1024, .bf16⟩
  | .local _ .vmem, ⟨6, _⟩ => ⟨S1408x1024, .f32⟩
  | _, _ => ⟨S2x8208x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 3], ![false, false, false]⟩

def k0_cond3 (i : grid0.Coords) : BitVec 1 :=
  let arg2 : BitVec 32 := BitVec.ofNat 32 (i 2).val
  let c2_i32_7 : BitVec 32 := 2#32
  let v12 : BitVec 1 := Scalar.cmpi .eq arg2 c2_i32_7
  let v13 : BitVec 32 := Scalar.extui v12
  let c0_i32_8 : BitVec 32 := 0#32
  let v14 : BitVec 1 := Scalar.cmpi .ne v13 c0_i32_8
  v14

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1x2736x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2736x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S2x8208x2816 : Shape := ⟨3, ![2, 8208, 2816]⟩
abbrev S8208x1024 : Shape := ⟨2, ![8208, 1024]⟩
abbrev S1x8208x2816 : Shape := ⟨3, ![1, 8208, 2816]⟩
abbrev S8208x2816 : Shape := ⟨2, ![8208, 2816]⟩
abbrev S8208x5632 : Shape := ⟨2, ![8208, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 17
  | .vmem => 0
  | .smem => 0
  | _ => 0

abbrev bufTy : (tb : Table) → Fin (tcTables nBuf tb) → BufTy
  | .hbm, ⟨0, _⟩ => ⟨S2x8208x2816, .bf16⟩
  | .hbm, ⟨1, _⟩ => ⟨S8208x1024, .bf16⟩
  | .hbm, ⟨2, _⟩ => ⟨S1x8208x2816, .bf16⟩
  | .hbm, ⟨3, _⟩ => ⟨S8208x2816, .bf16⟩
  | .hbm, ⟨4, _⟩ => ⟨S8208x2816, .f32⟩
  | .hbm, ⟨5, _⟩ => ⟨S1x8208x2816, .bf16⟩
  | .hbm, ⟨6, _⟩ => ⟨S8208x2816, .bf16⟩
  | .hbm, ⟨7, _⟩ => ⟨S8208x2816, .f32⟩
  | .hbm, ⟨8, _⟩ => ⟨S8208x5632, .f32⟩
  | .hbm, ⟨9, _⟩ => ⟨S_, .f32⟩
  | .hbm, ⟨10, _⟩ => ⟨S1024x5632, .f32⟩
  | .hbm, ⟨11, _⟩ => ⟨S8208x1024, .f32⟩
  | .hbm, ⟨12, _⟩ => ⟨S8208x5632, .f32⟩
  | .hbm, ⟨13, _⟩ => ⟨S5632x1024, .f32⟩
  | .hbm, ⟨14, _⟩ => ⟨S1024x5632, .f32⟩
  | .hbm, ⟨15, _⟩ => ⟨S5632x1024, .f32⟩
  | .hbm, ⟨16, _⟩ => ⟨S5632x1024, .bf16⟩
  | _, _ => ⟨S2x8208x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel3.lean ====
abbrev S8208x1024 : Shape := ⟨2, ![8208, 1024]⟩
abbrev S1024x1024 : Shape := ⟨2, ![1024, 1024]⟩
abbrev S2736x1024 : Shape := ⟨2, ![2736, 1024]⟩
abbrev S2736x512 : Shape := ⟨2, ![2736, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8208x1024, .bf16⟩
  | .hbm, ⟨1, _⟩ => ⟨S8208x1024, .f32⟩
  | .hbm, ⟨2, _⟩ => ⟨S1024x1024, .bf16⟩
  | .local _ .vmem, ⟨0, _⟩ => ⟨S2736x1024, .bf16⟩
  | .local _ .vmem, ⟨1, _⟩ => ⟨S2736x1024, .bf16⟩
  | .local _ .vmem, ⟨2, _⟩ => ⟨S2736x512, .f32⟩
  | .local _ .vmem, ⟨3, _⟩ => ⟨S2736x512, .f32⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8208x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 3], ![false, false, false]⟩

def k0_cond3 (i : grid0.Coords) : BitVec 1 :=
  let arg2 : BitVec 32 := BitVec.ofNat 32 (i 2).val
  let c2_i32_6 : BitVec 32 := 2#32
  let v12 : BitVec 1 := Scalar.cmpi .eq arg2 c2_i32_6
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2736x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2736x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8208x1024 : Shape := ⟨2, ![8208, 1024]⟩
abbrev S_ : Shape := ⟨0, ![]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8208x1024, .bf16⟩
  | .hbm, ⟨1, _⟩ => ⟨S8208x1024, .f32⟩
  | .hbm, ⟨2, _⟩ => ⟨S_, .f32⟩
  | .hbm, ⟨3, _⟩ => ⟨S1024x1024, .f32⟩
  | .hbm, ⟨4, _⟩ => ⟨S8208x1024, .f32⟩
  | .hbm, ⟨5, _⟩ => ⟨S8208x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S8208x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel4.lean ====
abbrev S8208x1536 : Shape := ⟨2, ![8208, 1536]⟩
abbrev S8208x1024 : Shape := ⟨2, ![8208, 1024]⟩
abbrev S1536x1024 : Shape := ⟨2, ![1536, 1024]⟩
abbrev S2736x768 : Shape := ⟨2, ![2736, 768]⟩
abbrev S2736x1024 : Shape := ⟨2, ![2736, 1024]⟩
abbrev S768x1024 : Shape := ⟨2, ![768, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8208x1536, .bf16⟩
  | .hbm, ⟨1, _⟩ => ⟨S8208x1024, .bf16⟩
  | .hbm, ⟨2, _⟩ => ⟨S1536x1024, .bf16⟩
  | .local _ .vmem, ⟨0, _⟩ => ⟨S2736x768, .bf16⟩
  | .local _ .vmem, ⟨1, _⟩ => ⟨S2736x768, .bf16⟩
  | .local _ .vmem, ⟨2, _⟩ => ⟨S2736x1024, .bf16⟩
  | .local _ .vmem, ⟨3, _⟩ => ⟨S2736x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S8208x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 3], ![false, false, false]⟩

def k0_cond3 (i : grid0.Coords) : BitVec 1 :=
  let arg2 : BitVec 32 := BitVec.ofNat 32 (i 2).val
  let c2_i32_6 : BitVec 32 := 2#32
  let v11 : BitVec 1 := Scalar.cmpi .eq arg2 c2_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2736x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2736x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8208x1536 : Shape := ⟨2, ![8208, 1536]⟩
abbrev S8208x1024 : Shape := ⟨2, ![8208, 1024]⟩
abbrev S_ : Shape := ⟨0, ![]⟩
abbrev S1024x1536 : Shape := ⟨2, ![1024, 1536]⟩
abbrev S1536x1024 : Shape := ⟨2, ![1536, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8208x1536, .bf16⟩
  | .hbm, ⟨1, _⟩ => ⟨S8208x1024, .bf16⟩
  | .hbm, ⟨2, _⟩ => ⟨S_, .f32⟩
  | .hbm, ⟨3, _⟩ => ⟨S1024x1536, .f32⟩
  | .hbm, ⟨4, _⟩ => ⟨S8208x1024, .f32⟩
  | .hbm, ⟨5, _⟩ => ⟨S8208x1536, .f32⟩
  | .hbm, ⟨6, _⟩ => ⟨S8208x1536, .f32⟩
  | .hbm, ⟨7, _⟩ => ⟨S1536x1024, .f32⟩
  | .hbm, ⟨8, _⟩ => ⟨S1024x1536, .f32⟩
  | .hbm, ⟨9, _⟩ => ⟨S1536x1024, .f32⟩
  | .hbm, ⟨10, _⟩ => ⟨S1536x1024, .bf16⟩
  | _, _ => ⟨S8208x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel5.lean ====
abbrev S8208x1024 : Shape := ⟨2, ![8208, 1024]⟩
abbrev S1x1024 : Shape := ⟨2, ![1, 1024]⟩
abbrev S5632x1024 : Shape := ⟨2, ![5632, 1024]⟩
abbrev S3x5632 : Shape := ⟨2, ![3, 5632]⟩
abbrev S2816x1024 : Shape := ⟨2, ![2816, 1024]⟩
abbrev S_ : Shape := ⟨0, ![]⟩
abbrev S8208 : Shape := ⟨1, ![8208]⟩
abbrev S8208x1 : Shape := ⟨2, ![8208, 1]⟩
abbrev S1024x5632 : Shape := ⟨2, ![1024, 5632]⟩
abbrev S8208x5632 : Shape := ⟨2, ![8208, 5632]⟩
abbrev S2x5632 : Shape := ⟨2, ![2, 5632]⟩
abbrev S8210x5632 : Shape := ⟨2, ![8210, 5632]⟩
abbrev S1x5632 : Shape := ⟨2, ![1, 5632]⟩
abbrev S8208x2816 : Shape := ⟨2, ![8208, 2816]⟩
abbrev S1x8208x2816 : Shape := ⟨3, ![1, 8208, 2816]⟩
abbrev S2x8208x2816 : Shape := ⟨3, ![2, 8208, 2816]⟩
abbrev S11x2x3x256 : Shape := ⟨4, ![11, 2, 3, 256]⟩
abbrev S912x1024 : Shape := ⟨2, ![912, 1024]⟩
abbrev S16x1024 : Shape := ⟨2, ![16, 1024]⟩
abbrev S1x912x256 : Shape := ⟨3, ![1, 912, 256]⟩
abbrev S1x16x256 : Shape := ⟨3, ![1, 16, 256]⟩
abbrev S3x256 : Shape := ⟨2, ![3, 256]⟩
abbrev S256x1024 : Shape := ⟨2, ![256, 1024]⟩
abbrev S2x912x256 : Shape := ⟨3, ![2, 912, 256]⟩
abbrev S928x1024 : Shape := ⟨2, ![928, 1024]⟩
abbrev S928x256 : Shape := ⟨2, ![928, 256]⟩
abbrev S1x256 : Shape := ⟨2, ![1, 256]⟩
abbrev S8x256 : Shape := ⟨2, ![8, 256]⟩
abbrev S304x1024 : Shape := ⟨2, ![304, 1024]⟩
abbrev S304x256 : Shape := ⟨2, ![304, 256]⟩
abbrev S352x1024 : Shape := ⟨2, ![352, 1024]⟩
abbrev S352x256 : Shape := ⟨2, ![352, 256]⟩
abbrev S1x64x256 : Shape := ⟨3, ![1, 64, 256]⟩
abbrev S64x256 : Shape := ⟨2, ![64, 256]⟩
abbrev S56x256 : Shape := ⟨2, ![56, 256]⟩
abbrev S1x48x256 : Shape := ⟨3, ![1, 48, 256]⟩
abbrev S48x256 : Shape := ⟨2, ![48, 256]⟩
abbrev S288x1024 : Shape := ⟨2, ![288, 1024]⟩
abbrev S1x288x256 : Shape := ⟨3, ![1, 288, 256]⟩
abbrev S288x256 : Shape := ⟨2, ![288, 256]⟩
abbrev S336x1024 : Shape := ⟨2, ![336, 1024]⟩
abbrev S1x336x256 : Shape := ⟨3, ![1, 336, 256]⟩
abbrev S336x256 : Shape := ⟨2, ![336, 256]⟩
abbrev S16x256 : Shape := ⟨2, ![16, 256]⟩
abbrev S56x1 : Shape := ⟨2, ![56, 1]⟩
abbrev S1x1x1x256 : Shape := ⟨4, ![1, 1, 1, 256]⟩
abbrev S256 : Shape := ⟨1, ![256]⟩
abbrev S912 : Shape := ⟨1, ![912]⟩
abbrev S912x1 : Shape := ⟨2, ![912, 1]⟩
abbrev S8x1024 : Shape := ⟨2, ![8, 1024]⟩
abbrev S1024 : Shape := ⟨1, ![1024]⟩

abbrev nBuf : Space → Nat
  | .hbm => 57
  | .vmem => 38
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S1x1024, .f32⟩
  | .hbm, ⟨3, _⟩ => ⟨S5632x1024, .bf16⟩
  | .hbm, ⟨4, _⟩ => ⟨S3x5632, .f32⟩
  | .hbm, ⟨5, _⟩ => ⟨S2816x1024, .bf16⟩
  | .hbm, ⟨6, _⟩ => ⟨S8208x1024, .f32⟩
  | .hbm, ⟨7, _⟩ => ⟨S_, .f32⟩
  | .hbm, ⟨8, _⟩ => ⟨S8208, .f32⟩
  | .hbm, ⟨9, _⟩ => ⟨S8208x1, .f32⟩
  | .hbm, ⟨10, _⟩ => ⟨S_, .f32⟩
  | .hbm, ⟨11, _⟩ => ⟨S8208x1, .f32⟩
  | .hbm, ⟨12, _⟩ => ⟨S8208x1, .f32⟩
  | .hbm, ⟨13, _⟩ => ⟨S_, .f32⟩
  | .hbm, ⟨14, _⟩ => ⟨S8208x1, .f32⟩
  | .hbm, ⟨15, _⟩ => ⟨S8208x1, .f32⟩
  | .hbm, ⟨16, _⟩ => ⟨S8208x1, .f32⟩
  | .hbm, ⟨17, _⟩ => ⟨S8208x1024, .f32⟩
  | .hbm, ⟨18, _⟩ => ⟨S8208x1024, .f32⟩
  | .hbm, ⟨19, _⟩ => ⟨S8208x1024, .f32⟩
  | .hbm, ⟨20, _⟩ => ⟨S8208x1024, .f32⟩
  | .hbm, ⟨21, _⟩ => ⟨S5632x1024, .f32⟩
  | .hbm, ⟨22, _⟩ => ⟨S1024x5632, .f32⟩
  | .hbm, ⟨23, _⟩ => ⟨S8208x5632, .f32⟩
  | .hbm, ⟨24, _⟩ => ⟨S_, .f32⟩
  | .hbm, ⟨25, _⟩ => ⟨S2x5632, .f32⟩
  | .hbm, ⟨26, _⟩ => ⟨S8210x5632, .f32⟩
  | .hbm, ⟨27, _⟩ => ⟨S8208x5632, .f32⟩
  | .hbm, ⟨28, _⟩ => ⟨S1x5632, .f32⟩
  | .hbm, ⟨29, _⟩ => ⟨S8208x5632, .f32⟩
  | .hbm, ⟨30, _⟩ => ⟨S8208x5632, .f32⟩
  | .hbm, ⟨31, _⟩ => ⟨S8208x5632, .f32⟩
  | .hbm, ⟨32, _⟩ => ⟨S1x5632, .f32⟩
  | .hbm, ⟨33, _⟩ => ⟨S8208x5632, .f32⟩
  | .hbm, ⟨34, _⟩ => ⟨S8208x5632, .f32⟩
  | .hbm, ⟨35, _⟩ => ⟨S8208x5632, .f32⟩
  | .hbm, ⟨36, _⟩ => ⟨S8208x5632, .f32⟩
  | .hbm, ⟨37, _⟩ => ⟨S1x5632, .f32⟩
  | .hbm, ⟨38, _⟩ => ⟨S8208x5632, .f32⟩
  | .hbm, ⟨39, _⟩ => ⟨S8208x5632, .f32⟩
  | .hbm, ⟨40, _⟩ => ⟨S8208x5632, .f32⟩
  | .hbm, ⟨41, _⟩ => ⟨S8208x2816, .f32⟩
  | .hbm, ⟨42, _⟩ => ⟨S8208x2816, .f32⟩
  | .hbm, ⟨43, _⟩ => ⟨S1x8208x2816, .f32⟩
  | .hbm, ⟨44, _⟩ => ⟨S1x8208x2816, .f32⟩
  | .hbm, ⟨45, _⟩ => ⟨S2x8208x2816, .f32⟩
  | .hbm, ⟨46, _⟩ => ⟨S2x8208x2816, .bf16⟩
  | .hbm, ⟨47, _⟩ => ⟨S8208x2816, .f32⟩
  | .hbm, ⟨48, _⟩ => ⟨S8208x2816, .f32⟩
  | .hbm, ⟨49, _⟩ => ⟨S1x8208x2816, .f32⟩
  | .hbm, ⟨50, _⟩ => ⟨S1x8208x2816, .f32⟩
  | .hbm, ⟨51, _⟩ => ⟨S2x8208x2816, .f32⟩
  | .hbm, ⟨52, _⟩ => ⟨S2x8208x2816, .bf16⟩
  | .hbm, ⟨53, _⟩ => ⟨S8208x1024, .f32⟩
  | .hbm, ⟨54, _⟩ => ⟨S1x1024, .f32⟩
  | .hbm, ⟨55, _⟩ => ⟨S2x8208x2816, .bf16⟩
  | .hbm, ⟨56, _⟩ => ⟨S11x2x3x256, .f32⟩
  | .local _ .vmem, ⟨0, _⟩ => ⟨S912x1024, .f32⟩
  | .local _ .vmem, ⟨1, _⟩ => ⟨S912x1024, .f32⟩
  | .local _ .vmem, ⟨2, _⟩ => ⟨S16x1024, .f32⟩
  | .local _ .vmem, ⟨3, _⟩ => ⟨S16x1024, .f32⟩
  | .local _ .vmem, ⟨4, _⟩ => ⟨S912x1024, .f32⟩
  | .local _ .vmem, ⟨5, _⟩ => ⟨S912x1024, .f32⟩
  | .local _ .vmem, ⟨6, _⟩ => ⟨S1x1024, .f32⟩
  | .local _ .vmem, ⟨7, _⟩ => ⟨S1x912x256, .bf16⟩
  | .local _ .vmem, ⟨8, _⟩ => ⟨S1x912x256, .bf16⟩
  | .local _ .vmem, ⟨9, _⟩ => ⟨S1x912x256, .bf16⟩
  | .local _ .vmem, ⟨10, _⟩ => ⟨S1x912x256, .bf16⟩
  | .local _ .vmem, ⟨11, _⟩ => ⟨S1x912x256, .bf16⟩
  | .local _ .vmem, ⟨12, _⟩ => ⟨S1x912x256, .bf16⟩
  | .local _ .vmem, ⟨13, _⟩ => ⟨S1x16x256, .bf16⟩
  | .local _ .vmem, ⟨14, _⟩ => ⟨S1x16x256, .bf16⟩
  | .local _ .vmem, ⟨15, _⟩ => ⟨S1x912x256, .bf16⟩
  | .local _ .vmem, ⟨16, _⟩ => ⟨S1x912x256, .bf16⟩
  | .local _ .vmem, ⟨17, _⟩ => ⟨S1x16x256, .bf16⟩
  | .local _ .vmem, ⟨18, _⟩ => ⟨S1x16x256, .bf16⟩
  | .local _ .vmem, ⟨19, _⟩ => ⟨S3x256, .f32⟩
  | .local _ .vmem, ⟨20, _⟩ => ⟨S3x256, .f32⟩
  | .local _ .vmem, ⟨21, _⟩ => ⟨S3x256, .f32⟩
  | .local _ .vmem, ⟨22, _⟩ => ⟨S3x256, .f32⟩
  | .local _ .vmem, ⟨23, _⟩ => ⟨S256x1024, .bf16⟩
  | .local _ .vmem, ⟨24, _⟩ => ⟨S256x1024, .bf16⟩
  | .local _ .vmem, ⟨25, _⟩ => ⟨S256x1024, .bf16⟩
  | .local _ .vmem, ⟨26, _⟩ => ⟨S256x1024, .bf16⟩
  | .local _ .vmem, ⟨27, _⟩ => ⟨S256x1024, .bf16⟩
  | .local _ .vmem, ⟨28, _⟩ => ⟨S256x1024, .bf16⟩
  | .local _ .vmem, ⟨29, _⟩ => ⟨S912x1024, .f32⟩
  | .local _ .vmem, ⟨30, _⟩ => ⟨S912x1024, .f32⟩
  | .local _ .vmem, ⟨31, _⟩ => ⟨S1x1024, .f32⟩
  | .local _ .vmem, ⟨32, _⟩ => ⟨S2x912x256, .bf16⟩
  | .local _ .vmem, ⟨33, _⟩ => ⟨S2x912x256, .bf16⟩
  | .local _ .vmem, ⟨34, _⟩ => ⟨S11x2x3x256, .f32⟩
  | .local _ .vmem, ⟨35, _⟩ => ⟨S928x1024, .bf16⟩
  | .local _ .vmem, ⟨36, _⟩ => ⟨S928x256, .f32⟩
  | .local _ .vmem, ⟨37, _⟩ => ⟨S912x1024, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43_0 : Ref sig .tc := ⟨.hbm, 53, rfl⟩
abbrev main_v43_1 : Ref sig .tc := ⟨.hbm, 54, rfl⟩
abbrev main_v43_2 : Ref sig .tc := ⟨.hbm, 55, rfl⟩
abbrev main_v43_3 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_stg13_0 : Ref sig .tc := ⟨.vmem, 25, rfl⟩
abbrev cc0_stg13_1 : Ref sig .tc := ⟨.vmem, 26, rfl⟩
abbrev cc0_stg14_0 : Ref sig .tc := ⟨.vmem, 27, rfl⟩
abbrev cc0_stg14_1 : Ref sig .tc := ⟨.vmem, 28, rfl⟩
abbrev cc0_stg15_0 : Ref sig .tc := ⟨.vmem, 29, rfl⟩
abbrev cc0_stg15_1 : Ref sig .tc := ⟨.vmem, 30, rfl⟩
abbrev cc0_stg16_0 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_scratch0 : Ref sig .tc := ⟨.vmem, 35, rfl⟩
abbrev cc0_scratch1 : Ref sig .tc := ⟨.vmem, 36, rfl⟩
abbrev cc0_scratch2 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem17_0 : DmaSem sig := 32
abbrev cc0_sem17_1 : DmaSem sig := 33
abbrev cc0_sem18_0 : DmaSem sig := 34

abbrev nD : Nat := 1
abbrev τ : Topo := Topo.v7x

variable {F : FTy → Type} [FloatOps F]

abbrev grid0 : Pipeline.Grid := ⟨2, ![9, 11], ![false, false]⟩

def k0_off1 (i : grid0.Coords) : Fin 4 → Nat :=
  let arg1 : BitVec 32 := BitVec.ofNat 32 (i 1).val
  let v2658 : Index := Scalar.indexCast arg1
  let c0_495 : Index := 0#32
  let c0_496 : Index := 0#32
  let c0_497 : Index := 0#32
  ![v2658.toNat, 0, 0, 0]
def k0_off2 (i : grid0.Coords) : Fin 4 → Nat :=
  let arg1 : BitVec 32 := BitVec.ofNat 32 (i 1).val
  let v2668 : Index := Scalar.indexCast arg1
  let c0_502 : Index := 0#32
  let c1_503 : Index := 1#32
  let c0_504 : Index := 0#32
  ![v2668.toNat, 0, 1, 0]
def k0_off3 (i : grid0.Coords) : Fin 4 → Nat :=
  let arg1 : BitVec 32 := BitVec.ofNat 32 (i 1).val
  let v2678 : Index := Scalar.indexCast arg1
  let c0_509 : Index := 0#32
  let c2_510 : Index := 2#32
  let c0_511 : Index := 0#32
  ![v2678.toNat, 0, 2, 0]
def k0_off4 (i : grid0.Coords) : Fin 4 → Nat :=
  let arg1 : BitVec 32 := BitVec.ofNat 32 (i 1).val
  let v2688 : Index := Scalar.indexCast arg1
  let c1_516 : Index := 1#32
  let c0_517 : Index := 0#32
  let c0_518 : Index := 0#32
  ![v2688.toNat, 1, 0, 0]
def k0_off5 (i : grid0.Coords) : Fin 4 → Nat :=
  let arg1 : BitVec 32 := BitVec.ofNat 32 (i 1).val
  let v2698 : Index := Scalar.indexCast arg1
  let c1_523 : Index := 1#32
  let c1_524 : Index := 1#32
  let c0_525 : Index := 0#32
  ![v2698.toNat, 1, 1, 0]
def k0_off6 (i : grid0.Coords) : Fin 4 → Nat :=
  let arg1 : BitVec 32 := BitVec.ofNat 32 (i 1).val
  let v2708 : Index := Scalar.indexCast arg1
  let c1_530 : Index := 1#32
  let c2_531 : Index := 2#32
  let c0_532 : Index := 0#32
  ![v2708.toNat, 1, 2, 0]
def k0_cond3 (i : grid0.Coords) : BitVec 1 :=
  let arg1 : BitVec 32 := BitVec.ofNat 32 (i 1).val
  let c10_i32 : BitVec 32 := 10#32
  let v2718 : BitVec 1 := Scalar.cmpi .eq arg1 c10_i32
  let v2719 : BitVec 32 := Scalar.extui v2718
  let c0_i32_537 : BitVec 32 := 0#32
  let v2720 : BitVec 1 := Scalar.cmpi .ne v2719 c0_i32_537
  v2720

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c57_i32 : BitVec 32 := 57#32
  let v1 : BitVec 32 := Scalar.muli v0 c57_i32
  let c512_i32 : BitVec 32 := 512#32
  let v2 : BitVec 32 := Scalar.minsi v1 c512_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c57_i32 : BitVec 32 := 57#32
  let v1 : BitVec 32 := Scalar.muli v0 c57_i32
  let c512_i32 : BitVec 32 := 512#32
  let v2 : BitVec 32 := Scalar.minsi v1 c512_i32
  let c0_i32 : BitVec 32 := 0#32
  let c0_i32_0 : BitVec 32 := 0#32
  ![c0_i32.toNat, v2.toNat, arg1.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg0.toNat, arg1.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c57_i32 : BitVec 32 := 57#32
  let v1 : BitVec 32 := Scalar.muli v0 c57_i32
  let c512_i32 : BitVec 32 := 512#32
  let v2 : BitVec 32 := Scalar.minsi v1 c512_i32
  let c1_i32_0 : BitVec 32 := 1#32
  let c0_i32 : BitVec 32 := 0#32
  ![c1_i32_0.toNat, v2.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_14 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![v0.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 2 → Memref sig .tc .vmem S912x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S912x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x912x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x912x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x912x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x16x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x912x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S3x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S3x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true]

abbrev stage0_15 : Fin 2 → Memref sig .tc .vmem S912x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 2 → Memref sig .tc .vmem S2x912x256 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 1 → Memref sig .tc .vmem S11x2x3x256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]
-- ==== Reference5Ideal.lean ====
abbrev S8208x1024 : Shape := ⟨2, ![8208, 1024]⟩
abbrev S1x1024 : Shape := ⟨2, ![1, 1024]⟩
abbrev S5632x1024 : Shape := ⟨2, ![5632, 1024]⟩
abbrev S3x5632 : Shape := ⟨2, ![3, 5632]⟩
abbrev S2816x1024 : Shape := ⟨2, ![2816, 1024]⟩
abbrev S_ : Shape := ⟨0, ![]⟩
abbrev S8208 : Shape := ⟨1, ![8208]⟩
abbrev S8208x1 : Shape := ⟨2, ![8208, 1]⟩
abbrev S1024x5632 : Shape := ⟨2, ![1024, 5632]⟩
abbrev S8208x5632 : Shape := ⟨2, ![8208, 5632]⟩
abbrev S2x5632 : Shape := ⟨2, ![2, 5632]⟩
abbrev S8210x5632 : Shape := ⟨2, ![8210, 5632]⟩
abbrev S1x5632 : Shape := ⟨2, ![1, 5632]⟩
abbrev S8208x2816 : Shape := ⟨2, ![8208, 2816]⟩
abbrev S1x8208x2816 : Shape := ⟨3, ![1, 8208, 2816]⟩
abbrev S2x8208x2816 : Shape := ⟨3, ![2, 8208, 2816]⟩

abbrev nBuf : Space → Nat
  | .hbm => 96
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S8208x1024, .f32⟩
  | .hbm, ⟨2, _⟩ => ⟨S1x1024, .f32⟩
  | .hbm, ⟨3, _⟩ => ⟨S5632x1024, .bf16⟩
  | .hbm, ⟨4, _⟩ => ⟨S3x5632, .f32⟩
  | .hbm, ⟨5, _⟩ => ⟨S2816x1024, .bf16⟩
  | .hbm, ⟨6, _⟩ => ⟨S8208x1024, .f32⟩
  | .hbm, ⟨7, _⟩ => ⟨S_, .f32⟩
  | .hbm, ⟨8, _⟩ => ⟨S8208, .f32⟩
  | .hbm, ⟨9, _⟩ => ⟨S8208x1, .f32⟩
  | .hbm, ⟨10, _⟩ => ⟨S_, .f32⟩
  | .hbm, ⟨11, _⟩ => ⟨S8208x1, .f32⟩
  | .hbm, ⟨12, _⟩ => ⟨S8208x1, .f32⟩
  | .hbm, ⟨13, _⟩ => ⟨S_, .f32⟩
  | .hbm, ⟨14, _⟩ => ⟨S8208x1, .f32⟩
  | .hbm, ⟨15, _⟩ => ⟨S8208x1, .f32⟩
  | .hbm, ⟨16, _⟩ => ⟨S8208x1, .f32⟩
  | .hbm, ⟨17, _⟩ => ⟨S8208x1024, .f32⟩
  | .hbm, ⟨18, _⟩ => ⟨S8208x1024, .f32⟩
  | .hbm, ⟨19, _⟩ => ⟨S8208x1024, .f32⟩
  | .hbm, ⟨20, _⟩ => ⟨S8208x1024, .f32⟩
  | .hbm, ⟨21, _⟩ => ⟨S5632x1024, .f32⟩
  | .hbm, ⟨22, _⟩ => ⟨S1024x5632, .f32⟩
  | .hbm, ⟨23, _⟩ => ⟨S8208x5632, .f32⟩
  | .hbm, ⟨24, _⟩ => ⟨S_, .f32⟩
  | .hbm, ⟨25, _⟩ => ⟨S2x5632, .f32⟩
  | .hbm, ⟨26, _⟩ => ⟨S8210x5632, .f32⟩
  | .hbm, ⟨27, _⟩ => ⟨S_, .f32⟩
  | .hbm, ⟨28, _⟩ => ⟨S2x5632, .f32⟩
  | .hbm, ⟨29, _⟩ => ⟨S8208x5632, .f32⟩
  | .hbm, ⟨30, _⟩ => ⟨S1x5632, .f32⟩
  | .hbm, ⟨31, _⟩ => ⟨S8208x5632, .f32⟩
  | .hbm, ⟨32, _⟩ => ⟨S8208x5632, .f32⟩
  | .hbm, ⟨33, _⟩ => ⟨S8208x5632, .f32⟩
  | .hbm, ⟨34, _⟩ => ⟨S1x5632, .f32⟩
  | .hbm, ⟨35, _⟩ => ⟨S8208x5632, .f32⟩
  | .hbm, ⟨36, _⟩ => ⟨S8208x5632, .f32⟩
  | .hbm, ⟨37, _⟩ => ⟨S8208x5632, .f32⟩
  | .hbm, ⟨38, _⟩ => ⟨S8208x5632, .f32⟩
  | .hbm, ⟨39, _⟩ => ⟨S1x5632, .f32⟩
  | .hbm, ⟨40, _⟩ => ⟨S8208x5632, .f32⟩
  | .hbm, ⟨41, _⟩ => ⟨S8208x5632, .f32⟩
  | .hbm, ⟨42, _⟩ => ⟨S8208x5632, .f32⟩
  | .hbm, ⟨43, _⟩ => ⟨S8208x2816, .f32⟩
  | .hbm, ⟨44, _⟩ => ⟨S8208x2816, .f32⟩
  | .hbm, ⟨45, _⟩ => ⟨S8208x2816, .f32⟩
  | .hbm, ⟨46, _⟩ => ⟨S8208x2816, .f32⟩
  | .hbm, ⟨47, _⟩ => ⟨S_, .f32⟩
  | .hbm, ⟨48, _⟩ => ⟨S8208x2816, .f32⟩
  | .hbm, ⟨49, _⟩ => ⟨S8208x2816, .f32⟩
  | .hbm, ⟨50, _⟩ => ⟨S_, .f32⟩
  | .hbm, ⟨51, _⟩ => ⟨S8208x2816, .f32⟩
  | .hbm, ⟨52, _⟩ => ⟨S8208x2816, .f32⟩
  | .hbm, ⟨53, _⟩ => ⟨S_, .f32⟩
  | .hbm, ⟨54, _⟩ => ⟨S8208x2816, .f32⟩
  | .hbm, ⟨55, _⟩ => ⟨S8208x2816, .f32⟩
  | .hbm, ⟨56, _⟩ => ⟨S8208x2816, .f32⟩
  | .hbm, ⟨57, _⟩ => ⟨S8208x2816, .f32⟩
  | .hbm, ⟨58, _⟩ => ⟨S8208x2816, .f32⟩
  | .hbm, ⟨59, _⟩ => ⟨S2816x1024, .f32⟩
  | .hbm, ⟨60, _⟩ => ⟨S8208x1024, .f32⟩
  | .hbm, ⟨61, _⟩ => ⟨S8208x1024, .f32⟩
  | .hbm, ⟨62, _⟩ => ⟨S8208x2816, .f32⟩
  | .hbm, ⟨63, _⟩ => ⟨S8208x2816, .f32⟩
  | .hbm, ⟨64, _⟩ => ⟨S8208x2816, .f32⟩
  | .hbm, ⟨65, _⟩ => ⟨S8208x2816, .f32⟩
  | .hbm, ⟨66, _⟩ => ⟨S8208x2816, .f32⟩
  | .hbm, ⟨67, _⟩ => ⟨S8208x2816, .f32⟩
  | .hbm, ⟨68, _⟩ => ⟨S8208x2816, .f32⟩
  | .hbm, ⟨69, _⟩ => ⟨S_, .f32⟩
  | .hbm, ⟨70, _⟩ => ⟨S8208x5632, .f32⟩
  | .hbm, ⟨71, _⟩ => ⟨S_, .f32⟩
  | .hbm, ⟨72, _⟩ => ⟨S8208x5632, .f32⟩
  | .hbm, ⟨73, _⟩ => ⟨S8208x5632, .f32⟩
  | .hbm, ⟨74, _⟩ => ⟨S8208x5632, .f32⟩
  | .hbm, ⟨75, _⟩ => ⟨S8208x5632, .f32⟩
  | .hbm, ⟨76, _⟩ => ⟨S_, .f32⟩
  | .hbm, ⟨77, _⟩ => ⟨S8210x5632, .f32⟩
  | .hbm, ⟨78, _⟩ => ⟨S8208x5632, .f32⟩
  | .hbm, ⟨79, _⟩ => ⟨S8208x5632, .f32⟩
  | .hbm, ⟨80, _⟩ => ⟨S_, .f32⟩
  | .hbm, ⟨81, _⟩ => ⟨S8210x5632, .f32⟩
  | .hbm, ⟨82, _⟩ => ⟨S8210x5632, .f32⟩
  | .hbm, ⟨83, _⟩ => ⟨S8208x5632, .f32⟩
  | .hbm, ⟨84, _⟩ => ⟨S8208x5632, .f32⟩
  | .hbm, ⟨85, _⟩ => ⟨S_, .f32⟩
  | .hbm, ⟨86, _⟩ => ⟨S8210x5632, .f32⟩
  | .hbm, ⟨87, _⟩ => ⟨S8210x5632, .f32⟩
  | .hbm, ⟨88, _⟩ => ⟨S2x5632, .f32⟩
  | .hbm, ⟨89, _⟩ => ⟨S8208x5632, .f32⟩
  | .hbm, ⟨90, _⟩ => ⟨S8208x2816, .f32⟩
  | .hbm, ⟨91, _⟩ => ⟨S8208x2816, .f32⟩
  | .hbm, ⟨92, _⟩ => ⟨S1x8208x2816, .f32⟩
  | .hbm, ⟨93, _⟩ => ⟨S1x8208x2816, .f32⟩
  | .hbm, ⟨94, _⟩ => ⟨S2x8208x2816, .f32⟩
  | .hbm, ⟨95, _⟩ => ⟨S2x8208x2816, .bf16⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_v34_2 : Ref sig .tc := ⟨.hbm, 52, rfl⟩
abbrev main_call0_cst_1 : Ref sig .tc := ⟨.hbm, 53, rfl⟩
abbrev main_call0_v6 : Ref sig .tc := ⟨.hbm, 54, rfl⟩
abbrev main_call0_v7 : Ref sig .tc := ⟨.hbm, 55, rfl⟩
abbrev main_v34_1 : Ref sig .tc := ⟨.hbm, 56, rfl⟩
abbrev main_v34_0 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_call1_v0 : Ref sig .tc := ⟨.hbm, 65, rfl⟩
abbrev main_call1_v1 : Ref sig .tc := ⟨.hbm, 66, rfl⟩
abbrev main_call1_v2 : Ref sig .tc := ⟨.hbm, 67, rfl⟩
abbrev main_v42 : Ref sig .tc := ⟨.hbm, 68, rfl⟩
abbrev main_cst_4 : Ref sig .tc := ⟨.hbm, 69, rfl⟩
abbrev main_v43 : Ref sig .tc := ⟨.hbm, 70, rfl⟩
abbrev main_cst_5 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_cst_6 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_7 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_cst_8 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩

abbrev nD : Nat := 1
abbrev τ : Topo := Topo.v7x

variable {F : FTy → Type} [FloatOps F]
-- ==== Kernel6.lean ====
abbrev S8208x1024 : Shape := ⟨2, ![8208, 1024]⟩
abbrev S1x1024 : Shape := ⟨2, ![1, 1024]⟩
abbrev S5632x1024 : Shape := ⟨2, ![5632, 1024]⟩
abbrev S3x5632 : Shape := ⟨2, ![3, 5632]⟩
abbrev S2816x1024 : Shape := ⟨2, ![2816, 1024]⟩
abbrev S8208x2816 : Shape := ⟨2, ![8208, 2816]⟩
abbrev S2x8208x2816 : Shape := ⟨3, ![2, 8208, 2816]⟩
abbrev S16x1024 : Shape := ⟨2, ![16, 1024]⟩
abbrev S912x1024 : Shape := ⟨2, ![912, 1024]⟩
abbrev S256x1024 : Shape := ⟨2, ![256, 1024]⟩
abbrev S3x256 : Shape := ⟨2, ![3, 256]⟩
abbrev S912x256 : Shape := ⟨2, ![912, 256]⟩
abbrev S2x912x256 : Shape := ⟨3, ![2, 912, 256]⟩
abbrev S2x8x256 : Shape := ⟨3, ![2, 8, 256]⟩
abbrev S16 : Shape := ⟨1, ![16]⟩
abbrev S16x1 : Shape := ⟨2, ![16, 1]⟩
abbrev S912 : Shape := ⟨1, ![912]⟩
abbrev S912x1 : Shape := ⟨2, ![912, 1]⟩
abbrev S1x256 : Shape := ⟨2, ![1, 256]⟩
abbrev S8x256 : Shape := ⟨2, ![8, 256]⟩
abbrev S16x256 : Shape := ⟨2, ![16, 256]⟩
abbrev S1x8x256 : Shape := ⟨3, ![1, 8, 256]⟩
abbrev S288x1024 : Shape := ⟨2, ![288, 1024]⟩
abbrev S288x256 : Shape := ⟨2, ![288, 256]⟩
abbrev S1x288x256 : Shape := ⟨3, ![1, 288, 256]⟩
abbrev S336x1024 : Shape := ⟨2, ![336, 1024]⟩
abbrev S336x256 : Shape := ⟨2, ![336, 256]⟩
abbrev S1x336x256 : Shape := ⟨3, ![1, 336, 256]⟩
abbrev S1x48x256 : Shape := ⟨3, ![1, 48, 256]⟩
abbrev S48x256 : Shape := ⟨2, ![48, 256]⟩
abbrev S56x256 : Shape := ⟨2, ![56, 256]⟩
abbrev S1x56x256 : Shape := ⟨3, ![1, 56, 256]⟩

abbrev nBuf : Space → Nat
  | .hbm => 10
  | .vmem => 29
  | .smem => 0
  | _ => 0

abbrev bufTy : (tb : Table) → Fin (tcTables nBuf tb) → BufTy
  | .hbm, ⟨0, _⟩ => ⟨S8208x1024, .f32⟩
  | .hbm, ⟨1, _⟩ => ⟨S1x1024, .f32⟩
  | .hbm, ⟨2, _⟩ => ⟨S5632x1024, .bf16⟩
  | .hbm, ⟨3, _⟩ => ⟨S3x5632, .f32⟩
  | .hbm, ⟨4, _⟩ => ⟨S2816x1024, .bf16⟩
  | .hbm, ⟨5, _⟩ => ⟨S8208x1024, .f32⟩
  | .hbm, ⟨6, _⟩ => ⟨S8208x1024, .bf16⟩
  | .hbm, ⟨7, _⟩ => ⟨S8208x2816, .bf16⟩
  | .hbm, ⟨8, _⟩ => ⟨S2x8208x2816, .bf16⟩
  | .hbm, ⟨9, _⟩ => ⟨S2x8208x2816, .bf16⟩
  | .local _ .vmem, ⟨0, _⟩ => ⟨S16x1024, .f32⟩
  | .local _ .vmem, ⟨1, _⟩ => ⟨S16x1024, .f32⟩
  | .local _ .vmem, ⟨2, _⟩ => ⟨S912x1024, .f32⟩
  | .local _ .vmem, ⟨3, _⟩ => ⟨S912x1024, .f32⟩
  | .local _ .vmem, ⟨4, _⟩ => ⟨S1x1024, .f32⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S3x256, .f32⟩
  | .local _ .vmem, ⟨10, _⟩ => ⟨S3x256, .f32⟩
  | .local _ .vmem, ⟨11, _⟩ => ⟨S3x256, .f32⟩
  | .local _ .vmem, ⟨12, _⟩ => ⟨S3x256, .f32⟩
  | .local _ .vmem, ⟨13, _⟩ => ⟨S256x1024, .bf16⟩
  | .local _ .vmem, ⟨14, _⟩ => ⟨S256x1024, .bf16⟩
  | .local _ .vmem, ⟨15, _⟩ => ⟨S912x1024, .f32⟩
  | .local _ .vmem, ⟨16, _⟩ => ⟨S912x1024, .f32⟩
  | .local _ .vmem, ⟨17, _⟩ => ⟨S912x1024, .bf16⟩
  | .local _ .vmem, ⟨18, _⟩ => ⟨S912x1024, .bf16⟩
  | .local _ .vmem, ⟨19, _⟩ => ⟨S912x256, .bf16⟩
  | .local _ .vmem, ⟨20, _⟩ => ⟨S912x256, .bf16⟩
  | .local _ .vmem, ⟨21, _⟩ => ⟨S2x912x256, .bf16⟩
  | .local _ .vmem, ⟨22, _⟩ => ⟨S2x912x256, .bf16⟩
  | .local _ .vmem, ⟨23, _⟩ => ⟨S2x912x256, .bf16⟩
  | .local _ .vmem, ⟨24, _⟩ => ⟨S2x912x256, .bf16⟩
  | .local _ .vmem, ⟨25, _⟩ => ⟨S16x1024, .bf16⟩
  | .local _ .vmem, ⟨26, _⟩ => ⟨S2x8x256, .f32⟩
  | .local _ .vmem, ⟨27, _⟩ => ⟨S2x912x256, .f32⟩
  | .local _ .vmem, ⟨28, _⟩ => ⟨S912x1024, .f32⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![9, 11], ![false, false]⟩

def k0_cond2 (i : grid0.Coords) : BitVec 1 :=
  let arg1 : BitVec 32 := BitVec.ofNat 32 (i 1).val
  let c10_i32 : BitVec 32 := 10#32
  let v1040 : BitVec 1 := Scalar.cmpi .eq arg1 c10_i32
  let v1041 : BitVec 32 := Scalar.extui v1040
  let c0_i32_448 : BitVec 32 := 0#32
  let v1042 : BitVec 1 := Scalar.cmpi .ne v1041 c0_i32_448
  v1042

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c57_i32 : BitVec 32 := 57#32
  let v0 : BitVec 32 := Scalar.muli arg0 c57_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.addi arg1 c11_i32
  let c0_i32 : BitVec 32 := 0#32
  let c0_i32_0 : BitVec 32 := 0#32
  ![c0_i32.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S16x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S912x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S3x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S3x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S912x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S912x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S912x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2x912x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S2x912x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== Reference6Ideal.lean ====
abbrev S8208x1024 : Shape := ⟨2, ![8208, 1024]⟩
abbrev S1x1024 : Shape := ⟨2, ![1, 1024]⟩
abbrev S5632x1024 : Shape := ⟨2, ![5632, 1024]⟩
abbrev S3x5632 : Shape := ⟨2, ![3, 5632]⟩
abbrev S2816x1024 : Shape := ⟨2, ![2816, 1024]⟩
abbrev S_ : Shape := ⟨0, ![]⟩
abbrev S8208 : Shape := ⟨1, ![8208]⟩
abbrev S8208x1 : Shape := ⟨2, ![8208, 1]⟩
abbrev S1024x5632 : Shape := ⟨2, ![1024, 5632]⟩
abbrev S8208x5632 : Shape := ⟨2, ![8208, 5632]⟩
abbrev S2x5632 : Shape := ⟨2, ![2, 5632]⟩
abbrev S8210x5632 : Shape := ⟨2, ![8210, 5632]⟩
abbrev S1x5632 : Shape := ⟨2, ![1, 5632]⟩
abbrev S8208x2816 : Shape := ⟨2, ![8208, 2816]⟩
abbrev S1x8208x2816 : Shape := ⟨3, ![1, 8208, 2816]⟩
abbrev S2x8208x2816 : Shape := ⟨3, ![2, 8208, 2816]⟩

abbrev nBuf : Space → Nat
  | .hbm => 69
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S1x1024, .f32⟩
  | .hbm, ⟨2, _⟩ => ⟨S5632x1024, .bf16⟩
  | .hbm, ⟨3, _⟩ => ⟨S3x5632, .f32⟩
  | .hbm, ⟨4, _⟩ => ⟨S2816x1024, .bf16⟩
  | .hbm, ⟨5, _⟩ => ⟨S8208x1024, .f32⟩
  | .hbm, ⟨6, _⟩ => ⟨S_, .f32⟩
  | .hbm, ⟨7, _⟩ => ⟨S8208, .f32⟩
  | .hbm, ⟨8, _⟩ => ⟨S8208x1, .f32⟩
  | .hbm, ⟨9, _⟩ => ⟨S_, .f32⟩
  | .hbm, ⟨10, _⟩ => ⟨S8208x1, .f32⟩
  | .hbm, ⟨11, _⟩ => ⟨S8208x1, .f32⟩
  | .hbm, ⟨12, _⟩ => ⟨S_, .f32⟩
  | .hbm, ⟨13, _⟩ => ⟨S8208x1, .f32⟩
  | .hbm, ⟨14, _⟩ => ⟨S8208x1, .f32⟩
  | .hbm, ⟨15, _⟩ => ⟨S8208x1, .f32⟩
  | .hbm, ⟨16, _⟩ => ⟨S8208x1024, .f32⟩
  | .hbm, ⟨17, _⟩ => ⟨S8208x1024, .f32⟩
  | .hbm, ⟨18, _⟩ => ⟨S8208x1024, .f32⟩
  | .hbm, ⟨19, _⟩ => ⟨S8208x1024, .f32⟩
  | .hbm, ⟨20, _⟩ => ⟨S5632x1024, .f32⟩
  | .hbm, ⟨21, _⟩ => ⟨S1024x5632, .f32⟩
  | .hbm, ⟨22, _⟩ => ⟨S8208x5632, .f32⟩
  | .hbm, ⟨23, _⟩ => ⟨S_, .f32⟩
  | .hbm, ⟨24, _⟩ => ⟨S2x5632, .f32⟩
  | .hbm, ⟨25, _⟩ => ⟨S8210x5632, .f32⟩
  | .hbm, ⟨26, _⟩ => ⟨S8208x5632, .f32⟩
  | .hbm, ⟨27, _⟩ => ⟨S1x5632, .f32⟩
  | .hbm, ⟨28, _⟩ => ⟨S8208x5632, .f32⟩
  | .hbm, ⟨29, _⟩ => ⟨S8208x5632, .f32⟩
  | .hbm, ⟨30, _⟩ => ⟨S8208x5632, .f32⟩
  | .hbm, ⟨31, _⟩ => ⟨S1x5632, .f32⟩
  | .hbm, ⟨32, _⟩ => ⟨S8208x5632, .f32⟩
  | .hbm, ⟨33, _⟩ => ⟨S8208x5632, .f32⟩
  | .hbm, ⟨34, _⟩ => ⟨S8208x5632, .f32⟩
  | .hbm, ⟨35, _⟩ => ⟨S8208x5632, .f32⟩
  | .hbm, ⟨36, _⟩ => ⟨S1x5632, .f32⟩
  | .hbm, ⟨37, _⟩ => ⟨S8208x5632, .f32⟩
  | .hbm, ⟨38, _⟩ => ⟨S8208x5632, .f32⟩
  | .hbm, ⟨39, _⟩ => ⟨S8208x5632, .f32⟩
  | .hbm, ⟨40, _⟩ => ⟨S8208x2816, .f32⟩
  | .hbm, ⟨41, _⟩ => ⟨S8208x2816, .f32⟩
  | .hbm, ⟨42, _⟩ => ⟨S8208x2816, .f32⟩
  | .hbm, ⟨43, _⟩ => ⟨S_, .f32⟩
  | .hbm, ⟨44, _⟩ => ⟨S8208x2816, .f32⟩
  | .hbm, ⟨45, _⟩ => ⟨S8208x2816, .f32⟩
  | .hbm, ⟨46, _⟩ => ⟨S_, .f32⟩
  | .hbm, ⟨47, _⟩ => ⟨S8208x2816, .f32⟩
  | .hbm, ⟨48, _⟩ => ⟨S8208x2816, .f32⟩
  | .hbm, ⟨49, _⟩ => ⟨S8208x2816, .f32⟩
  | .hbm, ⟨50, _⟩ => ⟨S8208x2816, .f32⟩
  | .hbm, ⟨51, _⟩ => ⟨S8208x2816, .f32⟩
  | .hbm, ⟨52, _⟩ => ⟨S2816x1024, .f32⟩
  | .hbm, ⟨53, _⟩ => ⟨S8208x1024, .f32⟩
  | .hbm, ⟨54, _⟩ => ⟨S8208x1024, .f32⟩
  | .hbm, ⟨55, _⟩ => ⟨S8208x1024, .bf16⟩
  | .hbm, ⟨56, _⟩ => ⟨S8208x2816, .bf16⟩
  | .hbm, ⟨57, _⟩ => ⟨S8208x2816, .f32⟩
  | .hbm, ⟨58, _⟩ => ⟨S8208x2816, .f32⟩
  | .hbm, ⟨59, _⟩ => ⟨S1x8208x2816, .f32⟩
  | .hbm, ⟨60, _⟩ => ⟨S1x8208x2816, .f32⟩
  | .hbm, ⟨61, _⟩ => ⟨S2x8208x2816, .f32⟩
  | .hbm, ⟨62, _⟩ => ⟨S2x8208x2816, .bf16⟩
  | .hbm, ⟨63, _⟩ => ⟨S8208x2816, .f32⟩
  | .hbm, ⟨64, _⟩ => ⟨S8208x2816, .f32⟩
  | .hbm, ⟨65, _⟩ => ⟨S1x8208x2816, .f32⟩
  | .hbm, ⟨66, _⟩ => ⟨S1x8208x2816, .f32⟩
  | .hbm, ⟨67, _⟩ => ⟨S2x8208x2816, .f32⟩
  | .hbm, ⟨68, _⟩ => ⟨S2x8208x2816, .bf16⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_call0_v0 : Ref sig .tc := ⟨.hbm, 41, rfl⟩
abbrev main_call0_v1 : Ref sig .tc := ⟨.hbm, 42, rfl⟩
abbrev main_call0_cst : Ref sig .tc := ⟨.hbm, 43, rfl⟩
abbrev main_call0_v2 : Ref sig .tc := ⟨.hbm, 44, rfl⟩
abbrev main_call0_v3 : Ref sig .tc := ⟨.hbm, 45, rfl⟩
abbrev main_call0_cst_0 : Ref sig .tc := ⟨.hbm, 46, rfl⟩
abbrev main_call0_v4 : Ref sig .tc := ⟨.hbm, 47, rfl⟩
abbrev main_call0_v5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]
-- ==== Kernel7.lean ====
abbrev S8208x1024 : Shape := ⟨2, ![8208, 1024]⟩
abbrev S1024x1024 : Shape := ⟨2, ![1024, 1024]⟩
abbrev S912x1024 : Shape := ⟨2, ![912, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8208x1024, .f32⟩
  | .hbm, ⟨1, _⟩ => ⟨S1024x1024, .bf16⟩
  | .hbm, ⟨2, _⟩ => ⟨S8208x1024, .bf16⟩
  | .local _ .vmem, ⟨0, _⟩ => ⟨S912x1024, .f32⟩
  | .local _ .vmem, ⟨1, _⟩ => ⟨S912x1024, .f32⟩
  | .local _ .vmem, ⟨2, _⟩ => ⟨S1024x1024, .bf16⟩
  | .local _ .vmem, ⟨3, _⟩ => ⟨S912x1024, .bf16⟩
  | .local _ .vmem, ⟨4, _⟩ => ⟨S912x1024, .bf16⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![9, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S912x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S912x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference7Ideal.lean ====
abbrev S8208x1024 : Shape := ⟨2, ![8208, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S1024x1024, .bf16⟩
  | .hbm, ⟨2, _⟩ => ⟨S_, .f32⟩
  | .hbm, ⟨3, _⟩ => ⟨S8208x1024, .f32⟩
  | .hbm, ⟨4, _⟩ => ⟨S1024x1024, .f32⟩
  | .hbm, ⟨5, _⟩ => ⟨S8208x1024, .f32⟩
  | .hbm, ⟨6, _⟩ => ⟨S8208x1024, .f32⟩
  | .hbm, ⟨7, _⟩ => ⟨S8208x1024, .bf16⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S8208x1024 : Shape := ⟨2, ![8208, 1024]⟩
abbrev S1x1024 : Shape := ⟨2, ![1, 1024]⟩
abbrev S1536x1024 : Shape := ⟨2, ![1536, 1024]⟩
abbrev S8208x1536 : Shape := ⟨2, ![8208, 1536]⟩
abbrev S912x1024 : Shape := ⟨2, ![912, 1024]⟩
abbrev S912x1536 : Shape := ⟨2, ![912, 1536]⟩
abbrev S912 : Shape := ⟨1, ![912]⟩
abbrev S912x1 : Shape := ⟨2, ![912, 1]⟩

abbrev nBuf : Space → Nat
  | .hbm => 5
  | .vmem => 8
  | .smem => 0
  | _ => 0

abbrev bufTy : (tb : Table) → Fin (tcTables nBuf tb) → BufTy
  | .hbm, ⟨0, _⟩ => ⟨S8208x1024, .f32⟩
  | .hbm, ⟨1, _⟩ => ⟨S1x1024, .f32⟩
  | .hbm, ⟨2, _⟩ => ⟨S1536x1024, .bf16⟩
  | .hbm, ⟨3, _⟩ => ⟨S8208x1536, .f32⟩
  | .hbm, ⟨4, _⟩ => ⟨S8208x1024, .bf16⟩
  | .local _ .vmem, ⟨0, _⟩ => ⟨S912x1024, .f32⟩
  | .local _ .vmem, ⟨1, _⟩ => ⟨S912x1024, .f32⟩
  | .local _ .vmem, ⟨2, _⟩ => ⟨S1x1024, .f32⟩
  | .local _ .vmem, ⟨3, _⟩ => ⟨S1536x1024, .bf16⟩
  | .local _ .vmem, ⟨4, _⟩ => ⟨S912x1536, .f32⟩
  | .local _ .vmem, ⟨5, _⟩ => ⟨S912x1536, .f32⟩
  | .local _ .vmem, ⟨6, _⟩ => ⟨S912x1024, .bf16⟩
  | .local _ .vmem, ⟨7, _⟩ => ⟨S912x1024, .bf16⟩
  | _, _ => ⟨S8208x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![9, 1], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S912x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 2 → Memref sig .tc .vmem S912x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S912x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference8Ideal.lean ====
abbrev S8208x1024 : Shape := ⟨2, ![8208, 1024]⟩
abbrev S1x1024 : Shape := ⟨2, ![1, 1024]⟩
abbrev S1536x1024 : Shape := ⟨2, ![1536, 1024]⟩
abbrev S_ : Shape := ⟨0, ![]⟩
abbrev S8208 : Shape := ⟨1, ![8208]⟩
abbrev S8208x1 : Shape := ⟨2, ![8208, 1]⟩
abbrev S1024x1536 : Shape := ⟨2, ![1024, 1536]⟩
abbrev S8208x1536 : Shape := ⟨2, ![8208, 1536]⟩

abbrev nBuf : Space → Nat
  | .hbm => 22
  | .vmem => 0
  | .smem => 0
  | _ => 0

abbrev bufTy : (tb : Table) → Fin (tcTables nBuf tb) → BufTy
  | .hbm, ⟨0, _⟩ => ⟨S8208x1024, .f32⟩
  | .hbm, ⟨1, _⟩ => ⟨S1x1024, .f32⟩
  | .hbm, ⟨2, _⟩ => ⟨S1536x1024, .bf16⟩
  | .hbm, ⟨3, _⟩ => ⟨S8208x1024, .f32⟩
  | .hbm, ⟨4, _⟩ => ⟨S_, .f32⟩
  | .hbm, ⟨5, _⟩ => ⟨S8208, .f32⟩
  | .hbm, ⟨6, _⟩ => ⟨S8208x1, .f32⟩
  | .hbm, ⟨7, _⟩ => ⟨S_, .f32⟩
  | .hbm, ⟨8, _⟩ => ⟨S8208x1, .f32⟩
  | .hbm, ⟨9, _⟩ => ⟨S8208x1, .f32⟩
  | .hbm, ⟨10, _⟩ => ⟨S_, .f32⟩
  | .hbm, ⟨11, _⟩ => ⟨S8208x1, .f32⟩
  | .hbm, ⟨12, _⟩ => ⟨S8208x1, .f32⟩
  | .hbm, ⟨13, _⟩ => ⟨S8208x1, .f32⟩
  | .hbm, ⟨14, _⟩ => ⟨S8208x1024, .f32⟩
  | .hbm, ⟨15, _⟩ => ⟨S8208x1024, .f32⟩
  | .hbm, ⟨16, _⟩ => ⟨S8208x1024, .f32⟩
  | .hbm, ⟨17, _⟩ => ⟨S8208x1024, .f32⟩
  | .hbm, ⟨18, _⟩ => ⟨S1536x1024, .f32⟩
  | .hbm, ⟨19, _⟩ => ⟨S1024x1536, .f32⟩
  | .hbm, ⟨20, _⟩ => ⟨S8208x1536, .f32⟩
  | .hbm, ⟨21, _⟩ => ⟨S8208x1024, .bf16⟩
  | _, _ => ⟨S8208x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]
-- ==== Kernel9.lean ====
abbrev S8208x1024 : Shape := ⟨2, ![8208, 1024]⟩
abbrev S1024x1024 : Shape := ⟨2, ![1024, 1024]⟩
abbrev S912x1024 : Shape := ⟨2, ![912, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8208x1024, .bf16⟩
  | .hbm, ⟨1, _⟩ => ⟨S1024x1024, .bf16⟩
  | .hbm, ⟨2, _⟩ => ⟨S8208x1024, .f32⟩
  | .hbm, ⟨3, _⟩ => ⟨S8208x1024, .f32⟩
  | .local _ .vmem, ⟨0, _⟩ => ⟨S912x1024, .bf16⟩
  | .local _ .vmem, ⟨1, _⟩ => ⟨S912x1024, .bf16⟩
  | .local _ .vmem, ⟨2, _⟩ => ⟨S1024x1024, .bf16⟩
  | .local _ .vmem, ⟨3, _⟩ => ⟨S912x1024, .f32⟩
  | .local _ .vmem, ⟨4, _⟩ => ⟨S912x1024, .f32⟩
  | .local _ .vmem, ⟨5, _⟩ => ⟨S912x1024, .f32⟩
  | .local _ .vmem, ⟨6, _⟩ => ⟨S912x1024, .f32⟩
  | _, _ => ⟨S8208x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![9, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S912x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S912x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S912x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S8208x1024 : Shape := ⟨2, ![8208, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8208x1024, .bf16⟩
  | .hbm, ⟨1, _⟩ => ⟨S1024x1024, .bf16⟩
  | .hbm, ⟨2, _⟩ => ⟨S8208x1024, .f32⟩
  | .hbm, ⟨3, _⟩ => ⟨S8208x1024, .f32⟩
  | .hbm, ⟨4, _⟩ => ⟨S1024x1024, .f32⟩
  | .hbm, ⟨5, _⟩ => ⟨S8208x1024, .f32⟩
  | .hbm, ⟨6, _⟩ => ⟨S8208x1024, .f32⟩
  | _, _ => ⟨S8208x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S8x128x1024 : Shape := ⟨3, ![8, 128, 1024]⟩
abbrev S2x128x1024 : Shape := ⟨3, ![2, 128, 1024]⟩
abbrev S1x128x1024 : Shape := ⟨3, ![1, 128, 1024]⟩
abbrev S128x1024 : Shape := ⟨2, ![128, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .local _ .vmem, ⟨0, _⟩ => ⟨S8x128x1024, .bf16⟩
  | .local _ .vmem, ⟨1, _⟩ => ⟨S8x128x1024, .bf16⟩
  | .local _ .vmem, ⟨2, _⟩ => ⟨S8x128x1024, .bf16⟩
  | .local _ .vmem, ⟨3, _⟩ => ⟨S8x128x1024, .bf16⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference10Ideal.lean ====
abbrev S8x128x1024 : Shape := ⟨3, ![8, 128, 1024]⟩
abbrev S2x128x1024 : Shape := ⟨3, ![2, 128, 1024]⟩
abbrev S_ : Shape := ⟨0, ![]⟩
abbrev S128x1024 : Shape := ⟨2, ![128, 1024]⟩
abbrev S1x128x1024 : Shape := ⟨3, ![1, 128, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S8x128x1024, .bf16⟩
  | .hbm, ⟨2, _⟩ => ⟨S2x128x1024, .f32⟩
  | .hbm, ⟨3, _⟩ => ⟨S2x128x1024, .f32⟩
  | .hbm, ⟨4, _⟩ => ⟨S2x128x1024, .f32⟩
  | .hbm, ⟨5, _⟩ => ⟨S8x128x1024, .f32⟩
  | .hbm, ⟨6, _⟩ => ⟨S_, .f32⟩
  | .hbm, ⟨7, _⟩ => ⟨S128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S1x128x1024, .f32⟩
  | .hbm, ⟨13, _⟩ => ⟨S2x128x1024, .f32⟩
  | .hbm, ⟨14, _⟩ => ⟨S_, .f32⟩
  | .hbm, ⟨15, _⟩ => ⟨S2x128x1024, .f32⟩
  | .hbm, ⟨16, _⟩ => ⟨S2x128x1024, .f32⟩
  | .hbm, ⟨17, _⟩ => ⟨S_, .f32⟩
  | .hbm, ⟨18, _⟩ => ⟨S2x128x1024, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S_, .f32⟩
  | .hbm, ⟨33, _⟩ => ⟨S2x128x1024, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel11.lean ====
abbrev S8x352x1024 : Shape := ⟨3, ![8, 352, 1024]⟩
abbrev S2x352x1024 : Shape := ⟨3, ![2, 352, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 9
  | .vmem => 18
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .hbm, ⟨7, _⟩ => ⟨S2x352x1024, .f32⟩
  | .hbm, ⟨8, _⟩ => ⟨S2x352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference11Ideal.lean ====
abbrev S8x352x1024 : Shape := ⟨3, ![8, 352, 1024]⟩
abbrev S2x352x1024 : Shape := ⟨3, ![2, 352, 1024]⟩
abbrev S_ : Shape := ⟨0, ![]⟩
abbrev S352x1024 : Shape := ⟨2, ![352, 1024]⟩
abbrev S1x352x1024 : Shape := ⟨3, ![1, 352, 1024]⟩

abbrev nBuf : Space → Nat
  | .hbm => 47
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S8x352x1024, .bf16⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S8x352x1024, .f32⟩
  | .hbm, ⟨6, _⟩ => ⟨S_, .f32⟩
  | .hbm, ⟨7, _⟩ => ⟨S352x1024, .f32⟩
  | .hbm, ⟨8, _⟩ => ⟨S8x352x1024, .f32⟩
  | .hbm, ⟨9, _⟩ => ⟨S_, .f32⟩
  | .hbm, ⟨10, _⟩ => ⟨S352x1024, .f32⟩
  | .hbm, ⟨11, _⟩ => ⟨S1x352x1024, .f32⟩
  | .hbm, ⟨12, _⟩ => ⟨S1x352x1024, .f32⟩
  | .hbm, ⟨13, _⟩ => ⟨S2x352x1024, .f32⟩
  | .hbm, ⟨14, _⟩ => ⟨S_, .f32⟩
  | .hbm, ⟨15, _⟩ => ⟨S2x352x1024, .f32⟩
  | .hbm, ⟨16, _⟩ => ⟨S2x352x1024, .f32⟩
  | .hbm, ⟨17, _⟩ => ⟨S_, .f32⟩
  | .hbm, ⟨18, _⟩ => ⟨S2x352x1024, .f32⟩
  | .hbm, ⟨19, _⟩ => ⟨S2x352x1024, .f32⟩
  | .hbm, ⟨20, _⟩ => ⟨S2x352x1024, .f32⟩
  | .hbm, ⟨21, _⟩ => ⟨S_, .f32⟩
  | .hbm, ⟨22, _⟩ => ⟨S2x352x1024, .f32⟩
  | .hbm, ⟨23, _⟩ => ⟨S2x352x1024, .f32⟩
  | .hbm, ⟨24, _⟩ => ⟨S2x352x1024, .f32⟩
  | .hbm, ⟨25, _⟩ => ⟨S_, .f32⟩
  | .hbm, ⟨26, _⟩ => ⟨S2x352x1024, .f32⟩
  | .hbm, ⟨27, _⟩ => ⟨S2x352x1024, .f32⟩
  | .hbm, ⟨28, _⟩ => ⟨S2x352x1024, .f32⟩
  | .hbm, ⟨29, _⟩ => ⟨S_, .f32⟩
  | .hbm, ⟨30, _⟩ => ⟨S2x352x1024, .f32⟩
  | .hbm, ⟨31, _⟩ => ⟨S2x352x1024, .f32⟩
  | .hbm, ⟨32, _⟩ => ⟨S_, .f32⟩
  | .hbm, ⟨33, _⟩ => ⟨S2x352x1024, .f32⟩
  | .hbm, ⟨34, _⟩ => ⟨S2x352x1024, .f32⟩
  | .hbm, ⟨35, _⟩ => ⟨S2x352x1024, .f32⟩
  | .hbm, ⟨36, _⟩ => ⟨S_, .f32⟩
  | .hbm, ⟨37, _⟩ => ⟨S2x352x1024, .f32⟩
  | .hbm, ⟨38, _⟩ => ⟨S2x352x1024, .f32⟩
  | .hbm, ⟨39, _⟩ => ⟨S2x352x1024, .f32⟩
  | .hbm, ⟨40, _⟩ => ⟨S_, .f32⟩
  | .hbm, ⟨41, _⟩ => ⟨S2x352x1024, .f32⟩
  | .hbm, ⟨42, _⟩ => ⟨S2x352x1024, .f32⟩
  | .hbm, ⟨43, _⟩ => ⟨S2x352x1024, .f32⟩
  | .hbm, ⟨44, _⟩ => ⟨S_, .f32⟩
  | .hbm, ⟨45, _⟩ => ⟨S2x352x1024, .f32⟩
  | .hbm, ⟨46, _⟩ => ⟨S2x352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_7 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_9 : Ref sig .tc := ⟨.hbm, 44, rfl⟩
abbrev main_v29 : Ref sig .tc := ⟨.hbm, 45, rfl⟩
abbrev main_v30 : Ref sig .tc := ⟨.hbm, 46, rfl⟩

abbrev nD : Nat := 1
abbrev τ : Topo := Topo.v7x

variable {F : FTy → Type} [FloatOps F]
-- ==== Kernel12.lean ====
abbrev S8x192x1024 : Shape := ⟨3, ![8, 192, 1024]⟩
abbrev S2x1024x192 : Shape := ⟨3, ![2, 1024, 192]⟩
abbrev S2x192x1024 : Shape := ⟨3, ![2, 192, 1024]⟩
abbrev S1x192x1024 : Shape := ⟨3, ![1, 192, 1024]⟩
abbrev S192x1024 : Shape := ⟨2, ![192, 1024]⟩

abbrev nBuf : Space → Nat
  | .hbm => 16
  | .vmem => 18
  | .smem => 0
  | _ => 0

abbrev bufTy : (tb : Table) → Fin (tcTables nBuf tb) → BufTy
  | .hbm, ⟨0, _⟩ => ⟨S8x192x1024, .bf16⟩
  | .hbm, ⟨1, _⟩ => ⟨S8x192x1024, .bf16⟩
  | .hbm, ⟨2, _⟩ => ⟨S2x1024x192, .f32⟩
  | .hbm, ⟨3, _⟩ => ⟨S2x1024x192, .f32⟩
  | .hbm, ⟨4, _⟩ => ⟨S2x1024x192, .f32⟩
  | .hbm, ⟨5, _⟩ => ⟨S2x192x1024, .f32⟩
  | .hbm, ⟨6, _⟩ => ⟨S2x192x1024, .f32⟩
  | .hbm, ⟨7, _⟩ => ⟨S2x192x1024, .f32⟩
  | .hbm, ⟨8, _⟩ => ⟨S2x192x1024, .f32⟩
  | .hbm, ⟨9, _⟩ => ⟨S2x192x1024, .f32⟩
  | .hbm, ⟨10, _⟩ => ⟨S2x192x1024, .f32⟩
  | .hbm, ⟨11, _⟩ => ⟨S2x192x1024, .f32⟩
  | .hbm, ⟨12, _⟩ => ⟨S2x1024x192, .f32⟩
  | .hbm, ⟨13, _⟩ => ⟨S2x1024x192, .f32⟩
  | .hbm, ⟨14, _⟩ => ⟨S2x1024x192, .f32⟩
  | .hbm, ⟨15, _⟩ => ⟨S2x1024x192, .f32⟩
  | .local _ .vmem, ⟨0, _⟩ => ⟨S8x192x1024, .bf16⟩
  | .local _ .vmem, ⟨1, _⟩ => ⟨S8x192x1024, .bf16⟩
  | .local _ .vmem, ⟨2, _⟩ => ⟨S8x192x1024, .bf16⟩
  | .local _ .vmem, ⟨3, _⟩ => ⟨S8x192x1024, .bf16⟩
  | .local _ .vmem, ⟨4, _⟩ => ⟨S1x192x1024, .f32⟩
  | .local _ .vmem, ⟨5, _⟩ => ⟨S1x192x1024, .f32⟩
  | .local _ .vmem, ⟨6, _⟩ => ⟨S1x192x1024, .f32⟩
  | .local _ .vmem, ⟨7, _⟩ => ⟨S1x192x1024, .f32⟩
  | .local _ .vmem, ⟨8, _⟩ => ⟨S1x192x1024, .f32⟩
  | .local _ .vmem, ⟨9, _⟩ => ⟨S1x192x1024, .f32⟩
  | .local _ .vmem, ⟨10, _⟩ => ⟨S1x192x1024, .f32⟩
  | .local _ .vmem, ⟨11, _⟩ => ⟨S1x192x1024, .f32⟩
  | .local _ .vmem, ⟨12, _⟩ => ⟨S1x192x1024, .f32⟩
  | .local _ .vmem, ⟨13, _⟩ => ⟨S1x192x1024, .f32⟩
  | .local _ .vmem, ⟨14, _⟩ => ⟨S1x192x1024, .f32⟩
  | .local _ .vmem, ⟨15, _⟩ => ⟨S1x192x1024, .f32⟩
  | .local _ .vmem, ⟨16, _⟩ => ⟨S1x192x1024, .f32⟩
  | .local _ .vmem, ⟨17, _⟩ => ⟨S1x192x1024, .f32⟩
  | _, _ => ⟨S8x192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x192x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x192x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x192x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x192x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x192x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x192x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x192x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x192x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference12Ideal.lean ====
abbrev S8x192x1024 : Shape := ⟨3, ![8, 192, 1024]⟩
abbrev S2x1024x192 : Shape := ⟨3, ![2, 1024, 192]⟩
abbrev S_ : Shape := ⟨0, ![]⟩
abbrev S192x1024 : Shape := ⟨2, ![192, 1024]⟩
abbrev S1x192x1024 : Shape := ⟨3, ![1, 192, 1024]⟩
abbrev S2x192x1024 : Shape := ⟨3, ![2, 192, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8x192x1024, .bf16⟩
  | .hbm, ⟨1, _⟩ => ⟨S8x192x1024, .bf16⟩
  | .hbm, ⟨2, _⟩ => ⟨S2x1024x192, .f32⟩
  | .hbm, ⟨3, _⟩ => ⟨S2x1024x192, .f32⟩
  | .hbm, ⟨4, _⟩ => ⟨S2x1024x192, .f32⟩
  | .hbm, ⟨5, _⟩ => ⟨S8x192x1024, .f32⟩
  | .hbm, ⟨6, _⟩ => ⟨S_, .f32⟩
  | .hbm, ⟨7, _⟩ => ⟨S192x1024, .f32⟩
  | .hbm, ⟨8, _⟩ => ⟨S8x192x1024, .f32⟩
  | .hbm, ⟨9, _⟩ => ⟨S_, .f32⟩
  | .hbm, ⟨10, _⟩ => ⟨S192x1024, .f32⟩
  | .hbm, ⟨11, _⟩ => ⟨S1x192x1024, .f32⟩
  | .hbm, ⟨12, _⟩ => ⟨S1x192x1024, .f32⟩
  | .hbm, ⟨13, _⟩ => ⟨S2x192x1024, .f32⟩
  | .hbm, ⟨14, _⟩ => ⟨S2x1024x192, .f32⟩
  | .hbm, ⟨15, _⟩ => ⟨S_, .f32⟩
  | .hbm, ⟨16, _⟩ => ⟨S2x1024x192, .f32⟩
  | .hbm, ⟨17, _⟩ => ⟨S2x1024x192, .f32⟩
  | .hbm, ⟨18, _⟩ => ⟨S_, .f32⟩
  | .hbm, ⟨19, _⟩ => ⟨S2x1024x192, .f32⟩
  | .hbm, ⟨20, _⟩ => ⟨S2x1024x192, .f32⟩
  | .hbm, ⟨21, _⟩ => ⟨S2x1024x192, .f32⟩
  | .hbm, ⟨22, _⟩ => ⟨S_, .f32⟩
  | .hbm, ⟨23, _⟩ => ⟨S2x1024x192, .f32⟩
  | .hbm, ⟨24, _⟩ => ⟨S2x1024x192, .f32⟩
  | .hbm, ⟨25, _⟩ => ⟨S2x1024x192, .f32⟩
  | .hbm, ⟨26, _⟩ => ⟨S_, .f32⟩
  | .hbm, ⟨27, _⟩ => ⟨S2x1024x192, .f32⟩
  | .hbm, ⟨28, _⟩ => ⟨S2x1024x192, .f32⟩
  | .hbm, ⟨29, _⟩ => ⟨S2x1024x192, .f32⟩
  | .hbm, ⟨30, _⟩ => ⟨S_, .f32⟩
  | .hbm, ⟨31, _⟩ => ⟨S2x1024x192, .f32⟩
  | .hbm, ⟨32, _⟩ => ⟨S2x1024x192, .f32⟩
  | .hbm, ⟨33, _⟩ => ⟨S_, .f32⟩
  | .hbm, ⟨34, _⟩ => ⟨S2x1024x192, .f32⟩
  | .hbm, ⟨35, _⟩ => ⟨S2x1024x192, .f32⟩
  | .hbm, ⟨36, _⟩ => ⟨S2x1024x192, .f32⟩
  | .hbm, ⟨37, _⟩ => ⟨S_, .f32⟩
  | .hbm, ⟨38, _⟩ => ⟨S2x1024x192, .f32⟩
  | .hbm, ⟨39, _⟩ => ⟨S2x1024x192, .f32⟩
  | .hbm, ⟨40, _⟩ => ⟨S2x1024x192, .f32⟩
  | .hbm, ⟨41, _⟩ => ⟨S_, .f32⟩
  | .hbm, ⟨42, _⟩ => ⟨S2x1024x192, .f32⟩
  | .hbm, ⟨43, _⟩ => ⟨S2x1024x192, .f32⟩
  | .hbm, ⟨44, _⟩ => ⟨S2x1024x192, .f32⟩
  | .hbm, ⟨45, _⟩ => ⟨S_, .f32⟩
  | .hbm, ⟨46, _⟩ => ⟨S2x1024x192, .f32⟩
  | .hbm, ⟨47, _⟩ => ⟨S2x1024x192, .f32⟩
  | _, _ => ⟨S8x192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== Kernel13.lean ====
abbrev S8x704x1024 : Shape := ⟨3, ![8, 704, 1024]⟩
abbrev S2x1024x704 : Shape := ⟨3, ![2, 1024, 704]⟩
abbrev S2x704x1024 : Shape := ⟨3, ![2, 704, 1024]⟩
abbrev S8x176x1024 : Shape := ⟨3, ![8, 176, 1024]⟩
abbrev S1x176x1024 : Shape := ⟨3, ![1, 176, 1024]⟩
abbrev S176x1024 : Shape := ⟨2, ![176, 1024]⟩

abbrev nBuf : Space → Nat
  | .hbm => 16
  | .vmem => 18
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S2x704x1024, .f32⟩
  | .hbm, ⟨6, _⟩ => ⟨S2x704x1024, .f32⟩
  | .hbm, ⟨7, _⟩ => ⟨S2x704x1024, .f32⟩
  | .hbm, ⟨8, _⟩ => ⟨S2x704x1024, .f32⟩
  | .hbm, ⟨9, _⟩ => ⟨S2x704x1024, .f32⟩
  | .hbm, ⟨10, _⟩ => ⟨S2x704x1024, .f32⟩
  | .hbm, ⟨11, _⟩ => ⟨S2x704x1024, .f32⟩
  | .hbm, ⟨12, _⟩ => ⟨S2x1024x704, .f32⟩
  | .hbm, ⟨13, _⟩ => ⟨S2x1024x704, .f32⟩
  | .hbm, ⟨14, _⟩ => ⟨S2x1024x704, .f32⟩
  | .hbm, ⟨15, _⟩ => ⟨S2x1024x704, .f32⟩
  | .local _ .vmem, ⟨0, _⟩ => ⟨S8x176x1024, .bf16⟩
  | .local _ .vmem, ⟨1, _⟩ => ⟨S8x176x1024, .bf16⟩
  | .local _ .vmem, ⟨2, _⟩ => ⟨S8x176x1024, .bf16⟩
  | .local _ .vmem, ⟨3, _⟩ => ⟨S8x176x1024, .bf16⟩
  | .local _ .vmem, ⟨4, _⟩ => ⟨S1x176x1024, .f32⟩
  | .local _ .vmem, ⟨5, _⟩ => ⟨S1x176x1024, .f32⟩
  | .local _ .vmem, ⟨6, _⟩ => ⟨S1x176x1024, .f32⟩
  | .local _ .vmem, ⟨7, _⟩ => ⟨S1x176x1024, .f32⟩
  | .local _ .vmem, ⟨8, _⟩ => ⟨S1x176x1024, .f32⟩
  | .local _ .vmem, ⟨9, _⟩ => ⟨S1x176x1024, .f32⟩
  | .local _ .vmem, ⟨10, _⟩ => ⟨S1x176x1024, .f32⟩
  | .local _ .vmem, ⟨11, _⟩ => ⟨S1x176x1024, .f32⟩
  | .local _ .vmem, ⟨12, _⟩ => ⟨S1x176x1024, .f32⟩
  | .local _ .vmem, ⟨13, _⟩ => ⟨S1x176x1024, .f32⟩
  | .local _ .vmem, ⟨14, _⟩ => ⟨S1x176x1024, .f32⟩
  | .local _ .vmem, ⟨15, _⟩ => ⟨S1x176x1024, .f32⟩
  | .local _ .vmem, ⟨16, _⟩ => ⟨S1x176x1024, .f32⟩
  | .local _ .vmem, ⟨17, _⟩ => ⟨S1x176x1024, .f32⟩
  | _, _ => ⟨S8x704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  let c0_i32_3 : BitVec 32 := 0#32
  ![c0_i32_1.toNat, v1.toNat, c0_i32_2.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  let c0_i32_2 : BitVec 32 := 0#32
  ![c0_i32_0.toNat, v1.toNat, c0_i32_1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x176x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x176x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference13Ideal.lean ====
abbrev S8x704x1024 : Shape := ⟨3, ![8, 704, 1024]⟩
abbrev S2x1024x704 : Shape := ⟨3, ![2, 1024, 704]⟩
abbrev S_ : Shape := ⟨0, ![]⟩
abbrev S704x1024 : Shape := ⟨2, ![704, 1024]⟩
abbrev S1x704x1024 : Shape := ⟨3, ![1, 704, 1024]⟩
abbrev S2x704x1024 : Shape := ⟨3, ![2, 704, 1024]⟩

abbrev nBuf : Space → Nat
  | .hbm => 48
  | .vmem => 0
  | .smem => 0
  | _ => 0

abbrev bufTy : (tb : Table) → Fin (tcTables nBuf tb) → BufTy
  | .hbm, ⟨0, _⟩ => ⟨S8x704x1024, .bf16⟩
  | .hbm, ⟨1, _⟩ => ⟨S8x704x1024, .bf16⟩
  | .hbm, ⟨2, _⟩ => ⟨S2x1024x704, .f32⟩
  | .hbm, ⟨3, _⟩ => ⟨S2x1024x704, .f32⟩
  | .hbm, ⟨4, _⟩ => ⟨S2x1024x704, .f32⟩
  | .hbm, ⟨5, _⟩ => ⟨S8x704x1024, .f32⟩
  | .hbm, ⟨6, _⟩ => ⟨S_, .f32⟩
  | .hbm, ⟨7, _⟩ => ⟨S704x1024, .f32⟩
  | .hbm, ⟨8, _⟩ => ⟨S8x704x1024, .f32⟩
  | .hbm, ⟨9, _⟩ => ⟨S_, .f32⟩
  | .hbm, ⟨10, _⟩ => ⟨S704x1024, .f32⟩
  | .hbm, ⟨11, _⟩ => ⟨S1x704x1024, .f32⟩
  | .hbm, ⟨12, _⟩ => ⟨S1x704x1024, .f32⟩
  | .hbm, ⟨13, _⟩ => ⟨S2x704x1024, .f32⟩
  | .hbm, ⟨14, _⟩ => ⟨S2x1024x704, .f32⟩
  | .hbm, ⟨15, _⟩ => ⟨S_, .f32⟩
  | .hbm, ⟨16, _⟩ => ⟨S2x1024x704, .f32⟩
  | .hbm, ⟨17, _⟩ => ⟨S2x1024x704, .f32⟩
  | .hbm, ⟨18, _⟩ => ⟨S_, .f32⟩
  | .hbm, ⟨19, _⟩ => ⟨S2x1024x704, .f32⟩
  | .hbm, ⟨20, _⟩ => ⟨S2x1024x704, .f32⟩
  | .hbm, ⟨21, _⟩ => ⟨S2x1024x704, .f32⟩
  | .hbm, ⟨22, _⟩ => ⟨S_, .f32⟩
  | .hbm, ⟨23, _⟩ => ⟨S2x1024x704, .f32⟩
  | .hbm, ⟨24, _⟩ => ⟨S2x1024x704, .f32⟩
  | .hbm, ⟨25, _⟩ => ⟨S2x1024x704, .f32⟩
  | .hbm, ⟨26, _⟩ => ⟨S_, .f32⟩
  | .hbm, ⟨27, _⟩ => ⟨S2x1024x704, .f32⟩
  | .hbm, ⟨28, _⟩ => ⟨S2x1024x704, .f32⟩
  | .hbm, ⟨29, _⟩ => ⟨S2x1024x704, .f32⟩
  | .hbm, ⟨30, _⟩ => ⟨S_, .f32⟩
  | .hbm, ⟨31, _⟩ => ⟨S2x1024x704, .f32⟩
  | .hbm, ⟨32, _⟩ => ⟨S2x1024x704, .f32⟩
  | .hbm, ⟨33, _⟩ => ⟨S_, .f32⟩
  | .hbm, ⟨34, _⟩ => ⟨S2x1024x704, .f32⟩
  | .hbm, ⟨35, _⟩ => ⟨S2x1024x704, .f32⟩
  | .hbm, ⟨36, _⟩ => ⟨S2x1024x704, .f32⟩
  | .hbm, ⟨37, _⟩ => ⟨S_, .f32⟩
  | .hbm, ⟨38, _⟩ => ⟨S2x1024x704, .f32⟩
  | .hbm, ⟨39, _⟩ => ⟨S2x1024x704, .f32⟩
  | .hbm, ⟨40, _⟩ => ⟨S2x1024x704, .f32⟩
  | .hbm, ⟨41, _⟩ => ⟨S_, .f32⟩
  | .hbm, ⟨42, _⟩ => ⟨S2x1024x704, .f32⟩
  | .hbm, ⟨43, _⟩ => ⟨S2x1024x704, .f32⟩
  | .hbm, ⟨44, _⟩ => ⟨S2x1024x704, .f32⟩
  | .hbm, ⟨45, _⟩ => ⟨S_, .f32⟩
  | .hbm, ⟨46, _⟩ => ⟨S2x1024x704, .f32⟩
  | .hbm, ⟨47, _⟩ => ⟨S2x1024x704, .f32⟩
  | _, _ => ⟨S8x704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_4 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_5 : Ref sig .tc := ⟨.hbm, 30, rfl⟩
abbrev main_v19 : Ref sig .tc := ⟨.hbm, 31, rfl⟩
abbrev main_v20 : Ref sig .tc := ⟨.hbm, 32, rfl⟩
abbrev main_cst_6 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]
-- ==== Proof.Blocks.lean ====
/-
  A sum over an axis cut into three equal blocks is the sum of the three blocks' sums, in the order in which an
  accumulator adds them.
-/
module

public import Mathlib.Algebra.BigOperators.Fin
public import Mathlib.Tactic.Ring
public import Mathlib.Tactic.IntervalCases

@[expose] public section

open scoped BigOperators

namespace Cert.Blocks

/-- An axis of `3 * n` entries, summed block by block. -/
theorem sum_three {M : Type*} [AddCommMonoid M] {N : ℕ} (n : ℕ) (hN : N = 3 * n) (f : Fin N → M)
    (g : ℕ → Fin n → M) (hg : ∀ (b : ℕ) (hb : b < 3) (k : Fin n), g b k = f ⟨b * n + k.val, by have := k.isLt; interval_cases b <;> omega⟩) :
    (∑ k, g 0 k + ∑ k, g 1 k) + ∑ k, g 2 k = ∑ k, f k := by
  subst hN
  rw [← (finProdFinEquiv (m := 3) (n := n)).sum_comp, Fintype.sum_prod_type, Fin.sum_univ_three]
  congr 1
  · congr 1
    · refine Finset.sum_congr rfl fun k _ => (hg 0 (by omega) k).trans (congrArg f (Fin.ext ?_))
      simp [finProdFinEquiv]
    · refine Finset.sum_congr rfl fun k _ => (hg 1 (by omega) k).trans (congrArg f (Fin.ext ?_))
      simp [finProdFinEquiv]; ring
  · refine Finset.sum_congr rfl fun k _ => (hg 2 (by omega) k).trans (congrArg f (Fin.ext ?_))
    simp [finProdFinEquiv]; ring

end Cert.Blocks
-- ==== Proof.GradDown.lean ====
/-
  The gradient of the down projection's weight: what the kernel's result array ends holding, element by element, and that it is the
  reference's gradient.  The rows are contracted in three blocks: the first point of a run of three stores its block
  product in the accumulator, the second adds its own, the third adds its own and writes the sum out.
-/
module

public import proofs.«01_k».proof.Proof.Gen.KernelIdeal.Value
public import proofs.«01_k».proof.Proof.Gen.ReferenceIdeal.Run
public import Idealize.ShloMosaic.Lib.Pipeline.ValueKit
public import Idealize.ShloMosaic.Lib.Pipeline.ReadBack
public import Idealize.ShloMosaic.Lib.Pointwise
public import proofs.«01_k».proof.Proof.Blocks
public import proofs.«01_k».proof.Defs

@[expose] public section

set_option maxRecDepth 16384

noncomputable section

namespace Cert.KernelIdeal.GradDown

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ)

/-- One product of the contraction over a block's rows. -/
def prodAt (x : Vec Ideal S2736x1408 .bf16) (y : Vec Ideal S2736x512 .f32) (p : Fin 1408) (q : Fin 512) (k : Fin 2736) : EReal :=
  x (ix2 k p) * y (ix2 k q)

/-- The block product at an element. -/
theorem pay1_apply (x : Vec Ideal S2736x1408 .bf16) (y : Vec Ideal S2736x512 .f32) (j : S1408x512.Idx) :
    k0_pay1 x y j = ∑ k : Fin 2736, prodAt x y (j 0) (j 1) k := by
  unfold k0_pay1 prodAt
  pointwise

/-- The first point of a run stores the block product. -/
theorem pay2_apply (x : Vec Ideal S2736x1408 .bf16) (y : Vec Ideal S2736x512 .f32) (j : S1408x512.Idx) :
    k0_pay2 x y j = k0_pay1 x y j := by
  unfold k0_pay2
  pointwise

/-- The second point of a run adds its block product. -/
theorem pay3_apply (x : Vec Ideal S2736x1408 .bf16) (y : Vec Ideal S2736x512 .f32) (a : Vec Ideal S1408x512 .f32) (j : S1408x512.Idx) :
    k0_pay3 x y a j = a j + k0_pay1 x y j := by
  unfold k0_pay3
  pointwise

/-- The last point of a run writes the accumulator and its block product out. -/
theorem pay4_apply (x : Vec Ideal S2736x1408 .bf16) (y : Vec Ideal S2736x512 .f32) (a : Vec Ideal S1408x512 .f32) (j : S1408x512.Idx) :
    k0_pay4 x y a j = a j + k0_pay1 x y j := by
  unfold k0_pay4
  pointwise

theorem idx0 : ∀ t : Fin grid0.N, win0_0.index t = ![t.val % 3, t.val / 3 / 2] := by decide +kernel
theorem idx1 : ∀ t : Fin grid0.N, win0_1.index t = ![t.val % 3, t.val / 3 % 2] := by decide +kernel
theorem idx2 : ∀ t : Fin grid0.N, win0_2.index t = ![t.val / 3 / 2, t.val / 3 % 2] := by decide +kernel

/-- The left array. -/
def A (c : Dev nD) : Vec Ideal S8208x2816 .bf16 := m ((c : Thread nD τ).loc main_arg0)
/-- The right array. -/
def B (c : Dev nD) : Vec Ideal S8208x1024 .f32 := m ((c : Thread nD τ).loc main_arg1)

/-- The first array's block at point `t`, element by element. -/
theorem blk0 (c : Dev nD) (t : Fin cfg0.N) (k : Fin 2736) (p : Fin 1408) (i : S8208x2816.Idx)
    (h0 : (i 0).val = t.val % 3 * 2736 + k.val) (h1 : (i 1).val = t.val / 3 / 2 * 1408 + p.val) :
    (iblk m c 0 t : Vec Ideal S2736x1408 .bf16) (ix2 k p) = A m c i := by
  blk_simp [iblk]
  show A m c _ = A m c i
  congr 1
  funext a; apply Fin.ext
  match a with
  | ⟨0, _⟩ => show win0_0.index t (0 : Fin 2) * 2736 + 1 * k.val = (i 0).val; rw [idx0, h0]; simp
  | ⟨1, _⟩ => show win0_0.index t (1 : Fin 2) * 1408 + 1 * p.val = (i 1).val; rw [idx0, h1]; simp

/-- The second array's block at point `t`, element by element. -/
theorem blk1 (c : Dev nD) (t : Fin cfg0.N) (k : Fin 2736) (q : Fin 512) (i : S8208x1024.Idx)
    (h0 : (i 0).val = t.val % 3 * 2736 + k.val) (h1 : (i 1).val = t.val / 3 % 2 * 512 + q.val) :
    (iblk m c 1 t : Vec Ideal S2736x512 .f32) (ix2 k q) = B m c i := by
  blk_simp [iblk]
  show B m c _ = B m c i
  congr 1
  funext a; apply Fin.ext
  match a with
  | ⟨0, _⟩ => show win0_1.index t (0 : Fin 2) * 2736 + 1 * k.val = (i 0).val; rw [idx1, h0]; simp
  | ⟨1, _⟩ => show win0_1.index t (1 : Fin 2) * 512 + 1 * q.val = (i 1).val; rw [idx1, h1]; simp

/-- The gradient, as a function of the two arrays. -/
def G (a : Vec Ideal S8208x2816 .bf16) (b : Vec Ideal S8208x1024 .f32) : Vec Ideal S2816x1024 .bf16 := fun i =>
  ((∑ k : Fin 8208, a (ix2 k (i 0)) * b (ix2 k (i 1)) : EReal))

/-- The kernel's result array after the run. -/
theorem arr (c : Dev nD) : (dats m 0 c).arrAt 2 cfg0.N = G (A m c) (B m c) := by
  refine (dats m 0 c).arrAt_eq_of_covers 2 _ (by decide +kernel) fun t hf y => ?_
  blk_simp [idx2]
  rw [after0_2]
  have hm : t.val % 3 = 2 := (flush0_2 t).mp hf
  rw [outsAt0_C m c t (by omega) (by omega) hm]
  frame_out
  simp only [read_unread_whole]
  have hN : t.val < 12 := t.isLt
  rw [outsAt0_B m c ⟨t.val - 1, (Nat.sub_le _ _).trans_lt t.isLt⟩ (by dsimp only; omega) (by dsimp only; omega) (by dsimp only; omega)]
  frame_out
  simp only [read_unread_whole]
  rw [pay4_apply, pay3_apply]
  rw [outsAt0_A m c ⟨t.val - 1 - 1, ((Nat.sub_le _ _).trans (Nat.sub_le _ _)).trans_lt t.isLt⟩ (by dsimp only; omega) (by dsimp only; omega) (by dsimp only; omega)]
  frame_out
  rw [pay2_apply, pay1_apply, pay1_apply, pay1_apply]
  have e0 : (((View.whole main_v0).slice (win0_2.rect t)).emb y 0).val = win0_2.index t (0 : Fin 2) * 1408 + 1 * (y 0).val := rfl
  have e1 : (((View.whole main_v0).slice (win0_2.rect t)).emb y 1).val = win0_2.index t (1 : Fin 2) * 512 + 1 * (y 1).val := rfl
  rw [idx2] at e0 e1
  replace e0 : (((View.whole main_v0).slice (win0_2.rect t)).emb y 0).val = t.val / 3 / 2 * 1408 + (y 0).val := by simpa using e0
  replace e1 : (((View.whole main_v0).slice (win0_2.rect t)).emb y 1).val = t.val / 3 % 2 * 512 + (y 1).val := by simpa using e1
  refine Cert.Blocks.sum_three (N := 8208) 2736 (by norm_num) _
    (fun b k => prodAt (iblk m c 0 ⟨t.val - (2 - b), (Nat.sub_le _ _).trans_lt t.isLt⟩)
      (iblk m c 1 ⟨t.val - (2 - b), (Nat.sub_le _ _).trans_lt t.isLt⟩) (y 0) (y 1) k) fun b hb k => ?_
  have hk := k.isLt
  exact congrArg₂ (· * ·)
    (blk0 m c _ k (y 0) _ (by show b * 2736 + k.val = _; dsimp only; omega) (e0.trans (by dsimp only <;> omega)))
    (blk1 m c _ k (y 1) _ (by show b * 2736 + k.val = _; dsimp only; omega) (e1.trans (by dsimp only <;> omega)))

/-- The kernel's gradient is the reference's. -/
theorem algebraic : Cert.algebraic_KernelIdeal_ReferenceIdeal := by
  intro m ρ m' ρ' _ hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  rw [(h c).1, arr]
  unfold G A B
  funext i
  pointwise
  rw [(hagree c).1, (hagree c).2]
  exact Finset.sum_congr rfl fun k _ => mul_comm _ _

end Cert.KernelIdeal.GradDown

end
-- ==== Proof.GradUp.lean ====
/-
  The gradient of the up projection's weight: what the kernel's result array ends holding, element by element, and
  that it is the reference's gradient.  The left array holds the two halves of the columns as two planes; block `p` of
  the result's rows lies in plane `p / 2`.  The rows are contracted in three blocks: the first point of a run of three
  stores its block product in the accumulator, the second adds its own, the third adds its own and writes the sum out.
-/
module

public import proofs.«01_k».proof.Proof.Gen.Kernel2Ideal.Value
public import proofs.«01_k».proof.Proof.Gen.Reference2Ideal.Run
public import Idealize.ShloMosaic.Lib.Pipeline.ValueKit
public import Idealize.ShloMosaic.Lib.Pipeline.ReadBack
public import Idealize.ShloMosaic.Lib.Pointwise
public import proofs.«01_k».proof.Proof.Blocks
public import proofs.«01_k».proof.Defs

@[expose] public section

set_option maxRecDepth 16384

noncomputable section

namespace Cert.Kernel2Ideal.GradUp

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- One product of the contraction over a block's rows. -/
def prodAt (x : Vec Ideal S1x2736x1408 .bf16) (y : Vec Ideal S2736x1024 .bf16) (p : Fin 1408) (q : Fin 1024) (k : Fin 2736) : EReal :=
  x (ix3 0 k p) * y (ix2 k q)

/-- The block product at an element. -/
theorem pay1_apply (x : Vec Ideal S1x2736x1408 .bf16) (y : Vec Ideal S2736x1024 .bf16) (j : S1408x1024.Idx) :
    k0_pay1 x y j = ∑ k : Fin 2736, prodAt x y (j 0) (j 1) k := by
  unfold k0_pay1 prodAt
  pointwise

/-- The first point of a run stores the block product. -/
theorem pay2_apply (x : Vec Ideal S1x2736x1408 .bf16) (y : Vec Ideal S2736x1024 .bf16) (j : S1408x1024.Idx) :
    k0_pay2 x y j = k0_pay1 x y j := by
  unfold k0_pay2
  pointwise

/-- The second point of a run adds its block product. -/
theorem pay3_apply (x : Vec Ideal S1x2736x1408 .bf16) (y : Vec Ideal S2736x1024 .bf16) (a : Vec Ideal S1408x1024 .f32) (j : S1408x1024.Idx) :
    k0_pay3 x y a j = a j + k0_pay1 x y j := by
  unfold k0_pay3
  pointwise

/-- The last point of a run writes the accumulator and its block product out. -/
theorem pay4_apply (x : Vec Ideal S1x2736x1408 .bf16) (y : Vec Ideal S2736x1024 .bf16) (a : Vec Ideal S1408x1024 .f32) (j : S1408x1024.Idx) :
    k0_pay4 x y a j = a j + k0_pay1 x y j := by
  unfold k0_pay4
  pointwise

theorem idx0 : ∀ t : Fin grid0.N, win0_0.index t = ![t.val / 3 / 2, t.val % 3, t.val / 3 % 2] := by decide +kernel
theorem idx1 : ∀ t : Fin grid0.N, win0_1.index t = ![t.val % 3, 0] := by decide +kernel
theorem idx2 : ∀ t : Fin grid0.N, win0_2.index t = ![t.val / 3, 0] := by decide +kernel

/-- The left array: two planes of columns. -/
def A (c : Dev nD) : Vec Ideal S2x8208x2816 .bf16 := m ((c : Thread nD τ).loc main_arg0)
/-- The right array. -/
def B (c : Dev nD) : Vec Ideal S8208x1024 .bf16 := m ((c : Thread nD τ).loc main_arg1)

/-- The first array's block at point `t`, element by element. -/
theorem blk0 (c : Dev nD) (t : Fin cfg0.N) (k : Fin 2736) (p : Fin 1408) (i : S2x8208x2816.Idx)
    (h0 : (i 0).val = t.val / 3 / 2) (h1 : (i 1).val = t.val % 3 * 2736 + k.val) (h2 : (i 2).val = t.val / 3 % 2 * 1408 + p.val) :
    (iblk m c 0 t : Vec Ideal S1x2736x1408 .bf16) (ix3 0 k p) = A m c i := by
  blk_simp [iblk]
  show A m c _ = A m c i
  congr 1
  funext a; apply Fin.ext
  match a with
  | ⟨0, _⟩ => show win0_0.index t (0 : Fin 3) * 1 + 1 * 0 = (i 0).val; rw [idx0, h0]; simp
  | ⟨1, _⟩ => show win0_0.index t (1 : Fin 3) * 2736 + 1 * k.val = (i 1).val; rw [idx0, h1]; simp
  | ⟨2, _⟩ => show win0_0.index t (2 : Fin 3) * 1408 + 1 * p.val = (i 2).val; rw [idx0, h2]; simp

/-- The second array's block at point `t`, element by element. -/
theorem blk1 (c : Dev nD) (t : Fin cfg0.N) (k : Fin 2736) (q : Fin 1024) (i : S8208x1024.Idx)
    (h0 : (i 0).val = t.val % 3 * 2736 + k.val) (h1 : (i 1).val = q.val) :
    (iblk m c 1 t : Vec Ideal S2736x1024 .bf16) (ix2 k q) = B m c i := by
  blk_simp [iblk]
  show B m c _ = B m c i
  congr 1
  funext a; apply Fin.ext
  match a with
  | ⟨0, _⟩ => show win0_1.index t (0 : Fin 2) * 2736 + 1 * k.val = (i 0).val; rw [idx1, h0]; simp
  | ⟨1, _⟩ => show win0_1.index t (1 : Fin 2) * 1024 + 1 * q.val = (i 1).val; rw [idx1, h1]; simp

/-- The gradient, as a function of the two arrays. -/
def G (a : Vec Ideal S2x8208x2816 .bf16) (b : Vec Ideal S8208x1024 .bf16) : Vec Ideal S5632x1024 .bf16 := fun i =>
  ((∑ k : Fin 8208, a (ix3 ⟨(i 0).val / 2816, by have : (i 0).val < 5632 := (i 0).isLt; omega⟩ k ⟨(i 0).val % 2816, by omega⟩) * b (ix2 k (i 1)) : EReal))

/-- The kernel's result array after the run. -/
theorem arr (c : Dev nD) : (dats m 0 c).arrAt 2 cfg0.N = G (A m c) (B m c) := by
  refine (dats m 0 c).arrAt_eq_of_covers 2 _ (by decide +kernel) fun t hf y => ?_
  blk_simp [idx2]
  rw [after0_2]
  have hm : t.val % 3 = 2 := (flush0_2 t).mp hf
  rw [outsAt0_C m c t (by omega) (by omega) hm]
  frame_out
  simp only [read_unread_whole]
  have hN : t.val < 12 := t.isLt
  rw [outsAt0_B m c ⟨t.val - 1, (Nat.sub_le _ _).trans_lt t.isLt⟩ (by dsimp only; omega) (by dsimp only; omega) (by dsimp only; omega)]
  frame_out
  simp only [read_unread_whole]
  rw [pay4_apply, pay3_apply]
  rw [outsAt0_A m c ⟨t.val - 1 - 1, ((Nat.sub_le _ _).trans (Nat.sub_le _ _)).trans_lt t.isLt⟩ (by dsimp only; omega) (by dsimp only; omega) (by dsimp only; omega)]
  frame_out
  rw [pay2_apply, pay1_apply, pay1_apply, pay1_apply]
  have hy0 : (y 0).val < 1408 := (y 0).isLt
  have e0 : (((View.whole main_v0).slice (win0_2.rect t)).emb y 0).val = win0_2.index t (0 : Fin 2) * 1408 + 1 * (y 0).val := rfl
  have e1 : (((View.whole main_v0).slice (win0_2.rect t)).emb y 1).val = win0_2.index t (1 : Fin 2) * 1024 + 1 * (y 1).val := rfl
  rw [idx2] at e0 e1
  replace e0 : (((View.whole main_v0).slice (win0_2.rect t)).emb y 0).val = t.val / 3 * 1408 + (y 0).val := by simpa using e0
  replace e1 : (((View.whole main_v0).slice (win0_2.rect t)).emb y 1).val = (y 1).val := by simpa using e1
  refine Cert.Blocks.sum_three (N := 8208) 2736 (by norm_num) _
    (fun b k => prodAt (iblk m c 0 ⟨t.val - (2 - b), (Nat.sub_le _ _).trans_lt t.isLt⟩)
      (iblk m c 1 ⟨t.val - (2 - b), (Nat.sub_le _ _).trans_lt t.isLt⟩) (y 0) (y 1) k) fun b hb k => ?_
  have hk := k.isLt
  exact congrArg₂ (· * ·)
    (blk0 m c _ k (y 0) _ (by show (((View.whole main_v0).slice (win0_2.rect t)).emb y 0).val / 2816 = _; rw [e0]; dsimp only; omega)
      (by show b * 2736 + k.val = _; dsimp only; omega)
      (by show (((View.whole main_v0).slice (win0_2.rect t)).emb y 0).val % 2816 = _; rw [e0]; dsimp only; omega))
    (blk1 m c _ k (y 1) _ (by show b * 2736 + k.val = _; dsimp only; omega) e1)

/-- The kernel's gradient is the reference's. -/
theorem algebraic : Cert.algebraic_Kernel2Ideal_Reference2Ideal := by
  intro m ρ m' ρ' _ hagree
  refine ⟨_, Cert.Kernel2Ideal.Value.run_blocks (F := Ideal) m ρ, ?_⟩
  refine (θ_run Cert.Reference2Ideal.defs _ _).mono (fun _ h c => ⟨?_, (h c).2⟩) (Cert.Reference2Ideal.Value.run (F := Ideal) m' ρ')
  rw [(h c).1, arr]
  unfold G A B
  funext i
  pointwise
  rw [(hagree c).1, (hagree c).2]
  have hi : (i 0).val < 5632 := (i 0).isLt
  refine Finset.sum_congr rfl fun k _ => congrArg (· * _) ?_
  split
  next h => exact congrArg _ (congrArg₂ (fun a b => ix3 a k b) (Fin.ext (Nat.div_eq_of_lt h).symm) (Fin.ext (Nat.mod_eq_of_lt h).symm))
  next h =>
    exact congrArg _ (congrArg₂ (fun a b => ix3 a k b) (Fin.ext (show 1 = (i 0).val / 2816 by omega))
      (Fin.ext (show (i 0).val - 2816 = (i 0).val % 2816 by omega)))

end Cert.Kernel2Ideal.GradUp

end
-- ==== Proof.GradOut.lean ====
/-
  The gradient of the output projection's weight: what the kernel's result array ends holding, element by element, and that it is the
  reference's gradient.  The rows are contracted in three blocks: the first point of a run of three stores its block
  product in the accumulator, the second adds its own, the third adds its own and writes the sum out.
-/
module

public import proofs.«01_k».proof.Proof.Gen.Kernel3Ideal.Value
public import proofs.«01_k».proof.Proof.Gen.Reference3Ideal.Run
public import Idealize.ShloMosaic.Lib.Pipeline.ValueKit
public import Idealize.ShloMosaic.Lib.Pipeline.ReadBack
public import Idealize.ShloMosaic.Lib.Pointwise
public import proofs.«01_k».proof.Proof.Blocks
public import proofs.«01_k».proof.Defs

@[expose] public section

set_option maxRecDepth 16384

noncomputable section

namespace Cert.Kernel3Ideal.GradOut

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- One product of the contraction over a block's rows. -/
def prodAt (x : Vec Ideal S2736x1024 .bf16) (y : Vec Ideal S2736x512 .f32) (p : Fin 1024) (q : Fin 512) (k : Fin 2736) : EReal :=
  x (ix2 k p) * y (ix2 k q)

/-- The block product at an element. -/
theorem pay1_apply (x : Vec Ideal S2736x1024 .bf16) (y : Vec Ideal S2736x512 .f32) (j : S1024x512.Idx) :
    k0_pay1 x y j = ∑ k : Fin 2736, prodAt x y (j 0) (j 1) k := by
  unfold k0_pay1 prodAt
  pointwise

/-- The first point of a run stores the block product. -/
theorem pay2_apply (x : Vec Ideal S2736x1024 .bf16) (y : Vec Ideal S2736x512 .f32) (j : S1024x512.Idx) :
    k0_pay2 x y j = k0_pay1 x y j := by
  unfold k0_pay2
  pointwise

/-- The second point of a run adds its block product. -/
theorem pay3_apply (x : Vec Ideal S2736x1024 .bf16) (y : Vec Ideal S2736x512 .f32) (a : Vec Ideal S1024x512 .f32) (j : S1024x512.Idx) :
    k0_pay3 x y a j = a j + k0_pay1 x y j := by
  unfold k0_pay3
  pointwise

/-- The last point of a run writes the accumulator and its block product out. -/
theorem pay4_apply (x : Vec Ideal S2736x1024 .bf16) (y : Vec Ideal S2736x512 .f32) (a : Vec Ideal S1024x512 .f32) (j : S1024x512.Idx) :
    k0_pay4 x y a j = a j + k0_pay1 x y j := by
  unfold k0_pay4
  pointwise

theorem idx0 : ∀ t : Fin grid0.N, win0_0.index t = ![t.val % 3, 0] := by decide +kernel
theorem idx1 : ∀ t : Fin grid0.N, win0_1.index t = ![t.val % 3, t.val / 3 % 2] := by decide +kernel
theorem idx2 : ∀ t : Fin grid0.N, win0_2.index t = ![0, t.val / 3 % 2] := by decide +kernel

/-- The left array. -/
def A (c : Dev nD) : Vec Ideal S8208x1024 .bf16 := m ((c : Thread nD τ).loc main_arg0)
/-- The right array. -/
def B (c : Dev nD) : Vec Ideal S8208x1024 .f32 := m ((c : Thread nD τ).loc main_arg1)

/-- The first array's block at point `t`, element by element. -/
theorem blk0 (c : Dev nD) (t : Fin cfg0.N) (k : Fin 2736) (p : Fin 1024) (i : S8208x1024.Idx)
    (h0 : (i 0).val = t.val % 3 * 2736 + k.val) (h1 : (i 1).val = 0 * 1024 + p.val) :
    (iblk m c 0 t : Vec Ideal S2736x1024 .bf16) (ix2 k p) = A m c i := by
  blk_simp [iblk]
  show A m c _ = A m c i
  congr 1
  funext a; apply Fin.ext
  match a with
  | ⟨0, _⟩ => show win0_0.index t (0 : Fin 2) * 2736 + 1 * k.val = (i 0).val; rw [idx0, h0]; simp
  | ⟨1, _⟩ => show win0_0.index t (1 : Fin 2) * 1024 + 1 * p.val = (i 1).val; rw [idx0, h1]; simp

/-- The second array's block at point `t`, element by element. -/
theorem blk1 (c : Dev nD) (t : Fin cfg0.N) (k : Fin 2736) (q : Fin 512) (i : S8208x1024.Idx)
    (h0 : (i 0).val = t.val % 3 * 2736 + k.val) (h1 : (i 1).val = t.val / 3 % 2 * 512 + q.val) :
    (iblk m c 1 t : Vec Ideal S2736x512 .f32) (ix2 k q) = B m c i := by
  blk_simp [iblk]
  show B m c _ = B m c i
  congr 1
  funext a; apply Fin.ext
  match a with
  | ⟨0, _⟩ => show win0_1.index t (0 : Fin 2) * 2736 + 1 * k.val = (i 0).val; rw [idx1, h0]; simp
  | ⟨1, _⟩ => show win0_1.index t (1 : Fin 2) * 512 + 1 * q.val = (i 1).val; rw [idx1, h1]; simp

/-- The gradient, as a function of the two arrays. -/
def G (a : Vec Ideal S8208x1024 .bf16) (b : Vec Ideal S8208x1024 .f32) : Vec Ideal S1024x1024 .bf16 := fun i =>
  ((∑ k : Fin 8208, a (ix2 k (i 0)) * b (ix2 k (i 1)) : EReal))

/-- The kernel's result array after the run. -/
theorem arr (c : Dev nD) : (dats m 0 c).arrAt 2 cfg0.N = G (A m c) (B m c) := by
  refine (dats m 0 c).arrAt_eq_of_covers 2 _ (by decide +kernel) fun t hf y => ?_
  blk_simp [idx2]
  rw [after0_2]
  have hm : t.val % 3 = 2 := (flush0_2 t).mp hf
  rw [outsAt0_C m c t (by omega) (by omega) hm]
  frame_out
  simp only [read_unread_whole]
  have hN : t.val < 6 := t.isLt
  rw [outsAt0_B m c ⟨t.val - 1, (Nat.sub_le _ _).trans_lt t.isLt⟩ (by dsimp only; omega) (by dsimp only; omega) (by dsimp only; omega)]
  frame_out
  simp only [read_unread_whole]
  rw [pay4_apply, pay3_apply]
  rw [outsAt0_A m c ⟨t.val - 1 - 1, ((Nat.sub_le _ _).trans (Nat.sub_le _ _)).trans_lt t.isLt⟩ (by dsimp only; omega) (by dsimp only; omega) (by dsimp only; omega)]
  frame_out
  rw [pay2_apply, pay1_apply, pay1_apply, pay1_apply]
  have e0 : (((View.whole main_v0).slice (win0_2.rect t)).emb y 0).val = win0_2.index t (0 : Fin 2) * 1024 + 1 * (y 0).val := rfl
  have e1 : (((View.whole main_v0).slice (win0_2.rect t)).emb y 1).val = win0_2.index t (1 : Fin 2) * 512 + 1 * (y 1).val := rfl
  rw [idx2] at e0 e1
  replace e0 : (((View.whole main_v0).slice (win0_2.rect t)).emb y 0).val = 0 * 1024 + (y 0).val := by simpa using e0
  replace e1 : (((View.whole main_v0).slice (win0_2.rect t)).emb y 1).val = t.val / 3 % 2 * 512 + (y 1).val := by simpa using e1
  refine Cert.Blocks.sum_three (N := 8208) 2736 (by norm_num) _
    (fun b k => prodAt (iblk m c 0 ⟨t.val - (2 - b), (Nat.sub_le _ _).trans_lt t.isLt⟩)
      (iblk m c 1 ⟨t.val - (2 - b), (Nat.sub_le _ _).trans_lt t.isLt⟩) (y 0) (y 1) k) fun b hb k => ?_
  have hk := k.isLt
  exact congrArg₂ (· * ·)
    (blk0 m c _ k (y 0) _ (by show b * 2736 + k.val = _; dsimp only; omega) (e0.trans (by dsimp only <;> omega)))
    (blk1 m c _ k (y 1) _ (by show b * 2736 + k.val = _; dsimp only; omega) (e1.trans (by dsimp only <;> omega)))

/-- The kernel's gradient is the reference's. -/
theorem algebraic : Cert.algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ⟨?_, (h c).2⟩) (Cert.Reference3Ideal.Value.run (F := Ideal) m' ρ')
  rw [(h c).1, arr]
  unfold G A B
  funext i
  pointwise
  rw [(hagree c).1, (hagree c).2]
  exact Finset.sum_congr rfl fun k _ => mul_comm _ _

end Cert.Kernel3Ideal.GradOut

end
-- ==== Proof.GradIn.lean ====
/-
  The gradient of the input projection's weight: what the kernel's result array ends holding, element by element, and that it is the
  reference's gradient.  The rows are contracted in three blocks: the first point of a run of three stores its block
  product in the accumulator, the second adds its own, the third adds its own and writes the sum out.
-/
module

public import proofs.«01_k».proof.Proof.Gen.Kernel4Ideal.Value
public import proofs.«01_k».proof.Proof.Gen.Reference4Ideal.Run
public import Idealize.ShloMosaic.Lib.Pipeline.ValueKit
public import Idealize.ShloMosaic.Lib.Pipeline.ReadBack
public import Idealize.ShloMosaic.Lib.Pointwise
public import proofs.«01_k».proof.Proof.Blocks
public import proofs.«01_k».proof.Defs

@[expose] public section

set_option maxRecDepth 16384

noncomputable section

namespace Cert.Kernel4Ideal.GradIn

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- One product of the contraction over a block's rows. -/
def prodAt (x : Vec Ideal S2736x768 .bf16) (y : Vec Ideal S2736x1024 .bf16) (p : Fin 768) (q : Fin 1024) (k : Fin 2736) : EReal :=
  x (ix2 k p) * y (ix2 k q)

/-- The block product at an element. -/
theorem pay1_apply (x : Vec Ideal S2736x768 .bf16) (y : Vec Ideal S2736x1024 .bf16) (j : S768x1024.Idx) :
    k0_pay1 x y j = ∑ k : Fin 2736, prodAt x y (j 0) (j 1) k := by
  unfold k0_pay1 prodAt
  pointwise

/-- The first point of a run stores the block product. -/
theorem pay2_apply (x : Vec Ideal S2736x768 .bf16) (y : Vec Ideal S2736x1024 .bf16) (j : S768x1024.Idx) :
    k0_pay2 x y j = k0_pay1 x y j := by
  unfold k0_pay2
  pointwise

/-- The second point of a run adds its block product. -/
theorem pay3_apply (x : Vec Ideal S2736x768 .bf16) (y : Vec Ideal S2736x1024 .bf16) (a : Vec Ideal S768x1024 .f32) (j : S768x1024.Idx) :
    k0_pay3 x y a j = a j + k0_pay1 x y j := by
  unfold k0_pay3
  pointwise

/-- The last point of a run writes the accumulator and its block product out. -/
theorem pay4_apply (x : Vec Ideal S2736x768 .bf16) (y : Vec Ideal S2736x1024 .bf16) (a : Vec Ideal S768x1024 .f32) (j : S768x1024.Idx) :
    k0_pay4 x y a j = a j + k0_pay1 x y j := by
  unfold k0_pay4
  pointwise

theorem idx0 : ∀ t : Fin grid0.N, win0_0.index t = ![t.val % 3, t.val / 3] := by decide +kernel
theorem idx1 : ∀ t : Fin grid0.N, win0_1.index t = ![t.val % 3, 0] := by decide +kernel
theorem idx2 : ∀ t : Fin grid0.N, win0_2.index t = ![t.val / 3, 0] := by decide +kernel

/-- The left array. -/
def A (c : Dev nD) : Vec Ideal S8208x1536 .bf16 := m ((c : Thread nD τ).loc main_arg0)
/-- The right array. -/
def B (c : Dev nD) : Vec Ideal S8208x1024 .bf16 := m ((c : Thread nD τ).loc main_arg1)

/-- The first array's block at point `t`, element by element. -/
theorem blk0 (c : Dev nD) (t : Fin cfg0.N) (k : Fin 2736) (p : Fin 768) (i : S8208x1536.Idx)
    (h0 : (i 0).val = t.val % 3 * 2736 + k.val) (h1 : (i 1).val = t.val / 3 * 768 + p.val) :
    (iblk m c 0 t : Vec Ideal S2736x768 .bf16) (ix2 k p) = A m c i := by
  blk_simp [iblk]
  show A m c _ = A m c i
  congr 1
  funext a; apply Fin.ext
  match a with
  | ⟨0, _⟩ => show win0_0.index t (0 : Fin 2) * 2736 + 1 * k.val = (i 0).val; rw [idx0, h0]; simp
  | ⟨1, _⟩ => show win0_0.index t (1 : Fin 2) * 768 + 1 * p.val = (i 1).val; rw [idx0, h1]; simp

/-- The second array's block at point `t`, element by element. -/
theorem blk1 (c : Dev nD) (t : Fin cfg0.N) (k : Fin 2736) (q : Fin 1024) (i : S8208x1024.Idx)
    (h0 : (i 0).val = t.val % 3 * 2736 + k.val) (h1 : (i 1).val = 0 * 1024 + q.val) :
    (iblk m c 1 t : Vec Ideal S2736x1024 .bf16) (ix2 k q) = B m c i := by
  blk_simp [iblk]
  show B m c _ = B m c i
  congr 1
  funext a; apply Fin.ext
  match a with
  | ⟨0, _⟩ => show win0_1.index t (0 : Fin 2) * 2736 + 1 * k.val = (i 0).val; rw [idx1, h0]; simp
  | ⟨1, _⟩ => show win0_1.index t (1 : Fin 2) * 1024 + 1 * q.val = (i 1).val; rw [idx1, h1]; simp

/-- The gradient, as a function of the two arrays. -/
def G (a : Vec Ideal S8208x1536 .bf16) (b : Vec Ideal S8208x1024 .bf16) : Vec Ideal S1536x1024 .bf16 := fun i =>
  ((∑ k : Fin 8208, a (ix2 k (i 0)) * b (ix2 k (i 1)) : EReal))

/-- The kernel's result array after the run. -/
theorem arr (c : Dev nD) : (dats m 0 c).arrAt 2 cfg0.N = G (A m c) (B m c) := by
  refine (dats m 0 c).arrAt_eq_of_covers 2 _ (by decide +kernel) fun t hf y => ?_
  blk_simp [idx2]
  rw [after0_2]
  have hm : t.val % 3 = 2 := (flush0_2 t).mp hf
  rw [outsAt0_C m c t (by omega) (by omega) hm]
  frame_out
  simp only [read_unread_whole]
  have hN : t.val < 6 := t.isLt
  rw [outsAt0_B m c ⟨t.val - 1, (Nat.sub_le _ _).trans_lt t.isLt⟩ (by dsimp only; omega) (by dsimp only; omega) (by dsimp only; omega)]
  frame_out
  simp only [read_unread_whole]
  rw [pay4_apply, pay3_apply]
  rw [outsAt0_A m c ⟨t.val - 1 - 1, ((Nat.sub_le _ _).trans (Nat.sub_le _ _)).trans_lt t.isLt⟩ (by dsimp only; omega) (by dsimp only; omega) (by dsimp only; omega)]
  frame_out
  rw [pay2_apply, pay1_apply, pay1_apply, pay1_apply]
  have e0 : (((View.whole main_v0).slice (win0_2.rect t)).emb y 0).val = win0_2.index t (0 : Fin 2) * 768 + 1 * (y 0).val := rfl
  have e1 : (((View.whole main_v0).slice (win0_2.rect t)).emb y 1).val = win0_2.index t (1 : Fin 2) * 1024 + 1 * (y 1).val := rfl
  rw [idx2] at e0 e1
  replace e0 : (((View.whole main_v0).slice (win0_2.rect t)).emb y 0).val = t.val / 3 * 768 + (y 0).val := by simpa using e0
  replace e1 : (((View.whole main_v0).slice (win0_2.rect t)).emb y 1).val = 0 * 1024 + (y 1).val := by simpa using e1
  refine Cert.Blocks.sum_three (N := 8208) 2736 (by norm_num) _
    (fun b k => prodAt (iblk m c 0 ⟨t.val - (2 - b), (Nat.sub_le _ _).trans_lt t.isLt⟩)
      (iblk m c 1 ⟨t.val - (2 - b), (Nat.sub_le _ _).trans_lt t.isLt⟩) (y 0) (y 1) k) fun b hb k => ?_
  have hk := k.isLt
  exact congrArg₂ (· * ·)
    (blk0 m c _ k (y 0) _ (by show b * 2736 + k.val = _; dsimp only; omega) (e0.trans (by dsimp only <;> omega)))
    (blk1 m c _ k (y 1) _ (by show b * 2736 + k.val = _; dsimp only; omega) (e1.trans (by dsimp only <;> omega)))

/-- The kernel's gradient is the reference's. -/
theorem algebraic : Cert.algebraic_Kernel4Ideal_Reference4Ideal := by
  intro m ρ m' ρ' _ hagree
  refine ⟨_, Cert.Kernel4Ideal.Value.run_blocks (F := Ideal) m ρ, ?_⟩
  refine (θ_run Cert.Reference4Ideal.defs _ _).mono (fun _ h c => ⟨?_, (h c).2⟩) (Cert.Reference4Ideal.Value.run (F := Ideal) m' ρ')
  rw [(h c).1, arr]
  unfold G A B
  funext i
  pointwise
  rw [(hagree c).1, (hagree c).2]

end Cert.Kernel4Ideal.GradIn

end
-- ==== Proof.Rows.lean ====
/- Loads and stores through a memref of which we say what it holds.

   `owns c m q x` says that core `c` holds memref `m` and reads `x` in it. Here are the two rules a body needs:
   a load through a rectangle continues at `ld x r`, the part of `x` the rectangle picks out, and a store through
   a rectangle leaves `st r w x`, which is `w` inside the rectangle and `x` outside. A body that fills a buffer
   rectangle by rectangle is followed by `Agree S x G`: on the set `S` the buffer `x` has reached its final
   contents `G`. -/
module

public import Idealize.ShloMosaic.Lib.Pipeline.FrameBody
public import Idealize.ShloMosaic.Lib.Tactic
public import Idealize.ShloMosaic.Lib.Pipeline.ValueKit.Geometry

@[expose] public section

noncomputable section

namespace Cert.Rows

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section Contents

variable {s : Shape} {α : Type}

/-- The part of `x` in the rectangle. -/
def ld (x : s.Idx → α) (r : Rect s) : r.shape.Idx → α := fun y => x (r.emb y)

open Classical in
/-- `x` with the rectangle overwritten by `w`. -/
def st (r : Rect s) (w : r.shape.Idx → α) (x : s.Idx → α) : s.Idx → α :=
  fun i => if h : ∃ y, r.emb y = i then w h.choose else x i

/-- Inside the rectangle the new contents are what was stored. -/
theorem st_emb (r : Rect s) (w : r.shape.Idx → α) (x : s.Idx → α) (y : r.shape.Idx) : st r w x (r.emb y) = w y := by
  have h : ∃ z, r.emb z = r.emb y := ⟨y, rfl⟩
  unfold st; rw [dif_pos h]; exact congrArg w (r.emb.injective h.choose_spec)

/-- Outside it they are the old ones. -/
theorem st_out (r : Rect s) (w : r.shape.Idx → α) (x : s.Idx → α) (i : s.Idx) (h : ∀ y, r.emb y ≠ i) : st r w x i = x i := by
  unfold st; exact dif_neg (fun ⟨y, e⟩ => h y e)

/-- On `S` the contents `x` are those of `G`. -/
def Agree (S : s.Idx → Prop) (x G : s.Idx → α) : Prop := ∀ i, S i → x i = G i

/-- A store that writes `G`'s own values into its rectangle extends the set on which `x` agrees with `G`. -/
theorem Agree.st {S S' : s.Idx → Prop} {x G : s.Idx → α} (hx : Agree S x G) (r : Rect s) (w : r.shape.Idx → α)
    (hw : ∀ y, w y = G (r.emb y)) (hS : ∀ i, S' i → S i ∨ ∃ y, r.emb y = i) : Agree S' (st r w x) G := by
  intro i hi
  by_cases h : ∃ y, r.emb y = i
  · obtain ⟨y, rfl⟩ := h; rw [st_emb, hw]
  · rw [st_out r w x i fun y e => h ⟨y, e⟩]; exact hx i ((hS i hi).resolve_right h)

/-- A load from the part that agrees reads `G`. -/
theorem Agree.ld {S : s.Idx → Prop} {x G : s.Idx → α} (hx : Agree S x G) (r : Rect s) (hS : ∀ y, S (r.emb y)) :
    ld x r = ld G r := funext fun y => hx _ (hS y)

/-- Agreeing everywhere is being equal. -/
theorem Agree.eq {S : s.Idx → Prop} {x G : s.Idx → α} (hx : Agree S x G) (hS : ∀ i, S i) : x = G := funext fun i => hx i (hS i)

/-- Agreement on a smaller set. -/
theorem Agree.mono {S S' : s.Idx → Prop} {x G : s.Idx → α} (hx : Agree S x G) (hS : ∀ i, S' i → S i) : Agree S' x G :=
  fun i hi => hx i (hS i hi)

/-- A store over the whole buffer leaves what was stored. -/
theorem st_whole (r : Rect s) (w : r.shape.Idx → α) (x : s.Idx → α) (G : s.Idx → α) (hw : ∀ y, w y = G (r.emb y))
    (hr : ∀ i, ∃ y, r.emb y = i) : st r w x = G := by
  funext i; obtain ⟨y, rfl⟩ := hr i; rw [st_emb, hw]

/-- An index lies in a unit rectangle if each of its coordinates does. -/
theorem mem_unit (off size : Fin s.rank → ℕ) (inb : ∀ a, off a + size a ≤ s.size a) (i : s.Idx)
    (h : ∀ a, off a ≤ (i a).val ∧ (i a).val < off a + size a) : ∃ y, (Rect.unit off size inb).emb y = i := by
  refine ⟨fun a => ⟨(i a).val - off a, ?_⟩, ?_⟩
  · have := h a; show (i a).val - off a < size a; omega
  · funext a; apply Fin.ext
    rw [Idealize.ShloMosaic.ValueKit.rect_emb_unit_val]; have := h a; show off a + ((i a).val - off a) = _; omega

end Contents

section Programs

variable {nD : Nat} {τ : Topo} {sig : RefSig} {κ : Proc τ} {Val : EltTy → Type} {Λ : Labels} {s : Shape}

/-- Load the rectangle. -/
def rd {e : EltTy} (m : Memref sig κ.kind .vmem s e) (r : Rect s) (h : 0 < r.shape.numel) :
    Prog (TpuEff nD τ sig Val Λ κ) (r.shape.Idx → Val e) :=
  Prog.lift (.load m r.toLoadRect (View.loadsAt_vmem h))

/-- Store a rectangle of whole words. -/
def wr {e : EltTy} (m : Memref sig κ.kind .vmem s e) (r : Rect s) (h : 0 < r.shape.numel) (he : e.bits = 32)
    (w : r.shape.Idx → Val e) : Prog (TpuEff nD τ sig Val Λ κ) PUnit :=
  Prog.lift (.store m r w Finset.univ (View.stores_vmem_bits_univ h he) (.inl rfl))

/-- Store a rectangle of half words, its rows paired up. -/
def wrh {e : EltTy} (m : Memref sig κ.kind .vmem s e) (hm : m.IsWhole) (r : Rect s) (h : 0 < r.shape.numel)
    (hp : r.PackedRows e.packing) (hl : κ.kind.statesLayout .vmem = true)
    (w : r.shape.Idx → Val e) : Prog (TpuEff nD τ sig Val Λ κ) PUnit :=
  Prog.lift (.store m r w Finset.univ (View.stores_vmem h (hm.storeExact_slice hl _ hp) (fun _ => rfl)) (.inl rfl))

end Programs

section Rules

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy}

/-- A load through a rectangle. -/
theorem wp_rd {m : Memref sig c.2.kind .vmem s e} {r : Rect s} {h : 0 < r.shape.numel} {q : PosShare TreeShare} {x : s.Idx → Val e}
    {Q : (r.shape.Idx → Val e) → sProp (MT nD τ sig Ix Val Name U Lvl)} :
    owns c m q x ⊢ iprop((owns c m q x -∗ Q (ld x r)) -∗ wp frame (wpE defs 𝒱 c bd) E (rd m r h) Q) := by
  unfold owns rd
  iintro ⟨%f, %hf, H⟩
  iintro Hk
  iapply (wp_load_rect 𝒱 c bd E (m := m) (r := r) (f := f) (m.view.set_slice_subset r)) $$ H
  iintro H
  rw [show (m.access r).read Val f = ld x r from by rw [← hf]; rfl]
  iapply (le_wp_ret _ _ E _ _)
  iapply Hk
  iexists f; isplitr
  · ipureintro; exact hf
  · iexact H

/-- What a buffer reads as after a store. -/
theorem read_store {κ : Kind} (m : Memref sig κ .vmem s e) (r : Rect s) (w : r.shape.Idx → Val e) (f) :
    m.view.read Val ((m.access r).write Val f w Finset.univ) = st r w (m.view.read Val f) := by
  funext i
  by_cases h : ∃ y, r.emb y = i
  · obtain ⟨y, rfl⟩ := h
    rw [st_emb]; exact m.view.read_slice_write_emb r f w (Finset.mem_univ y)
  · rw [st_out r w _ i fun y e => h ⟨y, e⟩]
    refine m.view.read_slice_write_of_not_mem r f w _ fun hm => h ?_
    obtain ⟨y, -, e⟩ := Finset.mem_map.mp hm
    exact ⟨y, e⟩

/-- A store of whole words. -/
theorem wp_wr {m : Memref sig c.2.kind .vmem s e} {r : Rect s} {w : r.shape.Idx → Val e} {h : 0 < r.shape.numel} {he : e.bits = 32} {x : s.Idx → Val e}
    {Q : PUnit → sProp (MT nD τ sig Ix Val Name U Lvl)} :
    owns c m fullShare x ⊢ iprop((owns c m fullShare (st r w x) -∗ Q ⟨⟩) -∗ wp frame (wpE defs 𝒱 c bd) E (wr m r h he w) Q) := by
  unfold owns wr
  iintro ⟨%f, %hf, H⟩
  iintro Hk
  iapply (wp_store 𝒱 c bd E (m := m) (r := r) (w := w) (Mk := Finset.univ) (f := f) (m.setOn_access_subset r _)) $$ H
  iintro H
  iapply (le_wp_ret _ _ E _ _)
  iapply Hk
  iexists _; isplitr
  swap; · iexact H
  ipureintro
  subst hf
  exact read_store m r w f

/-- A store of half words. -/
theorem wp_wrh {m : Memref sig c.2.kind .vmem s e} {r : Rect s} {w : r.shape.Idx → Val e} {hm : m.IsWhole} {h : 0 < r.shape.numel} {hp : r.PackedRows e.packing} {hl : c.2.kind.statesLayout .vmem = true} {x : s.Idx → Val e}
    {Q : PUnit → sProp (MT nD τ sig Ix Val Name U Lvl)} :
    owns c m fullShare x ⊢ iprop((owns c m fullShare (st r w x) -∗ Q ⟨⟩) -∗ wp frame (wpE defs 𝒱 c bd) E (wrh m hm r h hp hl w) Q) := by
  unfold owns wrh
  iintro ⟨%f, %hf, H⟩
  iintro Hk
  iapply (wp_store 𝒱 c bd E (m := m) (r := r) (w := w) (Mk := Finset.univ) (f := f) (m.setOn_access_subset r _)) $$ H
  iintro H
  iapply (le_wp_ret _ _ E _ _)
  iapply Hk
  iexists _; isplitr
  swap; · iexact H
  ipureintro
  subst hf
  exact read_store m r w f

end Rules

end Cert.Rows

end
-- ==== Proof.BackBody.lean ====
/- The body of the fused feed-forward call's backward pass, written once more in the pieces it is made of.

   At every point the body works on one tile of 912 rows and one block of 256 of the hidden columns. At the first block of a tile
   it keeps the tile's and the next sixteen rows of the gradient that arrives (`open_`); at the very first point it clears the sums
   over all tiles (`clear_`). Then it multiplies the kept rows by the block's down weights (`dact`), goes through the gate, the product
   and the convolution backwards 48 rows at a time (`chunk`, which also sums the taps' gradients), and multiplies back by the up
   weights into the accumulator (`dhn`). The three row parts are interleaved. At the end it adds the taps' gradients
   (`taps_`), and at a tile's last block it goes back through the normalisation (`close_`). `body_eq` says that this is
   the call's own body. -/
module

public import proofs.«01_k».proof.Proof.Rows
public import proofs.«01_k».proof.Proof.Gen.Kernel5Ideal.Frame

@[expose] public section

set_option maxRecDepth 65536

noncomputable section

namespace Cert.Kernel5Ideal.BackFfn

open Idealize.ShloMosaic Idealize.SL.Sem
open Cert.Kernel5Ideal Cert.Kernel5Ideal.Gen Cert.Rows

variable {F : FTy → Type} [FloatOps F]

/-- A program of the body. -/
abbrev P (F : FTy → Type) (α : Type) := Prog (TpuEff nD τ sig (Elt F) Λ₀ .tc) α

/-- The buffers the body works on: the blocks of the arguments and results at a point, then the scratch. -/
structure Bufs where
  dhc : Memref sig .tc .vmem S912x1024 .f32
  hdhc : dhc.IsWhole
  dhn : Memref sig .tc .vmem S16x1024 .f32
  hdhn : dhn.IsWhole
  hm : Memref sig .tc .vmem S912x1024 .f32
  hhm : hm.IsWhole
  g : Memref sig .tc .vmem S1x1024 .f32
  hg : g.IsWhole
  xg : Memref sig .tc .vmem S1x912x256 .bf16
  hxg : xg.IsWhole
  xv : Memref sig .tc .vmem S1x912x256 .bf16
  hxv : xv.IsWhole
  cg : Memref sig .tc .vmem S1x912x256 .bf16
  hcg : cg.IsWhole
  cgn : Memref sig .tc .vmem S1x16x256 .bf16
  hcgn : cgn.IsWhole
  cv : Memref sig .tc .vmem S1x912x256 .bf16
  hcv : cv.IsWhole
  cvn : Memref sig .tc .vmem S1x16x256 .bf16
  hcvn : cvn.IsWhole
  kg : Memref sig .tc .vmem S3x256 .f32
  hkg : kg.IsWhole
  kv : Memref sig .tc .vmem S3x256 .f32
  hkv : kv.IsWhole
  wd : Memref sig .tc .vmem S256x1024 .bf16
  hwd : wd.IsWhole
  wg : Memref sig .tc .vmem S256x1024 .bf16
  hwg : wg.IsWhole
  wv : Memref sig .tc .vmem S256x1024 .bf16
  hwv : wv.IsWhole
  dhm : Memref sig .tc .vmem S912x1024 .f32
  hdhm : dhm.IsWhole
  dg : Memref sig .tc .vmem S1x1024 .f32
  hdg : dg.IsWhole
  du : Memref sig .tc .vmem S2x912x256 .bf16
  hdu : du.IsWhole
  dk : Memref sig .tc .vmem S11x2x3x256 .f32
  hdk : dk.IsWhole
  dhe : Memref sig .tc .vmem S928x1024 .bf16
  hdhe : dhe.IsWhole
  da : Memref sig .tc .vmem S928x256 .f32
  hda : da.IsWhole
  acc : Memref sig .tc .vmem S912x1024 .f32
  hacc : acc.IsWhole

/-! ## Rectangles -/

theorem in2 {n k N K a : ℕ} (h : a + n ≤ N) (h' : k ≤ K) :
    ∀ x : Fin 2, (![a, 0] : Fin 2 → ℕ) x + (![n, k] : Fin 2 → ℕ) x ≤ (![N, K] : Fin 2 → ℕ) x := by
  intro x; match x with
  | 0 => exact h
  | 1 => show 0 + k ≤ K; omega

theorem in3 {H n N k h a : ℕ} (hh : h < H) (ha : a + n ≤ N) :
    ∀ x : Fin 3, (![h, a, 0] : Fin 3 → ℕ) x + (![1, n, k] : Fin 3 → ℕ) x ≤ (![H, N, k] : Fin 3 → ℕ) x := by
  intro x; match x with
  | 0 => show h + 1 ≤ H; omega
  | 1 => exact ha
  | 2 => show 0 + k ≤ k; omega

/-- A whole block of weights, -/
abbrev rW : Rect S256x1024 := Rect.unit (s := S256x1024) ![0, 0] S256x1024.size (in2 (by decide) (by decide))
/-- a whole tile, -/
abbrev rT : Rect S912x1024 := Rect.unit (s := S912x1024) ![0, 0] S912x1024.size (in2 (by decide) (by decide))
/-- the sixteen rows below it, -/
abbrev rH : Rect S16x1024 := Rect.unit (s := S16x1024) ![0, 0] S16x1024.size (in2 (by decide) (by decide))
/-- a row of columns, -/
abbrev rG : Rect S1x1024 := Rect.unit (s := S1x1024) ![0, 0] S1x1024.size (in2 (by decide) (by decide))
/-- a tap of the convolution, -/
abbrev rK (n : ℕ) (hn : n + 1 ≤ 3) : Rect S3x256 := Rect.unit (s := S3x256) ![n, 0] S1x256.size (in2 hn (by decide))
/-- `n` rows of the kept gradient, -/
abbrev rE (n a : ℕ) (ha : a + n ≤ 928) : Rect S928x1024 := Rect.unit (s := S928x1024) ![a, 0] ![n, 1024] (in2 ha (by decide))
/-- of the activation's gradient, -/
abbrev rD (n a : ℕ) (ha : a + n ≤ 928) : Rect S928x256 := Rect.unit (s := S928x256) ![a, 0] ![n, 256] (in2 ha (by decide))
/-- of the accumulator, -/
abbrev rC (n a : ℕ) (ha : a + n ≤ 912) : Rect S912x1024 := Rect.unit (s := S912x1024) ![a, 0] ![n, 1024] (in2 ha (by decide))
/-- of a half of the result, -/
abbrev rU (n h a : ℕ) (hh : h < 2) (ha : a + n ≤ 912) : Rect S2x912x256 := Rect.unit (s := S2x912x256) ![h, a, 0] ![1, n, 256] (in3 hh ha)
/-- of a saved array, -/
abbrev rX (n a : ℕ) (ha : a + n ≤ 912) : Rect S1x912x256 := Rect.unit (s := S1x912x256) ![0, a, 0] ![1, n, 256] (in3 (by decide) ha)
/-- the sixteen rows of a saved array below the tile, -/
abbrev rN : Rect S1x16x256 := Rect.unit (s := S1x16x256) ![0, 0, 0] S1x16x256.size (in3 (by decide) (by decide))
/-- and all taps' gradients. -/
abbrev rQ : Rect S11x2x3x256 := Rect.unit (s := S11x2x3x256) ![0, 0, 0, 0] S11x2x3x256.size (by decide)
/-- A tap's gradient. -/
abbrev rQ1 (i : grid0.Coords) : Rect S11x2x3x256 := Rect.unit (s := S11x2x3x256) (k0_off1 i) S1x1x1x256.size (k0_off1_inb i)
/-- A tap's gradient. -/
abbrev rQ2 (i : grid0.Coords) : Rect S11x2x3x256 := Rect.unit (s := S11x2x3x256) (k0_off2 i) S1x1x1x256.size (k0_off2_inb i)
/-- A tap's gradient. -/
abbrev rQ3 (i : grid0.Coords) : Rect S11x2x3x256 := Rect.unit (s := S11x2x3x256) (k0_off3 i) S1x1x1x256.size (k0_off3_inb i)
/-- A tap's gradient. -/
abbrev rQ4 (i : grid0.Coords) : Rect S11x2x3x256 := Rect.unit (s := S11x2x3x256) (k0_off4 i) S1x1x1x256.size (k0_off4_inb i)
/-- A tap's gradient. -/
abbrev rQ5 (i : grid0.Coords) : Rect S11x2x3x256 := Rect.unit (s := S11x2x3x256) (k0_off5 i) S1x1x1x256.size (k0_off5_inb i)
/-- A tap's gradient. -/
abbrev rQ6 (i : grid0.Coords) : Rect S11x2x3x256 := Rect.unit (s := S11x2x3x256) (k0_off6 i) S1x1x1x256.size (k0_off6_inb i)

theorem pk3 {h c : ℕ} (hh : h < 2) (hc : c < 19) (ha : 48 * c + 48 ≤ 912) : (rU 48 h (48 * c) hh ha).PackedRows (EltTy.packing .bf16) :=
  .inr ⟨(Nat.le_succ 2 : 2 ≤ 3), rfl, .inl ⟨(Dvd.intro (24 * c) (show 2 * (24 * c) = 48 * c by omega) : (2 : ℕ) ∣ 48 * c), (by decide : (2 : ℕ) ∣ 48)⟩⟩

theorem pkE0 : (rE 912 0 (by decide)).PackedRows (EltTy.packing .bf16) := by decide
theorem pkE1 : (rE 16 912 (by decide)).PackedRows (EltTy.packing .bf16) := by decide

/-! ## What is computed -/

/-- The tile's rows kept, -/
def keepPay (x : Vec F S912x1024 .f32) : Vec F S912x1024 .bf16 :=
  shapeCast S912x1024 (truncf .bf16 (x : FVec F S912x1024 .f32) bitsLt_bf16_f32) shapeCasts_S912x1024_S912x1024
/-- the sixteen below it, -/
def nextPay (x : Vec F S16x1024 .f32) : Vec F S16x1024 .bf16 :=
  shapeCast S16x1024 (truncf .bf16 (x : FVec F S16x1024 .f32) bitsLt_bf16_f32) shapeCasts_S16x1024_S16x1024
/-- the cleared accumulator, -/
def zeroPay : Vec F S912x1024 .f32 :=
  shapeCast S912x1024 (broadcast S912x1024 (Scalar.ofBits .f32 0x00000000#32)) shapeCasts_S912x1024_S912x1024
/-- and the cleared sums. -/
def zeroG : Vec F S1x1024 .f32 := broadcast S1x1024 (Scalar.ofBits .f32 0x00000000#32 : F .f32)
def zeroK : Vec F S11x2x3x256 .f32 := broadcast S11x2x3x256 (Scalar.ofBits .f32 0x00000000#32 : F .f32)
def zero8 : FVec F S8x256 .f32 := broadcast S8x256 (Scalar.ofBits .f32 0x00000000#32 : F .f32)

/-- A tap, repeated over eight rows. -/
def tap (x : Vec F S1x256 .f32) : FVec F S8x256 .f32 :=
  broadcastTo S8x256 (shapeCast S1x256 x shapeCasts_S1x256_S1x256 : FVec F S1x256 .f32) broadcasts_S1x256_S8x256

/-- The activation's gradient on 304 rows. -/
def dactPay304 (x : Vec F S304x1024 .bf16) (w : Vec F S256x1024 .bf16) : Vec F S304x256 .f32 :=
  shapeCast S304x256 (matmul dot_S304x1024_S256x1024_S304x256_1_1_0_0_n_n none (x : FVec F S304x1024 .bf16) w (constant S304x256 .f32 0x00000000#32)) shapeCasts_S304x256_S304x256

/-- The activation's gradient on 352 rows. -/
def dactPay352 (x : Vec F S352x1024 .bf16) (w : Vec F S256x1024 .bf16) : Vec F S352x256 .f32 :=
  shapeCast S352x256 (matmul dot_S352x1024_S256x1024_S352x256_1_1_0_0_n_n none (x : FVec F S352x1024 .bf16) w (constant S352x256 .f32 0x00000000#32)) shapeCasts_S352x256_S352x256

/-- The normalised rows' gradient on 288 rows, added to what was accumulated. -/
def dhnPay288 (a : Vec F S288x1024 .f32) (x : Vec F S1x288x256 .bf16) (w : Vec F S256x1024 .bf16) (y : Vec F S1x288x256 .bf16) (v : Vec F S256x1024 .bf16) : Vec F S288x1024 .f32 :=
  shapeCast S288x1024 (addf a (addf (matmul dot_S288x256_S256x1024_S288x1024_1_0_0_1_n_n none
      (shapeCast S288x256 x shapeCasts_S1x288x256_S288x256 : FVec F S288x256 .bf16) w (constant S288x1024 .f32 0x00000000#32))
    (matmul dot_S288x256_S256x1024_S288x1024_1_0_0_1_n_n none
      (shapeCast S288x256 y shapeCasts_S1x288x256_S288x256 : FVec F S288x256 .bf16) v (constant S288x1024 .f32 0x00000000#32))))
    shapeCasts_S288x1024_S288x1024

/-- The normalised rows' gradient on 336 rows, added to what was accumulated. -/
def dhnPay336 (a : Vec F S336x1024 .f32) (x : Vec F S1x336x256 .bf16) (w : Vec F S256x1024 .bf16) (y : Vec F S1x336x256 .bf16) (v : Vec F S256x1024 .bf16) : Vec F S336x1024 .f32 :=
  shapeCast S336x1024 (addf a (addf (matmul dot_S336x256_S256x1024_S336x1024_1_0_0_1_n_n none
      (shapeCast S336x256 x shapeCasts_S1x336x256_S336x256 : FVec F S336x256 .bf16) w (constant S336x1024 .f32 0x00000000#32))
    (matmul dot_S336x256_S256x1024_S336x1024_1_0_0_1_n_n none
      (shapeCast S336x256 y shapeCasts_S1x336x256_S336x256 : FVec F S336x256 .bf16) v (constant S336x1024 .f32 0x00000000#32))))
    shapeCasts_S336x1024_S336x1024

/-- The 56 rows a chunk reads of a saved half, -/
def win1 (a : Vec F S1x64x256 .bf16) : FVec F S56x256 .f32 :=
  extractStridedSlice S56x256 ![0, 0] (extf .f32 (shapeCast S64x256 a shapeCasts_S1x64x256_S64x256 : FVec F S64x256 .bf16) bitsLt_bf16_f32) slices_S64x256_o0_0_S56x256
/-- and the last chunk, the rows below the tile among them. -/
def winL (a : Vec F S1x48x256 .bf16) (b : Vec F S1x16x256 .bf16) : FVec F S56x256 .f32 :=
  extractStridedSlice S56x256 ![0, 0] (extf .f32 (concatenate S64x256 0
    [⟨S48x256, shapeCast S48x256 a shapeCasts_S1x48x256_S48x256⟩, ⟨S16x256, shapeCast S16x256 b shapeCasts_S1x16x256_S16x256⟩]
    concatenates_S48x256_S16x256_S64x256_d0 : FVec F S64x256 .bf16) bitsLt_bf16_f32) slices_S64x256_o0_0_S56x256
/-- The 48 rows of the up projection. -/
def rows (a : Vec F S1x48x256 .bf16) : FVec F S48x256 .f32 :=
  extf .f32 (shapeCast S48x256 a shapeCasts_S1x48x256_S48x256 : FVec F S48x256 .bf16) bitsLt_bf16_f32

/-- The gradient of the gate's argument, -/
def dgate (a v : FVec F S56x256 .f32) (d : Vec F S56x256 .f32) : FVec F S56x256 .f32 :=
  mulf (mulf d v) (mulf (logistic a) (addf (broadcast S56x256 (Scalar.ofBits .f32 0x3F800000#32))
    (mulf a (subf (broadcast S56x256 (Scalar.ofBits .f32 0x3F800000#32)) (logistic a)))))
/-- and of the value. -/
def dval (a : FVec F S56x256 .f32) (d : Vec F S56x256 .f32) : FVec F S56x256 .f32 := mulf d (mulf a (logistic a))

/-- Rows below the last tile count nothing. -/
def live (i : grid0.Coords) : IVec S56x1 1 :=
  ori (cmpi .slt (iota .tc S56x1 32 [0] iota_S56x1_d0_w32) (broadcast S56x1 48#32)) (broadcast S56x1 (Scalar.cmpi .slt (BitVec.ofNat 32 (i 0).val : BitVec 32) 8#32))
def masked (i : grid0.Coords) (x : FVec F S56x256 .f32) : FVec F S56x256 .f32 :=
  select (broadcastTo S56x256 (shapeCast S56x1 (live i) shapeCasts_S56x1_S56x1 : IVec S56x1 1) broadcasts_S56x1_S56x256) x
    (broadcast S56x256 (Scalar.ofBits .f32 0x00000000#32))

/-- Eight rows, six times over. -/
def six (k : FVec F S8x256 .f32) : FVec F S48x256 .f32 :=
  concatenate S48x256 0 [⟨S8x256, k⟩, ⟨S8x256, k⟩, ⟨S8x256, k⟩, ⟨S8x256, k⟩, ⟨S8x256, k⟩, ⟨S8x256, k⟩]
    concatenates_S8x256_S8x256_S8x256_S8x256_S8x256_S8x256_S48x256_d0

/-- Rows from 0, 1 and 2 on. -/
def sh0 (x : FVec F S56x256 .f32) : FVec F S48x256 .f32 := extractStridedSlice S48x256 ![0, 0] x slices_S56x256_o0_0_S48x256
def sh1 (x : FVec F S56x256 .f32) : FVec F S48x256 .f32 := extractStridedSlice S48x256 ![1, 0] x slices_S56x256_o1_0_S48x256
def sh2 (x : FVec F S56x256 .f32) : FVec F S48x256 .f32 := extractStridedSlice S48x256 ![2, 0] x slices_S56x256_o2_0_S48x256

/-- The convolution backwards. -/
def vnoc (k0 k1 k2 : FVec F S8x256 .f32) (w : FVec F S56x256 .f32) : FVec F S48x256 .f32 :=
  addf (addf (mulf (six k0) (sh2 w)) (mulf (six k1) (sh1 w))) (mulf (six k2) (sh0 w))

/-- As it is stored. -/
def duPay (y : FVec F S48x256 .f32) : Vec F S1x48x256 .bf16 :=
  shapeCast S1x48x256 (truncf .bf16 y bitsLt_bf16_f32) shapeCasts_S48x256_S1x48x256

/-- 48 rows added up to eight. -/
def rs (v : FVec F S48x256 .f32) : FVec F S8x256 .f32 :=
  addf (addf (addf (addf (addf (extractStridedSlice S8x256 ![0, 0] v slices_S48x256_o0_0_S8x256) (extractStridedSlice S8x256 ![8, 0] v slices_S48x256_o8_0_S8x256))
    (extractStridedSlice S8x256 ![16, 0] v slices_S48x256_o16_0_S8x256)) (extractStridedSlice S8x256 ![24, 0] v slices_S48x256_o24_0_S8x256))
    (extractStridedSlice S8x256 ![32, 0] v slices_S48x256_o32_0_S8x256)) (extractStridedSlice S8x256 ![40, 0] v slices_S48x256_o40_0_S8x256)

/-- Six arrays of eight rows, one for each tap of a half. -/
structure Six (F : FTy → Type) where
  g0 : FVec F S8x256 .f32
  g1 : FVec F S8x256 .f32
  g2 : FVec F S8x256 .f32
  v0 : FVec F S8x256 .f32
  v1 : FVec F S8x256 .f32
  v2 : FVec F S8x256 .f32

/-- The sums of the taps' gradients with a chunk added. -/
def more (K : Six F) (x y : FVec F S48x256 .f32) (a b : FVec F S56x256 .f32) : Six F :=
  ⟨addf K.g0 (rs (mulf x (sh2 a))), addf K.g1 (rs (mulf x (sh1 a))), addf K.g2 (rs (mulf x (sh0 a))),
    addf K.v0 (rs (mulf y (sh2 b))), addf K.v1 (rs (mulf y (sh1 b))), addf K.v2 (rs (mulf y (sh0 b)))⟩

/-- A tap's gradient, added to what was there. -/
def tapPay (x : Vec F S1x1x1x256 .f32) (k : FVec F S8x256 .f32) : Vec F S1x1x1x256 .f32 :=
  shapeCast S1x1x1x256 (addf (shapeCast S1x256 x shapeCasts_S1x1x1x256_S1x256 : FVec F S1x256 .f32)
    (shapeCast S1x256 (multiReduction .add [0] S256 k 0x00000000#32 reduces_S8x256_S256 (.inl rfl) rfl) shapeCasts_S256_S1x256)) shapeCasts_S1x256_S1x1x1x256

/-- The reciprocal root mean square of the tile's rows, -/
def rmsT (x : Vec F S912x1024 .f32) : FVec F S912x1 .f32 :=
  rsqrt (addf (divf (shapeCast S912x1 (multiReduction .add [1] S912 (mulf x x : FVec F S912x1024 .f32) 0x00000000#32 reduces_S912x1024_S912 (.inl rfl) rfl) shapeCasts_S912_S912x1)
    (broadcast S912x1 (Scalar.ofBits .f32 0x44800000#32))) (broadcast S912x1 (Scalar.ofBits .f32 0x358637BD#32)))
/-- the rows divided by it, -/
def hatT (x : Vec F S912x1024 .f32) : FVec F S912x1024 .f32 := mulf x (broadcastTo S912x1024 (rmsT x) broadcasts_S912x1_S912x1024)
/-- their gradient, -/
def dhatT (a : Vec F S912x1024 .f32) (g : Vec F S1x1024 .f32) : FVec F S912x1024 .f32 := mulf a (broadcastTo S912x1024 g broadcasts_S1x1024_S912x1024)
/-- and the gradient of the tile. -/
def closePay (x a : Vec F S912x1024 .f32) (g : Vec F S1x1024 .f32) (d : Vec F S912x1024 .f32) : Vec F S912x1024 .f32 :=
  addf d (mulf (broadcastTo S912x1024 (rmsT x) broadcasts_S912x1_S912x1024) (subf (dhatT a g) (mulf (hatT x) (broadcastTo S912x1024
    (divf (shapeCast S912x1 (multiReduction .add [1] S912 (mulf (dhatT a g) (hatT x)) 0x00000000#32 reduces_S912x1024_S912 (.inl rfl) rfl) shapeCasts_S912_S912x1)
      (broadcast S912x1 (Scalar.ofBits .f32 0x44800000#32))) broadcasts_S912x1_S912x1024))))

/-- 912 rows added up to eight. -/
def rsT (v : FVec F S912x1024 .f32) : FVec F S8x1024 .f32 :=
  addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (addf (extractStridedSlice S8x1024 ![0, 0] v slices_S912x1024_o0_0_S8x1024) (extractStridedSlice S8x1024 ![8, 0] v slices_S912x1024_o8_0_S8x1024)) (extractStridedSlice S8x1024 ![16, 0] v slices_S912x1024_o16_0_S8x1024)) (extractStridedSlice S8x1024 ![24, 0] v slices_S912x1024_o24_0_S8x1024))
    (extractStridedSlice S8x1024 ![32, 0] v slices_S912x1024_o32_0_S8x1024)) (extractStridedSlice S8x1024 ![40, 0] v slices_S912x1024_o40_0_S8x1024)) (extractStridedSlice S8x1024 ![48, 0] v slices_S912x1024_o48_0_S8x1024))
    (extractStridedSlice S8x1024 ![56, 0] v slices_S912x1024_o56_0_S8x1024)) (extractStridedSlice S8x1024 ![64, 0] v slices_S912x1024_o64_0_S8x1024)) (extractStridedSlice S8x1024 ![72, 0] v slices_S912x1024_o72_0_S8x1024))
    (extractStridedSlice S8x1024 ![80, 0] v slices_S912x1024_o80_0_S8x1024)) (extractStridedSlice S8x1024 ![88, 0] v slices_S912x1024_o88_0_S8x1024)) (extractStridedSlice S8x1024 ![96, 0] v slices_S912x1024_o96_0_S8x1024))
    (extractStridedSlice S8x1024 ![104, 0] v slices_S912x1024_o104_0_S8x1024)) (extractStridedSlice S8x1024 ![112, 0] v slices_S912x1024_o112_0_S8x1024)) (extractStridedSlice S8x1024 ![120, 0] v slices_S912x1024_o120_0_S8x1024))
    (extractStridedSlice S8x1024 ![128, 0] v slices_S912x1024_o128_0_S8x1024)) (extractStridedSlice S8x1024 ![136, 0] v slices_S912x1024_o136_0_S8x1024)) (extractStridedSlice S8x1024 ![144, 0] v slices_S912x1024_o144_0_S8x1024))
    (extractStridedSlice S8x1024 ![152, 0] v slices_S912x1024_o152_0_S8x1024)) (extractStridedSlice S8x1024 ![160, 0] v slices_S912x1024_o160_0_S8x1024)) (extractStridedSlice S8x1024 ![168, 0] v slices_S912x1024_o168_0_S8x1024))
    (extractStridedSlice S8x1024 ![176, 0] v slices_S912x1024_o176_0_S8x1024)) (extractStridedSlice S8x1024 ![184, 0] v slices_S912x1024_o184_0_S8x1024)) (extractStridedSlice S8x1024 ![192, 0] v slices_S912x1024_o192_0_S8x1024))
    (extractStridedSlice S8x1024 ![200, 0] v slices_S912x1024_o200_0_S8x1024)) (extractStridedSlice S8x1024 ![208, 0] v slices_S912x1024_o208_0_S8x1024)) (extractStridedSlice S8x1024 ![216, 0] v slices_S912x1024_o216_0_S8x1024))
    (extractStridedSlice S8x1024 ![224, 0] v slices_S912x1024_o224_0_S8x1024)) (extractStridedSlice S8x1024 ![232, 0] v slices_S912x1024_o232_0_S8x1024)) (extractStridedSlice S8x1024 ![240, 0] v slices_S912x1024_o240_0_S8x1024))
    (extractStridedSlice S8x1024 ![248, 0] v slices_S912x1024_o248_0_S8x1024)) (extractStridedSlice S8x1024 ![256, 0] v slices_S912x1024_o256_0_S8x1024)) (extractStridedSlice S8x1024 ![264, 0] v slices_S912x1024_o264_0_S8x1024))
    (extractStridedSlice S8x1024 ![272, 0] v slices_S912x1024_o272_0_S8x1024)) (extractStridedSlice S8x1024 ![280, 0] v slices_S912x1024_o280_0_S8x1024)) (extractStridedSlice S8x1024 ![288, 0] v slices_S912x1024_o288_0_S8x1024))
    (extractStridedSlice S8x1024 ![296, 0] v slices_S912x1024_o296_0_S8x1024)) (extractStridedSlice S8x1024 ![304, 0] v slices_S912x1024_o304_0_S8x1024)) (extractStridedSlice S8x1024 ![312, 0] v slices_S912x1024_o312_0_S8x1024))
    (extractStridedSlice S8x1024 ![320, 0] v slices_S912x1024_o320_0_S8x1024)) (extractStridedSlice S8x1024 ![328, 0] v slices_S912x1024_o328_0_S8x1024)) (extractStridedSlice S8x1024 ![336, 0] v slices_S912x1024_o336_0_S8x1024))
    (extractStridedSlice S8x1024 ![344, 0] v slices_S912x1024_o344_0_S8x1024)) (extractStridedSlice S8x1024 ![352, 0] v slices_S912x1024_o352_0_S8x1024)) (extractStridedSlice S8x1024 ![360, 0] v slices_S912x1024_o360_0_S8x1024))
    (extractStridedSlice S8x1024 ![368, 0] v slices_S912x1024_o368_0_S8x1024)) (extractStridedSlice S8x1024 ![376, 0] v slices_S912x1024_o376_0_S8x1024)) (extractStridedSlice S8x1024 ![384, 0] v slices_S912x1024_o384_0_S8x1024))
    (extractStridedSlice S8x1024 ![392, 0] v slices_S912x1024_o392_0_S8x1024)) (extractStridedSlice S8x1024 ![400, 0] v slices_S912x1024_o400_0_S8x1024)) (extractStridedSlice S8x1024 ![408, 0] v slices_S912x1024_o408_0_S8x1024))
    (extractStridedSlice S8x1024 ![416, 0] v slices_S912x1024_o416_0_S8x1024)) (extractStridedSlice S8x1024 ![424, 0] v slices_S912x1024_o424_0_S8x1024)) (extractStridedSlice S8x1024 ![432, 0] v slices_S912x1024_o432_0_S8x1024))
    (extractStridedSlice S8x1024 ![440, 0] v slices_S912x1024_o440_0_S8x1024)) (extractStridedSlice S8x1024 ![448, 0] v slices_S912x1024_o448_0_S8x1024)) (extractStridedSlice S8x1024 ![456, 0] v slices_S912x1024_o456_0_S8x1024))
    (extractStridedSlice S8x1024 ![464, 0] v slices_S912x1024_o464_0_S8x1024)) (extractStridedSlice S8x1024 ![472, 0] v slices_S912x1024_o472_0_S8x1024)) (extractStridedSlice S8x1024 ![480, 0] v slices_S912x1024_o480_0_S8x1024))
    (extractStridedSlice S8x1024 ![488, 0] v slices_S912x1024_o488_0_S8x1024)) (extractStridedSlice S8x1024 ![496, 0] v slices_S912x1024_o496_0_S8x1024)) (extractStridedSlice S8x1024 ![504, 0] v slices_S912x1024_o504_0_S8x1024))
    (extractStridedSlice S8x1024 ![512, 0] v slices_S912x1024_o512_0_S8x1024)) (extractStridedSlice S8x1024 ![520, 0] v slices_S912x1024_o520_0_S8x1024)) (extractStridedSlice S8x1024 ![528, 0] v slices_S912x1024_o528_0_S8x1024))
    (extractStridedSlice S8x1024 ![536, 0] v slices_S912x1024_o536_0_S8x1024)) (extractStridedSlice S8x1024 ![544, 0] v slices_S912x1024_o544_0_S8x1024)) (extractStridedSlice S8x1024 ![552, 0] v slices_S912x1024_o552_0_S8x1024))
    (extractStridedSlice S8x1024 ![560, 0] v slices_S912x1024_o560_0_S8x1024)) (extractStridedSlice S8x1024 ![568, 0] v slices_S912x1024_o568_0_S8x1024)) (extractStridedSlice S8x1024 ![576, 0] v slices_S912x1024_o576_0_S8x1024))
    (extractStridedSlice S8x1024 ![584, 0] v slices_S912x1024_o584_0_S8x1024)) (extractStridedSlice S8x1024 ![592, 0] v slices_S912x1024_o592_0_S8x1024)) (extractStridedSlice S8x1024 ![600, 0] v slices_S912x1024_o600_0_S8x1024))
    (extractStridedSlice S8x1024 ![608, 0] v slices_S912x1024_o608_0_S8x1024)) (extractStridedSlice S8x1024 ![616, 0] v slices_S912x1024_o616_0_S8x1024)) (extractStridedSlice S8x1024 ![624, 0] v slices_S912x1024_o624_0_S8x1024))
    (extractStridedSlice S8x1024 ![632, 0] v slices_S912x1024_o632_0_S8x1024)) (extractStridedSlice S8x1024 ![640, 0] v slices_S912x1024_o640_0_S8x1024)) (extractStridedSlice S8x1024 ![648, 0] v slices_S912x1024_o648_0_S8x1024))
    (extractStridedSlice S8x1024 ![656, 0] v slices_S912x1024_o656_0_S8x1024)) (extractStridedSlice S8x1024 ![664, 0] v slices_S912x1024_o664_0_S8x1024)) (extractStridedSlice S8x1024 ![672, 0] v slices_S912x1024_o672_0_S8x1024))
    (extractStridedSlice S8x1024 ![680, 0] v slices_S912x1024_o680_0_S8x1024)) (extractStridedSlice S8x1024 ![688, 0] v slices_S912x1024_o688_0_S8x1024)) (extractStridedSlice S8x1024 ![696, 0] v slices_S912x1024_o696_0_S8x1024))
    (extractStridedSlice S8x1024 ![704, 0] v slices_S912x1024_o704_0_S8x1024)) (extractStridedSlice S8x1024 ![712, 0] v slices_S912x1024_o712_0_S8x1024)) (extractStridedSlice S8x1024 ![720, 0] v slices_S912x1024_o720_0_S8x1024))
    (extractStridedSlice S8x1024 ![728, 0] v slices_S912x1024_o728_0_S8x1024)) (extractStridedSlice S8x1024 ![736, 0] v slices_S912x1024_o736_0_S8x1024)) (extractStridedSlice S8x1024 ![744, 0] v slices_S912x1024_o744_0_S8x1024))
    (extractStridedSlice S8x1024 ![752, 0] v slices_S912x1024_o752_0_S8x1024)) (extractStridedSlice S8x1024 ![760, 0] v slices_S912x1024_o760_0_S8x1024)) (extractStridedSlice S8x1024 ![768, 0] v slices_S912x1024_o768_0_S8x1024))
    (extractStridedSlice S8x1024 ![776, 0] v slices_S912x1024_o776_0_S8x1024)) (extractStridedSlice S8x1024 ![784, 0] v slices_S912x1024_o784_0_S8x1024)) (extractStridedSlice S8x1024 ![792, 0] v slices_S912x1024_o792_0_S8x1024))
    (extractStridedSlice S8x1024 ![800, 0] v slices_S912x1024_o800_0_S8x1024)) (extractStridedSlice S8x1024 ![808, 0] v slices_S912x1024_o808_0_S8x1024)) (extractStridedSlice S8x1024 ![816, 0] v slices_S912x1024_o816_0_S8x1024))
    (extractStridedSlice S8x1024 ![824, 0] v slices_S912x1024_o824_0_S8x1024)) (extractStridedSlice S8x1024 ![832, 0] v slices_S912x1024_o832_0_S8x1024)) (extractStridedSlice S8x1024 ![840, 0] v slices_S912x1024_o840_0_S8x1024))
    (extractStridedSlice S8x1024 ![848, 0] v slices_S912x1024_o848_0_S8x1024)) (extractStridedSlice S8x1024 ![856, 0] v slices_S912x1024_o856_0_S8x1024)) (extractStridedSlice S8x1024 ![864, 0] v slices_S912x1024_o864_0_S8x1024))
    (extractStridedSlice S8x1024 ![872, 0] v slices_S912x1024_o872_0_S8x1024)) (extractStridedSlice S8x1024 ![880, 0] v slices_S912x1024_o880_0_S8x1024)) (extractStridedSlice S8x1024 ![888, 0] v slices_S912x1024_o888_0_S8x1024))
    (extractStridedSlice S8x1024 ![896, 0] v slices_S912x1024_o896_0_S8x1024)) (extractStridedSlice S8x1024 ![904, 0] v slices_S912x1024_o904_0_S8x1024)

/-- The gradient of the normalisation's weights, added to what was there. -/
def dgPay (y : Vec F S1x1024 .f32) (a x : Vec F S912x1024 .f32) : Vec F S1x1024 .f32 :=
  addf (shapeCast S1x1024 y shapeCasts_S1x1024_S1x1024 : FVec F S1x1024 .f32) (shapeCast S1x1024
    (multiReduction .add [0] S1024 (rsT (mulf a (hatT x))) 0x00000000#32 reduces_S8x1024_S1024 (.inl rfl) rfl) shapeCasts_S1024_S1x1024)

/-! ## The pieces of the body -/

/-- The condition of the first conditional. -/
def k0_cond1 (i : grid0.Coords) : BitVec 1 :=
  Scalar.cmpi .ne (Scalar.extui (Scalar.cmpi .eq (BitVec.ofNat 32 (i 1).val : BitVec 32) 0#32) : BitVec 32) 0#32

/-- The first block of a tile: keep the gradient, clear the accumulator. -/
def open_ (M : Bufs) : P F PUnit := do
  let x ← rd M.dhc rT (by decide)
  let _ ← rd M.dhe (rE 912 0 (by decide)) (by decide)
  wrh M.dhe M.hdhe (rE 912 0 (by decide)) (by decide) pkE0 rfl (keepPay x)
  let x ← rd M.dhn rH (by decide)
  let _ ← rd M.dhe (rE 16 912 (by decide)) (by decide)
  wrh M.dhe M.hdhe (rE 16 912 (by decide)) (by decide) pkE1 rfl (nextPay x)
  let _ ← rd M.acc rT (by decide)
  wr M.acc rT (by decide) rfl zeroPay

/-- The first point: clear the sums. -/
def clear_ (M : Bufs) : P F PUnit := do
  let _ ← rd M.dg rG (by decide)
  wr M.dg rG (by decide) rfl zeroG
  let _ ← rd M.dk rQ (by decide)
  wr M.dk rQ (by decide) rfl zeroK

/-- The taps read. -/
def taps (i : grid0.Coords) (M : Bufs) : P F (Σ' (_ : BitVec 32) (_ : BitVec 32) (_ : FVec F S8x256 .f32) (_ : FVec F S8x256 .f32) (_ : FVec F S8x256 .f32) (_ : FVec F S8x256 .f32)
    (_ : FVec F S8x256 .f32) (_ : FVec F S8x256 .f32) (_ : FVec F S8x256 .f32) (_ : FVec F S8x256 .f32) (_ : FVec F S8x256 .f32) (_ : FVec F S8x256 .f32) (_ : FVec F S8x256 .f32), FVec F S8x256 .f32) := do
  let g0 ← rd M.kg (rK 0 (by decide)) (by decide)
  let g1 ← rd M.kg (rK 1 (by decide)) (by decide)
  let g2 ← rd M.kg (rK 2 (by decide)) (by decide)
  let v0 ← rd M.kv (rK 0 (by decide)) (by decide)
  let v1 ← rd M.kv (rK 1 (by decide)) (by decide)
  let v2 ← rd M.kv (rK 2 (by decide)) (by decide)
  pure ⟨BitVec.ofNat 32 (i 0).val, BitVec.ofNat 32 (i 1).val, tap g0, tap g1, tap g2, tap v0, tap v1, tap v2, zero8, zero8, zero8, zero8, zero8, zero8⟩

/-- The activation's gradient on rows `a` to `a + 304`. -/
def dact304 (M : Bufs) (a : ℕ) (ha : a + 304 ≤ 928) : P F PUnit := do
  let x ← rd M.dhe (rE 304 a ha) (by decide : 0 < S304x1024.numel)
  let w ← rd M.wd rW (by decide)
  let _ ← rd M.da (rD 304 a ha) (by decide : 0 < S304x256.numel)
  wr M.da (rD 304 a ha) (by decide : 0 < S304x256.numel) rfl (dactPay304 x w)

/-- The activation's gradient on rows `a` to `a + 352`. -/
def dact352 (M : Bufs) (a : ℕ) (ha : a + 352 ≤ 928) : P F PUnit := do
  let x ← rd M.dhe (rE 352 a ha) (by decide : 0 < S352x1024.numel)
  let w ← rd M.wd rW (by decide)
  let _ ← rd M.da (rD 352 a ha) (by decide : 0 < S352x256.numel)
  wr M.da (rD 352 a ha) (by decide : 0 < S352x256.numel) rfl (dactPay352 x w)

/-- The normalised rows' gradient on rows `a` to `a + 288`. -/
def dhn288 (M : Bufs) (a : ℕ) (ha : a + 288 ≤ 912) : P F PUnit := do
  let y ← rd M.acc (rC 288 a ha) (by decide : 0 < S288x1024.numel)
  let x ← rd M.du (rU 288 0 a (by decide) ha) (by decide : 0 < S1x288x256.numel)
  let w ← rd M.wg rW (by decide)
  let x' ← rd M.du (rU 288 1 a (by decide) ha) (by decide : 0 < S1x288x256.numel)
  let w' ← rd M.wv rW (by decide)
  let _ ← rd M.acc (rC 288 a ha) (by decide : 0 < S288x1024.numel)
  wr M.acc (rC 288 a ha) (by decide : 0 < S288x1024.numel) rfl (dhnPay288 y x w x' w')

/-- The normalised rows' gradient on rows `a` to `a + 336`. -/
def dhn336 (M : Bufs) (a : ℕ) (ha : a + 336 ≤ 912) : P F PUnit := do
  let y ← rd M.acc (rC 336 a ha) (by decide : 0 < S336x1024.numel)
  let x ← rd M.du (rU 336 0 a (by decide) ha) (by decide : 0 < S1x336x256.numel)
  let w ← rd M.wg rW (by decide)
  let x' ← rd M.du (rU 336 1 a (by decide) ha) (by decide : 0 < S1x336x256.numel)
  let w' ← rd M.wv rW (by decide)
  let _ ← rd M.acc (rC 336 a ha) (by decide : 0 < S336x1024.numel)
  wr M.acc (rC 336 a ha) (by decide : 0 < S336x1024.numel) rfl (dhnPay336 y x w x' w')

/-- A chunk of the result stored. -/
def store (M : Bufs) (c : ℕ) (hc : c < 19) (y z : FVec F S48x256 .f32) : P F PUnit := do
  let _ ← rd M.du (rU 48 0 (48 * c) (by decide) (by omega)) (by decide : 0 < S1x48x256.numel)
  wrh M.du M.hdu (rU 48 0 (48 * c) (by decide) (by omega)) (by decide : 0 < S1x48x256.numel) (pk3 (by decide) hc (by omega)) rfl (duPay y)
  let _ ← rd M.du (rU 48 1 (48 * c) (by decide) (by omega)) (by decide : 0 < S1x48x256.numel)
  wrh M.du M.hdu (rU 48 1 (48 * c) (by decide) (by omega)) (by decide : 0 < S1x48x256.numel) (pk3 (by decide) hc (by omega)) rfl (duPay z)

/-- A chunk, and what comes after it with the sums it leaves. -/
def chunk {α : Type} (M : Bufs) (T : Six F) (c : ℕ) (hc : c < 18) (K : Six F) (k : Six F → P F α) : P F α := do
  let a ← rd M.cg (rX 64 (48 * c) (by omega)) (by decide : 0 < S1x64x256.numel)
  let b ← rd M.cv (rX 64 (48 * c) (by omega)) (by decide : 0 < S1x64x256.numel)
  let x ← rd M.xg (rX 48 (48 * c) (by omega)) (by decide : 0 < S1x48x256.numel)
  let y ← rd M.xv (rX 48 (48 * c) (by omega)) (by decide : 0 < S1x48x256.numel)
  let d ← rd M.da (rD 56 (48 * c) (by omega)) (by decide : 0 < S56x256.numel)
  store M c (by omega) (vnoc T.g0 T.g1 T.g2 (dgate (win1 a) (win1 b) d)) (vnoc T.v0 T.v1 T.v2 (dval (win1 a) d))
  k (more K (rows x) (rows y) (dgate (win1 a) (win1 b) d) (dval (win1 a) d))

/-- The last chunk. -/
def chunkL {α : Type} (i : grid0.Coords) (M : Bufs) (T : Six F) (K : Six F) (k : Six F → P F α) : P F α := do
  let a ← rd M.cg (rX 48 864 (by decide)) (by decide : 0 < S1x48x256.numel)
  let a' ← rd M.cgn rN (by decide)
  let b ← rd M.cv (rX 48 864 (by decide)) (by decide : 0 < S1x48x256.numel)
  let b' ← rd M.cvn rN (by decide)
  let x ← rd M.xg (rX 48 864 (by decide)) (by decide : 0 < S1x48x256.numel)
  let y ← rd M.xv (rX 48 864 (by decide)) (by decide : 0 < S1x48x256.numel)
  let d ← rd M.da (rD 56 864 (by decide)) (by decide : 0 < S56x256.numel)
  store M 18 (by decide) (vnoc T.g0 T.g1 T.g2 (masked i (dgate (winL a a') (winL b b') d))) (vnoc T.v0 T.v1 T.v2 (masked i (dval (winL a a') d)))
  k (more K (rows x) (rows y) (masked i (dgate (winL a a') (winL b b') d)) (masked i (dval (winL a a') d)))

/-- The taps' gradients added. -/
def taps_ (i : grid0.Coords) (M : Bufs) (K : Six F) : P F PUnit := do
  let x ← rd M.dk (rQ1 i) (by decide : 0 < S1x1x1x256.numel)
  let _ ← rd M.dk (rQ1 i) (by decide : 0 < S1x1x1x256.numel)
  wr M.dk (rQ1 i) (by decide : 0 < S1x1x1x256.numel) rfl (tapPay x K.g0)
  let x ← rd M.dk (rQ2 i) (by decide : 0 < S1x1x1x256.numel)
  let _ ← rd M.dk (rQ2 i) (by decide : 0 < S1x1x1x256.numel)
  wr M.dk (rQ2 i) (by decide : 0 < S1x1x1x256.numel) rfl (tapPay x K.g1)
  let x ← rd M.dk (rQ3 i) (by decide : 0 < S1x1x1x256.numel)
  let _ ← rd M.dk (rQ3 i) (by decide : 0 < S1x1x1x256.numel)
  wr M.dk (rQ3 i) (by decide : 0 < S1x1x1x256.numel) rfl (tapPay x K.g2)
  let x ← rd M.dk (rQ4 i) (by decide : 0 < S1x1x1x256.numel)
  let _ ← rd M.dk (rQ4 i) (by decide : 0 < S1x1x1x256.numel)
  wr M.dk (rQ4 i) (by decide : 0 < S1x1x1x256.numel) rfl (tapPay x K.v0)
  let x ← rd M.dk (rQ5 i) (by decide : 0 < S1x1x1x256.numel)
  let _ ← rd M.dk (rQ5 i) (by decide : 0 < S1x1x1x256.numel)
  wr M.dk (rQ5 i) (by decide : 0 < S1x1x1x256.numel) rfl (tapPay x K.v1)
  let x ← rd M.dk (rQ6 i) (by decide : 0 < S1x1x1x256.numel)
  let _ ← rd M.dk (rQ6 i) (by decide : 0 < S1x1x1x256.numel)
  wr M.dk (rQ6 i) (by decide : 0 < S1x1x1x256.numel) rfl (tapPay x K.v2)

/-- The last block of a tile: back through the normalisation. -/
def close_ (M : Bufs) : P F PUnit := do
  let x ← rd M.hm rT (by decide)
  let a ← rd M.acc rT (by decide)
  let g ← rd M.g rG (by decide)
  let d ← rd M.dhc rT (by decide)
  let _ ← rd M.dhm rT (by decide)
  wr M.dhm rT (by decide) rfl (closePay x a g d)
  let y ← rd M.dg rG (by decide)
  let _ ← rd M.dg rG (by decide)
  wr M.dg rG (by decide) rfl (dgPay y a x)

/-- The middle of the body, -/
def middle {α : Type} (i : grid0.Coords) (M : Bufs) (T K : Six F) (k : Six F → P F α) : P F α := do
  dact304 M 0 (by decide)
  dact352 M 288 (by decide)
  chunk M T 0 (by decide) K fun K => do
  chunk M T 1 (by decide) K fun K => do
  chunk M T 2 (by decide) K fun K => do
  chunk M T 3 (by decide) K fun K => do
  chunk M T 4 (by decide) K fun K => do
  chunk M T 5 (by decide) K fun K => do
  dact304 M 624 (by decide)
  dhn288 M 0 (by decide)
  chunk M T 6 (by decide) K fun K => do
  chunk M T 7 (by decide) K fun K => do
  chunk M T 8 (by decide) K fun K => do
  chunk M T 9 (by decide) K fun K => do
  chunk M T 10 (by decide) K fun K => do
  chunk M T 11 (by decide) K fun K => do
  chunk M T 12 (by decide) K fun K => do
  dhn336 M 288 (by decide)
  chunk M T 13 (by decide) K fun K => do
  chunk M T 14 (by decide) K fun K => do
  chunk M T 15 (by decide) K fun K => do
  chunk M T 16 (by decide) K fun K => do
  chunk M T 17 (by decide) K fun K => do
  chunkL i M T K fun K => do
  dhn288 M 624 (by decide)
  k K

/-- its beginning, -/
def head (i : grid0.Coords) (M : Bufs) : P F (Σ' (_ : BitVec 32) (_ : BitVec 32) (_ : FVec F S8x256 .f32) (_ : FVec F S8x256 .f32) (_ : FVec F S8x256 .f32) (_ : FVec F S8x256 .f32)
    (_ : FVec F S8x256 .f32) (_ : FVec F S8x256 .f32) (_ : FVec F S8x256 .f32) (_ : FVec F S8x256 .f32) (_ : FVec F S8x256 .f32) (_ : FVec F S8x256 .f32) (_ : FVec F S8x256 .f32), FVec F S8x256 .f32) := do
  if k0_cond1 i = 1#1 then do
    open_ M
  else do
    pure ⟨⟩
  if k0_cond2 i = 1#1 then do
    clear_ M
  else do
    pure ⟨⟩
  taps i M

/-- the middle with its taps, -/
def mid (i : grid0.Coords) (M : Bufs) (k : P F PUnit) (t : Σ' (_ : BitVec 32) (_ : BitVec 32) (_ : FVec F S8x256 .f32) (_ : FVec F S8x256 .f32) (_ : FVec F S8x256 .f32) (_ : FVec F S8x256 .f32)
    (_ : FVec F S8x256 .f32) (_ : FVec F S8x256 .f32) (_ : FVec F S8x256 .f32) (_ : FVec F S8x256 .f32) (_ : FVec F S8x256 .f32) (_ : FVec F S8x256 .f32) (_ : FVec F S8x256 .f32), FVec F S8x256 .f32) : P F PUnit :=
  match t with
  | ⟨_, _, g0, g1, g2, v0, v1, v2, a0, a1, a2, b0, b1, b2⟩ => middle i M ⟨g0, g1, g2, v0, v1, v2⟩ ⟨a0, a1, a2, b0, b1, b2⟩ fun K => do
    taps_ i M K
    k

/-- the end, -/
def tail (i : grid0.Coords) (M : Bufs) : P F PUnit := do
  if k0_cond3 i = 1#1 then do
    close_ M
  else do
    pure ⟨⟩
  pure ⟨⟩

/-- and the body. -/
def body (i : grid0.Coords) (M : Bufs) : P F PUnit := head i M >>= mid i M (tail i M)

end Cert.Kernel5Ideal.BackFfn

end
-- ==== Proof.FfnBody.lean ====
/- The body of the fused feed-forward call, written once more in the pieces it is made of.

   At every point the body works on one tile of 912 rows and one block of 256 of the hidden columns. At the first
   block of a tile it normalises the tile and the rows above it and clears the accumulator. Then, for the gate half and
   the value half, it multiplies the normalised rows by the block's weights (`up`), takes the three-tap
   causal convolution down the rows and the gated activation (`chunk`, 48 rows at a time), and adds the
   activation's product with the down weights into the accumulator (`down`). The three row parts are interleaved.
   At the last block it adds the residual and stores the tile. `body_eq` says that this is the call's own body. -/
module

public import proofs.«01_k».proof.Proof.Rows
public import proofs.«01_k».proof.Proof.Gen.Kernel6Ideal.Frame

@[expose] public section

set_option maxRecDepth 16384

noncomputable section

namespace Cert.Kernel6Ideal.ForwardFfn

open Idealize.ShloMosaic Idealize.SL.Sem
open Cert.Kernel6Ideal Cert.Kernel6Ideal.Gen Cert.Rows

variable {F : FTy → Type} [FloatOps F]

/-- A program of the body. -/
abbrev P (F : FTy → Type) (α : Type) := Prog (TpuEff nD τ sig (Elt F) Λ₀ .tc) α

/-- The buffers the body works on: the blocks of the arguments and results at a point, then the scratch. -/
structure Bufs where
  hp : Memref sig .tc .vmem S16x1024 .f32
  hhp : hp.IsWhole
  hc : Memref sig .tc .vmem S912x1024 .f32
  hhc : hc.IsWhole
  g : Memref sig .tc .vmem S1x1024 .f32
  hg : g.IsWhole
  wg : Memref sig .tc .vmem S256x1024 .bf16
  hwg : wg.IsWhole
  wv : Memref sig .tc .vmem S256x1024 .bf16
  hwv : wv.IsWhole
  kg : Memref sig .tc .vmem S3x256 .f32
  hkg : kg.IsWhole
  kv : Memref sig .tc .vmem S3x256 .f32
  hkv : kv.IsWhole
  wd : Memref sig .tc .vmem S256x1024 .bf16
  hwd : wd.IsWhole
  out : Memref sig .tc .vmem S912x1024 .f32
  hout : out.IsWhole
  hn : Memref sig .tc .vmem S912x1024 .bf16
  hhn : hn.IsWhole
  act : Memref sig .tc .vmem S912x256 .bf16
  hact : act.IsWhole
  ux : Memref sig .tc .vmem S2x912x256 .bf16
  hux : ux.IsWhole
  uc : Memref sig .tc .vmem S2x912x256 .bf16
  huc : uc.IsWhole
  hal : Memref sig .tc .vmem S16x1024 .bf16
  hhal : hal.IsWhole
  uh : Memref sig .tc .vmem S2x8x256 .f32
  huh : uh.IsWhole
  ug : Memref sig .tc .vmem S2x912x256 .f32
  hug : ug.IsWhole
  acc : Memref sig .tc .vmem S912x1024 .f32
  hacc : acc.IsWhole

/-! ## Rectangles -/

theorem in2 {n k N K a : ℕ} (h : a + n ≤ N) (h' : k ≤ K) :
    ∀ x : Fin 2, (![a, 0] : Fin 2 → ℕ) x + (![n, k] : Fin 2 → ℕ) x ≤ (![N, K] : Fin 2 → ℕ) x := by
  intro x; match x with
  | 0 => exact h
  | 1 => show 0 + k ≤ K; omega

theorem in3 {n N k h a : ℕ} (hh : h < 2) (ha : a + n ≤ N) :
    ∀ x : Fin 3, (![h, a, 0] : Fin 3 → ℕ) x + (![1, n, k] : Fin 3 → ℕ) x ≤ (![2, N, k] : Fin 3 → ℕ) x := by
  intro x; match x with
  | 0 => show h + 1 ≤ 2; omega
  | 1 => exact ha
  | 2 => show 0 + k ≤ k; omega

/-- A whole block of weights, -/
abbrev rW : Rect S256x1024 := Rect.unit (s := S256x1024) ![0, 0] S256x1024.size (in2 (by decide) (by decide))
/-- a whole tile, -/
abbrev rT : Rect S912x1024 := Rect.unit (s := S912x1024) ![0, 0] S912x1024.size (in2 (by decide) (by decide))
/-- the sixteen rows above it, -/
abbrev rH : Rect S16x1024 := Rect.unit (s := S16x1024) ![0, 0] S16x1024.size (in2 (by decide) (by decide))
/-- a tap of the convolution, -/
abbrev rK (n : ℕ) (hn : n + 1 ≤ 3) : Rect S3x256 := Rect.unit (s := S3x256) ![n, 0] S1x256.size (in2 hn (by decide))
/-- a half of the eight rows above the tile, -/
abbrev rh (h : ℕ) (hh : h < 2) : Rect S2x8x256 := Rect.unit (s := S2x8x256) ![h, 0, 0] S1x8x256.size (in3 hh (by decide))
/-- 48 rows of a half, -/
abbrev r48 (h a : ℕ) (hh : h < 2) (ha : a + 48 ≤ 912) : Rect S2x912x256 := Rect.unit (s := S2x912x256) ![h, a, 0] S1x48x256.size (in3 hh ha)
/-- 56 rows of a half, -/
abbrev r56 (h a : ℕ) (hh : h < 2) (ha : a + 56 ≤ 912) : Rect S2x912x256 := Rect.unit (s := S2x912x256) ![h, a, 0] S1x56x256.size (in3 hh ha)
/-- 48 rows of the activation. -/
abbrev rA (a : ℕ) (ha : a + 48 ≤ 912) : Rect S912x256 := Rect.unit (s := S912x256) ![a, 0] S48x256.size (in2 ha (by decide))

theorem pk3 {h c : ℕ} (hh : h < 2) (hc : c < 19) (ha : 48 * c + 48 ≤ 912) : (r48 h (48 * c) hh ha).PackedRows (EltTy.packing .bf16) :=
  .inr ⟨(Nat.le_succ 2 : 2 ≤ 3), rfl, .inl ⟨(Dvd.intro (24 * c) (show 2 * (24 * c) = 48 * c by omega) : (2 : ℕ) ∣ 48 * c), (by decide : (2 : ℕ) ∣ 48)⟩⟩

theorem pk2 {c : ℕ} (hc : c < 19) (ha : 48 * c + 48 ≤ 912) : (rA (48 * c) ha).PackedRows (EltTy.packing .bf16) :=
  .inr ⟨(Nat.le_refl 2 : 2 ≤ 2), rfl, .inl ⟨(Dvd.intro (24 * c) (show 2 * (24 * c) = 48 * c by omega) : (2 : ℕ) ∣ 48 * c), (by decide : (2 : ℕ) ∣ 48)⟩⟩

theorem pkT : rT.PackedRows (EltTy.packing .bf16) := by decide
theorem pkH : rH.PackedRows (EltTy.packing .bf16) := by decide

/-! ## What is computed -/

/-- The normalised sixteen rows above the tile, or zeros at the first tile. -/
def halPay (i : grid0.Coords) (g : Vec F S1x1024 .f32) (x : Vec F S16x1024 .f32) : Vec F S16x1024 .bf16 :=
  shapeCast S16x1024 (Scalar.select (Scalar.cmpi .sgt (BitVec.ofNat 32 (i 0).val : BitVec 32) 0#32)
    (truncf .bf16 (mulf (mulf x (broadcastTo S16x1024 (rsqrt (addf (divf (shapeCast S16x1
        (multiReduction .add [1] S16 (mulf x x) 0x00000000#32 reduces_S16x1024_S16 (.inl rfl) rfl) shapeCasts_S16_S16x1)
        (broadcast S16x1 (Scalar.ofBits .f32 0x44800000#32))) (broadcast S16x1 (Scalar.ofBits .f32 0x358637BD#32)))) broadcasts_S16x1_S16x1024))
      (broadcastTo S16x1024 g broadcasts_S1x1024_S16x1024) : FVec F S16x1024 .f32) bitsLt_bf16_f32)
    (broadcast S16x1024 (Scalar.ofBits .bf16 0x0000#16))) shapeCasts_S16x1024_S16x1024

/-- The normalised tile. -/
def hnPay (g : Vec F S1x1024 .f32) (x : Vec F S912x1024 .f32) : Vec F S912x1024 .bf16 :=
  truncf .bf16 (mulf (mulf x (broadcastTo S912x1024 (rsqrt (addf (divf (shapeCast S912x1
        (multiReduction .add [1] S912 (mulf x x) 0x00000000#32 reduces_S912x1024_S912 (.inl rfl) rfl) shapeCasts_S912_S912x1)
        (broadcast S912x1 (Scalar.ofBits .f32 0x44800000#32))) (broadcast S912x1 (Scalar.ofBits .f32 0x358637BD#32)))) broadcasts_S912x1_S912x1024))
      (broadcastTo S912x1024 g broadcasts_S1x1024_S912x1024) : FVec F S912x1024 .f32) bitsLt_bf16_f32

/-- The cleared accumulator. -/
def zeroPay : Vec F S912x1024 .f32 :=
  shapeCast S912x1024 (broadcast S912x1024 (Scalar.ofBits .f32 0x00000000#32)) shapeCasts_S912x1024_S912x1024

/-- A tap, repeated over eight rows. -/
def tap (x : Vec F S1x256 .f32) : FVec F S8x256 .f32 :=
  broadcastTo S8x256 (shapeCast S1x256 x shapeCasts_S1x256_S1x256 : FVec F S1x256 .f32) broadcasts_S1x256_S8x256

/-- The up-projection of the rows above the tile: the last eight of the sixteen. -/
def uhPre (x : Vec F S16x1024 .bf16) (w : Vec F S256x1024 .bf16) : FVec F S8x256 .f32 :=
  extractStridedSlice S8x256 ![8, 0] (matmul dot_S16x1024_S256x1024_S16x256_1_1_0_0_n_n none
    (x : FVec F S16x1024 .bf16) w (constant S16x256 .f32 0x00000000#32)) slices_S16x256_o8_0_S8x256
/-- The same, as it is stored. -/
def uhPay (x : FVec F S8x256 .f32) : Vec F S1x8x256 .f32 := shapeCast S1x8x256 x shapeCasts_S8x256_S1x8x256

/-- The up-projection of 288 rows, as it is stored. -/
def upPay288 (x : Vec F S288x1024 .bf16) (w : Vec F S256x1024 .bf16) : Vec F S1x288x256 .f32 :=
  shapeCast S1x288x256 (matmul dot_S288x1024_S256x1024_S288x256_1_1_0_0_n_n none
    (shapeCast S288x1024 x shapeCasts_S288x1024_S288x1024 : FVec F S288x1024 .bf16) w (constant S288x256 .f32 0x00000000#32))
    shapeCasts_S288x256_S1x288x256

/-- The down-projection of 288 rows, added to what was accumulated. -/
def downPay288 (a : Vec F S288x1024 .f32) (x : Vec F S288x256 .bf16) (w : Vec F S256x1024 .bf16) : Vec F S288x1024 .f32 :=
  shapeCast S288x1024 (addf a (matmul dot_S288x256_S256x1024_S288x1024_1_0_0_1_n_n none
    (shapeCast S288x256 x shapeCasts_S288x256_S288x256 : FVec F S288x256 .bf16) w (constant S288x1024 .f32 0x00000000#32)))
    shapeCasts_S288x1024_S288x1024

/-- The up-projection of 336 rows, as it is stored. -/
def upPay336 (x : Vec F S336x1024 .bf16) (w : Vec F S256x1024 .bf16) : Vec F S1x336x256 .f32 :=
  shapeCast S1x336x256 (matmul dot_S336x1024_S256x1024_S336x256_1_1_0_0_n_n none
    (shapeCast S336x1024 x shapeCasts_S336x1024_S336x1024 : FVec F S336x1024 .bf16) w (constant S336x256 .f32 0x00000000#32))
    shapeCasts_S336x256_S1x336x256

/-- The down-projection of 336 rows, added to what was accumulated. -/
def downPay336 (a : Vec F S336x1024 .f32) (x : Vec F S336x256 .bf16) (w : Vec F S256x1024 .bf16) : Vec F S336x1024 .f32 :=
  shapeCast S336x1024 (addf a (matmul dot_S336x256_S256x1024_S336x1024_1_0_0_1_n_n none
    (shapeCast S336x256 x shapeCasts_S336x256_S336x256 : FVec F S336x256 .bf16) w (constant S336x1024 .f32 0x00000000#32)))
    shapeCasts_S336x1024_S336x1024

/-- The 56 rows the first chunk looks at: eight rows above the tile and the tile's first 48. -/
def win0 (a : Vec F S1x8x256 .f32) (b : Vec F S1x48x256 .f32) : FVec F S56x256 .f32 :=
  concatenate S56x256 0 [⟨S8x256, shapeCast S8x256 a shapeCasts_S1x8x256_S8x256⟩, ⟨S48x256, shapeCast S48x256 b shapeCasts_S1x48x256_S48x256⟩]
    concatenates_S8x256_S48x256_S56x256_d0
/-- The 56 rows a later chunk looks at. -/
def win1 (a : Vec F S1x56x256 .f32) : FVec F S56x256 .f32 := shapeCast S56x256 a shapeCasts_S1x56x256_S56x256

/-- Eight rows, six times over. -/
def six (k : FVec F S8x256 .f32) : FVec F S48x256 .f32 :=
  concatenate S48x256 0 [⟨S8x256, k⟩, ⟨S8x256, k⟩, ⟨S8x256, k⟩, ⟨S8x256, k⟩, ⟨S8x256, k⟩, ⟨S8x256, k⟩]
    concatenates_S8x256_S8x256_S8x256_S8x256_S8x256_S8x256_S48x256_d0

/-- The three-tap convolution of 48 rows. -/
def conv (k0 k1 k2 : FVec F S8x256 .f32) (w : FVec F S56x256 .f32) : FVec F S48x256 .f32 :=
  addf (addf (mulf (six k0) (extractStridedSlice S48x256 ![6, 0] w slices_S56x256_o6_0_S48x256))
    (mulf (six k1) (extractStridedSlice S48x256 ![7, 0] w slices_S56x256_o7_0_S48x256)))
    (mulf (six k2) (extractStridedSlice S48x256 ![8, 0] w slices_S56x256_o8_0_S48x256))

/-- The up-projection's 48 rows, rounded and as they are stored. -/
def uxPay (w : FVec F S56x256 .f32) : Vec F S1x48x256 .bf16 :=
  shapeCast S1x48x256 (truncf .bf16 (extractStridedSlice S48x256 ![8, 0] w slices_S56x256_o8_0_S48x256) bitsLt_bf16_f32) shapeCasts_S48x256_S1x48x256
/-- The convolution's 48 rows, rounded and as they are stored. -/
def ucPay (y : FVec F S48x256 .f32) : Vec F S1x48x256 .bf16 :=
  shapeCast S1x48x256 (truncf .bf16 y bitsLt_bf16_f32) shapeCasts_S48x256_S1x48x256
/-- The gated activation of 48 rows. -/
def actPay (a b : FVec F S48x256 .f32) : Vec F S48x256 .bf16 :=
  truncf .bf16 (mulf (mulf a (logistic a)) b) bitsLt_bf16_f32

/-- The accumulator with the residual. -/
def closePay (a x : Vec F S912x1024 .f32) : Vec F S912x1024 .f32 := addf (φ := .f32) a x

/-! ## The pieces of the body -/

/-- The first block of a tile: normalise, clear. -/
def open_ (i : grid0.Coords) (M : Bufs) : P F PUnit := do
  let g ← rd M.g (Rect.unit (s := S1x1024) ![0, 0] S1x1024.size (in2 (by decide) (by decide))) (by decide)
  let x ← rd M.hp rH (by decide)
  let _ ← rd M.hal rH (by decide)
  wrh M.hal M.hhal rH (by decide) pkH rfl (halPay i g x)
  let x ← rd M.hc rT (by decide)
  let _ ← rd M.hn rT (by decide)
  wrh M.hn M.hhn rT (by decide) pkT rfl (hnPay g x)
  let _ ← rd M.acc rT (by decide)
  wr M.acc rT (by decide) rfl zeroPay

/-- The taps. -/
structure Taps (F : FTy → Type) where
  g0 : FVec F S8x256 .f32
  g1 : FVec F S8x256 .f32
  g2 : FVec F S8x256 .f32
  v0 : FVec F S8x256 .f32
  v1 : FVec F S8x256 .f32
  v2 : FVec F S8x256 .f32

/-- The taps read, and the first half of the rows above the tile. -/
def taps (i : grid0.Coords) (M : Bufs) : P F (Σ' (_ : BitVec 32) (_ : FVec F S8x256 .f32) (_ : FVec F S8x256 .f32)
    (_ : FVec F S8x256 .f32) (_ : FVec F S8x256 .f32) (_ : FVec F S8x256 .f32) (_ : FVec F S8x256 .f32), FVec F S8x256 .f32) := do
  let g0 ← rd M.kg (rK 0 (by decide)) (by decide)
  let g1 ← rd M.kg (rK 1 (by decide)) (by decide)
  let g2 ← rd M.kg (rK 2 (by decide)) (by decide)
  let v0 ← rd M.kv (rK 0 (by decide)) (by decide)
  let v1 ← rd M.kv (rK 1 (by decide)) (by decide)
  let v2 ← rd M.kv (rK 2 (by decide)) (by decide)
  let x ← rd M.hal rH (by decide)
  let w ← rd M.wg rW (by decide)
  let _ ← rd M.uh (rh 0 (by decide)) (by decide)
  wr M.uh (rh 0 (by decide)) (by decide) rfl (uhPay (uhPre x w))
  let w ← rd M.wv rW (by decide)
  pure ⟨BitVec.ofNat 32 (i 1).val, tap g0, tap g1, tap g2, tap v0, tap v1, tap v2, uhPre x w⟩

/-- The second half of the rows above the tile. -/
def halo (M : Bufs) (z : FVec F S8x256 .f32) : P F PUnit := do
  let _ ← rd M.uh (rh 1 (by decide)) (by decide)
  wr M.uh (rh 1 (by decide)) (by decide) rfl (uhPay z)

/-- The two halves of the up-projection on rows `a` to `a + 288` of the tile: the gate's product, then the value's. -/
def up288 (M : Bufs) (a : ℕ) (ha : a + 288 ≤ 912) : P F PUnit := do
  let x ← rd M.hn (Rect.unit (s := S912x1024) ![a, 0] S288x1024.size (in2 ha (by decide))) (by decide : 0 < S288x1024.numel)
  let w ← rd M.wg rW (by decide)
  let _ ← rd M.ug (Rect.unit (s := S2x912x256) ![0, a, 0] S1x288x256.size (in3 (by decide) ha)) (by decide : 0 < S1x288x256.numel)
  wr M.ug (Rect.unit (s := S2x912x256) ![0, a, 0] S1x288x256.size (in3 (by decide) ha)) (by decide : 0 < S1x288x256.numel) rfl (upPay288 x w)
  let x ← rd M.hn (Rect.unit (s := S912x1024) ![a, 0] S288x1024.size (in2 ha (by decide))) (by decide : 0 < S288x1024.numel)
  let w ← rd M.wv rW (by decide)
  let _ ← rd M.ug (Rect.unit (s := S2x912x256) ![1, a, 0] S1x288x256.size (in3 (by decide) ha)) (by decide : 0 < S1x288x256.numel)
  wr M.ug (Rect.unit (s := S2x912x256) ![1, a, 0] S1x288x256.size (in3 (by decide) ha)) (by decide : 0 < S1x288x256.numel) rfl (upPay288 x w)

/-- The two halves of the up-projection on rows `a` to `a + 336` of the tile: the gate's product, then the value's. -/
def up336 (M : Bufs) (a : ℕ) (ha : a + 336 ≤ 912) : P F PUnit := do
  let x ← rd M.hn (Rect.unit (s := S912x1024) ![a, 0] S336x1024.size (in2 ha (by decide))) (by decide : 0 < S336x1024.numel)
  let w ← rd M.wg rW (by decide)
  let _ ← rd M.ug (Rect.unit (s := S2x912x256) ![0, a, 0] S1x336x256.size (in3 (by decide) ha)) (by decide : 0 < S1x336x256.numel)
  wr M.ug (Rect.unit (s := S2x912x256) ![0, a, 0] S1x336x256.size (in3 (by decide) ha)) (by decide : 0 < S1x336x256.numel) rfl (upPay336 x w)
  let x ← rd M.hn (Rect.unit (s := S912x1024) ![a, 0] S336x1024.size (in2 ha (by decide))) (by decide : 0 < S336x1024.numel)
  let w ← rd M.wv rW (by decide)
  let _ ← rd M.ug (Rect.unit (s := S2x912x256) ![1, a, 0] S1x336x256.size (in3 (by decide) ha)) (by decide : 0 < S1x336x256.numel)
  wr M.ug (Rect.unit (s := S2x912x256) ![1, a, 0] S1x336x256.size (in3 (by decide) ha)) (by decide : 0 < S1x336x256.numel) rfl (upPay336 x w)

/-- One half of a chunk stored: the rows themselves, then their convolution. -/
def half (M : Bufs) (c h : ℕ) (hc : c < 19) (hh : h < 2) (w : FVec F S56x256 .f32) (y : FVec F S48x256 .f32) : P F PUnit := do
  let _ ← rd M.ux (r48 h (48 * c) hh (by omega)) (by decide : 0 < S1x48x256.numel)
  wrh M.ux M.hux (r48 h (48 * c) hh (by omega)) (by decide : 0 < S1x48x256.numel) (pk3 hh hc (by omega)) rfl (uxPay w)
  let _ ← rd M.uc (r48 h (48 * c) hh (by omega)) (by decide : 0 < S1x48x256.numel)
  wrh M.uc M.huc (r48 h (48 * c) hh (by omega)) (by decide : 0 < S1x48x256.numel) (pk3 hh hc (by omega)) rfl (ucPay y)

/-- The activation of a chunk stored. -/
def gate (M : Bufs) (c : ℕ) (hc : c < 19) (a b : FVec F S48x256 .f32) : P F PUnit := do
  let _ ← rd M.act (rA (48 * c) (by omega)) (by decide : 0 < S48x256.numel)
  wrh M.act M.hact (rA (48 * c) (by omega)) (by decide : 0 < S48x256.numel) (pk2 hc (by omega)) rfl (actPay a b)

/-- The first chunk. -/
def chunk0 (M : Bufs) (T : Taps F) : P F PUnit := do
  let a ← rd M.uh (rh 0 (by decide)) (by decide)
  let b ← rd M.ug (r48 0 0 (by decide) (by decide)) (by decide)
  half M 0 0 (by decide) (by decide) (win0 a b) (conv T.g0 T.g1 T.g2 (win0 a b))
  let a' ← rd M.uh (rh 1 (by decide)) (by decide)
  let b' ← rd M.ug (r48 1 0 (by decide) (by decide)) (by decide)
  half M 0 1 (by decide) (by decide) (win0 a' b') (conv T.v0 T.v1 T.v2 (win0 a' b'))
  gate M 0 (by decide) (conv T.g0 T.g1 T.g2 (win0 a b)) (conv T.v0 T.v1 T.v2 (win0 a' b'))

/-- A later chunk. -/
def chunk (M : Bufs) (T : Taps F) (c : ℕ) (h1 : 1 ≤ c) (hc : c < 19) : P F PUnit := do
  let a ← rd M.ug (r56 0 (48 * c - 8) (by decide) (by omega)) (by decide : 0 < S1x56x256.numel)
  half M c 0 hc (by decide) (win1 a) (conv T.g0 T.g1 T.g2 (win1 a))
  let b ← rd M.ug (r56 1 (48 * c - 8) (by decide) (by omega)) (by decide : 0 < S1x56x256.numel)
  half M c 1 hc (by decide) (win1 b) (conv T.v0 T.v1 T.v2 (win1 b))
  gate M c hc (conv T.g0 T.g1 T.g2 (win1 a)) (conv T.v0 T.v1 T.v2 (win1 b))

/-- The down-projection of rows `a` to `a + 288`, added into the accumulator. -/
def down288 (M : Bufs) (a : ℕ) (ha : a + 288 ≤ 912) : P F PUnit := do
  let y ← rd M.acc (Rect.unit (s := S912x1024) ![a, 0] S288x1024.size (in2 ha (by decide))) (by decide : 0 < S288x1024.numel)
  let x ← rd M.act (Rect.unit (s := S912x256) ![a, 0] S288x256.size (in2 ha (by decide))) (by decide : 0 < S288x256.numel)
  let w ← rd M.wd rW (by decide)
  let _ ← rd M.acc (Rect.unit (s := S912x1024) ![a, 0] S288x1024.size (in2 ha (by decide))) (by decide : 0 < S288x1024.numel)
  wr M.acc (Rect.unit (s := S912x1024) ![a, 0] S288x1024.size (in2 ha (by decide))) (by decide : 0 < S288x1024.numel) rfl (downPay288 y x w)

/-- The down-projection of rows `a` to `a + 336`, added into the accumulator. -/
def down336 (M : Bufs) (a : ℕ) (ha : a + 336 ≤ 912) : P F PUnit := do
  let y ← rd M.acc (Rect.unit (s := S912x1024) ![a, 0] S336x1024.size (in2 ha (by decide))) (by decide : 0 < S336x1024.numel)
  let x ← rd M.act (Rect.unit (s := S912x256) ![a, 0] S336x256.size (in2 ha (by decide))) (by decide : 0 < S336x256.numel)
  let w ← rd M.wd rW (by decide)
  let _ ← rd M.acc (Rect.unit (s := S912x1024) ![a, 0] S336x1024.size (in2 ha (by decide))) (by decide : 0 < S336x1024.numel)
  wr M.acc (Rect.unit (s := S912x1024) ![a, 0] S336x1024.size (in2 ha (by decide))) (by decide : 0 < S336x1024.numel) rfl (downPay336 y x w)

/-- The last block of a tile: add the residual and store. -/
def close_ (M : Bufs) : P F PUnit := do
  let a ← rd M.acc rT (by decide)
  let x ← rd M.hc rT (by decide)
  let _ ← rd M.out rT (by decide)
  wr M.out rT (by decide) rfl (closePay a x)

/-- The middle of the body: the products, the convolutions, the activation, the accumulation. -/
def middle (M : Bufs) (T : Taps F) (z : FVec F S8x256 .f32) (k : P F PUnit) : P F PUnit := do
  halo M z
  up288 M 0 (by decide)
  up336 M 288 (by decide)
  chunk0 M T
  chunk M T 1 (by decide) (by decide)
  chunk M T 2 (by decide) (by decide)
  chunk M T 3 (by decide) (by decide)
  chunk M T 4 (by decide) (by decide)
  chunk M T 5 (by decide) (by decide)
  up288 M 624 (by decide)
  down288 M 0 (by decide)
  chunk M T 6 (by decide) (by decide)
  chunk M T 7 (by decide) (by decide)
  chunk M T 8 (by decide) (by decide)
  chunk M T 9 (by decide) (by decide)
  chunk M T 10 (by decide) (by decide)
  chunk M T 11 (by decide) (by decide)
  chunk M T 12 (by decide) (by decide)
  down336 M 288 (by decide)
  chunk M T 13 (by decide) (by decide)
  chunk M T 14 (by decide) (by decide)
  chunk M T 15 (by decide) (by decide)
  chunk M T 16 (by decide) (by decide)
  chunk M T 17 (by decide) (by decide)
  chunk M T 18 (by decide) (by decide)
  down288 M 624 (by decide)
  k

/-- All up to the second half of the rows above the tile. -/
def head (i : grid0.Coords) (M : Bufs) : P F (Σ' (_ : BitVec 32) (_ : FVec F S8x256 .f32) (_ : FVec F S8x256 .f32)
    (_ : FVec F S8x256 .f32) (_ : FVec F S8x256 .f32) (_ : FVec F S8x256 .f32) (_ : FVec F S8x256 .f32), FVec F S8x256 .f32) := do
  if k0_cond1 i = 1#1 then do
    open_ i M
  else do
    pure ⟨⟩
  taps i M

/-- The middle with its taps. -/
def mid (M : Bufs) (k : P F PUnit) (t : Σ' (_ : BitVec 32) (_ : FVec F S8x256 .f32) (_ : FVec F S8x256 .f32)
    (_ : FVec F S8x256 .f32) (_ : FVec F S8x256 .f32) (_ : FVec F S8x256 .f32) (_ : FVec F S8x256 .f32), FVec F S8x256 .f32) : P F PUnit :=
  match t with
  | ⟨_, g0, g1, g2, v0, v1, v2, z⟩ => middle M ⟨g0, g1, g2, v0, v1, v2⟩ z k

/-- The end of the body. -/
def tail (i : grid0.Coords) (M : Bufs) : P F PUnit := do
  if k0_cond2 i = 1#1 then do
    close_ M
  else do
    pure ⟨⟩
  pure ⟨⟩

/-- The body. -/
def body (i : grid0.Coords) (M : Bufs) : P F PUnit := head i M >>= mid M (tail i M)

set_option maxHeartbeats 4000000 in
/-- It is the call's own body. -/
theorem body_eq (i : grid0.Coords) (M : Bufs) :
    cc0_ffn_fwd (F := F) i M.hp M.hhp M.hc M.hhc M.g M.hg M.wg M.hwg M.wv M.hwv M.kg M.hkg M.kv M.hkv M.wd M.hwd M.out M.hout
      M.hn M.hhn M.act M.hact M.ux M.hux M.uc M.huc M.hal M.hhal M.uh M.huh M.ug M.hug M.acc M.hacc = body i M := rfl

end Cert.Kernel6Ideal.ForwardFfn

end
-- ==== Proof.FfnRun.lean ====
/- What the body of the feed-forward call leaves in each buffer, and that it does.

   The contents are given index by index (`upG`, `uxG`, `ucG`, `actG`, `mix`), each by what the piece of the body that
   writes the index stores there. `Mid c M I n k d` describes the middle of the body: the up-projection has been
   stored on the first `n` rows, the convolution and the activation on the first `k`, and the down-projection has been
   added on the first `d`. Every piece takes one such state to the next. -/
module

public import proofs.«01_k».proof.Proof.FfnBody
public import Idealize.ShloMosaic.Lib.Pointwise.Index

@[expose] public section

set_option maxRecDepth 16384

noncomputable section

namespace Cert.Kernel6Ideal.ForwardFfn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel6Ideal Cert.Kernel6Ideal.Gen Cert.Rows

variable {F : FTy → Type} [FloatOps F]

local notation "𝕄" => MT nD τ sig Unit (Elt F) ℕ (UR sig nD τ) ℕ

/-! ## Contents -/

/-- What the middle of the body starts from: the normalised tile and the rows above it, the blocks of weights, the
    taps, and the accumulator. -/
structure In (F : FTy → Type) where
  hn : Vec F S912x1024 .bf16
  hal : Vec F S16x1024 .bf16
  wg : Vec F S256x1024 .bf16
  wv : Vec F S256x1024 .bf16
  wd : Vec F S256x1024 .bf16
  T : Taps F
  acc : Vec F S912x1024 .f32

variable (I : In F)

/-- The weights of a half. -/
def In.w (h : ℕ) : Vec F S256x1024 .bf16 := if h = 0 then I.wg else I.wv

/-- The up-projection of the rows above the tile. -/
def uhG : Vec F S2x8x256 .f32 := fun i => uhPay (uhPre I.hal (I.w (i 0).val)) (ix3 0 (i 1) (i 2))

/-- The rows of the normalised tile in a row part. -/
def rows288 (a : ℕ) (ha : a + 288 ≤ 912) : Vec F S288x1024 .bf16 := ld I.hn (Rect.unit (s := S912x1024) ![a, 0] S288x1024.size (in2 ha (by decide)))
def rows336 (a : ℕ) (ha : a + 336 ≤ 912) : Vec F S336x1024 .bf16 := ld I.hn (Rect.unit (s := S912x1024) ![a, 0] S336x1024.size (in2 ha (by decide)))

/-- The up-projection of the tile. -/
def upG : Vec F S2x912x256 .f32 := fun i =>
  if h : (i 1).val < 288 then upPay288 (rows288 I 0 (by decide)) (I.w (i 0).val) (ix3 0 ⟨(i 1).val, h⟩ (i 2))
  else if h' : (i 1).val < 624 then upPay336 (rows336 I 288 (by decide)) (I.w (i 0).val) (ix3 0 ⟨(i 1).val - 288, by omega⟩ (i 2))
  else upPay288 (rows288 I 624 (by decide)) (I.w (i 0).val)
    (ix3 0 ⟨(i 1).val - 624, by have h9 : (i 1).val < 912 := (i 1).isLt; omega⟩ (i 2))

/-- The 56 rows a chunk of a half looks at. -/
def win (h : ℕ) (hh : h < 2) (c : ℕ) (hc : c < 19) : FVec F S56x256 .f32 :=
  if c0 : c = 0 then win0 (ld (uhG I) (rh h hh)) (ld (upG I) (r48 h 0 hh (by decide)))
  else win1 (ld (upG I) (r56 h (48 * c - 8) hh (by omega)))

/-- The convolution of a chunk of a half. -/
def cv (h : ℕ) (hh : h < 2) (c : ℕ) (hc : c < 19) : FVec F S48x256 .f32 :=
  if h = 0 then conv I.T.g0 I.T.g1 I.T.g2 (win I h hh c hc) else conv I.T.v0 I.T.v1 I.T.v2 (win I h hh c hc)

/-- The up-projection as it is kept, -/
def uxG : Vec F S2x912x256 .bf16 := fun i =>
  uxPay (win I (i 0).val (i 0).isLt ((i 1).val / 48) (by have h9 : (i 1).val < 912 := (i 1).isLt; omega))
    (ix3 0 ⟨(i 1).val % 48, Nat.mod_lt _ (by decide)⟩ (i 2))
/-- the convolution as it is kept, -/
def ucG : Vec F S2x912x256 .bf16 := fun i =>
  ucPay (cv I (i 0).val (i 0).isLt ((i 1).val / 48) (by have h9 : (i 1).val < 912 := (i 1).isLt; omega))
    (ix3 0 ⟨(i 1).val % 48, Nat.mod_lt _ (by decide)⟩ (i 2))
/-- the activation. -/
def actG : Vec F S912x256 .bf16 := fun i =>
  actPay (cv I 0 (by decide) ((i 0).val / 48) (by have h9 : (i 0).val < 912 := (i 0).isLt; omega))
    (cv I 1 (by decide) ((i 0).val / 48) (by have h9 : (i 0).val < 912 := (i 0).isLt; omega))
    (ix2 ⟨(i 0).val % 48, Nat.mod_lt _ (by decide)⟩ (i 1))

/-- The accumulator after a row part. -/
def dn288 (a : ℕ) (ha : a + 288 ≤ 912) : Vec F S288x1024 .f32 :=
  downPay288 (ld I.acc (Rect.unit (s := S912x1024) ![a, 0] S288x1024.size (in2 ha (by decide))))
    (ld (actG I) (Rect.unit (s := S912x256) ![a, 0] S288x256.size (in2 ha (by decide)))) I.wd
def dn336 (a : ℕ) (ha : a + 336 ≤ 912) : Vec F S336x1024 .f32 :=
  downPay336 (ld I.acc (Rect.unit (s := S912x1024) ![a, 0] S336x1024.size (in2 ha (by decide))))
    (ld (actG I) (Rect.unit (s := S912x256) ![a, 0] S336x256.size (in2 ha (by decide)))) I.wd

/-- The accumulator at the end. -/
def accG : Vec F S912x1024 .f32 := fun i =>
  if h : (i 0).val < 288 then dn288 I 0 (by decide) (ix2 ⟨(i 0).val, h⟩ (i 1))
  else if h' : (i 0).val < 624 then dn336 I 288 (by decide) (ix2 ⟨(i 0).val - 288, by omega⟩ (i 1))
  else dn288 I 624 (by decide) (ix2 ⟨(i 0).val - 624, by have h9 : (i 0).val < 912 := (i 0).isLt; omega⟩ (i 1))

/-- The accumulator with the first `d` rows done. -/
def mix (d : ℕ) : Vec F S912x1024 .f32 := fun i => if (i 0).val < d then accG I i else I.acc i

/-- The first `n` rows. -/
abbrev R3 (n : ℕ) : S2x912x256.Idx → Prop := fun i => (i 1).val < n
abbrev R2 (n : ℕ) : S912x256.Idx → Prop := fun i => (i 0).val < n

/-! ## Coordinates -/

theorem emb_val {s : Shape} (off size : Fin s.rank → ℕ) (inb) (y) (a : Fin s.rank) :
    ((Rect.unit off size inb).emb y a).val = off a + (y a).val := Idealize.ShloMosaic.ValueKit.rect_emb_unit_val ..

theorem emb3 {N n k h a : ℕ} (inb) (y) :
    ((Rect.unit (s := ⟨3, ![2, N, k]⟩) ![h, a, 0] ![1, n, k] inb).emb y 0).val = h
    ∧ ((Rect.unit (s := ⟨3, ![2, N, k]⟩) ![h, a, 0] ![1, n, k] inb).emb y 1).val = a + (y 1).val
    ∧ ((Rect.unit (s := ⟨3, ![2, N, k]⟩) ![h, a, 0] ![1, n, k] inb).emb y 2).val = (y 2).val := by
  refine ⟨(emb_val _ _ inb y 0).trans ?_, emb_val _ _ inb y 1, (emb_val _ _ inb y 2).trans (Nat.zero_add _)⟩
  have b0 : (y 0).val < 1 := (y 0).isLt
  show h + (y 0).val = h
  omega

theorem emb2 {N n k K a : ℕ} (inb) (y) :
    ((Rect.unit (s := ⟨2, ![N, K]⟩) ![a, 0] ![n, k] inb).emb y 0).val = a + (y 0).val
    ∧ ((Rect.unit (s := ⟨2, ![N, K]⟩) ![a, 0] ![n, k] inb).emb y 1).val = (y 1).val :=
  ⟨emb_val _ _ inb y 0, (emb_val _ _ inb y 1).trans (Nat.zero_add _)⟩

theorem emb_full {n k : ℕ} (inb) (y) : (Rect.unit (s := ⟨2, ![n, k]⟩) ![0, 0] ![n, k] inb).emb y = y := by
  funext x; apply Fin.ext; rw [emb_val]
  match x with
  | ⟨0, _⟩ => exact Nat.zero_add _
  | ⟨1, _⟩ => exact Nat.zero_add _

theorem ld_full {n k : ℕ} {α : Type} (x : (⟨2, ![n, k]⟩ : Shape).Idx → α) (inb) : ld x (Rect.unit (s := ⟨2, ![n, k]⟩) ![0, 0] ![n, k] inb) = x :=
  funext fun y => congrArg x (emb_full inb y)

theorem st_full {n k : ℕ} {α : Type} (x w : (⟨2, ![n, k]⟩ : Shape).Idx → α) (inb) : st (Rect.unit (s := ⟨2, ![n, k]⟩) ![0, 0] ![n, k] inb) w x = w :=
  st_whole _ w x w (fun y => congrArg w (emb_full inb y).symm) (fun i => ⟨i, emb_full inb i⟩)

theorem ix3_of {n k : ℕ} (y : (⟨3, ![1, n, k]⟩ : Shape).Idx) (a : Fin n) (b : Fin k) (ha : a.val = (y 1).val) (hb : b.val = (y 2).val) :
    ix3 0 a b = y := by
  funext x; match x with
  | ⟨0, _⟩ => exact Fin.ext (by have b0 : (y 0).val < 1 := (y 0).isLt; show 0 = (y 0).val; omega)
  | ⟨1, _⟩ => exact Fin.ext ha
  | ⟨2, _⟩ => exact Fin.ext hb

theorem ix2_of {n k : ℕ} (y : (⟨2, ![n, k]⟩ : Shape).Idx) (a : Fin n) (b : Fin k) (ha : a.val = (y 0).val) (hb : b.val = (y 1).val) :
    ix2 a b = y := by
  funext x; match x with
  | ⟨0, _⟩ => exact Fin.ext ha
  | ⟨1, _⟩ => exact Fin.ext hb

theorem up288_at0 (h : ℕ) (i : S2x912x256.Idx) (y : (⟨3, ![1, 288, 256]⟩ : Shape).Idx) (e0 : (i 0).val = h) (e1 : (i 1).val = 0 + (y 1).val)
    (e2 : (i 2).val = (y 2).val) : upPay288 (rows288 I 0 (by decide)) (I.w h) y = upG I i := by
  have b1 : (y 1).val < 288 := (y 1).isLt
  unfold upG
  rw [dif_pos (by omega)]
  rw [e0]
  exact congrArg _ (ix3_of y _ _ (by show (i 1).val = (y 1).val; omega) e2).symm

theorem up336_at288 (h : ℕ) (i : S2x912x256.Idx) (y : (⟨3, ![1, 336, 256]⟩ : Shape).Idx) (e0 : (i 0).val = h) (e1 : (i 1).val = 288 + (y 1).val)
    (e2 : (i 2).val = (y 2).val) : upPay336 (rows336 I 288 (by decide)) (I.w h) y = upG I i := by
  have b1 : (y 1).val < 336 := (y 1).isLt
  unfold upG
  rw [dif_neg (by omega), dif_pos (by omega)]
  rw [e0]
  exact congrArg _ (ix3_of y _ _ (by show (i 1).val - 288 = (y 1).val; omega) e2).symm

theorem up288_at624 (h : ℕ) (i : S2x912x256.Idx) (y : (⟨3, ![1, 288, 256]⟩ : Shape).Idx) (e0 : (i 0).val = h) (e1 : (i 1).val = 624 + (y 1).val)
    (e2 : (i 2).val = (y 2).val) : upPay288 (rows288 I 624 (by decide)) (I.w h) y = upG I i := by
  have b1 : (y 1).val < 288 := (y 1).isLt
  unfold upG
  rw [dif_neg (by omega), dif_neg (by omega)]
  rw [e0]
  exact congrArg _ (ix3_of y _ _ (by show (i 1).val - 624 = (y 1).val; omega) e2).symm

theorem dn288_at0 (i : S912x1024.Idx) (y : (⟨2, ![288, 1024]⟩ : Shape).Idx) (e0 : (i 0).val = 0 + (y 0).val) (e1 : (i 1).val = (y 1).val) :
    dn288 I 0 (by decide) y = accG I i := by
  have b0 : (y 0).val < 288 := (y 0).isLt
  unfold accG
  rw [dif_pos (by omega)]
  exact congrArg _ (ix2_of y _ _ (by show (i 0).val = (y 0).val; omega) e1).symm

theorem dn336_at288 (i : S912x1024.Idx) (y : (⟨2, ![336, 1024]⟩ : Shape).Idx) (e0 : (i 0).val = 288 + (y 0).val) (e1 : (i 1).val = (y 1).val) :
    dn336 I 288 (by decide) y = accG I i := by
  have b0 : (y 0).val < 336 := (y 0).isLt
  unfold accG
  rw [dif_neg (by omega), dif_pos (by omega)]
  exact congrArg _ (ix2_of y _ _ (by show (i 0).val - 288 = (y 0).val; omega) e1).symm

theorem dn288_at624 (i : S912x1024.Idx) (y : (⟨2, ![288, 1024]⟩ : Shape).Idx) (e0 : (i 0).val = 624 + (y 0).val) (e1 : (i 1).val = (y 1).val) :
    dn288 I 624 (by decide) y = accG I i := by
  have b0 : (y 0).val < 288 := (y 0).isLt
  unfold accG
  rw [dif_neg (by omega), dif_neg (by omega)]
  exact congrArg _ (ix2_of y _ _ (by show (i 0).val - 624 = (y 0).val; omega) e1).symm

theorem mem3 {n k h a : ℕ} (inb) (i : (⟨3, ![2, 912, k]⟩ : Shape).Idx) (h0 : h ≤ (i 0).val ∧ (i 0).val < h + 1) (h1 : a ≤ (i 1).val ∧ (i 1).val < a + n) :
    ∃ y, (Rect.unit (s := ⟨3, ![2, 912, k]⟩) ![h, a, 0] ![1, n, k] inb).emb y = i :=
  mem_unit _ _ inb i fun x => match x with
    | ⟨0, _⟩ => h0
    | ⟨1, _⟩ => h1
    | ⟨2, _⟩ => ⟨Nat.zero_le _, lt_of_lt_of_eq (i 2).isLt (Nat.zero_add k).symm⟩

theorem mem2 {n N k a : ℕ} (inb) (i : (⟨2, ![N, k]⟩ : Shape).Idx) (h1 : a ≤ (i 0).val ∧ (i 0).val < a + n) :
    ∃ y, (Rect.unit (s := ⟨2, ![N, k]⟩) ![a, 0] ![n, k] inb).emb y = i :=
  mem_unit _ _ inb i fun x => match x with
    | ⟨0, _⟩ => h1
    | ⟨1, _⟩ => ⟨Nat.zero_le _, lt_of_lt_of_eq (i 1).isLt (Nat.zero_add k).symm⟩

/-- Two stores, one in each half, of the rows from `a` on. -/
theorem two {e : EltTy} {n a : ℕ} {x G : Vec F S2x912x256 e} (ha : a + n ≤ 912) (hx : Agree (R3 a) x G) (w0 w1 : (⟨3, ![1, n, 256]⟩ : Shape).Idx → Elt F e)
    (h0 : ∀ y, w0 y = G ((Rect.unit (s := S2x912x256) ![0, a, 0] ![1, n, 256] (in3 (by decide) ha)).emb y))
    (h1 : ∀ y, w1 y = G ((Rect.unit (s := S2x912x256) ![1, a, 0] ![1, n, 256] (in3 (by decide) ha)).emb y)) :
    Agree (R3 (a + n)) (st (Rect.unit (s := S2x912x256) ![1, a, 0] ![1, n, 256] (in3 (by decide) ha)) w1
      (st (Rect.unit (s := S2x912x256) ![0, a, 0] ![1, n, 256] (in3 (by decide) ha)) w0 x)) G := by
  have g1 := Agree.st (S' := fun i => (i 1).val < a ∨ ((i 1).val < a + n ∧ (i 0).val = 0)) hx _ w0 h0 (fun i hi => by
    replace hi : (i 1).val < a ∨ ((i 1).val < a + n ∧ (i 0).val = 0) := hi
    by_cases hi0 : (i 1).val < a
    · exact .inl hi0
    · exact .inr (mem3 (n := n) (h := 0) (a := a) (in3 (by decide) ha) i (by omega) (by omega)))
  refine Agree.st g1 (Rect.unit (s := S2x912x256) ![1, a, 0] ![1, n, 256] (in3 (by decide) ha)) w1 h1 (fun i hi => ?_)
  by_cases hi0 : (i 1).val < a
  · exact .inl (.inl hi0)
  by_cases h2 : (i 0).val = 0
  · exact .inl (.inr ⟨hi, h2⟩)
  have h3 : (i 0).val < 2 := (i 0).isLt
  exact .inr (mem3 (n := n) (h := 1) (a := a) (in3 (by decide) ha) i (by omega) ⟨by omega, hi⟩)

/-! ## The pieces' triples -/

variable (c : Dev nD) (M : Bufs)

/-- The state in the middle of the body. -/
def Mid (n k d : ℕ) : sProp 𝕄 :=
  iprop(∃ u, ∃ x, ∃ z, ∃ a, ⌜Agree (R3 n) u (upG I) ∧ Agree (R3 k) x (uxG I) ∧ Agree (R3 k) z (ucG I) ∧ Agree (R2 k) a (actG I)⌝
    ∗ owns (c : Thread nD τ) M.hn fullShare I.hn ∗ owns (c : Thread nD τ) M.wg fullShare I.wg ∗ owns (c : Thread nD τ) M.wv fullShare I.wv
    ∗ owns (c : Thread nD τ) M.wd fullShare I.wd ∗ owns (c : Thread nD τ) M.uh fullShare (uhG I)
    ∗ owns (c : Thread nD τ) M.ug fullShare u ∗ owns (c : Thread nD τ) M.ux fullShare x ∗ owns (c : Thread nD τ) M.uc fullShare z
    ∗ owns (c : Thread nD τ) M.act fullShare a ∗ owns (c : Thread nD τ) M.acc fullShare (mix I d))

variable {c M I}
variable {Q : PUnit.{1} → sProp (MT nD τ sig Unit (Elt F) ℕ (UR sig nD τ) ℕ)}

theorem wp_up288 (a : ℕ) (ha : a + 288 ≤ 912) {k d : ℕ}
    (hG : ∀ (h : ℕ) (hh : h < 2) (y), upPay288 (rows288 I a ha) (I.w h) y
      = upG I ((Rect.unit (s := S2x912x256) ![h, a, 0] S1x288x256.size (in3 hh ha)).emb y)) :
    Mid I c M a k d ⊢ iprop((Mid I c M (a + 288) k d -∗ Q ⟨⟩) -∗ wp frame (wpE (defs₀ (F := F)) Variants.none c none) Set.univ (up288 M a ha) Q) := by
  unfold Mid up288
  simp only [wp_bind]
  iintro ⟨%u, %x, %z, %a', %hA, Hhn, Hwg, Hwv, Hwd, Huh, Hug, Hux, Huc, Hact, Hacc⟩
  iintro Hk
  iapply (wp_rd Variants.none (c : Thread nD τ) none Set.univ) $$ Hhn
  iintro Hhn
  iapply (wp_rd Variants.none (c : Thread nD τ) none Set.univ) $$ Hwg
  iintro Hwg
  iapply (wp_rd Variants.none (c : Thread nD τ) none Set.univ) $$ Hug
  iintro Hug
  iapply (wp_wr Variants.none (c : Thread nD τ) none Set.univ) $$ Hug
  iintro Hug
  iapply (wp_rd Variants.none (c : Thread nD τ) none Set.univ) $$ Hhn
  iintro Hhn
  iapply (wp_rd Variants.none (c : Thread nD τ) none Set.univ) $$ Hwv
  iintro Hwv
  iapply (wp_rd Variants.none (c : Thread nD τ) none Set.univ) $$ Hug
  iintro Hug
  iapply (wp_wr Variants.none (c : Thread nD τ) none Set.univ) $$ Hug
  iintro Hug
  have e0 : ld I.wg rW = I.w 0 := ld_full _ _
  have e1 : ld I.wv rW = I.w 1 := ld_full _ _
  rw [e0, e1]
  have hu : Agree (R3 (a + 288)) (st (Rect.unit (s := S2x912x256) ![1, a, 0] S1x288x256.size (in3 (by decide) ha)) (upPay288 (rows288 I a ha) (I.w 1))
    (st (Rect.unit (s := S2x912x256) ![0, a, 0] S1x288x256.size (in3 (by decide) ha)) (upPay288 (rows288 I a ha) (I.w 0)) u)) (upG I) :=
    two ha hA.1 _ _ (hG 0 (by decide)) (hG 1 (by decide))
  iapply Hk
  iexists _; iexists x; iexists z; iexists a'
  isplitr
  · ipureintro; exact ⟨hu, hA.2⟩
  isplitl [Hhn]; · iexact Hhn
  isplitl [Hwg]; · iexact Hwg
  isplitl [Hwv]; · iexact Hwv
  isplitl [Hwd]; · iexact Hwd
  isplitl [Huh]; · iexact Huh
  isplitl [Hug]; · iexact Hug
  isplitl [Hux]; · iexact Hux
  isplitl [Huc]; · iexact Huc
  isplitl [Hact]; · iexact Hact
  iexact Hacc

theorem wp_up336 (a : ℕ) (ha : a + 336 ≤ 912) {k d : ℕ}
    (hG : ∀ (h : ℕ) (hh : h < 2) (y), upPay336 (rows336 I a ha) (I.w h) y
      = upG I ((Rect.unit (s := S2x912x256) ![h, a, 0] S1x336x256.size (in3 hh ha)).emb y)) :
    Mid I c M a k d ⊢ iprop((Mid I c M (a + 336) k d -∗ Q ⟨⟩) -∗ wp frame (wpE (defs₀ (F := F)) Variants.none c none) Set.univ (up336 M a ha) Q) := by
  unfold Mid up336
  simp only [wp_bind]
  iintro ⟨%u, %x, %z, %a', %hA, Hhn, Hwg, Hwv, Hwd, Huh, Hug, Hux, Huc, Hact, Hacc⟩
  iintro Hk
  iapply (wp_rd Variants.none (c : Thread nD τ) none Set.univ) $$ Hhn
  iintro Hhn
  iapply (wp_rd Variants.none (c : Thread nD τ) none Set.univ) $$ Hwg
  iintro Hwg
  iapply (wp_rd Variants.none (c : Thread nD τ) none Set.univ) $$ Hug
  iintro Hug
  iapply (wp_wr Variants.none (c : Thread nD τ) none Set.univ) $$ Hug
  iintro Hug
  iapply (wp_rd Variants.none (c : Thread nD τ) none Set.univ) $$ Hhn
  iintro Hhn
  iapply (wp_rd Variants.none (c : Thread nD τ) none Set.univ) $$ Hwv
  iintro Hwv
  iapply (wp_rd Variants.none (c : Thread nD τ) none Set.univ) $$ Hug
  iintro Hug
  iapply (wp_wr Variants.none (c : Thread nD τ) none Set.univ) $$ Hug
  iintro Hug
  have e0 : ld I.wg rW = I.w 0 := ld_full _ _
  have e1 : ld I.wv rW = I.w 1 := ld_full _ _
  rw [e0, e1]
  have hu : Agree (R3 (a + 336)) (st (Rect.unit (s := S2x912x256) ![1, a, 0] S1x336x256.size (in3 (by decide) ha)) (upPay336 (rows336 I a ha) (I.w 1))
    (st (Rect.unit (s := S2x912x256) ![0, a, 0] S1x336x256.size (in3 (by decide) ha)) (upPay336 (rows336 I a ha) (I.w 0)) u)) (upG I) :=
    two ha hA.1 _ _ (hG 0 (by decide)) (hG 1 (by decide))
  iapply Hk
  iexists _; iexists x; iexists z; iexists a'
  isplitr
  · ipureintro; exact ⟨hu, hA.2⟩
  isplitl [Hhn]; · iexact Hhn
  isplitl [Hwg]; · iexact Hwg
  isplitl [Hwv]; · iexact Hwv
  isplitl [Hwd]; · iexact Hwd
  isplitl [Huh]; · iexact Huh
  isplitl [Hug]; · iexact Hug
  isplitl [Hux]; · iexact Hux
  isplitl [Huc]; · iexact Huc
  isplitl [Hact]; · iexact Hact
  iexact Hacc

/-! ### A chunk -/

variable (I)

theorem ux_at (h : ℕ) (hh : h < 2) (k : ℕ) (hk : k < 19) (i : S2x912x256.Idx) (y : (⟨3, ![1, 48, 256]⟩ : Shape).Idx) (e0 : (i 0).val = h)
    (e1 : (i 1).val = 48 * k + (y 1).val) (e2 : (i 2).val = (y 2).val) : uxPay (win I h hh k hk) y = uxG I i := by
  have b1 : (y 1).val < 48 := (y 1).isLt
  obtain rfl : k = (i 1).val / 48 := by omega
  subst e0
  exact congrArg _ (ix3_of y _ _ (by show (i 1).val % 48 = (y 1).val; omega) e2).symm

theorem uc_at (h : ℕ) (hh : h < 2) (k : ℕ) (hk : k < 19) (i : S2x912x256.Idx) (y : (⟨3, ![1, 48, 256]⟩ : Shape).Idx) (e0 : (i 0).val = h)
    (e1 : (i 1).val = 48 * k + (y 1).val) (e2 : (i 2).val = (y 2).val) : ucPay (cv I h hh k hk) y = ucG I i := by
  have b1 : (y 1).val < 48 := (y 1).isLt
  obtain rfl : k = (i 1).val / 48 := by omega
  subst e0
  exact congrArg _ (ix3_of y _ _ (by show (i 1).val % 48 = (y 1).val; omega) e2).symm

theorem act_at (k : ℕ) (hk : k < 19) (i : S912x256.Idx) (y : (⟨2, ![48, 256]⟩ : Shape).Idx)
    (e0 : (i 0).val = 48 * k + (y 0).val) (e1 : (i 1).val = (y 1).val) :
    actPay (cv I 0 (by decide) k hk) (cv I 1 (by decide) k hk) y = actG I i := by
  have b1 : (y 0).val < 48 := (y 0).isLt
  obtain rfl : k = (i 0).val / 48 := by omega
  exact congrArg _ (ix2_of y _ _ (by show (i 0).val % 48 = (y 0).val; omega) e1).symm

/-- What a chunk's stores leave. -/
theorem chunk_pure (k : ℕ) (hk : k < 19) {n : ℕ} {u x z a} (w0 w1) (e0 : w0 = win I 0 (by decide) k hk) (e1 : w1 = win I 1 (by decide) k hk)
    (hA : Agree (R3 n) u (upG I) ∧ Agree (R3 (48 * k)) x (uxG I) ∧ Agree (R3 (48 * k)) z (ucG I) ∧ Agree (R2 (48 * k)) a (actG I)) :
    Agree (R3 n) u (upG I)
    ∧ Agree (R3 (48 * k + 48)) (st (r48 1 (48 * k) (by decide) (by omega)) (uxPay w1) (st (r48 0 (48 * k) (by decide) (by omega)) (uxPay w0) x)) (uxG I)
    ∧ Agree (R3 (48 * k + 48)) (st (r48 1 (48 * k) (by decide) (by omega)) (ucPay (conv I.T.v0 I.T.v1 I.T.v2 w1))
        (st (r48 0 (48 * k) (by decide) (by omega)) (ucPay (conv I.T.g0 I.T.g1 I.T.g2 w0)) z)) (ucG I)
    ∧ Agree (R2 (48 * k + 48)) (st (rA (48 * k) (by omega)) (actPay (conv I.T.g0 I.T.g1 I.T.g2 w0) (conv I.T.v0 I.T.v1 I.T.v2 w1)) a) (actG I) := by
  subst e0 e1
  refine ⟨hA.1, two (by omega) hA.2.1 _ _ (fun y => ?_) (fun y => ?_), two (by omega) hA.2.2.1 _ _ (fun y => ?_) (fun y => ?_),
    Agree.st hA.2.2.2 _ _ (fun y => ?_) (fun i hi => ?_)⟩
  · have e := emb3 (N := 912) (n := 48) (k := 256) (h := 0) (a := 48 * k) (in3 (by decide) (by omega)) y
    exact ux_at I 0 _ k hk _ y e.1 e.2.1 e.2.2
  · have e := emb3 (N := 912) (n := 48) (k := 256) (h := 1) (a := 48 * k) (in3 (by decide) (by omega)) y
    exact ux_at I 1 _ k hk _ y e.1 e.2.1 e.2.2
  · have e := emb3 (N := 912) (n := 48) (k := 256) (h := 0) (a := 48 * k) (in3 (by decide) (by omega)) y
    exact uc_at I 0 (by decide) k hk _ y e.1 e.2.1 e.2.2
  · have e := emb3 (N := 912) (n := 48) (k := 256) (h := 1) (a := 48 * k) (in3 (by decide) (by omega)) y
    exact uc_at I 1 (by decide) k hk _ y e.1 e.2.1 e.2.2
  · have e := emb2 (N := 912) (n := 48) (k := 256) (K := 256) (a := 48 * k) (in2 (by omega) (by decide)) y
    exact act_at I k hk _ y e.1 e.2
  · replace hi : (i 0).val < 48 * k + 48 := hi
    by_cases h0 : (i 0).val < 48 * k
    · exact .inl h0
    · exact .inr (mem2 (n := 48) (a := 48 * k) _ i (by omega))

theorem win_later {n k : ℕ} (h : ℕ) (hh : h < 2) (hk : k < 19) (h1 : 1 ≤ k) (hn : 48 * k + 48 ≤ n) {u} (hA : Agree (R3 n) u (upG I)) :
    win1 (ld u (r56 h (48 * k - 8) hh (by omega))) = win I h hh k hk := by
  unfold win
  rw [dif_neg (by omega)]
  refine congrArg win1 (hA.ld _ fun y => ?_)
  have e := (emb3 (N := 912) (n := 56) (k := 256) (h := h) (a := 48 * k - 8) (in3 hh (by omega)) y).2.1
  have b1 : (y 1).val < 56 := (y 1).isLt
  exact lt_of_eq_of_lt e (by omega)

theorem win_first {n : ℕ} (h : ℕ) (hh : h < 2) (hn : 48 ≤ n) {u} (hA : Agree (R3 n) u (upG I)) :
    win0 (ld (uhG I) (rh h hh)) (ld u (r48 h 0 hh (by decide))) = win I h hh 0 (by decide) := by
  unfold win
  rw [dif_pos rfl]
  refine congrArg (win0 _) (hA.ld _ fun y => ?_)
  have e := (emb3 (N := 912) (n := 48) (k := 256) (h := h) (a := 0) (in3 hh (by decide)) y).2.1
  have b1 : (y 1).val < 48 := (y 1).isLt
  exact lt_of_eq_of_lt e (by omega)

theorem wp_chunk (k : ℕ) (h1 : 1 ≤ k) (hk : k < 19) {n d : ℕ} (hn : 48 * k + 48 ≤ n) :
    Mid I c M n (48 * k) d ⊢ iprop((Mid I c M n (48 * k + 48) d -∗ Q ⟨⟩) -∗ wp frame (wpE (defs₀ (F := F)) Variants.none c none) Set.univ (chunk M I.T k h1 hk) Q) := by
  unfold Mid chunk half gate
  simp only [wp_bind]
  iintro ⟨%u, %x, %z, %a', %hA, Hhn, Hwg, Hwv, Hwd, Huh, Hug, Hux, Huc, Hact, Hacc⟩
  iintro Hk
  iapply (wp_rd Variants.none (c : Thread nD τ) none Set.univ) $$ Hug
  iintro Hug
  iapply (wp_rd Variants.none (c : Thread nD τ) none Set.univ) $$ Hux
  iintro Hux
  iapply (wp_wrh Variants.none (c : Thread nD τ) none Set.univ) $$ Hux
  iintro Hux
  iapply (wp_rd Variants.none (c : Thread nD τ) none Set.univ) $$ Huc
  iintro Huc
  iapply (wp_wrh Variants.none (c : Thread nD τ) none Set.univ) $$ Huc
  iintro Huc
  iapply (wp_rd Variants.none (c : Thread nD τ) none Set.univ) $$ Hug
  iintro Hug
  iapply (wp_rd Variants.none (c : Thread nD τ) none Set.univ) $$ Hux
  iintro Hux
  iapply (wp_wrh Variants.none (c : Thread nD τ) none Set.univ) $$ Hux
  iintro Hux
  iapply (wp_rd Variants.none (c : Thread nD τ) none Set.univ) $$ Huc
  iintro Huc
  iapply (wp_wrh Variants.none (c : Thread nD τ) none Set.univ) $$ Huc
  iintro Huc
  iapply (wp_rd Variants.none (c : Thread nD τ) none Set.univ) $$ Hact
  iintro Hact
  iapply (wp_wrh Variants.none (c : Thread nD τ) none Set.univ) $$ Hact
  iintro Hact
  iapply Hk
  iexists _; iexists _; iexists _; iexists _
  isplitr
  · ipureintro; exact chunk_pure I k hk _ _ (win_later I 0 (by decide) hk h1 hn hA.1) (win_later I 1 (by decide) hk h1 hn hA.1) hA
  isplitl [Hhn]; · iexact Hhn
  isplitl [Hwg]; · iexact Hwg
  isplitl [Hwv]; · iexact Hwv
  isplitl [Hwd]; · iexact Hwd
  isplitl [Huh]; · iexact Huh
  isplitl [Hug]; · iexact Hug
  isplitl [Hux]; · iexact Hux
  isplitl [Huc]; · iexact Huc
  isplitl [Hact]; · iexact Hact
  iexact Hacc

theorem wp_chunk0 {n d : ℕ} (hn : 48 ≤ n) :
    Mid I c M n 0 d ⊢ iprop((Mid I c M n 48 d -∗ Q ⟨⟩) -∗ wp frame (wpE (defs₀ (F := F)) Variants.none c none) Set.univ (chunk0 M I.T) Q) := by
  unfold Mid chunk0 half gate
  simp only [wp_bind]
  iintro ⟨%u, %x, %z, %a', %hA, Hhn, Hwg, Hwv, Hwd, Huh, Hug, Hux, Huc, Hact, Hacc⟩
  iintro Hk
  iapply (wp_rd Variants.none (c : Thread nD τ) none Set.univ) $$ Huh
  iintro Huh
  iapply (wp_rd Variants.none (c : Thread nD τ) none Set.univ) $$ Hug
  iintro Hug
  iapply (wp_rd Variants.none (c : Thread nD τ) none Set.univ) $$ Hux
  iintro Hux
  iapply (wp_wrh Variants.none (c : Thread nD τ) none Set.univ) $$ Hux
  iintro Hux
  iapply (wp_rd Variants.none (c : Thread nD τ) none Set.univ) $$ Huc
  iintro Huc
  iapply (wp_wrh Variants.none (c : Thread nD τ) none Set.univ) $$ Huc
  iintro Huc
  iapply (wp_rd Variants.none (c : Thread nD τ) none Set.univ) $$ Huh
  iintro Huh
  iapply (wp_rd Variants.none (c : Thread nD τ) none Set.univ) $$ Hug
  iintro Hug
  iapply (wp_rd Variants.none (c : Thread nD τ) none Set.univ) $$ Hux
  iintro Hux
  iapply (wp_wrh Variants.none (c : Thread nD τ) none Set.univ) $$ Hux
  iintro Hux
  iapply (wp_rd Variants.none (c : Thread nD τ) none Set.univ) $$ Huc
  iintro Huc
  iapply (wp_wrh Variants.none (c : Thread nD τ) none Set.univ) $$ Huc
  iintro Huc
  iapply (wp_rd Variants.none (c : Thread nD τ) none Set.univ) $$ Hact
  iintro Hact
  iapply (wp_wrh Variants.none (c : Thread nD τ) none Set.univ) $$ Hact
  iintro Hact
  iapply Hk
  iexists _; iexists _; iexists _; iexists _
  isplitr
  · ipureintro; exact chunk_pure I 0 (by decide) _ _ (win_first I 0 (by decide) hn hA.1) (win_first I 1 (by decide) hn hA.1) hA
  isplitl [Hhn]; · iexact Hhn
  isplitl [Hwg]; · iexact Hwg
  isplitl [Hwv]; · iexact Hwv
  isplitl [Hwd]; · iexact Hwd
  isplitl [Huh]; · iexact Huh
  isplitl [Hug]; · iexact Hug
  isplitl [Hux]; · iexact Hux
  isplitl [Huc]; · iexact Huc
  isplitl [Hact]; · iexact Hact
  iexact Hacc

/-! ### The accumulation -/

theorem mix_step {a n : ℕ} (ha : a + n ≤ 912) (w : (⟨2, ![n, 1024]⟩ : Shape).Idx → Elt F .f32)
    (hw : ∀ y, w y = accG I ((Rect.unit (s := S912x1024) ![a, 0] ![n, 1024] (in2 ha (by decide))).emb y)) :
    st (Rect.unit (s := S912x1024) ![a, 0] ![n, 1024] (in2 ha (by decide))) w (mix I a) = mix I (a + n) := by
  funext i
  by_cases h : a ≤ (i 0).val ∧ (i 0).val < a + n
  · obtain ⟨y, e⟩ := mem2 (N := 912) (k := 1024) (n := n) (a := a) (in2 ha (by decide)) i h
    rw [← e, st_emb, hw, e]
    unfold mix; rw [if_pos h.2]
  · rw [st_out]
    · unfold mix
      by_cases h0 : (i 0).val < a
      · rw [if_pos h0, if_pos (by omega)]
      · rw [if_neg h0, if_neg (by omega)]
    · intro y e
      have e' := (emb2 (N := 912) (n := n) (k := 1024) (K := 1024) (a := a) (in2 ha (by decide)) y).1
      have b : (y 0).val < n := (y 0).isLt
      rw [e] at e'
      omega

theorem mix_ld {a n : ℕ} (ha : a + n ≤ 912) :
    ld (mix I a) (Rect.unit (s := S912x1024) ![a, 0] ![n, 1024] (in2 ha (by decide)))
      = ld I.acc (Rect.unit (s := S912x1024) ![a, 0] ![n, 1024] (in2 ha (by decide))) := by
  funext y
  have e' := (emb2 (N := 912) (n := n) (k := 1024) (K := 1024) (a := a) (in2 ha (by decide)) y).1
  exact if_neg (by rw [e']; omega)

theorem act_ld {a n m : ℕ} (ha : a + n ≤ 912) (hm : a + n ≤ m) {x} (hx : Agree (R2 m) x (actG I)) :
    ld x (Rect.unit (s := S912x256) ![a, 0] ![n, 256] (in2 ha (by decide)))
      = ld (actG I) (Rect.unit (s := S912x256) ![a, 0] ![n, 256] (in2 ha (by decide))) :=
  hx.ld _ fun y => by
    have e' := (emb2 (N := 912) (n := n) (k := 256) (K := 256) (a := a) (in2 ha (by decide)) y).1
    have b : (y 0).val < n := (y 0).isLt
    exact lt_of_eq_of_lt e' (by omega)

theorem wp_down288 (a : ℕ) (ha : a + 288 ≤ 912) {n k : ℕ} (hk : a + 288 ≤ k)
    (hG : ∀ y, dn288 I a ha y = accG I ((Rect.unit (s := S912x1024) ![a, 0] S288x1024.size (in2 ha (by decide))).emb y)) :
    Mid I c M n k a ⊢ iprop((Mid I c M n k (a + 288) -∗ Q ⟨⟩) -∗ wp frame (wpE (defs₀ (F := F)) Variants.none c none) Set.univ (down288 M a ha) Q) := by
  unfold Mid down288
  simp only [wp_bind]
  iintro ⟨%u, %x, %z, %a', %hA, Hhn, Hwg, Hwv, Hwd, Huh, Hug, Hux, Huc, Hact, Hacc⟩
  iintro Hk
  iapply (wp_rd Variants.none (c : Thread nD τ) none Set.univ) $$ Hacc
  iintro Hacc
  iapply (wp_rd Variants.none (c : Thread nD τ) none Set.univ) $$ Hact
  iintro Hact
  iapply (wp_rd Variants.none (c : Thread nD τ) none Set.univ) $$ Hwd
  iintro Hwd
  iapply (wp_rd Variants.none (c : Thread nD τ) none Set.univ) $$ Hacc
  iintro Hacc
  iapply (wp_wr Variants.none (c : Thread nD τ) none Set.univ) $$ Hacc
  iintro Hacc
  have e : st (Rect.unit (s := S912x1024) ![a, 0] S288x1024.size (in2 ha (by decide)))
      (downPay288 (ld (mix I a) (Rect.unit (s := S912x1024) ![a, 0] S288x1024.size (in2 ha (by decide))))
        (ld a' (Rect.unit (s := S912x256) ![a, 0] S288x256.size (in2 ha (by decide)))) (ld I.wd rW)) (mix I a) = mix I (a + 288) := by
    rw [show ld (mix I a) (Rect.unit (s := S912x1024) ![a, 0] S288x1024.size (in2 ha (by decide))) = _ from mix_ld I ha,
      show ld a' (Rect.unit (s := S912x256) ![a, 0] S288x256.size (in2 ha (by decide))) = _ from act_ld I ha hk hA.2.2.2, ld_full]
    exact mix_step I ha _ hG
  rw [e]
  iapply Hk
  iexists u; iexists x; iexists z; iexists a'
  isplitr
  · ipureintro; exact hA
  isplitl [Hhn]; · iexact Hhn
  isplitl [Hwg]; · iexact Hwg
  isplitl [Hwv]; · iexact Hwv
  isplitl [Hwd]; · iexact Hwd
  isplitl [Huh]; · iexact Huh
  isplitl [Hug]; · iexact Hug
  isplitl [Hux]; · iexact Hux
  isplitl [Huc]; · iexact Huc
  isplitl [Hact]; · iexact Hact
  iexact Hacc

theorem wp_down336 (a : ℕ) (ha : a + 336 ≤ 912) {n k : ℕ} (hk : a + 336 ≤ k)
    (hG : ∀ y, dn336 I a ha y = accG I ((Rect.unit (s := S912x1024) ![a, 0] S336x1024.size (in2 ha (by decide))).emb y)) :
    Mid I c M n k a ⊢ iprop((Mid I c M n k (a + 336) -∗ Q ⟨⟩) -∗ wp frame (wpE (defs₀ (F := F)) Variants.none c none) Set.univ (down336 M a ha) Q) := by
  unfold Mid down336
  simp only [wp_bind]
  iintro ⟨%u, %x, %z, %a', %hA, Hhn, Hwg, Hwv, Hwd, Huh, Hug, Hux, Huc, Hact, Hacc⟩
  iintro Hk
  iapply (wp_rd Variants.none (c : Thread nD τ) none Set.univ) $$ Hacc
  iintro Hacc
  iapply (wp_rd Variants.none (c : Thread nD τ) none Set.univ) $$ Hact
  iintro Hact
  iapply (wp_rd Variants.none (c : Thread nD τ) none Set.univ) $$ Hwd
  iintro Hwd
  iapply (wp_rd Variants.none (c : Thread nD τ) none Set.univ) $$ Hacc
  iintro Hacc
  iapply (wp_wr Variants.none (c : Thread nD τ) none Set.univ) $$ Hacc
  iintro Hacc
  have e : st (Rect.unit (s := S912x1024) ![a, 0] S336x1024.size (in2 ha (by decide)))
      (downPay336 (ld (mix I a) (Rect.unit (s := S912x1024) ![a, 0] S336x1024.size (in2 ha (by decide))))
        (ld a' (Rect.unit (s := S912x256) ![a, 0] S336x256.size (in2 ha (by decide)))) (ld I.wd rW)) (mix I a) = mix I (a + 336) := by
    rw [show ld (mix I a) (Rect.unit (s := S912x1024) ![a, 0] S336x1024.size (in2 ha (by decide))) = _ from mix_ld I ha,
      show ld a' (Rect.unit (s := S912x256) ![a, 0] S336x256.size (in2 ha (by decide))) = _ from act_ld I ha hk hA.2.2.2, ld_full]
    exact mix_step I ha _ hG
  rw [e]
  iapply Hk
  iexists u; iexists x; iexists z; iexists a'
  isplitr
  · ipureintro; exact hA
  isplitl [Hhn]; · iexact Hhn
  isplitl [Hwg]; · iexact Hwg
  isplitl [Hwv]; · iexact Hwv
  isplitl [Hwd]; · iexact Hwd
  isplitl [Huh]; · iexact Huh
  isplitl [Hug]; · iexact Hug
  isplitl [Hux]; · iexact Hux
  isplitl [Huc]; · iexact Huc
  isplitl [Hact]; · iexact Hact
  iexact Hacc

/-! ### The parts at their places -/

theorem hu0 (h : ℕ) (hh : h < 2) (y) : upPay288 (rows288 I 0 (by decide)) (I.w h) y
    = upG I ((Rect.unit (s := S2x912x256) ![h, 0, 0] S1x288x256.size (in3 hh (by decide))).emb y) := by
  have e := emb3 (N := 912) (n := 288) (k := 256) (h := h) (a := 0) (in3 hh (by decide)) y
  exact up288_at0 (I := I) h _ y e.1 e.2.1 e.2.2
theorem hu1 (h : ℕ) (hh : h < 2) (y) : upPay336 (rows336 I 288 (by decide)) (I.w h) y
    = upG I ((Rect.unit (s := S2x912x256) ![h, 288, 0] S1x336x256.size (in3 hh (by decide))).emb y) := by
  have e := emb3 (N := 912) (n := 336) (k := 256) (h := h) (a := 288) (in3 hh (by decide)) y
  exact up336_at288 (I := I) h _ y e.1 e.2.1 e.2.2
theorem hu2 (h : ℕ) (hh : h < 2) (y) : upPay288 (rows288 I 624 (by decide)) (I.w h) y
    = upG I ((Rect.unit (s := S2x912x256) ![h, 624, 0] S1x288x256.size (in3 hh (by decide))).emb y) := by
  have e := emb3 (N := 912) (n := 288) (k := 256) (h := h) (a := 624) (in3 hh (by decide)) y
  exact up288_at624 (I := I) h _ y e.1 e.2.1 e.2.2
theorem hd0 (y) : dn288 I 0 (by decide) y = accG I ((Rect.unit (s := S912x1024) ![0, 0] S288x1024.size (in2 (by decide) (by decide))).emb y) := by
  have e := emb2 (N := 912) (n := 288) (k := 1024) (K := 1024) (a := 0) (in2 (by decide) (by decide)) y
  exact dn288_at0 (I := I) _ y e.1 e.2
theorem hd1 (y) : dn336 I 288 (by decide) y = accG I ((Rect.unit (s := S912x1024) ![288, 0] S336x1024.size (in2 (by decide) (by decide))).emb y) := by
  have e := emb2 (N := 912) (n := 336) (k := 1024) (K := 1024) (a := 288) (in2 (by decide) (by decide)) y
  exact dn336_at288 (I := I) _ y e.1 e.2
theorem hd2 (y) : dn288 I 624 (by decide) y = accG I ((Rect.unit (s := S912x1024) ![624, 0] S288x1024.size (in2 (by decide) (by decide))).emb y) := by
  have e := emb2 (N := 912) (n := 288) (k := 1024) (K := 1024) (a := 624) (in2 (by decide) (by decide)) y
  exact dn288_at624 (I := I) _ y e.1 e.2

/-- The two stores of the rows above the tile. -/
theorem uh_eq (u) : st (rh 1 (by decide)) (uhPay (uhPre I.hal I.wv)) (st (rh 0 (by decide)) (uhPay (uhPre I.hal I.wg)) u) = uhG I := by
  funext i
  by_cases h : (i 0).val = 0
  · rw [st_out]
    · obtain ⟨y, rfl⟩ : ∃ y, (rh 0 (by decide)).emb y = i := mem_unit (s := S2x8x256) ![0, 0, 0] ![1, 8, 256] (in3 (by decide) (by decide)) i fun x => match x with
        | ⟨0, _⟩ => ⟨Nat.zero_le _, lt_of_eq_of_lt h Nat.zero_lt_one⟩
        | ⟨1, _⟩ => ⟨Nat.zero_le _, lt_of_lt_of_eq (i 1).isLt (Nat.zero_add 8).symm⟩
        | ⟨2, _⟩ => ⟨Nat.zero_le _, lt_of_lt_of_eq (i 2).isLt (Nat.zero_add 256).symm⟩
      rw [st_emb]
      unfold uhG
      rw [h]
      exact congrArg _ (ix3_of y _ _ ((emb_val _ _ _ y 1).trans (Nat.zero_add _)) ((emb_val _ _ _ y 2).trans (Nat.zero_add _))).symm
    · intro y e
      have e' := emb_val ![1, 0, 0] _ (in3 (n := 8) (N := 8) (h := 1) (a := 0) (by decide) (by decide)) y 0
      have e2 : (i 0).val = 1 + (y 0).val := by rw [← e]; exact e'
      omega
  · have h3 : (i 0).val < 2 := (i 0).isLt
    obtain ⟨y, rfl⟩ : ∃ y, (rh 1 (by decide)).emb y = i := mem_unit (s := S2x8x256) ![1, 0, 0] ![1, 8, 256] (in3 (by decide) (by decide)) i fun x => match x with
        | ⟨0, _⟩ => ⟨Nat.one_le_iff_ne_zero.2 h, h3⟩
        | ⟨1, _⟩ => ⟨Nat.zero_le _, lt_of_lt_of_eq (i 1).isLt (Nat.zero_add 8).symm⟩
        | ⟨2, _⟩ => ⟨Nat.zero_le _, lt_of_lt_of_eq (i 2).isLt (Nat.zero_add 256).symm⟩
    rw [st_emb]
    unfold uhG
    rw [show I.w (((rh 1 (by decide)).emb y) 0).val = I.wv from if_neg h]
    exact congrArg _ (ix3_of y _ _ ((emb_val _ _ _ y 1).trans (Nat.zero_add _)) ((emb_val _ _ _ y 2).trans (Nat.zero_add _))).symm

/-! ### The whole middle -/

/-- The buffers when the middle is done. -/
def Done (c : Dev nD) (M : Bufs) : sProp 𝕄 :=
  iprop(owns (c : Thread nD τ) M.hn fullShare I.hn ∗ owns (c : Thread nD τ) M.wg fullShare I.wg ∗ owns (c : Thread nD τ) M.wv fullShare I.wv
    ∗ owns (c : Thread nD τ) M.wd fullShare I.wd ∗ owns (c : Thread nD τ) M.uh fullShare (uhG I)
    ∗ owns (c : Thread nD τ) M.ug fullShare (upG I) ∗ owns (c : Thread nD τ) M.ux fullShare (uxG I) ∗ owns (c : Thread nD τ) M.uc fullShare (ucG I)
    ∗ owns (c : Thread nD τ) M.act fullShare (actG I) ∗ owns (c : Thread nD τ) M.acc fullShare (accG I))

theorem mix_zero : mix I 0 = I.acc := funext fun i => if_neg (Nat.not_lt_zero _)
theorem mix_all : mix I 912 = accG I := funext fun i => if_pos (i 0).isLt

theorem mid_done : Mid I c M 912 912 912 ⊢ Done I c M := by
  unfold Mid Done
  iintro ⟨%u, %x, %z, %a', %hA, Hhn, Hwg, Hwv, Hwd, Huh, Hug, Hux, Huc, Hact, Hacc⟩
  rw [hA.1.eq fun i => (i 1).isLt, hA.2.1.eq fun i => (i 1).isLt, hA.2.2.1.eq fun i => (i 1).isLt, hA.2.2.2.eq fun i => (i 0).isLt, mix_all]
  isplitl [Hhn]; · iexact Hhn
  isplitl [Hwg]; · iexact Hwg
  isplitl [Hwv]; · iexact Hwv
  isplitl [Hwd]; · iexact Hwd
  isplitl [Huh]; · iexact Huh
  isplitl [Hug]; · iexact Hug
  isplitl [Hux]; · iexact Hux
  isplitl [Huc]; · iexact Huc
  isplitl [Hact]; · iexact Hact
  iexact Hacc

end Cert.Kernel6Ideal.ForwardFfn

end
-- ==== Proof.BackRun.lean ====
/- What the body of the feed-forward call's backward pass leaves in each buffer, and that it does.

   The contents are given index by index (`daG`, `duG`, `accG`), each by what the piece of the body that writes the
   index stores there. `Mid I c M n k d` describes the middle of the body: the activation's gradient has its last value on
   the first `n` rows, the result on the first `k`, and the normalised rows' gradient has been added on the first `d`. Every piece takes
   one such state to the next. -/
module

public import proofs.«01_k».proof.Proof.BackBody
public import proofs.«01_k».proof.Proof.FfnRun
public import Idealize.ShloMosaic.Lib.Pointwise.Index

@[expose] public section

set_option maxRecDepth 16384

noncomputable section

namespace Cert.Kernel5Ideal.BackFfn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel5Ideal Cert.Kernel5Ideal.Gen Cert.Rows
open Cert.Kernel6Ideal.ForwardFfn (emb_val emb3 emb2 emb_full ld_full st_full ix3_of ix2_of mem3 mem2)

variable {F : FTy → Type} [FloatOps F]

local notation "𝕄" => MT nD τ sig Unit (Elt F) ℕ (UR sig nD τ) ℕ

/-! ## Contents -/

/-- What the middle of the body starts from: the point, the rows of the gradient that arrives, the saved arrays and their rows below
    the tile, the blocks of weights, the taps, and the accumulator. -/
structure In (F : FTy → Type) where
  i : grid0.Coords
  dhe : Vec F S928x1024 .bf16
  cg : Vec F S1x912x256 .bf16
  cgn : Vec F S1x16x256 .bf16
  cv : Vec F S1x912x256 .bf16
  cvn : Vec F S1x16x256 .bf16
  xg : Vec F S1x912x256 .bf16
  xv : Vec F S1x912x256 .bf16
  wd : Vec F S256x1024 .bf16
  wg : Vec F S256x1024 .bf16
  wv : Vec F S256x1024 .bf16
  T : Six F
  acc : Vec F S912x1024 .f32

variable (I : In F)

/-- The activation's gradient. -/
def daG : Vec F S928x256 .f32 := fun i =>
  if h : (i 0).val < 288 then dactPay304 (ld I.dhe (rE 304 0 (by decide))) I.wd (ix2 ⟨(i 0).val, by omega⟩ (i 1))
  else if h' : (i 0).val < 624 then dactPay352 (ld I.dhe (rE 352 288 (by decide))) I.wd (ix2 ⟨(i 0).val - 288, by omega⟩ (i 1))
  else dactPay304 (ld I.dhe (rE 304 624 (by decide))) I.wd
    (ix2 ⟨(i 0).val - 624, by have h9 : (i 0).val < 928 := (i 0).isLt; omega⟩ (i 1))

/-- The rows of the activation's gradient that a chunk reads, -/
def dd (c : ℕ) (hc : c < 19) : Vec F S56x256 .f32 := ld (daG I) (rD 56 (48 * c) (by omega))
/-- the gradients of the gate's argument -/
def ga (c : ℕ) (hc : c < 19) : FVec F S56x256 .f32 :=
  if h : c < 18 then dgate (win1 (ld I.cg (rX 64 (48 * c) (by omega)))) (win1 (ld I.cv (rX 64 (48 * c) (by omega)))) (dd I c hc)
  else masked I.i (dgate (winL (ld I.cg (rX 48 864 (by decide))) (ld I.cgn rN)) (winL (ld I.cv (rX 48 864 (by decide))) (ld I.cvn rN)) (dd I c hc))
/-- and of the value. -/
def va (c : ℕ) (hc : c < 19) : FVec F S56x256 .f32 :=
  if h : c < 18 then dval (win1 (ld I.cg (rX 64 (48 * c) (by omega)))) (dd I c hc)
  else masked I.i (dval (winL (ld I.cg (rX 48 864 (by decide))) (ld I.cgn rN)) (dd I c hc))

/-- The gradient of a half of the up projection, a chunk of it. -/
def dx (h : ℕ) (c : ℕ) (hc : c < 19) : FVec F S48x256 .f32 :=
  if h = 0 then vnoc I.T.g0 I.T.g1 I.T.g2 (ga I c hc) else vnoc I.T.v0 I.T.v1 I.T.v2 (va I c hc)

/-- The result. -/
def duG : Vec F S2x912x256 .bf16 := fun i =>
  duPay (dx I (i 0).val ((i 1).val / 48) (by have h9 : (i 1).val < 912 := (i 1).isLt; omega))
    (ix3 0 ⟨(i 1).val % 48, Nat.mod_lt _ (by decide)⟩ (i 2))

/-- The sums of the taps' gradients after one more chunk, -/
def stepK (c : ℕ) (hc : c < 19) (K : Six F) : Six F :=
  more K (rows (ld I.xg (rX 48 (48 * c) (by omega)))) (rows (ld I.xv (rX 48 (48 * c) (by omega)))) (ga I c hc) (va I c hc)
/-- and after all of them. -/
def endK (K : Six F) : Six F :=
  stepK I 18 (by decide) (stepK I 17 (by decide) (stepK I 16 (by decide) (stepK I 15 (by decide) (stepK I 14 (by decide) (stepK I 13 (by decide) (stepK I 12 (by decide) (stepK I 11 (by decide) (stepK I 10 (by decide) (stepK I 9 (by decide) (stepK I 8 (by decide) (stepK I 7 (by decide) (stepK I 6 (by decide) (stepK I 5 (by decide) (stepK I 4 (by decide) (stepK I 3 (by decide) (stepK I 2 (by decide) (stepK I 1 (by decide) (stepK I 0 (by decide) K))))))))))))))))))

/-- The accumulator after a row part. -/
def dn288 (a : ℕ) (ha : a + 288 ≤ 912) : Vec F S288x1024 .f32 :=
  dhnPay288 (ld I.acc (rC 288 a ha)) (ld (duG I) (rU 288 0 a (by decide) ha)) I.wg (ld (duG I) (rU 288 1 a (by decide) ha)) I.wv
def dn336 (a : ℕ) (ha : a + 336 ≤ 912) : Vec F S336x1024 .f32 :=
  dhnPay336 (ld I.acc (rC 336 a ha)) (ld (duG I) (rU 336 0 a (by decide) ha)) I.wg (ld (duG I) (rU 336 1 a (by decide) ha)) I.wv

/-- The accumulator at the end. -/
def accG : Vec F S912x1024 .f32 := fun i =>
  if h : (i 0).val < 288 then dn288 I 0 (by decide) (ix2 ⟨(i 0).val, h⟩ (i 1))
  else if h' : (i 0).val < 624 then dn336 I 288 (by decide) (ix2 ⟨(i 0).val - 288, by omega⟩ (i 1))
  else dn288 I 624 (by decide) (ix2 ⟨(i 0).val - 624, by have h9 : (i 0).val < 912 := (i 0).isLt; omega⟩ (i 1))

/-- The accumulator with the first `d` rows done. -/
def mix (d : ℕ) : Vec F S912x1024 .f32 := fun i => if (i 0).val < d then accG I i else I.acc i

/-- The first `n` rows. -/
abbrev R3 (n : ℕ) : S2x912x256.Idx → Prop := fun i => (i 1).val < n
abbrev R2 (n : ℕ) : S928x256.Idx → Prop := fun i => (i 0).val < n

/-! ## Coordinates -/

/-- A store, some of whose rows are stored again later. -/
theorem st_agree {s : Shape} {α : Type} {S S' : s.Idx → Prop} {x G : s.Idx → α} (hx : Agree S x G) (r : Rect s) (w : r.shape.Idx → α)
    (hw : ∀ y, S' (r.emb y) → w y = G (r.emb y)) (hS : ∀ i, S' i → S i ∨ ∃ y, r.emb y = i) : Agree S' (st r w x) G := by
  intro i hi
  by_cases h : ∃ y, r.emb y = i
  · obtain ⟨y, rfl⟩ := h; rw [st_emb, hw y hi]
  · rw [st_out r w x i fun y e => h ⟨y, e⟩]; exact hx i ((hS i hi).resolve_right h)

theorem da_at0 (i : S928x256.Idx) (y : (⟨2, ![304, 256]⟩ : Shape).Idx) (hn : (i 0).val < 288) (e0 : (i 0).val = 0 + (y 0).val) (e1 : (i 1).val = (y 1).val) :
    dactPay304 (ld I.dhe (rE 304 0 (by decide))) I.wd y = daG I i := by
  unfold daG
  rw [dif_pos (by omega)]
  exact congrArg _ (ix2_of y _ _ (by show (i 0).val = (y 0).val; omega) e1).symm

theorem ha0 (y) (hn : ((rD 304 0 (by decide)).emb y 0).val < 288) : dactPay304 (ld I.dhe (rE 304 0 (by decide))) I.wd y = daG I ((rD 304 0 (by decide)).emb y) := by
  have e := emb2 (N := 928) (n := 304) (k := 256) (K := 256) (a := 0) (in2 (by decide) (by decide)) y
  exact da_at0 I _ y hn e.1 e.2

theorem da_at288 (i : S928x256.Idx) (y : (⟨2, ![352, 256]⟩ : Shape).Idx) (hn : (i 0).val < 624) (e0 : (i 0).val = 288 + (y 0).val) (e1 : (i 1).val = (y 1).val) :
    dactPay352 (ld I.dhe (rE 352 288 (by decide))) I.wd y = daG I i := by
  unfold daG
  rw [dif_neg (by omega), dif_pos (by omega)]
  exact congrArg _ (ix2_of y _ _ (by show (i 0).val - 288 = (y 0).val; omega) e1).symm

theorem ha288 (y) (hn : ((rD 352 288 (by decide)).emb y 0).val < 624) : dactPay352 (ld I.dhe (rE 352 288 (by decide))) I.wd y = daG I ((rD 352 288 (by decide)).emb y) := by
  have e := emb2 (N := 928) (n := 352) (k := 256) (K := 256) (a := 288) (in2 (by decide) (by decide)) y
  exact da_at288 I _ y hn e.1 e.2

theorem da_at624 (i : S928x256.Idx) (y : (⟨2, ![304, 256]⟩ : Shape).Idx) (hn : (i 0).val < 928) (e0 : (i 0).val = 624 + (y 0).val) (e1 : (i 1).val = (y 1).val) :
    dactPay304 (ld I.dhe (rE 304 624 (by decide))) I.wd y = daG I i := by
  unfold daG
  rw [dif_neg (by omega), dif_neg (by omega)]
  exact congrArg _ (ix2_of y _ _ (by show (i 0).val - 624 = (y 0).val; omega) e1).symm

theorem ha624 (y) (hn : ((rD 304 624 (by decide)).emb y 0).val < 928) : dactPay304 (ld I.dhe (rE 304 624 (by decide))) I.wd y = daG I ((rD 304 624 (by decide)).emb y) := by
  have e := emb2 (N := 928) (n := 304) (k := 256) (K := 256) (a := 624) (in2 (by decide) (by decide)) y
  exact da_at624 I _ y hn e.1 e.2

theorem dn_at0 (i : S912x1024.Idx) (y : (⟨2, ![288, 1024]⟩ : Shape).Idx) (e0 : (i 0).val = 0 + (y 0).val) (e1 : (i 1).val = (y 1).val) :
    dn288 I 0 (by decide) y = accG I i := by
  have b0 : (y 0).val < 288 := (y 0).isLt
  unfold accG
  rw [dif_pos (by omega)]
  exact congrArg _ (ix2_of y _ _ (by show (i 0).val = (y 0).val; omega) e1).symm

theorem hd0 (y) : dn288 I 0 (by decide) y = accG I ((rC 288 0 (by decide)).emb y) := by
  have e := emb2 (N := 912) (n := 288) (k := 1024) (K := 1024) (a := 0) (in2 (by decide) (by decide)) y
  exact dn_at0 I _ y e.1 e.2

theorem dn_at288 (i : S912x1024.Idx) (y : (⟨2, ![336, 1024]⟩ : Shape).Idx) (e0 : (i 0).val = 288 + (y 0).val) (e1 : (i 1).val = (y 1).val) :
    dn336 I 288 (by decide) y = accG I i := by
  have b0 : (y 0).val < 336 := (y 0).isLt
  unfold accG
  rw [dif_neg (by omega), dif_pos (by omega)]
  exact congrArg _ (ix2_of y _ _ (by show (i 0).val - 288 = (y 0).val; omega) e1).symm

theorem hd288 (y) : dn336 I 288 (by decide) y = accG I ((rC 336 288 (by decide)).emb y) := by
  have e := emb2 (N := 912) (n := 336) (k := 1024) (K := 1024) (a := 288) (in2 (by decide) (by decide)) y
  exact dn_at288 I _ y e.1 e.2

theorem dn_at624 (i : S912x1024.Idx) (y : (⟨2, ![288, 1024]⟩ : Shape).Idx) (e0 : (i 0).val = 624 + (y 0).val) (e1 : (i 1).val = (y 1).val) :
    dn288 I 624 (by decide) y = accG I i := by
  have b0 : (y 0).val < 288 := (y 0).isLt
  unfold accG
  rw [dif_neg (by omega), dif_neg (by omega)]
  exact congrArg _ (ix2_of y _ _ (by show (i 0).val - 624 = (y 0).val; omega) e1).symm

theorem hd624 (y) : dn288 I 624 (by decide) y = accG I ((rC 288 624 (by decide)).emb y) := by
  have e := emb2 (N := 912) (n := 288) (k := 1024) (K := 1024) (a := 624) (in2 (by decide) (by decide)) y
  exact dn_at624 I _ y e.1 e.2

theorem du_at (h : ℕ) (k : ℕ) (hk : k < 19) (i : S2x912x256.Idx) (y : (⟨3, ![1, 48, 256]⟩ : Shape).Idx) (e0 : (i 0).val = h)
    (e1 : (i 1).val = 48 * k + (y 1).val) (e2 : (i 2).val = (y 2).val) : duPay (dx I h k hk) y = duG I i := by
  have b1 : (y 1).val < 48 := (y 1).isLt
  obtain rfl : k = (i 1).val / 48 := by omega
  subst e0
  exact congrArg _ (ix3_of y _ _ (by show (i 1).val % 48 = (y 1).val; omega) e2).symm

/-- What a chunk's stores leave. -/
theorem chunk_pure (k : ℕ) (hk : k < 19) {u} (hA : Agree (R3 (48 * k)) u (duG I)) :
    Agree (R3 (48 * k + 48)) (st (rU 48 1 (48 * k) (by decide) (by omega)) (duPay (vnoc I.T.v0 I.T.v1 I.T.v2 (va I k hk)))
      (st (rU 48 0 (48 * k) (by decide) (by omega)) (duPay (vnoc I.T.g0 I.T.g1 I.T.g2 (ga I k hk))) u)) (duG I) := by
  refine Cert.Kernel6Ideal.ForwardFfn.two (by omega) hA _ _ (fun y => ?_) (fun y => ?_)
  · have e := emb3 (N := 912) (n := 48) (k := 256) (h := 0) (a := 48 * k) (in3 (by decide) (by omega)) y
    exact du_at I 0 k hk _ y e.1 e.2.1 e.2.2
  · have e := emb3 (N := 912) (n := 48) (k := 256) (h := 1) (a := 48 * k) (in3 (by decide) (by omega)) y
    exact du_at I 1 k hk _ y e.1 e.2.1 e.2.2

theorem dd_ld (k : ℕ) (hk : k < 19) {n : ℕ} (hn : 48 * k + 56 ≤ n) {a} (hA : Agree (R2 n) a (daG I)) : ld a (rD 56 (48 * k) (by omega)) = dd I k hk :=
  hA.ld _ fun y => by
    have e' := (emb2 (N := 928) (n := 56) (k := 256) (K := 256) (a := 48 * k) (in2 (by omega) (by decide)) y).1
    have b : (y 0).val < 56 := (y 0).isLt
    exact lt_of_eq_of_lt e' (by omega)

theorem mix_step {a n : ℕ} (ha : a + n ≤ 912) (w : (⟨2, ![n, 1024]⟩ : Shape).Idx → Elt F .f32)
    (hw : ∀ y, w y = accG I ((rC n a ha).emb y)) :
    st (rC n a ha) w (mix I a) = mix I (a + n) := by
  funext i
  by_cases h : a ≤ (i 0).val ∧ (i 0).val < a + n
  · obtain ⟨y, e⟩ := mem2 (N := 912) (k := 1024) (n := n) (a := a) (in2 ha (by decide)) i h
    rw [← e, st_emb, hw, e]
    unfold mix; rw [if_pos h.2]
  · rw [st_out]
    · unfold mix
      by_cases h0 : (i 0).val < a
      · rw [if_pos h0, if_pos (by omega)]
      · rw [if_neg h0, if_neg (by omega)]
    · intro y e
      have e' := (emb2 (N := 912) (n := n) (k := 1024) (K := 1024) (a := a) (in2 ha (by decide)) y).1
      have b : (y 0).val < n := (y 0).isLt
      rw [e] at e'
      omega

theorem mix_ld {a n : ℕ} (ha : a + n ≤ 912) : ld (mix I a) (rC n a ha) = ld I.acc (rC n a ha) := by
  funext y
  have e' := (emb2 (N := 912) (n := n) (k := 1024) (K := 1024) (a := a) (in2 ha (by decide)) y).1
  exact if_neg (by rw [e']; omega)

theorem mix_zero : mix I 0 = I.acc := funext fun _ => if_neg (Nat.not_lt_zero _)
theorem mix_full : mix I 912 = accG I := funext fun i => if_pos (i 0).isLt

theorem du_ld {a n m h : ℕ} (hh : h < 2) (ha : a + n ≤ 912) (hm : a + n ≤ m) {x} (hx : Agree (R3 m) x (duG I)) :
    ld x (rU n h a hh ha) = ld (duG I) (rU n h a hh ha) :=
  hx.ld _ fun y => by
    have e' := (emb3 (N := 912) (n := n) (k := 256) (h := h) (a := a) (in3 hh ha) y).2.1
    have b : (y 1).val < n := (y 1).isLt
    exact lt_of_eq_of_lt e' (by omega)

/-! ## The pieces' triples -/

variable (c : Dev nD) (M : Bufs)

/-- The state in the middle of the body. -/
def Mid (n k d : ℕ) : sProp 𝕄 :=
  iprop(∃ a', ∃ u, ⌜Agree (R2 n) a' (daG I) ∧ Agree (R3 k) u (duG I)⌝
    ∗ owns (c : Thread nD τ) M.dhe fullShare I.dhe
      ∗ owns (c : Thread nD τ) M.cg fullShare I.cg
      ∗ owns (c : Thread nD τ) M.cgn fullShare I.cgn
      ∗ owns (c : Thread nD τ) M.cv fullShare I.cv
      ∗ owns (c : Thread nD τ) M.cvn fullShare I.cvn
      ∗ owns (c : Thread nD τ) M.xg fullShare I.xg
      ∗ owns (c : Thread nD τ) M.xv fullShare I.xv
      ∗ owns (c : Thread nD τ) M.wd fullShare I.wd
      ∗ owns (c : Thread nD τ) M.wg fullShare I.wg
      ∗ owns (c : Thread nD τ) M.wv fullShare I.wv
      ∗ owns (c : Thread nD τ) M.da fullShare a'
      ∗ owns (c : Thread nD τ) M.du fullShare u
      ∗ owns (c : Thread nD τ) M.acc fullShare (mix I d))

/-- The state after it. -/
def Done : sProp 𝕄 :=
  iprop(owns (c : Thread nD τ) M.dhe fullShare I.dhe
      ∗ owns (c : Thread nD τ) M.cg fullShare I.cg
      ∗ owns (c : Thread nD τ) M.cgn fullShare I.cgn
      ∗ owns (c : Thread nD τ) M.cv fullShare I.cv
      ∗ owns (c : Thread nD τ) M.cvn fullShare I.cvn
      ∗ owns (c : Thread nD τ) M.xg fullShare I.xg
      ∗ owns (c : Thread nD τ) M.xv fullShare I.xv
      ∗ owns (c : Thread nD τ) M.wd fullShare I.wd
      ∗ owns (c : Thread nD τ) M.wg fullShare I.wg
      ∗ owns (c : Thread nD τ) M.wv fullShare I.wv
      ∗ owns (c : Thread nD τ) M.da fullShare (daG I)
      ∗ owns (c : Thread nD τ) M.du fullShare (duG I)
      ∗ owns (c : Thread nD τ) M.acc fullShare (accG I))

variable {c M I}
variable {Q : PUnit.{1} → sProp (MT nD τ sig Unit (Elt F) ℕ (UR sig nD τ) ℕ)}

theorem wp_dact304 (a : ℕ) (ha : a + 304 ≤ 928) {n n' k d : ℕ} (h1 : a ≤ n) (h2 : n' ≤ a + 304)
    (hG : ∀ y, ((rD 304 a ha).emb y 0).val < n' → dactPay304 (ld I.dhe (rE 304 a ha)) I.wd y = daG I ((rD 304 a ha).emb y)) :
    Mid I c M n k d ⊢ iprop((Mid I c M n' k d -∗ Q ⟨⟩) -∗ wp frame (wpE (defs₀ (F := F)) Variants.none c none) Set.univ (dact304 M a ha) Q) := by
  unfold Mid dact304
  simp only [wp_bind]
  iintro ⟨%a', %u, %hA, Hdhe, Hcg, Hcgn, Hcv, Hcvn, Hxg, Hxv, Hwd, Hwg, Hwv, Hda, Hdu, Hacc⟩
  iintro Hk
  iapply (wp_rd Variants.none (c : Thread nD τ) none Set.univ) $$ Hdhe
  iintro Hdhe
  iapply (wp_rd Variants.none (c : Thread nD τ) none Set.univ) $$ Hwd
  iintro Hwd
  iapply (wp_rd Variants.none (c : Thread nD τ) none Set.univ) $$ Hda
  iintro Hda
  iapply (wp_wr Variants.none (c : Thread nD τ) none Set.univ) $$ Hda
  iintro Hda
  have e1 : ld I.wd rW = I.wd := ld_full _ _
  rw [e1]
  have hu : Agree (R2 n') (st (rD 304 a ha) (dactPay304 (ld I.dhe (rE 304 a ha)) I.wd) a') (daG I) :=
    st_agree hA.1 _ _ hG fun i hi => by
      replace hi : (i 0).val < n' := hi
      by_cases h0 : (i 0).val < n
      · exact .inl h0
      · exact .inr (mem2 (n := 304) (a := a) _ i ⟨by omega, by omega⟩)
  iapply Hk
  iexists _; iexists u
  isplitr
  · ipureintro; exact ⟨hu, hA.2⟩
  isplitl [Hdhe]; · iexact Hdhe
  isplitl [Hcg]; · iexact Hcg
  isplitl [Hcgn]; · iexact Hcgn
  isplitl [Hcv]; · iexact Hcv
  isplitl [Hcvn]; · iexact Hcvn
  isplitl [Hxg]; · iexact Hxg
  isplitl [Hxv]; · iexact Hxv
  isplitl [Hwd]; · iexact Hwd
  isplitl [Hwg]; · iexact Hwg
  isplitl [Hwv]; · iexact Hwv
  isplitl [Hda]; · iexact Hda
  isplitl [Hdu]; · iexact Hdu
  iexact Hacc

theorem wp_dact352 (a : ℕ) (ha : a + 352 ≤ 928) {n n' k d : ℕ} (h1 : a ≤ n) (h2 : n' ≤ a + 352)
    (hG : ∀ y, ((rD 352 a ha).emb y 0).val < n' → dactPay352 (ld I.dhe (rE 352 a ha)) I.wd y = daG I ((rD 352 a ha).emb y)) :
    Mid I c M n k d ⊢ iprop((Mid I c M n' k d -∗ Q ⟨⟩) -∗ wp frame (wpE (defs₀ (F := F)) Variants.none c none) Set.univ (dact352 M a ha) Q) := by
  unfold Mid dact352
  simp only [wp_bind]
  iintro ⟨%a', %u, %hA, Hdhe, Hcg, Hcgn, Hcv, Hcvn, Hxg, Hxv, Hwd, Hwg, Hwv, Hda, Hdu, Hacc⟩
  iintro Hk
  iapply (wp_rd Variants.none (c : Thread nD τ) none Set.univ) $$ Hdhe
  iintro Hdhe
  iapply (wp_rd Variants.none (c : Thread nD τ) none Set.univ) $$ Hwd
  iintro Hwd
  iapply (wp_rd Variants.none (c : Thread nD τ) none Set.univ) $$ Hda
  iintro Hda
  iapply (wp_wr Variants.none (c : Thread nD τ) none Set.univ) $$ Hda
  iintro Hda
  have e1 : ld I.wd rW = I.wd := ld_full _ _
  rw [e1]
  have hu : Agree (R2 n') (st (rD 352 a ha) (dactPay352 (ld I.dhe (rE 352 a ha)) I.wd) a') (daG I) :=
    st_agree hA.1 _ _ hG fun i hi => by
      replace hi : (i 0).val < n' := hi
      by_cases h0 : (i 0).val < n
      · exact .inl h0
      · exact .inr (mem2 (n := 352) (a := a) _ i ⟨by omega, by omega⟩)
  iapply Hk
  iexists _; iexists u
  isplitr
  · ipureintro; exact ⟨hu, hA.2⟩
  isplitl [Hdhe]; · iexact Hdhe
  isplitl [Hcg]; · iexact Hcg
  isplitl [Hcgn]; · iexact Hcgn
  isplitl [Hcv]; · iexact Hcv
  isplitl [Hcvn]; · iexact Hcvn
  isplitl [Hxg]; · iexact Hxg
  isplitl [Hxv]; · iexact Hxv
  isplitl [Hwd]; · iexact Hwd
  isplitl [Hwg]; · iexact Hwg
  isplitl [Hwv]; · iexact Hwv
  isplitl [Hda]; · iexact Hda
  isplitl [Hdu]; · iexact Hdu
  iexact Hacc

theorem wp_dhn288 (a : ℕ) (ha : a + 288 ≤ 912) {n k : ℕ} (hk : a + 288 ≤ k)
    (hG : ∀ y, dn288 I a ha y = accG I ((rC 288 a ha).emb y)) :
    Mid I c M n k a ⊢ iprop((Mid I c M n k (a + 288) -∗ Q ⟨⟩) -∗ wp frame (wpE (defs₀ (F := F)) Variants.none c none) Set.univ (dhn288 M a ha) Q) := by
  unfold Mid dhn288
  simp only [wp_bind]
  iintro ⟨%a', %u, %hA, Hdhe, Hcg, Hcgn, Hcv, Hcvn, Hxg, Hxv, Hwd, Hwg, Hwv, Hda, Hdu, Hacc⟩
  iintro Hk
  iapply (wp_rd Variants.none (c : Thread nD τ) none Set.univ) $$ Hacc
  iintro Hacc
  iapply (wp_rd Variants.none (c : Thread nD τ) none Set.univ) $$ Hdu
  iintro Hdu
  iapply (wp_rd Variants.none (c : Thread nD τ) none Set.univ) $$ Hwg
  iintro Hwg
  iapply (wp_rd Variants.none (c : Thread nD τ) none Set.univ) $$ Hdu
  iintro Hdu
  iapply (wp_rd Variants.none (c : Thread nD τ) none Set.univ) $$ Hwv
  iintro Hwv
  iapply (wp_rd Variants.none (c : Thread nD τ) none Set.univ) $$ Hacc
  iintro Hacc
  iapply (wp_wr Variants.none (c : Thread nD τ) none Set.univ) $$ Hacc
  iintro Hacc
  have e : st (rC 288 a ha) (dhnPay288 (ld (mix I a) (rC 288 a ha)) (ld u (rU 288 0 a (by decide) ha)) (ld I.wg rW)
      (ld u (rU 288 1 a (by decide) ha)) (ld I.wv rW)) (mix I a) = mix I (a + 288) := by
    rw [mix_ld I ha, du_ld I (h := 0) (by decide) ha hk hA.2, du_ld I (h := 1) (by decide) ha hk hA.2, show ld I.wg rW = I.wg from ld_full _ _,
      show ld I.wv rW = I.wv from ld_full _ _]
    exact mix_step I ha _ hG
  rw [e]
  iapply Hk
  iexists a'; iexists u
  isplitr
  · ipureintro; exact hA
  isplitl [Hdhe]; · iexact Hdhe
  isplitl [Hcg]; · iexact Hcg
  isplitl [Hcgn]; · iexact Hcgn
  isplitl [Hcv]; · iexact Hcv
  isplitl [Hcvn]; · iexact Hcvn
  isplitl [Hxg]; · iexact Hxg
  isplitl [Hxv]; · iexact Hxv
  isplitl [Hwd]; · iexact Hwd
  isplitl [Hwg]; · iexact Hwg
  isplitl [Hwv]; · iexact Hwv
  isplitl [Hda]; · iexact Hda
  isplitl [Hdu]; · iexact Hdu
  iexact Hacc

theorem wp_dhn336 (a : ℕ) (ha : a + 336 ≤ 912) {n k : ℕ} (hk : a + 336 ≤ k)
    (hG : ∀ y, dn336 I a ha y = accG I ((rC 336 a ha).emb y)) :
    Mid I c M n k a ⊢ iprop((Mid I c M n k (a + 336) -∗ Q ⟨⟩) -∗ wp frame (wpE (defs₀ (F := F)) Variants.none c none) Set.univ (dhn336 M a ha) Q) := by
  unfold Mid dhn336
  simp only [wp_bind]
  iintro ⟨%a', %u, %hA, Hdhe, Hcg, Hcgn, Hcv, Hcvn, Hxg, Hxv, Hwd, Hwg, Hwv, Hda, Hdu, Hacc⟩
  iintro Hk
  iapply (wp_rd Variants.none (c : Thread nD τ) none Set.univ) $$ Hacc
  iintro Hacc
  iapply (wp_rd Variants.none (c : Thread nD τ) none Set.univ) $$ Hdu
  iintro Hdu
  iapply (wp_rd Variants.none (c : Thread nD τ) none Set.univ) $$ Hwg
  iintro Hwg
  iapply (wp_rd Variants.none (c : Thread nD τ) none Set.univ) $$ Hdu
  iintro Hdu
  iapply (wp_rd Variants.none (c : Thread nD τ) none Set.univ) $$ Hwv
  iintro Hwv
  iapply (wp_rd Variants.none (c : Thread nD τ) none Set.univ) $$ Hacc
  iintro Hacc
  iapply (wp_wr Variants.none (c : Thread nD τ) none Set.univ) $$ Hacc
  iintro Hacc
  have e : st (rC 336 a ha) (dhnPay336 (ld (mix I a) (rC 336 a ha)) (ld u (rU 336 0 a (by decide) ha)) (ld I.wg rW)
      (ld u (rU 336 1 a (by decide) ha)) (ld I.wv rW)) (mix I a) = mix I (a + 336) := by
    rw [mix_ld I ha, du_ld I (h := 0) (by decide) ha hk hA.2, du_ld I (h := 1) (by decide) ha hk hA.2, show ld I.wg rW = I.wg from ld_full _ _,
      show ld I.wv rW = I.wv from ld_full _ _]
    exact mix_step I ha _ hG
  rw [e]
  iapply Hk
  iexists a'; iexists u
  isplitr
  · ipureintro; exact hA
  isplitl [Hdhe]; · iexact Hdhe
  isplitl [Hcg]; · iexact Hcg
  isplitl [Hcgn]; · iexact Hcgn
  isplitl [Hcv]; · iexact Hcv
  isplitl [Hcvn]; · iexact Hcvn
  isplitl [Hxg]; · iexact Hxg
  isplitl [Hxv]; · iexact Hxv
  isplitl [Hwd]; · iexact Hwd
  isplitl [Hwg]; · iexact Hwg
  isplitl [Hwv]; · iexact Hwv
  isplitl [Hda]; · iexact Hda
  isplitl [Hdu]; · iexact Hdu
  iexact Hacc

variable (I)

theorem wp_chunk (k : ℕ) (hk : k < 18) {n d : ℕ} (hn : 48 * k + 56 ≤ n) {K : Six F} {kk : Six F → P F PUnit} :
    Mid I c M n (48 * k) d ⊢ iprop((Mid I c M n (48 * k + 48) d -∗ wp frame (wpE (defs₀ (F := F)) Variants.none c none) Set.univ (kk (stepK I k (by omega) K)) Q)
      -∗ wp frame (wpE (defs₀ (F := F)) Variants.none c none) Set.univ (chunk M I.T k hk K kk) Q) := by
  unfold Mid chunk store
  simp only [wp_bind]
  iintro ⟨%a', %u, %hA, Hdhe, Hcg, Hcgn, Hcv, Hcvn, Hxg, Hxv, Hwd, Hwg, Hwv, Hda, Hdu, Hacc⟩
  iintro Hk
  iapply (wp_rd Variants.none (c : Thread nD τ) none Set.univ) $$ Hcg
  iintro Hcg
  iapply (wp_rd Variants.none (c : Thread nD τ) none Set.univ) $$ Hcv
  iintro Hcv
  iapply (wp_rd Variants.none (c : Thread nD τ) none Set.univ) $$ Hxg
  iintro Hxg
  iapply (wp_rd Variants.none (c : Thread nD τ) none Set.univ) $$ Hxv
  iintro Hxv
  iapply (wp_rd Variants.none (c : Thread nD τ) none Set.univ) $$ Hda
  iintro Hda
  rw [dd_ld I k (by omega) hn hA.1]
  have eg : dgate (win1 (ld I.cg (rX 64 (48 * k) (by omega)))) (win1 (ld I.cv (rX 64 (48 * k) (by omega)))) (dd I k (by omega)) = ga I k (by omega) := by unfold ga; rw [dif_pos hk]
  have ev : dval (win1 (ld I.cg (rX 64 (48 * k) (by omega)))) (dd I k (by omega)) = va I k (by omega) := by unfold va; rw [dif_pos hk]
  rw [eg, ev]
  iapply (wp_rd Variants.none (c : Thread nD τ) none Set.univ) $$ Hdu
  iintro Hdu
  iapply (wp_wrh Variants.none (c : Thread nD τ) none Set.univ) $$ Hdu
  iintro Hdu
  iapply (wp_rd Variants.none (c : Thread nD τ) none Set.univ) $$ Hdu
  iintro Hdu
  iapply (wp_wrh Variants.none (c : Thread nD τ) none Set.univ) $$ Hdu
  iintro Hdu
  iapply Hk
  iexists a'; iexists _
  isplitr
  · ipureintro; exact ⟨hA.1, chunk_pure I k (by omega) hA.2⟩
  isplitl [Hdhe]; · iexact Hdhe
  isplitl [Hcg]; · iexact Hcg
  isplitl [Hcgn]; · iexact Hcgn
  isplitl [Hcv]; · iexact Hcv
  isplitl [Hcvn]; · iexact Hcvn
  isplitl [Hxg]; · iexact Hxg
  isplitl [Hxv]; · iexact Hxv
  isplitl [Hwd]; · iexact Hwd
  isplitl [Hwg]; · iexact Hwg
  isplitl [Hwv]; · iexact Hwv
  isplitl [Hda]; · iexact Hda
  isplitl [Hdu]; · iexact Hdu
  iexact Hacc

theorem wp_chunkL {n d : ℕ} (hn : 48 * 18 + 56 ≤ n) {K : Six F} {kk : Six F → P F PUnit} :
    Mid I c M n 864 d ⊢ iprop((Mid I c M n 912 d -∗ wp frame (wpE (defs₀ (F := F)) Variants.none c none) Set.univ (kk (stepK I 18 (by omega) K)) Q)
      -∗ wp frame (wpE (defs₀ (F := F)) Variants.none c none) Set.univ (chunkL I.i M I.T K kk) Q) := by
  unfold Mid chunkL store
  simp only [wp_bind]
  iintro ⟨%a', %u, %hA, Hdhe, Hcg, Hcgn, Hcv, Hcvn, Hxg, Hxv, Hwd, Hwg, Hwv, Hda, Hdu, Hacc⟩
  iintro Hk
  iapply (wp_rd Variants.none (c : Thread nD τ) none Set.univ) $$ Hcg
  iintro Hcg
  iapply (wp_rd Variants.none (c : Thread nD τ) none Set.univ) $$ Hcgn
  iintro Hcgn
  iapply (wp_rd Variants.none (c : Thread nD τ) none Set.univ) $$ Hcv
  iintro Hcv
  iapply (wp_rd Variants.none (c : Thread nD τ) none Set.univ) $$ Hcvn
  iintro Hcvn
  iapply (wp_rd Variants.none (c : Thread nD τ) none Set.univ) $$ Hxg
  iintro Hxg
  iapply (wp_rd Variants.none (c : Thread nD τ) none Set.univ) $$ Hxv
  iintro Hxv
  iapply (wp_rd Variants.none (c : Thread nD τ) none Set.univ) $$ Hda
  iintro Hda
  rw [show ld a' (rD 56 864 (by decide)) = dd I 18 (by decide) from dd_ld I 18 (by omega) hn hA.1]
  have eg : masked I.i (dgate (winL (ld I.cg (rX 48 864 (by decide))) (ld I.cgn rN)) (winL (ld I.cv (rX 48 864 (by decide))) (ld I.cvn rN)) (dd I 18 (by decide)))
      = ga I 18 (by omega) := by unfold ga; rw [dif_neg (Nat.lt_irrefl 18)]
  have ev : masked I.i (dval (winL (ld I.cg (rX 48 864 (by decide))) (ld I.cgn rN)) (dd I 18 (by decide))) = va I 18 (by omega) := by unfold va; rw [dif_neg (Nat.lt_irrefl 18)]
  rw [eg, ev]
  iapply (wp_rd Variants.none (c : Thread nD τ) none Set.univ) $$ Hdu
  iintro Hdu
  iapply (wp_wrh Variants.none (c : Thread nD τ) none Set.univ) $$ Hdu
  iintro Hdu
  iapply (wp_rd Variants.none (c : Thread nD τ) none Set.univ) $$ Hdu
  iintro Hdu
  iapply (wp_wrh Variants.none (c : Thread nD τ) none Set.univ) $$ Hdu
  iintro Hdu
  iapply Hk
  iexists a'; iexists _
  isplitr
  · ipureintro; exact ⟨hA.1, chunk_pure I 18 (by omega) hA.2⟩
  isplitl [Hdhe]; · iexact Hdhe
  isplitl [Hcg]; · iexact Hcg
  isplitl [Hcgn]; · iexact Hcgn
  isplitl [Hcv]; · iexact Hcv
  isplitl [Hcvn]; · iexact Hcvn
  isplitl [Hxg]; · iexact Hxg
  isplitl [Hxv]; · iexact Hxv
  isplitl [Hwd]; · iexact Hwd
  isplitl [Hwg]; · iexact Hwg
  isplitl [Hwv]; · iexact Hwv
  isplitl [Hda]; · iexact Hda
  isplitl [Hdu]; · iexact Hdu
  iexact Hacc

theorem mid_done : Mid I c M 928 912 912 ⊢ Done I c M := by
  unfold Mid Done
  iintro ⟨%a', %u, %hA, Hdhe, Hcg, Hcgn, Hcv, Hcvn, Hxg, Hxv, Hwd, Hwg, Hwv, Hda, Hdu, Hacc⟩
  rw [show a' = daG I from hA.1.eq fun i => (i 0).isLt, show u = duG I from hA.2.eq fun i => (i 1).isLt, mix_full]
  isplitl [Hdhe]; · iexact Hdhe
  isplitl [Hcg]; · iexact Hcg
  isplitl [Hcgn]; · iexact Hcgn
  isplitl [Hcv]; · iexact Hcv
  isplitl [Hcvn]; · iexact Hcvn
  isplitl [Hxg]; · iexact Hxg
  isplitl [Hxv]; · iexact Hxv
  isplitl [Hwd]; · iexact Hwd
  isplitl [Hwg]; · iexact Hwg
  isplitl [Hwv]; · iexact Hwv
  isplitl [Hda]; · iexact Hda
  isplitl [Hdu]; · iexact Hdu
  iexact Hacc

end Cert.Kernel5Ideal.BackFfn

end
-- ==== Proof.BackMid.lean ====
/- The middle of the body of the feed-forward call's backward pass from end to end. -/
module

public import proofs.«01_k».proof.Proof.BackRun

@[expose] public section

set_option maxRecDepth 16384

noncomputable section

namespace Cert.Kernel5Ideal.BackFfn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel5Ideal Cert.Kernel5Ideal.Gen Cert.Rows
open Cert.Kernel6Ideal.ForwardFfn (emb_val emb3 emb2 emb_full ld_full st_full ix3_of ix2_of mem3 mem2)

variable {F : FTy → Type} [FloatOps F]
variable (I : In F) {c : Dev nD} {M : Bufs}
variable {Q : PUnit.{1} → sProp (MT nD τ sig Unit (Elt F) ℕ (UR sig nD τ) ℕ)}

set_option maxHeartbeats 1000000 in
theorem wp_middle (K : Six F) (k : Six F → P F PUnit) {a' u} :
    iprop(owns (c : Thread nD τ) M.dhe fullShare I.dhe
      ∗ owns (c : Thread nD τ) M.cg fullShare I.cg
      ∗ owns (c : Thread nD τ) M.cgn fullShare I.cgn
      ∗ owns (c : Thread nD τ) M.cv fullShare I.cv
      ∗ owns (c : Thread nD τ) M.cvn fullShare I.cvn
      ∗ owns (c : Thread nD τ) M.xg fullShare I.xg
      ∗ owns (c : Thread nD τ) M.xv fullShare I.xv
      ∗ owns (c : Thread nD τ) M.wd fullShare I.wd
      ∗ owns (c : Thread nD τ) M.wg fullShare I.wg
      ∗ owns (c : Thread nD τ) M.wv fullShare I.wv
      ∗ owns (c : Thread nD τ) M.da fullShare a'
      ∗ owns (c : Thread nD τ) M.du fullShare u
      ∗ owns (c : Thread nD τ) M.acc fullShare I.acc)
    ⊢ iprop((Done I c M -∗ wp frame (wpE (defs₀ (F := F)) Variants.none c none) Set.univ (k (endK I K)) Q) -∗ wp frame (wpE (defs₀ (F := F)) Variants.none c none) Set.univ (middle I.i M I.T K k) Q) := by
  unfold middle
  simp only [wp_bind]
  iintro ⟨Hdhe, Hcg, Hcgn, Hcv, Hcvn, Hxg, Hxv, Hwd, Hwg, Hwv, Hda, Hdu, Hacc⟩
  iintro Hk
  ihave H : Mid I c M 0 0 0 $$ [Hdhe Hcg Hcgn Hcv Hcvn Hxg Hxv Hwd Hwg Hwv Hda Hdu Hacc]
  · unfold Mid
    rw [mix_zero]
    iexists a'; iexists u
    isplitr
    · ipureintro; exact ⟨fun i h => absurd h (Nat.not_lt_zero _), fun i h => absurd h (Nat.not_lt_zero _)⟩
    isplitl [Hdhe]; · iexact Hdhe
    isplitl [Hcg]; · iexact Hcg
    isplitl [Hcgn]; · iexact Hcgn
    isplitl [Hcv]; · iexact Hcv
    isplitl [Hcvn]; · iexact Hcvn
    isplitl [Hxg]; · iexact Hxg
    isplitl [Hxv]; · iexact Hxv
    isplitl [Hwd]; · iexact Hwd
    isplitl [Hwg]; · iexact Hwg
    isplitl [Hwv]; · iexact Hwv
    isplitl [Hda]; · iexact Hda
    isplitl [Hdu]; · iexact Hdu
    iexact Hacc
  iapply (wp_dact304 (I := I) 0 _ (n' := 288) (by decide) (by decide) (ha0 I)) $$ H
  iintro H
  iapply (wp_dact352 (I := I) 288 _ (n' := 624) (by decide) (by decide) (ha288 I)) $$ H
  iintro H
  iapply (wp_chunk I 0 _ (by decide)) $$ H
  iintro H
  iapply (wp_chunk I 1 _ (by decide)) $$ H
  iintro H
  iapply (wp_chunk I 2 _ (by decide)) $$ H
  iintro H
  iapply (wp_chunk I 3 _ (by decide)) $$ H
  iintro H
  iapply (wp_chunk I 4 _ (by decide)) $$ H
  iintro H
  iapply (wp_chunk I 5 _ (by decide)) $$ H
  iintro H
  rw [wp_bind]
  iapply (wp_dact304 (I := I) 624 _ (n' := 928) (by decide) (by decide) (ha624 I)) $$ H
  iintro H
  rw [wp_bind]
  iapply (wp_dhn288 (I := I) 0 _ (by decide) (hd0 I)) $$ H
  iintro H
  iapply (wp_chunk I 6 _ (by decide)) $$ H
  iintro H
  iapply (wp_chunk I 7 _ (by decide)) $$ H
  iintro H
  iapply (wp_chunk I 8 _ (by decide)) $$ H
  iintro H
  iapply (wp_chunk I 9 _ (by decide)) $$ H
  iintro H
  iapply (wp_chunk I 10 _ (by decide)) $$ H
  iintro H
  iapply (wp_chunk I 11 _ (by decide)) $$ H
  iintro H
  iapply (wp_chunk I 12 _ (by decide)) $$ H
  iintro H
  rw [wp_bind]
  iapply (wp_dhn336 (I := I) 288 _ (by decide) (hd288 I)) $$ H
  iintro H
  iapply (wp_chunk I 13 _ (by decide)) $$ H
  iintro H
  iapply (wp_chunk I 14 _ (by decide)) $$ H
  iintro H
  iapply (wp_chunk I 15 _ (by decide)) $$ H
  iintro H
  iapply (wp_chunk I 16 _ (by decide)) $$ H
  iintro H
  iapply (wp_chunk I 17 _ (by decide)) $$ H
  iintro H
  iapply (wp_chunkL I (by decide)) $$ H
  iintro H
  rw [wp_bind]
  iapply (wp_dhn288 (I := I) 624 _ (by decide) (hd624 I)) $$ H
  iintro H
  iapply Hk
  iapply (mid_done I) $$ H

/-! ## The taps' gradients -/

/-- A tap's gradient added at its place. -/
def addTap (r : Rect S11x2x3x256) (k : Vec F r.shape .f32 → Vec F r.shape .f32) (x : Vec F S11x2x3x256 .f32) : Vec F S11x2x3x256 .f32 := st r (k (ld x r)) x

/-- All six. -/
def tapsG (i : grid0.Coords) (K : Six F) (x : Vec F S11x2x3x256 .f32) : Vec F S11x2x3x256 .f32 :=
  addTap (rQ6 i) (fun y => tapPay y K.v2) (addTap (rQ5 i) (fun y => tapPay y K.v1) (addTap (rQ4 i) (fun y => tapPay y K.v0) (addTap (rQ3 i) (fun y => tapPay y K.g2) (addTap (rQ2 i) (fun y => tapPay y K.g1) (addTap (rQ1 i) (fun y => tapPay y K.g0) (x))))))

theorem wp_taps (i : grid0.Coords) (K : Six F) {x} :
    owns (c : Thread nD τ) M.dk fullShare x ⊢ iprop((owns (c : Thread nD τ) M.dk fullShare (tapsG i K x) -∗ Q ⟨⟩) -∗ wp frame (wpE (defs₀ (F := F)) Variants.none c none) Set.univ (taps_ i M K) Q) := by
  unfold taps_
  simp only [wp_bind]
  iintro Hdk
  iintro Hk
  iapply (wp_rd Variants.none (c : Thread nD τ) none Set.univ) $$ Hdk
  iintro Hdk
  iapply (wp_rd Variants.none (c : Thread nD τ) none Set.univ) $$ Hdk
  iintro Hdk
  iapply (wp_wr Variants.none (c : Thread nD τ) none Set.univ) $$ Hdk
  iintro Hdk
  iapply (wp_rd Variants.none (c : Thread nD τ) none Set.univ) $$ Hdk
  iintro Hdk
  iapply (wp_rd Variants.none (c : Thread nD τ) none Set.univ) $$ Hdk
  iintro Hdk
  iapply (wp_wr Variants.none (c : Thread nD τ) none Set.univ) $$ Hdk
  iintro Hdk
  iapply (wp_rd Variants.none (c : Thread nD τ) none Set.univ) $$ Hdk
  iintro Hdk
  iapply (wp_rd Variants.none (c : Thread nD τ) none Set.univ) $$ Hdk
  iintro Hdk
  iapply (wp_wr Variants.none (c : Thread nD τ) none Set.univ) $$ Hdk
  iintro Hdk
  iapply (wp_rd Variants.none (c : Thread nD τ) none Set.univ) $$ Hdk
  iintro Hdk
  iapply (wp_rd Variants.none (c : Thread nD τ) none Set.univ) $$ Hdk
  iintro Hdk
  iapply (wp_wr Variants.none (c : Thread nD τ) none Set.univ) $$ Hdk
  iintro Hdk
  iapply (wp_rd Variants.none (c : Thread nD τ) none Set.univ) $$ Hdk
  iintro Hdk
  iapply (wp_rd Variants.none (c : Thread nD τ) none Set.univ) $$ Hdk
  iintro Hdk
  iapply (wp_wr Variants.none (c : Thread nD τ) none Set.univ) $$ Hdk
  iintro Hdk
  iapply (wp_rd Variants.none (c : Thread nD τ) none Set.univ) $$ Hdk
  iintro Hdk
  iapply (wp_rd Variants.none (c : Thread nD τ) none Set.univ) $$ Hdk
  iintro Hdk
  iapply (wp_wr Variants.none (c : Thread nD τ) none Set.univ) $$ Hdk
  iintro Hdk
  iapply Hk
  unfold tapsG addTap
  iexact Hdk

end Cert.Kernel5Ideal.BackFfn

end
-- ==== Proof.BackPoint.lean ====
/- The body of the feed-forward call's backward pass at a point: at the first of all, at the first block of a tile, at the last, and between. -/
module

public import proofs.«01_k».proof.Proof.BackMid

@[expose] public section

set_option maxRecDepth 16384

noncomputable section

namespace Cert.Kernel5Ideal.BackFfn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel5Ideal Cert.Kernel5Ideal.Gen Cert.Rows
open Cert.Kernel6Ideal.ForwardFfn (emb_val emb3 emb2 emb_full ld_full st_full ix3_of ix2_of mem3 mem2)

variable {F : FTy → Type} [FloatOps F]
variable (I : In F) {c : Dev nD} {M : Bufs}
variable {Q : PUnit.{1} → sProp (MT nD τ sig Unit (Elt F) ℕ (UR sig nD τ) ℕ)}

/-- The taps as they are read from the blocks. -/
def tapsOf (kg kv : Vec F S3x256 .f32) : Six F :=
  ⟨tap (ld kg (rK 0 (by decide))), tap (ld kg (rK 1 (by decide))), tap (ld kg (rK 2 (by decide))),
    tap (ld kv (rK 0 (by decide))), tap (ld kv (rK 1 (by decide))), tap (ld kv (rK 2 (by decide)))⟩

/-- No sums yet. -/
def zero6 : Six F := ⟨zero8, zero8, zero8, zero8, zero8, zero8⟩

/-- The kept rows of the gradient that arrives: the tile's, then the sixteen below it. -/
def dheG (x : Vec F S912x1024 .f32) (y : Vec F S16x1024 .f32) : Vec F S928x1024 .bf16 := fun i =>
  if h : (i 0).val < 912 then keepPay x (ix2 ⟨(i 0).val, h⟩ (i 1))
  else nextPay y (ix2 ⟨(i 0).val - 912, by have h9 : (i 0).val < 928 := (i 0).isLt; omega⟩ (i 1))

theorem keep_at (x y) (i : S928x1024.Idx) (j : S912x1024.Idx) (e0 : (i 0).val = 0 + (j 0).val) (e1 : (i 1).val = (j 1).val) :
    keepPay (F := F) x j = dheG x y i := by
  have hj : (j 0).val < 912 := (j 0).isLt
  unfold dheG
  rw [dif_pos (by omega)]
  exact congrArg _ (ix2_of j _ _ (by show (i 0).val = (j 0).val; omega) e1).symm

theorem next_at (x y) (i : S928x1024.Idx) (j : S16x1024.Idx) (e0 : (i 0).val = 912 + (j 0).val) (e1 : (i 1).val = (j 1).val) :
    nextPay (F := F) y j = dheG x y i := by
  unfold dheG
  rw [dif_neg (by omega)]
  exact congrArg _ (ix2_of j _ _ (by show (i 0).val - 912 = (j 0).val; omega) e1).symm

/-- The two stores together. -/
theorem dhe_st (x : Vec F S912x1024 .f32) (y : Vec F S16x1024 .f32) (z : Vec F S928x1024 .bf16) :
    st (rE 16 912 (by decide)) (nextPay y) (st (rE 912 0 (by decide)) (keepPay x) z) = dheG x y := by
  have h0 : Agree (fun _ => False) z (dheG x y) := fun _ h => h.elim
  have h1 : Agree (fun i : S928x1024.Idx => (i 0).val < 912) (st (rE 912 0 (by decide)) (keepPay x) z) (dheG x y) :=
    st_agree h0 _ _ (fun j _ => by
      have e := emb2 (N := 928) (n := 912) (k := 1024) (K := 1024) (a := 0) (in2 (by decide) (by decide)) j
      exact keep_at x y _ j e.1 e.2) fun i hi => .inr (mem2 (n := 912) (a := 0) _ i ⟨Nat.zero_le _, by replace hi : (i 0).val < 912 := hi; omega⟩)
  have h2 : Agree (fun _ : S928x1024.Idx => True) (st (rE 16 912 (by decide)) (nextPay y) (st (rE 912 0 (by decide)) (keepPay x) z)) (dheG x y) :=
    st_agree h1 _ _ (fun j _ => by
      have e := emb2 (N := 928) (n := 16) (k := 1024) (K := 1024) (a := 912) (in2 (by decide) (by decide)) j
      exact next_at x y _ j e.1 e.2) fun i _ => by
        have h9 : (i 0).val < 928 := (i 0).isLt
        by_cases h : (i 0).val < 912
        · exact .inl h
        · exact .inr (mem2 (n := 16) (a := 912) _ i ⟨by omega, by omega⟩)
  exact h2.eq fun _ => trivial

theorem zeroK_st (x : Vec F S11x2x3x256 .f32) : st rQ zeroK x = zeroK :=
  st_whole _ _ _ _ (fun _ => rfl) fun i => mem_unit _ _ (by decide) i fun x => match x with
    | ⟨0, _⟩ => ⟨Nat.zero_le _, lt_of_lt_of_eq (i 0).isLt (Nat.zero_add 11).symm⟩
    | ⟨1, _⟩ => ⟨Nat.zero_le _, lt_of_lt_of_eq (i 1).isLt (Nat.zero_add 2).symm⟩
    | ⟨2, _⟩ => ⟨Nat.zero_le _, lt_of_lt_of_eq (i 2).isLt (Nat.zero_add 3).symm⟩
    | ⟨3, _⟩ => ⟨Nat.zero_le _, lt_of_lt_of_eq (i 3).isLt (Nat.zero_add 256).symm⟩

/-- All after the opening. -/
theorem wp_rest (k : P F PUnit) {kg kv : Vec F S3x256 .f32} (hT : I.T = tapsOf kg kv) {a' u x} :
    iprop(owns (c : Thread nD τ) M.kg fullShare kg
      ∗ owns (c : Thread nD τ) M.kv fullShare kv
      ∗ owns (c : Thread nD τ) M.dhe fullShare I.dhe
      ∗ owns (c : Thread nD τ) M.cg fullShare I.cg
      ∗ owns (c : Thread nD τ) M.cgn fullShare I.cgn
      ∗ owns (c : Thread nD τ) M.cv fullShare I.cv
      ∗ owns (c : Thread nD τ) M.cvn fullShare I.cvn
      ∗ owns (c : Thread nD τ) M.xg fullShare I.xg
      ∗ owns (c : Thread nD τ) M.xv fullShare I.xv
      ∗ owns (c : Thread nD τ) M.wd fullShare I.wd
      ∗ owns (c : Thread nD τ) M.wg fullShare I.wg
      ∗ owns (c : Thread nD τ) M.wv fullShare I.wv
      ∗ owns (c : Thread nD τ) M.da fullShare a'
      ∗ owns (c : Thread nD τ) M.du fullShare u
      ∗ owns (c : Thread nD τ) M.acc fullShare I.acc
      ∗ owns (c : Thread nD τ) M.dk fullShare x)
    ⊢ iprop((owns (c : Thread nD τ) M.kg fullShare kg
      ∗ owns (c : Thread nD τ) M.kv fullShare kv
      ∗ owns (c : Thread nD τ) M.dk fullShare (tapsG I.i (endK I zero6) x) ∗ Done I c M -∗ wp frame (wpE (defs₀ (F := F)) Variants.none c none) Set.univ k Q)
      -∗ wp frame (wpE (defs₀ (F := F)) Variants.none c none) Set.univ (taps I.i M) (fun t => wp frame (wpE (defs₀ (F := F)) Variants.none c none) Set.univ (mid I.i M k t) Q)) := by
  unfold taps
  simp only [wp_bind]
  iintro ⟨Hkg, Hkv, Hdhe, Hcg, Hcgn, Hcv, Hcvn, Hxg, Hxv, Hwd, Hwg, Hwv, Hda, Hdu, Hacc, Hdk⟩
  iintro Hk
  iapply (wp_rd Variants.none (c : Thread nD τ) none Set.univ) $$ Hkg
  iintro Hkg
  iapply (wp_rd Variants.none (c : Thread nD τ) none Set.univ) $$ Hkg
  iintro Hkg
  iapply (wp_rd Variants.none (c : Thread nD τ) none Set.univ) $$ Hkg
  iintro Hkg
  iapply (wp_rd Variants.none (c : Thread nD τ) none Set.univ) $$ Hkv
  iintro Hkv
  iapply (wp_rd Variants.none (c : Thread nD τ) none Set.univ) $$ Hkv
  iintro Hkv
  iapply (wp_rd Variants.none (c : Thread nD τ) none Set.univ) $$ Hkv
  iintro Hkv
  iapply (le_wp_ret _ _ Set.univ _ _)
  have hm := wp_middle I (c := c) (M := M) (Q := Q) zero6 (fun K => do taps_ I.i M K; k) (a' := a') (u := u)
  rw [hT] at hm
  unfold tapsOf zero6 at hm
  simp only [mid]
  iapply hm $$ [Hdhe Hcg Hcgn Hcv Hcvn Hxg Hxv Hwd Hwg Hwv Hda Hdu Hacc]
  · skip
    isplitl [Hdhe]; · iexact Hdhe
    isplitl [Hcg]; · iexact Hcg
    isplitl [Hcgn]; · iexact Hcgn
    isplitl [Hcv]; · iexact Hcv
    isplitl [Hcvn]; · iexact Hcvn
    isplitl [Hxg]; · iexact Hxg
    isplitl [Hxv]; · iexact Hxv
    isplitl [Hwd]; · iexact Hwd
    isplitl [Hwg]; · iexact Hwg
    isplitl [Hwv]; · iexact Hwv
    isplitl [Hda]; · iexact Hda
    isplitl [Hdu]; · iexact Hdu
    iexact Hacc
  iintro H
  rw [wp_bind]
  iapply (wp_taps (c := c) (M := M) I.i _ (x := x)) $$ Hdk
  iintro Hdk
  iapply Hk
  isplitl [Hkg]; · iexact Hkg
  isplitl [Hkv]; · iexact Hkv
  isplitl [Hdk]; · iexact Hdk
  iexact H

theorem wp_start (i : grid0.Coords) (h1 : k0_cond1 i = 1#1) (h2 : k0_cond2 i = 1#1) (h3 : ¬ k0_cond3 i = 1#1) {dhc dhn hm g xg xv cg cgn cv cvn kg kv wd wg wv}
    (e0 : I.i = i) (exg : I.xg = xg) (exv : I.xv = xv) (ecg : I.cg = cg) (ecgn : I.cgn = cgn) (ecv : I.cv = cv) (ecvn : I.cvn = cvn) (ewd : I.wd = wd) (ewg : I.wg = wg) (ewv : I.wv = wv) (hT : I.T = tapsOf kg kv)
    (ea : I.dhe = dheG dhc dhn) (ez : I.acc = zeroPay) {y1 y2} {o1 o2 u x a'} :
    iprop(owns (c : Thread nD τ) M.dhc fullShare dhc
      ∗ owns (c : Thread nD τ) M.dhn fullShare dhn
      ∗ owns (c : Thread nD τ) M.hm fullShare hm
      ∗ owns (c : Thread nD τ) M.g fullShare g
      ∗ owns (c : Thread nD τ) M.xg fullShare xg
      ∗ owns (c : Thread nD τ) M.xv fullShare xv
      ∗ owns (c : Thread nD τ) M.cg fullShare cg
      ∗ owns (c : Thread nD τ) M.cgn fullShare cgn
      ∗ owns (c : Thread nD τ) M.cv fullShare cv
      ∗ owns (c : Thread nD τ) M.cvn fullShare cvn
      ∗ owns (c : Thread nD τ) M.kg fullShare kg
      ∗ owns (c : Thread nD τ) M.kv fullShare kv
      ∗ owns (c : Thread nD τ) M.wd fullShare wd
      ∗ owns (c : Thread nD τ) M.wg fullShare wg
      ∗ owns (c : Thread nD τ) M.wv fullShare wv
      ∗ owns (c : Thread nD τ) M.dhm fullShare o1
      ∗ owns (c : Thread nD τ) M.dg fullShare o2
      ∗ owns (c : Thread nD τ) M.du fullShare u
      ∗ owns (c : Thread nD τ) M.dk fullShare x
      ∗ owns (c : Thread nD τ) M.dhe fullShare y1
      ∗ owns (c : Thread nD τ) M.da fullShare a'
      ∗ owns (c : Thread nD τ) M.acc fullShare y2)
    ⊢ iprop((owns (c : Thread nD τ) M.dhc fullShare dhc
      ∗ owns (c : Thread nD τ) M.dhn fullShare dhn
      ∗ owns (c : Thread nD τ) M.hm fullShare hm
      ∗ owns (c : Thread nD τ) M.g fullShare g
      ∗ owns (c : Thread nD τ) M.xg fullShare xg
      ∗ owns (c : Thread nD τ) M.xv fullShare xv
      ∗ owns (c : Thread nD τ) M.cg fullShare cg
      ∗ owns (c : Thread nD τ) M.cgn fullShare cgn
      ∗ owns (c : Thread nD τ) M.cv fullShare cv
      ∗ owns (c : Thread nD τ) M.cvn fullShare cvn
      ∗ owns (c : Thread nD τ) M.kg fullShare kg
      ∗ owns (c : Thread nD τ) M.kv fullShare kv
      ∗ owns (c : Thread nD τ) M.wd fullShare wd
      ∗ owns (c : Thread nD τ) M.wg fullShare wg
      ∗ owns (c : Thread nD τ) M.wv fullShare wv
      ∗ owns (c : Thread nD τ) M.dhm fullShare o1
      ∗ owns (c : Thread nD τ) M.dg fullShare zeroG
      ∗ owns (c : Thread nD τ) M.du fullShare (duG I)
      ∗ owns (c : Thread nD τ) M.dk fullShare (tapsG i (endK I zero6) zeroK)
      ∗ owns (c : Thread nD τ) M.dhe fullShare I.dhe
      ∗ owns (c : Thread nD τ) M.da fullShare (daG I)
      ∗ owns (c : Thread nD τ) M.acc fullShare (accG I) -∗ Q ⟨⟩)
      -∗ wp frame (wpE (defs₀ (F := F)) Variants.none c none) Set.univ (body i M) Q) := by
  subst e0 exg exv ecg ecgn ecv ecvn ewd ewg ewv
  unfold body head tail
  simp only [wp_bind]
  iintro ⟨Hdhc, Hdhn, Hhm, Hg, Hxg, Hxv, Hcg, Hcgn, Hcv, Hcvn, Hkg, Hkv, Hwd, Hwg, Hwv, Hdhm, Hdg, Hdu, Hdk, Hdhe, Hda, Hacc⟩
  iintro Hk
  rw [if_pos h1]
  unfold open_
  simp only [wp_bind]
  iapply (wp_rd Variants.none (c : Thread nD τ) none Set.univ) $$ Hdhc
  iintro Hdhc
  iapply (wp_rd Variants.none (c : Thread nD τ) none Set.univ) $$ Hdhe
  iintro Hdhe
  iapply (wp_wrh Variants.none (c : Thread nD τ) none Set.univ) $$ Hdhe
  iintro Hdhe
  iapply (wp_rd Variants.none (c : Thread nD τ) none Set.univ) $$ Hdhn
  iintro Hdhn
  iapply (wp_rd Variants.none (c : Thread nD τ) none Set.univ) $$ Hdhe
  iintro Hdhe
  iapply (wp_wrh Variants.none (c : Thread nD τ) none Set.univ) $$ Hdhe
  iintro Hdhe
  iapply (wp_rd Variants.none (c : Thread nD τ) none Set.univ) $$ Hacc
  iintro Hacc
  iapply (wp_wr Variants.none (c : Thread nD τ) none Set.univ) $$ Hacc
  iintro Hacc
  rw [show ld dhc rT = dhc from ld_full _ _, show ld dhn rH = dhn from ld_full _ _, dhe_st,
    show ∀ w, st rT w y2 = w from fun w => st_full _ w _, ← ea, ← ez]
  rw [if_pos h2]
  unfold clear_
  simp only [wp_bind]
  iapply (wp_rd Variants.none (c : Thread nD τ) none Set.univ) $$ Hdg
  iintro Hdg
  iapply (wp_wr Variants.none (c : Thread nD τ) none Set.univ) $$ Hdg
  iintro Hdg
  iapply (wp_rd Variants.none (c : Thread nD τ) none Set.univ) $$ Hdk
  iintro Hdk
  iapply (wp_wr Variants.none (c : Thread nD τ) none Set.univ) $$ Hdk
  iintro Hdk
  rw [zeroK_st, show ∀ w, st rG w o2 = w from fun w => st_full _ w _]
  iapply (wp_rest I _ hT (u := u) (a' := a') (x := zeroK)) $$ [Hkg Hkv Hdhe Hcg Hcgn Hcv Hcvn Hxg Hxv Hwd Hwg Hwv Hda Hdu Hacc Hdk]
  · skip
    isplitl [Hkg]; · iexact Hkg
    isplitl [Hkv]; · iexact Hkv
    isplitl [Hdhe]; · iexact Hdhe
    isplitl [Hcg]; · iexact Hcg
    isplitl [Hcgn]; · iexact Hcgn
    isplitl [Hcv]; · iexact Hcv
    isplitl [Hcvn]; · iexact Hcvn
    isplitl [Hxg]; · iexact Hxg
    isplitl [Hxv]; · iexact Hxv
    isplitl [Hwd]; · iexact Hwd
    isplitl [Hwg]; · iexact Hwg
    isplitl [Hwv]; · iexact Hwv
    isplitl [Hda]; · iexact Hda
    isplitl [Hdu]; · iexact Hdu
    isplitl [Hacc]; · iexact Hacc
    iexact Hdk
  unfold Done
  iintro ⟨Hkg, Hkv, Hdk, Hdhe, Hcg, Hcgn, Hcv, Hcvn, Hxg, Hxv, Hwd, Hwg, Hwv, Hda, Hdu, Hacc⟩
  simp only [wp_bind]
  rw [if_neg h3]
  iapply (le_wp_ret _ _ Set.univ _ _)
  iapply Hk
  isplitl [Hdhc]; · iexact Hdhc
  isplitl [Hdhn]; · iexact Hdhn
  isplitl [Hhm]; · iexact Hhm
  isplitl [Hg]; · iexact Hg
  isplitl [Hxg]; · iexact Hxg
  isplitl [Hxv]; · iexact Hxv
  isplitl [Hcg]; · iexact Hcg
  isplitl [Hcgn]; · iexact Hcgn
  isplitl [Hcv]; · iexact Hcv
  isplitl [Hcvn]; · iexact Hcvn
  isplitl [Hkg]; · iexact Hkg
  isplitl [Hkv]; · iexact Hkv
  isplitl [Hwd]; · iexact Hwd
  isplitl [Hwg]; · iexact Hwg
  isplitl [Hwv]; · iexact Hwv
  isplitl [Hdhm]; · iexact Hdhm
  isplitl [Hdg]; · iexact Hdg
  isplitl [Hdu]; · iexact Hdu
  isplitl [Hdk]; · iexact Hdk
  isplitl [Hdhe]; · iexact Hdhe
  isplitl [Hda]; · iexact Hda
  iexact Hacc

theorem wp_first (i : grid0.Coords) (h1 : k0_cond1 i = 1#1) (h2 : ¬ k0_cond2 i = 1#1) (h3 : ¬ k0_cond3 i = 1#1) {dhc dhn hm g xg xv cg cgn cv cvn kg kv wd wg wv}
    (e0 : I.i = i) (exg : I.xg = xg) (exv : I.xv = xv) (ecg : I.cg = cg) (ecgn : I.cgn = cgn) (ecv : I.cv = cv) (ecvn : I.cvn = cvn) (ewd : I.wd = wd) (ewg : I.wg = wg) (ewv : I.wv = wv) (hT : I.T = tapsOf kg kv)
    (ea : I.dhe = dheG dhc dhn) (ez : I.acc = zeroPay) {y1 y2} {o1 o2 u x a'} :
    iprop(owns (c : Thread nD τ) M.dhc fullShare dhc
      ∗ owns (c : Thread nD τ) M.dhn fullShare dhn
      ∗ owns (c : Thread nD τ) M.hm fullShare hm
      ∗ owns (c : Thread nD τ) M.g fullShare g
      ∗ owns (c : Thread nD τ) M.xg fullShare xg
      ∗ owns (c : Thread nD τ) M.xv fullShare xv
      ∗ owns (c : Thread nD τ) M.cg fullShare cg
      ∗ owns (c : Thread nD τ) M.cgn fullShare cgn
      ∗ owns (c : Thread nD τ) M.cv fullShare cv
      ∗ owns (c : Thread nD τ) M.cvn fullShare cvn
      ∗ owns (c : Thread nD τ) M.kg fullShare kg
      ∗ owns (c : Thread nD τ) M.kv fullShare kv
      ∗ owns (c : Thread nD τ) M.wd fullShare wd
      ∗ owns (c : Thread nD τ) M.wg fullShare wg
      ∗ owns (c : Thread nD τ) M.wv fullShare wv
      ∗ owns (c : Thread nD τ) M.dhm fullShare o1
      ∗ owns (c : Thread nD τ) M.dg fullShare o2
      ∗ owns (c : Thread nD τ) M.du fullShare u
      ∗ owns (c : Thread nD τ) M.dk fullShare x
      ∗ owns (c : Thread nD τ) M.dhe fullShare y1
      ∗ owns (c : Thread nD τ) M.da fullShare a'
      ∗ owns (c : Thread nD τ) M.acc fullShare y2)
    ⊢ iprop((owns (c : Thread nD τ) M.dhc fullShare dhc
      ∗ owns (c : Thread nD τ) M.dhn fullShare dhn
      ∗ owns (c : Thread nD τ) M.hm fullShare hm
      ∗ owns (c : Thread nD τ) M.g fullShare g
      ∗ owns (c : Thread nD τ) M.xg fullShare xg
      ∗ owns (c : Thread nD τ) M.xv fullShare xv
      ∗ owns (c : Thread nD τ) M.cg fullShare cg
      ∗ owns (c : Thread nD τ) M.cgn fullShare cgn
      ∗ owns (c : Thread nD τ) M.cv fullShare cv
      ∗ owns (c : Thread nD τ) M.cvn fullShare cvn
      ∗ owns (c : Thread nD τ) M.kg fullShare kg
      ∗ owns (c : Thread nD τ) M.kv fullShare kv
      ∗ owns (c : Thread nD τ) M.wd fullShare wd
      ∗ owns (c : Thread nD τ) M.wg fullShare wg
      ∗ owns (c : Thread nD τ) M.wv fullShare wv
      ∗ owns (c : Thread nD τ) M.dhm fullShare o1
      ∗ owns (c : Thread nD τ) M.dg fullShare o2
      ∗ owns (c : Thread nD τ) M.du fullShare (duG I)
      ∗ owns (c : Thread nD τ) M.dk fullShare (tapsG i (endK I zero6) x)
      ∗ owns (c : Thread nD τ) M.dhe fullShare I.dhe
      ∗ owns (c : Thread nD τ) M.da fullShare (daG I)
      ∗ owns (c : Thread nD τ) M.acc fullShare (accG I) -∗ Q ⟨⟩)
      -∗ wp frame (wpE (defs₀ (F := F)) Variants.none c none) Set.univ (body i M) Q) := by
  subst e0 exg exv ecg ecgn ecv ecvn ewd ewg ewv
  unfold body head tail
  simp only [wp_bind]
  iintro ⟨Hdhc, Hdhn, Hhm, Hg, Hxg, Hxv, Hcg, Hcgn, Hcv, Hcvn, Hkg, Hkv, Hwd, Hwg, Hwv, Hdhm, Hdg, Hdu, Hdk, Hdhe, Hda, Hacc⟩
  iintro Hk
  rw [if_pos h1]
  unfold open_
  simp only [wp_bind]
  iapply (wp_rd Variants.none (c : Thread nD τ) none Set.univ) $$ Hdhc
  iintro Hdhc
  iapply (wp_rd Variants.none (c : Thread nD τ) none Set.univ) $$ Hdhe
  iintro Hdhe
  iapply (wp_wrh Variants.none (c : Thread nD τ) none Set.univ) $$ Hdhe
  iintro Hdhe
  iapply (wp_rd Variants.none (c : Thread nD τ) none Set.univ) $$ Hdhn
  iintro Hdhn
  iapply (wp_rd Variants.none (c : Thread nD τ) none Set.univ) $$ Hdhe
  iintro Hdhe
  iapply (wp_wrh Variants.none (c : Thread nD τ) none Set.univ) $$ Hdhe
  iintro Hdhe
  iapply (wp_rd Variants.none (c : Thread nD τ) none Set.univ) $$ Hacc
  iintro Hacc
  iapply (wp_wr Variants.none (c : Thread nD τ) none Set.univ) $$ Hacc
  iintro Hacc
  rw [show ld dhc rT = dhc from ld_full _ _, show ld dhn rH = dhn from ld_full _ _, dhe_st,
    show ∀ w, st rT w y2 = w from fun w => st_full _ w _, ← ea, ← ez]
  rw [if_neg h2]
  iapply (wp_rest I _ hT (u := u) (a' := a') (x := x)) $$ [Hkg Hkv Hdhe Hcg Hcgn Hcv Hcvn Hxg Hxv Hwd Hwg Hwv Hda Hdu Hacc Hdk]
  · skip
    isplitl [Hkg]; · iexact Hkg
    isplitl [Hkv]; · iexact Hkv
    isplitl [Hdhe]; · iexact Hdhe
    isplitl [Hcg]; · iexact Hcg
    isplitl [Hcgn]; · iexact Hcgn
    isplitl [Hcv]; · iexact Hcv
    isplitl [Hcvn]; · iexact Hcvn
    isplitl [Hxg]; · iexact Hxg
    isplitl [Hxv]; · iexact Hxv
    isplitl [Hwd]; · iexact Hwd
    isplitl [Hwg]; · iexact Hwg
    isplitl [Hwv]; · iexact Hwv
    isplitl [Hda]; · iexact Hda
    isplitl [Hdu]; · iexact Hdu
    isplitl [Hacc]; · iexact Hacc
    iexact Hdk
  unfold Done
  iintro ⟨Hkg, Hkv, Hdk, Hdhe, Hcg, Hcgn, Hcv, Hcvn, Hxg, Hxv, Hwd, Hwg, Hwv, Hda, Hdu, Hacc⟩
  simp only [wp_bind]
  rw [if_neg h3]
  iapply (le_wp_ret _ _ Set.univ _ _)
  iapply Hk
  isplitl [Hdhc]; · iexact Hdhc
  isplitl [Hdhn]; · iexact Hdhn
  isplitl [Hhm]; · iexact Hhm
  isplitl [Hg]; · iexact Hg
  isplitl [Hxg]; · iexact Hxg
  isplitl [Hxv]; · iexact Hxv
  isplitl [Hcg]; · iexact Hcg
  isplitl [Hcgn]; · iexact Hcgn
  isplitl [Hcv]; · iexact Hcv
  isplitl [Hcvn]; · iexact Hcvn
  isplitl [Hkg]; · iexact Hkg
  isplitl [Hkv]; · iexact Hkv
  isplitl [Hwd]; · iexact Hwd
  isplitl [Hwg]; · iexact Hwg
  isplitl [Hwv]; · iexact Hwv
  isplitl [Hdhm]; · iexact Hdhm
  isplitl [Hdg]; · iexact Hdg
  isplitl [Hdu]; · iexact Hdu
  isplitl [Hdk]; · iexact Hdk
  isplitl [Hdhe]; · iexact Hdhe
  isplitl [Hda]; · iexact Hda
  iexact Hacc

theorem wp_inner (i : grid0.Coords) (h1 : ¬ k0_cond1 i = 1#1) (h2 : ¬ k0_cond2 i = 1#1) (h3 : ¬ k0_cond3 i = 1#1) {dhc dhn hm g xg xv cg cgn cv cvn kg kv wd wg wv}
    (e0 : I.i = i) (exg : I.xg = xg) (exv : I.xv = xv) (ecg : I.cg = cg) (ecgn : I.cgn = cgn) (ecv : I.cv = cv) (ecvn : I.cvn = cvn) (ewd : I.wd = wd) (ewg : I.wg = wg) (ewv : I.wv = wv) (hT : I.T = tapsOf kg kv)
     {o1 o2 u x a'} :
    iprop(owns (c : Thread nD τ) M.dhc fullShare dhc
      ∗ owns (c : Thread nD τ) M.dhn fullShare dhn
      ∗ owns (c : Thread nD τ) M.hm fullShare hm
      ∗ owns (c : Thread nD τ) M.g fullShare g
      ∗ owns (c : Thread nD τ) M.xg fullShare xg
      ∗ owns (c : Thread nD τ) M.xv fullShare xv
      ∗ owns (c : Thread nD τ) M.cg fullShare cg
      ∗ owns (c : Thread nD τ) M.cgn fullShare cgn
      ∗ owns (c : Thread nD τ) M.cv fullShare cv
      ∗ owns (c : Thread nD τ) M.cvn fullShare cvn
      ∗ owns (c : Thread nD τ) M.kg fullShare kg
      ∗ owns (c : Thread nD τ) M.kv fullShare kv
      ∗ owns (c : Thread nD τ) M.wd fullShare wd
      ∗ owns (c : Thread nD τ) M.wg fullShare wg
      ∗ owns (c : Thread nD τ) M.wv fullShare wv
      ∗ owns (c : Thread nD τ) M.dhm fullShare o1
      ∗ owns (c : Thread nD τ) M.dg fullShare o2
      ∗ owns (c : Thread nD τ) M.du fullShare u
      ∗ owns (c : Thread nD τ) M.dk fullShare x
      ∗ owns (c : Thread nD τ) M.dhe fullShare I.dhe
      ∗ owns (c : Thread nD τ) M.da fullShare a'
      ∗ owns (c : Thread nD τ) M.acc fullShare I.acc)
    ⊢ iprop((owns (c : Thread nD τ) M.dhc fullShare dhc
      ∗ owns (c : Thread nD τ) M.dhn fullShare dhn
      ∗ owns (c : Thread nD τ) M.hm fullShare hm
      ∗ owns (c : Thread nD τ) M.g fullShare g
      ∗ owns (c : Thread nD τ) M.xg fullShare xg
      ∗ owns (c : Thread nD τ) M.xv fullShare xv
      ∗ owns (c : Thread nD τ) M.cg fullShare cg
      ∗ owns (c : Thread nD τ) M.cgn fullShare cgn
      ∗ owns (c : Thread nD τ) M.cv fullShare cv
      ∗ owns (c : Thread nD τ) M.cvn fullShare cvn
      ∗ owns (c : Thread nD τ) M.kg fullShare kg
      ∗ owns (c : Thread nD τ) M.kv fullShare kv
      ∗ owns (c : Thread nD τ) M.wd fullShare wd
      ∗ owns (c : Thread nD τ) M.wg fullShare wg
      ∗ owns (c : Thread nD τ) M.wv fullShare wv
      ∗ owns (c : Thread nD τ) M.dhm fullShare o1
      ∗ owns (c : Thread nD τ) M.dg fullShare o2
      ∗ owns (c : Thread nD τ) M.du fullShare (duG I)
      ∗ owns (c : Thread nD τ) M.dk fullShare (tapsG i (endK I zero6) x)
      ∗ owns (c : Thread nD τ) M.dhe fullShare I.dhe
      ∗ owns (c : Thread nD τ) M.da fullShare (daG I)
      ∗ owns (c : Thread nD τ) M.acc fullShare (accG I) -∗ Q ⟨⟩)
      -∗ wp frame (wpE (defs₀ (F := F)) Variants.none c none) Set.univ (body i M) Q) := by
  subst e0 exg exv ecg ecgn ecv ecvn ewd ewg ewv
  unfold body head tail
  simp only [wp_bind]
  iintro ⟨Hdhc, Hdhn, Hhm, Hg, Hxg, Hxv, Hcg, Hcgn, Hcv, Hcvn, Hkg, Hkv, Hwd, Hwg, Hwv, Hdhm, Hdg, Hdu, Hdk, Hdhe, Hda, Hacc⟩
  iintro Hk
  rw [if_neg h1]
  rw [if_neg h2]
  iapply (wp_rest I _ hT (u := u) (a' := a') (x := x)) $$ [Hkg Hkv Hdhe Hcg Hcgn Hcv Hcvn Hxg Hxv Hwd Hwg Hwv Hda Hdu Hacc Hdk]
  · skip
    isplitl [Hkg]; · iexact Hkg
    isplitl [Hkv]; · iexact Hkv
    isplitl [Hdhe]; · iexact Hdhe
    isplitl [Hcg]; · iexact Hcg
    isplitl [Hcgn]; · iexact Hcgn
    isplitl [Hcv]; · iexact Hcv
    isplitl [Hcvn]; · iexact Hcvn
    isplitl [Hxg]; · iexact Hxg
    isplitl [Hxv]; · iexact Hxv
    isplitl [Hwd]; · iexact Hwd
    isplitl [Hwg]; · iexact Hwg
    isplitl [Hwv]; · iexact Hwv
    isplitl [Hda]; · iexact Hda
    isplitl [Hdu]; · iexact Hdu
    isplitl [Hacc]; · iexact Hacc
    iexact Hdk
  unfold Done
  iintro ⟨Hkg, Hkv, Hdk, Hdhe, Hcg, Hcgn, Hcv, Hcvn, Hxg, Hxv, Hwd, Hwg, Hwv, Hda, Hdu, Hacc⟩
  simp only [wp_bind]
  rw [if_neg h3]
  iapply (le_wp_ret _ _ Set.univ _ _)
  iapply Hk
  isplitl [Hdhc]; · iexact Hdhc
  isplitl [Hdhn]; · iexact Hdhn
  isplitl [Hhm]; · iexact Hhm
  isplitl [Hg]; · iexact Hg
  isplitl [Hxg]; · iexact Hxg
  isplitl [Hxv]; · iexact Hxv
  isplitl [Hcg]; · iexact Hcg
  isplitl [Hcgn]; · iexact Hcgn
  isplitl [Hcv]; · iexact Hcv
  isplitl [Hcvn]; · iexact Hcvn
  isplitl [Hkg]; · iexact Hkg
  isplitl [Hkv]; · iexact Hkv
  isplitl [Hwd]; · iexact Hwd
  isplitl [Hwg]; · iexact Hwg
  isplitl [Hwv]; · iexact Hwv
  isplitl [Hdhm]; · iexact Hdhm
  isplitl [Hdg]; · iexact Hdg
  isplitl [Hdu]; · iexact Hdu
  isplitl [Hdk]; · iexact Hdk
  isplitl [Hdhe]; · iexact Hdhe
  isplitl [Hda]; · iexact Hda
  iexact Hacc

theorem wp_last (i : grid0.Coords) (h1 : ¬ k0_cond1 i = 1#1) (h2 : ¬ k0_cond2 i = 1#1) (h3 : k0_cond3 i = 1#1) {dhc dhn hm g xg xv cg cgn cv cvn kg kv wd wg wv}
    (e0 : I.i = i) (exg : I.xg = xg) (exv : I.xv = xv) (ecg : I.cg = cg) (ecgn : I.cgn = cgn) (ecv : I.cv = cv) (ecvn : I.cvn = cvn) (ewd : I.wd = wd) (ewg : I.wg = wg) (ewv : I.wv = wv) (hT : I.T = tapsOf kg kv)
     {o1 o2 u x a'} :
    iprop(owns (c : Thread nD τ) M.dhc fullShare dhc
      ∗ owns (c : Thread nD τ) M.dhn fullShare dhn
      ∗ owns (c : Thread nD τ) M.hm fullShare hm
      ∗ owns (c : Thread nD τ) M.g fullShare g
      ∗ owns (c : Thread nD τ) M.xg fullShare xg
      ∗ owns (c : Thread nD τ) M.xv fullShare xv
      ∗ owns (c : Thread nD τ) M.cg fullShare cg
      ∗ owns (c : Thread nD τ) M.cgn fullShare cgn
      ∗ owns (c : Thread nD τ) M.cv fullShare cv
      ∗ owns (c : Thread nD τ) M.cvn fullShare cvn
      ∗ owns (c : Thread nD τ) M.kg fullShare kg
      ∗ owns (c : Thread nD τ) M.kv fullShare kv
      ∗ owns (c : Thread nD τ) M.wd fullShare wd
      ∗ owns (c : Thread nD τ) M.wg fullShare wg
      ∗ owns (c : Thread nD τ) M.wv fullShare wv
      ∗ owns (c : Thread nD τ) M.dhm fullShare o1
      ∗ owns (c : Thread nD τ) M.dg fullShare o2
      ∗ owns (c : Thread nD τ) M.du fullShare u
      ∗ owns (c : Thread nD τ) M.dk fullShare x
      ∗ owns (c : Thread nD τ) M.dhe fullShare I.dhe
      ∗ owns (c : Thread nD τ) M.da fullShare a'
      ∗ owns (c : Thread nD τ) M.acc fullShare I.acc)
    ⊢ iprop((owns (c : Thread nD τ) M.dhc fullShare dhc
      ∗ owns (c : Thread nD τ) M.dhn fullShare dhn
      ∗ owns (c : Thread nD τ) M.hm fullShare hm
      ∗ owns (c : Thread nD τ) M.g fullShare g
      ∗ owns (c : Thread nD τ) M.xg fullShare xg
      ∗ owns (c : Thread nD τ) M.xv fullShare xv
      ∗ owns (c : Thread nD τ) M.cg fullShare cg
      ∗ owns (c : Thread nD τ) M.cgn fullShare cgn
      ∗ owns (c : Thread nD τ) M.cv fullShare cv
      ∗ owns (c : Thread nD τ) M.cvn fullShare cvn
      ∗ owns (c : Thread nD τ) M.kg fullShare kg
      ∗ owns (c : Thread nD τ) M.kv fullShare kv
      ∗ owns (c : Thread nD τ) M.wd fullShare wd
      ∗ owns (c : Thread nD τ) M.wg fullShare wg
      ∗ owns (c : Thread nD τ) M.wv fullShare wv
      ∗ owns (c : Thread nD τ) M.dhm fullShare (closePay hm (accG I) g dhc)
      ∗ owns (c : Thread nD τ) M.dg fullShare (dgPay o2 (accG I) hm)
      ∗ owns (c : Thread nD τ) M.du fullShare (duG I)
      ∗ owns (c : Thread nD τ) M.dk fullShare (tapsG i (endK I zero6) x)
      ∗ owns (c : Thread nD τ) M.dhe fullShare I.dhe
      ∗ owns (c : Thread nD τ) M.da fullShare (daG I)
      ∗ owns (c : Thread nD τ) M.acc fullShare (accG I) -∗ Q ⟨⟩)
      -∗ wp frame (wpE (defs₀ (F := F)) Variants.none c none) Set.univ (body i M) Q) := by
  subst e0 exg exv ecg ecgn ecv ecvn ewd ewg ewv
  unfold body head tail
  simp only [wp_bind]
  iintro ⟨Hdhc, Hdhn, Hhm, Hg, Hxg, Hxv, Hcg, Hcgn, Hcv, Hcvn, Hkg, Hkv, Hwd, Hwg, Hwv, Hdhm, Hdg, Hdu, Hdk, Hdhe, Hda, Hacc⟩
  iintro Hk
  rw [if_neg h1]
  rw [if_neg h2]
  iapply (wp_rest I _ hT (u := u) (a' := a') (x := x)) $$ [Hkg Hkv Hdhe Hcg Hcgn Hcv Hcvn Hxg Hxv Hwd Hwg Hwv Hda Hdu Hacc Hdk]
  · skip
    isplitl [Hkg]; · iexact Hkg
    isplitl [Hkv]; · iexact Hkv
    isplitl [Hdhe]; · iexact Hdhe
    isplitl [Hcg]; · iexact Hcg
    isplitl [Hcgn]; · iexact Hcgn
    isplitl [Hcv]; · iexact Hcv
    isplitl [Hcvn]; · iexact Hcvn
    isplitl [Hxg]; · iexact Hxg
    isplitl [Hxv]; · iexact Hxv
    isplitl [Hwd]; · iexact Hwd
    isplitl [Hwg]; · iexact Hwg
    isplitl [Hwv]; · iexact Hwv
    isplitl [Hda]; · iexact Hda
    isplitl [Hdu]; · iexact Hdu
    isplitl [Hacc]; · iexact Hacc
    iexact Hdk
  unfold Done
  iintro ⟨Hkg, Hkv, Hdk, Hdhe, Hcg, Hcgn, Hcv, Hcvn, Hxg, Hxv, Hwd, Hwg, Hwv, Hda, Hdu, Hacc⟩
  simp only [wp_bind]
  rw [if_pos h3]
  unfold close_
  simp only [wp_bind]
  iapply (wp_rd Variants.none (c : Thread nD τ) none Set.univ) $$ Hhm
  iintro Hhm
  iapply (wp_rd Variants.none (c : Thread nD τ) none Set.univ) $$ Hacc
  iintro Hacc
  iapply (wp_rd Variants.none (c : Thread nD τ) none Set.univ) $$ Hg
  iintro Hg
  iapply (wp_rd Variants.none (c : Thread nD τ) none Set.univ) $$ Hdhc
  iintro Hdhc
  iapply (wp_rd Variants.none (c : Thread nD τ) none Set.univ) $$ Hdhm
  iintro Hdhm
  iapply (wp_wr Variants.none (c : Thread nD τ) none Set.univ) $$ Hdhm
  iintro Hdhm
  iapply (wp_rd Variants.none (c : Thread nD τ) none Set.univ) $$ Hdg
  iintro Hdg
  iapply (wp_rd Variants.none (c : Thread nD τ) none Set.univ) $$ Hdg
  iintro Hdg
  iapply (wp_wr Variants.none (c : Thread nD τ) none Set.univ) $$ Hdg
  iintro Hdg
  rw [show ld (accG I) rT = accG I from ld_full _ _, show ld hm rT = hm from ld_full _ _, show ld g rG = g from ld_full _ _,
    show ld dhc rT = dhc from ld_full _ _, show ld o2 rG = o2 from ld_full _ _,
    show ∀ w, st rT w o1 = w from fun w => st_full _ w _, show ∀ w, st rG w o2 = w from fun w => st_full _ w _]
  iapply (le_wp_ret _ _ Set.univ _ _)
  iapply Hk
  isplitl [Hdhc]; · iexact Hdhc
  isplitl [Hdhn]; · iexact Hdhn
  isplitl [Hhm]; · iexact Hhm
  isplitl [Hg]; · iexact Hg
  isplitl [Hxg]; · iexact Hxg
  isplitl [Hxv]; · iexact Hxv
  isplitl [Hcg]; · iexact Hcg
  isplitl [Hcgn]; · iexact Hcgn
  isplitl [Hcv]; · iexact Hcv
  isplitl [Hcvn]; · iexact Hcvn
  isplitl [Hkg]; · iexact Hkg
  isplitl [Hkv]; · iexact Hkv
  isplitl [Hwd]; · iexact Hwd
  isplitl [Hwg]; · iexact Hwg
  isplitl [Hwv]; · iexact Hwv
  isplitl [Hdhm]; · iexact Hdhm
  isplitl [Hdg]; · iexact Hdg
  isplitl [Hdu]; · iexact Hdu
  isplitl [Hdk]; · iexact Hdk
  isplitl [Hdhe]; · iexact Hdhe
  isplitl [Hda]; · iexact Hda
  iexact Hacc

end Cert.Kernel5Ideal.BackFfn

end
-- ==== Proof.FfnMid.lean ====
/- The middle of the feed-forward call's body from end to end. -/
module

public import proofs.«01_k».proof.Proof.FfnRun

@[expose] public section

set_option maxRecDepth 16384

noncomputable section

namespace Cert.Kernel6Ideal.ForwardFfn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel6Ideal Cert.Kernel6Ideal.Gen Cert.Rows

variable {F : FTy → Type} [FloatOps F]
variable (I : In F) {c : Dev nD} {M : Bufs}
variable {Q : PUnit.{1} → sProp (MT nD τ sig Unit (Elt F) ℕ (UR sig nD τ) ℕ)}

set_option maxHeartbeats 1000000 in
theorem wp_middle (k : P F PUnit) {u v x z a'} :
    iprop(owns (c : Thread nD τ) M.hn fullShare I.hn ∗ owns (c : Thread nD τ) M.wg fullShare I.wg ∗ owns (c : Thread nD τ) M.wv fullShare I.wv
      ∗ owns (c : Thread nD τ) M.wd fullShare I.wd ∗ owns (c : Thread nD τ) M.uh fullShare (st (rh 0 (by decide)) (uhPay (uhPre I.hal I.wg)) v)
      ∗ owns (c : Thread nD τ) M.ug fullShare u ∗ owns (c : Thread nD τ) M.ux fullShare x ∗ owns (c : Thread nD τ) M.uc fullShare z
      ∗ owns (c : Thread nD τ) M.act fullShare a' ∗ owns (c : Thread nD τ) M.acc fullShare I.acc)
    ⊢ iprop((Done I c M -∗ wp frame (wpE (defs₀ (F := F)) Variants.none c none) Set.univ k Q) -∗ wp frame (wpE (defs₀ (F := F)) Variants.none c none) Set.univ (middle M I.T (uhPre I.hal I.wv) k) Q) := by
  unfold middle halo
  simp only [wp_bind]
  iintro ⟨Hhn, Hwg, Hwv, Hwd, Huh, Hug, Hux, Huc, Hact, Hacc⟩
  iintro Hk
  iapply (wp_rd Variants.none (c : Thread nD τ) none Set.univ) $$ Huh
  iintro Huh
  iapply (wp_wr Variants.none (c : Thread nD τ) none Set.univ) $$ Huh
  iintro Huh
  rw [uh_eq]
  ihave H : Mid I c M 0 0 0 $$ [Hhn Hwg Hwv Hwd Huh Hug Hux Huc Hact Hacc]
  · unfold Mid
    rw [mix_zero]
    iexists u; iexists x; iexists z; iexists a'
    isplitr
    · ipureintro; exact ⟨fun i h => absurd h (Nat.not_lt_zero _), fun i h => absurd h (Nat.not_lt_zero _), fun i h => absurd h (Nat.not_lt_zero _), fun i h => absurd h (Nat.not_lt_zero _)⟩
    isplitl [Hhn]; · iexact Hhn
    isplitl [Hwg]; · iexact Hwg
    isplitl [Hwv]; · iexact Hwv
    isplitl [Hwd]; · iexact Hwd
    isplitl [Huh]; · iexact Huh
    isplitl [Hug]; · iexact Hug
    isplitl [Hux]; · iexact Hux
    isplitl [Huc]; · iexact Huc
    isplitl [Hact]; · iexact Hact
    iexact Hacc
  iapply (wp_up288 (I := I) 0 _ (hu0 I)) $$ H
  iintro H
  iapply (wp_up336 (I := I) 288 _ (hu1 I)) $$ H
  iintro H
  iapply (wp_chunk0 I (by decide)) $$ H
  iintro H
  iapply (wp_chunk I 1 _ _ (by decide)) $$ H
  iintro H
  iapply (wp_chunk I 2 _ _ (by decide)) $$ H
  iintro H
  iapply (wp_chunk I 3 _ _ (by decide)) $$ H
  iintro H
  iapply (wp_chunk I 4 _ _ (by decide)) $$ H
  iintro H
  iapply (wp_chunk I 5 _ _ (by decide)) $$ H
  iintro H
  iapply (wp_up288 (I := I) 624 _ (hu2 I)) $$ H
  iintro H
  iapply (wp_down288 I 0 _ (by decide) (hd0 I)) $$ H
  iintro H
  iapply (wp_chunk I 6 _ _ (by decide)) $$ H
  iintro H
  iapply (wp_chunk I 7 _ _ (by decide)) $$ H
  iintro H
  iapply (wp_chunk I 8 _ _ (by decide)) $$ H
  iintro H
  iapply (wp_chunk I 9 _ _ (by decide)) $$ H
  iintro H
  iapply (wp_chunk I 10 _ _ (by decide)) $$ H
  iintro H
  iapply (wp_chunk I 11 _ _ (by decide)) $$ H
  iintro H
  iapply (wp_chunk I 12 _ _ (by decide)) $$ H
  iintro H
  iapply (wp_down336 I 288 _ (by decide) (hd1 I)) $$ H
  iintro H
  iapply (wp_chunk I 13 _ _ (by decide)) $$ H
  iintro H
  iapply (wp_chunk I 14 _ _ (by decide)) $$ H
  iintro H
  iapply (wp_chunk I 15 _ _ (by decide)) $$ H
  iintro H
  iapply (wp_chunk I 16 _ _ (by decide)) $$ H
  iintro H
  iapply (wp_chunk I 17 _ _ (by decide)) $$ H
  iintro H
  iapply (wp_chunk I 18 _ _ (by decide)) $$ H
  iintro H
  iapply (wp_down288 I 624 _ (by decide) (hd2 I)) $$ H
  iintro H
  iapply Hk
  iapply (mid_done I) $$ H

end Cert.Kernel6Ideal.ForwardFfn

end
-- ==== Proof.FfnPoint.lean ====
/- The feed-forward call's body at a point: at the first block of a tile, at the last, and between. -/
module

public import proofs.«01_k».proof.Proof.FfnMid

@[expose] public section

set_option maxRecDepth 16384

noncomputable section

namespace Cert.Kernel6Ideal.ForwardFfn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel6Ideal Cert.Kernel6Ideal.Gen Cert.Rows

variable {F : FTy → Type} [FloatOps F]
variable (I : In F) {c : Dev nD} {M : Bufs}
variable {Q : PUnit.{1} → sProp (MT nD τ sig Unit (Elt F) ℕ (UR sig nD τ) ℕ)}

/-- The taps as they are read from the blocks. -/
def tapsOf (kg kv : Vec F S3x256 .f32) : Taps F :=
  ⟨tap (ld kg (rK 0 (by decide))), tap (ld kg (rK 1 (by decide))), tap (ld kg (rK 2 (by decide))),
    tap (ld kv (rK 0 (by decide))), tap (ld kv (rK 1 (by decide))), tap (ld kv (rK 2 (by decide)))⟩

/-- All after the opening. -/
theorem wp_rest (i : grid0.Coords) (k : P F PUnit) {kg kv : Vec F S3x256 .f32} (hT : I.T = tapsOf kg kv) {u v x z a'} :
    iprop(owns (c : Thread nD τ) M.kg fullShare kg
      ∗ owns (c : Thread nD τ) M.kv fullShare kv
      ∗ owns (c : Thread nD τ) M.hal fullShare I.hal
      ∗ owns (c : Thread nD τ) M.hn fullShare I.hn
      ∗ owns (c : Thread nD τ) M.wg fullShare I.wg
      ∗ owns (c : Thread nD τ) M.wv fullShare I.wv
      ∗ owns (c : Thread nD τ) M.wd fullShare I.wd
      ∗ owns (c : Thread nD τ) M.uh fullShare v
      ∗ owns (c : Thread nD τ) M.ug fullShare u
      ∗ owns (c : Thread nD τ) M.ux fullShare x
      ∗ owns (c : Thread nD τ) M.uc fullShare z
      ∗ owns (c : Thread nD τ) M.act fullShare a'
      ∗ owns (c : Thread nD τ) M.acc fullShare I.acc)
    ⊢ iprop((owns (c : Thread nD τ) M.kg fullShare kg
      ∗ owns (c : Thread nD τ) M.kv fullShare kv
      ∗ owns (c : Thread nD τ) M.hal fullShare I.hal ∗ Done I c M -∗ wp frame (wpE (defs₀ (F := F)) Variants.none c none) Set.univ k Q)
      -∗ wp frame (wpE (defs₀ (F := F)) Variants.none c none) Set.univ (taps i M) (fun t => wp frame (wpE (defs₀ (F := F)) Variants.none c none) Set.univ (mid M k t) Q)) := by
  unfold taps
  simp only [wp_bind]
  iintro ⟨Hkg, Hkv, Hhal, Hhn, Hwg, Hwv, Hwd, Huh, Hug, Hux, Huc, Hact, Hacc⟩
  iintro Hk
  iapply (wp_rd Variants.none (c : Thread nD τ) none Set.univ) $$ Hkg
  iintro Hkg
  iapply (wp_rd Variants.none (c : Thread nD τ) none Set.univ) $$ Hkg
  iintro Hkg
  iapply (wp_rd Variants.none (c : Thread nD τ) none Set.univ) $$ Hkg
  iintro Hkg
  iapply (wp_rd Variants.none (c : Thread nD τ) none Set.univ) $$ Hkv
  iintro Hkv
  iapply (wp_rd Variants.none (c : Thread nD τ) none Set.univ) $$ Hkv
  iintro Hkv
  iapply (wp_rd Variants.none (c : Thread nD τ) none Set.univ) $$ Hkv
  iintro Hkv
  iapply (wp_rd Variants.none (c : Thread nD τ) none Set.univ) $$ Hhal
  iintro Hhal
  iapply (wp_rd Variants.none (c : Thread nD τ) none Set.univ) $$ Hwg
  iintro Hwg
  iapply (wp_rd Variants.none (c : Thread nD τ) none Set.univ) $$ Huh
  iintro Huh
  iapply (wp_wr Variants.none (c : Thread nD τ) none Set.univ) $$ Huh
  iintro Huh
  iapply (wp_rd Variants.none (c : Thread nD τ) none Set.univ) $$ Hwv
  iintro Hwv
  rw [show ld I.hal rH = I.hal from ld_full _ _, show ld I.wg rW = I.wg from ld_full _ _, show ld I.wv rW = I.wv from ld_full _ _]
  iapply (le_wp_ret _ _ Set.univ _ _)
  have hm := wp_middle I k (c := c) (M := M) (Q := Q) (u := u) (v := v) (x := x) (z := z) (a' := a')
  rw [hT] at hm
  unfold tapsOf at hm
  simp only [mid]
  iapply hm $$ [Hhn Hwg Hwv Hwd Huh Hug Hux Huc Hact Hacc]
  · skip
    isplitl [Hhn]; · iexact Hhn
    isplitl [Hwg]; · iexact Hwg
    isplitl [Hwv]; · iexact Hwv
    isplitl [Hwd]; · iexact Hwd
    isplitl [Huh]; · iexact Huh
    isplitl [Hug]; · iexact Hug
    isplitl [Hux]; · iexact Hux
    isplitl [Huc]; · iexact Huc
    isplitl [Hact]; · iexact Hact
    iexact Hacc
  iintro H
  iapply Hk
  isplitl [Hkg]; · iexact Hkg
  isplitl [Hkv]; · iexact Hkv
  isplitl [Hhal]; · iexact Hhal
  iexact H

theorem wp_first (i : grid0.Coords) (h1 : k0_cond1 i = 1#1) (h2 : ¬ k0_cond2 i = 1#1) {hp hc g wg wv kg kv wd} (e3 : I.wg = wg) (e4 : I.wv = wv) (e7 : I.wd = wd) (hT : I.T = tapsOf kg kv)
    (e9 : I.hn = hnPay g hc) (e15 : I.hal = halPay i g hp) (e18 : I.acc = zeroPay) {y9 y15 y18} {o u v x z a'} :
    iprop(owns (c : Thread nD τ) M.hp fullShare hp
      ∗ owns (c : Thread nD τ) M.hc fullShare hc
      ∗ owns (c : Thread nD τ) M.g fullShare g
      ∗ owns (c : Thread nD τ) M.wg fullShare wg
      ∗ owns (c : Thread nD τ) M.wv fullShare wv
      ∗ owns (c : Thread nD τ) M.kg fullShare kg
      ∗ owns (c : Thread nD τ) M.kv fullShare kv
      ∗ owns (c : Thread nD τ) M.wd fullShare wd
      ∗ owns (c : Thread nD τ) M.out fullShare o
      ∗ owns (c : Thread nD τ) M.hn fullShare y9
      ∗ owns (c : Thread nD τ) M.act fullShare a'
      ∗ owns (c : Thread nD τ) M.ux fullShare x
      ∗ owns (c : Thread nD τ) M.uc fullShare z
      ∗ owns (c : Thread nD τ) M.hal fullShare y15
      ∗ owns (c : Thread nD τ) M.uh fullShare v
      ∗ owns (c : Thread nD τ) M.ug fullShare u
      ∗ owns (c : Thread nD τ) M.acc fullShare y18)
    ⊢ iprop((owns (c : Thread nD τ) M.hp fullShare hp
      ∗ owns (c : Thread nD τ) M.hc fullShare hc
      ∗ owns (c : Thread nD τ) M.g fullShare g
      ∗ owns (c : Thread nD τ) M.wg fullShare wg
      ∗ owns (c : Thread nD τ) M.wv fullShare wv
      ∗ owns (c : Thread nD τ) M.kg fullShare kg
      ∗ owns (c : Thread nD τ) M.kv fullShare kv
      ∗ owns (c : Thread nD τ) M.wd fullShare wd
      ∗ owns (c : Thread nD τ) M.out fullShare o
      ∗ owns (c : Thread nD τ) M.hn fullShare I.hn
      ∗ owns (c : Thread nD τ) M.act fullShare (actG I)
      ∗ owns (c : Thread nD τ) M.ux fullShare (uxG I)
      ∗ owns (c : Thread nD τ) M.uc fullShare (ucG I)
      ∗ owns (c : Thread nD τ) M.hal fullShare I.hal
      ∗ owns (c : Thread nD τ) M.uh fullShare (uhG I)
      ∗ owns (c : Thread nD τ) M.ug fullShare (upG I)
      ∗ owns (c : Thread nD τ) M.acc fullShare (accG I) -∗ Q ⟨⟩)
      -∗ wp frame (wpE (defs₀ (F := F)) Variants.none c none) Set.univ (body i M) Q) := by
  subst e3 e4 e7
  unfold body head tail
  simp only [wp_bind]
  iintro ⟨Hhp, Hhc, Hg, Hwg, Hwv, Hkg, Hkv, Hwd, Hout, Hhn, Hact, Hux, Huc, Hhal, Huh, Hug, Hacc⟩
  iintro Hk
  rw [if_pos h1]
  unfold open_
  simp only [wp_bind]
  iapply (wp_rd Variants.none (c : Thread nD τ) none Set.univ) $$ Hg
  iintro Hg
  iapply (wp_rd Variants.none (c : Thread nD τ) none Set.univ) $$ Hhp
  iintro Hhp
  iapply (wp_rd Variants.none (c : Thread nD τ) none Set.univ) $$ Hhal
  iintro Hhal
  iapply (wp_wrh Variants.none (c : Thread nD τ) none Set.univ) $$ Hhal
  iintro Hhal
  iapply (wp_rd Variants.none (c : Thread nD τ) none Set.univ) $$ Hhc
  iintro Hhc
  iapply (wp_rd Variants.none (c : Thread nD τ) none Set.univ) $$ Hhn
  iintro Hhn
  iapply (wp_wrh Variants.none (c : Thread nD τ) none Set.univ) $$ Hhn
  iintro Hhn
  iapply (wp_rd Variants.none (c : Thread nD τ) none Set.univ) $$ Hacc
  iintro Hacc
  iapply (wp_wr Variants.none (c : Thread nD τ) none Set.univ) $$ Hacc
  iintro Hacc
  rw [show ld g (Rect.unit (s := S1x1024) ![0, 0] S1x1024.size (in2 (by decide) (by decide))) = g from ld_full _ _, show ld hp rH = hp from ld_full _ _,
    show ld hc rT = hc from ld_full _ _, show ∀ w, st rH w y15 = w from fun w => st_full _ w _, show ∀ w, st rT w y9 = w from fun w => st_full _ w _,
    show ∀ w, st rT w y18 = w from fun w => st_full _ w _, ← e9, ← e15, ← e18]
  iapply (wp_rest I i _ hT (u := u) (v := v) (x := x) (z := z) (a' := a')) $$ [Hkg Hkv Hhal Hhn Hwg Hwv Hwd Huh Hug Hux Huc Hact Hacc]
  · skip
    isplitl [Hkg]; · iexact Hkg
    isplitl [Hkv]; · iexact Hkv
    isplitl [Hhal]; · iexact Hhal
    isplitl [Hhn]; · iexact Hhn
    isplitl [Hwg]; · iexact Hwg
    isplitl [Hwv]; · iexact Hwv
    isplitl [Hwd]; · iexact Hwd
    isplitl [Huh]; · iexact Huh
    isplitl [Hug]; · iexact Hug
    isplitl [Hux]; · iexact Hux
    isplitl [Huc]; · iexact Huc
    isplitl [Hact]; · iexact Hact
    iexact Hacc
  unfold Done
  iintro ⟨Hkg, Hkv, Hhal, Hhn, Hwg, Hwv, Hwd, Huh, Hug, Hux, Huc, Hact, Hacc⟩
  simp only [wp_bind]
  rw [if_neg h2]
  iapply (le_wp_ret _ _ Set.univ _ _)
  iapply Hk
  isplitl [Hhp]; · iexact Hhp
  isplitl [Hhc]; · iexact Hhc
  isplitl [Hg]; · iexact Hg
  isplitl [Hwg]; · iexact Hwg
  isplitl [Hwv]; · iexact Hwv
  isplitl [Hkg]; · iexact Hkg
  isplitl [Hkv]; · iexact Hkv
  isplitl [Hwd]; · iexact Hwd
  isplitl [Hout]; · iexact Hout
  isplitl [Hhn]; · iexact Hhn
  isplitl [Hact]; · iexact Hact
  isplitl [Hux]; · iexact Hux
  isplitl [Huc]; · iexact Huc
  isplitl [Hhal]; · iexact Hhal
  isplitl [Huh]; · iexact Huh
  isplitl [Hug]; · iexact Hug
  iexact Hacc

theorem wp_inner (i : grid0.Coords) (h1 : ¬ k0_cond1 i = 1#1) (h2 : ¬ k0_cond2 i = 1#1) {hp hc g wg wv kg kv wd} (e3 : I.wg = wg) (e4 : I.wv = wv) (e7 : I.wd = wd) (hT : I.T = tapsOf kg kv)
     {o u v x z a'} :
    iprop(owns (c : Thread nD τ) M.hp fullShare hp
      ∗ owns (c : Thread nD τ) M.hc fullShare hc
      ∗ owns (c : Thread nD τ) M.g fullShare g
      ∗ owns (c : Thread nD τ) M.wg fullShare wg
      ∗ owns (c : Thread nD τ) M.wv fullShare wv
      ∗ owns (c : Thread nD τ) M.kg fullShare kg
      ∗ owns (c : Thread nD τ) M.kv fullShare kv
      ∗ owns (c : Thread nD τ) M.wd fullShare wd
      ∗ owns (c : Thread nD τ) M.out fullShare o
      ∗ owns (c : Thread nD τ) M.hn fullShare I.hn
      ∗ owns (c : Thread nD τ) M.act fullShare a'
      ∗ owns (c : Thread nD τ) M.ux fullShare x
      ∗ owns (c : Thread nD τ) M.uc fullShare z
      ∗ owns (c : Thread nD τ) M.hal fullShare I.hal
      ∗ owns (c : Thread nD τ) M.uh fullShare v
      ∗ owns (c : Thread nD τ) M.ug fullShare u
      ∗ owns (c : Thread nD τ) M.acc fullShare I.acc)
    ⊢ iprop((owns (c : Thread nD τ) M.hp fullShare hp
      ∗ owns (c : Thread nD τ) M.hc fullShare hc
      ∗ owns (c : Thread nD τ) M.g fullShare g
      ∗ owns (c : Thread nD τ) M.wg fullShare wg
      ∗ owns (c : Thread nD τ) M.wv fullShare wv
      ∗ owns (c : Thread nD τ) M.kg fullShare kg
      ∗ owns (c : Thread nD τ) M.kv fullShare kv
      ∗ owns (c : Thread nD τ) M.wd fullShare wd
      ∗ owns (c : Thread nD τ) M.out fullShare o
      ∗ owns (c : Thread nD τ) M.hn fullShare I.hn
      ∗ owns (c : Thread nD τ) M.act fullShare (actG I)
      ∗ owns (c : Thread nD τ) M.ux fullShare (uxG I)
      ∗ owns (c : Thread nD τ) M.uc fullShare (ucG I)
      ∗ owns (c : Thread nD τ) M.hal fullShare I.hal
      ∗ owns (c : Thread nD τ) M.uh fullShare (uhG I)
      ∗ owns (c : Thread nD τ) M.ug fullShare (upG I)
      ∗ owns (c : Thread nD τ) M.acc fullShare (accG I) -∗ Q ⟨⟩)
      -∗ wp frame (wpE (defs₀ (F := F)) Variants.none c none) Set.univ (body i M) Q) := by
  subst e3 e4 e7
  unfold body head tail
  simp only [wp_bind]
  iintro ⟨Hhp, Hhc, Hg, Hwg, Hwv, Hkg, Hkv, Hwd, Hout, Hhn, Hact, Hux, Huc, Hhal, Huh, Hug, Hacc⟩
  iintro Hk
  rw [if_neg h1]
  iapply (wp_rest I i _ hT (u := u) (v := v) (x := x) (z := z) (a' := a')) $$ [Hkg Hkv Hhal Hhn Hwg Hwv Hwd Huh Hug Hux Huc Hact Hacc]
  · skip
    isplitl [Hkg]; · iexact Hkg
    isplitl [Hkv]; · iexact Hkv
    isplitl [Hhal]; · iexact Hhal
    isplitl [Hhn]; · iexact Hhn
    isplitl [Hwg]; · iexact Hwg
    isplitl [Hwv]; · iexact Hwv
    isplitl [Hwd]; · iexact Hwd
    isplitl [Huh]; · iexact Huh
    isplitl [Hug]; · iexact Hug
    isplitl [Hux]; · iexact Hux
    isplitl [Huc]; · iexact Huc
    isplitl [Hact]; · iexact Hact
    iexact Hacc
  unfold Done
  iintro ⟨Hkg, Hkv, Hhal, Hhn, Hwg, Hwv, Hwd, Huh, Hug, Hux, Huc, Hact, Hacc⟩
  simp only [wp_bind]
  rw [if_neg h2]
  iapply (le_wp_ret _ _ Set.univ _ _)
  iapply Hk
  isplitl [Hhp]; · iexact Hhp
  isplitl [Hhc]; · iexact Hhc
  isplitl [Hg]; · iexact Hg
  isplitl [Hwg]; · iexact Hwg
  isplitl [Hwv]; · iexact Hwv
  isplitl [Hkg]; · iexact Hkg
  isplitl [Hkv]; · iexact Hkv
  isplitl [Hwd]; · iexact Hwd
  isplitl [Hout]; · iexact Hout
  isplitl [Hhn]; · iexact Hhn
  isplitl [Hact]; · iexact Hact
  isplitl [Hux]; · iexact Hux
  isplitl [Huc]; · iexact Huc
  isplitl [Hhal]; · iexact Hhal
  isplitl [Huh]; · iexact Huh
  isplitl [Hug]; · iexact Hug
  iexact Hacc

theorem wp_last (i : grid0.Coords) (h1 : ¬ k0_cond1 i = 1#1) (h2 : k0_cond2 i = 1#1) {hp hc g wg wv kg kv wd} (e3 : I.wg = wg) (e4 : I.wv = wv) (e7 : I.wd = wd) (hT : I.T = tapsOf kg kv)
     {o u v x z a'} :
    iprop(owns (c : Thread nD τ) M.hp fullShare hp
      ∗ owns (c : Thread nD τ) M.hc fullShare hc
      ∗ owns (c : Thread nD τ) M.g fullShare g
      ∗ owns (c : Thread nD τ) M.wg fullShare wg
      ∗ owns (c : Thread nD τ) M.wv fullShare wv
      ∗ owns (c : Thread nD τ) M.kg fullShare kg
      ∗ owns (c : Thread nD τ) M.kv fullShare kv
      ∗ owns (c : Thread nD τ) M.wd fullShare wd
      ∗ owns (c : Thread nD τ) M.out fullShare o
      ∗ owns (c : Thread nD τ) M.hn fullShare I.hn
      ∗ owns (c : Thread nD τ) M.act fullShare a'
      ∗ owns (c : Thread nD τ) M.ux fullShare x
      ∗ owns (c : Thread nD τ) M.uc fullShare z
      ∗ owns (c : Thread nD τ) M.hal fullShare I.hal
      ∗ owns (c : Thread nD τ) M.uh fullShare v
      ∗ owns (c : Thread nD τ) M.ug fullShare u
      ∗ owns (c : Thread nD τ) M.acc fullShare I.acc)
    ⊢ iprop((owns (c : Thread nD τ) M.hp fullShare hp
      ∗ owns (c : Thread nD τ) M.hc fullShare hc
      ∗ owns (c : Thread nD τ) M.g fullShare g
      ∗ owns (c : Thread nD τ) M.wg fullShare wg
      ∗ owns (c : Thread nD τ) M.wv fullShare wv
      ∗ owns (c : Thread nD τ) M.kg fullShare kg
      ∗ owns (c : Thread nD τ) M.kv fullShare kv
      ∗ owns (c : Thread nD τ) M.wd fullShare wd
      ∗ owns (c : Thread nD τ) M.out fullShare (closePay (accG I) hc)
      ∗ owns (c : Thread nD τ) M.hn fullShare I.hn
      ∗ owns (c : Thread nD τ) M.act fullShare (actG I)
      ∗ owns (c : Thread nD τ) M.ux fullShare (uxG I)
      ∗ owns (c : Thread nD τ) M.uc fullShare (ucG I)
      ∗ owns (c : Thread nD τ) M.hal fullShare I.hal
      ∗ owns (c : Thread nD τ) M.uh fullShare (uhG I)
      ∗ owns (c : Thread nD τ) M.ug fullShare (upG I)
      ∗ owns (c : Thread nD τ) M.acc fullShare (accG I) -∗ Q ⟨⟩)
      -∗ wp frame (wpE (defs₀ (F := F)) Variants.none c none) Set.univ (body i M) Q) := by
  subst e3 e4 e7
  unfold body head tail
  simp only [wp_bind]
  iintro ⟨Hhp, Hhc, Hg, Hwg, Hwv, Hkg, Hkv, Hwd, Hout, Hhn, Hact, Hux, Huc, Hhal, Huh, Hug, Hacc⟩
  iintro Hk
  rw [if_neg h1]
  iapply (wp_rest I i _ hT (u := u) (v := v) (x := x) (z := z) (a' := a')) $$ [Hkg Hkv Hhal Hhn Hwg Hwv Hwd Huh Hug Hux Huc Hact Hacc]
  · skip
    isplitl [Hkg]; · iexact Hkg
    isplitl [Hkv]; · iexact Hkv
    isplitl [Hhal]; · iexact Hhal
    isplitl [Hhn]; · iexact Hhn
    isplitl [Hwg]; · iexact Hwg
    isplitl [Hwv]; · iexact Hwv
    isplitl [Hwd]; · iexact Hwd
    isplitl [Huh]; · iexact Huh
    isplitl [Hug]; · iexact Hug
    isplitl [Hux]; · iexact Hux
    isplitl [Huc]; · iexact Huc
    isplitl [Hact]; · iexact Hact
    iexact Hacc
  unfold Done
  iintro ⟨Hkg, Hkv, Hhal, Hhn, Hwg, Hwv, Hwd, Huh, Hug, Hux, Huc, Hact, Hacc⟩
  simp only [wp_bind]
  rw [if_pos h2]
  unfold close_
  simp only [wp_bind]
  iapply (wp_rd Variants.none (c : Thread nD τ) none Set.univ) $$ Hacc
  iintro Hacc
  iapply (wp_rd Variants.none (c : Thread nD τ) none Set.univ) $$ Hhc
  iintro Hhc
  iapply (wp_rd Variants.none (c : Thread nD τ) none Set.univ) $$ Hout
  iintro Hout
  iapply (wp_wr Variants.none (c : Thread nD τ) none Set.univ) $$ Hout
  iintro Hout
  rw [show ld (accG I) rT = accG I from ld_full _ _, show ld hc rT = hc from ld_full _ _, show ∀ w, st rT w o = w from fun w => st_full _ w _]
  iapply (le_wp_ret _ _ Set.univ _ _)
  iapply Hk
  isplitl [Hhp]; · iexact Hhp
  isplitl [Hhc]; · iexact Hhc
  isplitl [Hg]; · iexact Hg
  isplitl [Hwg]; · iexact Hwg
  isplitl [Hwv]; · iexact Hwv
  isplitl [Hkg]; · iexact Hkg
  isplitl [Hkv]; · iexact Hkv
  isplitl [Hwd]; · iexact Hwd
  isplitl [Hout]; · iexact Hout
  isplitl [Hhn]; · iexact Hhn
  isplitl [Hact]; · iexact Hact
  isplitl [Hux]; · iexact Hux
  isplitl [Huc]; · iexact Huc
  isplitl [Hhal]; · iexact Hhal
  isplitl [Huh]; · iexact Huh
  isplitl [Hug]; · iexact Hug
  iexact Hacc

end Cert.Kernel6Ideal.ForwardFfn

end
-- ==== Proof.FfnTile.lean ====
/- What one grid point of the feed-forward call computes, read over the extended reals, one element at a time. -/
module

public import proofs.«01_k».proof.Proof.FfnPoint
public import Idealize.ShloMosaic.Lib.Pipeline.ValueKit
public import Idealize.ShloMosaic.Lib.Pointwise

@[expose] public section

set_option maxRecDepth 16384

noncomputable section

namespace Cert.Kernel6Ideal.ForwardFfn

open Idealize.ShloMosaic Idealize.ShloMosaic.TcCoe
open Cert.Kernel6Ideal Cert.Kernel6Ideal.Gen Cert.Rows

/-- One over the root mean square of a row, the small constant added under the root. -/
def rr {n : ℕ} (x : (⟨2, ![n, 1024]⟩ : Shape).Idx → EReal) (p : Fin n) : EReal :=
  Ideal.rsqrt (Ideal.div (∑ k : Fin 1024, x (ix2 p k) * x (ix2 p k)) (Ideal.ofBits FTy.f32 1149239296#32) + Ideal.ofBits FTy.f32 897988541#32)

theorem hnPay_apply (g : Vec Ideal S1x1024 .f32) (x : Vec Ideal S912x1024 .f32) (j : S912x1024.Idx) :
    hnPay g x j = (x j * rr (n := 912) x (j 0) * g (ix2 0 (j 1)) : EReal) := by
  unfold rr hnPay
  pointwise

/-- The rows above the tile; above the first tile they are zero. -/
theorem halPay_apply (i : grid0.Coords) (g : Vec Ideal S1x1024 .f32) (x : Vec Ideal S16x1024 .f32) (j : S16x1024.Idx) :
    halPay i g x j = (if (i 0).val = 0 then 0 else x j * rr (n := 16) x (j 0) * g (ix2 0 (j 1)) : EReal) := by
  have hc : (Scalar.cmpi .sgt (BitVec.ofNat 32 (i 0).val : BitVec 32) 0#32 : BitVec 1) = if (i 0).val = 0 then 0#1 else 1#1 := by
    have h : ∀ k : Fin 9, (Scalar.cmpi .sgt (BitVec.ofNat 32 k.val : BitVec 32) 0#32 : BitVec 1) = if k.val = 0 then 0#1 else 1#1 := by decide
    exact h (i 0)
  unfold rr halPay
  rw [hc]
  by_cases h : (i 0).val = 0
  · simp only [if_pos h]
    pointwise
  · simp only [if_neg h]
    pointwise

theorem zeroPay_apply (j : S912x1024.Idx) : (zeroPay (F := Ideal)) j = (0 : EReal) := by
  unfold zeroPay
  pointwise

theorem uhPre_apply (x : Vec Ideal S16x1024 .bf16) (w : Vec Ideal S256x1024 .bf16) (p : Fin 8) (q : Fin 256) :
    uhPre x w (ix2 p q) = ∑ k : Fin 1024, (x (ix2 ⟨8 + p.val, by omega⟩ k) * w (ix2 q k) : EReal) := by
  unfold uhPre
  pointwise

theorem up288_apply (x : Vec Ideal S288x1024 .bf16) (w : Vec Ideal S256x1024 .bf16) (p : Fin 288) (q : Fin 256) :
    upPay288 x w (ix3 0 p q) = ∑ k : Fin 1024, (x (ix2 p k) * w (ix2 q k) : EReal) := by
  unfold upPay288
  pointwise

theorem up336_apply (x : Vec Ideal S336x1024 .bf16) (w : Vec Ideal S256x1024 .bf16) (p : Fin 336) (q : Fin 256) :
    upPay336 x w (ix3 0 p q) = ∑ k : Fin 1024, (x (ix2 p k) * w (ix2 q k) : EReal) := by
  unfold upPay336
  pointwise

theorem down288_apply (a : Vec Ideal S288x1024 .f32) (x : Vec Ideal S288x256 .bf16) (w : Vec Ideal S256x1024 .bf16) (j : S288x1024.Idx) :
    downPay288 a x w j = (a j + ∑ k : Fin 256, x (ix2 (j 0) k) * w (ix2 k (j 1)) : EReal) := by
  unfold downPay288
  pointwise

theorem down336_apply (a : Vec Ideal S336x1024 .f32) (x : Vec Ideal S336x256 .bf16) (w : Vec Ideal S256x1024 .bf16) (j : S336x1024.Idx) :
    downPay336 a x w j = (a j + ∑ k : Fin 256, x (ix2 (j 0) k) * w (ix2 k (j 1)) : EReal) := by
  unfold downPay336
  pointwise

theorem tap_apply (x : Vec Ideal S1x256 .f32) (p : Fin 8) (q : Fin 256) : tap x (ix2 p q) = x (ix2 0 q) := by
  unfold tap
  pointwise

theorem six_apply (k : FVec Ideal S8x256 .f32) (p : Fin 48) (q : Fin 256) :
    six k (ix2 p q) = k (ix2 ⟨p.val % 8, Nat.mod_lt _ (by decide)⟩ q) := by
  unfold six
  pointwise
  have e : ∀ a b : Fin 8, a.val = b.val → k (ix2 a q) = k (ix2 b q) := fun a b h => congrArg (fun a => k (ix2 a q)) (Fin.ext h)
  have hp := p.isLt
  split_ifs
  all_goals (apply e; dsimp only; omega)

theorem uxPay_apply (w : FVec Ideal S56x256 .f32) (p : Fin 48) (q : Fin 256) :
    uxPay w (ix3 0 p q) = w (ix2 ⟨8 + p.val, by omega⟩ q) := by
  unfold uxPay
  pointwise

theorem ucPay_apply (y : FVec Ideal S48x256 .f32) (p : Fin 48) (q : Fin 256) : ucPay y (ix3 0 p q) = y (ix2 p q) := by
  unfold ucPay
  pointwise

theorem win0_apply (a : Vec Ideal S1x8x256 .f32) (b : Vec Ideal S1x48x256 .f32) (p : Fin 56) (q : Fin 256) :
    win0 a b (ix2 p q) = if h : p.val < 8 then a (ix3 0 ⟨p.val, h⟩ q) else b (ix3 0 ⟨p.val - 8, by omega⟩ q) := by
  unfold win0
  pointwise

theorem win1_apply (a : Vec Ideal S1x56x256 .f32) (p : Fin 56) (q : Fin 256) : win1 a (ix2 p q) = a (ix3 0 p q) := by
  unfold win1
  pointwise

theorem conv_apply (k0 k1 k2 : FVec Ideal S8x256 .f32) (w : FVec Ideal S56x256 .f32) (p : Fin 48) (q : Fin 256) :
    conv k0 k1 k2 w (ix2 p q) = (six k0 (ix2 p q) * w (ix2 ⟨6 + p.val, by omega⟩ q) + six k1 (ix2 p q) * w (ix2 ⟨7 + p.val, by omega⟩ q)
      + six k2 (ix2 p q) * w (ix2 ⟨8 + p.val, by omega⟩ q) : EReal) := by
  unfold conv
  pointwise

theorem actPay_apply (a b : FVec Ideal S48x256 .f32) (p : Fin 48) (q : Fin 256) :
    actPay a b (ix2 p q) = (a (ix2 p q) * Ideal.logistic (a (ix2 p q)) * b (ix2 p q) : EReal) := by
  unfold actPay
  pointwise

theorem closePay_apply (a x : Vec Ideal S912x1024 .f32) (j : S912x1024.Idx) : closePay a x j = (a j + x j : EReal) := by
  unfold closePay
  pointwise

/-! ## The tile -/

variable (I : In Ideal)

/-- The up-projection of one of the rows above the tile, -/
def above (h : ℕ) (p : Fin 16) (q : Fin 256) : EReal := ∑ k : Fin 1024, (I.hal (ix2 p k) * I.w h (ix2 q k) : EReal)
/-- of a row of the tile, -/
def up (h : ℕ) (p : Fin 912) (q : Fin 256) : EReal := ∑ k : Fin 1024, (I.hn (ix2 p k) * I.w h (ix2 q k) : EReal)
/-- of either, counted from two rows above the tile. -/
def row (h : ℕ) (r : ℕ) (hr : r < 914) (q : Fin 256) : EReal :=
  if h2 : r < 2 then above I h ⟨14 + r, by omega⟩ q else up I h ⟨r - 2, by omega⟩ q

theorem ld_rows {N n K : ℕ} {α : Type} (x : (⟨2, ![N, K]⟩ : Shape).Idx → α) (a : ℕ) (inb) (p : Fin n) (q : Fin K) (h : a + p.val < N) :
    ld x (Rect.unit (s := ⟨2, ![N, K]⟩) ![a, 0] ![n, K] inb) (ix2 p q) = x (ix2 ⟨a + p.val, h⟩ q) :=
  congrArg x (ix2_of _ _ _ (emb2 inb (ix2 p q)).1.symm (emb2 inb (ix2 p q)).2.symm).symm

theorem row_eq (h : ℕ) {r r' : ℕ} (hr) (hr') (q : Fin 256) (e : r = r') : row I h r hr q = row I h r' hr' q := by subst e; rfl

theorem up_congr (h : ℕ) {p p' : Fin 912} (q : Fin 256) (e : p.val = p'.val) : up I h p q = up I h p' q := by rw [Fin.ext e]

theorem up_congr' {h h' : ℕ} {p p' : Fin 912} {q q' : Fin 256} (eh : h = h') (e : p.val = p'.val) (eq : q.val = q'.val) :
    up I h p q = up I h' p' q' := by rw [Fin.ext e, Fin.ext eq, eh]
theorem above_congr {h h' : ℕ} {p p' : Fin 16} {q q' : Fin 256} (eh : h = h') (e : p.val = p'.val) (eq : q.val = q'.val) :
    above I h p q = above I h' p' q' := by rw [Fin.ext e, Fin.ext eq, eh]

theorem uhG_apply (i : S2x8x256.Idx) :
    uhG I i = above I (i 0).val ⟨8 + (i 1).val, by have h8 : (i 1).val < 8 := (i 1).isLt; omega⟩ (i 2) := by
  have e (x : FVec Ideal S8x256 .f32) (p : Fin 8) (q : Fin 256) : uhPay x (ix3 0 p q) = x (ix2 p q) := by
    unfold uhPay
    pointwise
  exact (e _ (i 1) (i 2)).trans (uhPre_apply _ _ (i 1) (i 2))

theorem rows288_apply (a : ℕ) (ha) (p : Fin 288) (k : Fin 1024) : rows288 I a ha (ix2 p k) = I.hn (ix2 ⟨a + p.val, by omega⟩ k) :=
  congrArg I.hn (ix2_of _ _ _ (emb2 _ (ix2 p k)).1.symm (emb2 _ (ix2 p k)).2.symm).symm

theorem rows336_apply (a : ℕ) (ha) (p : Fin 336) (k : Fin 1024) : rows336 I a ha (ix2 p k) = I.hn (ix2 ⟨a + p.val, by omega⟩ k) :=
  congrArg I.hn (ix2_of _ _ _ (emb2 _ (ix2 p k)).1.symm (emb2 _ (ix2 p k)).2.symm).symm

theorem upG_apply (i : S2x912x256.Idx) : upG I i = up I (i 0).val (i 1) (i 2) := by
  have b1 : (i 1).val < 912 := (i 1).isLt
  unfold upG
  split_ifs with h1 h2
  · refine (up288_apply _ _ ⟨(i 1).val, h1⟩ (i 2)).trans ?_
    simp only [rows288_apply]
    exact up_congr I _ _ (by show 0 + (i 1).val = _; omega)
  · refine (up336_apply _ _ ⟨(i 1).val - 288, _⟩ (i 2)).trans ?_
    simp only [rows336_apply]
    exact up_congr I _ _ (by show 288 + ((i 1).val - 288) = _; omega)
  · refine (up288_apply _ _ ⟨(i 1).val - 624, _⟩ (i 2)).trans ?_
    simp only [rows288_apply]
    exact up_congr I _ _ (by show 624 + ((i 1).val - 624) = _; omega)

/-- The rows a chunk looks at. -/
theorem win_apply (h : ℕ) (hh) (c : ℕ) (hc : c < 19) (p : Fin 56) (q : Fin 256) (hp : 6 ≤ p.val) :
    win I h hh c hc (ix2 p q) = row I h (48 * c + p.val - 6) (by omega) q := by
  unfold win
  split_ifs with h0
  · subst h0
    rw [win0_apply]
    split_ifs with h8
    · rw [show ld (uhG I) (rh h hh) (ix3 0 ⟨p.val, h8⟩ q) = _ from uhG_apply I _]
      unfold row
      rw [dif_pos (by omega)]
      refine above_congr I (emb3 _ _).1 ?_ (emb3 _ _).2.2
      dsimp only
      rw [(emb3 _ _).2.1]
      show 8 + (0 + p.val) = _
      omega
    · rw [show ld (upG I) (r48 h 0 hh (by decide)) (ix3 0 ⟨p.val - 8, by omega⟩ q) = _ from upG_apply I _]
      unfold row
      rw [dif_neg (by omega)]
      refine up_congr' I (emb3 _ _).1 ?_ (emb3 _ _).2.2
      rw [(emb3 _ _).2.1]
      show 0 + (p.val - 8) = 48 * 0 + p.val - 6 - 2
      omega
  · rw [win1_apply, show ld (upG I) (r56 h (48 * c - 8) hh (by omega)) (ix3 0 p q) = _ from upG_apply I _]
    unfold row
    rw [dif_neg (by omega)]
    refine up_congr' I (emb3 _ _).1 ?_ (emb3 _ _).2.2
    rw [(emb3 _ _).2.1]
    show 48 * c - 8 + p.val = 48 * c + p.val - 6 - 2
    omega

/-- A tap of a half. -/
def kk (kg kv : Vec Ideal S3x256 .f32) (h : ℕ) (n : Fin 3) (q : Fin 256) : EReal := if h = 0 then kg (ix2 n q) else kv (ix2 n q)

theorem six_tap (k : Vec Ideal S3x256 .f32) (n : ℕ) (hn : n + 1 ≤ 3) (p : Fin 48) (q : Fin 256) :
    six (tap (ld k (rK n hn))) (ix2 p q) = k (ix2 ⟨n, hn⟩ q) := by
  rw [six_apply, tap_apply]
  exact ld_rows k n _ 0 q (show n + 0 < 3 by omega)

/-- The convolution at a row of the tile. -/
def cr (kg kv : Vec Ideal S3x256 .f32) (h : ℕ) (p : Fin 912) (q : Fin 256) : EReal :=
  kk kg kv h 0 q * row I h p.val (by omega) q + kk kg kv h 1 q * row I h (p.val + 1) (by omega) q + kk kg kv h 2 q * row I h (p.val + 2) (by omega) q

theorem cv_apply {kg kv : Vec Ideal S3x256 .f32} (hT : I.T = tapsOf kg kv) (h : ℕ) (hh) (c : ℕ) (hc : c < 19) (p : Fin 48) (q : Fin 256) :
    cv I h hh c hc (ix2 p q) = cr I kg kv h ⟨48 * c + p.val, by omega⟩ q := by
  unfold cv cr kk
  rw [hT]
  have w0 := win_apply I h hh c hc ⟨6 + p.val, by omega⟩ q (by dsimp only; omega)
  have w1 := win_apply I h hh c hc ⟨7 + p.val, by omega⟩ q (by dsimp only; omega)
  have w2 := win_apply I h hh c hc ⟨8 + p.val, by omega⟩ q (by dsimp only; omega)
  rw [row_eq I h _ (by omega) q (show _ = 48 * c + p.val from by dsimp only; omega)] at w0
  rw [row_eq I h _ (by omega) q (show _ = 48 * c + p.val + 1 from by dsimp only; omega)] at w1
  rw [row_eq I h _ (by omega) q (show _ = 48 * c + p.val + 2 from by dsimp only; omega)] at w2
  split_ifs
  · rw [conv_apply, w0, w1, w2]
    exact congrArg₂ (α := EReal) (β := EReal) (· + ·) (congrArg₂ (α := EReal) (β := EReal) (· + ·)
      (congrArg (fun z : EReal => z * _) (six_tap kg 0 _ p q)) (congrArg (fun z : EReal => z * _) (six_tap kg 1 _ p q)))
      (congrArg (fun z : EReal => z * _) (six_tap kg 2 _ p q))
  · rw [conv_apply, w0, w1, w2]
    exact congrArg₂ (α := EReal) (β := EReal) (· + ·) (congrArg₂ (α := EReal) (β := EReal) (· + ·)
      (congrArg (fun z : EReal => z * _) (six_tap kv 0 _ p q)) (congrArg (fun z : EReal => z * _) (six_tap kv 1 _ p q)))
      (congrArg (fun z : EReal => z * _) (six_tap kv 2 _ p q))

theorem div_mod (p : ℕ) : 48 * (p / 48) + p % 48 = p := Nat.div_add_mod p 48

theorem ucG_apply {kg kv : Vec Ideal S3x256 .f32} (hT : I.T = tapsOf kg kv) (h : Fin 2) (p : Fin 912) (q : Fin 256) :
    ucG I (ix3 h p q) = cr I kg kv h.val p q := by
  show ucPay (cv I h.val h.isLt (p.val / 48) (by omega)) (ix3 0 ⟨p.val % 48, Nat.mod_lt _ (by decide)⟩ q) = _
  rw [ucPay_apply, cv_apply I hT]
  exact congrArg (fun p => cr I kg kv h.val p q) (Fin.ext (div_mod p.val))

theorem uxG_apply (h : Fin 2) (p : Fin 912) (q : Fin 256) : uxG I (ix3 h p q) = up I h.val p q := by
  have hm := div_mod p.val
  show uxPay (win I h.val h.isLt (p.val / 48) (by omega)) (ix3 0 ⟨p.val % 48, Nat.mod_lt _ (by decide)⟩ q) = _
  rw [uxPay_apply, win_apply _ _ _ _ _ _ _ (by dsimp only; omega)]
  unfold row
  rw [dif_neg (by dsimp only; omega)]
  exact up_congr I _ _ (by dsimp only; omega)

/-- The gated activation at a row of the tile. -/
def ar (kg kv : Vec Ideal S3x256 .f32) (p : Fin 912) (q : Fin 256) : EReal :=
  cr I kg kv 0 p q * Ideal.logistic (cr I kg kv 0 p q) * cr I kg kv 1 p q

theorem actG_apply {kg kv : Vec Ideal S3x256 .f32} (hT : I.T = tapsOf kg kv) (p : Fin 912) (q : Fin 256) :
    actG I (ix2 p q) = ar I kg kv p q := by
  show actPay (cv I 0 (by decide) (p.val / 48) (by omega)) (cv I 1 (by decide) (p.val / 48) (by omega)) (ix2 ⟨p.val % 48, Nat.mod_lt _ (by decide)⟩ q) = _
  rw [actPay_apply, cv_apply I hT, cv_apply I hT]
  exact congrArg (fun p => ar I kg kv p q) (Fin.ext (div_mod p.val))

theorem accG_apply (i : S912x1024.Idx) :
    accG I i = (I.acc i + ∑ q : Fin 256, actG I (ix2 (i 0) q) * I.wd (ix2 q (i 1)) : EReal) := by
  have b0 : (i 0).val < 912 := (i 0).isLt
  have key : ∀ (r : Fin 912) (a : S912x1024.Idx) (f : Fin 256 → EReal), r.val = (i 0).val → a = i → (∀ q, f q = actG I (ix2 r q)) →
      (I.acc a + ∑ q : Fin 256, f q * I.wd (ix2 q (i 1)) : EReal) = (I.acc i + ∑ q : Fin 256, actG I (ix2 (i 0) q) * I.wd (ix2 q (i 1)) : EReal) := by
    intro r a f hr ha hf
    subst ha
    obtain rfl : r = a 0 := Fin.ext hr
    rw [Finset.sum_congr (M := EReal) rfl fun q _ => congrArg (· * (I.wd (ix2 q (a 1)) : EReal)) (hf q)]
  unfold accG
  split_ifs with h1 h2
  · unfold dn288
    rw [down288_apply]
    exact key ⟨0 + (i 0).val, by omega⟩ _ _ (Nat.zero_add _) (by funext x; apply Fin.ext; match x with
      | ⟨0, _⟩ => exact (emb2 _ _).1.trans (Nat.zero_add _)
      | ⟨1, _⟩ => exact (emb2 _ _).2)
      fun q => ld_rows (actG I) _ _ _ q _
  · unfold dn336
    rw [down336_apply]
    exact key ⟨288 + ((i 0).val - 288), by omega⟩ _ _ (by dsimp only; omega) (by funext x; apply Fin.ext; match x with
      | ⟨0, _⟩ => exact (emb2 _ _).1.trans (by show 288 + ((i 0).val - 288) = (i 0).val; omega)
      | ⟨1, _⟩ => exact (emb2 _ _).2)
      fun q => ld_rows (actG I) _ _ _ q _
  · unfold dn288
    rw [down288_apply]
    exact key ⟨624 + ((i 0).val - 624), by omega⟩ _ _ (by dsimp only; omega) (by funext x; apply Fin.ext; match x with
      | ⟨0, _⟩ => exact (emb2 _ _).1.trans (by show 624 + ((i 0).val - 624) = (i 0).val; omega)
      | ⟨1, _⟩ => exact (emb2 _ _).2)
      fun q => ld_rows (actG I) _ _ _ q _

end Cert.Kernel6Ideal.ForwardFfn

end
-- ==== Proof.BackTile.lean ====
/- What one grid point of the feed-forward call's backward pass stores in the up projection's gradient, read over the extended
   reals, one element at a time. -/
module

public import proofs.«01_k».proof.Proof.BackPoint
public import proofs.«01_k».proof.Proof.FfnTile

@[expose] public section

set_option maxRecDepth 16384

noncomputable section

namespace Cert.Kernel5Ideal.BackFfn

open Idealize.ShloMosaic Idealize.ShloMosaic.TcCoe
open Cert.Kernel5Ideal Cert.Kernel5Ideal.Gen Cert.Rows
open Cert.Kernel6Ideal.ForwardFfn (emb_val emb2 ix3_of ix2_of ld_rows)

/-- The gate's gradient, from the activation's, the gate and the value: how the kernel writes it. -/
def gateK (d a v : EReal) : EReal := d * v * (Ideal.logistic a * (1 + a * (1 - Ideal.logistic a)))
/-- The value's. -/
def valK (d a : EReal) : EReal := d * (a * Ideal.logistic a)

theorem dact304_apply (x : Vec Ideal S304x1024 .bf16) (w : Vec Ideal S256x1024 .bf16) (p : Fin 304) (q : Fin 256) :
    dactPay304 x w (ix2 p q) = ∑ e : Fin 1024, (x (ix2 p e) * w (ix2 q e) : EReal) := by
  unfold dactPay304
  pointwise

theorem dact352_apply (x : Vec Ideal S352x1024 .bf16) (w : Vec Ideal S256x1024 .bf16) (p : Fin 352) (q : Fin 256) :
    dactPay352 x w (ix2 p q) = ∑ e : Fin 1024, (x (ix2 p e) * w (ix2 q e) : EReal) := by
  unfold dactPay352
  pointwise

theorem win1_apply (a : Vec Ideal S1x64x256 .bf16) (p : Fin 56) (q : Fin 256) : win1 a (ix2 p q) = a (ix3 0 ⟨p.val, by omega⟩ q) := by
  unfold win1
  pointwise

theorem winL_apply (a : Vec Ideal S1x48x256 .bf16) (b : Vec Ideal S1x16x256 .bf16) (p : Fin 56) (q : Fin 256) :
    winL a b (ix2 p q) = if h : p.val < 48 then a (ix3 0 ⟨p.val, h⟩ q) else b (ix3 0 ⟨p.val - 48, by omega⟩ q) := by
  unfold winL
  pointwise

theorem dgate_apply (a v : FVec Ideal S56x256 .f32) (d : Vec Ideal S56x256 .f32) (p : Fin 56) (q : Fin 256) :
    dgate a v d (ix2 p q) = gateK (d (ix2 p q)) (a (ix2 p q)) (v (ix2 p q)) := by
  unfold dgate gateK
  pointwise

theorem dval_apply (a : FVec Ideal S56x256 .f32) (d : Vec Ideal S56x256 .f32) (p : Fin 56) (q : Fin 256) :
    dval a d (ix2 p q) = valK (d (ix2 p q)) (a (ix2 p q)) := by
  unfold dval valK
  pointwise

theorem vnoc_apply (k0 k1 k2 : FVec Ideal S8x256 .f32) (w : FVec Ideal S56x256 .f32) (p : Fin 48) (q : Fin 256) :
    vnoc k0 k1 k2 w (ix2 p q) = (six k0 (ix2 p q) * w (ix2 ⟨2 + p.val, by omega⟩ q) + six k1 (ix2 p q) * w (ix2 ⟨1 + p.val, by omega⟩ q)
      + six k2 (ix2 p q) * w (ix2 ⟨p.val, by omega⟩ q) : EReal) := by
  unfold vnoc sh0 sh1 sh2
  pointwise

theorem tap_apply (x : Vec Ideal S1x256 .f32) (p : Fin 8) (q : Fin 256) : tap x (ix2 p q) = x (ix2 0 q) := by
  unfold tap
  pointwise

theorem six_apply (k : FVec Ideal S8x256 .f32) (p : Fin 48) (q : Fin 256) :
    six k (ix2 p q) = k (ix2 ⟨p.val % 8, Nat.mod_lt _ (by decide)⟩ q) := by
  unfold six
  pointwise
  have e : ∀ a b : Fin 8, a.val = b.val → k (ix2 a q) = k (ix2 b q) := fun a b h => congrArg (fun a => k (ix2 a q)) (Fin.ext h)
  have hp := p.isLt
  split_ifs
  all_goals (apply e; dsimp only; omega)

theorem six_tap (k : Vec Ideal S3x256 .f32) (n : ℕ) (hn : n + 1 ≤ 3) (p : Fin 48) (q : Fin 256) :
    six (tap (ld k (rK n hn))) (ix2 p q) = k (ix2 ⟨n, hn⟩ q) := by
  rw [six_apply, tap_apply]
  exact ld_rows k n _ 0 q (show n + 0 < 3 by omega)

theorem duPay_apply (y : FVec Ideal S48x256 .f32) (p : Fin 48) (q : Fin 256) : duPay y (ix3 0 p q) = y (ix2 p q) := by
  unfold duPay
  pointwise

theorem keepPay_apply (x : Vec Ideal S912x1024 .f32) (j : S912x1024.Idx) : keepPay x j = x j := by
  unfold keepPay
  pointwise

theorem nextPay_apply (x : Vec Ideal S16x1024 .f32) (j : S16x1024.Idx) : nextPay x j = x j := by
  unfold nextPay
  pointwise

theorem masked_apply (i : grid0.Coords) (x : FVec Ideal S56x256 .f32) (p : Fin 56) (q : Fin 256) :
    masked i x (ix2 p q) = if p.val < 48 ∨ (i 0).val < 8 then x (ix2 p q) else (0 : EReal) := by
  have h : ∀ (n : Fin 9) (p : Fin 56), (IntOp.ori (IntOp.cmpi CmpIPredicate.slt (BitVec.ofNat 32 p.val) 48#32)
      (Scalar.cmpi CmpIPredicate.slt (BitVec.ofNat 32 n.val) 8#32) : BitVec 1) = if p.val < 48 ∨ n.val < 8 then 1#1 else 0#1 := by decide +kernel
  unfold masked live
  pointwise
  rw [show (IntOp.ori (IntOp.cmpi CmpIPredicate.slt (BitVec.ofNat 32 p.val) 48#32)
      (Scalar.cmpi CmpIPredicate.slt (BitVec.ofNat 32 (i 0).val) 8#32) : BitVec 1) = _ from h (i 0) p]
  split_ifs
  · rfl
  · rfl

theorem ld_block {N n K : ℕ} {α : Type} (x : (⟨3, ![1, N, K]⟩ : Shape).Idx → α) (a : ℕ) (inb) (p : Fin n) (q : Fin K) (h : a + p.val < N) :
    ld x (Rect.unit (s := ⟨3, ![1, N, K]⟩) ![0, a, 0] ![1, n, K] inb) (ix3 0 p q) = x (ix3 0 ⟨a + p.val, h⟩ q) :=
  congrArg x (ix3_of _ _ _ (emb_val _ _ inb (ix3 0 p q) 1).symm ((emb_val _ _ inb (ix3 0 p q) 2).trans (Nat.zero_add _)).symm).symm

/-! ## The tile -/

variable (I : In Ideal)

/-- The activation's gradient at a row of the tile or of the sixteen below. -/
def da (r : ℕ) (hr : r < 928) (q : Fin 256) : EReal := ∑ e : Fin 1024, (I.dhe (ix2 ⟨r, hr⟩ e) * I.wd (ix2 q e) : EReal)
/-- A saved array there. -/
def sv (x : Vec Ideal S1x912x256 .bf16) (y : Vec Ideal S1x16x256 .bf16) (r : ℕ) (hr : r < 928) (q : Fin 256) : EReal :=
  if h : r < 912 then x (ix3 0 ⟨r, h⟩ q) else y (ix3 0 ⟨r - 912, by omega⟩ q)
/-- The gradient of the convolution's two halves there: nothing below the last tile. -/
def gw (h : ℕ) (r : ℕ) (hr : r < 928) (q : Fin 256) : EReal :=
  if r < 912 ∨ (I.i 0).val < 8 then
    (if h = 0 then gateK (da I r hr q) (sv I.cg I.cgn r hr q) (sv I.cv I.cvn r hr q) else valK (da I r hr q) (sv I.cg I.cgn r hr q))
  else 0

theorem da_congr {r r' : ℕ} (hr) (hr') (q : Fin 256) (e : r = r') : da I r hr q = da I r' hr' q := by subst e; rfl
theorem sv_congr (x y) {r r' : ℕ} (hr) (hr') (q : Fin 256) (e : r = r') : sv x y r hr q = sv x y r' hr' q := by subst e; rfl
theorem gw_congr (h : ℕ) {r r' : ℕ} (hr) (hr') (q : Fin 256) (e : r = r') : gw I h r hr q = gw I h r' hr' q := by subst e; rfl

theorem rows304 (a : ℕ) (ha) (p : Fin 304) (k : Fin 1024) : ld I.dhe (rE 304 a ha) (ix2 p k) = I.dhe (ix2 ⟨a + p.val, by omega⟩ k) :=
  ld_rows (n := 304) I.dhe a _ p k _
theorem rows352 (a : ℕ) (ha) (p : Fin 352) (k : Fin 1024) : ld I.dhe (rE 352 a ha) (ix2 p k) = I.dhe (ix2 ⟨a + p.val, by omega⟩ k) :=
  ld_rows (n := 352) I.dhe a _ p k _

theorem daG_apply (i : S928x256.Idx) : daG I i = da I (i 0).val (i 0).isLt (i 1) := by
  have b0 : (i 0).val < 928 := (i 0).isLt
  unfold daG
  split_ifs with h1 h2
  · refine (dact304_apply _ _ ⟨(i 0).val, _⟩ (i 1)).trans ?_
    refine (Finset.sum_congr (M := EReal) rfl fun e _ => congrArg (fun z : EReal => z * _) (rows304 I 0 (by decide) ⟨(i 0).val, by omega⟩ e)).trans ?_
    exact da_congr I (r := 0 + (i 0).val) (by omega) b0 (i 1) (by omega)
  · refine (dact352_apply _ _ ⟨(i 0).val - 288, _⟩ (i 1)).trans ?_
    refine (Finset.sum_congr (M := EReal) rfl fun e _ => congrArg (fun z : EReal => z * _) (rows352 I 288 (by decide) ⟨(i 0).val - 288, by omega⟩ e)).trans ?_
    exact da_congr I (r := 288 + ((i 0).val - 288)) (by omega) b0 (i 1) (by omega)
  · refine (dact304_apply _ _ ⟨(i 0).val - 624, _⟩ (i 1)).trans ?_
    refine (Finset.sum_congr (M := EReal) rfl fun e _ => congrArg (fun z : EReal => z * _) (rows304 I 624 (by decide) ⟨(i 0).val - 624, by omega⟩ e)).trans ?_
    exact da_congr I (r := 624 + ((i 0).val - 624)) (by omega) b0 (i 1) (by omega)

theorem dd_apply (c : ℕ) (hc : c < 19) (p : Fin 56) (q : Fin 256) : dd I c hc (ix2 p q) = da I (48 * c + p.val) (by omega) q := by
  unfold dd
  rw [show ld (daG I) (rD 56 (48 * c) (by omega)) (ix2 p q) = daG I (ix2 ⟨48 * c + p.val, by omega⟩ q) from
    ld_rows (n := 56) (daG I) (48 * c) _ p q _]
  exact daG_apply I _

theorem win1_sv (x : Vec Ideal S1x912x256 .bf16) (y) (c : ℕ) (hc : c < 18) (p : Fin 56) (q : Fin 256) :
    win1 (ld x (rX 64 (48 * c) (by omega))) (ix2 p q) = sv x y (48 * c + p.val) (by omega) q := by
  unfold sv
  rw [dif_pos (by omega), win1_apply]
  exact ld_block (n := 64) x (48 * c) _ ⟨p.val, by omega⟩ q _

theorem winL_sv (x : Vec Ideal S1x912x256 .bf16) (y : Vec Ideal S1x16x256 .bf16) (p : Fin 56) (q : Fin 256) :
    winL (ld x (rX 48 864 (by decide))) (ld y rN) (ix2 p q) = sv x y (864 + p.val) (by omega) q := by
  unfold sv
  rw [winL_apply]
  by_cases h : p.val < 48
  · rw [dif_pos h, dif_pos (by omega)]
    exact ld_block (n := 48) x 864 _ ⟨p.val, h⟩ q _
  · rw [dif_neg h, dif_neg (by omega)]
    refine (ld_block (n := 16) y 0 _ ⟨p.val - 48, by omega⟩ q (by dsimp only; omega)).trans ?_
    exact congrArg (fun p => y (ix3 0 p q)) (Fin.ext (by dsimp only; omega))

theorem ga_apply (c : ℕ) (hc : c < 19) (p : Fin 56) (q : Fin 256) : ga I c hc (ix2 p q) = gw I 0 (48 * c + p.val) (by omega) q := by
  unfold ga gw
  rw [if_pos rfl]
  by_cases h : c < 18
  · rw [dif_pos h, if_pos (by omega), dgate_apply, dd_apply, win1_sv I.cg I.cgn c h, win1_sv I.cv I.cvn c h]
  · obtain rfl : c = 18 := by omega
    rw [dif_neg h, masked_apply, dgate_apply, dd_apply, winL_sv, winL_sv]
    by_cases hl : p.val < 48 ∨ (I.i 0).val < 8
    · rw [if_pos hl, if_pos (by omega)]
    · rw [if_neg hl, if_neg (by omega)]

theorem va_apply (c : ℕ) (hc : c < 19) (p : Fin 56) (q : Fin 256) : va I c hc (ix2 p q) = gw I 1 (48 * c + p.val) (by omega) q := by
  unfold va gw
  rw [if_neg Nat.one_ne_zero]
  by_cases h : c < 18
  · rw [dif_pos h, if_pos (by omega), dval_apply, dd_apply, win1_sv I.cg I.cgn c h]
  · obtain rfl : c = 18 := by omega
    rw [dif_neg h, masked_apply, dval_apply, dd_apply, winL_sv]
    by_cases hl : p.val < 48 ∨ (I.i 0).val < 8
    · rw [if_pos hl, if_pos (by omega)]
    · rw [if_neg hl, if_neg (by omega)]

/-- A tap of a half. -/
def kk (kg kv : Vec Ideal S3x256 .f32) (h : ℕ) (n : Fin 3) (q : Fin 256) : EReal := if h = 0 then kg (ix2 n q) else kv (ix2 n q)

/-- The up projection's gradient at a row of the tile. -/
def ur (kg kv : Vec Ideal S3x256 .f32) (h : ℕ) (p : Fin 912) (q : Fin 256) : EReal :=
  kk kg kv h 0 q * gw I h (p.val + 2) (by omega) q + kk kg kv h 1 q * gw I h (p.val + 1) (by omega) q + kk kg kv h 2 q * gw I h p.val (by omega) q

theorem dx_apply {kg kv : Vec Ideal S3x256 .f32} (hT : I.T = tapsOf kg kv) (h : Fin 2) (c : ℕ) (hc : c < 19) (p : Fin 48) (q : Fin 256) :
    dx I h.val c hc (ix2 p q) = ur I kg kv h.val ⟨48 * c + p.val, by omega⟩ q := by
  unfold dx ur kk
  rw [hT]
  match h with
  | ⟨0, _⟩ =>
    rw [if_pos rfl, vnoc_apply, ga_apply, ga_apply, ga_apply]
    exact congrArg₂ (α := EReal) (β := EReal) (· + ·) (congrArg₂ (α := EReal) (β := EReal) (· + ·)
      (congrArg₂ (α := EReal) (β := EReal) (· * ·) (six_tap kg 0 _ p q) (gw_congr I 0 _ _ q (by dsimp only; omega)))
      (congrArg₂ (α := EReal) (β := EReal) (· * ·) (six_tap kg 1 _ p q) (gw_congr I 0 _ _ q (by dsimp only; omega))))
      (congrArg₂ (α := EReal) (β := EReal) (· * ·) (six_tap kg 2 _ p q) (gw_congr I 0 _ _ q (by dsimp only)))
  | ⟨1, _⟩ =>
    rw [if_neg Nat.one_ne_zero, vnoc_apply, va_apply, va_apply, va_apply]
    exact congrArg₂ (α := EReal) (β := EReal) (· + ·) (congrArg₂ (α := EReal) (β := EReal) (· + ·)
      (congrArg₂ (α := EReal) (β := EReal) (· * ·) (six_tap kv 0 _ p q) (gw_congr I 1 _ _ q (by dsimp only; omega)))
      (congrArg₂ (α := EReal) (β := EReal) (· * ·) (six_tap kv 1 _ p q) (gw_congr I 1 _ _ q (by dsimp only; omega))))
      (congrArg₂ (α := EReal) (β := EReal) (· * ·) (six_tap kv 2 _ p q) (gw_congr I 1 _ _ q (by dsimp only)))

theorem duG_apply {kg kv : Vec Ideal S3x256 .f32} (hT : I.T = tapsOf kg kv) (h : Fin 2) (p : Fin 912) (q : Fin 256) :
    duG I (ix3 h p q) = ur I kg kv h.val p q := by
  show duPay (dx I h.val (p.val / 48) (by omega)) (ix3 0 ⟨p.val % 48, Nat.mod_lt _ (by decide)⟩ q) = _
  rw [duPay_apply, dx_apply I hT]
  exact congrArg (fun p => ur I kg kv h.val p q) (Fin.ext (Nat.div_add_mod p.val 48))

end Cert.Kernel5Ideal.BackFfn

end
-- ==== Proof.BackEq.lean ====
/- The body, put together from its pieces, is the call's own body. -/
module

public import proofs.«01_k».proof.Proof.BackBody

@[expose] public section

set_option maxRecDepth 65536

noncomputable section

namespace Cert.Kernel5Ideal.BackFfn

open Idealize.ShloMosaic Idealize.SL.Sem
open Cert.Kernel5Ideal Cert.Kernel5Ideal.Gen Cert.Rows

variable {F : FTy → Type} [FloatOps F]

/-- A chunk, its taps and sums taken one by one. -/
def chunkU {α : Type} (M : Bufs) (g0 g1 g2 v0 v1 v2 : FVec F S8x256 .f32) (c : ℕ) (hc : c < 18) (a0 a1 a2 b0 b1 b2 : FVec F S8x256 .f32)
    (k : FVec F S8x256 .f32 → FVec F S8x256 .f32 → FVec F S8x256 .f32 → FVec F S8x256 .f32 → FVec F S8x256 .f32 → FVec F S8x256 .f32 → P F α) : P F α := do
  let a ← rd M.cg (rX 64 (48 * c) (by omega)) (by decide : 0 < S1x64x256.numel)
  let b ← rd M.cv (rX 64 (48 * c) (by omega)) (by decide : 0 < S1x64x256.numel)
  let x ← rd M.xg (rX 48 (48 * c) (by omega)) (by decide : 0 < S1x48x256.numel)
  let y ← rd M.xv (rX 48 (48 * c) (by omega)) (by decide : 0 < S1x48x256.numel)
  let d ← rd M.da (rD 56 (48 * c) (by omega)) (by decide : 0 < S56x256.numel)
  store M c (by omega) (vnoc g0 g1 g2 (dgate (win1 a) (win1 b) d)) (vnoc v0 v1 v2 (dval (win1 a) d))
  k (addf a0 (rs (mulf (rows x) (sh2 (dgate (win1 a) (win1 b) d))))) (addf a1 (rs (mulf (rows x) (sh1 (dgate (win1 a) (win1 b) d))))) (addf a2 (rs (mulf (rows x) (sh0 (dgate (win1 a) (win1 b) d))))) (addf b0 (rs (mulf (rows y) (sh2 (dval (win1 a) d))))) (addf b1 (rs (mulf (rows y) (sh1 (dval (win1 a) d))))) (addf b2 (rs (mulf (rows y) (sh0 (dval (win1 a) d)))))

/-- The mask, the tile's number given as a word. -/
def maskedU (n : BitVec 32) (x : FVec F S56x256 .f32) : FVec F S56x256 .f32 :=
  select (broadcastTo S56x256 (shapeCast S56x1 (ori (cmpi .slt (iota .tc S56x1 32 [0] iota_S56x1_d0_w32) (broadcast S56x1 48#32))
    (broadcast S56x1 (Scalar.cmpi .slt n 8#32)) : IVec S56x1 1) shapeCasts_S56x1_S56x1 : IVec S56x1 1) broadcasts_S56x1_S56x256) x
    (broadcast S56x256 (Scalar.ofBits .f32 0x00000000#32))

/-- The last chunk, its taps and sums taken one by one. -/
def lastU {α : Type} (n : BitVec 32) (M : Bufs) (g0 g1 g2 v0 v1 v2 : FVec F S8x256 .f32) (a0 a1 a2 b0 b1 b2 : FVec F S8x256 .f32)
    (k : FVec F S8x256 .f32 → FVec F S8x256 .f32 → FVec F S8x256 .f32 → FVec F S8x256 .f32 → FVec F S8x256 .f32 → FVec F S8x256 .f32 → P F α) : P F α := do
  let a ← rd M.cg (rX 48 864 (by decide)) (by decide : 0 < S1x48x256.numel)
  let a' ← rd M.cgn rN (by decide)
  let b ← rd M.cv (rX 48 864 (by decide)) (by decide : 0 < S1x48x256.numel)
  let b' ← rd M.cvn rN (by decide)
  let x ← rd M.xg (rX 48 864 (by decide)) (by decide : 0 < S1x48x256.numel)
  let y ← rd M.xv (rX 48 864 (by decide)) (by decide : 0 < S1x48x256.numel)
  let d ← rd M.da (rD 56 864 (by decide)) (by decide : 0 < S56x256.numel)
  store M 18 (by decide) (vnoc g0 g1 g2 (maskedU n (dgate (winL a a') (winL b b') d))) (vnoc v0 v1 v2 (maskedU n (dval (winL a a') d)))
  k (addf a0 (rs (mulf (rows x) (sh2 (maskedU n (dgate (winL a a') (winL b b') d)))))) (addf a1 (rs (mulf (rows x) (sh1 (maskedU n (dgate (winL a a') (winL b b') d)))))) (addf a2 (rs (mulf (rows x) (sh0 (maskedU n (dgate (winL a a') (winL b b') d)))))) (addf b0 (rs (mulf (rows y) (sh2 (maskedU n (dval (winL a a') d)))))) (addf b1 (rs (mulf (rows y) (sh1 (maskedU n (dval (winL a a') d)))))) (addf b2 (rs (mulf (rows y) (sh0 (maskedU n (dval (winL a a') d))))))

theorem chunk_one {α : Type} (M : Bufs) (T : Six F) (c : ℕ) (hc : c < 18) (K : Six F) (k : Six F → P F α) :
    chunk M T c hc K k = chunkU M T.g0 T.g1 T.g2 T.v0 T.v1 T.v2 c hc K.g0 K.g1 K.g2 K.v0 K.v1 K.v2
      fun a0 a1 a2 b0 b1 b2 => k ⟨a0, a1, a2, b0, b1, b2⟩ := rfl

theorem last_one {α : Type} (i : grid0.Coords) (M : Bufs) (T : Six F) (K : Six F) (k : Six F → P F α) :
    chunkL i M T K k = lastU (BitVec.ofNat 32 (i 0).val) M T.g0 T.g1 T.g2 T.v0 T.v1 T.v2 K.g0 K.g1 K.g2 K.v0 K.v1 K.v2
      fun a0 a1 a2 b0 b1 b2 => k ⟨a0, a1, a2, b0, b1, b2⟩ := rfl

/-- The middle of the body, its taps and sums taken one by one. -/
def middleU {α : Type} (n : BitVec 32) (M : Bufs) (g0 g1 g2 v0 v1 v2 : FVec F S8x256 .f32) (a0 a1 a2 b0 b1 b2 : FVec F S8x256 .f32)
    (k : FVec F S8x256 .f32 → FVec F S8x256 .f32 → FVec F S8x256 .f32 → FVec F S8x256 .f32 → FVec F S8x256 .f32 → FVec F S8x256 .f32 → P F α) : P F α := do
  dact304 M 0 (by decide)
  dact352 M 288 (by decide)
  chunkU M g0 g1 g2 v0 v1 v2 0 (by decide) a0 a1 a2 b0 b1 b2 fun a0 a1 a2 b0 b1 b2 => do
  chunkU M g0 g1 g2 v0 v1 v2 1 (by decide) a0 a1 a2 b0 b1 b2 fun a0 a1 a2 b0 b1 b2 => do
  chunkU M g0 g1 g2 v0 v1 v2 2 (by decide) a0 a1 a2 b0 b1 b2 fun a0 a1 a2 b0 b1 b2 => do
  chunkU M g0 g1 g2 v0 v1 v2 3 (by decide) a0 a1 a2 b0 b1 b2 fun a0 a1 a2 b0 b1 b2 => do
  chunkU M g0 g1 g2 v0 v1 v2 4 (by decide) a0 a1 a2 b0 b1 b2 fun a0 a1 a2 b0 b1 b2 => do
  chunkU M g0 g1 g2 v0 v1 v2 5 (by decide) a0 a1 a2 b0 b1 b2 fun a0 a1 a2 b0 b1 b2 => do
  dact304 M 624 (by decide)
  dhn288 M 0 (by decide)
  chunkU M g0 g1 g2 v0 v1 v2 6 (by decide) a0 a1 a2 b0 b1 b2 fun a0 a1 a2 b0 b1 b2 => do
  chunkU M g0 g1 g2 v0 v1 v2 7 (by decide) a0 a1 a2 b0 b1 b2 fun a0 a1 a2 b0 b1 b2 => do
  chunkU M g0 g1 g2 v0 v1 v2 8 (by decide) a0 a1 a2 b0 b1 b2 fun a0 a1 a2 b0 b1 b2 => do
  chunkU M g0 g1 g2 v0 v1 v2 9 (by decide) a0 a1 a2 b0 b1 b2 fun a0 a1 a2 b0 b1 b2 => do
  chunkU M g0 g1 g2 v0 v1 v2 10 (by decide) a0 a1 a2 b0 b1 b2 fun a0 a1 a2 b0 b1 b2 => do
  chunkU M g0 g1 g2 v0 v1 v2 11 (by decide) a0 a1 a2 b0 b1 b2 fun a0 a1 a2 b0 b1 b2 => do
  chunkU M g0 g1 g2 v0 v1 v2 12 (by decide) a0 a1 a2 b0 b1 b2 fun a0 a1 a2 b0 b1 b2 => do
  dhn336 M 288 (by decide)
  chunkU M g0 g1 g2 v0 v1 v2 13 (by decide) a0 a1 a2 b0 b1 b2 fun a0 a1 a2 b0 b1 b2 => do
  chunkU M g0 g1 g2 v0 v1 v2 14 (by decide) a0 a1 a2 b0 b1 b2 fun a0 a1 a2 b0 b1 b2 => do
  chunkU M g0 g1 g2 v0 v1 v2 15 (by decide) a0 a1 a2 b0 b1 b2 fun a0 a1 a2 b0 b1 b2 => do
  chunkU M g0 g1 g2 v0 v1 v2 16 (by decide) a0 a1 a2 b0 b1 b2 fun a0 a1 a2 b0 b1 b2 => do
  chunkU M g0 g1 g2 v0 v1 v2 17 (by decide) a0 a1 a2 b0 b1 b2 fun a0 a1 a2 b0 b1 b2 => do
  lastU n M g0 g1 g2 v0 v1 v2 a0 a1 a2 b0 b1 b2 fun a0 a1 a2 b0 b1 b2 => do
  dhn288 M 624 (by decide)
  k a0 a1 a2 b0 b1 b2

theorem middle_one {α : Type} (i : grid0.Coords) (M : Bufs) (T K : Six F) (k : Six F → P F α) :
    middle i M T K k = middleU (BitVec.ofNat 32 (i 0).val) M T.g0 T.g1 T.g2 T.v0 T.v1 T.v2 K.g0 K.g1 K.g2 K.v0 K.v1 K.v2
      fun a0 a1 a2 b0 b1 b2 => k ⟨a0, a1, a2, b0, b1, b2⟩ := by
  simp only [middle, middleU, chunk_one, last_one]

/-- The middle as far as the fifth tap, -/
def midA (i : grid0.Coords) (M : Bufs) (t : (Σ' (_ : BitVec 32) (_ : BitVec 32) (_ : FVec F S8x256 .f32) (_ : FVec F S8x256 .f32) (_ : FVec F S8x256 .f32) (_ : FVec F S8x256 .f32)
    (_ : FVec F S8x256 .f32) (_ : FVec F S8x256 .f32) (_ : FVec F S8x256 .f32) (_ : FVec F S8x256 .f32) (_ : FVec F S8x256 .f32) (_ : FVec F S8x256 .f32) (_ : FVec F S8x256 .f32), FVec F S8x256 .f32)) : P F (Σ' (_ : BitVec 32) (_ : FVec F S8x256 .f32) (_ : FVec F S8x256 .f32), FVec F S1x256 .f32) :=
  match t with
  | ⟨n, v, g0, g1, g2, v0, v1, v2, a0, a1, a2, b0, b1, b2⟩ => middleU n M g0 g1 g2 v0 v1 v2 a0 a1 a2 b0 b1 b2 fun a0 a1 a2 b0 b1 b2 => do
    let x ← rd M.dk (rQ1 i) (by decide : 0 < S1x1x1x256.numel)
    let _ ← rd M.dk (rQ1 i) (by decide : 0 < S1x1x1x256.numel)
    wr M.dk (rQ1 i) (by decide : 0 < S1x1x1x256.numel) rfl (tapPay x a0)
    let x ← rd M.dk (rQ2 i) (by decide : 0 < S1x1x1x256.numel)
    let _ ← rd M.dk (rQ2 i) (by decide : 0 < S1x1x1x256.numel)
    wr M.dk (rQ2 i) (by decide : 0 < S1x1x1x256.numel) rfl (tapPay x a1)
    let x ← rd M.dk (rQ3 i) (by decide : 0 < S1x1x1x256.numel)
    let _ ← rd M.dk (rQ3 i) (by decide : 0 < S1x1x1x256.numel)
    wr M.dk (rQ3 i) (by decide : 0 < S1x1x1x256.numel) rfl (tapPay x a2)
    let x ← rd M.dk (rQ4 i) (by decide : 0 < S1x1x1x256.numel)
    let _ ← rd M.dk (rQ4 i) (by decide : 0 < S1x1x1x256.numel)
    wr M.dk (rQ4 i) (by decide : 0 < S1x1x1x256.numel) rfl (tapPay x b0)
    let x ← rd M.dk (rQ5 i) (by decide : 0 < S1x1x1x256.numel)
    pure ⟨v, b1, b2, shapeCast S1x256 x shapeCasts_S1x1x1x256_S1x256⟩

/-- and from there on. -/
def finA (i : grid0.Coords) (M : Bufs) (t : (Σ' (_ : BitVec 32) (_ : FVec F S8x256 .f32) (_ : FVec F S8x256 .f32), FVec F S1x256 .f32)) : P F PUnit :=
  match t with
  | ⟨_, k, k', x⟩ => do
    let _ ← rd M.dk (rQ5 i) (by decide : 0 < S1x1x1x256.numel)
    wr M.dk (rQ5 i) (by decide : 0 < S1x1x1x256.numel) rfl (shapeCast S1x1x1x256 (addf x
      (shapeCast S1x256 (multiReduction .add [0] S256 k 0x00000000#32 reduces_S8x256_S256 (.inl rfl) rfl) shapeCasts_S256_S1x256)) shapeCasts_S1x256_S1x1x1x256)
    let x ← rd M.dk (rQ6 i) (by decide : 0 < S1x1x1x256.numel)
    let _ ← rd M.dk (rQ6 i) (by decide : 0 < S1x1x1x256.numel)
    wr M.dk (rQ6 i) (by decide : 0 < S1x1x1x256.numel) rfl (tapPay x k')
    tail i M

set_option maxHeartbeats 16000000 in
theorem head_eq (i : grid0.Coords) (M : Bufs) :
    k0_part5 (F := F) i M.dhc M.hdhc M.dhn M.hdhn M.hm M.hhm M.g M.hg M.xg M.hxg M.xv M.hxv M.cg M.hcg M.cgn M.hcgn M.cv M.hcv M.cvn M.hcvn M.kg M.hkg M.kv M.hkv M.wd M.hwd M.wg M.hwg M.wv M.hwv M.dhm M.hdhm M.dg M.hdg M.du M.hdu M.dk M.hdk M.dhe M.hdhe M.da M.hda M.acc M.hacc = head i M := rfl

/-- What follows the beginning may use that the first of its results is the tile's number. -/
theorem head_congr (i : grid0.Coords) (M : Bufs) {α : Type} {f g : (Σ' (_ : BitVec 32) (_ : BitVec 32) (_ : FVec F S8x256 .f32) (_ : FVec F S8x256 .f32) (_ : FVec F S8x256 .f32) (_ : FVec F S8x256 .f32)
      (_ : FVec F S8x256 .f32) (_ : FVec F S8x256 .f32) (_ : FVec F S8x256 .f32) (_ : FVec F S8x256 .f32) (_ : FVec F S8x256 .f32) (_ : FVec F S8x256 .f32) (_ : FVec F S8x256 .f32), FVec F S8x256 .f32) → P F α}
    (h : ∀ t, t.1 = BitVec.ofNat 32 (i 0).val → f t = g t) : head i M >>= f = head i M >>= g := by
  unfold head
  by_cases h1 : k0_cond1 i = 1#1 <;> by_cases h2 : k0_cond2 i = 1#1
  · rw [if_pos h1, if_pos h2]
    repeat refine congrArg (Prog.op _) (funext fun _ => ?_)
    exact h _ rfl
  · rw [if_pos h1, if_neg h2]
    repeat refine congrArg (Prog.op _) (funext fun _ => ?_)
    exact h _ rfl
  · rw [if_neg h1, if_pos h2]
    repeat refine congrArg (Prog.op _) (funext fun _ => ?_)
    exact h _ rfl
  · rw [if_neg h1, if_neg h2]
    repeat refine congrArg (Prog.op _) (funext fun _ => ?_)
    exact h _ rfl

set_option maxHeartbeats 16000000 in
/-- It is the call's own body. -/
theorem body_eq (i : grid0.Coords) (M : Bufs) :
    cc0_ffn_bwd (F := F) i M.dhc M.hdhc M.dhn M.hdhn M.hm M.hhm M.g M.hg M.xg M.hxg M.xv M.hxv M.cg M.hcg M.cgn M.hcgn M.cv M.hcv M.cvn M.hcvn M.kg M.hkg M.kv M.hkv M.wd M.hwd M.wg M.hwg M.wv M.hwv M.dhm M.hdhm M.dg M.hdg M.du M.hdu M.dk M.hdk M.dhe M.hdhe M.da M.hda M.acc M.hacc = body i M := by
  have h : cc0_ffn_bwd (F := F) i M.dhc M.hdhc M.dhn M.hdhn M.hm M.hhm M.g M.hg M.xg M.hxg M.xv M.hxv M.cg M.hcg M.cgn M.hcgn M.cv M.hcv M.cvn M.hcvn M.kg M.hkg M.kv M.hkv M.wd M.hwd M.wg M.hwg M.wv M.hwv M.dhm M.hdhm M.dg M.hdg M.du M.hdu M.dk M.hdk M.dhe M.hdhe M.da M.hda M.acc M.hacc = (head i M >>= midA i M) >>= finA i M := by
    unfold cc0_ffn_bwd k0_part60
    rw [head_eq]
    refine congrArg (fun z => (head i M >>= z) >>= finA i M) (funext fun t => ?_)
    obtain ⟨x0, x1, g0, g1, g2, v0, v1, v2, a0, a1, a2, b0, b1, b2⟩ := t
    repeat refine congrArg (Prog.op _) (funext fun _ => ?_)
    rfl
  have h' : ∀ t : (Σ' (_ : BitVec 32) (_ : BitVec 32) (_ : FVec F S8x256 .f32) (_ : FVec F S8x256 .f32) (_ : FVec F S8x256 .f32) (_ : FVec F S8x256 .f32)
      (_ : FVec F S8x256 .f32) (_ : FVec F S8x256 .f32) (_ : FVec F S8x256 .f32) (_ : FVec F S8x256 .f32) (_ : FVec F S8x256 .f32) (_ : FVec F S8x256 .f32) (_ : FVec F S8x256 .f32), FVec F S8x256 .f32),
      t.1 = BitVec.ofNat 32 (i 0).val → midA (F := F) i M t >>= finA i M = mid i M (tail i M) t := fun t ht => by
    obtain ⟨n, _, g0, g1, g2, v0, v1, v2, a0, a1, a2, b0, b1, b2⟩ := t
    obtain rfl : n = BitVec.ofNat 32 (i 0).val := ht
    refine Eq.trans ?_ (middle_one i M ⟨g0, g1, g2, v0, v1, v2⟩ ⟨a0, a1, a2, b0, b1, b2⟩ fun K => do taps_ i M K; tail i M).symm
    rfl
  rw [h, Prog.bind_assoc]
  exact head_congr i M h'

end Cert.Kernel5Ideal.BackFfn

end
-- ==== Proof.BackFrame.lean ====
/- The feed-forward call's backward pass runs: what every buffer holds after every point, the body at every point, the launch. -/
module

public import proofs.«01_k».proof.Proof.BackPoint
public import proofs.«01_k».proof.Proof.BackEq
public import Idealize.ShloMosaic.Lib.Pipeline.TableIdle
public import Idealize.ShloMosaic.Lib.Claim

@[expose] public section

set_option maxRecDepth 16384

noncomputable section

namespace Cert.Kernel5Ideal.BackFfn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal Cert.Kernel5Ideal.Gen Cert.Rows

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Where the first conditional holds, -/
theorem first_iff : ∀ t : Fin cfg0.N, k0_cond1 (grid0.coords t) = 1#1 ↔ t.val % 11 = 0 := by decide +kernel
/-- the second, -/
theorem start_iff : ∀ t : Fin cfg0.N, k0_cond2 (grid0.coords t) = 1#1 ↔ t.val = 0 := by decide +kernel
/-- and the third. -/
theorem last_iff : ∀ t : Fin cfg0.N, k0_cond3 (grid0.coords t) = 1#1 ↔ t.val % 11 = 10 := by decide +kernel

/-! ## When the results kept over several points are written -/

theorem idle15 : ∀ t : Fin cfg0.N, ¬t.val % 11 = 10 → cfg0.idle 15 (grid0.coords t) = true := by decide +kernel
theorem noFlush15 : ∀ t : Fin cfg0.N, ¬t.val % 11 = 10 → (cfg0.win 15).flush t = false := by decide +kernel
theorem live15 : ∀ t : Fin cfg0.N, t.val % 11 = 10 → cfg0.idle 15 (grid0.coords t) = false := by decide +kernel
theorem live16_start : ∀ t : Fin cfg0.N, t.val = 0 → cfg0.idle 16 (grid0.coords t) = false := by decide +kernel
theorem live16_last : ∀ t : Fin cfg0.N, t.val % 11 = 10 → cfg0.idle 16 (grid0.coords t) = false := by decide +kernel
theorem idle16 : ∀ t : Fin cfg0.N, t.val ≠ 0 → ¬t.val % 11 = 10 → cfg0.idle 16 (grid0.coords t) = true := by decide +kernel
theorem noFlush16 : ∀ t : Fin cfg0.N, ¬t.val % 11 = 10 → (cfg0.win 16).flush t = false := by decide +kernel

/-- Whether the sums' buffers hold nothing of the body's own at a position: only before the first point and after the last. -/
def freshAt (n : ℕ) : Bool := n == 0 || n == 99
theorem freshAt_step16 : ∀ t : Fin cfg0.N,
    freshAt (t.val + 1) = ((cfg0.win 16).flush t || (cfg0.idle 16 (cfg0.grid.coords t) && freshAt t.val)) := by decide +kernel
theorem freshAt_step18 : ∀ t : Fin cfg0.N,
    freshAt (t.val + 1) = ((cfg0.win 18).flush t || (cfg0.idle 18 (cfg0.grid.coords t) && freshAt t.val)) := by decide +kernel
theorem freshAt_ne : ∀ t : Fin cfg0.N, t.val ≠ 0 → freshAt t.val = false := by decide +kernel
theorem notFresh16 (t : Fin cfg0.N) (h : t.val ≠ 0) : cfg0.fresh 16 t.val = false := by
  rw [Pipeline.Cfg.fresh_tab cfg0 16 freshAt rfl freshAt_step16 t.val (Nat.le_of_lt t.isLt)]
  exact freshAt_ne t h
theorem notFresh18 (t : Fin cfg0.N) (h : t.val ≠ 0) : cfg0.fresh 18 t.val = false := by
  rw [Pipeline.Cfg.fresh_tab cfg0 18 freshAt rfl freshAt_step18 t.val (Nat.le_of_lt t.isLt)]
  exact freshAt_ne t h

/-! ## The buffers at a point -/

abbrev ms0 (t : Fin cfg0.N) : Memref sig .tc .vmem S912x1024 .f32 := win0_0.stage (cfg0.slots t 0)
abbrev ms1 (t : Fin cfg0.N) : Memref sig .tc .vmem S16x1024 .f32 := win0_1.stage (cfg0.slots t 1)
abbrev ms2 (t : Fin cfg0.N) : Memref sig .tc .vmem S912x1024 .f32 := win0_2.stage (cfg0.slots t 2)
abbrev ms3 (t : Fin cfg0.N) : Memref sig .tc .vmem S1x1024 .f32 := win0_3.stage (cfg0.slots t 3)
abbrev ms4 (t : Fin cfg0.N) : Memref sig .tc .vmem S1x912x256 .bf16 := win0_4.stage (cfg0.slots t 4)
abbrev ms5 (t : Fin cfg0.N) : Memref sig .tc .vmem S1x912x256 .bf16 := win0_5.stage (cfg0.slots t 5)
abbrev ms6 (t : Fin cfg0.N) : Memref sig .tc .vmem S1x912x256 .bf16 := win0_6.stage (cfg0.slots t 6)
abbrev ms7 (t : Fin cfg0.N) : Memref sig .tc .vmem S1x16x256 .bf16 := win0_7.stage (cfg0.slots t 7)
abbrev ms8 (t : Fin cfg0.N) : Memref sig .tc .vmem S1x912x256 .bf16 := win0_8.stage (cfg0.slots t 8)
abbrev ms9 (t : Fin cfg0.N) : Memref sig .tc .vmem S1x16x256 .bf16 := win0_9.stage (cfg0.slots t 9)
abbrev ms10 (t : Fin cfg0.N) : Memref sig .tc .vmem S3x256 .f32 := win0_10.stage (cfg0.slots t 10)
abbrev ms11 (t : Fin cfg0.N) : Memref sig .tc .vmem S3x256 .f32 := win0_11.stage (cfg0.slots t 11)
abbrev ms12 (t : Fin cfg0.N) : Memref sig .tc .vmem S256x1024 .bf16 := win0_12.stage (cfg0.slots t 12)
abbrev ms13 (t : Fin cfg0.N) : Memref sig .tc .vmem S256x1024 .bf16 := win0_13.stage (cfg0.slots t 13)
abbrev ms14 (t : Fin cfg0.N) : Memref sig .tc .vmem S256x1024 .bf16 := win0_14.stage (cfg0.slots t 14)
abbrev ms15 (t : Fin cfg0.N) : Memref sig .tc .vmem S912x1024 .f32 := win0_15.stage (cfg0.slots t 15)
abbrev ms16 (t : Fin cfg0.N) : Memref sig .tc .vmem S1x1024 .f32 := win0_16.stage (cfg0.slots t 16)
abbrev ms17 (t : Fin cfg0.N) : Memref sig .tc .vmem S2x912x256 .bf16 := win0_17.stage (cfg0.slots t 17)
abbrev ms18 (t : Fin cfg0.N) : Memref sig .tc .vmem S11x2x3x256 .f32 := win0_18.stage (cfg0.slots t 18)
abbrev sc0 : Memref sig .tc .vmem S928x1024 .bf16 := Memref.whole cc0_scratch0
abbrev sc1 : Memref sig .tc .vmem S928x256 .f32 := Memref.whole cc0_scratch1
abbrev sc2 : Memref sig .tc .vmem S912x1024 .f32 := Memref.whole cc0_scratch2

/-- The buffers the body is called with. -/
def bufs (t : Fin cfg0.N) : Bufs where
  dhc := ms0 t
  hdhc := hstage0_0 ((cfg0.slots t 0).cast nbuf0_0)
  dhn := ms1 t
  hdhn := hstage0_1 ((cfg0.slots t 1).cast nbuf0_1)
  hm := ms2 t
  hhm := hstage0_2 ((cfg0.slots t 2).cast nbuf0_2)
  g := ms3 t
  hg := hstage0_3 ((cfg0.slots t 3).cast nbuf0_3)
  xg := ms4 t
  hxg := hstage0_4 ((cfg0.slots t 4).cast nbuf0_4)
  xv := ms5 t
  hxv := hstage0_5 ((cfg0.slots t 5).cast nbuf0_5)
  cg := ms6 t
  hcg := hstage0_6 ((cfg0.slots t 6).cast nbuf0_6)
  cgn := ms7 t
  hcgn := hstage0_7 ((cfg0.slots t 7).cast nbuf0_7)
  cv := ms8 t
  hcv := hstage0_8 ((cfg0.slots t 8).cast nbuf0_8)
  cvn := ms9 t
  hcvn := hstage0_9 ((cfg0.slots t 9).cast nbuf0_9)
  kg := ms10 t
  hkg := hstage0_10 ((cfg0.slots t 10).cast nbuf0_10)
  kv := ms11 t
  hkv := hstage0_11 ((cfg0.slots t 11).cast nbuf0_11)
  wd := ms12 t
  hwd := hstage0_12 ((cfg0.slots t 12).cast nbuf0_12)
  wg := ms13 t
  hwg := hstage0_13 ((cfg0.slots t 13).cast nbuf0_13)
  wv := ms14 t
  hwv := hstage0_14 ((cfg0.slots t 14).cast nbuf0_14)
  dhm := ms15 t
  hdhm := hstage0_15 ((cfg0.slots t 15).cast nbuf0_15)
  dg := ms16 t
  hdg := hstage0_16 ((cfg0.slots t 16).cast nbuf0_16)
  du := ms17 t
  hdu := hstage0_17 ((cfg0.slots t 17).cast nbuf0_17)
  dk := ms18 t
  hdk := hstage0_18 ((cfg0.slots t 18).cast nbuf0_18)
  dhe := sc0
  hdhe := Memref.isWhole_whole _
  da := sc1
  hda := Memref.isWhole_whole _
  acc := sc2
  hacc := Memref.isWhole_whole _

theorem bodyAt_eq (t : Fin cfg0.N) : bodyAt0 (F := F) t = body (grid0.coords t) (bufs t) := body_eq (grid0.coords t) (bufs t)

/-- The scratch and the generator, at anything. -/
theorem phi_any (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d)) ∗ (∃ r, prngReg c r)) := by
  unfold Pipeline.ΦA; rw [scopedRest0_eq]; simp only [sc0, sc1, sc2, owns_whole]; rfl

/-! ## What the buffers hold -/

/-- What the middle of the body works on at a point: the point's blocks, over what is carried. -/
def inAt (c : Dev nD) (t : Fin cfg0.N) (dhe : Vec F S928x1024 .bf16) (acc : Vec F S912x1024 .f32) : In F :=
  ⟨grid0.coords t, dhe, iblk m c 6 t, iblk m c 7 t, iblk m c 8 t, iblk m c 9 t, iblk m c 4 t, iblk m c 5 t, iblk m c 12 t, iblk m c 13 t, iblk m c 14 t,
    tapsOf (iblk m c 10 t) (iblk m c 11 t), acc⟩

/-- At a tile's first point, -/
def openAt (c : Dev nD) (t : Fin cfg0.N) : In F := inAt m c t (dheG (iblk m c 0 t) (iblk m c 1 t)) zeroPay

/-- and at every point. -/
def stAt (c : Dev nD) : (n : ℕ) → n < cfg0.N → In F
  | 0, h => openAt m c ⟨0, h⟩
  | n + 1, h => if (n + 1) % 11 = 0 then openAt m c ⟨n + 1, h⟩ else
    inAt m c ⟨n + 1, h⟩ (stAt c n (Nat.lt_of_succ_lt h)).dhe (accG (stAt c n (Nat.lt_of_succ_lt h)))

theorem stAt_open (c : Dev nD) (t : Fin cfg0.N) (h : t.val % 11 = 0) : stAt m c t.val t.isLt = openAt m c t := by
  obtain ⟨n, hn⟩ := t
  cases n with
  | zero => rfl
  | succ n => exact if_pos h

theorem stAt_next (c : Dev nD) (t : Fin cfg0.N) (h : ¬t.val % 11 = 0) : stAt m c t.val t.isLt
    = inAt m c t (stAt m c (t.val - 1) (Nat.lt_of_le_of_lt (Nat.sub_le _ _) t.isLt)).dhe
        (accG (stAt m c (t.val - 1) (Nat.lt_of_le_of_lt (Nat.sub_le _ _) t.isLt))) := by
  obtain ⟨n, hn⟩ := t
  cases n with
  | zero => exact absurd (Nat.zero_mod _) h
  | succ n => exact if_neg h

/-- The taps' gradients after every point. -/
def dkAt (c : Dev nD) : (n : ℕ) → n < cfg0.N → Vec F S11x2x3x256 .f32
  | 0, h => tapsG (grid0.coords ⟨0, h⟩) (endK (stAt m c 0 h) zero6) zeroK
  | n + 1, h => tapsG (grid0.coords ⟨n + 1, h⟩) (endK (stAt m c (n + 1) h) zero6) (dkAt c n (Nat.lt_of_succ_lt h))

theorem dkAt_start (c : Dev nD) (t : Fin cfg0.N) (h : t.val = 0) :
    dkAt m c t.val t.isLt = tapsG (grid0.coords t) (endK (stAt m c t.val t.isLt) zero6) zeroK := by
  obtain ⟨n, hn⟩ := t
  cases n with
  | zero => rfl
  | succ n => exact absurd h (Nat.succ_ne_zero n)

theorem dkAt_next (c : Dev nD) (t : Fin cfg0.N) (h : t.val ≠ 0) : dkAt m c t.val t.isLt
    = tapsG (grid0.coords t) (endK (stAt m c t.val t.isLt) zero6) (dkAt m c (t.val - 1) (Nat.lt_of_le_of_lt (Nat.sub_le _ _) t.isLt)) := by
  obtain ⟨n, hn⟩ := t
  cases n with
  | zero => exact absurd rfl h
  | succ n => rfl

/-- The weights' gradient of the normalisation after every point. -/
def dgAt (c : Dev nD) : (n : ℕ) → n < cfg0.N → Vec F S1x1024 .f32
  | 0, _ => zeroG
  | n + 1, h => if (n + 1) % 11 = 10 then dgPay (dgAt c n (Nat.lt_of_succ_lt h)) (accG (stAt m c (n + 1) h)) (iblk m c 2 ⟨n + 1, h⟩)
    else dgAt c n (Nat.lt_of_succ_lt h)

theorem dgAt_start (c : Dev nD) (t : Fin cfg0.N) (h : t.val = 0) : dgAt m c t.val t.isLt = zeroG := by
  obtain ⟨n, hn⟩ := t
  cases n with
  | zero => rfl
  | succ n => exact absurd h (Nat.succ_ne_zero n)

theorem dgAt_last (c : Dev nD) (t : Fin cfg0.N) (h : t.val % 11 = 10) : dgAt m c t.val t.isLt
    = dgPay (dgAt m c (t.val - 1) (Nat.lt_of_le_of_lt (Nat.sub_le _ _) t.isLt)) (accG (stAt m c t.val t.isLt)) (iblk m c 2 t) := by
  obtain ⟨n, hn⟩ := t
  cases n with
  | zero => exact absurd h (by decide : ¬0 % 11 = 10)
  | succ n => exact if_pos h

theorem dgAt_keep (c : Dev nD) (t : Fin cfg0.N) (hz : t.val ≠ 0) (h : ¬t.val % 11 = 10) : dgAt m c t.val t.isLt
    = dgAt m c (t.val - 1) (Nat.lt_of_le_of_lt (Nat.sub_le _ _) t.isLt) := by
  obtain ⟨n, hn⟩ := t
  cases n with
  | zero => exact absurd rfl hz
  | succ n => exact if_neg h

/-- The scratch between points: the kept rows and the accumulator are carried. -/
def phi (c : Dev nD) : (n : ℕ) → n ≤ cfg0.N → sProp 𝕄
  | 0, _ => Pipeline.ΦA spec0 c
  | n + 1, hn => iprop(iprop(owns (c : Thread nD τ) sc0 fullShare (stAt m c n hn).dhe ∗ (∃ d, owns (c : Thread nD τ) sc1 fullShare d)
      ∗ owns (c : Thread nD τ) sc2 fullShare (accG (stAt m c n hn))) ∗ (∃ r, prngReg c r))

theorem phi_zero (c : Dev nD) (n : ℕ) (h : n ≤ cfg0.N) (hz : n = 0) : phi m c n h = Pipeline.ΦA spec0 c := by subst hz; rfl

theorem phi_succ (c : Dev nD) (n : ℕ) (hn : n < cfg0.N) : phi m c (n + 1) hn
    = iprop(iprop(owns (c : Thread nD τ) sc0 fullShare (stAt m c n hn).dhe ∗ (∃ d, owns (c : Thread nD τ) sc1 fullShare d)
      ∗ owns (c : Thread nD τ) sc2 fullShare (accG (stAt m c n hn))) ∗ (∃ r, prngReg c r)) := rfl

theorem phi_pos (c : Dev nD) (n : ℕ) (h : n ≤ cfg0.N) (hz : n ≠ 0) : phi m c n h
    = iprop(iprop(owns (c : Thread nD τ) sc0 fullShare (stAt m c (n - 1) (by omega)).dhe ∗ (∃ d, owns (c : Thread nD τ) sc1 fullShare d)
      ∗ owns (c : Thread nD τ) sc2 fullShare (accG (stAt m c (n - 1) (by omega)))) ∗ (∃ r, prngReg c r)) := by
  cases n with
  | zero => exact absurd rfl hz
  | succ n => rfl

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => closePay (iblk m c 2 t) (accG (stAt m c t.val t.isLt)) (iblk m c 3 t) (iblk m c 0 t)
    | ⟨16, _⟩ => dgAt m c t.val t.isLt
    | ⟨17, _⟩ => duG (stAt m c t.val t.isLt)
    | ⟨18, _⟩ => dkAt m c t.val t.isLt
    | ⟨n + 19, h⟩ => absurd (show n + 19 < 19 from h) (by omega)
  Φ t := phi m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem phi_castSucc (c : Dev nD) (t : Fin cfg0.N) : (dats m 0 c).Φ t.castSucc = phi m c t.val (Nat.le_of_lt t.isLt) := by
  dsimp only [dats]; exact Pipeline.Dat.Φ_castSucc (phi m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = iblk m c 11 t := by dsimp only [dats]
theorem after12 (c : Dev nD) (t : Fin cfg0.N) : (dats m 0 c).after 12 t = iblk m c 12 t := by dsimp only [dats]
theorem after13 (c : Dev nD) (t : Fin cfg0.N) : (dats m 0 c).after 13 t = iblk m c 13 t := by dsimp only [dats]
theorem after14 (c : Dev nD) (t : Fin cfg0.N) : (dats m 0 c).after 14 t = iblk m c 14 t := by dsimp only [dats]
theorem after15 (c : Dev nD) (t : Fin cfg0.N) : (dats m 0 c).after 15 t = closePay (iblk m c 2 t) (accG (stAt m c t.val t.isLt)) (iblk m c 3 t) (iblk m c 0 t) := by dsimp only [dats]
theorem after16 (c : Dev nD) (t : Fin cfg0.N) : (dats m 0 c).after 16 t = dgAt m c t.val t.isLt := by dsimp only [dats]
theorem after17 (c : Dev nD) (t : Fin cfg0.N) : (dats m 0 c).after 17 t = duG (stAt m c t.val t.isLt) := by dsimp only [dats]
theorem after18 (c : Dev nD) (t : Fin cfg0.N) : (dats m 0 c).after 18 t = dkAt m c t.val t.isLt := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d
theorem before8 (c : Dev nD) (t : Fin cfg0.N) (d) : (dats m 0 c).before 8 t d = iblk m c 8 t :=
  before0_8_of m (dats m 0 c) (A_eq m c 8) (after8 m c) t d
theorem before9 (c : Dev nD) (t : Fin cfg0.N) (d) : (dats m 0 c).before 9 t d = iblk m c 9 t :=
  before0_9_of m (dats m 0 c) (A_eq m c 9) (after9 m c) t d
theorem before10 (c : Dev nD) (t : Fin cfg0.N) (d) : (dats m 0 c).before 10 t d = iblk m c 10 t :=
  before0_10_of m (dats m 0 c) (A_eq m c 10) (after10 m c) t d
theorem before11 (c : Dev nD) (t : Fin cfg0.N) (d) : (dats m 0 c).before 11 t d = iblk m c 11 t :=
  before0_11_of m (dats m 0 c) (A_eq m c 11) (after11 m c) t d
theorem before12 (c : Dev nD) (t : Fin cfg0.N) (d) : (dats m 0 c).before 12 t d = iblk m c 12 t :=
  before0_12_of m (dats m 0 c) (A_eq m c 12) (after12 m c) t d
theorem before13 (c : Dev nD) (t : Fin cfg0.N) (d) : (dats m 0 c).before 13 t d = iblk m c 13 t :=
  before0_13_of m (dats m 0 c) (A_eq m c 13) (after13 m c) t d
theorem before14 (c : Dev nD) (t : Fin cfg0.N) (d) : (dats m 0 c).before 14 t d = iblk m c 14 t :=
  before0_14_of m (dats m 0 c) (A_eq m c 14) (after14 m c) t d

/-- The normalisation's sum stays in its buffer from a tile's end to the next. -/
theorem carry16 (c : Dev nD) : ∀ (t : Fin cfg0.N) (_ : t.val ≠ 0), cfg0.idle 16 (grid0.coords t) = true → cfg0.fresh 16 t.val = false →
    (dats m 0 c).after 16 t = (dats m 0 c).after 16 ⟨t.val - 1, by omega⟩ := by
  intro t hz hi _
  rw [after16, after16]
  by_cases h1 : t.val % 11 = 10
  · rw [live16_last t h1] at hi
    exact absurd hi Bool.false_ne_true
  · exact dgAt_keep m c t hz h1

theorem carry18 (c : Dev nD) : ∀ (t : Fin cfg0.N) (_ : t.val ≠ 0), cfg0.idle 18 (grid0.coords t) = true → cfg0.fresh 18 t.val = false →
    (dats m 0 c).after 18 t = (dats m 0 c).after 18 ⟨t.val - 1, by omega⟩ :=
  fun t _ hi _ => absurd (hi.symm.trans (show cfg0.idle 18 (grid0.coords t) = false from rfl)) (Ne.symm Bool.false_ne_true)

theorem before16 (c : Dev nD) (t : Fin cfg0.N) (hz : t.val ≠ 0) (d) :
    (dats m 0 c).before 16 t d = dgAt m c (t.val - 1) (Nat.lt_of_le_of_lt (Nat.sub_le _ _) t.isLt) := by
  rw [Dat.before_out_traj _ 16 rfl (fun _ _ => rfl) (carry16 m c) t.val t rfl d,
    if_neg (by rw [notFresh16 t hz]; exact Bool.false_ne_true)]
  dsimp only [dats]

theorem before18 (c : Dev nD) (t : Fin cfg0.N) (hz : t.val ≠ 0) (d) :
    (dats m 0 c).before 18 t d = dkAt m c (t.val - 1) (Nat.lt_of_le_of_lt (Nat.sub_le _ _) t.isLt) := by
  rw [Dat.before_out_traj _ 18 rfl (fun _ _ => rfl) (carry18 m c) t.val t rfl d,
    if_neg (by rw [notFresh18 t hz]; exact Bool.false_ne_true)]
  dsimp only [dats]

/-! ## The body at every point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d))
    ∗ (∃ d, owns (c : Thread nD τ) (ms13 t) fullShare ((dats m 0 c).before 13 t d))
    ∗ (∃ d, owns (c : Thread nD τ) (ms14 t) fullShare ((dats m 0 c).before 14 t d))
    ∗ (∃ d, owns (c : Thread nD τ) (ms15 t) fullShare ((dats m 0 c).before 15 t d))
    ∗ (∃ d, owns (c : Thread nD τ) (ms16 t) fullShare ((dats m 0 c).before 16 t d))
    ∗ (∃ d, owns (c : Thread nD τ) (ms17 t) fullShare ((dats m 0 c).before 17 t d))
    ∗ (∃ d, owns (c : Thread nD τ) (ms18 t) fullShare ((dats m 0 c).before 18 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t)

theorem leaves0 (c : Dev nD) (t : Fin cfg0.N) : (dats m 0 c).leavesExact 0 t = owns (c : Thread nD τ) (ms0 t) fullShare (iblk m c 0 t) := by
  unfold Dat.leavesExact; rw [show cfg0.idle 0 (grid0.coords t) = false from rfl, after0]
theorem leaves1 (c : Dev nD) (t : Fin cfg0.N) : (dats m 0 c).leavesExact 1 t = owns (c : Thread nD τ) (ms1 t) fullShare (iblk m c 1 t) := by
  unfold Dat.leavesExact; rw [show cfg0.idle 1 (grid0.coords t) = false from rfl, after1]
theorem leaves2 (c : Dev nD) (t : Fin cfg0.N) : (dats m 0 c).leavesExact 2 t = owns (c : Thread nD τ) (ms2 t) fullShare (iblk m c 2 t) := by
  unfold Dat.leavesExact; rw [show cfg0.idle 2 (grid0.coords t) = false from rfl, after2]
theorem leaves3 (c : Dev nD) (t : Fin cfg0.N) : (dats m 0 c).leavesExact 3 t = owns (c : Thread nD τ) (ms3 t) fullShare (iblk m c 3 t) := by
  unfold Dat.leavesExact; rw [show cfg0.idle 3 (grid0.coords t) = false from rfl, after3]
theorem leaves4 (c : Dev nD) (t : Fin cfg0.N) : (dats m 0 c).leavesExact 4 t = owns (c : Thread nD τ) (ms4 t) fullShare (iblk m c 4 t) := by
  unfold Dat.leavesExact; rw [show cfg0.idle 4 (grid0.coords t) = false from rfl, after4]
theorem leaves5 (c : Dev nD) (t : Fin cfg0.N) : (dats m 0 c).leavesExact 5 t = owns (c : Thread nD τ) (ms5 t) fullShare (iblk m c 5 t) := by
  unfold Dat.leavesExact; rw [show cfg0.idle 5 (grid0.coords t) = false from rfl, after5]
theorem leaves6 (c : Dev nD) (t : Fin cfg0.N) : (dats m 0 c).leavesExact 6 t = owns (c : Thread nD τ) (ms6 t) fullShare (iblk m c 6 t) := by
  unfold Dat.leavesExact; rw [show cfg0.idle 6 (grid0.coords t) = false from rfl, after6]
theorem leaves7 (c : Dev nD) (t : Fin cfg0.N) : (dats m 0 c).leavesExact 7 t = owns (c : Thread nD τ) (ms7 t) fullShare (iblk m c 7 t) := by
  unfold Dat.leavesExact; rw [show cfg0.idle 7 (grid0.coords t) = false from rfl, after7]
theorem leaves8 (c : Dev nD) (t : Fin cfg0.N) : (dats m 0 c).leavesExact 8 t = owns (c : Thread nD τ) (ms8 t) fullShare (iblk m c 8 t) := by
  unfold Dat.leavesExact; rw [show cfg0.idle 8 (grid0.coords t) = false from rfl, after8]
theorem leaves9 (c : Dev nD) (t : Fin cfg0.N) : (dats m 0 c).leavesExact 9 t = owns (c : Thread nD τ) (ms9 t) fullShare (iblk m c 9 t) := by
  unfold Dat.leavesExact; rw [show cfg0.idle 9 (grid0.coords t) = false from rfl, after9]
theorem leaves10 (c : Dev nD) (t : Fin cfg0.N) : (dats m 0 c).leavesExact 10 t = owns (c : Thread nD τ) (ms10 t) fullShare (iblk m c 10 t) := by
  unfold Dat.leavesExact; rw [show cfg0.idle 10 (grid0.coords t) = false from rfl, after10]
theorem leaves11 (c : Dev nD) (t : Fin cfg0.N) : (dats m 0 c).leavesExact 11 t = owns (c : Thread nD τ) (ms11 t) fullShare (iblk m c 11 t) := by
  unfold Dat.leavesExact; rw [show cfg0.idle 11 (grid0.coords t) = false from rfl, after11]
theorem leaves12 (c : Dev nD) (t : Fin cfg0.N) : (dats m 0 c).leavesExact 12 t = owns (c : Thread nD τ) (ms12 t) fullShare (iblk m c 12 t) := by
  unfold Dat.leavesExact; rw [show cfg0.idle 12 (grid0.coords t) = false from rfl, after12]
theorem leaves13 (c : Dev nD) (t : Fin cfg0.N) : (dats m 0 c).leavesExact 13 t = owns (c : Thread nD τ) (ms13 t) fullShare (iblk m c 13 t) := by
  unfold Dat.leavesExact; rw [show cfg0.idle 13 (grid0.coords t) = false from rfl, after13]
theorem leaves14 (c : Dev nD) (t : Fin cfg0.N) : (dats m 0 c).leavesExact 14 t = owns (c : Thread nD τ) (ms14 t) fullShare (iblk m c 14 t) := by
  unfold Dat.leavesExact; rw [show cfg0.idle 14 (grid0.coords t) = false from rfl, after14]
theorem leaves17 (c : Dev nD) (t : Fin cfg0.N) : (dats m 0 c).leavesExact 17 t = owns (c : Thread nD τ) (ms17 t) fullShare (duG (stAt m c t.val t.isLt)) := by
  unfold Dat.leavesExact; rw [show cfg0.idle 17 (grid0.coords t) = false from rfl, after17]
theorem leaves18 (c : Dev nD) (t : Fin cfg0.N) : (dats m 0 c).leavesExact 18 t = owns (c : Thread nD τ) (ms18 t) fullShare (dkAt m c t.val t.isLt) := by
  unfold Dat.leavesExact; rw [show cfg0.idle 18 (grid0.coords t) = false from rfl, after18]
theorem leaves15 (c : Dev nD) (t : Fin cfg0.N) (h : t.val % 11 = 10) : (dats m 0 c).leavesExact 15 t = owns (c : Thread nD τ) (ms15 t) fullShare (closePay (iblk m c 2 t) (accG (stAt m c t.val t.isLt)) (iblk m c 3 t) (iblk m c 0 t)) := by
  unfold Dat.leavesExact; rw [live15 t h, after15]
theorem leaves16_start (c : Dev nD) (t : Fin cfg0.N) (h : t.val = 0) : (dats m 0 c).leavesExact 16 t = owns (c : Thread nD τ) (ms16 t) fullShare (dgAt m c t.val t.isLt) := by
  unfold Dat.leavesExact; rw [live16_start t h, after16]
theorem leaves16_last (c : Dev nD) (t : Fin cfg0.N) (h : t.val % 11 = 10) : (dats m 0 c).leavesExact 16 t = owns (c : Thread nD τ) (ms16 t) fullShare (dgAt m c t.val t.isLt) := by
  unfold Dat.leavesExact; rw [live16_last t h, after16]

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [bodyAt_eq]
  simp only [before0, before1, before2, before3, before4, before5, before6, before7, before8, before9, before10, before11, before12, before13, before14]
  rw [leaves0, leaves1, leaves2, leaves3, leaves4, leaves5, leaves6, leaves7, leaves8, leaves9, leaves10, leaves11, leaves12, leaves13, leaves14, leaves17, leaves18]
  rw [show (dats m 0 c).owesAt () t.succ = (dats m 0 c).owesAt () t.castSucc from rfl,
    show (dats m 0 c).Φ t.succ = phi m c (t.val + 1) t.isLt from rfl, phi_succ, phi_castSucc m c t]
  by_cases h0 : t.val % 11 = 0
  · have h1 : ¬t.val % 11 = 10 := by omega
    have hI := stAt_open m c t h0
    rw [Dat.leavesExact_idle (dats m 0 c) 15 t (idle15 t h1) (noFlush15 t h1)]
    by_cases hz : t.val = 0
    · rw [leaves16_start m c t hz, dkAt_start m c t hz, dgAt_start m c t hz, phi_zero m c _ _ hz, phi_any]
      iintro ⟨⟨⟨⟨%s0, HS0⟩, ⟨%s1, HS1⟩, ⟨%s2, HS2⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply (wp_start (I := stAt m c t.val t.isLt) (c := c) (M := bufs t) (grid0.coords t) ((first_iff t).2 h0) ((start_iff t).2 hz) (fun h => h1 ((last_iff t).1 h))
        (dhc := iblk m c 0 t) (dhn := iblk m c 1 t) (hm := iblk m c 2 t) (g := iblk m c 3 t) (xg := iblk m c 4 t) (xv := iblk m c 5 t) (cg := iblk m c 6 t) (cgn := iblk m c 7 t) (cv := iblk m c 8 t) (cvn := iblk m c 9 t) (kg := iblk m c 10 t) (kv := iblk m c 11 t) (wd := iblk m c 12 t) (wg := iblk m c 13 t) (wv := iblk m c 14 t)
        (by rw [hI]; rfl) (by rw [hI]; rfl) (by rw [hI]; rfl) (by rw [hI]; rfl) (by rw [hI]; rfl) (by rw [hI]; rfl) (by rw [hI]; rfl) (by rw [hI]; rfl) (by rw [hI]; rfl) (by rw [hI]; rfl) (by rw [hI]; rfl) (by rw [hI]; rfl) (by rw [hI]; rfl)) $$ [H0 H1 H2 H3 H4 H5 H6 H7 H8 H9 H10 H11 H12 H13 H14 H15 H16 H17 H18 HS0 HS1 HS2]
      · skip
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [HS0]; · iexact HS0
        isplitl [HS1]; · iexact HS1
        iexact HS2
      iintro ⟨H0, H1, H2, H3, H4, H5, H6, H7, H8, H9, H10, H11, H12, H13, H14, H15, H16, H17, H18, HS0, HS1, HS2⟩
      isplitl [HS0 HS1 HS2 Hg]
      · isplitl [HS0 HS1 HS2]
        · isplitl [HS0]; · iexact HS0
          isplitl [HS1]; · iexists _; iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists d15; iexact H15
      isplitl [H16]; · iexact H16
      isplitl [H17]; · iexact H17
      iexact H18
    · rw [Dat.leavesExact_idle (dats m 0 c) 16 t (idle16 t hz h1) (noFlush16 t h1), dkAt_next m c t hz, phi_pos m c _ _ hz]
      simp only [before18 m c t hz]
      iintro ⟨⟨⟨HS0, ⟨%s1, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply (wp_first (I := stAt m c t.val t.isLt) (c := c) (M := bufs t) (grid0.coords t) ((first_iff t).2 h0) (fun h => hz ((start_iff t).1 h)) (fun h => h1 ((last_iff t).1 h))
        (dhc := iblk m c 0 t) (dhn := iblk m c 1 t) (hm := iblk m c 2 t) (g := iblk m c 3 t) (xg := iblk m c 4 t) (xv := iblk m c 5 t) (cg := iblk m c 6 t) (cgn := iblk m c 7 t) (cv := iblk m c 8 t) (cvn := iblk m c 9 t) (kg := iblk m c 10 t) (kv := iblk m c 11 t) (wd := iblk m c 12 t) (wg := iblk m c 13 t) (wv := iblk m c 14 t)
        (by rw [hI]; rfl) (by rw [hI]; rfl) (by rw [hI]; rfl) (by rw [hI]; rfl) (by rw [hI]; rfl) (by rw [hI]; rfl) (by rw [hI]; rfl) (by rw [hI]; rfl) (by rw [hI]; rfl) (by rw [hI]; rfl) (by rw [hI]; rfl) (by rw [hI]; rfl) (by rw [hI]; rfl)) $$ [H0 H1 H2 H3 H4 H5 H6 H7 H8 H9 H10 H11 H12 H13 H14 H15 H16 H17 H18 HS0 HS1 HS2]
      · skip
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [HS0]; · iexact HS0
        isplitl [HS1]; · iexact HS1
        iexact HS2
      iintro ⟨H0, H1, H2, H3, H4, H5, H6, H7, H8, H9, H10, H11, H12, H13, H14, H15, H16, H17, H18, HS0, HS1, HS2⟩
      isplitl [HS0 HS1 HS2 Hg]
      · isplitl [HS0 HS1 HS2]
        · isplitl [HS0]; · iexact HS0
          isplitl [HS1]; · iexists _; iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists d15; iexact H15
      isplitl [H16]; · iexists d16; iexact H16
      isplitl [H17]; · iexact H17
      iexact H18
  · have hz : t.val ≠ 0 := fun h => h0 (by rw [h])
    have hI := stAt_next m c t h0
    rw [phi_pos m c _ _ hz, dkAt_next m c t hz]
    simp only [before18 m c t hz]
    rw [show (stAt m c (t.val - 1) (Nat.lt_of_le_of_lt (Nat.sub_le _ _) t.isLt)).dhe = (stAt m c t.val t.isLt).dhe from by rw [hI]; rfl,
      show accG (stAt m c (t.val - 1) (Nat.lt_of_le_of_lt (Nat.sub_le _ _) t.isLt)) = (stAt m c t.val t.isLt).acc from by rw [hI]; rfl]
    by_cases h1 : t.val % 11 = 10
    · rw [leaves15 m c t h1, leaves16_last m c t h1, dgAt_last m c t h1]
      simp only [before16 m c t hz]
      iintro ⟨⟨⟨HS0, ⟨%s1, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply (wp_last (I := stAt m c t.val t.isLt) (c := c) (M := bufs t) (grid0.coords t) (fun h => h0 ((first_iff t).1 h)) (fun h => hz ((start_iff t).1 h)) ((last_iff t).2 h1)
        (dhc := iblk m c 0 t) (dhn := iblk m c 1 t) (hm := iblk m c 2 t) (g := iblk m c 3 t) (xg := iblk m c 4 t) (xv := iblk m c 5 t) (cg := iblk m c 6 t) (cgn := iblk m c 7 t) (cv := iblk m c 8 t) (cvn := iblk m c 9 t) (kg := iblk m c 10 t) (kv := iblk m c 11 t) (wd := iblk m c 12 t) (wg := iblk m c 13 t) (wv := iblk m c 14 t)
        (by rw [hI]; rfl) (by rw [hI]; rfl) (by rw [hI]; rfl) (by rw [hI]; rfl) (by rw [hI]; rfl) (by rw [hI]; rfl) (by rw [hI]; rfl) (by rw [hI]; rfl) (by rw [hI]; rfl) (by rw [hI]; rfl) (by rw [hI]; rfl)) $$ [H0 H1 H2 H3 H4 H5 H6 H7 H8 H9 H10 H11 H12 H13 H14 H15 H16 H17 H18 HS0 HS1 HS2]
      · skip
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [HS0]; · iexact HS0
        isplitl [HS1]; · iexact HS1
        iexact HS2
      iintro ⟨H0, H1, H2, H3, H4, H5, H6, H7, H8, H9, H10, H11, H12, H13, H14, H15, H16, H17, H18, HS0, HS1, HS2⟩
      isplitl [HS0 HS1 HS2 Hg]
      · isplitl [HS0 HS1 HS2]
        · isplitl [HS0]; · iexact HS0
          isplitl [HS1]; · iexists _; iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [H17]; · iexact H17
      iexact H18
    · rw [Dat.leavesExact_idle (dats m 0 c) 15 t (idle15 t h1) (noFlush15 t h1), Dat.leavesExact_idle (dats m 0 c) 16 t (idle16 t hz h1) (noFlush16 t h1)]
      iintro ⟨⟨⟨HS0, ⟨%s1, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
      iapply (wp_inner (I := stAt m c t.val t.isLt) (c := c) (M := bufs t) (grid0.coords t) (fun h => h0 ((first_iff t).1 h)) (fun h => hz ((start_iff t).1 h)) (fun h => h1 ((last_iff t).1 h))
        (dhc := iblk m c 0 t) (dhn := iblk m c 1 t) (hm := iblk m c 2 t) (g := iblk m c 3 t) (xg := iblk m c 4 t) (xv := iblk m c 5 t) (cg := iblk m c 6 t) (cgn := iblk m c 7 t) (cv := iblk m c 8 t) (cvn := iblk m c 9 t) (kg := iblk m c 10 t) (kv := iblk m c 11 t) (wd := iblk m c 12 t) (wg := iblk m c 13 t) (wv := iblk m c 14 t)
        (by rw [hI]; rfl) (by rw [hI]; rfl) (by rw [hI]; rfl) (by rw [hI]; rfl) (by rw [hI]; rfl) (by rw [hI]; rfl) (by rw [hI]; rfl) (by rw [hI]; rfl) (by rw [hI]; rfl) (by rw [hI]; rfl) (by rw [hI]; rfl)) $$ [H0 H1 H2 H3 H4 H5 H6 H7 H8 H9 H10 H11 H12 H13 H14 H15 H16 H17 H18 HS0 HS1 HS2]
      · skip
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexact H16
        isplitl [H17]; · iexact H17
        isplitl [H18]; · iexact H18
        isplitl [HS0]; · iexact HS0
        isplitl [HS1]; · iexact HS1
        iexact HS2
      iintro ⟨H0, H1, H2, H3, H4, H5, H6, H7, H8, H9, H10, H11, H12, H13, H14, H15, H16, H17, H18, HS0, HS1, HS2⟩
      isplitl [HS0 HS1 HS2 Hg]
      · isplitl [HS0 HS1 HS2]
        · isplitl [HS0]; · iexact HS0
          isplitl [HS1]; · iexists _; iexact HS1
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists d15; iexact H15
      isplitl [H16]; · iexists d16; iexact H16
      isplitl [H17]; · iexact H17
      iexact H18

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = phi m c 0 (Nat.zero_le _) from rfl, phi_zero m c 0 _ rfl]

theorem hout (c : Dev nD) : (dats m 0 c).Φ (Fin.last cfg0.N) ⊢ Pipeline.ΦA spec0 c := by
  rw [show (dats m 0 c).Φ (Fin.last cfg0.N) = phi m c cfg0.N (Nat.le_refl _) from rfl,
    phi_pos m c _ _ (by have : cfg0.N = 99 := N_0; omega), phi_any]
  iintro ⟨⟨HS0, HS1, HS2⟩, Hg⟩
  isplitl [HS0 HS1 HS2]
  · isplitl [HS0]; · iexists _; iexact HS0
    isplitl [HS1]; · iexact HS1
    iexists _; iexact HS2
  iexact Hg

/-! ## The run -/

-- the launch's implicit arguments are found by unifying its conclusion with this one
set_option backward.isDefEq.respectTransparency.types false in
/-- The launch runs, and every counter is back at zero. -/
theorem run_counters : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_counters m ρ)

/-- The arguments end unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_counters m ρ))

end Cert.Kernel5Ideal.BackFfn

end
-- ==== Proof.FfnFrame.lean ====
/- The feed-forward call runs: what every buffer holds after every point, the body at every point, the launch. -/
module

public import proofs.«01_k».proof.Proof.FfnPoint
public import Idealize.ShloMosaic.Lib.Pipeline.TableIdle
public import Idealize.ShloMosaic.Lib.Claim

@[expose] public section

set_option maxRecDepth 16384

noncomputable section

namespace Cert.Kernel6Ideal.ForwardFfn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel6Ideal Cert.Kernel6Ideal.Gen Cert.Rows

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Where the first conditional holds. -/
theorem first_iff : ∀ t : Fin cfg0.N, k0_cond1 (grid0.coords t) = 1#1 ↔ t.val % 11 = 0 :=
  (fun t => by
    have ht : t.val < 99 := Nat.lt_of_lt_of_eq t.isLt N_0
    have e0 : (grid0.coords t 0).val = t.val / 11 % 9 := Pipeline.Grid.coords_val t 0 (by decide) rfl
    have e1 : (grid0.coords t 1).val = t.val / 1 % 11 := Pipeline.Grid.coords_val t 1 (by decide) rfl
    simp only [k0_cond1, e0, e1]
    word_cmp
   : ∀ t : Fin grid0.N, k0_cond1 (grid0.coords t) = 1#1 ↔ t.val % 11 = 0)

/-- Where the second does. -/
theorem last_iff : ∀ t : Fin cfg0.N, k0_cond2 (grid0.coords t) = 1#1 ↔ t.val % 11 = 10 :=
  (fun t => by
    have ht : t.val < 99 := Nat.lt_of_lt_of_eq t.isLt N_0
    have e0 : (grid0.coords t 0).val = t.val / 11 % 9 := Pipeline.Grid.coords_val t 0 (by decide) rfl
    have e1 : (grid0.coords t 1).val = t.val / 1 % 11 := Pipeline.Grid.coords_val t 1 (by decide) rfl
    simp only [k0_cond2, e0, e1]
    word_cmp
   : ∀ t : Fin grid0.N, k0_cond2 (grid0.coords t) = 1#1 ↔ t.val % 11 = 10)

/-! ## When the two results kept over a tile are written -/

theorem idle8 : ∀ t : Fin cfg0.N, ¬t.val % 11 = 10 → cfg0.idle 8 (grid0.coords t) = true := by decide +kernel
theorem noFlush8 : ∀ t : Fin cfg0.N, ¬t.val % 11 = 10 → (cfg0.win 8).flush t = false := by decide +kernel
theorem live8 : ∀ t : Fin cfg0.N, t.val % 11 = 10 → cfg0.idle 8 (grid0.coords t) = false := by decide +kernel
theorem live9 : ∀ t : Fin cfg0.N, t.val % 11 = 0 → cfg0.idle 9 (grid0.coords t) = false := by decide +kernel
theorem idle9 : ∀ t : Fin cfg0.N, ¬t.val % 11 = 0 → cfg0.idle 9 (grid0.coords t) = true := by decide +kernel
theorem noFlush9 : ∀ t : Fin cfg0.N, ¬t.val % 11 = 10 → (cfg0.win 9).flush t = false := by decide +kernel
theorem flush9 : ∀ t : Fin cfg0.N, t.val % 11 = 10 → (cfg0.win 9).flush t = true := by decide +kernel

/-- Whether the normalised tile's buffer holds nothing of the body's own at a position: only at a tile's first. -/
def freshAt (n : ℕ) : Bool := n % 11 == 0
theorem freshAt_step : ∀ t : Fin cfg0.N,
    freshAt (t.val + 1) = ((cfg0.win 9).flush t || (cfg0.idle 9 (cfg0.grid.coords t) && freshAt t.val)) := by decide +kernel
theorem notFresh9 (t : Fin cfg0.N) (h : ¬t.val % 11 = 0) : cfg0.fresh 9 t.val = false := by
  rw [Pipeline.Cfg.fresh_tab cfg0 9 freshAt rfl freshAt_step t.val (Nat.le_of_lt t.isLt)]
  exact beq_false_of_ne h

/-! ## The buffers at a point -/

abbrev ms0 (t : Fin cfg0.N) : Memref sig .tc .vmem S16x1024 .f32 := win0_0.stage (cfg0.slots t 0)
abbrev ms1 (t : Fin cfg0.N) : Memref sig .tc .vmem S912x1024 .f32 := win0_1.stage (cfg0.slots t 1)
abbrev ms2 (t : Fin cfg0.N) : Memref sig .tc .vmem S1x1024 .f32 := win0_2.stage (cfg0.slots t 2)
abbrev ms3 (t : Fin cfg0.N) : Memref sig .tc .vmem S256x1024 .bf16 := win0_3.stage (cfg0.slots t 3)
abbrev ms4 (t : Fin cfg0.N) : Memref sig .tc .vmem S256x1024 .bf16 := win0_4.stage (cfg0.slots t 4)
abbrev ms5 (t : Fin cfg0.N) : Memref sig .tc .vmem S3x256 .f32 := win0_5.stage (cfg0.slots t 5)
abbrev ms6 (t : Fin cfg0.N) : Memref sig .tc .vmem S3x256 .f32 := win0_6.stage (cfg0.slots t 6)
abbrev ms7 (t : Fin cfg0.N) : Memref sig .tc .vmem S256x1024 .bf16 := win0_7.stage (cfg0.slots t 7)
abbrev ms8 (t : Fin cfg0.N) : Memref sig .tc .vmem S912x1024 .f32 := win0_8.stage (cfg0.slots t 8)
abbrev ms9 (t : Fin cfg0.N) : Memref sig .tc .vmem S912x1024 .bf16 := win0_9.stage (cfg0.slots t 9)
abbrev ms10 (t : Fin cfg0.N) : Memref sig .tc .vmem S912x256 .bf16 := win0_10.stage (cfg0.slots t 10)
abbrev ms11 (t : Fin cfg0.N) : Memref sig .tc .vmem S2x912x256 .bf16 := win0_11.stage (cfg0.slots t 11)
abbrev ms12 (t : Fin cfg0.N) : Memref sig .tc .vmem S2x912x256 .bf16 := win0_12.stage (cfg0.slots t 12)
abbrev sc0 : Memref sig .tc .vmem S16x1024 .bf16 := Memref.whole cc0_scratch0
abbrev sc1 : Memref sig .tc .vmem S2x8x256 .f32 := Memref.whole cc0_scratch1
abbrev sc2 : Memref sig .tc .vmem S2x912x256 .f32 := Memref.whole cc0_scratch2
abbrev sc3 : Memref sig .tc .vmem S912x1024 .f32 := Memref.whole cc0_scratch3

/-- The buffers the body is called with. -/
def bufs (t : Fin cfg0.N) : Bufs where
  hp := ms0 t
  hhp := hstage0_0 ((cfg0.slots t 0).cast nbuf0_0)
  hc := ms1 t
  hhc := hstage0_1 ((cfg0.slots t 1).cast nbuf0_1)
  g := ms2 t
  hg := hstage0_2 ((cfg0.slots t 2).cast nbuf0_2)
  wg := ms3 t
  hwg := hstage0_3 ((cfg0.slots t 3).cast nbuf0_3)
  wv := ms4 t
  hwv := hstage0_4 ((cfg0.slots t 4).cast nbuf0_4)
  kg := ms5 t
  hkg := hstage0_5 ((cfg0.slots t 5).cast nbuf0_5)
  kv := ms6 t
  hkv := hstage0_6 ((cfg0.slots t 6).cast nbuf0_6)
  wd := ms7 t
  hwd := hstage0_7 ((cfg0.slots t 7).cast nbuf0_7)
  out := ms8 t
  hout := hstage0_8 ((cfg0.slots t 8).cast nbuf0_8)
  hn := ms9 t
  hhn := hstage0_9 ((cfg0.slots t 9).cast nbuf0_9)
  act := ms10 t
  hact := hstage0_10 ((cfg0.slots t 10).cast nbuf0_10)
  ux := ms11 t
  hux := hstage0_11 ((cfg0.slots t 11).cast nbuf0_11)
  uc := ms12 t
  huc := hstage0_12 ((cfg0.slots t 12).cast nbuf0_12)
  hal := sc0
  hhal := Memref.isWhole_whole _
  uh := sc1
  huh := Memref.isWhole_whole _
  ug := sc2
  hug := Memref.isWhole_whole _
  acc := sc3
  hacc := Memref.isWhole_whole _

theorem bodyAt_eq (t : Fin cfg0.N) : bodyAt0 (F := F) t = body (grid0.coords t) (bufs t) := body_eq (grid0.coords t) (bufs t)

/-- The scratch and the generator, at anything. -/
theorem phi_any (c : Dev nD) :
    (Pipeline.ΦA spec0 c : sProp 𝕄)
      = iprop(iprop((∃ d, owns (c : Thread nD τ) sc0 fullShare d) ∗ (∃ d, owns (c : Thread nD τ) sc1 fullShare d)
          ∗ (∃ d, owns (c : Thread nD τ) sc2 fullShare d) ∗ (∃ d, owns (c : Thread nD τ) sc3 fullShare d)) ∗ (∃ r, prngReg c r)) := by
  unfold Pipeline.ΦA; rw [scopedRest0_eq]; simp only [sc0, sc1, sc2, sc3, owns_whole]; rfl

/-! ## What the buffers hold -/

/-- What the middle of the body works on at a point: the point's blocks, over what is carried. -/
def inAt (c : Dev nD) (t : Fin cfg0.N) (hn : Vec F S912x1024 .bf16) (hal : Vec F S16x1024 .bf16) (acc : Vec F S912x1024 .f32) : In F :=
  ⟨hn, hal, iblk m c 3 t, iblk m c 4 t, iblk m c 7 t, tapsOf (iblk m c 5 t) (iblk m c 6 t), acc⟩

/-- At a tile's first point, -/
def openAt (c : Dev nD) (t : Fin cfg0.N) : In F :=
  inAt m c t (hnPay (iblk m c 2 t) (iblk m c 1 t)) (halPay (grid0.coords t) (iblk m c 2 t) (iblk m c 0 t)) zeroPay

/-- and at every point. -/
def stAt (c : Dev nD) : (n : ℕ) → n < cfg0.N → In F
  | 0, h => openAt m c ⟨0, h⟩
  | n + 1, h => if (n + 1) % 11 = 0 then openAt m c ⟨n + 1, h⟩ else
    inAt m c ⟨n + 1, h⟩ (stAt c n (Nat.lt_of_succ_lt h)).hn (stAt c n (Nat.lt_of_succ_lt h)).hal (accG (stAt c n (Nat.lt_of_succ_lt h)))

theorem stAt_open (c : Dev nD) (t : Fin cfg0.N) (h : t.val % 11 = 0) : stAt m c t.val t.isLt = openAt m c t := by
  obtain ⟨n, hn⟩ := t
  cases n with
  | zero => rfl
  | succ n => exact if_pos h

theorem stAt_next (c : Dev nD) (t : Fin cfg0.N) (h : ¬t.val % 11 = 0) : stAt m c t.val t.isLt
    = inAt m c t (stAt m c (t.val - 1) (Nat.lt_of_le_of_lt (Nat.sub_le _ _) t.isLt)).hn
        (stAt m c (t.val - 1) (Nat.lt_of_le_of_lt (Nat.sub_le _ _) t.isLt)).hal
        (accG (stAt m c (t.val - 1) (Nat.lt_of_le_of_lt (Nat.sub_le _ _) t.isLt))) := by
  obtain ⟨n, hn⟩ := t
  cases n with
  | zero => exact absurd (Nat.zero_mod _) h
  | succ n => exact if_neg h

/-- The scratch between points: the rows above the tile and the accumulator are carried. -/
def phi (c : Dev nD) : (n : ℕ) → n ≤ cfg0.N → sProp 𝕄
  | 0, _ => Pipeline.ΦA spec0 c
  | n + 1, hn => iprop(iprop(owns (c : Thread nD τ) sc0 fullShare (stAt m c n hn).hal ∗ (∃ d, owns (c : Thread nD τ) sc1 fullShare d)
      ∗ (∃ d, owns (c : Thread nD τ) sc2 fullShare d) ∗ owns (c : Thread nD τ) sc3 fullShare (accG (stAt m c n hn))) ∗ (∃ r, prngReg c r))

theorem phi_zero (c : Dev nD) (n : ℕ) (h : n ≤ cfg0.N) (hz : n = 0) : phi m c n h = Pipeline.ΦA spec0 c := by subst hz; rfl

theorem phi_succ (c : Dev nD) (n : ℕ) (hn : n < cfg0.N) : phi m c (n + 1) hn
    = iprop(iprop(owns (c : Thread nD τ) sc0 fullShare (stAt m c n hn).hal ∗ (∃ d, owns (c : Thread nD τ) sc1 fullShare d)
      ∗ (∃ d, owns (c : Thread nD τ) sc2 fullShare d) ∗ owns (c : Thread nD τ) sc3 fullShare (accG (stAt m c n hn))) ∗ (∃ r, prngReg c r)) := rfl

theorem phi_pos (c : Dev nD) (n : ℕ) (h : n ≤ cfg0.N) (hz : n ≠ 0) : phi m c n h
    = iprop(iprop(owns (c : Thread nD τ) sc0 fullShare (stAt m c (n - 1) (by omega)).hal ∗ (∃ d, owns (c : Thread nD τ) sc1 fullShare d)
      ∗ (∃ d, owns (c : Thread nD τ) sc2 fullShare d) ∗ owns (c : Thread nD τ) sc3 fullShare (accG (stAt m c (n - 1) (by omega)))) ∗ (∃ r, prngReg c r)) := by
  cases n with
  | zero => exact absurd rfl hz
  | succ n => rfl

/-- The proof data of the pipeline. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => closePay (accG (stAt m c t.val t.isLt)) (iblk m c 1 t)
    | ⟨9, _⟩ => (stAt m c t.val t.isLt).hn
    | ⟨10, _⟩ => actG (stAt m c t.val t.isLt)
    | ⟨11, _⟩ => uxG (stAt m c t.val t.isLt)
    | ⟨12, _⟩ => ucG (stAt m c t.val t.isLt)
  Φ t := phi m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem phi_castSucc (c : Dev nD) (t : Fin cfg0.N) : (dats m 0 c).Φ t.castSucc = phi m c t.val (Nat.le_of_lt t.isLt) := by
  dsimp only [dats]; exact Pipeline.Dat.Φ_castSucc (phi m c) t

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = closePay (accG (stAt m c t.val t.isLt)) (iblk m c 1 t) := by dsimp only [dats]
theorem after9 (c : Dev nD) (t : Fin cfg0.N) : (dats m 0 c).after 9 t = (stAt m c t.val t.isLt).hn := by dsimp only [dats]
theorem after10 (c : Dev nD) (t : Fin cfg0.N) : (dats m 0 c).after 10 t = actG (stAt m c t.val t.isLt) := by dsimp only [dats]
theorem after11 (c : Dev nD) (t : Fin cfg0.N) : (dats m 0 c).after 11 t = uxG (stAt m c t.val t.isLt) := by dsimp only [dats]
theorem after12 (c : Dev nD) (t : Fin cfg0.N) : (dats m 0 c).after 12 t = ucG (stAt m c t.val t.isLt) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
theorem before6 (c : Dev nD) (t : Fin cfg0.N) (d) : (dats m 0 c).before 6 t d = iblk m c 6 t :=
  before0_6_of m (dats m 0 c) (A_eq m c 6) (after6 m c) t d
theorem before7 (c : Dev nD) (t : Fin cfg0.N) (d) : (dats m 0 c).before 7 t d = iblk m c 7 t :=
  before0_7_of m (dats m 0 c) (A_eq m c 7) (after7 m c) t d

/-- The normalised tile stays in its buffer over the tile's points. -/
theorem carry9 (c : Dev nD) : ∀ (t : Fin cfg0.N) (_ : t.val ≠ 0), cfg0.idle 9 (grid0.coords t) = true → cfg0.fresh 9 t.val = false →
    (dats m 0 c).after 9 t = (dats m 0 c).after 9 ⟨t.val - 1, by omega⟩ := by
  intro t _ hi _
  rw [after9, after9]
  by_cases h0 : t.val % 11 = 0
  · rw [live9 t h0] at hi
    exact absurd hi Bool.false_ne_true
  · rw [stAt_next m c t h0]
    rfl

theorem before9 (c : Dev nD) (t : Fin cfg0.N) (h0 : ¬t.val % 11 = 0) (d) :
    (dats m 0 c).before 9 t d = (stAt m c (t.val - 1) (Nat.lt_of_le_of_lt (Nat.sub_le _ _) t.isLt)).hn := by
  rw [Dat.before_out_traj _ 9 rfl (fun _ _ => rfl) (carry9 m c) t.val t rfl d,
    if_neg (by rw [notFresh9 t h0]; exact Bool.false_ne_true)]
  dsimp only [dats]

/-! ## The body at every point -/

/-- What the body is called with, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d))
    ∗ (∃ d, owns (c : Thread nD τ) (ms9 t) fullShare ((dats m 0 c).before 9 t d))
    ∗ (∃ d, owns (c : Thread nD τ) (ms10 t) fullShare ((dats m 0 c).before 10 t d))
    ∗ (∃ d, owns (c : Thread nD τ) (ms11 t) fullShare ((dats m 0 c).before 11 t d))
    ∗ (∃ d, owns (c : Thread nD τ) (ms12 t) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t)

theorem leaves0 (c : Dev nD) (t : Fin cfg0.N) : (dats m 0 c).leavesExact 0 t = owns (c : Thread nD τ) (ms0 t) fullShare (iblk m c 0 t) := by
  unfold Dat.leavesExact; rw [show cfg0.idle 0 (grid0.coords t) = false from rfl, after0]
theorem leaves1 (c : Dev nD) (t : Fin cfg0.N) : (dats m 0 c).leavesExact 1 t = owns (c : Thread nD τ) (ms1 t) fullShare (iblk m c 1 t) := by
  unfold Dat.leavesExact; rw [show cfg0.idle 1 (grid0.coords t) = false from rfl, after1]
theorem leaves2 (c : Dev nD) (t : Fin cfg0.N) : (dats m 0 c).leavesExact 2 t = owns (c : Thread nD τ) (ms2 t) fullShare (iblk m c 2 t) := by
  unfold Dat.leavesExact; rw [show cfg0.idle 2 (grid0.coords t) = false from rfl, after2]
theorem leaves3 (c : Dev nD) (t : Fin cfg0.N) : (dats m 0 c).leavesExact 3 t = owns (c : Thread nD τ) (ms3 t) fullShare (iblk m c 3 t) := by
  unfold Dat.leavesExact; rw [show cfg0.idle 3 (grid0.coords t) = false from rfl, after3]
theorem leaves4 (c : Dev nD) (t : Fin cfg0.N) : (dats m 0 c).leavesExact 4 t = owns (c : Thread nD τ) (ms4 t) fullShare (iblk m c 4 t) := by
  unfold Dat.leavesExact; rw [show cfg0.idle 4 (grid0.coords t) = false from rfl, after4]
theorem leaves5 (c : Dev nD) (t : Fin cfg0.N) : (dats m 0 c).leavesExact 5 t = owns (c : Thread nD τ) (ms5 t) fullShare (iblk m c 5 t) := by
  unfold Dat.leavesExact; rw [show cfg0.idle 5 (grid0.coords t) = false from rfl, after5]
theorem leaves6 (c : Dev nD) (t : Fin cfg0.N) : (dats m 0 c).leavesExact 6 t = owns (c : Thread nD τ) (ms6 t) fullShare (iblk m c 6 t) := by
  unfold Dat.leavesExact; rw [show cfg0.idle 6 (grid0.coords t) = false from rfl, after6]
theorem leaves7 (c : Dev nD) (t : Fin cfg0.N) : (dats m 0 c).leavesExact 7 t = owns (c : Thread nD τ) (ms7 t) fullShare (iblk m c 7 t) := by
  unfold Dat.leavesExact; rw [show cfg0.idle 7 (grid0.coords t) = false from rfl, after7]
theorem leaves10 (c : Dev nD) (t : Fin cfg0.N) : (dats m 0 c).leavesExact 10 t = owns (c : Thread nD τ) (ms10 t) fullShare (actG (stAt m c t.val t.isLt)) := by
  unfold Dat.leavesExact; rw [show cfg0.idle 10 (grid0.coords t) = false from rfl, after10]
theorem leaves11 (c : Dev nD) (t : Fin cfg0.N) : (dats m 0 c).leavesExact 11 t = owns (c : Thread nD τ) (ms11 t) fullShare (uxG (stAt m c t.val t.isLt)) := by
  unfold Dat.leavesExact; rw [show cfg0.idle 11 (grid0.coords t) = false from rfl, after11]
theorem leaves12 (c : Dev nD) (t : Fin cfg0.N) : (dats m 0 c).leavesExact 12 t = owns (c : Thread nD τ) (ms12 t) fullShare (ucG (stAt m c t.val t.isLt)) := by
  unfold Dat.leavesExact; rw [show cfg0.idle 12 (grid0.coords t) = false from rfl, after12]
theorem leaves8 (c : Dev nD) (t : Fin cfg0.N) (h : t.val % 11 = 10) : (dats m 0 c).leavesExact 8 t = owns (c : Thread nD τ) (ms8 t) fullShare (closePay (accG (stAt m c t.val t.isLt)) (iblk m c 1 t)) := by
  unfold Dat.leavesExact; rw [live8 t h, after8]
theorem leaves9_first (c : Dev nD) (t : Fin cfg0.N) (h : t.val % 11 = 0) : (dats m 0 c).leavesExact 9 t = owns (c : Thread nD τ) (ms9 t) fullShare ((stAt m c t.val t.isLt).hn) := by
  unfold Dat.leavesExact; rw [live9 t h, after9]
theorem leaves9_last (c : Dev nD) (t : Fin cfg0.N) (h0 : ¬t.val % 11 = 0) (h : t.val % 11 = 10) : (dats m 0 c).leavesExact 9 t = owns (c : Thread nD τ) (ms9 t) fullShare ((stAt m c t.val t.isLt).hn) := by
  unfold Dat.leavesExact; rw [idle9 t h0, flush9 t h, after9]

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [bodyAt_eq]
  simp only [before0, before1, before2, before3, before4, before5, before6, before7]
  rw [leaves0, leaves1, leaves2, leaves3, leaves4, leaves5, leaves6, leaves7, leaves10, leaves11, leaves12]
  rw [show (dats m 0 c).owesAt () t.succ = (dats m 0 c).owesAt () t.castSucc from rfl,
    show (dats m 0 c).Φ t.succ = phi m c (t.val + 1) t.isLt from rfl, phi_succ, phi_castSucc m c t]
  by_cases h0 : t.val % 11 = 0
  · have h1 : ¬t.val % 11 = 10 := by omega
    have hI := stAt_open m c t h0
    rw [Dat.leavesExact_idle (dats m 0 c) 8 t (idle8 t h1) (noFlush8 t h1), leaves9_first m c t h0]
    by_cases hz : t.val = 0
    · rw [phi_zero m c _ _ hz, phi_any]
      iintro ⟨⟨⟨⟨%s0, HS0⟩, ⟨%s1, HS1⟩, ⟨%s2, HS2⟩, ⟨%s3, HS3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (wp_first (I := stAt m c t.val t.isLt) (c := c) (M := bufs t) (grid0.coords t) ((first_iff t).2 h0) (fun h => h1 ((last_iff t).1 h)) (hp := iblk m c 0 t) (hc := iblk m c 1 t) (g := iblk m c 2 t) (wg := iblk m c 3 t) (wv := iblk m c 4 t) (kg := iblk m c 5 t) (kv := iblk m c 6 t) (wd := iblk m c 7 t) (by rw [hI]; rfl) (by rw [hI]; rfl) (by rw [hI]; rfl) (by rw [hI]; rfl) (by rw [hI]; rfl) (by rw [hI]; rfl) (by rw [hI]; rfl)) $$ [H0 H1 H2 H3 H4 H5 H6 H7 H8 H9 H10 H11 H12 HS0 HS1 HS2 HS3]
      · skip
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [HS0]; · iexact HS0
        isplitl [HS1]; · iexact HS1
        isplitl [HS2]; · iexact HS2
        iexact HS3
      iintro ⟨H0, H1, H2, H3, H4, H5, H6, H7, H8, H9, H10, H11, H12, HS0, HS1, HS2, HS3⟩
      isplitl [HS0 HS1 HS2 HS3 Hg]
      · isplitl [HS0 HS1 HS2 HS3]
        · isplitl [HS0]; · iexact HS0
          isplitl [HS1]; · iexists _; iexact HS1
          isplitl [HS2]; · iexists _; iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists d8; iexact H8
      isplitl [H9]; · iexact H9
      isplitl [H10]; · iexact H10
      isplitl [H11]; · iexact H11
      iexact H12
    · rw [phi_pos m c _ _ hz]
      iintro ⟨⟨⟨HS0, ⟨%s1, HS1⟩, ⟨%s2, HS2⟩, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (wp_first (I := stAt m c t.val t.isLt) (c := c) (M := bufs t) (grid0.coords t) ((first_iff t).2 h0) (fun h => h1 ((last_iff t).1 h)) (hp := iblk m c 0 t) (hc := iblk m c 1 t) (g := iblk m c 2 t) (wg := iblk m c 3 t) (wv := iblk m c 4 t) (kg := iblk m c 5 t) (kv := iblk m c 6 t) (wd := iblk m c 7 t) (by rw [hI]; rfl) (by rw [hI]; rfl) (by rw [hI]; rfl) (by rw [hI]; rfl) (by rw [hI]; rfl) (by rw [hI]; rfl) (by rw [hI]; rfl)) $$ [H0 H1 H2 H3 H4 H5 H6 H7 H8 H9 H10 H11 H12 HS0 HS1 HS2 HS3]
      · skip
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [HS0]; · iexact HS0
        isplitl [HS1]; · iexact HS1
        isplitl [HS2]; · iexact HS2
        iexact HS3
      iintro ⟨H0, H1, H2, H3, H4, H5, H6, H7, H8, H9, H10, H11, H12, HS0, HS1, HS2, HS3⟩
      isplitl [HS0 HS1 HS2 HS3 Hg]
      · isplitl [HS0 HS1 HS2 HS3]
        · isplitl [HS0]; · iexact HS0
          isplitl [HS1]; · iexists _; iexact HS1
          isplitl [HS2]; · iexists _; iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists d8; iexact H8
      isplitl [H9]; · iexact H9
      isplitl [H10]; · iexact H10
      isplitl [H11]; · iexact H11
      iexact H12
  · have hz : t.val ≠ 0 := fun h => h0 (by rw [h])
    have hI := stAt_next m c t h0
    rw [phi_pos m c _ _ hz]
    simp only [before9 m c t h0]
    rw [show (stAt m c (t.val - 1) (Nat.lt_of_le_of_lt (Nat.sub_le _ _) t.isLt)).hn = (stAt m c t.val t.isLt).hn from by rw [hI]; rfl,
      show (stAt m c (t.val - 1) (Nat.lt_of_le_of_lt (Nat.sub_le _ _) t.isLt)).hal = (stAt m c t.val t.isLt).hal from by rw [hI]; rfl,
      show accG (stAt m c (t.val - 1) (Nat.lt_of_le_of_lt (Nat.sub_le _ _) t.isLt)) = (stAt m c t.val t.isLt).acc from by rw [hI]; rfl]
    by_cases h1 : t.val % 11 = 10
    · rw [leaves8 m c t h1, leaves9_last m c t h0 h1]
      iintro ⟨⟨⟨HS0, ⟨%s1, HS1⟩, ⟨%s2, HS2⟩, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (wp_last (I := stAt m c t.val t.isLt) (c := c) (M := bufs t) (grid0.coords t) (fun h => h0 ((first_iff t).1 h)) ((last_iff t).2 h1) (hp := iblk m c 0 t) (hc := iblk m c 1 t) (g := iblk m c 2 t) (wg := iblk m c 3 t) (wv := iblk m c 4 t) (kg := iblk m c 5 t) (kv := iblk m c 6 t) (wd := iblk m c 7 t) (by rw [hI]; rfl) (by rw [hI]; rfl) (by rw [hI]; rfl) (by rw [hI]; rfl)) $$ [H0 H1 H2 H3 H4 H5 H6 H7 H8 H9 H10 H11 H12 HS0 HS1 HS2 HS3]
      · skip
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [HS0]; · iexact HS0
        isplitl [HS1]; · iexact HS1
        isplitl [HS2]; · iexact HS2
        iexact HS3
      iintro ⟨H0, H1, H2, H3, H4, H5, H6, H7, H8, H9, H10, H11, H12, HS0, HS1, HS2, HS3⟩
      isplitl [HS0 HS1 HS2 HS3 Hg]
      · isplitl [HS0 HS1 HS2 HS3]
        · isplitl [HS0]; · iexact HS0
          isplitl [HS1]; · iexists _; iexact HS1
          isplitl [HS2]; · iexists _; iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      iexact H12
    · rw [Dat.leavesExact_idle (dats m 0 c) 8 t (idle8 t h1) (noFlush8 t h1), Dat.leavesExact_idle (dats m 0 c) 9 t (idle9 t h0) (noFlush9 t h1)]
      simp only [before9 m c t h0]
      rw [show (stAt m c (t.val - 1) (Nat.lt_of_le_of_lt (Nat.sub_le _ _) t.isLt)).hn = (stAt m c t.val t.isLt).hn from by rw [hI]; rfl]
      iintro ⟨⟨⟨HS0, ⟨%s1, HS1⟩, ⟨%s2, HS2⟩, HS3⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
      iapply (wp_inner (I := stAt m c t.val t.isLt) (c := c) (M := bufs t) (grid0.coords t) (fun h => h0 ((first_iff t).1 h)) (fun h => h1 ((last_iff t).1 h)) (hp := iblk m c 0 t) (hc := iblk m c 1 t) (g := iblk m c 2 t) (wg := iblk m c 3 t) (wv := iblk m c 4 t) (kg := iblk m c 5 t) (kv := iblk m c 6 t) (wd := iblk m c 7 t) (by rw [hI]; rfl) (by rw [hI]; rfl) (by rw [hI]; rfl) (by rw [hI]; rfl)) $$ [H0 H1 H2 H3 H4 H5 H6 H7 H8 H9 H10 H11 H12 HS0 HS1 HS2 HS3]
      · skip
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [HS0]; · iexact HS0
        isplitl [HS1]; · iexact HS1
        isplitl [HS2]; · iexact HS2
        iexact HS3
      iintro ⟨H0, H1, H2, H3, H4, H5, H6, H7, H8, H9, H10, H11, H12, HS0, HS1, HS2, HS3⟩
      isplitl [HS0 HS1 HS2 HS3 Hg]
      · isplitl [HS0 HS1 HS2 HS3]
        · isplitl [HS0]; · iexact HS0
          isplitl [HS1]; · iexists _; iexact HS1
          isplitl [HS2]; · iexists _; iexact HS2
          iexact HS3
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists d8; iexact H8
      isplitl [H9]; · iexists d9; iexact H9
      isplitl [H10]; · iexact H10
      isplitl [H11]; · iexact H11
      iexact H12

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = phi m c 0 (Nat.zero_le _) from rfl, phi_zero m c 0 _ rfl]

theorem hout (c : Dev nD) : (dats m 0 c).Φ (Fin.last cfg0.N) ⊢ Pipeline.ΦA spec0 c := by
  rw [show (dats m 0 c).Φ (Fin.last cfg0.N) = phi m c cfg0.N (Nat.le_refl _) from rfl,
    phi_pos m c _ _ (by have : cfg0.N = 99 := N_0; omega), phi_any]
  iintro ⟨⟨HS0, HS1, HS2, HS3⟩, Hg⟩
  isplitl [HS0 HS1 HS2 HS3]
  · isplitl [HS0]; · iexists _; iexact HS0
    isplitl [HS1]; · iexact HS1
    isplitl [HS2]; · iexact HS2
    iexists _; iexact HS3
  iexact Hg

/-! ## The run -/

-- the launch's implicit arguments are found by unifying its conclusion with this one
set_option backward.isDefEq.respectTransparency.types false in
/-- The launch runs, and every counter is back at zero. -/
theorem run_counters : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_counters m ρ)

/-- The arguments end unchanged and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_counters m ρ))

end Cert.Kernel6Ideal.ForwardFfn

end
-- ==== Proof.FfnValue.lean ====
/- The feed-forward call's result arrays after the run, as functions of its argument arrays. -/
module

public import proofs.«01_k».proof.Proof.FfnTile
public import proofs.«01_k».proof.Proof.FfnFrame
public import Idealize.ShloMosaic.Lib.Pipeline.ReadBack

@[expose] public section

set_option maxRecDepth 16384

noncomputable section

namespace Cert.Kernel6Ideal.ForwardFfn

open Idealize.ShloMosaic Idealize.ShloMosaic.TcCoe Idealize.SL.Sem
open Idealize.ShloMosaic.Pipeline (Dat)
open Cert.Kernel6Ideal Cert.Kernel6Ideal.Gen Cert.Rows

/-! ## The results as functions of the arrays -/

section
variable (a : Vec Ideal S8208x1024 .f32) (b : Vec Ideal S1x1024 .f32) (w : Vec Ideal S5632x1024 .bf16) (k : Vec Ideal S3x5632 .f32)
  (d : Vec Ideal S2816x1024 .bf16)

/-- The normalised rows. -/
def N : Vec Ideal S8208x1024 .bf16 := fun i => (a i * rr (n := 8208) a (i 0) * b (ix2 0 (i 1)) : EReal)
/-- Their up-projection, -/
def U (r : Fin 8208) (q : Fin 5632) : EReal := ∑ e : Fin 1024, (N a b (ix2 r e) * w (ix2 q e) : EReal)
/-- two rows of zeros put above it, -/
def Z (r : ℕ) (hr : r < 8210) (q : Fin 5632) : EReal := if h2 : r < 2 then 0 else U a b w ⟨r - 2, by omega⟩ q
/-- convolved with three taps along the rows, -/
def CV (r : Fin 8208) (q : Fin 5632) : EReal :=
  Z a b w r.val (by omega) q * k (ix2 0 q) + Z a b w (r.val + 1) (by omega) q * k (ix2 1 q) + Z a b w (r.val + 2) (by omega) q * k (ix2 2 q)
/-- gated, -/
def AC (r : Fin 8208) (q : Fin 2816) : EReal :=
  CV a b w k r ⟨q.val, by omega⟩ * Ideal.logistic (CV a b w k r ⟨q.val, by omega⟩) * CV a b w k r ⟨2816 + q.val, by omega⟩
/-- projected down and added to the rows. -/
def OUT : Vec Ideal S8208x1024 .f32 := fun i => (a i + ∑ q : Fin 2816, AC a b w k (i 0) q * d (ix2 q (i 1)) : EReal)
/-- The gated activation, as an array. -/
def ACT : Vec Ideal S8208x2816 .bf16 := fun i => AC a b w k (i 0) (i 1)
/-- A column of one of the two halves. -/
def col (h : Fin 2) (q : Fin 2816) : Fin 5632 := ⟨2816 * h.val + q.val, by omega⟩
/-- The up-projection's two halves, as an array. -/
def UX : Vec Ideal S2x8208x2816 .bf16 := fun i => U a b w (i 1) (col (i 0) (i 2))
/-- The convolution's. -/
def UC : Vec Ideal S2x8208x2816 .bf16 := fun i => CV a b w k (i 1) (col (i 0) (i 2))
end

/-! ## The blocks -/

variable (m : (ℓ : Loc nD τ sig) → Buf (Elt Ideal) ℓ)

theorem idx0 : ∀ t : Fin grid0.N, win0_0.index t = ![57 * (t.val / 11) - 1, 0] := by decide +kernel
theorem idx1 : ∀ t : Fin grid0.N, win0_1.index t = ![t.val / 11, 0] := by decide +kernel
theorem idx2 : ∀ t : Fin grid0.N, win0_2.index t = ![0, 0] := by decide +kernel
theorem idx3 : ∀ t : Fin grid0.N, win0_3.index t = ![t.val % 11, 0] := by decide +kernel
theorem idx4 : ∀ t : Fin grid0.N, win0_4.index t = ![t.val % 11 + 11, 0] := by decide +kernel
theorem idx5 : ∀ t : Fin grid0.N, win0_5.index t = ![0, t.val % 11] := by decide +kernel
theorem idx6 : ∀ t : Fin grid0.N, win0_6.index t = ![0, t.val % 11 + 11] := by decide +kernel
theorem idx7 : ∀ t : Fin grid0.N, win0_7.index t = ![t.val % 11, 0] := by decide +kernel
theorem idx8 : ∀ t : Fin grid0.N, win0_8.index t = ![t.val / 11, 0] := by decide +kernel
theorem idx9 : ∀ t : Fin grid0.N, win0_9.index t = ![t.val / 11, 0] := by decide +kernel
theorem idx10 : ∀ t : Fin grid0.N, win0_10.index t = ![t.val / 11, t.val % 11] := by decide +kernel
theorem idx11 : ∀ t : Fin grid0.N, win0_11.index t = ![0, t.val / 11, t.val % 11] := by decide +kernel
theorem idx12 : ∀ t : Fin grid0.N, win0_12.index t = ![0, t.val / 11, t.val % 11] := by decide +kernel

/-- The rows. -/
def A (c : Dev nD) : Vec Ideal S8208x1024 .f32 := m ((c : Thread nD τ).loc main_arg0)
/-- The scale. -/
def B (c : Dev nD) : Vec Ideal S1x1024 .f32 := m ((c : Thread nD τ).loc main_arg1)
/-- The up-projection's weight. -/
def C (c : Dev nD) : Vec Ideal S5632x1024 .bf16 := m ((c : Thread nD τ).loc main_arg2)
/-- The taps. -/
def D (c : Dev nD) : Vec Ideal S3x5632 .f32 := m ((c : Thread nD τ).loc main_arg3)
/-- The down-projection's weight. -/
def W (c : Dev nD) : Vec Ideal S2816x1024 .bf16 := m ((c : Thread nD τ).loc main_arg4)

theorem blk0 (c : Dev nD) (t : Fin cfg0.N) (y : S16x1024.Idx) (i : S8208x1024.Idx)
    (h0 : (i 0).val = (57 * (t.val / 11) - 1) * 16 + (y 0).val) (h1 : (i 1).val = (0) * 1024 + (y 1).val) :
    (iblk m c 0 t : Vec Ideal S16x1024 .f32) y = A m c i := by
  blk_simp [iblk]
  show A m c _ = A m c i
  congr 1
  funext a; apply Fin.ext
  match a with
  | ⟨0, _⟩ => show win0_0.index t (0 : Fin 2) * 16 + 1 * (y 0).val = (i 0).val; rw [idx0, h0]; simp
  | ⟨1, _⟩ => show win0_0.index t (1 : Fin 2) * 1024 + 1 * (y 1).val = (i 1).val; rw [idx0, h1]; simp

theorem blk1 (c : Dev nD) (t : Fin cfg0.N) (y : S912x1024.Idx) (i : S8208x1024.Idx)
    (h0 : (i 0).val = (t.val / 11) * 912 + (y 0).val) (h1 : (i 1).val = (0) * 1024 + (y 1).val) :
    (iblk m c 1 t : Vec Ideal S912x1024 .f32) y = A m c i := by
  blk_simp [iblk]
  show A m c _ = A m c i
  congr 1
  funext a; apply Fin.ext
  match a with
  | ⟨0, _⟩ => show win0_1.index t (0 : Fin 2) * 912 + 1 * (y 0).val = (i 0).val; rw [idx1, h0]; simp
  | ⟨1, _⟩ => show win0_1.index t (1 : Fin 2) * 1024 + 1 * (y 1).val = (i 1).val; rw [idx1, h1]; simp

theorem blk2 (c : Dev nD) (t : Fin cfg0.N) (y : S1x1024.Idx) (i : S1x1024.Idx)
    (h0 : (i 0).val = (0) * 1 + (y 0).val) (h1 : (i 1).val = (0) * 1024 + (y 1).val) :
    (iblk m c 2 t : Vec Ideal S1x1024 .f32) y = B m c i := by
  blk_simp [iblk]
  show B m c _ = B m c i
  congr 1
  funext a; apply Fin.ext
  match a with
  | ⟨0, _⟩ => show win0_2.index t (0 : Fin 2) * 1 + 1 * (y 0).val = (i 0).val; rw [idx2, h0]; simp
  | ⟨1, _⟩ => show win0_2.index t (1 : Fin 2) * 1024 + 1 * (y 1).val = (i 1).val; rw [idx2, h1]; simp

theorem blk3 (c : Dev nD) (t : Fin cfg0.N) (y : S256x1024.Idx) (i : S5632x1024.Idx)
    (h0 : (i 0).val = (t.val % 11) * 256 + (y 0).val) (h1 : (i 1).val = (0) * 1024 + (y 1).val) :
    (iblk m c 3 t : Vec Ideal S256x1024 .bf16) y = C m c i := by
  blk_simp [iblk]
  show C m c _ = C m c i
  congr 1
  funext a; apply Fin.ext
  match a with
  | ⟨0, _⟩ => show win0_3.index t (0 : Fin 2) * 256 + 1 * (y 0).val = (i 0).val; rw [idx3, h0]; simp
  | ⟨1, _⟩ => show win0_3.index t (1 : Fin 2) * 1024 + 1 * (y 1).val = (i 1).val; rw [idx3, h1]; simp

theorem blk4 (c : Dev nD) (t : Fin cfg0.N) (y : S256x1024.Idx) (i : S5632x1024.Idx)
    (h0 : (i 0).val = (t.val % 11 + 11) * 256 + (y 0).val) (h1 : (i 1).val = (0) * 1024 + (y 1).val) :
    (iblk m c 4 t : Vec Ideal S256x1024 .bf16) y = C m c i := by
  blk_simp [iblk]
  show C m c _ = C m c i
  congr 1
  funext a; apply Fin.ext
  match a with
  | ⟨0, _⟩ => show win0_4.index t (0 : Fin 2) * 256 + 1 * (y 0).val = (i 0).val; rw [idx4, h0]; simp
  | ⟨1, _⟩ => show win0_4.index t (1 : Fin 2) * 1024 + 1 * (y 1).val = (i 1).val; rw [idx4, h1]; simp

theorem blk5 (c : Dev nD) (t : Fin cfg0.N) (y : S3x256.Idx) (i : S3x5632.Idx)
    (h0 : (i 0).val = (0) * 3 + (y 0).val) (h1 : (i 1).val = (t.val % 11) * 256 + (y 1).val) :
    (iblk m c 5 t : Vec Ideal S3x256 .f32) y = D m c i := by
  blk_simp [iblk]
  show D m c _ = D m c i
  congr 1
  funext a; apply Fin.ext
  match a with
  | ⟨0, _⟩ => show win0_5.index t (0 : Fin 2) * 3 + 1 * (y 0).val = (i 0).val; rw [idx5, h0]; simp
  | ⟨1, _⟩ => show win0_5.index t (1 : Fin 2) * 256 + 1 * (y 1).val = (i 1).val; rw [idx5, h1]; simp

theorem blk6 (c : Dev nD) (t : Fin cfg0.N) (y : S3x256.Idx) (i : S3x5632.Idx)
    (h0 : (i 0).val = (0) * 3 + (y 0).val) (h1 : (i 1).val = (t.val % 11 + 11) * 256 + (y 1).val) :
    (iblk m c 6 t : Vec Ideal S3x256 .f32) y = D m c i := by
  blk_simp [iblk]
  show D m c _ = D m c i
  congr 1
  funext a; apply Fin.ext
  match a with
  | ⟨0, _⟩ => show win0_6.index t (0 : Fin 2) * 3 + 1 * (y 0).val = (i 0).val; rw [idx6, h0]; simp
  | ⟨1, _⟩ => show win0_6.index t (1 : Fin 2) * 256 + 1 * (y 1).val = (i 1).val; rw [idx6, h1]; simp

theorem blk7 (c : Dev nD) (t : Fin cfg0.N) (y : S256x1024.Idx) (i : S2816x1024.Idx)
    (h0 : (i 0).val = (t.val % 11) * 256 + (y 0).val) (h1 : (i 1).val = (0) * 1024 + (y 1).val) :
    (iblk m c 7 t : Vec Ideal S256x1024 .bf16) y = W m c i := by
  blk_simp [iblk]
  show W m c _ = W m c i
  congr 1
  funext a; apply Fin.ext
  match a with
  | ⟨0, _⟩ => show win0_7.index t (0 : Fin 2) * 256 + 1 * (y 0).val = (i 0).val; rw [idx7, h0]; simp
  | ⟨1, _⟩ => show win0_7.index t (1 : Fin 2) * 1024 + 1 * (y 1).val = (i 1).val; rw [idx7, h1]; simp

theorem lt_N {n : ℕ} (h : n < cfg0.N) : n < 99 := Nat.lt_of_lt_of_eq h N_0

/-- A row of a block is a row of the array, and so is its mean square. -/
theorem rr_eq {n : ℕ} (x : (⟨2, ![n, 1024]⟩ : Shape).Idx → EReal) (z : (⟨2, ![8208, 1024]⟩ : Shape).Idx → EReal) (p : Fin n) (r : Fin 8208)
    (h : ∀ e : Fin 1024, x (ix2 p e) = z (ix2 r e)) : rr x p = rr z r := by
  unfold rr
  rw [Finset.sum_congr rfl fun e _ => by rw [h e]]

/-- The normalised tile is the normalised rows' block. -/
theorem hn_blk (c : Dev nD) (t : Fin cfg0.N) (p : Fin 912) (e : Fin 1024) (r : Fin 8208) (h : r.val = t.val / 11 * 912 + p.val) :
    hnPay (iblk m c 2 t) (iblk m c 1 t) (ix2 p e) = N (A m c) (B m c) (ix2 r e) := by
  have hb : ∀ e : Fin 1024, (iblk m c 1 t : Vec Ideal S912x1024 .f32) (ix2 p e) = A m c (ix2 r e) :=
    fun e => blk1 m c t _ _ h (by show e.val = 0 * 1024 + e.val; omega)
  rw [hnPay_apply]
  exact congrArg₂ (α := EReal) (β := EReal) (· * ·) (congrArg₂ (α := EReal) (β := EReal) (· * ·) (hb e) (rr_eq _ _ p r hb))
    (blk2 m c t _ (ix2 0 e) (by show 0 = 0 * 1 + 0; rfl) (by show e.val = 0 * 1024 + e.val; omega))

/-- The rows above it are the sixteen rows before, or zero. -/
theorem hal_blk (c : Dev nD) (t : Fin cfg0.N) (p : Fin 16) (e : Fin 1024) :
    halPay (grid0.coords t) (iblk m c 2 t) (iblk m c 0 t) (ix2 p e)
      = if h0 : t.val / 11 = 0 then (0 : EReal) else N (A m c) (B m c) (ix2 ⟨t.val / 11 * 912 - 16 + p.val, by have := lt_N t.isLt; omega⟩ e) := by
  have ht := lt_N t.isLt
  have e0 : (grid0.coords t 0).val = t.val / 11 := (Pipeline.Grid.coords_val t 0 (by decide) rfl : _ = t.val / 11 % 9).trans (by omega)
  rw [halPay_apply, e0]
  split_ifs with h0
  · rfl
  · have hb : ∀ e : Fin 1024, (iblk m c 0 t : Vec Ideal S16x1024 .f32) (ix2 p e) = A m c (ix2 ⟨t.val / 11 * 912 - 16 + p.val, by omega⟩ e) :=
      fun e => blk0 m c t _ _ (by show t.val / 11 * 912 - 16 + p.val = (57 * (t.val / 11) - 1) * 16 + p.val; omega) (by show e.val = 0 * 1024 + e.val; omega)
    exact congrArg₂ (α := EReal) (β := EReal) (· * ·) (congrArg₂ (α := EReal) (β := EReal) (· * ·) (hb e) (rr_eq _ _ p _ hb))
      (blk2 m c t _ (ix2 0 e) (by show 0 = 0 * 1 + 0; rfl) (by show e.val = 0 * 1024 + e.val; omega))

/-! ## What a point works on -/

theorem st_wg (c : Dev nD) (t : Fin cfg0.N) : (stAt m c t.val t.isLt).wg = iblk m c 3 t := by
  by_cases h : t.val % 11 = 0
  · rw [stAt_open m c t h]; rfl
  · rw [stAt_next m c t h]; rfl
theorem st_wv (c : Dev nD) (t : Fin cfg0.N) : (stAt m c t.val t.isLt).wv = iblk m c 4 t := by
  by_cases h : t.val % 11 = 0
  · rw [stAt_open m c t h]; rfl
  · rw [stAt_next m c t h]; rfl
theorem st_wd (c : Dev nD) (t : Fin cfg0.N) : (stAt m c t.val t.isLt).wd = iblk m c 7 t := by
  by_cases h : t.val % 11 = 0
  · rw [stAt_open m c t h]; rfl
  · rw [stAt_next m c t h]; rfl
theorem st_T (c : Dev nD) (t : Fin cfg0.N) : (stAt m c t.val t.isLt).T = tapsOf (iblk m c 5 t) (iblk m c 6 t) := by
  by_cases h : t.val % 11 = 0
  · rw [stAt_open m c t h]; rfl
  · rw [stAt_next m c t h]; rfl

/-- The normalised tile and the rows above it, over the tile's points. -/
theorem st_rows (c : Dev nD) : ∀ (n : ℕ) (hn : n < cfg0.N) (e : Fin 1024),
    (∀ (p : Fin 912) (r : Fin 8208), r.val = n / 11 * 912 + p.val → (stAt m c n hn).hn (ix2 p e) = N (A m c) (B m c) (ix2 r e))
    ∧ ∀ p : Fin 16, (stAt m c n hn).hal (ix2 p e)
      = if h0 : n / 11 = 0 then (0 : EReal) else N (A m c) (B m c) (ix2 ⟨n / 11 * 912 - 16 + p.val, by have := lt_N hn; omega⟩ e) := by
  intro n
  induction n with
  | zero => exact fun hn e => ⟨fun p r h => hn_blk m c ⟨0, hn⟩ p e r h, fun p => hal_blk m c ⟨0, hn⟩ p e⟩
  | succ n ih =>
    intro hn e
    by_cases h : (n + 1) % 11 = 0
    · rw [show stAt m c (n + 1) hn = openAt m c ⟨n + 1, hn⟩ from stAt_open m c ⟨n + 1, hn⟩ h]
      exact ⟨fun p r h => hn_blk m c ⟨n + 1, hn⟩ p e r h, fun p => hal_blk m c ⟨n + 1, hn⟩ p e⟩
    · have hd : (n + 1) / 11 = n / 11 := by omega
      have hi := ih (Nat.lt_of_succ_lt hn) e
      rw [show stAt m c (n + 1) hn = _ from stAt_next m c ⟨n + 1, hn⟩ h]
      simp only [hd]
      exact hi

/-- The column of a half a point's column is. -/
abbrev pcol (t : Fin cfg0.N) (h : Fin 2) (q : Fin 256) : Fin 5632 :=
  ⟨2816 * h.val + (t.val % 11 * 256 + q.val), by omega⟩
/-- The row a tile's row is. -/
abbrev prow (t : Fin cfg0.N) (p : Fin 912) : Fin 8208 := ⟨t.val / 11 * 912 + p.val, by have := lt_N t.isLt; omega⟩

theorem st_w (c : Dev nD) (t : Fin cfg0.N) (h : Fin 2) (q : Fin 256) (e : Fin 1024) :
    (stAt m c t.val t.isLt).w h.val (ix2 q e) = C m c (ix2 (pcol t h q) e) := by
  unfold In.w
  match h with
  | ⟨0, _⟩ => rw [if_pos rfl, st_wg]; exact blk3 m c t _ _ (by show 2816 * 0 + (t.val % 11 * 256 + q.val) = t.val % 11 * 256 + q.val; omega) (by show e.val = 0 * 1024 + e.val; omega)
  | ⟨1, _⟩ => rw [if_neg Nat.one_ne_zero, st_wv]; exact blk4 m c t _ _ (by show 2816 * 1 + (t.val % 11 * 256 + q.val) = (t.val % 11 + 11) * 256 + q.val; omega) (by show e.val = 0 * 1024 + e.val; omega)

theorem st_up (c : Dev nD) (t : Fin cfg0.N) (h : Fin 2) (p : Fin 912) (q : Fin 256) :
    up (stAt m c t.val t.isLt) h.val p q = U (A m c) (B m c) (C m c) (prow t p) (pcol t h q) := by
  unfold up U
  exact Finset.sum_congr (M := EReal) rfl fun e _ => congrArg₂ (α := EReal) (β := EReal) (· * ·)
    ((st_rows m c t.val t.isLt e).1 p (prow t p) rfl) (st_w m c t h q e)

theorem st_above (c : Dev nD) (t : Fin cfg0.N) (h : Fin 2) (p : Fin 16) (q : Fin 256) :
    above (stAt m c t.val t.isLt) h.val p q = if h0 : t.val / 11 = 0 then 0 else
      U (A m c) (B m c) (C m c) ⟨t.val / 11 * 912 - 16 + p.val, by have := lt_N t.isLt; omega⟩ (pcol t h q) := by
  unfold above
  rw [Finset.sum_congr (M := EReal) rfl fun e _ => congrArg₂ (α := EReal) (β := EReal) (· * ·)
    ((st_rows m c t.val t.isLt e).2 p) (st_w m c t h q e)]
  split_ifs with h0
  · simp only [zero_mul, Finset.sum_const_zero]
  · rfl

theorem U_congr (c : Dev nD) {r r' : Fin 8208} (q : Fin 5632) (h : r.val = r'.val) : U (A m c) (B m c) (C m c) r q = U (A m c) (B m c) (C m c) r' q := by
  rw [Fin.ext h]

theorem st_row (c : Dev nD) (t : Fin cfg0.N) (h : Fin 2) (r : ℕ) (hr : r < 914) (q : Fin 256) (r' : ℕ) (hr') (e : r' = t.val / 11 * 912 + r) :
    row (stAt m c t.val t.isLt) h.val r hr q = Z (A m c) (B m c) (C m c) r' hr' (pcol t h q) := by
  unfold row Z
  by_cases h2 : r < 2
  · rw [dif_pos h2, st_above]
    by_cases h0 : t.val / 11 = 0
    · rw [dif_pos h0, dif_pos (by omega)]
    · rw [dif_neg h0, dif_neg (by omega)]
      exact U_congr m c _ (by show t.val / 11 * 912 - 16 + (14 + r) = r' - 2; omega)
  · rw [dif_neg h2, st_up, dif_neg (by omega)]
    exact U_congr m c _ (by show t.val / 11 * 912 + (r - 2) = r' - 2; omega)

theorem st_kk (c : Dev nD) (t : Fin cfg0.N) (h : Fin 2) (n : Fin 3) (q : Fin 256) :
    kk (iblk m c 5 t) (iblk m c 6 t) h.val n q = D m c (ix2 n (pcol t h q)) := by
  unfold kk
  match h with
  | ⟨0, _⟩ => rw [if_pos rfl]; exact blk5 m c t _ _ (by show n.val = 0 * 3 + n.val; omega) (by show 2816 * 0 + (t.val % 11 * 256 + q.val) = t.val % 11 * 256 + q.val; omega)
  | ⟨1, _⟩ => rw [if_neg Nat.one_ne_zero]; exact blk6 m c t _ _ (by show n.val = 0 * 3 + n.val; omega) (by show 2816 * 1 + (t.val % 11 * 256 + q.val) = (t.val % 11 + 11) * 256 + q.val; omega)

theorem st_cr (c : Dev nD) (t : Fin cfg0.N) (h : Fin 2) (p : Fin 912) (q : Fin 256) :
    cr (stAt m c t.val t.isLt) (iblk m c 5 t) (iblk m c 6 t) h.val p q = CV (A m c) (B m c) (C m c) (D m c) (prow t p) (pcol t h q) := by
  unfold cr CV
  rw [st_kk, st_kk, st_kk, st_row m c t h _ _ q (prow t p).val (by omega) rfl,
    st_row m c t h _ _ q ((prow t p).val + 1) (by omega) rfl, st_row m c t h _ _ q ((prow t p).val + 2) (by omega) rfl]
  exact congrArg₂ (α := EReal) (β := EReal) (· + ·) (congrArg₂ (α := EReal) (β := EReal) (· + ·)
    (mul_comm (G := EReal) _ _) (mul_comm (G := EReal) _ _)) (mul_comm (G := EReal) _ _)

/-- A point's column of the activation. -/
abbrev acol (t : Fin cfg0.N) (q : Fin 256) : Fin 2816 := ⟨t.val % 11 * 256 + q.val, by omega⟩

theorem st_ar (c : Dev nD) (t : Fin cfg0.N) (p : Fin 912) (q : Fin 256) :
    ar (stAt m c t.val t.isLt) (iblk m c 5 t) (iblk m c 6 t) p q = AC (A m c) (B m c) (C m c) (D m c) (prow t p) (acol t q) := by
  unfold ar AC
  have e0 : pcol t 0 q = (⟨(acol t q).val, by omega⟩ : Fin 5632) := Fin.ext (by show 2816 * 0 + (t.val % 11 * 256 + q.val) = t.val % 11 * 256 + q.val; omega)
  have e1 : pcol t 1 q = (⟨2816 + (acol t q).val, by omega⟩ : Fin 5632) := Fin.ext (by show 2816 * 1 + (t.val % 11 * 256 + q.val) = 2816 + (t.val % 11 * 256 + q.val); omega)
  have c0 := st_cr m c t 0 p q
  have c1 := st_cr m c t 1 p q
  rw [e0] at c0
  rw [e1] at c1
  rw [show cr (stAt m c t.val t.isLt) (iblk m c 5 t) (iblk m c 6 t) 0 p q = _ from c0,
    show cr (stAt m c t.val t.isLt) (iblk m c 5 t) (iblk m c 6 t) 1 p q = _ from c1]

theorem st_wdv (c : Dev nD) (t : Fin cfg0.N) (q : Fin 256) (e : Fin 1024) : (stAt m c t.val t.isLt).wd (ix2 q e) = W m c (ix2 (acol t q) e) := by
  rw [st_wd]
  exact blk7 m c t _ _ rfl (by show e.val = 0 * 1024 + e.val; omega)

/-! ## The accumulator -/

/-- The part of the down-projection a column block contributes. -/
def part (c : Dev nD) (r : Fin 8208) (e : Fin 1024) (j : ℕ) : EReal := if hj : j < 11 then
  ∑ q : Fin 256, (AC (A m c) (B m c) (C m c) (D m c) r ⟨j * 256 + q.val, by omega⟩ * W m c (ix2 ⟨j * 256 + q.val, by omega⟩ e) : EReal) else 0

theorem acc_step (c : Dev nD) (t : Fin cfg0.N) (p : Fin 912) (e : Fin 1024) :
    accG (stAt m c t.val t.isLt) (ix2 p e) = ((stAt m c t.val t.isLt).acc (ix2 p e) + part m c (prow t p) e (t.val % 11) : EReal) := by
  refine (accG_apply _ _).trans (congrArg (fun z : EReal => (stAt m c t.val t.isLt).acc (ix2 p e) + z) ?_)
  unfold part
  rw [dif_pos (Nat.mod_lt _ (by decide))]
  exact Finset.sum_congr (M := EReal) rfl fun q _ => congrArg₂ (α := EReal) (β := EReal) (· * ·)
    ((actG_apply _ (st_T m c t) p q).trans (st_ar m c t p q)) (st_wdv m c t q e)

/-- The accumulator after a point: the parts of the column blocks so far. -/
theorem acc_after (c : Dev nD) (p : Fin 912) (e : Fin 1024) : ∀ (n : ℕ) (hn : n < cfg0.N) (r : Fin 8208), r.val = n / 11 * 912 + p.val →
    accG (stAt m c n hn) (ix2 p e) = (∑ j ∈ Finset.range (n % 11 + 1), part m c r e j : EReal) := by
  have hopen : ∀ (t : Fin cfg0.N) (r : Fin 8208), r.val = t.val / 11 * 912 + p.val → t.val % 11 = 0 →
      accG (stAt m c t.val t.isLt) (ix2 p e) = (∑ j ∈ Finset.range (t.val % 11 + 1), part m c r e j : EReal) := by
    intro t r hr h
    obtain rfl : r = prow t p := Fin.ext hr
    rw [acc_step, stAt_open m c t h, h]
    rw [show (openAt m c t).acc (ix2 p e) = (0 : EReal) from zeroPay_apply (ix2 p e)]
    simp only [Finset.sum_range_one, zero_add]
  intro n
  induction n with
  | zero => exact fun hn r hr => hopen ⟨0, hn⟩ r hr rfl
  | succ n ih =>
    intro hn r hr
    by_cases h : (n + 1) % 11 = 0
    · exact hopen ⟨n + 1, hn⟩ r hr h
    · obtain rfl : r = prow ⟨n + 1, hn⟩ p := Fin.ext hr
      rw [show accG (stAt m c (n + 1) hn) (ix2 p e) = _ from acc_step m c ⟨n + 1, hn⟩ p e]
      rw [show (stAt m c (n + 1) hn).acc (ix2 p e) = accG (stAt m c n (Nat.lt_of_succ_lt hn)) (ix2 p e) from by
        rw [show stAt m c (n + 1) hn = _ from stAt_next m c ⟨n + 1, hn⟩ h]; rfl]
      rw [ih (Nat.lt_of_succ_lt hn) (prow ⟨n + 1, hn⟩ p) (by show (n + 1) / 11 * 912 + p.val = n / 11 * 912 + p.val; omega)]
      rw [show (n + 1) % 11 = n % 11 + 1 from by omega]
      exact (Finset.sum_range_succ _ _).symm

theorem sum_parts (c : Dev nD) (r : Fin 8208) (e : Fin 1024) : (∑ j ∈ Finset.range 11, part m c r e j : EReal)
    = ∑ q : Fin 2816, (AC (A m c) (B m c) (C m c) (D m c) r q * W m c (ix2 q e) : EReal) := by
  rw [Finset.sum_range]
  refine (Finset.sum_congr (M := EReal) rfl fun j _ => dif_pos j.isLt).trans ?_
  exact Fin.sum_mul_add_congr (f := fun q : Fin 2816 => (AC (A m c) (B m c) (C m c) (D m c) r q * W m c (ix2 q e) : EReal)) fun _ _ _ => rfl

/-! ## The arrays -/

theorem arrN (c : Dev nD) : (dats m 0 c).arrAt 9 cfg0.N = N (A m c) (B m c) := by
  refine (dats m 0 c).arrAt_eq_of_covers 9 _ (by decide +kernel) fun t hf y => ?_
  blk_simp [idx9]
  rw [after9]
  have e0 : ((win0_9.blk t).view.emb y 0).val = win0_9.index t (0 : Fin 2) * 912 + 1 * (y 0).val := rfl
  have e1 : ((win0_9.blk t).view.emb y 1).val = win0_9.index t (1 : Fin 2) * 1024 + 1 * (y 1).val := rfl
  rw [idx9] at e0 e1
  replace e0 : ((win0_9.blk t).view.emb y 0).val = t.val / 11 * 912 + (y 0).val := by simpa using e0
  replace e1 : ((win0_9.blk t).view.emb y 1).val = (y 1).val := by simpa using e1
  exact ((congrArg (stAt m c t.val t.isLt).hn (ix2_of (n := 912) (k := 1024) y (y 0) (y 1) rfl rfl).symm).trans
    ((st_rows m c t.val t.isLt (y 1)).1 (y 0) ((win0_9.blk t).view.emb y 0) e0)).trans
    (congrArg (N (A m c) (B m c)) (ix2_of (n := 8208) (k := 1024) ((win0_9.blk t).view.emb y) ((win0_9.blk t).view.emb y 0) (y 1) rfl e1.symm))

theorem mod_of_flush8 : ∀ t : Fin cfg0.N, (cfg0.win 8).flush t = true → t.val % 11 = 10 := by decide +kernel

theorem arrOut (c : Dev nD) : (dats m 0 c).arrAt 8 cfg0.N = OUT (A m c) (B m c) (C m c) (D m c) (W m c) := by
  refine (dats m 0 c).arrAt_eq_of_covers 8 _ (by decide +kernel) fun t hf y => ?_
  blk_simp [idx8]
  rw [after8]
  have e0 : ((win0_8.blk t).view.emb y 0).val = win0_8.index t (0 : Fin 2) * 912 + 1 * (y 0).val := rfl
  have e1 : ((win0_8.blk t).view.emb y 1).val = win0_8.index t (1 : Fin 2) * 1024 + 1 * (y 1).val := rfl
  rw [idx8] at e0 e1
  replace e0 : ((win0_8.blk t).view.emb y 0).val = t.val / 11 * 912 + (y 0).val := by simpa using e0
  replace e1 : ((win0_8.blk t).view.emb y 1).val = (y 1).val := by simpa using e1
  have h10 := mod_of_flush8 t hf
  refine (closePay_apply _ _ _).trans ?_
  have ha := acc_after m c (y 0) (y 1) t.val t.isLt ((win0_8.blk t).view.emb y 0) e0
  rw [h10] at ha
  have ha' := ha.trans (sum_parts m c _ _)
  have hx : (iblk m c 1 t : Vec Ideal S912x1024 .f32) y = A m c ((win0_8.blk t).view.emb y) := blk1 m c t y _ e0 (by rw [e1]; omega)
  refine (congrArg₂ (α := EReal) (β := EReal) (· + ·) ((congrArg (accG (stAt m c t.val t.isLt)) (ix2_of (n := 912) (k := 1024) y (y 0) (y 1) rfl rfl).symm).trans ha') hx).trans ?_
  refine (add_comm (G := EReal) _ _).trans ?_
  have e1' : (y 1 : Fin 1024) = (win0_8.blk t).view.emb y 1 := Fin.ext e1.symm
  unfold OUT
  rw [← e1']

theorem arrAct (c : Dev nD) : (dats m 0 c).arrAt 10 cfg0.N = ACT (A m c) (B m c) (C m c) (D m c) := by
  refine (dats m 0 c).arrAt_eq_of_covers 10 _ (by decide +kernel) fun t hf y => ?_
  blk_simp [idx10]
  rw [after10]
  have e0 : ((win0_10.blk t).view.emb y 0).val = win0_10.index t (0 : Fin 2) * 912 + 1 * (y 0).val := rfl
  have e1 : ((win0_10.blk t).view.emb y 1).val = win0_10.index t (1 : Fin 2) * 256 + 1 * (y 1).val := rfl
  rw [idx10] at e0 e1
  replace e0 : ((win0_10.blk t).view.emb y 0).val = t.val / 11 * 912 + (y 0).val := by simpa using e0
  replace e1 : ((win0_10.blk t).view.emb y 1).val = t.val % 11 * 256 + (y 1).val := by simpa using e1
  refine (congrArg (actG (stAt m c t.val t.isLt)) (ix2_of (n := 912) (k := 256) y (y 0) (y 1) rfl rfl).symm).trans ?_
  refine (actG_apply _ (st_T m c t) (y 0) (y 1)).trans ((st_ar m c t (y 0) (y 1)).trans ?_)
  unfold ACT
  exact congrArg₂ (AC (A m c) (B m c) (C m c) (D m c)) (Fin.ext e0.symm) (Fin.ext e1.symm)

theorem arrUx (c : Dev nD) : (dats m 0 c).arrAt 11 cfg0.N = UX (A m c) (B m c) (C m c) := by
  refine (dats m 0 c).arrAt_eq_of_covers 11 _ (by decide +kernel) fun t hf y => ?_
  blk_simp [idx11]
  rw [after11]
  have e0 : ((win0_11.blk t).view.emb y 0).val = win0_11.index t (0 : Fin 3) * 2 + 1 * (y 0).val := rfl
  have e1 : ((win0_11.blk t).view.emb y 1).val = win0_11.index t (1 : Fin 3) * 912 + 1 * (y 1).val := rfl
  have e2 : ((win0_11.blk t).view.emb y 2).val = win0_11.index t (2 : Fin 3) * 256 + 1 * (y 2).val := rfl
  rw [idx11] at e0 e1 e2
  replace e0 : ((win0_11.blk t).view.emb y 0).val = (y 0).val := by simpa using e0
  replace e1 : ((win0_11.blk t).view.emb y 1).val = t.val / 11 * 912 + (y 1).val := by simpa using e1
  replace e2 : ((win0_11.blk t).view.emb y 2).val = t.val % 11 * 256 + (y 2).val := by simpa using e2
  have hy : ix3 (y 0) (y 1) (y 2) = y := by funext x; match x with
    | ⟨0, _⟩ => rfl
    | ⟨1, _⟩ => rfl
    | ⟨2, _⟩ => rfl
  refine (congrArg (uxG (stAt m c t.val t.isLt)) hy.symm).trans ((uxG_apply _ (y 0) (y 1) (y 2)).trans ((st_up m c t (y 0) (y 1) (y 2)).trans ?_))
  unfold UX col
  refine congrArg₂ (U (A m c) (B m c) (C m c)) (Fin.ext e1.symm) (Fin.ext ?_)
  show 2816 * (y 0).val + (t.val % 11 * 256 + (y 2).val) = 2816 * ((win0_11.blk t).view.emb y 0).val + ((win0_11.blk t).view.emb y 2).val
  rw [e0, e2]

theorem arrUc (c : Dev nD) : (dats m 0 c).arrAt 12 cfg0.N = UC (A m c) (B m c) (C m c) (D m c) := by
  refine (dats m 0 c).arrAt_eq_of_covers 12 _ (by decide +kernel) fun t hf y => ?_
  blk_simp [idx12]
  rw [after12]
  have e0 : ((win0_12.blk t).view.emb y 0).val = win0_12.index t (0 : Fin 3) * 2 + 1 * (y 0).val := rfl
  have e1 : ((win0_12.blk t).view.emb y 1).val = win0_12.index t (1 : Fin 3) * 912 + 1 * (y 1).val := rfl
  have e2 : ((win0_12.blk t).view.emb y 2).val = win0_12.index t (2 : Fin 3) * 256 + 1 * (y 2).val := rfl
  rw [idx12] at e0 e1 e2
  replace e0 : ((win0_12.blk t).view.emb y 0).val = (y 0).val := by simpa using e0
  replace e1 : ((win0_12.blk t).view.emb y 1).val = t.val / 11 * 912 + (y 1).val := by simpa using e1
  replace e2 : ((win0_12.blk t).view.emb y 2).val = t.val % 11 * 256 + (y 2).val := by simpa using e2
  have hy : ix3 (y 0) (y 1) (y 2) = y := by funext x; match x with
    | ⟨0, _⟩ => rfl
    | ⟨1, _⟩ => rfl
    | ⟨2, _⟩ => rfl
  refine (congrArg (ucG (stAt m c t.val t.isLt)) hy.symm).trans ((ucG_apply _ (st_T m c t) (y 0) (y 1) (y 2)).trans ((st_cr m c t (y 0) (y 1) (y 2)).trans ?_))
  unfold UC col
  refine congrArg₂ (CV (A m c) (B m c) (C m c) (D m c)) (Fin.ext e1.symm) (Fin.ext ?_)
  show 2816 * (y 0).val + (t.val % 11 * 256 + (y 2).val) = 2816 * ((win0_12.blk t).view.emb y 0).val + ((win0_12.blk t).view.emb y 2).val
  rw [e0, e2]

/-! ## The run -/

/-- Every result array after the run, the arguments unchanged. -/
theorem run_arrays (ρ : Dev nD → PrngReg) : θ_run defs (onTc (τ := τ) (main (F := Ideal))) ⟨m, fun _ => 0, ρ⟩ fun r => ∀ c : Dev nD,
      r.2.mem ((c.tc : Thread nD τ).loc main_v0_0) = OUT (A m c) (B m c) (C m c) (D m c) (W m c)
      ∧ r.2.mem ((c.tc : Thread nD τ).loc main_v0_1) = N (A m c) (B m c)
      ∧ r.2.mem ((c.tc : Thread nD τ).loc main_v0_2) = ACT (A m c) (B m c) (C m c) (D m c)
      ∧ r.2.mem ((c.tc : Thread nD τ).loc main_v0_3) = UX (A m c) (B m c) (C m c)
      ∧ r.2.mem ((c.tc : Thread nD τ).loc main_v0_4) = UC (A m c) (B m c) (C m c) (D m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h.1 c).1 8).trans (arrOut m c), ((h.1 c).1 9).trans (arrN m c), ((h.1 c).1 10).trans (arrAct m c),
    ((h.1 c).1 11).trans (arrUx m c), ((h.1 c).1 12).trans (arrUc m c), h.2.1 c⟩)
    (θ_run_and (run_main m ρ) (frame m ρ))

end Cert.Kernel6Ideal.ForwardFfn

end
-- ==== Proof.ForwardFfn.lean ====
/- The feed-forward reference's results, one element at a time; and the call's results are the reference's. -/
module

public import proofs.«01_k».proof.Proof.FfnValue
public import proofs.«01_k».proof.Proof.Gen.Reference6Ideal.Run
public import proofs.«01_k».proof.Defs

@[expose] public section

set_option maxRecDepth 16384

noncomputable section

namespace Cert.Reference6Ideal.ForwardFfn

open Cert.Reference6Ideal Cert.Reference6Ideal.Gen Cert.Reference6Ideal.Value
open Idealize.ShloMosaic Idealize.ShloMosaic.TcCoe Idealize.ShloMosaic.StableHlo Idealize.SL.Sem
open Cert.Kernel6Ideal.ForwardFfn (rr N U Z CV AC OUT ACT UX UC col)

section
variable (a : FVec Ideal S8208x1024 .f32) (b : FVec Ideal S1x1024 .f32) (w : FVec Ideal S5632x1024 .bf16) (k : FVec Ideal S3x5632 .f32)
  (d : FVec Ideal S2816x1024 .bf16)

/-- The normalised rows, -/
def rN : FVec Ideal S8208x1024 .f32 :=
  mulf (mulf a (broadcastInDim S8208x1024 ![0, 1] bcast_S8208x1_S8208x1024_0_1 (Host.rsqrt (addf (Host.divf (broadcastInDim S8208x1 ![0] bcast_S8208_S8208x1_0
    (Host.reduceAdd (mulf a a) (constant S_ .f32 0x00000000#32) reducesTo_S8208x1024_S8208_d1 h_S_)) (broadcastInDim S8208x1 ![] bcast_S_S8208x1 (constant S_ .f32 0x44800000#32)))
    (broadcastInDim S8208x1 ![] bcast_S_S8208x1 (constant S_ .f32 0x358637BD#32)))))) (broadcastInDim S8208x1024 ![0, 1] bcast_S1x1024_S8208x1024_0_1 b)
/-- their up-projection, -/
def rU : FVec Ideal S8208x5632 .f32 :=
  Host.dotGeneral dot_S8208x1024_S1024x5632_S8208x5632_1_0_0_1_n_n none (rN a b) (transpose S1024x5632 [1, 0] (extf .f32 w bitsLt_bf16_f32) transposes_S5632x1024_S1024x5632_1_0)
/-- with two rows of zeros above, -/
def rZ : FVec Ideal S8210x5632 .f32 :=
  concatenate S8210x5632 0 [⟨S2x5632, (broadcastInDim S2x5632 ![] bcast_S_S2x5632 (constant S_ .f32 0x00000000#32))⟩, ⟨S8208x5632, rU a b w⟩] concatenates_S2x5632_S8208x5632_S8210x5632_d0
/-- convolved, -/
def rCV : FVec Ideal S8208x5632 .f32 :=
  addf (addf (mulf (extractStridedSlice S8208x5632 ![0, 0] (rZ a b w) slices_S8210x5632_S8208x5632_0_0)
      (broadcastInDim S8208x5632 ![0, 1] bcast_S1x5632_S8208x5632_0_1 (extractStridedSlice S1x5632 ![0, 0] k slices_S3x5632_S1x5632_0_0)))
    (mulf (extractStridedSlice S8208x5632 ![1, 0] (rZ a b w) slices_S8210x5632_S8208x5632_1_0)
      (broadcastInDim S8208x5632 ![0, 1] bcast_S1x5632_S8208x5632_0_1 (extractStridedSlice S1x5632 ![1, 0] k slices_S3x5632_S1x5632_1_0))))
    (mulf (extractStridedSlice S8208x5632 ![2, 0] (rZ a b w) slices_S8210x5632_S8208x5632_2_0)
      (broadcastInDim S8208x5632 ![0, 1] bcast_S1x5632_S8208x5632_0_1 (extractStridedSlice S1x5632 ![2, 0] k slices_S3x5632_S1x5632_2_0)))
/-- its halves, -/
def half0 (x : FVec Ideal S8208x5632 .f32) : FVec Ideal S8208x2816 .f32 := extractStridedSlice S8208x2816 ![0, 0] x slices_S8208x5632_S8208x2816_0_0
def half1 (x : FVec Ideal S8208x5632 .f32) : FVec Ideal S8208x2816 .f32 := extractStridedSlice S8208x2816 ![0, 2816] x slices_S8208x5632_S8208x2816_0_2816
/-- gated, -/
def rAC : FVec Ideal S8208x2816 .f32 :=
  mulf (mulf (half0 (rCV a b w k)) (Host.divf (broadcastInDim S8208x2816 ![] bcast_S_S8208x2816 (constant S_ .f32 0x3F800000#32))
    (addf (broadcastInDim S8208x2816 ![] bcast_S_S8208x2816 (constant S_ .f32 0x3F800000#32)) (Host.exp (Host.negf (half0 (rCV a b w k)))))))
    (half1 (rCV a b w k))
/-- projected down and added to the rows. -/
def rOUT : FVec Ideal S8208x1024 .f32 :=
  addf a (Host.dotGeneral dot_S8208x2816_S2816x1024_S8208x1024_1_0_0_1_n_n none (rAC a b w k) (extf .f32 d bitsLt_bf16_f32))
/-- Two halves, one after the other. -/
def two (x : FVec Ideal S8208x5632 .f32) : FVec Ideal S2x8208x2816 .bf16 :=
  truncf .bf16 (concatenate S2x8208x2816 0 [⟨S1x8208x2816, broadcastInDim S1x8208x2816 ![1, 2] bcast_S8208x2816_S1x8208x2816_1_2 (half0 x)⟩,
    ⟨S1x8208x2816, broadcastInDim S1x8208x2816 ![1, 2] bcast_S8208x2816_S1x8208x2816_1_2 (half1 x)⟩] concatenates_S1x8208x2816_S1x8208x2816_S2x8208x2816_d0) bitsLt_bf16_f32

theorem rN_apply (i : S8208x1024.Idx) : rN a b i = N a b i := by
  unfold rN N rr
  pointwise

theorem rU_apply (r : Fin 8208) (q : Fin 5632) : rU a b w (ix2 r q) = U a b w r q := by
  unfold rU U
  pointwise
  simp only [rN_apply]

theorem rZ_apply (r : Fin 8210) (q : Fin 5632) : rZ a b w (ix2 r q) = Z a b w r.val r.isLt q := by
  unfold rZ Z
  pointwise
  simp only [rU_apply]

theorem Z_congr {r r' : ℕ} (hr) (hr') (q : Fin 5632) (h : r = r') : Z a b w r hr q = Z a b w r' hr' q := by subst h; rfl

theorem rCV_apply (r : Fin 8208) (q : Fin 5632) : rCV a b w k (ix2 r q) = CV a b w k r q := by
  unfold rCV CV
  pointwise
  simp only [rZ_apply]
  exact congrArg₂ (α := EReal) (β := EReal) (· + ·) (congrArg (fun z : EReal => _ + z) (congrArg (fun z : EReal => z * _) (Z_congr a b w _ _ q (Nat.add_comm 1 _))))
    (congrArg (fun z : EReal => z * _) (Z_congr a b w _ _ q (Nat.add_comm 2 _)))

theorem half0_apply (x : FVec Ideal S8208x5632 .f32) (r : Fin 8208) (q : Fin 2816) : half0 x (ix2 r q) = x (ix2 r ⟨q.val, by omega⟩) := by
  unfold half0
  pointwise

theorem half1_apply (x : FVec Ideal S8208x5632 .f32) (r : Fin 8208) (q : Fin 2816) : half1 x (ix2 r q) = x (ix2 r ⟨2816 + q.val, by omega⟩) := by
  unfold half1
  pointwise

theorem rAC_apply (r : Fin 8208) (q : Fin 2816) : rAC a b w k (ix2 r q) = AC a b w k r q := by
  unfold rAC AC Ideal.logistic
  pointwise
  simp only [half0_apply, half1_apply, rCV_apply]

theorem rOUT_eq : rOUT a b w k d = OUT a b w k d := by
  funext i
  unfold rOUT OUT
  pointwise
  exact congrArg (fun z : EReal => a i + z) (Finset.sum_congr (M := EReal) rfl fun q _ => congrArg (fun z : EReal => z * _) (rAC_apply a b w k (i 0) q))

theorem two_apply (x : FVec Ideal S8208x5632 .f32) (h : Fin 2) (r : Fin 8208) (q : Fin 2816) : two x (ix3 h r q) = x (ix2 r (col h q)) := by
  unfold two
  pointwise
  simp only [half0_apply, half1_apply]
  match h with
  | ⟨0, _⟩ => exact congrArg (fun q => x (ix2 r q)) (Fin.ext (by show q.val = 2816 * 0 + q.val; omega))
  | ⟨1, _⟩ => rfl

theorem two_U : two (rU a b w) = UX a b w := by
  funext i
  have hi : ix3 (i 0) (i 1) (i 2) = i := by funext x; match x with
    | ⟨0, _⟩ => rfl
    | ⟨1, _⟩ => rfl
    | ⟨2, _⟩ => rfl
  exact (congrArg (two (rU a b w)) hi.symm).trans ((two_apply _ (i 0) (i 1) (i 2)).trans (rU_apply a b w (i 1) (col (i 0) (i 2))))

theorem two_CV : two (rCV a b w k) = UC a b w k := by
  funext i
  have hi : ix3 (i 0) (i 1) (i 2) = i := by funext x; match x with
    | ⟨0, _⟩ => rfl
    | ⟨1, _⟩ => rfl
    | ⟨2, _⟩ => rfl
  exact (congrArg (two (rCV a b w k)) hi.symm).trans ((two_apply _ (i 0) (i 1) (i 2)).trans (rCV_apply a b w k (i 1) (col (i 0) (i 2))))

theorem act_eq : truncf .bf16 (rAC a b w k) bitsLt_bf16_f32 = ACT a b w k := by
  funext i
  have hi : ix2 (i 0) (i 1) = i := by funext x; match x with
    | ⟨0, _⟩ => rfl
    | ⟨1, _⟩ => rfl
  exact (congrArg (rAC a b w k) hi.symm).trans (rAC_apply a b w k (i 0) (i 1))

theorem norm_eq : truncf .bf16 (rN a b) bitsLt_bf16_f32 = N a b := funext fun i => rN_apply a b i
end

/-- The reference's results. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v37) = OUT (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v38) = N (m ((c.tc : Thread nD τ).loc main_arg0)) (m ((c.tc : Thread nD τ).loc main_arg1))
      ∧ r.2.mem ((c.tc : Thread nD τ).loc main_v39) = ACT (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v45) = UX (m ((c.tc : Thread nD τ).loc main_arg0)) (m ((c.tc : Thread nD τ).loc main_arg1)) (m ((c.tc : Thread nD τ).loc main_arg2))
      ∧ r.2.mem ((c.tc : Thread nD τ).loc main_v51) = UC (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨?_, ?_, ?_, ?_, ?_, (h c).2.2.2.2.2⟩) (Cert.Reference6Ideal.Value.run (F := Ideal) m ρ)
  · exact (h c).1.trans ((show res_main_v37 m c = rOUT _ _ _ _ _ from rfl).trans (rOUT_eq _ _ _ _ _))
  · exact (h c).2.1.trans (norm_eq _ _)
  · exact (h c).2.2.1.trans ((show res_main_v39 m c = truncf .bf16 (rAC _ _ _ _) bitsLt_bf16_f32 from rfl).trans (act_eq _ _ _ _))
  · exact (h c).2.2.2.1.trans (two_U _ _ _)
  · exact (h c).2.2.2.2.1.trans ((show res_main_v51 m c = two (rCV _ _ _ _) from rfl).trans (two_CV _ _ _ _))

end Cert.Reference6Ideal.ForwardFfn

namespace Cert.Kernel6Ideal.ForwardFfn

open Idealize.ShloMosaic Idealize.ShloMosaic.TcCoe Idealize.SL.Sem

/-- The kernel's results are the reference's. -/
theorem algebraic : Cert.algebraic_Kernel6Ideal_Reference6Ideal := by
  intro m ρ m' ρ' _ hagree
  refine ⟨_, _, _, _, _, run_arrays m ρ, ?_⟩
  refine (θ_run Cert.Reference6Ideal.defs _ _).mono (fun _ h c => ⟨?_, ?_, ?_, ?_, ?_, (h c).2.2.2.2.2⟩) (Cert.Reference6Ideal.ForwardFfn.run m' ρ')
  · rw [(h c).1, (hagree c).1, (hagree c).2.1, (hagree c).2.2.1, (hagree c).2.2.2.1, (hagree c).2.2.2.2]; rfl
  · rw [(h c).2.1, (hagree c).1, (hagree c).2.1]; rfl
  · rw [(h c).2.2.1, (hagree c).1, (hagree c).2.1, (hagree c).2.2.1, (hagree c).2.2.2.1]; rfl
  · rw [(h c).2.2.2.1, (hagree c).1, (hagree c).2.1, (hagree c).2.2.1]; rfl
  · rw [(h c).2.2.2.2.1, (hagree c).1, (hagree c).2.1, (hagree c).2.2.1, (hagree c).2.2.2.1]; rfl

end Cert.Kernel6Ideal.ForwardFfn

end
-- ==== Proof.BackHost.lean ====
/- What the host computes before the feed-forward call's backward pass. -/
module

public import proofs.«01_k».proof.Proof.Gen.Kernel5Ideal.Frame
public import proofs.«01_k».proof.Proof.ForwardFfn

@[expose] public section

set_option maxRecDepth 16384

noncomputable section

namespace Cert.Kernel5Ideal.BackFfn

open Idealize.ShloMosaic Idealize.ShloMosaic.TcCoe Idealize.ShloMosaic.StableHlo
open Cert.Kernel5Ideal Cert.Kernel5Ideal.Gen
open Cert.Reference6Ideal.ForwardFfn (two rCV two_CV)
open Cert.Kernel6Ideal.ForwardFfn (UC)

variable (m : (ℓ : Loc nD τ sig) → Buf (Elt Ideal) ℓ)

/-- The convolution's two halves. -/
theorem V_uc (c : Dev nD) : V m c main_v42
    = UC (m ((c : Thread nD τ).loc main_arg1)) (m ((c : Thread nD τ).loc main_arg2)) (m ((c : Thread nD τ).loc main_arg3)) (m ((c : Thread nD τ).loc main_arg4)) := by
  refine Eq.trans ?_ (two_CV _ _ _ _)
  unfold V
  after_results
  rfl

end Cert.Kernel5Ideal.BackFfn

end
-- ==== Proof.BackValue.lean ====
/- The up projection's gradient after the run of the feed-forward call's backward pass, as a function of the argument arrays. -/
module

public import proofs.«01_k».proof.Proof.BackTile
public import proofs.«01_k».proof.Proof.BackFrame
public import proofs.«01_k».proof.Proof.BackHost

@[expose] public section

set_option maxRecDepth 16384

noncomputable section

namespace Cert.Kernel5Ideal.BackFfn

open Idealize.ShloMosaic Idealize.ShloMosaic.TcCoe Idealize.SL.Sem
open Idealize.ShloMosaic.Pipeline (Dat)
open Cert.Kernel5Ideal Cert.Kernel5Ideal.Gen Cert.Rows
open Cert.Kernel6Ideal.ForwardFfn (ix3_of ix2_of CV UC col)

/-! ## The result as a function of the arrays -/

section
variable (dh a : Vec Ideal S8208x1024 .f32) (b : Vec Ideal S1x1024 .f32) (w : Vec Ideal S5632x1024 .bf16) (k : Vec Ideal S3x5632 .f32)
  (d : Vec Ideal S2816x1024 .bf16)

/-- The activation's gradient. -/
def DA (r : Fin 8208) (q : Fin 2816) : EReal := ∑ e : Fin 1024, (dh (ix2 r e) * d (ix2 q e) : EReal)
/-- The gradient of the convolution's two halves, with rows of zeros below it. -/
def G (h : ℕ) (r : ℕ) (q : Fin 2816) : EReal := if hr : r < 8208 then
  (if h = 0 then gateK (DA dh d ⟨r, hr⟩ q) (CV a b w k ⟨r, hr⟩ (col 0 q)) (CV a b w k ⟨r, hr⟩ (col 1 q))
    else valK (DA dh d ⟨r, hr⟩ q) (CV a b w k ⟨r, hr⟩ (col 0 q))) else 0
/-- The up projection's: three taps back along the rows. -/
def DU (h : Fin 2) (r : Fin 8208) (q : Fin 2816) : EReal :=
  k (ix2 0 (col h q)) * G dh a b w k d h.val (r.val + 2) q + k (ix2 1 (col h q)) * G dh a b w k d h.val (r.val + 1) q
    + k (ix2 2 (col h q)) * G dh a b w k d h.val r.val q
/-- As an array. -/
def DUX : Vec Ideal S2x8208x2816 .bf16 := fun i => DU dh a b w k d (i 0) (i 1) (i 2)
end

/-! ## The blocks -/

variable (m : (ℓ : Loc nD τ sig) → Buf (Elt Ideal) ℓ)

theorem idx0 : ∀ t : Fin grid0.N, win0_0.index t = ![t.val / 11, 0] := by decide +kernel
theorem idx1 : ∀ t : Fin grid0.N, win0_1.index t = ![if t.val / 11 = 8 then 512 else 57 * (t.val / 11 + 1), 0] := by decide +kernel
theorem idx6 : ∀ t : Fin grid0.N, win0_6.index t = ![0, t.val / 11, t.val % 11] := by decide +kernel
theorem idx7 : ∀ t : Fin grid0.N, win0_7.index t = ![0, if t.val / 11 = 8 then 512 else 57 * (t.val / 11 + 1), t.val % 11] := by decide +kernel
theorem idx8 : ∀ t : Fin grid0.N, win0_8.index t = ![1, t.val / 11, t.val % 11] := by decide +kernel
theorem idx9 : ∀ t : Fin grid0.N, win0_9.index t = ![1, if t.val / 11 = 8 then 512 else 57 * (t.val / 11 + 1), t.val % 11] := by decide +kernel
theorem idx10 : ∀ t : Fin grid0.N, win0_10.index t = ![0, t.val % 11] := by decide +kernel
theorem idx11 : ∀ t : Fin grid0.N, win0_11.index t = ![0, t.val % 11 + 11] := by decide +kernel
theorem idx12 : ∀ t : Fin grid0.N, win0_12.index t = ![t.val % 11, 0] := by decide +kernel
theorem idx17 : ∀ t : Fin grid0.N, win0_17.index t = ![0, t.val / 11, t.val % 11] := by decide +kernel

/-- The gradient that arrives. -/
def DH (c : Dev nD) : Vec Ideal S8208x1024 .f32 := m ((c : Thread nD τ).loc main_arg0)
/-- The rows. -/
def A (c : Dev nD) : Vec Ideal S8208x1024 .f32 := m ((c : Thread nD τ).loc main_arg1)
/-- The scale. -/
def B (c : Dev nD) : Vec Ideal S1x1024 .f32 := m ((c : Thread nD τ).loc main_arg2)
/-- The up projection's weight. -/
def C (c : Dev nD) : Vec Ideal S5632x1024 .bf16 := m ((c : Thread nD τ).loc main_arg3)
/-- The taps. -/
def K (c : Dev nD) : Vec Ideal S3x5632 .f32 := m ((c : Thread nD τ).loc main_arg4)
/-- The down projection's weight. -/
def W (c : Dev nD) : Vec Ideal S2816x1024 .bf16 := m ((c : Thread nD τ).loc main_arg5)
/-- The convolution's two halves. -/
def CU (c : Dev nD) : Vec Ideal S2x8208x2816 .bf16 := UC (A m c) (B m c) (C m c) (K m c)

theorem blk0 (c : Dev nD) (t : Fin cfg0.N) (y : S912x1024.Idx) (i : S8208x1024.Idx)
    (h0 : (i 0).val = (t.val / 11) * 912 + (y 0).val) (h1 : (i 1).val = (0) * 1024 + (y 1).val) :
    (iblk m c 0 t : Vec Ideal S912x1024 .f32) y = DH m c i := by
  blk_simp [iblk]
  show DH m c _ = DH m c i
  congr 1
  funext a; apply Fin.ext
  match a with
  | ⟨0, _⟩ => show win0_0.index t (0 : Fin 2) * 912 + 1 * (y 0).val = (i 0).val; rw [idx0, h0]; simp
  | ⟨1, _⟩ => show win0_0.index t (1 : Fin 2) * 1024 + 1 * (y 1).val = (i 1).val; rw [idx0, h1]; simp

theorem blk1 (c : Dev nD) (t : Fin cfg0.N) (y : S16x1024.Idx) (i : S8208x1024.Idx)
    (h0 : (i 0).val = (if t.val / 11 = 8 then 512 else 57 * (t.val / 11 + 1)) * 16 + (y 0).val) (h1 : (i 1).val = (0) * 1024 + (y 1).val) :
    (iblk m c 1 t : Vec Ideal S16x1024 .f32) y = DH m c i := by
  blk_simp [iblk]
  show DH m c _ = DH m c i
  congr 1
  funext a; apply Fin.ext
  match a with
  | ⟨0, _⟩ => show win0_1.index t (0 : Fin 2) * 16 + 1 * (y 0).val = (i 0).val; rw [idx1, h0]; simp
  | ⟨1, _⟩ => show win0_1.index t (1 : Fin 2) * 1024 + 1 * (y 1).val = (i 1).val; rw [idx1, h1]; simp

theorem blk6 (c : Dev nD) (t : Fin cfg0.N) (y : S1x912x256.Idx) (i : S2x8208x2816.Idx)
    (h0 : (i 0).val = (0) * 1 + (y 0).val) (h1 : (i 1).val = (t.val / 11) * 912 + (y 1).val) (h2 : (i 2).val = (t.val % 11) * 256 + (y 2).val) :
    (iblk m c 6 t : Vec Ideal S1x912x256 .bf16) y = CU m c i := by
  blk_simp [iblk]
  refine (congrFun (V_uc m c) _).trans ?_
  show CU m c _ = CU m c i
  congr 1
  funext a; apply Fin.ext
  match a with
  | ⟨0, _⟩ => show win0_6.index t (0 : Fin 3) * 1 + 1 * (y 0).val = (i 0).val; rw [idx6, h0]; simp
  | ⟨1, _⟩ => show win0_6.index t (1 : Fin 3) * 912 + 1 * (y 1).val = (i 1).val; rw [idx6, h1]; simp
  | ⟨2, _⟩ => show win0_6.index t (2 : Fin 3) * 256 + 1 * (y 2).val = (i 2).val; rw [idx6, h2]; simp

theorem blk7 (c : Dev nD) (t : Fin cfg0.N) (y : S1x16x256.Idx) (i : S2x8208x2816.Idx)
    (h0 : (i 0).val = (0) * 1 + (y 0).val) (h1 : (i 1).val = (if t.val / 11 = 8 then 512 else 57 * (t.val / 11 + 1)) * 16 + (y 1).val) (h2 : (i 2).val = (t.val % 11) * 256 + (y 2).val) :
    (iblk m c 7 t : Vec Ideal S1x16x256 .bf16) y = CU m c i := by
  blk_simp [iblk]
  refine (congrFun (V_uc m c) _).trans ?_
  show CU m c _ = CU m c i
  congr 1
  funext a; apply Fin.ext
  match a with
  | ⟨0, _⟩ => show win0_7.index t (0 : Fin 3) * 1 + 1 * (y 0).val = (i 0).val; rw [idx7, h0]; simp
  | ⟨1, _⟩ => show win0_7.index t (1 : Fin 3) * 16 + 1 * (y 1).val = (i 1).val; rw [idx7, h1]; simp
  | ⟨2, _⟩ => show win0_7.index t (2 : Fin 3) * 256 + 1 * (y 2).val = (i 2).val; rw [idx7, h2]; simp

theorem blk8 (c : Dev nD) (t : Fin cfg0.N) (y : S1x912x256.Idx) (i : S2x8208x2816.Idx)
    (h0 : (i 0).val = (1) * 1 + (y 0).val) (h1 : (i 1).val = (t.val / 11) * 912 + (y 1).val) (h2 : (i 2).val = (t.val % 11) * 256 + (y 2).val) :
    (iblk m c 8 t : Vec Ideal S1x912x256 .bf16) y = CU m c i := by
  blk_simp [iblk]
  refine (congrFun (V_uc m c) _).trans ?_
  show CU m c _ = CU m c i
  congr 1
  funext a; apply Fin.ext
  match a with
  | ⟨0, _⟩ => show win0_8.index t (0 : Fin 3) * 1 + 1 * (y 0).val = (i 0).val; rw [idx8, h0]; simp
  | ⟨1, _⟩ => show win0_8.index t (1 : Fin 3) * 912 + 1 * (y 1).val = (i 1).val; rw [idx8, h1]; simp
  | ⟨2, _⟩ => show win0_8.index t (2 : Fin 3) * 256 + 1 * (y 2).val = (i 2).val; rw [idx8, h2]; simp

theorem blk9 (c : Dev nD) (t : Fin cfg0.N) (y : S1x16x256.Idx) (i : S2x8208x2816.Idx)
    (h0 : (i 0).val = (1) * 1 + (y 0).val) (h1 : (i 1).val = (if t.val / 11 = 8 then 512 else 57 * (t.val / 11 + 1)) * 16 + (y 1).val) (h2 : (i 2).val = (t.val % 11) * 256 + (y 2).val) :
    (iblk m c 9 t : Vec Ideal S1x16x256 .bf16) y = CU m c i := by
  blk_simp [iblk]
  refine (congrFun (V_uc m c) _).trans ?_
  show CU m c _ = CU m c i
  congr 1
  funext a; apply Fin.ext
  match a with
  | ⟨0, _⟩ => show win0_9.index t (0 : Fin 3) * 1 + 1 * (y 0).val = (i 0).val; rw [idx9, h0]; simp
  | ⟨1, _⟩ => show win0_9.index t (1 : Fin 3) * 16 + 1 * (y 1).val = (i 1).val; rw [idx9, h1]; simp
  | ⟨2, _⟩ => show win0_9.index t (2 : Fin 3) * 256 + 1 * (y 2).val = (i 2).val; rw [idx9, h2]; simp

theorem blk10 (c : Dev nD) (t : Fin cfg0.N) (y : S3x256.Idx) (i : S3x5632.Idx)
    (h0 : (i 0).val = (0) * 3 + (y 0).val) (h1 : (i 1).val = (t.val % 11) * 256 + (y 1).val) :
    (iblk m c 10 t : Vec Ideal S3x256 .f32) y = K m c i := by
  blk_simp [iblk]
  show K m c _ = K m c i
  congr 1
  funext a; apply Fin.ext
  match a with
  | ⟨0, _⟩ => show win0_10.index t (0 : Fin 2) * 3 + 1 * (y 0).val = (i 0).val; rw [idx10, h0]; simp
  | ⟨1, _⟩ => show win0_10.index t (1 : Fin 2) * 256 + 1 * (y 1).val = (i 1).val; rw [idx10, h1]; simp

theorem blk11 (c : Dev nD) (t : Fin cfg0.N) (y : S3x256.Idx) (i : S3x5632.Idx)
    (h0 : (i 0).val = (0) * 3 + (y 0).val) (h1 : (i 1).val = (t.val % 11 + 11) * 256 + (y 1).val) :
    (iblk m c 11 t : Vec Ideal S3x256 .f32) y = K m c i := by
  blk_simp [iblk]
  show K m c _ = K m c i
  congr 1
  funext a; apply Fin.ext
  match a with
  | ⟨0, _⟩ => show win0_11.index t (0 : Fin 2) * 3 + 1 * (y 0).val = (i 0).val; rw [idx11, h0]; simp
  | ⟨1, _⟩ => show win0_11.index t (1 : Fin 2) * 256 + 1 * (y 1).val = (i 1).val; rw [idx11, h1]; simp

theorem blk12 (c : Dev nD) (t : Fin cfg0.N) (y : S256x1024.Idx) (i : S2816x1024.Idx)
    (h0 : (i 0).val = (t.val % 11) * 256 + (y 0).val) (h1 : (i 1).val = (0) * 1024 + (y 1).val) :
    (iblk m c 12 t : Vec Ideal S256x1024 .bf16) y = W m c i := by
  blk_simp [iblk]
  show W m c _ = W m c i
  congr 1
  funext a; apply Fin.ext
  match a with
  | ⟨0, _⟩ => show win0_12.index t (0 : Fin 2) * 256 + 1 * (y 0).val = (i 0).val; rw [idx12, h0]; simp
  | ⟨1, _⟩ => show win0_12.index t (1 : Fin 2) * 1024 + 1 * (y 1).val = (i 1).val; rw [idx12, h1]; simp

theorem lt_N {n : ℕ} (h : n < cfg0.N) : n < 99 := Nat.lt_of_lt_of_eq h N_0

/-- The rows below a tile start a block of sixteen. -/
theorem below {t r : ℕ} (ht : t < 99) (h : r < 8208) (e : ∃ p, 912 ≤ p ∧ p < 928 ∧ r = t / 11 * 912 + p) : t / 11 ≠ 8 := by
  obtain ⟨p, h1, h2, h3⟩ := e; omega

/-- The kept rows of the gradient that arrives are its rows. -/
theorem dhe_blk (c : Dev nD) (t : Fin cfg0.N) (r : ℕ) (hr : r < 928) (e : Fin 1024) (r' : Fin 8208) (h : r'.val = t.val / 11 * 912 + r) :
    dheG (F := Ideal) (iblk m c 0 t) (iblk m c 1 t) (ix2 ⟨r, hr⟩ e) = DH m c (ix2 r' e) := by
  unfold dheG
  by_cases h9 : r < 912
  · rw [dif_pos (show ((ix2 (⟨r, hr⟩ : Fin 928) e) 0).val < 912 from h9), keepPay_apply]
    exact blk0 m c t _ _ h (by show e.val = 0 * 1024 + e.val; omega)
  · have h8 := below (lt_N t.isLt) r'.isLt ⟨r, by omega, hr, h⟩
    rw [dif_neg (show ¬((ix2 (⟨r, hr⟩ : Fin 928) e) 0).val < 912 from h9), nextPay_apply]
    exact blk1 m c t _ _ (by rw [if_neg h8]; show r'.val = 57 * (t.val / 11 + 1) * 16 + (r - 912); omega) (by show e.val = 0 * 1024 + e.val; omega)

/-! ## What a point works on -/

theorem st_i (c : Dev nD) (t : Fin cfg0.N) : (stAt m c t.val t.isLt).i = grid0.coords t := by
  by_cases h : t.val % 11 = 0
  · rw [stAt_open m c t h]; rfl
  · rw [stAt_next m c t h]; rfl
theorem st_cg (c : Dev nD) (t : Fin cfg0.N) : (stAt m c t.val t.isLt).cg = iblk m c 6 t := by
  by_cases h : t.val % 11 = 0
  · rw [stAt_open m c t h]; rfl
  · rw [stAt_next m c t h]; rfl
theorem st_cgn (c : Dev nD) (t : Fin cfg0.N) : (stAt m c t.val t.isLt).cgn = iblk m c 7 t := by
  by_cases h : t.val % 11 = 0
  · rw [stAt_open m c t h]; rfl
  · rw [stAt_next m c t h]; rfl
theorem st_cv (c : Dev nD) (t : Fin cfg0.N) : (stAt m c t.val t.isLt).cv = iblk m c 8 t := by
  by_cases h : t.val % 11 = 0
  · rw [stAt_open m c t h]; rfl
  · rw [stAt_next m c t h]; rfl
theorem st_cvn (c : Dev nD) (t : Fin cfg0.N) : (stAt m c t.val t.isLt).cvn = iblk m c 9 t := by
  by_cases h : t.val % 11 = 0
  · rw [stAt_open m c t h]; rfl
  · rw [stAt_next m c t h]; rfl
theorem st_wd (c : Dev nD) (t : Fin cfg0.N) : (stAt m c t.val t.isLt).wd = iblk m c 12 t := by
  by_cases h : t.val % 11 = 0
  · rw [stAt_open m c t h]; rfl
  · rw [stAt_next m c t h]; rfl
theorem st_T (c : Dev nD) (t : Fin cfg0.N) : (stAt m c t.val t.isLt).T = tapsOf (iblk m c 10 t) (iblk m c 11 t) := by
  by_cases h : t.val % 11 = 0
  · rw [stAt_open m c t h]; rfl
  · rw [stAt_next m c t h]; rfl

/-- The kept rows, over the tile's points. -/
theorem st_dhe (c : Dev nD) : ∀ (n : ℕ) (hn : n < cfg0.N) (r : ℕ) (hr : r < 928) (e : Fin 1024) (r' : Fin 8208), r'.val = n / 11 * 912 + r →
    (stAt m c n hn).dhe (ix2 ⟨r, hr⟩ e) = DH m c (ix2 r' e) := by
  intro n
  induction n with
  | zero => exact fun hn r hr e r' h => dhe_blk m c ⟨0, hn⟩ r hr e r' h
  | succ n ih =>
    intro hn r hr e r' h'
    by_cases h : (n + 1) % 11 = 0
    · rw [show stAt m c (n + 1) hn = openAt m c ⟨n + 1, hn⟩ from stAt_open m c ⟨n + 1, hn⟩ h]
      exact dhe_blk m c ⟨n + 1, hn⟩ r hr e r' h'
    · rw [show stAt m c (n + 1) hn = _ from stAt_next m c ⟨n + 1, hn⟩ h]
      exact ih (Nat.lt_of_succ_lt hn) r hr e r' (by omega)

/-- A point's column. -/
abbrev acol (t : Fin cfg0.N) (q : Fin 256) : Fin 2816 := ⟨t.val % 11 * 256 + q.val, by omega⟩
/-- The row a tile's row is. -/
abbrev prow (t : Fin cfg0.N) (p : Fin 912) : Fin 8208 := ⟨t.val / 11 * 912 + p.val, by have := lt_N t.isLt; omega⟩

theorem st_da (c : Dev nD) (t : Fin cfg0.N) (r : ℕ) (hr : r < 928) (q : Fin 256) (r' : Fin 8208) (h : r'.val = t.val / 11 * 912 + r) :
    da (stAt m c t.val t.isLt) r hr q = DA (DH m c) (W m c) r' (acol t q) := by
  unfold da DA
  refine Finset.sum_congr (M := EReal) rfl fun e _ => congrArg₂ (α := EReal) (β := EReal) (· * ·) (st_dhe m c t.val t.isLt r hr e r' h) ?_
  rw [st_wd]
  exact blk12 m c t _ _ rfl (by show e.val = 0 * 1024 + e.val; omega)

theorem st_cgs (c : Dev nD) (t : Fin cfg0.N) (r : ℕ) (hr : r < 928) (q : Fin 256) (r' : Fin 8208) (h : r'.val = t.val / 11 * 912 + r) :
    sv (stAt m c t.val t.isLt).cg (stAt m c t.val t.isLt).cgn r hr q = CU m c (ix3 0 r' (acol t q)) := by
  unfold sv
  by_cases h9 : r < 912
  · rw [dif_pos h9, st_cg]
    exact blk6 m c t _ _ rfl h rfl
  · have h8 := below (lt_N t.isLt) r'.isLt ⟨r, by omega, hr, h⟩
    rw [dif_neg h9, st_cgn]
    exact blk7 m c t _ _ rfl (by rw [if_neg h8]; show r'.val = 57 * (t.val / 11 + 1) * 16 + (r - 912); omega) rfl

theorem st_cvs (c : Dev nD) (t : Fin cfg0.N) (r : ℕ) (hr : r < 928) (q : Fin 256) (r' : Fin 8208) (h : r'.val = t.val / 11 * 912 + r) :
    sv (stAt m c t.val t.isLt).cv (stAt m c t.val t.isLt).cvn r hr q = CU m c (ix3 1 r' (acol t q)) := by
  unfold sv
  by_cases h9 : r < 912
  · rw [dif_pos h9, st_cv]
    exact blk8 m c t _ _ rfl h rfl
  · have h8 := below (lt_N t.isLt) r'.isLt ⟨r, by omega, hr, h⟩
    rw [dif_neg h9, st_cvn]
    exact blk9 m c t _ _ rfl (by rw [if_neg h8]; show r'.val = 57 * (t.val / 11 + 1) * 16 + (r - 912); omega) rfl

/-- The gradient of the convolution's halves at a row of the tile or below it. -/
theorem st_gw (c : Dev nD) (t : Fin cfg0.N) (h : ℕ) (r : ℕ) (hr : r < 928) (q : Fin 256) (r' : ℕ) (hr' : r' = t.val / 11 * 912 + r) :
    gw (stAt m c t.val t.isLt) h r hr q = G (DH m c) (A m c) (B m c) (C m c) (K m c) (W m c) h r' (acol t q) := by
  have ht := lt_N t.isLt
  have e0 : (grid0.coords t 0).val = t.val / 11 := (Pipeline.Grid.coords_val t 0 (by decide) rfl : _ = t.val / 11 % 9).trans (by omega)
  unfold gw G
  rw [st_i, e0]
  by_cases h8 : r' < 8208
  · rw [if_pos (by omega), dif_pos h8, st_da m c t r hr q ⟨r', h8⟩ hr', st_cgs m c t r hr q ⟨r', h8⟩ hr', st_cvs m c t r hr q ⟨r', h8⟩ hr']
    rfl
  · rw [if_neg (by omega), dif_neg h8]

theorem st_kk (c : Dev nD) (t : Fin cfg0.N) (h : Fin 2) (n : Fin 3) (q : Fin 256) :
    kk (iblk m c 10 t) (iblk m c 11 t) h.val n q = K m c (ix2 n (col h (acol t q))) := by
  unfold kk
  match h with
  | ⟨0, _⟩ => rw [if_pos rfl]; exact blk10 m c t _ _ (by show n.val = 0 * 3 + n.val; omega) (by show 2816 * 0 + (t.val % 11 * 256 + q.val) = t.val % 11 * 256 + q.val; omega)
  | ⟨1, _⟩ => rw [if_neg Nat.one_ne_zero]; exact blk11 m c t _ _ (by show n.val = 0 * 3 + n.val; omega) (by show 2816 * 1 + (t.val % 11 * 256 + q.val) = (t.val % 11 + 11) * 256 + q.val; omega)

theorem st_ur (c : Dev nD) (t : Fin cfg0.N) (h : Fin 2) (p : Fin 912) (q : Fin 256) :
    ur (stAt m c t.val t.isLt) (iblk m c 10 t) (iblk m c 11 t) h.val p q
      = DU (DH m c) (A m c) (B m c) (C m c) (K m c) (W m c) h (prow t p) (acol t q) := by
  unfold ur DU
  rw [st_kk, st_kk, st_kk, st_gw m c t h.val _ _ q ((prow t p).val + 2) (by show t.val / 11 * 912 + p.val + 2 = t.val / 11 * 912 + (p.val + 2); omega),
    st_gw m c t h.val _ _ q ((prow t p).val + 1) (by show t.val / 11 * 912 + p.val + 1 = t.val / 11 * 912 + (p.val + 1); omega),
    st_gw m c t h.val _ _ q (prow t p).val rfl]

/-! ## The array -/

theorem arrDu (c : Dev nD) : (dats m 0 c).arrAt 17 cfg0.N = DUX (DH m c) (A m c) (B m c) (C m c) (K m c) (W m c) := by
  refine (dats m 0 c).arrAt_eq_of_covers 17 _ (by decide +kernel) fun t hf y => ?_
  blk_simp [idx17]
  rw [after17]
  have e0 : ((win0_17.blk t).view.emb y 0).val = win0_17.index t (0 : Fin 3) * 2 + 1 * (y 0).val := rfl
  have e1 : ((win0_17.blk t).view.emb y 1).val = win0_17.index t (1 : Fin 3) * 912 + 1 * (y 1).val := rfl
  have e2 : ((win0_17.blk t).view.emb y 2).val = win0_17.index t (2 : Fin 3) * 256 + 1 * (y 2).val := rfl
  rw [idx17] at e0 e1 e2
  replace e0 : ((win0_17.blk t).view.emb y 0).val = (y 0).val := by simpa using e0
  replace e1 : ((win0_17.blk t).view.emb y 1).val = t.val / 11 * 912 + (y 1).val := by simpa using e1
  replace e2 : ((win0_17.blk t).view.emb y 2).val = t.val % 11 * 256 + (y 2).val := by simpa using e2
  have hy : ix3 (y 0) (y 1) (y 2) = y := by funext x; match x with
    | ⟨0, _⟩ => rfl
    | ⟨1, _⟩ => rfl
    | ⟨2, _⟩ => rfl
  refine (congrArg (duG (stAt m c t.val t.isLt)) hy.symm).trans ((duG_apply _ (st_T m c t) (y 0) (y 1) (y 2)).trans ((st_ur m c t (y 0) (y 1) (y 2)).trans ?_))
  unfold DUX
  rw [show prow t (y 1) = (win0_17.blk t).view.emb y 1 from Fin.ext e1.symm, show acol t (y 2) = (win0_17.blk t).view.emb y 2 from Fin.ext e2.symm,
    show (y 0 : Fin 2) = (win0_17.blk t).view.emb y 0 from Fin.ext e0.symm]

/-! ## The run -/

/-- The result array after the run, the arguments unchanged. -/
theorem run_arrays (ρ : Dev nD → PrngReg) : θ_run defs (onTc (τ := τ) (main (F := Ideal))) ⟨m, fun _ => 0, ρ⟩ fun r => ∀ c : Dev nD,
      r.2.mem ((c.tc : Thread nD τ).loc main_v43_2) = DUX (DH m c) (A m c) (B m c) (C m c) (K m c) (W m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h.1 c).1 17).trans (arrDu m c), h.2.1 c⟩)
    (θ_run_and (run_main m ρ) (frame m ρ))

end Cert.Kernel5Ideal.BackFfn

end
-- ==== Proof.BackGate.lean ====
/- The gate's gradient at real numbers, where products distribute over sums. -/
module

public import proofs.«01_k».proof.Proof.BackTile
public import proofs.«01_k».proof.Proof.FfnValue

@[expose] public section

noncomputable section

namespace Cert.Kernel5Ideal.BackFfn

open Idealize.ShloMosaic Idealize.ShloMosaic.TcCoe
open Cert.Kernel6Ideal.ForwardFfn (rr N U Z CV)

/-! ## Real numbers among the extended reals -/

/-- A value that is a real number. -/
def IsReal (x : EReal) : Prop := ∃ r : ℝ, x = (r : EReal)

theorem real_zero : IsReal 0 := ⟨0, rfl⟩
theorem real_add {x y : EReal} (hx : IsReal x) (hy : IsReal y) : IsReal (x + y) := by
  obtain ⟨a, rfl⟩ := hx; obtain ⟨b, rfl⟩ := hy; exact ⟨a + b, (EReal.coe_add a b).symm⟩
theorem real_mul {x y : EReal} (hx : IsReal x) (hy : IsReal y) : IsReal (x * y) := by
  obtain ⟨a, rfl⟩ := hx; obtain ⟨b, rfl⟩ := hy; exact ⟨a * b, (EReal.coe_mul a b).symm⟩
theorem real_sum {n : ℕ} {f : Fin n → EReal} (h : ∀ k, IsReal (f k)) : IsReal (∑ k, f k) := by
  choose g hg using h
  refine ⟨∑ k, g k, ?_⟩
  rw [Finset.sum_congr rfl fun k _ => hg k]
  exact (map_sum (⟨⟨fun r : ℝ => (r : EReal), rfl⟩, EReal.coe_add⟩ : ℝ →+ EReal) g Finset.univ).symm

/-- What is nothing less itself is real. -/
theorem real_of_sub {x : EReal} (h : x - x = 0) : IsReal x := by
  induction x using EReal.rec with
  | bot => exact absurd h (by decide)
  | coe r => exact ⟨r, rfl⟩
  | top => exact absurd h (by decide)

theorem real_logistic {x : EReal} (hx : IsReal x) : IsReal (Ideal.logistic x) := by
  obtain ⟨r, rfl⟩ := hx
  have h : (1 + Real.exp (-r) : ℝ) ≠ 0 := by positivity
  refine ⟨1 * (1 / (1 + Real.exp (-r))), ?_⟩
  unfold Ideal.logistic
  rw [← EReal.coe_neg, Ideal.exp_coe, ← EReal.coe_one, ← EReal.coe_add, Ideal.div_coe h, ← EReal.coe_mul]

/-- A row's reciprocal root mean square. -/
theorem real_rr {n : ℕ} (x : (⟨2, ![n, 1024]⟩ : Shape).Idx → EReal) (h : ∀ i, IsReal (x i)) (p : Fin n) : IsReal (rr x p) := by
  have e1 : Ideal.ofBits FTy.f32 1149239296#32 = ((1024 : ℝ) : EReal) := by simp [Ideal.ofBits, Ideal.ieee, -EReal.coe_mul]; norm_num
  have e2 : Ideal.ofBits FTy.f32 897988541#32 = ((8796093 / 2 ^ 43 : ℝ) : EReal) := by simp [Ideal.ofBits, Ideal.ieee, -EReal.coe_mul]; norm_num
  choose g hg using h
  have hs : (∑ k : Fin 1024, x (ix2 p k) * x (ix2 p k)) = ((∑ k : Fin 1024, g (ix2 p k) * g (ix2 p k) : ℝ) : EReal) := by
    rw [Finset.sum_congr rfl fun k _ => by rw [hg (ix2 p k), ← EReal.coe_mul]]
    exact (map_sum (⟨⟨fun r : ℝ => (r : EReal), rfl⟩, EReal.coe_add⟩ : ℝ →+ EReal) (fun k : Fin 1024 => g (ix2 p k) * g (ix2 p k)) Finset.univ).symm
  have h0 : (0 : ℝ) ≤ ∑ k : Fin 1024, g (ix2 p k) * g (ix2 p k) := Finset.sum_nonneg fun k _ => mul_self_nonneg _
  have hp : (0 : ℝ) < (∑ k : Fin 1024, g (ix2 p k) * g (ix2 p k)) * (1 / 1024) + 8796093 / 2 ^ 43 := by positivity
  refine ⟨(Real.sqrt ((∑ k : Fin 1024, g (ix2 p k) * g (ix2 p k)) * (1 / 1024) + 8796093 / 2 ^ 43))⁻¹, ?_⟩
  unfold rr
  rw [hs, e1, e2, Ideal.div_coe (by norm_num : (1024 : ℝ) ≠ 0), ← EReal.coe_mul, ← EReal.coe_add, Ideal.rsqrt_coe, if_neg (not_lt.2 hp.le), if_neg hp.ne']

section
variable {a : Vec Ideal Cert.Kernel6Ideal.S8208x1024 .f32} {b : Vec Ideal Cert.Kernel6Ideal.S1x1024 .f32} {w : Vec Ideal Cert.Kernel6Ideal.S5632x1024 .bf16}
  {k : Vec Ideal Cert.Kernel6Ideal.S3x5632 .f32} (ha : ∀ i, IsReal (a i)) (hb : ∀ i, IsReal (b i)) (hw : ∀ i, IsReal (w i)) (hk : ∀ i, IsReal (k i))
include ha hb hw

theorem real_U (r : Fin 8208) (q : Fin 5632) : IsReal (U a b w r q) :=
  real_sum fun e => real_mul (real_mul (real_mul (ha _) (real_rr _ ha _)) (hb _)) (hw _)

theorem real_Z (r : ℕ) (hr : r < 8210) (q : Fin 5632) : IsReal (Z a b w r hr q) := by
  unfold Z
  split_ifs with h
  · exact real_zero
  · exact real_U ha hb hw _ q

include hk

/-- The convolution of real arrays is real. -/
theorem real_CV (r : Fin 8208) (q : Fin 5632) : IsReal (CV a b w k r q) :=
  real_add (real_add (real_mul (real_Z ha hb hw _ _ q) (hk _)) (real_mul (real_Z ha hb hw _ _ q) (hk _))) (real_mul (real_Z ha hb hw _ _ q) (hk _))
end

/-! ## The gate -/

/-- The gate's gradient, as the derivative of a product. -/
def gateR (d a v : EReal) : EReal :=
  d * v * Ideal.logistic a + a * (d * v) * (Ideal.logistic a * (1 - Ideal.logistic a))

/-- The two are one on real numbers. -/
theorem gate_eq {d a v : EReal} (hd : IsReal d) (ha : IsReal a) (hv : IsReal v) : gateR d a v = gateK d a v := by
  obtain ⟨s, hs⟩ := real_logistic ha
  obtain ⟨d, rfl⟩ := hd
  obtain ⟨a, rfl⟩ := ha
  obtain ⟨v, rfl⟩ := hv
  unfold gateR gateK
  rw [hs, ← EReal.coe_one]
  simp only [← EReal.coe_mul, ← EReal.coe_sub, ← EReal.coe_add]
  exact congrArg (fun r : ℝ => (r : EReal)) (by ring)

end Cert.Kernel5Ideal.BackFfn

end
-- ==== Proof.BackRef.lean ====
/- The reference of the feed-forward call's backward pass, one element at a time. -/
module

public import proofs.«01_k».proof.Proof.BackValue
public import proofs.«01_k».proof.Proof.BackGate
public import proofs.«01_k».proof.Proof.Gen.Reference5Ideal.Run

@[expose] public section

set_option maxRecDepth 16384

noncomputable section

namespace Cert.Reference5Ideal.BackFfn

open Cert.Reference5Ideal Cert.Reference5Ideal.Gen Cert.Reference5Ideal.Value
open Idealize.ShloMosaic Idealize.ShloMosaic.TcCoe Idealize.ShloMosaic.StableHlo Idealize.SL.Sem
open Cert.Kernel6Ideal.ForwardFfn (CV col)
open Cert.Reference6Ideal.ForwardFfn (rCV rCV_apply half0 half1 half0_apply half1_apply two two_apply)
open Cert.Kernel5Ideal.BackFfn (DA gateR valK)

section
variable (x : FVec Ideal S8208x5632 .f32) (dh : FVec Ideal S8208x1024 .f32) (d : FVec Ideal S2816x1024 .bf16) (k : FVec Ideal S3x5632 .f32)

/-- The logistic function of an array, -/
def rSig (y : FVec Ideal S8208x2816 .f32) : FVec Ideal S8208x2816 .f32 :=
  Host.divf (broadcastInDim S8208x2816 ![] bcast_S_S8208x2816 (constant S_ .f32 0x3F800000#32))
    (addf (broadcastInDim S8208x2816 ![] bcast_S_S8208x2816 (constant S_ .f32 0x3F800000#32)) (Host.exp (Host.negf y)))
/-- the activation's gradient, -/
def rDA : FVec Ideal S8208x2816 .f32 :=
  Host.dotGeneral dot_S8208x1024_S2816x1024_S8208x2816_1_1_0_0_n_n none dh (extf .f32 d bitsLt_bf16_f32)
/-- the value's, -/
def rVal : FVec Ideal S8208x2816 .f32 := mulf (mulf (half0 x) (rSig (half0 x))) (rDA dh d)
/-- the gate's, -/
def rGate : FVec Ideal S8208x2816 .f32 :=
  addf (mulf (mulf (rDA dh d) (half1 x)) (rSig (half0 x))) (mulf (mulf (half0 x) (mulf (rDA dh d) (half1 x)))
    (mulf (rSig (half0 x)) (subf (broadcastInDim S8208x2816 ![] bcast_S_S8208x2816 (constant S_ .f32 0x3F800000#32)) (rSig (half0 x)))))
/-- both beside each other, -/
def rG : FVec Ideal S8208x5632 .f32 :=
  addf (pad S8208x5632 ![0, 2816] ![0, 0] ![0, 0] (rVal x dh d) (constant S_ .f32 0x00000000#32) pads_S8208x2816_S8208x5632_000_281600 h_S_)
    (pad S8208x5632 ![0, 0] ![0, 2816] ![0, 0] (rGate x dh d) (constant S_ .f32 0x00000000#32) pads_S8208x2816_S8208x5632_000_028160 h_S_)
/-- and the taps back along the rows. -/
def rDU (g : FVec Ideal S8208x5632 .f32) : FVec Ideal S8208x5632 .f32 :=
  extractStridedSlice S8208x5632 ![2, 0]
    (addf (addf (pad S8210x5632 ![2, 0] ![0, 0] ![0, 0] (mulf g (broadcastInDim S8208x5632 ![0, 1] bcast_S1x5632_S8208x5632_0_1 (extractStridedSlice S1x5632 ![2, 0] k slices_S3x5632_S1x5632_2_0)))
        (constant S_ .f32 0x00000000#32) pads_S8208x5632_S8210x5632_200_000 h_S_)
      (pad S8210x5632 ![1, 0] ![1, 0] ![0, 0] (mulf g (broadcastInDim S8208x5632 ![0, 1] bcast_S1x5632_S8208x5632_0_1 (extractStridedSlice S1x5632 ![1, 0] k slices_S3x5632_S1x5632_1_0)))
        (constant S_ .f32 0x00000000#32) pads_S8208x5632_S8210x5632_110_000 h_S_))
      (pad S8210x5632 ![0, 0] ![2, 0] ![0, 0] (mulf g (broadcastInDim S8208x5632 ![0, 1] bcast_S1x5632_S8208x5632_0_1 (extractStridedSlice S1x5632 ![0, 0] k slices_S3x5632_S1x5632_0_0)))
        (constant S_ .f32 0x00000000#32) pads_S8208x5632_S8210x5632_020_000 h_S_))
    slices_S8210x5632_S8208x5632_2_0

theorem rSig_apply (y : FVec Ideal S8208x2816 .f32) (r : Fin 8208) (q : Fin 2816) : rSig y (ix2 r q) = Ideal.logistic (y (ix2 r q)) := by
  unfold rSig Ideal.logistic
  pointwise

theorem rDA_apply (r : Fin 8208) (q : Fin 2816) : rDA dh d (ix2 r q) = DA dh d r q := by
  unfold rDA DA
  pointwise

theorem half0_col (r : Fin 8208) (q : Fin 2816) : half0 x (ix2 r q) = x (ix2 r (col 0 q)) :=
  (half0_apply x r q).trans (congrArg (fun q => x (ix2 r q)) (Fin.ext (by show q.val = 2816 * 0 + q.val; omega)))
theorem half1_col (r : Fin 8208) (q : Fin 2816) : half1 x (ix2 r q) = x (ix2 r (col 1 q)) := half1_apply x r q

theorem rVal_apply (r : Fin 8208) (q : Fin 2816) :
    rVal x dh d (ix2 r q) = x (ix2 r (col 0 q)) * Ideal.logistic (x (ix2 r (col 0 q))) * DA dh d r q := by
  unfold rVal
  pointwise
  rw [rSig_apply, rDA_apply, half0_col]

theorem rGate_apply (r : Fin 8208) (q : Fin 2816) :
    rGate x dh d (ix2 r q) = gateR (DA dh d r q) (x (ix2 r (col 0 q))) (x (ix2 r (col 1 q))) := by
  unfold rGate gateR
  pointwise
  rw [rSig_apply, rDA_apply, half0_col, half1_col]

theorem rG_gate (r : Fin 8208) (q : Fin 2816) : rG x dh d (ix2 r (col 0 q)) = gateR (DA dh d r q) (x (ix2 r (col 0 q))) (x (ix2 r (col 1 q))) := by
  refine Eq.trans ?_ (rGate_apply x dh d r q)
  unfold rG
  pointwise
  rw [dif_neg (by show ¬(2816 ≤ 2816 * 0 + q.val ∧ _); omega), dif_pos (by show 2816 * 0 + q.val < 2816; omega)]
  refine (zero_add (M := EReal) _).trans (congrArg (fun q => rGate x dh d (ix2 r q)) (Fin.ext (by show 2816 * 0 + q.val = q.val; omega)))

theorem rG_val (r : Fin 8208) (q : Fin 2816) : rG x dh d (ix2 r (col 1 q)) = x (ix2 r (col 0 q)) * Ideal.logistic (x (ix2 r (col 0 q))) * DA dh d r q := by
  refine Eq.trans ?_ (rVal_apply x dh d r q)
  unfold rG
  pointwise
  rw [dif_pos (by show 2816 ≤ 2816 * 1 + q.val ∧ 2816 * 1 + q.val - 2816 < 2816; omega), dif_neg (by show ¬2816 * 1 + q.val < 2816; omega)]
  refine (add_zero (M := EReal) _).trans (congrArg (fun q => rVal x dh d (ix2 r q)) (Fin.ext (by show 2816 * 1 + q.val - 2816 = q.val; omega)))

/-- The rows at and below one, with rows of zeros past the last. -/
def below (g : FVec Ideal S8208x5632 .f32) (r : ℕ) (q : Fin 5632) : EReal := if h : r < 8208 then g (ix2 ⟨r, h⟩ q) else 0

theorem rDU_apply (g : FVec Ideal S8208x5632 .f32) (r : Fin 8208) (q : Fin 5632) : rDU k g (ix2 r q)
    = (below g r.val q * k (ix2 2 q) + below g (r.val + 1) q * k (ix2 1 q) + below g (r.val + 2) q * k (ix2 0 q) : EReal) := by
  unfold rDU below
  pointwise
  refine congrArg₂ (α := EReal) (β := EReal) (· + ·) (congrArg₂ (α := EReal) (β := EReal) (· + ·) rfl ?_) ?_
  · by_cases h : r.val + 1 < 8208
    · rw [dif_pos h, dif_pos (by omega)]
      exact congrArg (fun p => (g (ix2 p q) * k (ix2 1 q) : EReal)) (Fin.ext (by show 2 + r.val - 1 = r.val + 1; omega))
    · rw [dif_neg h, dif_neg (by omega)]
      exact (zero_mul (M₀ := EReal) _).symm
  · by_cases h : r.val + 2 < 8208
    · rw [dif_pos h, dif_pos (by omega)]
      exact congrArg (fun p => (g (ix2 p q) * k (ix2 0 q) : EReal)) (Fin.ext (by show 2 + r.val = r.val + 2; omega))
    · rw [dif_neg h, dif_neg (by omega)]
      exact (zero_mul (M₀ := EReal) _).symm
end

end Cert.Reference5Ideal.BackFfn

end
-- ==== Proof.BackFfn.lean ====
/- The backward pass of the fused feed-forward call gives its reference's gradient, on real arrays. -/
module

public import proofs.«01_k».proof.Proof.BackRef
public import proofs.«01_k».proof.Proof.ForwardFfn
public import proofs.«01_k».proof.Defs

@[expose] public section

set_option maxRecDepth 16384

noncomputable section

/-- The side conditions of the precondition's operations. -/
theorem Cert.Pre_finite.facts : Cert.Pre_finite.Facts where
  bcast_S_S8208x1024 := by decide
  bcast_S_S1x1024 := by decide
  bcast_S_S5632x1024 := by decide
  bcast_S_S3x5632 := by decide
  bcast_S_S2816x1024 := by decide

namespace Cert.Reference5Ideal.BackFfn

open Cert.Reference5Ideal Cert.Reference5Ideal.Gen Cert.Reference5Ideal.Value
open Idealize.ShloMosaic Idealize.ShloMosaic.TcCoe Idealize.ShloMosaic.StableHlo Idealize.SL.Sem
open Cert.Kernel6Ideal.ForwardFfn (CV col)
open Cert.Reference6Ideal.ForwardFfn (rCV rCV_apply two two_apply)
open Cert.Kernel5Ideal.BackFfn (IsReal DA gateR gateK valK G DU DUX real_CV real_sum real_mul gate_eq)

section
variable {dh a : FVec Ideal S8208x1024 .f32} {b : FVec Ideal S1x1024 .f32} {w : FVec Ideal S5632x1024 .bf16}
  {k : FVec Ideal S3x5632 .f32} {d : FVec Ideal S2816x1024 .bf16}
  (hdh : ∀ i, IsReal (dh i)) (ha : ∀ i, IsReal (a i)) (hb : ∀ i, IsReal (b i)) (hw : ∀ i, IsReal (w i)) (hk : ∀ i, IsReal (k i)) (hd : ∀ i, IsReal (d i))
include hdh ha hb hw hk hd

/-- The gradient at the convolution's output. -/
theorem below_eq (h : Fin 2) (r : ℕ) (q : Fin 2816) : below (rG (rCV a b w k) dh d) r (col h q) = G dh a b w k d h.val r q := by
  unfold below G
  by_cases hr : r < 8208
  · rw [dif_pos hr, dif_pos hr]
    match h with
    | ⟨0, _⟩ =>
      refine (rG_gate (rCV a b w k) dh d ⟨r, hr⟩ q).trans ?_
      rw [rCV_apply, rCV_apply, if_pos rfl]
      exact gate_eq (real_sum fun e => real_mul (hdh _) (hd _)) (real_CV ha hb hw hk _ _) (real_CV ha hb hw hk _ _)
    | ⟨1, _⟩ =>
      refine (rG_val (rCV a b w k) dh d ⟨r, hr⟩ q).trans ?_
      rw [rCV_apply, if_neg Nat.one_ne_zero]
      exact mul_comm (G := EReal) _ _
  · rw [dif_neg hr, dif_neg hr]

/-- The gradient of the up projection, an element, -/
theorem du_at (h : Fin 2) (r : Fin 8208) (q : Fin 2816) : rDU k (rG (rCV a b w k) dh d) (ix2 r (col h q)) = DU dh a b w k d h r q := by
  refine (rDU_apply k _ r (col h q)).trans ?_
  rw [below_eq hdh ha hb hw hk hd, below_eq hdh ha hb hw hk hd, below_eq hdh ha hb hw hk hd]
  unfold DU
  rw [mul_comm (G := EReal) (G dh a b w k d h.val r.val q), mul_comm (G := EReal) (G dh a b w k d h.val (r.val + 1) q),
    mul_comm (G := EReal) (G dh a b w k d h.val (r.val + 2) q)]
  generalize (k (ix2 0 (col h q)) * G dh a b w k d h.val (r.val + 2) q : EReal) = x
  generalize (k (ix2 1 (col h q)) * G dh a b w k d h.val (r.val + 1) q : EReal) = y
  generalize (k (ix2 2 (col h q)) * G dh a b w k d h.val r.val q : EReal) = z
  rw [add_comm (G := EReal) z y, add_comm (G := EReal) (y + z) x, ← add_assoc (G := EReal)]

/-- and all of it. -/
theorem du_eq : two (rDU k (rG (rCV a b w k) dh d)) = DUX dh a b w k d := by
  funext i
  have hi : ix3 (i 0) (i 1) (i 2) = i := by funext x; match x with
    | ⟨0, _⟩ => rfl
    | ⟨1, _⟩ => rfl
    | ⟨2, _⟩ => rfl
  exact (congrArg (two (rDU k (rG (rCV a b w k) dh d))) hi.symm).trans
    ((two_apply _ (i 0) (i 1) (i 2)).trans (du_at hdh ha hb hw hk hd (i 0) (i 1) (i 2)))
end

/-- What is nothing less itself, by the comparison of an array with zeros, is real. -/
theorem real_of_pre {s : Shape} {φ : FTy} {x z : FVec Ideal s φ} (hz : ∀ i, z i = (0 : EReal))
    (h : cmpf .oeq (subf x x) z = fun _ => 1#1) (i : s.Idx) : IsReal (x i) := by
  have e := congrFun h i
  refine Cert.Kernel5Ideal.BackFfn.real_of_sub ?_
  by_contra hne
  have : Ideal.cmp .oeq (x i - x i) (z i) = 0#1 := by
    rw [hz]
    simp [Ideal.cmp, hne]
  exact absurd (this.symm.trans e) (by decide)

end Cert.Reference5Ideal.BackFfn

namespace Cert.Kernel5Ideal.BackFfn

open Idealize.ShloMosaic Idealize.ShloMosaic.TcCoe Idealize.SL.Sem
open Cert.Reference5Ideal.BackFfn (real_of_pre du_eq rDU)
open Cert.Reference6Ideal.ForwardFfn (rCV two)

attribute [local instance] Cert.Pre_finite.facts

/-- Arrays that are nothing less themselves are real. -/
theorem real_args {m : (ℓ : Loc Cert.Kernel5Ideal.nD Cert.Kernel5Ideal.τ Cert.Kernel5Ideal.sig) → Buf (Elt Ideal) ℓ} (h : Cert.Pre_Kernel5Ideal_finite m) (c : Dev Cert.Kernel5Ideal.nD) :
    (∀ i, IsReal (DH m c i)) ∧ (∀ i, IsReal (A m c i)) ∧ (∀ i, IsReal (B m c i)) ∧ (∀ i, IsReal (C m c i)) ∧ (∀ i, IsReal (K m c i)) ∧ ∀ i, IsReal (W m c i) := by
  have h := h c
  exact ⟨real_of_pre (fun i => Ideal.ofBits_zero_f32) h.1, real_of_pre (fun i => Ideal.ofBits_zero_f32) h.2.1, real_of_pre (fun i => Ideal.ofBits_zero_f32) h.2.2.1,
    real_of_pre (fun i => Ideal.ofBits_zero_bf16) h.2.2.2.1, real_of_pre (fun i => Ideal.ofBits_zero_f32) h.2.2.2.2.1, real_of_pre (fun i => Ideal.ofBits_zero_bf16) h.2.2.2.2.2⟩

/-- The kernel's gradient is the reference's. -/
theorem algebraic : Cert.algebraic_Kernel5Ideal_Reference5Ideal_pre_finite := by
  intro m ρ m' ρ' hpre hagree
  refine ⟨_, run_arrays m ρ, ?_⟩
  refine (θ_run Cert.Reference5Ideal.defs _ _).mono (fun _ h c => ⟨?_, (h c).2⟩) (Cert.Reference5Ideal.Value.run (F := Ideal) m' ρ')
  obtain ⟨h0, h1, h2, h3, h4, h5⟩ := real_args hpre c
  refine (h c).1.trans ((show _ = two (rDU (m' ((c.tc : Thread Cert.Reference5Ideal.nD Cert.Reference5Ideal.τ).loc Cert.Reference5Ideal.main_arg4)) (Cert.Reference5Ideal.BackFfn.rG (rCV (m' ((c.tc : Thread Cert.Reference5Ideal.nD Cert.Reference5Ideal.τ).loc Cert.Reference5Ideal.main_arg1))
    (m' ((c.tc : Thread Cert.Reference5Ideal.nD Cert.Reference5Ideal.τ).loc Cert.Reference5Ideal.main_arg2)) (m' ((c.tc : Thread Cert.Reference5Ideal.nD Cert.Reference5Ideal.τ).loc Cert.Reference5Ideal.main_arg3)) (m' ((c.tc : Thread Cert.Reference5Ideal.nD Cert.Reference5Ideal.τ).loc Cert.Reference5Ideal.main_arg4)))
    (m' ((c.tc : Thread Cert.Reference5Ideal.nD Cert.Reference5Ideal.τ).loc Cert.Reference5Ideal.main_arg0)) (m' ((c.tc : Thread Cert.Reference5Ideal.nD Cert.Reference5Ideal.τ).loc Cert.Reference5Ideal.main_arg5)))) from rfl).trans ?_)
  rw [(hagree c).1, (hagree c).2.1, (hagree c).2.2.1, (hagree c).2.2.2.1, (hagree c).2.2.2.2.1, (hagree c).2.2.2.2.2]
  exact du_eq h0 h1 h2 h3 h4 h5

end Cert.Kernel5Ideal.BackFfn

end
-- ==== Proof.BackWord.lean ====
/- The feed-forward call's backward pass over the machine's words: the program is its ideal program's text, so it runs as that does. -/
module

public import proofs.«01_k».proof.Proof.Gen.Kernel5
public import proofs.«01_k».proof.Proof.BackFrame

@[expose] public section

set_option maxRecDepth 100000
set_option maxHeartbeats 4000000

noncomputable section

namespace Cert.Kernel5.BackFfn

open Idealize.ShloMosaic Idealize.ShloMosaic.TcCoe Idealize.SL.Sem

variable {F : FTy → Type} [FloatOps F]

attribute [local instance] Cert.Kernel5.Gen.facts Cert.Kernel5Ideal.Gen.facts

/-- The two programs call the same body, -/
theorem bodies : Cert.Kernel5.defs₀ (F := F) = Cert.Kernel5Ideal.defs₀ (F := F) :=
  congrArg Defs.onTc (funext fun l => funext fun x => match l, x with
    | 0, (_, _) => rfl
    | ⟨_ + 1, h⟩, _ => absurd h (Nat.not_lt.2 (Nat.le_add_left _ _)))

/-- in the same pipeline. -/
theorem pipelines : Cert.Kernel5.defs (F := F) = Cert.Kernel5Ideal.defs (F := F) := congrArg (Pipeline.defs Cert.Kernel5.pcfgs) bodies

/-- The arguments end unchanged and every counter is at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) := by
  rw [pipelines]
  exact Cert.Kernel5Ideal.BackFfn.frame (F := F) m ρ

end Cert.Kernel5.BackFfn

end
-- ==== Proof.FfnWord.lean ====
/- The feed-forward call over the machine's words: the program is its ideal program's text, so it runs as that does. -/
module

public import proofs.«01_k».proof.Proof.Gen.Kernel6
public import proofs.«01_k».proof.Proof.FfnFrame

@[expose] public section

set_option maxRecDepth 100000
set_option maxHeartbeats 4000000

noncomputable section

namespace Cert.Kernel6.ForwardFfn

open Idealize.ShloMosaic Idealize.ShloMosaic.TcCoe Idealize.SL.Sem

variable {F : FTy → Type} [FloatOps F]

attribute [local instance] Cert.Kernel6.Gen.facts Cert.Kernel6Ideal.Gen.facts

/-- The two programs call the same body, -/
theorem bodies : Cert.Kernel6.defs₀ (F := F) = Cert.Kernel6Ideal.defs₀ (F := F) :=
  congrArg Defs.onTc (funext fun l => funext fun x => match l, x with
    | 0, (_, _) => rfl
    | ⟨_ + 1, h⟩, _ => absurd h (Nat.not_lt.2 (Nat.le_add_left _ _)))

/-- in the same pipeline. -/
theorem pipelines : Cert.Kernel6.defs (F := F) = Cert.Kernel6Ideal.defs (F := F) := congrArg (Pipeline.defs Cert.Kernel6.pcfgs) bodies

/-- The arguments end unchanged and every counter is at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) := by
  rw [pipelines]
  exact Cert.Kernel6Ideal.ForwardFfn.frame (F := F) m ρ

end Cert.Kernel6.ForwardFfn

end
-- ==== Proof.BackOut.lean ====
/-
  The gradient of the output projection with respect to its argument: each grid point multiplies its block of rows by
  the whole transposed weight, and the blocks tile the result.
-/
module

public import proofs.«01_k».proof.Proof.Gen.Kernel7Ideal.Value
public import proofs.«01_k».proof.Proof.Gen.Reference7Ideal.Run
public import Idealize.ShloMosaic.Lib.Pipeline.ValueKit
public import Idealize.ShloMosaic.Lib.Pipeline.ReadBack
public import Idealize.ShloMosaic.Lib.Pointwise
public import proofs.«01_k».proof.Defs

@[expose] public section

set_option maxRecDepth 16384

noncomputable section

namespace Cert.Kernel7Ideal.BackOut

open Cert.Kernel7Ideal Cert.Kernel7Ideal.Gen Idealize.ShloMosaic Idealize.ShloMosaic.TcCoe Idealize.SL.Sem
open Idealize.ShloMosaic.Pipeline (Dat)

variable (m : (ℓ : Loc nD τ sig) → Buf (Elt Ideal) ℓ)

/-- The block product at an element. -/
theorem pay1_apply (x : Vec Ideal S912x1024 .f32) (w : Vec Ideal S1024x1024 .bf16) (j : S912x1024.Idx) :
    k0_pay1 x w j = ∑ k : Fin 1024, (x (ix2 (j 0) k) * w (ix2 (j 1) k) : EReal) := by
  unfold k0_pay1
  pointwise

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel

/-- The cotangent of the projection's result. -/
def A (c : Dev nD) : Vec Ideal S8208x1024 .f32 := m ((c : Thread nD τ).loc main_arg0)
/-- The weight. -/
def B (c : Dev nD) : Vec Ideal S1024x1024 .bf16 := m ((c : Thread nD τ).loc main_arg1)

theorem blk0 (c : Dev nD) (t : Fin cfg0.N) (p : Fin 912) (k : Fin 1024) (i : S8208x1024.Idx)
    (h0 : (i 0).val = t.val * 912 + p.val) (h1 : (i 1).val = k.val) :
    (iblk m c 0 t : Vec Ideal S912x1024 .f32) (ix2 p k) = A m c i := by
  blk_simp [iblk]
  show A m c _ = A m c i
  congr 1
  funext a; apply Fin.ext
  match a with
  | ⟨0, _⟩ => show win0_0.index t (0 : Fin 2) * 912 + 1 * p.val = (i 0).val; rw [idx0, h0]; simp
  | ⟨1, _⟩ => show win0_0.index t (1 : Fin 2) * 1024 + 1 * k.val = (i 1).val; rw [idx0, h1]; simp

theorem blk1 (c : Dev nD) (t : Fin cfg0.N) (p k : Fin 1024) (i : S1024x1024.Idx)
    (h0 : (i 0).val = p.val) (h1 : (i 1).val = k.val) :
    (iblk m c 1 t : Vec Ideal S1024x1024 .bf16) (ix2 p k) = B m c i := by
  blk_simp [iblk]
  show B m c _ = B m c i
  congr 1
  funext a; apply Fin.ext
  match a with
  | ⟨0, _⟩ => show win0_1.index t (0 : Fin 2) * 1024 + 1 * p.val = (i 0).val; rw [idx1, h0]; simp
  | ⟨1, _⟩ => show win0_1.index t (1 : Fin 2) * 1024 + 1 * k.val = (i 1).val; rw [idx1, h1]; simp

/-- The gradient, as a function of the two arrays. -/
def G (a : Vec Ideal S8208x1024 .f32) (b : Vec Ideal S1024x1024 .bf16) : Vec Ideal S8208x1024 .bf16 := fun i =>
  ((∑ k : Fin 1024, a (ix2 (i 0) k) * b (ix2 (i 1) k) : EReal))

/-- The kernel's result array after the run. -/
theorem arr (c : Dev nD) : (dats m 0 c).arrAt 2 cfg0.N = G (A m c) (B m c) := by
  refine (dats m 0 c).arrAt_eq_of_covers 2 _ (by decide +kernel) fun t hf y => ?_
  blk_simp [idx2]
  rw [after0_2]
  frame_out
  rw [pay1_apply]
  have e0 : (((View.whole main_v0).slice (win0_2.rect t)).emb y 0).val = win0_2.index t (0 : Fin 2) * 912 + 1 * (y 0).val := rfl
  have e1 : (((View.whole main_v0).slice (win0_2.rect t)).emb y 1).val = win0_2.index t (1 : Fin 2) * 1024 + 1 * (y 1).val := rfl
  rw [idx2] at e0 e1
  replace e0 : (((View.whole main_v0).slice (win0_2.rect t)).emb y 0).val = t.val * 912 + (y 0).val := by simpa using e0
  replace e1 : (((View.whole main_v0).slice (win0_2.rect t)).emb y 1).val = (y 1).val := by simpa using e1
  refine Finset.sum_congr (M := EReal) rfl fun k _ => ?_
  exact congrArg₂ (· * ·) (blk0 m c t _ k _ e0 rfl) (blk1 m c t _ k _ e1 rfl)

/-- The kernel's gradient is the reference's. -/
theorem algebraic : Cert.algebraic_Kernel7Ideal_Reference7Ideal := by
  intro m ρ m' ρ' _ hagree
  refine ⟨_, Cert.Kernel7Ideal.Value.run_blocks (F := Ideal) m ρ, ?_⟩
  refine (θ_run Cert.Reference7Ideal.defs _ _).mono (fun _ h c => ⟨?_, (h c).2⟩) (Cert.Reference7Ideal.Value.run (F := Ideal) m' ρ')
  rw [(h c).1, arr]
  unfold G A B
  funext i
  pointwise
  rw [(hagree c).1, (hagree c).2]

end Cert.Kernel7Ideal.BackOut

end
-- ==== Proof.ForwardIn.lean ====
/-
  The input projection with its normalization: each grid point normalizes its block of rows, keeps it, and multiplies it
  by the whole transposed weight; the blocks of both results tile them.
-/
module

public import proofs.«01_k».proof.Proof.Gen.Kernel8Ideal.Value
public import proofs.«01_k».proof.Proof.Gen.Reference8Ideal.Run
public import Idealize.ShloMosaic.Lib.Pipeline.ValueKit
public import Idealize.ShloMosaic.Lib.Pipeline.ReadBack
public import Idealize.ShloMosaic.Lib.Pointwise
public import proofs.«01_k».proof.Defs

@[expose] public section

set_option maxRecDepth 16384

noncomputable section

namespace Cert.Kernel8Ideal.ForwardIn

open Cert.Kernel8Ideal Cert.Kernel8Ideal.Gen Idealize.ShloMosaic Idealize.ShloMosaic.TcCoe Idealize.SL.Sem
open Idealize.ShloMosaic.Pipeline (Dat)

variable (m : (ℓ : Loc nD τ sig) → Buf (Elt Ideal) ℓ)

/-- One over the root mean square of a row, the small constant added under the root. -/
def rr {n : ℕ} (x : (⟨2, ![n, 1024]⟩ : Shape).Idx → EReal) (p : Fin n) : EReal :=
  Ideal.rsqrt (Ideal.div (∑ k : Fin 1024, x (ix2 p k) * x (ix2 p k)) (Ideal.ofBits FTy.f32 1149239296#32) + Ideal.ofBits FTy.f32 897988541#32)

/-- The normalized block at an element. -/
theorem pay1_apply (x : Vec Ideal S912x1024 .f32) (g : Vec Ideal S1x1024 .f32) (j : S912x1024.Idx) :
    k0_pay1 x g j = (x j * rr (n := 912) x (j 0) * g (ix2 0 (j 1)) : EReal) := by
  unfold rr k0_pay1
  pointwise

/-- The block product at an element. -/
theorem pay2_apply (x : Vec Ideal S912x1024 .bf16) (w : Vec Ideal S1536x1024 .bf16) (j : S912x1536.Idx) :
    k0_pay2 x w j = ∑ k : Fin 1024, (x (ix2 (j 0) k) * w (ix2 (j 1) k) : EReal) := by
  unfold k0_pay2
  pointwise

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![t.val, 0] := by decide +kernel
theorem idx4 : ∀ t : Fin grid0.N, win0_4.index t = ![t.val, 0] := by decide +kernel

/-- The rows to normalize. -/
def A (c : Dev nD) : Vec Ideal S8208x1024 .f32 := m ((c : Thread nD τ).loc main_arg0)
/-- The scale. -/
def B (c : Dev nD) : Vec Ideal S1x1024 .f32 := m ((c : Thread nD τ).loc main_arg1)
/-- The weight. -/
def C (c : Dev nD) : Vec Ideal S1536x1024 .bf16 := m ((c : Thread nD τ).loc main_arg2)

theorem blk0 (c : Dev nD) (t : Fin cfg0.N) (y : S912x1024.Idx) (i : S8208x1024.Idx)
    (h0 : (i 0).val = t.val * 912 + (y 0).val) (h1 : (i 1).val = (y 1).val) :
    (iblk m c 0 t : Vec Ideal S912x1024 .f32) y = A m c i := by
  blk_simp [iblk]
  show A m c _ = A m c i
  congr 1
  funext a; apply Fin.ext
  match a with
  | ⟨0, _⟩ => show win0_0.index t (0 : Fin 2) * 912 + 1 * (y 0).val = (i 0).val; rw [idx0, h0]; simp
  | ⟨1, _⟩ => show win0_0.index t (1 : Fin 2) * 1024 + 1 * (y 1).val = (i 1).val; rw [idx0, h1]; simp

theorem blk1 (c : Dev nD) (t : Fin cfg0.N) (y : S1x1024.Idx) : (iblk m c 1 t : Vec Ideal S1x1024 .f32) y = B m c y := by
  blk_simp [iblk]
  show B m c _ = B m c y
  congr 1
  funext a; apply Fin.ext
  match a with
  | ⟨0, _⟩ => show win0_1.index t (0 : Fin 2) * 1 + 1 * (y 0).val = (y 0).val; rw [idx1]; simp
  | ⟨1, _⟩ => show win0_1.index t (1 : Fin 2) * 1024 + 1 * (y 1).val = (y 1).val; rw [idx1]; simp

theorem blk2 (c : Dev nD) (t : Fin cfg0.N) (y : S1536x1024.Idx) : (iblk m c 2 t : Vec Ideal S1536x1024 .bf16) y = C m c y := by
  blk_simp [iblk]
  show C m c _ = C m c y
  congr 1
  funext a; apply Fin.ext
  match a with
  | ⟨0, _⟩ => show win0_2.index t (0 : Fin 2) * 1536 + 1 * (y 0).val = (y 0).val; rw [idx2]; simp
  | ⟨1, _⟩ => show win0_2.index t (1 : Fin 2) * 1024 + 1 * (y 1).val = (y 1).val; rw [idx2]; simp

/-- The normalized rows, as a function of the arrays. -/
def N (a : Vec Ideal S8208x1024 .f32) (b : Vec Ideal S1x1024 .f32) : Vec Ideal S8208x1024 .bf16 := fun i =>
  (a i * rr (n := 8208) a (i 0) * b (ix2 0 (i 1)) : EReal)

/-- The product, as a function of the arrays. -/
def G (a : Vec Ideal S8208x1024 .f32) (b : Vec Ideal S1x1024 .f32) (w : Vec Ideal S1536x1024 .bf16) : Vec Ideal S8208x1536 .f32 := fun i =>
  (∑ k : Fin 1024, N a b (ix2 (i 0) k) * w (ix2 (i 1) k) : EReal)

/-- A row of a block is a row of the array, and so is its mean square. -/
theorem rr_blk (c : Dev nD) (t : Fin cfg0.N) (p : Fin 912) (r : Fin 8208) (h : r.val = t.val * 912 + p.val) :
    rr (n := 912) (iblk m c 0 t : Vec Ideal S912x1024 .f32) p = rr (n := 8208) (A m c) r := by
  unfold rr
  rw [Finset.sum_congr rfl fun k _ => congrArg₂ (α := EReal) (β := EReal) (· * ·) (blk0 m c t (ix2 p k) (ix2 r k) h rfl) (blk0 m c t (ix2 p k) (ix2 r k) h rfl)]

/-- The normalized block is the normalized rows' block. -/
theorem pay1_blk (c : Dev nD) (t : Fin cfg0.N) (y : S912x1024.Idx) (i : S8208x1024.Idx)
    (h0 : (i 0).val = t.val * 912 + (y 0).val) (h1 : (i 1).val = (y 1).val) :
    k0_pay1 (iblk m c 0 t : Vec Ideal S912x1024 .f32) (iblk m c 1 t) y = N (A m c) (B m c) i := by
  rw [pay1_apply]
  exact congrArg₂ (α := EReal) (β := EReal) (· * ·)
    (congrArg₂ (α := EReal) (β := EReal) (· * ·) (blk0 m c t y i h0 h1) (rr_blk m c t (y 0) (i 0) h0))
    ((blk1 m c t _).trans (congrArg (fun q : Fin 1024 => B m c (ix2 0 q)) (Fin.ext h1.symm)))

/-- The kernel's normalized rows after the run. -/
theorem arrN (c : Dev nD) : (dats m 0 c).arrAt 4 cfg0.N = N (A m c) (B m c) := by
  refine (dats m 0 c).arrAt_eq_of_covers 4 _ (by decide +kernel) fun t hf y => ?_
  blk_simp [idx4]
  rw [after0_4]
  simp only [outsAt0]
  frame_out
  have e0 : (((View.whole main_v0_1).slice (win0_4.rect t)).emb y 0).val = win0_4.index t (0 : Fin 2) * 912 + 1 * (y 0).val := rfl
  have e1 : (((View.whole main_v0_1).slice (win0_4.rect t)).emb y 1).val = win0_4.index t (1 : Fin 2) * 1024 + 1 * (y 1).val := rfl
  rw [idx4] at e0 e1
  exact pay1_blk m c t y _ (by simpa using e0) (by simpa using e1)

/-- The kernel's product after the run. -/
theorem arrG (c : Dev nD) : (dats m 0 c).arrAt 3 cfg0.N = G (A m c) (B m c) (C m c) := by
  refine (dats m 0 c).arrAt_eq_of_covers 3 _ (by decide +kernel) fun t hf y => ?_
  blk_simp [idx3]
  rw [after0_3]
  simp only [outsAt0]
  frame_out
  have e0 : (((View.whole main_v0_0).slice (win0_3.rect t)).emb y 0).val = win0_3.index t (0 : Fin 2) * 912 + 1 * (y 0).val := rfl
  have e1 : (((View.whole main_v0_0).slice (win0_3.rect t)).emb y 1).val = win0_3.index t (1 : Fin 2) * 1536 + 1 * (y 1).val := rfl
  rw [idx3] at e0 e1
  replace e0 : (((View.whole main_v0_0).slice (win0_3.rect t)).emb y 0).val = t.val * 912 + (y 0).val := by simpa using e0
  replace e1 : (((View.whole main_v0_0).slice (win0_3.rect t)).emb y 1).val = (y 1).val := by simpa using e1
  rw [pay2_apply]
  refine Finset.sum_congr (M := EReal) rfl fun k _ => congrArg₂ (α := EReal) (β := EReal) (· * ·)
    (pay1_blk m c t _ _ e0 rfl) ((blk2 m c t _).trans (congrArg (fun q : Fin 1536 => C m c (ix2 q k)) (Fin.ext e1.symm)))

/-- The kernel's results are the reference's. -/
theorem algebraic : Cert.algebraic_Kernel8Ideal_Reference8Ideal := by
  intro m ρ m' ρ' _ hagree
  refine ⟨_, _, Cert.Kernel8Ideal.Value.run_blocks (F := Ideal) m ρ, ?_⟩
  refine (θ_run Cert.Reference8Ideal.defs _ _).mono (fun _ h c => ⟨?_, ?_, (h c).2.2⟩) (Cert.Reference8Ideal.Value.run (F := Ideal) m' ρ')
  · rw [(h c).1, arrG]
    unfold G N A B C rr
    funext i
    pointwise
    rw [(hagree c).1, (hagree c).2.1, (hagree c).2.2]
  · rw [(h c).2.1, arrN]
    unfold N A B rr
    funext i
    pointwise
    rw [(hagree c).1, (hagree c).2.1]

end Cert.Kernel8Ideal.ForwardIn

end
-- ==== Proof.ForwardOut.lean ====
/-
  The output projection with its residual: each grid point multiplies its block of rows by the whole weight and adds the
  residual's block, and the blocks tile the result.
-/
module

public import proofs.«01_k».proof.Proof.Gen.Kernel9Ideal.Value
public import proofs.«01_k».proof.Proof.Gen.Reference9Ideal.Run
public import Idealize.ShloMosaic.Lib.Pipeline.ValueKit
public import Idealize.ShloMosaic.Lib.Pipeline.ReadBack
public import Idealize.ShloMosaic.Lib.Pointwise
public import proofs.«01_k».proof.Defs

@[expose] public section

set_option maxRecDepth 16384

noncomputable section

namespace Cert.Kernel9Ideal.ForwardOut

open Cert.Kernel9Ideal Cert.Kernel9Ideal.Gen Idealize.ShloMosaic Idealize.ShloMosaic.TcCoe Idealize.SL.Sem
open Idealize.ShloMosaic.Pipeline (Dat)

variable (m : (ℓ : Loc nD τ sig) → Buf (Elt Ideal) ℓ)

/-- The block's result at an element. -/
theorem pay1_apply (x : Vec Ideal S912x1024 .bf16) (w : Vec Ideal S1024x1024 .bf16) (r : Vec Ideal S912x1024 .f32) (j : S912x1024.Idx) :
    k0_pay1 x w r j = r j + ∑ k : Fin 1024, (x (ix2 (j 0) k) * w (ix2 k (j 1)) : EReal) := by
  unfold k0_pay1
  pointwise
  exact add_comm _ _

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![t.val, 0] := by decide +kernel
theorem idx3 : ∀ t : Fin grid0.N, win0_3.index t = ![t.val, 0] := by decide +kernel

/-- The projection's argument. -/
def A (c : Dev nD) : Vec Ideal S8208x1024 .bf16 := m ((c : Thread nD τ).loc main_arg0)
/-- The weight. -/
def B (c : Dev nD) : Vec Ideal S1024x1024 .bf16 := m ((c : Thread nD τ).loc main_arg1)
/-- The residual. -/
def H (c : Dev nD) : Vec Ideal S8208x1024 .f32 := m ((c : Thread nD τ).loc main_arg2)

theorem blk0 (c : Dev nD) (t : Fin cfg0.N) (p : Fin 912) (k : Fin 1024) (i : S8208x1024.Idx)
    (h0 : (i 0).val = t.val * 912 + p.val) (h1 : (i 1).val = k.val) :
    (iblk m c 0 t : Vec Ideal S912x1024 .bf16) (ix2 p k) = A m c i := by
  blk_simp [iblk]
  show A m c _ = A m c i
  congr 1
  funext a; apply Fin.ext
  match a with
  | ⟨0, _⟩ => show win0_0.index t (0 : Fin 2) * 912 + 1 * p.val = (i 0).val; rw [idx0, h0]; simp
  | ⟨1, _⟩ => show win0_0.index t (1 : Fin 2) * 1024 + 1 * k.val = (i 1).val; rw [idx0, h1]; simp

theorem blk1 (c : Dev nD) (t : Fin cfg0.N) (p k : Fin 1024) (i : S1024x1024.Idx)
    (h0 : (i 0).val = p.val) (h1 : (i 1).val = k.val) :
    (iblk m c 1 t : Vec Ideal S1024x1024 .bf16) (ix2 p k) = B m c i := by
  blk_simp [iblk]
  show B m c _ = B m c i
  congr 1
  funext a; apply Fin.ext
  match a with
  | ⟨0, _⟩ => show win0_1.index t (0 : Fin 2) * 1024 + 1 * p.val = (i 0).val; rw [idx1, h0]; simp
  | ⟨1, _⟩ => show win0_1.index t (1 : Fin 2) * 1024 + 1 * k.val = (i 1).val; rw [idx1, h1]; simp

theorem blk2 (c : Dev nD) (t : Fin cfg0.N) (y : S912x1024.Idx) (i : S8208x1024.Idx)
    (h0 : (i 0).val = t.val * 912 + (y 0).val) (h1 : (i 1).val = (y 1).val) :
    (iblk m c 2 t : Vec Ideal S912x1024 .f32) y = H m c i := by
  blk_simp [iblk]
  show H m c _ = H m c i
  congr 1
  funext a; apply Fin.ext
  match a with
  | ⟨0, _⟩ => show win0_2.index t (0 : Fin 2) * 912 + 1 * (y 0).val = (i 0).val; rw [idx2, h0]; simp
  | ⟨1, _⟩ => show win0_2.index t (1 : Fin 2) * 1024 + 1 * (y 1).val = (i 1).val; rw [idx2, h1]; simp

/-- The result, as a function of the three arrays. -/
def G (a : Vec Ideal S8208x1024 .bf16) (b : Vec Ideal S1024x1024 .bf16) (r : Vec Ideal S8208x1024 .f32) : Vec Ideal S8208x1024 .f32 := fun i =>
  (r i + ∑ k : Fin 1024, (a (ix2 (i 0) k) * b (ix2 k (i 1)) : EReal))

/-- The kernel's result array after the run. -/
theorem arr (c : Dev nD) : (dats m 0 c).arrAt 3 cfg0.N = G (A m c) (B m c) (H m c) := by
  refine (dats m 0 c).arrAt_eq_of_covers 3 _ (by decide +kernel) fun t hf y => ?_
  blk_simp [idx3]
  rw [after0_3]
  frame_out
  rw [pay1_apply]
  have e0 : (((View.whole main_v0).slice (win0_3.rect t)).emb y 0).val = win0_3.index t (0 : Fin 2) * 912 + 1 * (y 0).val := rfl
  have e1 : (((View.whole main_v0).slice (win0_3.rect t)).emb y 1).val = win0_3.index t (1 : Fin 2) * 1024 + 1 * (y 1).val := rfl
  rw [idx3] at e0 e1
  replace e0 : (((View.whole main_v0).slice (win0_3.rect t)).emb y 0).val = t.val * 912 + (y 0).val := by simpa using e0
  replace e1 : (((View.whole main_v0).slice (win0_3.rect t)).emb y 1).val = (y 1).val := by simpa using e1
  refine congrArg₂ (α := EReal) (β := EReal) (· + ·) (blk2 m c t y _ e0 e1) (Finset.sum_congr (M := EReal) rfl fun k _ => ?_)
  exact congrArg₂ (· * ·) (blk0 m c t _ k _ e0 rfl) (blk1 m c t k _ _ rfl e1)

/-- The kernel's result is the reference's. -/
theorem algebraic : Cert.algebraic_Kernel9Ideal_Reference9Ideal := by
  intro m ρ m' ρ' _ hagree
  refine ⟨_, Cert.Kernel9Ideal.Value.run_blocks (F := Ideal) m ρ, ?_⟩
  refine (θ_run Cert.Reference9Ideal.defs _ _).mono (fun _ h c => ⟨?_, (h c).2⟩) (Cert.Reference9Ideal.Value.run (F := Ideal) m' ρ')
  rw [(h c).1, arr]
  unfold G A B H
  funext i
  pointwise
  rw [(hagree c).1, (hagree c).2.1, (hagree c).2.2]

end Cert.Kernel9Ideal.ForwardOut

end
-- ==== Proof.AdamStep.lean ====
/-
  One step of the optimiser at one element: the running mean, the running mean of squares, and the change of the
  weight, with the literals of the step. The gradient is the sum of the eight parts.
-/
module

public import Idealize.ShloMosaic.Lib.Pipeline.ValueKit
public import Idealize.ShloMosaic.Lib.Pointwise

@[expose] public section

noncomputable section

namespace Cert.AdamStep

open Idealize.ShloMosaic

/-- The running mean after the step. -/
def mean (g a : EReal) : EReal := Ideal.ofBits FTy.f32 1063675494#32 * a + Ideal.ofBits FTy.f32 1036831949#32 * g

/-- The running mean of squares after the step. -/
def square (g v : EReal) : EReal := Ideal.ofBits FTy.f32 1065336439#32 * v + Ideal.ofBits FTy.f32 981668463#32 * (g * g)

/-- The change of the weight: the corrected mean over the root of the corrected mean of squares, the weight's decay added. -/
def change (g w a v : EReal) : EReal :=
  Ideal.ofBits FTy.f32 3129152111#32 *
    (Ideal.div (Ideal.div (mean g a) (Ideal.ofBits FTy.f32 1059503362#32))
        (Ideal.sqrt (Ideal.div (square g v) (Ideal.ofBits FTy.f32 1008933580#32)) + Ideal.ofBits FTy.f32 841731191#32) +
      Ideal.ofBits FTy.f32 1008981770#32 * w)

/-- A layer's gradient at an element: the sum of the eight parts. -/
def grad {R C : ℕ} (p : (⟨3, ![8, R, C]⟩ : Shape).Idx → EReal) (r : Fin R) (s : Fin C) : EReal := ∑ q : Fin 8, p (ix3 q r s)

/-- Eight values added one after the other are their sum. -/
theorem eight (f : Fin 8 → EReal) (x0 x1 x2 x3 x4 x5 x6 x7 : EReal) (h0 : x0 = f 0) (h1 : x1 = f 1) (h2 : x2 = f 2) (h3 : x3 = f 3)
    (h4 : x4 = f 4) (h5 : x5 = f 5) (h6 : x6 = f 6) (h7 : x7 = f 7) :
    x0 + x1 + x2 + x3 + x4 + x5 + x6 + x7 = ∑ q : Fin 8, f q := by
  rw [h0, h1, h2, h3, h4, h5, h6, h7]
  exact (Fin.sum_univ_eight f).symm

/-- One of the eight parts, read out of a block of all of them. -/
theorem part {Val : EltTy → Type} {e : EltTy} {R C : ℕ} (X : (⟨3, ![8, R, C]⟩ : Shape).Idx → Val e) (q : Fin 8) (inb) (r : Fin R) (s : Fin C) :
    View.ld X (Rect.unit (s := ⟨3, ![8, R, C]⟩) ![q.val, 0, 0] ![1, R, C] inb) (ix3 0 r s) = X (ix3 q r s) :=
  View.ld_unit_apply_of X _ _ inb _ _ fun a => by
    match a with
    | ⟨0, _⟩ => simp [ix3]
    | ⟨1, _⟩ => simp [ix3]
    | ⟨2, _⟩ => simp [ix3]

end Cert.AdamStep

end
-- ==== Proof.AdamOut.lean ====
/-
  The optimiser's update of the output projection: each grid point adds the eight parts of one layer's gradient over its block of
  rows and steps the two running means and the weight; the blocks of the four results tile them.
-/
module

public import proofs.«01_k».proof.Proof.Gen.Kernel10Ideal.Value
public import proofs.«01_k».proof.Proof.Gen.Reference10Ideal.Run
public import Idealize.ShloMosaic.Lib.Pipeline.ValueKit
public import Idealize.ShloMosaic.Lib.Pipeline.ReadBack
public import Idealize.ShloMosaic.Lib.Pointwise
public import proofs.«01_k».proof.Defs
public import proofs.«01_k».proof.Proof.AdamStep

@[expose] public section

set_option maxRecDepth 16384

noncomputable section

namespace Cert.Kernel10Ideal.AdamOut

open Cert.Kernel10Ideal Cert.Kernel10Ideal.Gen Idealize.ShloMosaic Idealize.ShloMosaic.TcCoe Idealize.SL.Sem
open Idealize.ShloMosaic.Pipeline (Dat)
open Cert.AdamStep

variable (m : (ℓ : Loc nD τ sig) → Buf (Elt Ideal) ℓ)

theorem idx0 : ∀ t : Fin grid0.N, t.val / 1 = 0 → win0_0.index t = ![0, t.val % 1, 0] := by decide +kernel
theorem idx1 : ∀ t : Fin grid0.N, t.val / 1 = 1 → win0_1.index t = ![0, t.val % 1, 0] := by decide +kernel
theorem idx2 : ∀ t : Fin grid0.N, win0_2.index t = ![t.val / 1, t.val % 1, 0] := by decide +kernel
theorem idx3 : ∀ t : Fin grid0.N, win0_3.index t = ![t.val / 1, t.val % 1, 0] := by decide +kernel
theorem idx4 : ∀ t : Fin grid0.N, win0_4.index t = ![t.val / 1, t.val % 1, 0] := by decide +kernel
theorem idx5 : ∀ t : Fin grid0.N, win0_5.index t = ![t.val / 1, t.val % 1, 0] := by decide +kernel
theorem idx6 : ∀ t : Fin grid0.N, win0_6.index t = ![t.val / 1, t.val % 1, 0] := by decide +kernel
theorem idx7 : ∀ t : Fin grid0.N, win0_7.index t = ![t.val / 1, t.val % 1, 0] := by decide +kernel
theorem idx8 : ∀ t : Fin grid0.N, win0_8.index t = ![t.val / 1, t.val % 1, 0] := by decide +kernel

/-- The parts of the first layer's gradient. -/
def P (c : Dev nD) : Vec Ideal S8x128x1024 .bf16 := m ((c : Thread nD τ).loc main_arg0)
/-- The parts of the second layer's gradient. -/
def Q (c : Dev nD) : Vec Ideal S8x128x1024 .bf16 := m ((c : Thread nD τ).loc main_arg1)
/-- The weights. -/
def W (c : Dev nD) : Vec Ideal S2x128x1024 .f32 := m ((c : Thread nD τ).loc main_arg2)
/-- The running means. -/
def M (c : Dev nD) : Vec Ideal S2x128x1024 .f32 := m ((c : Thread nD τ).loc main_arg3)
/-- The running means of squares. -/
def V (c : Dev nD) : Vec Ideal S2x128x1024 .f32 := m ((c : Thread nD τ).loc main_arg4)

/-- The gradient of both layers, as a function of the parts. -/
def G (p q : Vec Ideal S8x128x1024 .bf16) : Vec Ideal S2x128x1024 .f32 := fun i =>
  (if (i 0).val < 1 then grad (R := 128) (C := 1024) p (i 1) (i 2) else grad (R := 128) (C := 1024) q (i 1) (i 2) : EReal)

/-- The running means after the step. -/
def M' (p q : Vec Ideal S8x128x1024 .bf16) (a : Vec Ideal S2x128x1024 .f32) : Vec Ideal S2x128x1024 .f32 := fun i =>
  mean (G p q i) (a i)

/-- The running means of squares after the step. -/
def V' (p q : Vec Ideal S8x128x1024 .bf16) (v : Vec Ideal S2x128x1024 .f32) : Vec Ideal S2x128x1024 .f32 := fun i =>
  square (G p q i) (v i)

/-- The change of the weights. -/
def D (p q : Vec Ideal S8x128x1024 .bf16) (w a v : Vec Ideal S2x128x1024 .f32) : Vec Ideal S2x128x1024 .f32 := fun i =>
  change (G p q i) (w i) (a i) (v i)

/-- The block's gradient at an element: the parts, one after the other. -/
theorem pay5_apply (x0 x1 x2 x3 x4 x5 x6 x7 : Vec Ideal S1x128x1024 .bf16) (j : S128x1024.Idx) :
    k0_pay5 x0 x1 x2 x3 x4 x5 x6 x7 j = (x0 (ix3 0 (j 0) (j 1)) + x1 (ix3 0 (j 0) (j 1)) + x2 (ix3 0 (j 0) (j 1)) + x3 (ix3 0 (j 0) (j 1))
      + x4 (ix3 0 (j 0) (j 1)) + x5 (ix3 0 (j 0) (j 1)) + x6 (ix3 0 (j 0) (j 1)) + x7 (ix3 0 (j 0) (j 1)) : EReal) := by
  unfold k0_pay5
  pointwise

/-- The block's change at an element. -/
theorem pay10_apply (g : FVec Ideal S128x1024 .f32) (w a v : Vec Ideal S1x128x1024 .f32) (j : S1x128x1024.Idx) :
    k0_pay10 g (k0_pay6 w) a v j = change (g (ix2 (j 1) (j 2))) (w j) (a j) (v j) := by
  unfold k0_pay10 k0_pay6 k0_pay7 k0_pay8 change mean square
  pointwise

/-- The block's running mean at an element. -/
theorem pay1_apply (g : FVec Ideal S128x1024 .f32) (a : Vec Ideal S1x128x1024 .f32) (j : S1x128x1024.Idx) :
    k0_pay1 (k0_pay7 g a) j = mean (g (ix2 (j 1) (j 2))) (a j) := by
  unfold k0_pay1 k0_pay7 mean
  pointwise

/-- The block's running mean of squares at an element. -/
theorem pay2_apply (g : FVec Ideal S128x1024 .f32) (v : Vec Ideal S1x128x1024 .f32) (j : S1x128x1024.Idx) :
    k0_pay2 (k0_pay8 g v) j = square (g (ix2 (j 1) (j 2))) (v j) := by
  unfold k0_pay2 k0_pay8 square
  pointwise

/-- The block's gradient as it is stored, at an element. -/
theorem pay9_apply (g : FVec Ideal S128x1024 .f32) (j : S1x128x1024.Idx) : k0_pay9 g j = g (ix2 (j 1) (j 2)) := by
  unfold k0_pay9
  pointwise

theorem blk0 (c : Dev nD) (t : Fin cfg0.N) (h : t.val / 1 = 0) (y : S8x128x1024.Idx) (i : S8x128x1024.Idx) (h0 : (i 0).val = (y 0).val)
    (h1 : (i 1).val = t.val % 1 * 128 + (y 1).val) (h2 : (i 2).val = (y 2).val) :
    (iblk m c 0 t : Vec Ideal S8x128x1024 .bf16) y = P m c i := by
  blk_simp [iblk]
  show P m c _ = P m c i
  congr 1
  funext a; apply Fin.ext
  match a with
  | ⟨0, _⟩ => show win0_0.index t (0 : Fin 3) * 8 + 1 * (y 0).val = (i 0).val; rw [idx0 t h, h0]; simp
  | ⟨1, _⟩ => show win0_0.index t (1 : Fin 3) * 128 + 1 * (y 1).val = (i 1).val; rw [idx0 t h, h1]; simp
  | ⟨2, _⟩ => show win0_0.index t (2 : Fin 3) * 1024 + 1 * (y 2).val = (i 2).val; rw [idx0 t h, h2]; simp

theorem blk1 (c : Dev nD) (t : Fin cfg0.N) (h : t.val / 1 = 1) (y : S8x128x1024.Idx) (i : S8x128x1024.Idx) (h0 : (i 0).val = (y 0).val)
    (h1 : (i 1).val = t.val % 1 * 128 + (y 1).val) (h2 : (i 2).val = (y 2).val) :
    (iblk m c 1 t : Vec Ideal S8x128x1024 .bf16) y = Q m c i := by
  blk_simp [iblk]
  show Q m c _ = Q m c i
  congr 1
  funext a; apply Fin.ext
  match a with
  | ⟨0, _⟩ => show win0_1.index t (0 : Fin 3) * 8 + 1 * (y 0).val = (i 0).val; rw [idx1 t h, h0]; simp
  | ⟨1, _⟩ => show win0_1.index t (1 : Fin 3) * 128 + 1 * (y 1).val = (i 1).val; rw [idx1 t h, h1]; simp
  | ⟨2, _⟩ => show win0_1.index t (2 : Fin 3) * 1024 + 1 * (y 2).val = (i 2).val; rw [idx1 t h, h2]; simp

theorem blk2 (c : Dev nD) (t : Fin cfg0.N) (y : S1x128x1024.Idx) (i : S2x128x1024.Idx) (h0 : (i 0).val = t.val / 1 + (y 0).val)
    (h1 : (i 1).val = t.val % 1 * 128 + (y 1).val) (h2 : (i 2).val = (y 2).val) :
    (iblk m c 2 t : Vec Ideal S1x128x1024 .f32) y = W m c i := by
  blk_simp [iblk]
  show W m c _ = W m c i
  congr 1
  funext a; apply Fin.ext
  match a with
  | ⟨0, _⟩ => show win0_2.index t (0 : Fin 3) * 1 + 1 * (y 0).val = (i 0).val; rw [idx2, h0]; simp
  | ⟨1, _⟩ => show win0_2.index t (1 : Fin 3) * 128 + 1 * (y 1).val = (i 1).val; rw [idx2, h1]; simp
  | ⟨2, _⟩ => show win0_2.index t (2 : Fin 3) * 1024 + 1 * (y 2).val = (i 2).val; rw [idx2, h2]; simp

theorem blk3 (c : Dev nD) (t : Fin cfg0.N) (y : S1x128x1024.Idx) (i : S2x128x1024.Idx) (h0 : (i 0).val = t.val / 1 + (y 0).val)
    (h1 : (i 1).val = t.val % 1 * 128 + (y 1).val) (h2 : (i 2).val = (y 2).val) :
    (iblk m c 3 t : Vec Ideal S1x128x1024 .f32) y = M m c i := by
  blk_simp [iblk]
  show M m c _ = M m c i
  congr 1
  funext a; apply Fin.ext
  match a with
  | ⟨0, _⟩ => show win0_3.index t (0 : Fin 3) * 1 + 1 * (y 0).val = (i 0).val; rw [idx3, h0]; simp
  | ⟨1, _⟩ => show win0_3.index t (1 : Fin 3) * 128 + 1 * (y 1).val = (i 1).val; rw [idx3, h1]; simp
  | ⟨2, _⟩ => show win0_3.index t (2 : Fin 3) * 1024 + 1 * (y 2).val = (i 2).val; rw [idx3, h2]; simp

theorem blk4 (c : Dev nD) (t : Fin cfg0.N) (y : S1x128x1024.Idx) (i : S2x128x1024.Idx) (h0 : (i 0).val = t.val / 1 + (y 0).val)
    (h1 : (i 1).val = t.val % 1 * 128 + (y 1).val) (h2 : (i 2).val = (y 2).val) :
    (iblk m c 4 t : Vec Ideal S1x128x1024 .f32) y = V m c i := by
  blk_simp [iblk]
  show V m c _ = V m c i
  congr 1
  funext a; apply Fin.ext
  match a with
  | ⟨0, _⟩ => show win0_4.index t (0 : Fin 3) * 1 + 1 * (y 0).val = (i 0).val; rw [idx4, h0]; simp
  | ⟨1, _⟩ => show win0_4.index t (1 : Fin 3) * 128 + 1 * (y 1).val = (i 1).val; rw [idx4, h1]; simp
  | ⟨2, _⟩ => show win0_4.index t (2 : Fin 3) * 1024 + 1 * (y 2).val = (i 2).val; rw [idx4, h2]; simp

/-- The gradient a point of the first layer computes. -/
def g0 (c : Dev nD) (t : Fin cfg0.N) : FVec Ideal S128x1024 .f32 :=
  k0_pay5 (View.ld (iblk m c 0 t : Vec Ideal S8x128x1024 .bf16) (Rect.unit ![0, 0, 0] ![1, 128, 1024] inb_S8x128x1024_S1x128x1024_0_0_0))
    (View.ld (iblk m c 0 t : Vec Ideal S8x128x1024 .bf16) (Rect.unit ![1, 0, 0] ![1, 128, 1024] inb_S8x128x1024_S1x128x1024_1_0_0))
    (View.ld (iblk m c 0 t : Vec Ideal S8x128x1024 .bf16) (Rect.unit ![2, 0, 0] ![1, 128, 1024] inb_S8x128x1024_S1x128x1024_2_0_0))
    (View.ld (iblk m c 0 t : Vec Ideal S8x128x1024 .bf16) (Rect.unit ![3, 0, 0] ![1, 128, 1024] inb_S8x128x1024_S1x128x1024_3_0_0))
    (View.ld (iblk m c 0 t : Vec Ideal S8x128x1024 .bf16) (Rect.unit ![4, 0, 0] ![1, 128, 1024] inb_S8x128x1024_S1x128x1024_4_0_0))
    (View.ld (iblk m c 0 t : Vec Ideal S8x128x1024 .bf16) (Rect.unit ![5, 0, 0] ![1, 128, 1024] inb_S8x128x1024_S1x128x1024_5_0_0))
    (View.ld (iblk m c 0 t : Vec Ideal S8x128x1024 .bf16) (Rect.unit ![6, 0, 0] ![1, 128, 1024] inb_S8x128x1024_S1x128x1024_6_0_0))
    (View.ld (iblk m c 0 t : Vec Ideal S8x128x1024 .bf16) (Rect.unit ![7, 0, 0] ![1, 128, 1024] inb_S8x128x1024_S1x128x1024_7_0_0))

/-- It is the first layer's gradient there. -/
theorem g0_at (c : Dev nD) (t : Fin cfg0.N) (h : t.val / 1 = 0) (y : S1x128x1024.Idx) (i : S2x128x1024.Idx) (h0 : (i 0).val = t.val / 1 + (y 0).val)
    (h1 : (i 1).val = t.val % 1 * 128 + (y 1).val) (h2 : (i 2).val = (y 2).val) :
    g0 m c t (ix2 (y 1) (y 2)) = G (P m c) (Q m c) i := by
  have hy : (y 0).val < 1 := (y 0).isLt
  refine (pay5_apply _ _ _ _ _ _ _ _ _).trans ?_
  unfold G grad
  rw [if_pos (by omega)]
  refine eight (fun q => P m c (ix3 q (i 1) (i 2))) _ _ _ _ _ _ _ _ ?_ ?_ ?_ ?_ ?_ ?_ ?_ ?_
  · exact (part (Val := Elt Ideal) (e := .bf16) (R := 128) (C := 1024) _ 0 _ (y 1) (y 2)).trans (blk0 m c t h _ _ rfl h1 h2)
  · exact (part (Val := Elt Ideal) (e := .bf16) (R := 128) (C := 1024) _ 1 _ (y 1) (y 2)).trans (blk0 m c t h _ _ rfl h1 h2)
  · exact (part (Val := Elt Ideal) (e := .bf16) (R := 128) (C := 1024) _ 2 _ (y 1) (y 2)).trans (blk0 m c t h _ _ rfl h1 h2)
  · exact (part (Val := Elt Ideal) (e := .bf16) (R := 128) (C := 1024) _ 3 _ (y 1) (y 2)).trans (blk0 m c t h _ _ rfl h1 h2)
  · exact (part (Val := Elt Ideal) (e := .bf16) (R := 128) (C := 1024) _ 4 _ (y 1) (y 2)).trans (blk0 m c t h _ _ rfl h1 h2)
  · exact (part (Val := Elt Ideal) (e := .bf16) (R := 128) (C := 1024) _ 5 _ (y 1) (y 2)).trans (blk0 m c t h _ _ rfl h1 h2)
  · exact (part (Val := Elt Ideal) (e := .bf16) (R := 128) (C := 1024) _ 6 _ (y 1) (y 2)).trans (blk0 m c t h _ _ rfl h1 h2)
  · exact (part (Val := Elt Ideal) (e := .bf16) (R := 128) (C := 1024) _ 7 _ (y 1) (y 2)).trans (blk0 m c t h _ _ rfl h1 h2)

/-- The gradient a point of the second layer computes. -/
def g1 (c : Dev nD) (t : Fin cfg0.N) : FVec Ideal S128x1024 .f32 :=
  k0_pay11 (View.ld (iblk m c 1 t : Vec Ideal S8x128x1024 .bf16) (Rect.unit ![0, 0, 0] ![1, 128, 1024] inb_S8x128x1024_S1x128x1024_0_0_0))
    (View.ld (iblk m c 1 t : Vec Ideal S8x128x1024 .bf16) (Rect.unit ![1, 0, 0] ![1, 128, 1024] inb_S8x128x1024_S1x128x1024_1_0_0))
    (View.ld (iblk m c 1 t : Vec Ideal S8x128x1024 .bf16) (Rect.unit ![2, 0, 0] ![1, 128, 1024] inb_S8x128x1024_S1x128x1024_2_0_0))
    (View.ld (iblk m c 1 t : Vec Ideal S8x128x1024 .bf16) (Rect.unit ![3, 0, 0] ![1, 128, 1024] inb_S8x128x1024_S1x128x1024_3_0_0))
    (View.ld (iblk m c 1 t : Vec Ideal S8x128x1024 .bf16) (Rect.unit ![4, 0, 0] ![1, 128, 1024] inb_S8x128x1024_S1x128x1024_4_0_0))
    (View.ld (iblk m c 1 t : Vec Ideal S8x128x1024 .bf16) (Rect.unit ![5, 0, 0] ![1, 128, 1024] inb_S8x128x1024_S1x128x1024_5_0_0))
    (View.ld (iblk m c 1 t : Vec Ideal S8x128x1024 .bf16) (Rect.unit ![6, 0, 0] ![1, 128, 1024] inb_S8x128x1024_S1x128x1024_6_0_0))
    (View.ld (iblk m c 1 t : Vec Ideal S8x128x1024 .bf16) (Rect.unit ![7, 0, 0] ![1, 128, 1024] inb_S8x128x1024_S1x128x1024_7_0_0))

/-- It is the second layer's gradient there. -/
theorem g1_at (c : Dev nD) (t : Fin cfg0.N) (h : t.val / 1 = 1) (y : S1x128x1024.Idx) (i : S2x128x1024.Idx) (h0 : (i 0).val = t.val / 1 + (y 0).val)
    (h1 : (i 1).val = t.val % 1 * 128 + (y 1).val) (h2 : (i 2).val = (y 2).val) :
    g1 m c t (ix2 (y 1) (y 2)) = G (P m c) (Q m c) i := by
  have hy : (y 0).val < 1 := (y 0).isLt
  refine (pay5_apply _ _ _ _ _ _ _ _ _).trans ?_
  unfold G grad
  rw [if_neg (by omega)]
  refine eight (fun q => Q m c (ix3 q (i 1) (i 2))) _ _ _ _ _ _ _ _ ?_ ?_ ?_ ?_ ?_ ?_ ?_ ?_
  · exact (part (Val := Elt Ideal) (e := .bf16) (R := 128) (C := 1024) _ 0 _ (y 1) (y 2)).trans (blk1 m c t h _ _ rfl h1 h2)
  · exact (part (Val := Elt Ideal) (e := .bf16) (R := 128) (C := 1024) _ 1 _ (y 1) (y 2)).trans (blk1 m c t h _ _ rfl h1 h2)
  · exact (part (Val := Elt Ideal) (e := .bf16) (R := 128) (C := 1024) _ 2 _ (y 1) (y 2)).trans (blk1 m c t h _ _ rfl h1 h2)
  · exact (part (Val := Elt Ideal) (e := .bf16) (R := 128) (C := 1024) _ 3 _ (y 1) (y 2)).trans (blk1 m c t h _ _ rfl h1 h2)
  · exact (part (Val := Elt Ideal) (e := .bf16) (R := 128) (C := 1024) _ 4 _ (y 1) (y 2)).trans (blk1 m c t h _ _ rfl h1 h2)
  · exact (part (Val := Elt Ideal) (e := .bf16) (R := 128) (C := 1024) _ 5 _ (y 1) (y 2)).trans (blk1 m c t h _ _ rfl h1 h2)
  · exact (part (Val := Elt Ideal) (e := .bf16) (R := 128) (C := 1024) _ 6 _ (y 1) (y 2)).trans (blk1 m c t h _ _ rfl h1 h2)
  · exact (part (Val := Elt Ideal) (e := .bf16) (R := 128) (C := 1024) _ 7 _ (y 1) (y 2)).trans (blk1 m c t h _ _ rfl h1 h2)

/-- The gradient after the run. -/
theorem arrG (c : Dev nD) : (dats m 0 c).arrAt 5 cfg0.N = G (P m c) (Q m c) := by
  refine (dats m 0 c).arrAt_eq_of_covers 5 _ (by decide +kernel) fun t hf y => ?_
  blk_simp [idx5]
  rw [after0_5]
  have e0 : (((View.whole main_v0_0).slice (win0_5.rect t)).emb y 0).val = win0_5.index t (0 : Fin 3) * 1 + 1 * (y 0).val := rfl
  have e1 : (((View.whole main_v0_0).slice (win0_5.rect t)).emb y 1).val = win0_5.index t (1 : Fin 3) * 128 + 1 * (y 1).val := rfl
  have e2 : (((View.whole main_v0_0).slice (win0_5.rect t)).emb y 2).val = win0_5.index t (2 : Fin 3) * 1024 + 1 * (y 2).val := rfl
  rw [idx5] at e0 e1 e2
  replace e0 : (((View.whole main_v0_0).slice (win0_5.rect t)).emb y 0).val = t.val / 1 + (y 0).val := by simpa using e0
  replace e1 : (((View.whole main_v0_0).slice (win0_5.rect t)).emb y 1).val = t.val % 1 * 128 + (y 1).val := by simpa using e1
  replace e2 : (((View.whole main_v0_0).slice (win0_5.rect t)).emb y 2).val = (y 2).val := by simpa using e2
  have hN : t.val < 2 := t.isLt
  have hl : t.val / 1 = 0 ∨ t.val / 1 = 1 := by omega
  rcases hl with h | h
  · rw [outsAt0_A m c t (by omega) (by omega)]
    frame_out
    exact (pay9_apply (g0 m c t) y).trans (g0_at m c t h y _ e0 e1 e2)
  · rw [outsAt0_B m c t (by omega) (by omega)]
    frame_out
    exact (pay9_apply (g1 m c t) y).trans (g1_at m c t h y _ e0 e1 e2)

/-- The changes of the weights after the run. -/
theorem arrD (c : Dev nD) : (dats m 0 c).arrAt 6 cfg0.N = D (P m c) (Q m c) (W m c) (M m c) (V m c) := by
  refine (dats m 0 c).arrAt_eq_of_covers 6 _ (by decide +kernel) fun t hf y => ?_
  blk_simp [idx6]
  rw [after0_6]
  have e0 : (((View.whole main_v0_1).slice (win0_6.rect t)).emb y 0).val = win0_6.index t (0 : Fin 3) * 1 + 1 * (y 0).val := rfl
  have e1 : (((View.whole main_v0_1).slice (win0_6.rect t)).emb y 1).val = win0_6.index t (1 : Fin 3) * 128 + 1 * (y 1).val := rfl
  have e2 : (((View.whole main_v0_1).slice (win0_6.rect t)).emb y 2).val = win0_6.index t (2 : Fin 3) * 1024 + 1 * (y 2).val := rfl
  rw [idx6] at e0 e1 e2
  replace e0 : (((View.whole main_v0_1).slice (win0_6.rect t)).emb y 0).val = t.val / 1 + (y 0).val := by simpa using e0
  replace e1 : (((View.whole main_v0_1).slice (win0_6.rect t)).emb y 1).val = t.val % 1 * 128 + (y 1).val := by simpa using e1
  replace e2 : (((View.whole main_v0_1).slice (win0_6.rect t)).emb y 2).val = (y 2).val := by simpa using e2
  have hN : t.val < 2 := t.isLt
  have hl : t.val / 1 = 0 ∨ t.val / 1 = 1 := by omega
  rcases hl with h | h
  · rw [outsAt0_A m c t (by omega) (by omega)]
    frame_out
    refine (pay10_apply (g0 m c t) _ _ _ y).trans ?_
    rw [(g0_at m c t h y _ e0 e1 e2), (blk2 m c t y _ e0 e1 e2), (blk3 m c t y _ e0 e1 e2), (blk4 m c t y _ e0 e1 e2)]
    rfl
  · rw [outsAt0_B m c t (by omega) (by omega)]
    frame_out
    refine (pay10_apply (g1 m c t) _ _ _ y).trans ?_
    rw [(g1_at m c t h y _ e0 e1 e2), (blk2 m c t y _ e0 e1 e2), (blk3 m c t y _ e0 e1 e2), (blk4 m c t y _ e0 e1 e2)]
    rfl

/-- The running means after the run. -/
theorem arrM (c : Dev nD) : (dats m 0 c).arrAt 7 cfg0.N = M' (P m c) (Q m c) (M m c) := by
  refine (dats m 0 c).arrAt_eq_of_covers 7 _ (by decide +kernel) fun t hf y => ?_
  blk_simp [idx7]
  rw [after0_7]
  have e0 : (((View.whole main_v0_2).slice (win0_7.rect t)).emb y 0).val = win0_7.index t (0 : Fin 3) * 1 + 1 * (y 0).val := rfl
  have e1 : (((View.whole main_v0_2).slice (win0_7.rect t)).emb y 1).val = win0_7.index t (1 : Fin 3) * 128 + 1 * (y 1).val := rfl
  have e2 : (((View.whole main_v0_2).slice (win0_7.rect t)).emb y 2).val = win0_7.index t (2 : Fin 3) * 1024 + 1 * (y 2).val := rfl
  rw [idx7] at e0 e1 e2
  replace e0 : (((View.whole main_v0_2).slice (win0_7.rect t)).emb y 0).val = t.val / 1 + (y 0).val := by simpa using e0
  replace e1 : (((View.whole main_v0_2).slice (win0_7.rect t)).emb y 1).val = t.val % 1 * 128 + (y 1).val := by simpa using e1
  replace e2 : (((View.whole main_v0_2).slice (win0_7.rect t)).emb y 2).val = (y 2).val := by simpa using e2
  have hN : t.val < 2 := t.isLt
  have hl : t.val / 1 = 0 ∨ t.val / 1 = 1 := by omega
  rcases hl with h | h
  · rw [outsAt0_A m c t (by omega) (by omega)]
    frame_out
    refine (pay1_apply (g0 m c t) _ y).trans ?_
    rw [(g0_at m c t h y _ e0 e1 e2), (blk3 m c t y _ e0 e1 e2)]
    rfl
  · rw [outsAt0_B m c t (by omega) (by omega)]
    frame_out
    refine (pay1_apply (g1 m c t) _ y).trans ?_
    rw [(g1_at m c t h y _ e0 e1 e2), (blk3 m c t y _ e0 e1 e2)]
    rfl

/-- The running means of squares after the run. -/
theorem arrV (c : Dev nD) : (dats m 0 c).arrAt 8 cfg0.N = V' (P m c) (Q m c) (V m c) := by
  refine (dats m 0 c).arrAt_eq_of_covers 8 _ (by decide +kernel) fun t hf y => ?_
  blk_simp [idx8]
  rw [after0_8]
  have e0 : (((View.whole main_v0_3).slice (win0_8.rect t)).emb y 0).val = win0_8.index t (0 : Fin 3) * 1 + 1 * (y 0).val := rfl
  have e1 : (((View.whole main_v0_3).slice (win0_8.rect t)).emb y 1).val = win0_8.index t (1 : Fin 3) * 128 + 1 * (y 1).val := rfl
  have e2 : (((View.whole main_v0_3).slice (win0_8.rect t)).emb y 2).val = win0_8.index t (2 : Fin 3) * 1024 + 1 * (y 2).val := rfl
  rw [idx8] at e0 e1 e2
  replace e0 : (((View.whole main_v0_3).slice (win0_8.rect t)).emb y 0).val = t.val / 1 + (y 0).val := by simpa using e0
  replace e1 : (((View.whole main_v0_3).slice (win0_8.rect t)).emb y 1).val = t.val % 1 * 128 + (y 1).val := by simpa using e1
  replace e2 : (((View.whole main_v0_3).slice (win0_8.rect t)).emb y 2).val = (y 2).val := by simpa using e2
  have hN : t.val < 2 := t.isLt
  have hl : t.val / 1 = 0 ∨ t.val / 1 = 1 := by omega
  rcases hl with h | h
  · rw [outsAt0_A m c t (by omega) (by omega)]
    frame_out
    refine (pay2_apply (g0 m c t) _ y).trans ?_
    rw [(g0_at m c t h y _ e0 e1 e2), (blk4 m c t y _ e0 e1 e2)]
    rfl
  · rw [outsAt0_B m c t (by omega) (by omega)]
    frame_out
    refine (pay2_apply (g1 m c t) _ y).trans ?_
    rw [(g1_at m c t h y _ e0 e1 e2), (blk4 m c t y _ e0 e1 e2)]
    rfl

/-- The kernel's results are the reference's. -/
theorem algebraic : Cert.algebraic_Kernel10Ideal_Reference10Ideal := by
  intro m ρ m' ρ' _ hagree
  refine ⟨_, _, _, _, Cert.Kernel10Ideal.Value.run_blocks (F := Ideal) m ρ, ?_⟩
  refine (θ_run Cert.Reference10Ideal.defs _ _).mono (fun _ h c => ⟨?_, ?_, ?_, ?_, (h c).2.2.2.2⟩) (Cert.Reference10Ideal.Value.run (F := Ideal) m' ρ')
  · obtain ⟨h0, h1, h2, h3, h4⟩ := hagree c
    rw [(h c).1, arrG]
    unfold G grad P Q
    funext i
    pointwise
    rw [h0, h1]
    simp only [dite_eq_ite]
  · obtain ⟨h0, h1, h2, h3, h4⟩ := hagree c
    rw [(h c).2.1, arrD]
    unfold D change mean square G grad P Q W M V
    funext i
    pointwise
    rw [h0, h1, h2, h3, h4]
    simp only [dite_eq_ite]
  · obtain ⟨h0, h1, h2, h3, h4⟩ := hagree c
    rw [(h c).2.2.1, arrM]
    unfold M' mean G grad P Q M
    funext i
    pointwise
    rw [h0, h1, h3]
    simp only [dite_eq_ite]
  · obtain ⟨h0, h1, h2, h3, h4⟩ := hagree c
    rw [(h c).2.2.2.1, arrV]
    unfold V' square G grad P Q V
    funext i
    pointwise
    rw [h0, h1, h4]
    simp only [dite_eq_ite]

end Cert.Kernel10Ideal.AdamOut

end
-- ==== Proof.AdamDown.lean ====
/-
  The optimiser's update of the second product of the feed-forward layer: each grid point adds the eight parts of one layer's gradient over its block of
  rows and steps the two running means and the weight; the blocks of the four results tile them.
-/
module

public import proofs.«01_k».proof.Proof.Gen.Kernel11Ideal.Value
public import proofs.«01_k».proof.Proof.Gen.Reference11Ideal.Run
public import Idealize.ShloMosaic.Lib.Pipeline.ValueKit
public import Idealize.ShloMosaic.Lib.Pipeline.ReadBack
public import Idealize.ShloMosaic.Lib.Pointwise
public import proofs.«01_k».proof.Defs
public import proofs.«01_k».proof.Proof.AdamStep

@[expose] public section

set_option maxRecDepth 16384

noncomputable section

namespace Cert.Kernel11Ideal.AdamDown

open Cert.Kernel11Ideal Cert.Kernel11Ideal.Gen Idealize.ShloMosaic Idealize.ShloMosaic.TcCoe Idealize.SL.Sem
open Idealize.ShloMosaic.Pipeline (Dat)
open Cert.AdamStep

variable (m : (ℓ : Loc nD τ sig) → Buf (Elt Ideal) ℓ)

theorem idx0 : ∀ t : Fin grid0.N, t.val / 2 = 0 → win0_0.index t = ![0, t.val % 2, 0] := by decide +kernel
theorem idx1 : ∀ t : Fin grid0.N, t.val / 2 = 1 → win0_1.index t = ![0, t.val % 2, 0] := by decide +kernel
theorem idx2 : ∀ t : Fin grid0.N, win0_2.index t = ![t.val / 2, t.val % 2, 0] := by decide +kernel
theorem idx3 : ∀ t : Fin grid0.N, win0_3.index t = ![t.val / 2, t.val % 2, 0] := by decide +kernel
theorem idx4 : ∀ t : Fin grid0.N, win0_4.index t = ![t.val / 2, t.val % 2, 0] := by decide +kernel
theorem idx5 : ∀ t : Fin grid0.N, win0_5.index t = ![t.val / 2, t.val % 2, 0] := by decide +kernel
theorem idx6 : ∀ t : Fin grid0.N, win0_6.index t = ![t.val / 2, t.val % 2, 0] := by decide +kernel
theorem idx7 : ∀ t : Fin grid0.N, win0_7.index t = ![t.val / 2, t.val % 2, 0] := by decide +kernel
theorem idx8 : ∀ t : Fin grid0.N, win0_8.index t = ![t.val / 2, t.val % 2, 0] := by decide +kernel

/-- The parts of the first layer's gradient. -/
def P (c : Dev nD) : Vec Ideal S8x352x1024 .bf16 := m ((c : Thread nD τ).loc main_arg0)
/-- The parts of the second layer's gradient. -/
def Q (c : Dev nD) : Vec Ideal S8x352x1024 .bf16 := m ((c : Thread nD τ).loc main_arg1)
/-- The weights. -/
def W (c : Dev nD) : Vec Ideal S2x352x1024 .f32 := m ((c : Thread nD τ).loc main_arg2)
/-- The running means. -/
def M (c : Dev nD) : Vec Ideal S2x352x1024 .f32 := m ((c : Thread nD τ).loc main_arg3)
/-- The running means of squares. -/
def V (c : Dev nD) : Vec Ideal S2x352x1024 .f32 := m ((c : Thread nD τ).loc main_arg4)

/-- The gradient of both layers, as a function of the parts. -/
def G (p q : Vec Ideal S8x352x1024 .bf16) : Vec Ideal S2x352x1024 .f32 := fun i =>
  (if (i 0).val < 1 then grad (R := 352) (C := 1024) p (i 1) (i 2) else grad (R := 352) (C := 1024) q (i 1) (i 2) : EReal)

/-- The running means after the step. -/
def M' (p q : Vec Ideal S8x352x1024 .bf16) (a : Vec Ideal S2x352x1024 .f32) : Vec Ideal S2x352x1024 .f32 := fun i =>
  mean (G p q i) (a i)

/-- The running means of squares after the step. -/
def V' (p q : Vec Ideal S8x352x1024 .bf16) (v : Vec Ideal S2x352x1024 .f32) : Vec Ideal S2x352x1024 .f32 := fun i =>
  square (G p q i) (v i)

/-- The change of the weights. -/
def D (p q : Vec Ideal S8x352x1024 .bf16) (w a v : Vec Ideal S2x352x1024 .f32) : Vec Ideal S2x352x1024 .f32 := fun i =>
  change (G p q i) (w i) (a i) (v i)

/-- The block's gradient at an element: the parts, one after the other. -/
theorem pay5_apply (x0 x1 x2 x3 x4 x5 x6 x7 : Vec Ideal S1x176x1024 .bf16) (j : S176x1024.Idx) :
    k0_pay5 x0 x1 x2 x3 x4 x5 x6 x7 j = (x0 (ix3 0 (j 0) (j 1)) + x1 (ix3 0 (j 0) (j 1)) + x2 (ix3 0 (j 0) (j 1)) + x3 (ix3 0 (j 0) (j 1))
      + x4 (ix3 0 (j 0) (j 1)) + x5 (ix3 0 (j 0) (j 1)) + x6 (ix3 0 (j 0) (j 1)) + x7 (ix3 0 (j 0) (j 1)) : EReal) := by
  unfold k0_pay5
  pointwise

/-- The block's change at an element. -/
theorem pay10_apply (g : FVec Ideal S176x1024 .f32) (w a v : Vec Ideal S1x176x1024 .f32) (j : S1x176x1024.Idx) :
    k0_pay10 g (k0_pay6 w) a v j = change (g (ix2 (j 1) (j 2))) (w j) (a j) (v j) := by
  unfold k0_pay10 k0_pay6 k0_pay7 k0_pay8 change mean square
  pointwise

/-- The block's running mean at an element. -/
theorem pay1_apply (g : FVec Ideal S176x1024 .f32) (a : Vec Ideal S1x176x1024 .f32) (j : S1x176x1024.Idx) :
    k0_pay1 (k0_pay7 g a) j = mean (g (ix2 (j 1) (j 2))) (a j) := by
  unfold k0_pay1 k0_pay7 mean
  pointwise

/-- The block's running mean of squares at an element. -/
theorem pay2_apply (g : FVec Ideal S176x1024 .f32) (v : Vec Ideal S1x176x1024 .f32) (j : S1x176x1024.Idx) :
    k0_pay2 (k0_pay8 g v) j = square (g (ix2 (j 1) (j 2))) (v j) := by
  unfold k0_pay2 k0_pay8 square
  pointwise

/-- The block's gradient as it is stored, at an element. -/
theorem pay9_apply (g : FVec Ideal S176x1024 .f32) (j : S1x176x1024.Idx) : k0_pay9 g j = g (ix2 (j 1) (j 2)) := by
  unfold k0_pay9
  pointwise

theorem blk0 (c : Dev nD) (t : Fin cfg0.N) (h : t.val / 2 = 0) (y : S8x176x1024.Idx) (i : S8x352x1024.Idx) (h0 : (i 0).val = (y 0).val)
    (h1 : (i 1).val = t.val % 2 * 176 + (y 1).val) (h2 : (i 2).val = (y 2).val) :
    (iblk m c 0 t : Vec Ideal S8x176x1024 .bf16) y = P m c i := by
  blk_simp [iblk]
  show P m c _ = P m c i
  congr 1
  funext a; apply Fin.ext
  match a with
  | ⟨0, _⟩ => show win0_0.index t (0 : Fin 3) * 8 + 1 * (y 0).val = (i 0).val; rw [idx0 t h, h0]; simp
  | ⟨1, _⟩ => show win0_0.index t (1 : Fin 3) * 176 + 1 * (y 1).val = (i 1).val; rw [idx0 t h, h1]; simp
  | ⟨2, _⟩ => show win0_0.index t (2 : Fin 3) * 1024 + 1 * (y 2).val = (i 2).val; rw [idx0 t h, h2]; simp

theorem blk1 (c : Dev nD) (t : Fin cfg0.N) (h : t.val / 2 = 1) (y : S8x176x1024.Idx) (i : S8x352x1024.Idx) (h0 : (i 0).val = (y 0).val)
    (h1 : (i 1).val = t.val % 2 * 176 + (y 1).val) (h2 : (i 2).val = (y 2).val) :
    (iblk m c 1 t : Vec Ideal S8x176x1024 .bf16) y = Q m c i := by
  blk_simp [iblk]
  show Q m c _ = Q m c i
  congr 1
  funext a; apply Fin.ext
  match a with
  | ⟨0, _⟩ => show win0_1.index t (0 : Fin 3) * 8 + 1 * (y 0).val = (i 0).val; rw [idx1 t h, h0]; simp
  | ⟨1, _⟩ => show win0_1.index t (1 : Fin 3) * 176 + 1 * (y 1).val = (i 1).val; rw [idx1 t h, h1]; simp
  | ⟨2, _⟩ => show win0_1.index t (2 : Fin 3) * 1024 + 1 * (y 2).val = (i 2).val; rw [idx1 t h, h2]; simp

theorem blk2 (c : Dev nD) (t : Fin cfg0.N) (y : S1x176x1024.Idx) (i : S2x352x1024.Idx) (h0 : (i 0).val = t.val / 2 + (y 0).val)
    (h1 : (i 1).val = t.val % 2 * 176 + (y 1).val) (h2 : (i 2).val = (y 2).val) :
    (iblk m c 2 t : Vec Ideal S1x176x1024 .f32) y = W m c i := by
  blk_simp [iblk]
  show W m c _ = W m c i
  congr 1
  funext a; apply Fin.ext
  match a with
  | ⟨0, _⟩ => show win0_2.index t (0 : Fin 3) * 1 + 1 * (y 0).val = (i 0).val; rw [idx2, h0]; simp
  | ⟨1, _⟩ => show win0_2.index t (1 : Fin 3) * 176 + 1 * (y 1).val = (i 1).val; rw [idx2, h1]; simp
  | ⟨2, _⟩ => show win0_2.index t (2 : Fin 3) * 1024 + 1 * (y 2).val = (i 2).val; rw [idx2, h2]; simp

theorem blk3 (c : Dev nD) (t : Fin cfg0.N) (y : S1x176x1024.Idx) (i : S2x352x1024.Idx) (h0 : (i 0).val = t.val / 2 + (y 0).val)
    (h1 : (i 1).val = t.val % 2 * 176 + (y 1).val) (h2 : (i 2).val = (y 2).val) :
    (iblk m c 3 t : Vec Ideal S1x176x1024 .f32) y = M m c i := by
  blk_simp [iblk]
  show M m c _ = M m c i
  congr 1
  funext a; apply Fin.ext
  match a with
  | ⟨0, _⟩ => show win0_3.index t (0 : Fin 3) * 1 + 1 * (y 0).val = (i 0).val; rw [idx3, h0]; simp
  | ⟨1, _⟩ => show win0_3.index t (1 : Fin 3) * 176 + 1 * (y 1).val = (i 1).val; rw [idx3, h1]; simp
  | ⟨2, _⟩ => show win0_3.index t (2 : Fin 3) * 1024 + 1 * (y 2).val = (i 2).val; rw [idx3, h2]; simp

theorem blk4 (c : Dev nD) (t : Fin cfg0.N) (y : S1x176x1024.Idx) (i : S2x352x1024.Idx) (h0 : (i 0).val = t.val / 2 + (y 0).val)
    (h1 : (i 1).val = t.val % 2 * 176 + (y 1).val) (h2 : (i 2).val = (y 2).val) :
    (iblk m c 4 t : Vec Ideal S1x176x1024 .f32) y = V m c i := by
  blk_simp [iblk]
  show V m c _ = V m c i
  congr 1
  funext a; apply Fin.ext
  match a with
  | ⟨0, _⟩ => show win0_4.index t (0 : Fin 3) * 1 + 1 * (y 0).val = (i 0).val; rw [idx4, h0]; simp
  | ⟨1, _⟩ => show win0_4.index t (1 : Fin 3) * 176 + 1 * (y 1).val = (i 1).val; rw [idx4, h1]; simp
  | ⟨2, _⟩ => show win0_4.index t (2 : Fin 3) * 1024 + 1 * (y 2).val = (i 2).val; rw [idx4, h2]; simp

/-- The gradient a point of the first layer computes. -/
def g0 (c : Dev nD) (t : Fin cfg0.N) : FVec Ideal S176x1024 .f32 :=
  k0_pay5 (View.ld (iblk m c 0 t : Vec Ideal S8x176x1024 .bf16) (Rect.unit ![0, 0, 0] ![1, 176, 1024] inb_S8x176x1024_S1x176x1024_0_0_0))
    (View.ld (iblk m c 0 t : Vec Ideal S8x176x1024 .bf16) (Rect.unit ![1, 0, 0] ![1, 176, 1024] inb_S8x176x1024_S1x176x1024_1_0_0))
    (View.ld (iblk m c 0 t : Vec Ideal S8x176x1024 .bf16) (Rect.unit ![2, 0, 0] ![1, 176, 1024] inb_S8x176x1024_S1x176x1024_2_0_0))
    (View.ld (iblk m c 0 t : Vec Ideal S8x176x1024 .bf16) (Rect.unit ![3, 0, 0] ![1, 176, 1024] inb_S8x176x1024_S1x176x1024_3_0_0))
    (View.ld (iblk m c 0 t : Vec Ideal S8x176x1024 .bf16) (Rect.unit ![4, 0, 0] ![1, 176, 1024] inb_S8x176x1024_S1x176x1024_4_0_0))
    (View.ld (iblk m c 0 t : Vec Ideal S8x176x1024 .bf16) (Rect.unit ![5, 0, 0] ![1, 176, 1024] inb_S8x176x1024_S1x176x1024_5_0_0))
    (View.ld (iblk m c 0 t : Vec Ideal S8x176x1024 .bf16) (Rect.unit ![6, 0, 0] ![1, 176, 1024] inb_S8x176x1024_S1x176x1024_6_0_0))
    (View.ld (iblk m c 0 t : Vec Ideal S8x176x1024 .bf16) (Rect.unit ![7, 0, 0] ![1, 176, 1024] inb_S8x176x1024_S1x176x1024_7_0_0))

/-- It is the first layer's gradient there. -/
theorem g0_at (c : Dev nD) (t : Fin cfg0.N) (h : t.val / 2 = 0) (y : S1x176x1024.Idx) (i : S2x352x1024.Idx) (h0 : (i 0).val = t.val / 2 + (y 0).val)
    (h1 : (i 1).val = t.val % 2 * 176 + (y 1).val) (h2 : (i 2).val = (y 2).val) :
    g0 m c t (ix2 (y 1) (y 2)) = G (P m c) (Q m c) i := by
  have hy : (y 0).val < 1 := (y 0).isLt
  refine (pay5_apply _ _ _ _ _ _ _ _ _).trans ?_
  unfold G grad
  rw [if_pos (by omega)]
  refine eight (fun q => P m c (ix3 q (i 1) (i 2))) _ _ _ _ _ _ _ _ ?_ ?_ ?_ ?_ ?_ ?_ ?_ ?_
  · exact (part (Val := Elt Ideal) (e := .bf16) (R := 176) (C := 1024) _ 0 _ (y 1) (y 2)).trans (blk0 m c t h _ _ rfl h1 h2)
  · exact (part (Val := Elt Ideal) (e := .bf16) (R := 176) (C := 1024) _ 1 _ (y 1) (y 2)).trans (blk0 m c t h _ _ rfl h1 h2)
  · exact (part (Val := Elt Ideal) (e := .bf16) (R := 176) (C := 1024) _ 2 _ (y 1) (y 2)).trans (blk0 m c t h _ _ rfl h1 h2)
  · exact (part (Val := Elt Ideal) (e := .bf16) (R := 176) (C := 1024) _ 3 _ (y 1) (y 2)).trans (blk0 m c t h _ _ rfl h1 h2)
  · exact (part (Val := Elt Ideal) (e := .bf16) (R := 176) (C := 1024) _ 4 _ (y 1) (y 2)).trans (blk0 m c t h _ _ rfl h1 h2)
  · exact (part (Val := Elt Ideal) (e := .bf16) (R := 176) (C := 1024) _ 5 _ (y 1) (y 2)).trans (blk0 m c t h _ _ rfl h1 h2)
  · exact (part (Val := Elt Ideal) (e := .bf16) (R := 176) (C := 1024) _ 6 _ (y 1) (y 2)).trans (blk0 m c t h _ _ rfl h1 h2)
  · exact (part (Val := Elt Ideal) (e := .bf16) (R := 176) (C := 1024) _ 7 _ (y 1) (y 2)).trans (blk0 m c t h _ _ rfl h1 h2)

/-- The gradient a point of the second layer computes. -/
def g1 (c : Dev nD) (t : Fin cfg0.N) : FVec Ideal S176x1024 .f32 :=
  k0_pay11 (View.ld (iblk m c 1 t : Vec Ideal S8x176x1024 .bf16) (Rect.unit ![0, 0, 0] ![1, 176, 1024] inb_S8x176x1024_S1x176x1024_0_0_0))
    (View.ld (iblk m c 1 t : Vec Ideal S8x176x1024 .bf16) (Rect.unit ![1, 0, 0] ![1, 176, 1024] inb_S8x176x1024_S1x176x1024_1_0_0))
    (View.ld (iblk m c 1 t : Vec Ideal S8x176x1024 .bf16) (Rect.unit ![2, 0, 0] ![1, 176, 1024] inb_S8x176x1024_S1x176x1024_2_0_0))
    (View.ld (iblk m c 1 t : Vec Ideal S8x176x1024 .bf16) (Rect.unit ![3, 0, 0] ![1, 176, 1024] inb_S8x176x1024_S1x176x1024_3_0_0))
    (View.ld (iblk m c 1 t : Vec Ideal S8x176x1024 .bf16) (Rect.unit ![4, 0, 0] ![1, 176, 1024] inb_S8x176x1024_S1x176x1024_4_0_0))
    (View.ld (iblk m c 1 t : Vec Ideal S8x176x1024 .bf16) (Rect.unit ![5, 0, 0] ![1, 176, 1024] inb_S8x176x1024_S1x176x1024_5_0_0))
    (View.ld (iblk m c 1 t : Vec Ideal S8x176x1024 .bf16) (Rect.unit ![6, 0, 0] ![1, 176, 1024] inb_S8x176x1024_S1x176x1024_6_0_0))
    (View.ld (iblk m c 1 t : Vec Ideal S8x176x1024 .bf16) (Rect.unit ![7, 0, 0] ![1, 176, 1024] inb_S8x176x1024_S1x176x1024_7_0_0))

/-- It is the second layer's gradient there. -/
theorem g1_at (c : Dev nD) (t : Fin cfg0.N) (h : t.val / 2 = 1) (y : S1x176x1024.Idx) (i : S2x352x1024.Idx) (h0 : (i 0).val = t.val / 2 + (y 0).val)
    (h1 : (i 1).val = t.val % 2 * 176 + (y 1).val) (h2 : (i 2).val = (y 2).val) :
    g1 m c t (ix2 (y 1) (y 2)) = G (P m c) (Q m c) i := by
  have hy : (y 0).val < 1 := (y 0).isLt
  refine (pay5_apply _ _ _ _ _ _ _ _ _).trans ?_
  unfold G grad
  rw [if_neg (by omega)]
  refine eight (fun q => Q m c (ix3 q (i 1) (i 2))) _ _ _ _ _ _ _ _ ?_ ?_ ?_ ?_ ?_ ?_ ?_ ?_
  · exact (part (Val := Elt Ideal) (e := .bf16) (R := 176) (C := 1024) _ 0 _ (y 1) (y 2)).trans (blk1 m c t h _ _ rfl h1 h2)
  · exact (part (Val := Elt Ideal) (e := .bf16) (R := 176) (C := 1024) _ 1 _ (y 1) (y 2)).trans (blk1 m c t h _ _ rfl h1 h2)
  · exact (part (Val := Elt Ideal) (e := .bf16) (R := 176) (C := 1024) _ 2 _ (y 1) (y 2)).trans (blk1 m c t h _ _ rfl h1 h2)
  · exact (part (Val := Elt Ideal) (e := .bf16) (R := 176) (C := 1024) _ 3 _ (y 1) (y 2)).trans (blk1 m c t h _ _ rfl h1 h2)
  · exact (part (Val := Elt Ideal) (e := .bf16) (R := 176) (C := 1024) _ 4 _ (y 1) (y 2)).trans (blk1 m c t h _ _ rfl h1 h2)
  · exact (part (Val := Elt Ideal) (e := .bf16) (R := 176) (C := 1024) _ 5 _ (y 1) (y 2)).trans (blk1 m c t h _ _ rfl h1 h2)
  · exact (part (Val := Elt Ideal) (e := .bf16) (R := 176) (C := 1024) _ 6 _ (y 1) (y 2)).trans (blk1 m c t h _ _ rfl h1 h2)
  · exact (part (Val := Elt Ideal) (e := .bf16) (R := 176) (C := 1024) _ 7 _ (y 1) (y 2)).trans (blk1 m c t h _ _ rfl h1 h2)

/-- The gradient after the run. -/
theorem arrG (c : Dev nD) : (dats m 0 c).arrAt 5 cfg0.N = G (P m c) (Q m c) := by
  refine (dats m 0 c).arrAt_eq_of_covers 5 _ (by decide +kernel) fun t hf y => ?_
  blk_simp [idx5]
  rw [after0_5]
  have e0 : (((View.whole main_v0_0).slice (win0_5.rect t)).emb y 0).val = win0_5.index t (0 : Fin 3) * 1 + 1 * (y 0).val := rfl
  have e1 : (((View.whole main_v0_0).slice (win0_5.rect t)).emb y 1).val = win0_5.index t (1 : Fin 3) * 176 + 1 * (y 1).val := rfl
  have e2 : (((View.whole main_v0_0).slice (win0_5.rect t)).emb y 2).val = win0_5.index t (2 : Fin 3) * 1024 + 1 * (y 2).val := rfl
  rw [idx5] at e0 e1 e2
  replace e0 : (((View.whole main_v0_0).slice (win0_5.rect t)).emb y 0).val = t.val / 2 + (y 0).val := by simpa using e0
  replace e1 : (((View.whole main_v0_0).slice (win0_5.rect t)).emb y 1).val = t.val % 2 * 176 + (y 1).val := by simpa using e1
  replace e2 : (((View.whole main_v0_0).slice (win0_5.rect t)).emb y 2).val = (y 2).val := by simpa using e2
  have hN : t.val < 4 := t.isLt
  have hl : t.val / 2 = 0 ∨ t.val / 2 = 1 := by omega
  rcases hl with h | h
  · rw [outsAt0_A m c t (by omega) (by omega)]
    frame_out
    exact (pay9_apply (g0 m c t) y).trans (g0_at m c t h y _ e0 e1 e2)
  · rw [outsAt0_B m c t (by omega) (by omega)]
    frame_out
    exact (pay9_apply (g1 m c t) y).trans (g1_at m c t h y _ e0 e1 e2)

/-- The changes of the weights after the run. -/
theorem arrD (c : Dev nD) : (dats m 0 c).arrAt 6 cfg0.N = D (P m c) (Q m c) (W m c) (M m c) (V m c) := by
  refine (dats m 0 c).arrAt_eq_of_covers 6 _ (by decide +kernel) fun t hf y => ?_
  blk_simp [idx6]
  rw [after0_6]
  have e0 : (((View.whole main_v0_1).slice (win0_6.rect t)).emb y 0).val = win0_6.index t (0 : Fin 3) * 1 + 1 * (y 0).val := rfl
  have e1 : (((View.whole main_v0_1).slice (win0_6.rect t)).emb y 1).val = win0_6.index t (1 : Fin 3) * 176 + 1 * (y 1).val := rfl
  have e2 : (((View.whole main_v0_1).slice (win0_6.rect t)).emb y 2).val = win0_6.index t (2 : Fin 3) * 1024 + 1 * (y 2).val := rfl
  rw [idx6] at e0 e1 e2
  replace e0 : (((View.whole main_v0_1).slice (win0_6.rect t)).emb y 0).val = t.val / 2 + (y 0).val := by simpa using e0
  replace e1 : (((View.whole main_v0_1).slice (win0_6.rect t)).emb y 1).val = t.val % 2 * 176 + (y 1).val := by simpa using e1
  replace e2 : (((View.whole main_v0_1).slice (win0_6.rect t)).emb y 2).val = (y 2).val := by simpa using e2
  have hN : t.val < 4 := t.isLt
  have hl : t.val / 2 = 0 ∨ t.val / 2 = 1 := by omega
  rcases hl with h | h
  · rw [outsAt0_A m c t (by omega) (by omega)]
    frame_out
    refine (pay10_apply (g0 m c t) _ _ _ y).trans ?_
    rw [(g0_at m c t h y _ e0 e1 e2), (blk2 m c t y _ e0 e1 e2), (blk3 m c t y _ e0 e1 e2), (blk4 m c t y _ e0 e1 e2)]
    rfl
  · rw [outsAt0_B m c t (by omega) (by omega)]
    frame_out
    refine (pay10_apply (g1 m c t) _ _ _ y).trans ?_
    rw [(g1_at m c t h y _ e0 e1 e2), (blk2 m c t y _ e0 e1 e2), (blk3 m c t y _ e0 e1 e2), (blk4 m c t y _ e0 e1 e2)]
    rfl

/-- The running means after the run. -/
theorem arrM (c : Dev nD) : (dats m 0 c).arrAt 7 cfg0.N = M' (P m c) (Q m c) (M m c) := by
  refine (dats m 0 c).arrAt_eq_of_covers 7 _ (by decide +kernel) fun t hf y => ?_
  blk_simp [idx7]
  rw [after0_7]
  have e0 : (((View.whole main_v0_2).slice (win0_7.rect t)).emb y 0).val = win0_7.index t (0 : Fin 3) * 1 + 1 * (y 0).val := rfl
  have e1 : (((View.whole main_v0_2).slice (win0_7.rect t)).emb y 1).val = win0_7.index t (1 : Fin 3) * 176 + 1 * (y 1).val := rfl
  have e2 : (((View.whole main_v0_2).slice (win0_7.rect t)).emb y 2).val = win0_7.index t (2 : Fin 3) * 1024 + 1 * (y 2).val := rfl
  rw [idx7] at e0 e1 e2
  replace e0 : (((View.whole main_v0_2).slice (win0_7.rect t)).emb y 0).val = t.val / 2 + (y 0).val := by simpa using e0
  replace e1 : (((View.whole main_v0_2).slice (win0_7.rect t)).emb y 1).val = t.val % 2 * 176 + (y 1).val := by simpa using e1
  replace e2 : (((View.whole main_v0_2).slice (win0_7.rect t)).emb y 2).val = (y 2).val := by simpa using e2
  have hN : t.val < 4 := t.isLt
  have hl : t.val / 2 = 0 ∨ t.val / 2 = 1 := by omega
  rcases hl with h | h
  · rw [outsAt0_A m c t (by omega) (by omega)]
    frame_out
    refine (pay1_apply (g0 m c t) _ y).trans ?_
    rw [(g0_at m c t h y _ e0 e1 e2), (blk3 m c t y _ e0 e1 e2)]
    rfl
  · rw [outsAt0_B m c t (by omega) (by omega)]
    frame_out
    refine (pay1_apply (g1 m c t) _ y).trans ?_
    rw [(g1_at m c t h y _ e0 e1 e2), (blk3 m c t y _ e0 e1 e2)]
    rfl

/-- The running means of squares after the run. -/
theorem arrV (c : Dev nD) : (dats m 0 c).arrAt 8 cfg0.N = V' (P m c) (Q m c) (V m c) := by
  refine (dats m 0 c).arrAt_eq_of_covers 8 _ (by decide +kernel) fun t hf y => ?_
  blk_simp [idx8]
  rw [after0_8]
  have e0 : (((View.whole main_v0_3).slice (win0_8.rect t)).emb y 0).val = win0_8.index t (0 : Fin 3) * 1 + 1 * (y 0).val := rfl
  have e1 : (((View.whole main_v0_3).slice (win0_8.rect t)).emb y 1).val = win0_8.index t (1 : Fin 3) * 176 + 1 * (y 1).val := rfl
  have e2 : (((View.whole main_v0_3).slice (win0_8.rect t)).emb y 2).val = win0_8.index t (2 : Fin 3) * 1024 + 1 * (y 2).val := rfl
  rw [idx8] at e0 e1 e2
  replace e0 : (((View.whole main_v0_3).slice (win0_8.rect t)).emb y 0).val = t.val / 2 + (y 0).val := by simpa using e0
  replace e1 : (((View.whole main_v0_3).slice (win0_8.rect t)).emb y 1).val = t.val % 2 * 176 + (y 1).val := by simpa using e1
  replace e2 : (((View.whole main_v0_3).slice (win0_8.rect t)).emb y 2).val = (y 2).val := by simpa using e2
  have hN : t.val < 4 := t.isLt
  have hl : t.val / 2 = 0 ∨ t.val / 2 = 1 := by omega
  rcases hl with h | h
  · rw [outsAt0_A m c t (by omega) (by omega)]
    frame_out
    refine (pay2_apply (g0 m c t) _ y).trans ?_
    rw [(g0_at m c t h y _ e0 e1 e2), (blk4 m c t y _ e0 e1 e2)]
    rfl
  · rw [outsAt0_B m c t (by omega) (by omega)]
    frame_out
    refine (pay2_apply (g1 m c t) _ y).trans ?_
    rw [(g1_at m c t h y _ e0 e1 e2), (blk4 m c t y _ e0 e1 e2)]
    rfl

/-- The kernel's results are the reference's. -/
theorem algebraic : Cert.algebraic_Kernel11Ideal_Reference11Ideal := by
  intro m ρ m' ρ' _ hagree
  refine ⟨_, _, _, _, Cert.Kernel11Ideal.Value.run_blocks (F := Ideal) m ρ, ?_⟩
  refine (θ_run Cert.Reference11Ideal.defs _ _).mono (fun _ h c => ⟨?_, ?_, ?_, ?_, (h c).2.2.2.2⟩) (Cert.Reference11Ideal.Value.run (F := Ideal) m' ρ')
  · obtain ⟨h0, h1, h2, h3, h4⟩ := hagree c
    rw [(h c).1, arrG]
    unfold G grad P Q
    funext i
    pointwise
    rw [h0, h1]
    simp only [dite_eq_ite]
  · obtain ⟨h0, h1, h2, h3, h4⟩ := hagree c
    rw [(h c).2.1, arrD]
    unfold D change mean square G grad P Q W M V
    funext i
    pointwise
    rw [h0, h1, h2, h3, h4]
    simp only [dite_eq_ite]
  · obtain ⟨h0, h1, h2, h3, h4⟩ := hagree c
    rw [(h c).2.2.1, arrM]
    unfold M' mean G grad P Q M
    funext i
    pointwise
    rw [h0, h1, h3]
    simp only [dite_eq_ite]
  · obtain ⟨h0, h1, h2, h3, h4⟩ := hagree c
    rw [(h c).2.2.2.1, arrV]
    unfold V' square G grad P Q V
    funext i
    pointwise
    rw [h0, h1, h4]
    simp only [dite_eq_ite]

end Cert.Kernel11Ideal.AdamDown

end
-- ==== Proof.AdamIn.lean ====
/-
  The optimiser's update of the input projection: the host turns the weights
  and the running means and squares so that their rows are the parts' rows, and the results back; each grid point adds the eight parts of one layer's gradient over its block of
  rows and steps the two running means and the weight; the blocks of the four results tile them.
-/
module

public import proofs.«01_k».proof.Proof.Gen.Kernel12Ideal.Frame
public import proofs.«01_k».proof.Proof.Gen.Reference12Ideal.Run
public import Idealize.ShloMosaic.Lib.Pipeline.ValueKit
public import Idealize.ShloMosaic.Lib.Pipeline.ReadBack
public import Idealize.ShloMosaic.Lib.Pointwise
public import proofs.«01_k».proof.Defs
public import proofs.«01_k».proof.Proof.AdamStep

@[expose] public section

set_option maxRecDepth 16384

noncomputable section

namespace Cert.Kernel12Ideal.AdamIn

open Cert.Kernel12Ideal Cert.Kernel12Ideal.Gen Idealize.ShloMosaic Idealize.ShloMosaic.TcCoe Idealize.SL.Sem
open Idealize.ShloMosaic.Pipeline (Dat)
open Cert.AdamStep

variable (m : (ℓ : Loc nD τ sig) → Buf (Elt Ideal) ℓ)

theorem idx0 : ∀ t : Fin grid0.N, t.val / 1 = 0 → win0_0.index t = ![0, t.val % 1, 0] := by decide +kernel
theorem idx1 : ∀ t : Fin grid0.N, t.val / 1 = 1 → win0_1.index t = ![0, t.val % 1, 0] := by decide +kernel
theorem idx2 : ∀ t : Fin grid0.N, win0_2.index t = ![t.val / 1, t.val % 1, 0] := by decide +kernel
theorem idx3 : ∀ t : Fin grid0.N, win0_3.index t = ![t.val / 1, t.val % 1, 0] := by decide +kernel
theorem idx4 : ∀ t : Fin grid0.N, win0_4.index t = ![t.val / 1, t.val % 1, 0] := by decide +kernel
theorem idx5 : ∀ t : Fin grid0.N, win0_5.index t = ![t.val / 1, t.val % 1, 0] := by decide +kernel
theorem idx6 : ∀ t : Fin grid0.N, win0_6.index t = ![t.val / 1, t.val % 1, 0] := by decide +kernel
theorem idx7 : ∀ t : Fin grid0.N, win0_7.index t = ![t.val / 1, t.val % 1, 0] := by decide +kernel
theorem idx8 : ∀ t : Fin grid0.N, win0_8.index t = ![t.val / 1, t.val % 1, 0] := by decide +kernel

/-- The parts of the first layer's gradient. -/
def P (c : Dev nD) : Vec Ideal S8x192x1024 .bf16 := m ((c : Thread nD τ).loc main_arg0)

theorem V_P (c : Dev nD) : Cert.Kernel12Ideal.Gen.V m c main_arg0 = P m c :=
  V_main_arg0 m c

/-- The parts of the second layer's gradient. -/
def Q (c : Dev nD) : Vec Ideal S8x192x1024 .bf16 := m ((c : Thread nD τ).loc main_arg1)

theorem V_Q (c : Dev nD) : Cert.Kernel12Ideal.Gen.V m c main_arg1 = Q m c :=
  V_main_arg1 m c

/-- The weights. -/
def W (c : Dev nD) : Vec Ideal S2x192x1024 .f32 :=
  transpose S2x192x1024 [0, 2, 1] (m ((c : Thread nD τ).loc main_arg2)) transposes_S2x1024x192_S2x192x1024_0_2_1

theorem V_W (c : Dev nD) : Cert.Kernel12Ideal.Gen.V m c main_v0 = W m c := by
  show StableHlo.after hostOps0 (fun b => m (c, b)) (Proc.devRef .tc main_v0) = _
  after_results
  rfl

/-- The running means. -/
def M (c : Dev nD) : Vec Ideal S2x192x1024 .f32 :=
  transpose S2x192x1024 [0, 2, 1] (m ((c : Thread nD τ).loc main_arg3)) transposes_S2x1024x192_S2x192x1024_0_2_1

theorem V_M (c : Dev nD) : Cert.Kernel12Ideal.Gen.V m c main_v1 = M m c := by
  show StableHlo.after hostOps0 (fun b => m (c, b)) (Proc.devRef .tc main_v1) = _
  after_results
  rfl

/-- The running means of squares. -/
def V (c : Dev nD) : Vec Ideal S2x192x1024 .f32 :=
  transpose S2x192x1024 [0, 2, 1] (m ((c : Thread nD τ).loc main_arg4)) transposes_S2x1024x192_S2x192x1024_0_2_1

theorem V_V (c : Dev nD) : Cert.Kernel12Ideal.Gen.V m c main_v2 = V m c := by
  show StableHlo.after hostOps0 (fun b => m (c, b)) (Proc.devRef .tc main_v2) = _
  after_results
  rfl

/-- The gradient of both layers, as a function of the parts. -/
def G (p q : Vec Ideal S8x192x1024 .bf16) : Vec Ideal S2x192x1024 .f32 := fun i =>
  (if (i 0).val < 1 then grad (R := 192) (C := 1024) p (i 1) (i 2) else grad (R := 192) (C := 1024) q (i 1) (i 2) : EReal)

/-- The running means after the step. -/
def M' (p q : Vec Ideal S8x192x1024 .bf16) (a : Vec Ideal S2x192x1024 .f32) : Vec Ideal S2x192x1024 .f32 := fun i =>
  mean (G p q i) (a i)

/-- The running means of squares after the step. -/
def V' (p q : Vec Ideal S8x192x1024 .bf16) (v : Vec Ideal S2x192x1024 .f32) : Vec Ideal S2x192x1024 .f32 := fun i =>
  square (G p q i) (v i)

/-- The change of the weights. -/
def D (p q : Vec Ideal S8x192x1024 .bf16) (w a v : Vec Ideal S2x192x1024 .f32) : Vec Ideal S2x192x1024 .f32 := fun i =>
  change (G p q i) (w i) (a i) (v i)

/-- The block's gradient at an element: the parts, one after the other. -/
theorem pay5_apply (x0 x1 x2 x3 x4 x5 x6 x7 : Vec Ideal S1x192x1024 .bf16) (j : S192x1024.Idx) :
    k0_pay5 x0 x1 x2 x3 x4 x5 x6 x7 j = (x0 (ix3 0 (j 0) (j 1)) + x1 (ix3 0 (j 0) (j 1)) + x2 (ix3 0 (j 0) (j 1)) + x3 (ix3 0 (j 0) (j 1))
      + x4 (ix3 0 (j 0) (j 1)) + x5 (ix3 0 (j 0) (j 1)) + x6 (ix3 0 (j 0) (j 1)) + x7 (ix3 0 (j 0) (j 1)) : EReal) := by
  unfold k0_pay5
  pointwise

/-- The block's change at an element. -/
theorem pay10_apply (g : FVec Ideal S192x1024 .f32) (w a v : Vec Ideal S1x192x1024 .f32) (j : S1x192x1024.Idx) :
    k0_pay10 g (k0_pay6 w) a v j = change (g (ix2 (j 1) (j 2))) (w j) (a j) (v j) := by
  unfold k0_pay10 k0_pay6 k0_pay7 k0_pay8 change mean square
  pointwise

/-- The block's running mean at an element. -/
theorem pay1_apply (g : FVec Ideal S192x1024 .f32) (a : Vec Ideal S1x192x1024 .f32) (j : S1x192x1024.Idx) :
    k0_pay1 (k0_pay7 g a) j = mean (g (ix2 (j 1) (j 2))) (a j) := by
  unfold k0_pay1 k0_pay7 mean
  pointwise

/-- The block's running mean of squares at an element. -/
theorem pay2_apply (g : FVec Ideal S192x1024 .f32) (v : Vec Ideal S1x192x1024 .f32) (j : S1x192x1024.Idx) :
    k0_pay2 (k0_pay8 g v) j = square (g (ix2 (j 1) (j 2))) (v j) := by
  unfold k0_pay2 k0_pay8 square
  pointwise

/-- The block's gradient as it is stored, at an element. -/
theorem pay9_apply (g : FVec Ideal S192x1024 .f32) (j : S1x192x1024.Idx) : k0_pay9 g j = g (ix2 (j 1) (j 2)) := by
  unfold k0_pay9
  pointwise

theorem blk0 (c : Dev nD) (t : Fin cfg0.N) (h : t.val / 1 = 0) (y : S8x192x1024.Idx) (i : S8x192x1024.Idx) (h0 : (i 0).val = (y 0).val)
    (h1 : (i 1).val = t.val % 1 * 192 + (y 1).val) (h2 : (i 2).val = (y 2).val) :
    (iblk m c 0 t : Vec Ideal S8x192x1024 .bf16) y = P m c i := by
  blk_simp [iblk]
  show Cert.Kernel12Ideal.Gen.V m c main_arg0 _ = P m c i
  rw [V_P]
  congr 1
  funext a; apply Fin.ext
  match a with
  | ⟨0, _⟩ => show win0_0.index t (0 : Fin 3) * 8 + 1 * (y 0).val = (i 0).val; rw [idx0 t h, h0]; simp
  | ⟨1, _⟩ => show win0_0.index t (1 : Fin 3) * 192 + 1 * (y 1).val = (i 1).val; rw [idx0 t h, h1]; simp
  | ⟨2, _⟩ => show win0_0.index t (2 : Fin 3) * 1024 + 1 * (y 2).val = (i 2).val; rw [idx0 t h, h2]; simp

theorem blk1 (c : Dev nD) (t : Fin cfg0.N) (h : t.val / 1 = 1) (y : S8x192x1024.Idx) (i : S8x192x1024.Idx) (h0 : (i 0).val = (y 0).val)
    (h1 : (i 1).val = t.val % 1 * 192 + (y 1).val) (h2 : (i 2).val = (y 2).val) :
    (iblk m c 1 t : Vec Ideal S8x192x1024 .bf16) y = Q m c i := by
  blk_simp [iblk]
  show Cert.Kernel12Ideal.Gen.V m c main_arg1 _ = Q m c i
  rw [V_Q]
  congr 1
  funext a; apply Fin.ext
  match a with
  | ⟨0, _⟩ => show win0_1.index t (0 : Fin 3) * 8 + 1 * (y 0).val = (i 0).val; rw [idx1 t h, h0]; simp
  | ⟨1, _⟩ => show win0_1.index t (1 : Fin 3) * 192 + 1 * (y 1).val = (i 1).val; rw [idx1 t h, h1]; simp
  | ⟨2, _⟩ => show win0_1.index t (2 : Fin 3) * 1024 + 1 * (y 2).val = (i 2).val; rw [idx1 t h, h2]; simp

theorem blk2 (c : Dev nD) (t : Fin cfg0.N) (y : S1x192x1024.Idx) (i : S2x192x1024.Idx) (h0 : (i 0).val = t.val / 1 + (y 0).val)
    (h1 : (i 1).val = t.val % 1 * 192 + (y 1).val) (h2 : (i 2).val = (y 2).val) :
    (iblk m c 2 t : Vec Ideal S1x192x1024 .f32) y = W m c i := by
  blk_simp [iblk]
  show Cert.Kernel12Ideal.Gen.V m c main_v0 _ = W m c i
  rw [V_W]
  congr 1
  funext a; apply Fin.ext
  match a with
  | ⟨0, _⟩ => show win0_2.index t (0 : Fin 3) * 1 + 1 * (y 0).val = (i 0).val; rw [idx2, h0]; simp
  | ⟨1, _⟩ => show win0_2.index t (1 : Fin 3) * 192 + 1 * (y 1).val = (i 1).val; rw [idx2, h1]; simp
  | ⟨2, _⟩ => show win0_2.index t (2 : Fin 3) * 1024 + 1 * (y 2).val = (i 2).val; rw [idx2, h2]; simp

theorem blk3 (c : Dev nD) (t : Fin cfg0.N) (y : S1x192x1024.Idx) (i : S2x192x1024.Idx) (h0 : (i 0).val = t.val / 1 + (y 0).val)
    (h1 : (i 1).val = t.val % 1 * 192 + (y 1).val) (h2 : (i 2).val = (y 2).val) :
    (iblk m c 3 t : Vec Ideal S1x192x1024 .f32) y = M m c i := by
  blk_simp [iblk]
  show Cert.Kernel12Ideal.Gen.V m c main_v1 _ = M m c i
  rw [V_M]
  congr 1
  funext a; apply Fin.ext
  match a with
  | ⟨0, _⟩ => show win0_3.index t (0 : Fin 3) * 1 + 1 * (y 0).val = (i 0).val; rw [idx3, h0]; simp
  | ⟨1, _⟩ => show win0_3.index t (1 : Fin 3) * 192 + 1 * (y 1).val = (i 1).val; rw [idx3, h1]; simp
  | ⟨2, _⟩ => show win0_3.index t (2 : Fin 3) * 1024 + 1 * (y 2).val = (i 2).val; rw [idx3, h2]; simp

theorem blk4 (c : Dev nD) (t : Fin cfg0.N) (y : S1x192x1024.Idx) (i : S2x192x1024.Idx) (h0 : (i 0).val = t.val / 1 + (y 0).val)
    (h1 : (i 1).val = t.val % 1 * 192 + (y 1).val) (h2 : (i 2).val = (y 2).val) :
    (iblk m c 4 t : Vec Ideal S1x192x1024 .f32) y = V m c i := by
  blk_simp [iblk]
  show Cert.Kernel12Ideal.Gen.V m c main_v2 _ = V m c i
  rw [V_V]
  congr 1
  funext a; apply Fin.ext
  match a with
  | ⟨0, _⟩ => show win0_4.index t (0 : Fin 3) * 1 + 1 * (y 0).val = (i 0).val; rw [idx4, h0]; simp
  | ⟨1, _⟩ => show win0_4.index t (1 : Fin 3) * 192 + 1 * (y 1).val = (i 1).val; rw [idx4, h1]; simp
  | ⟨2, _⟩ => show win0_4.index t (2 : Fin 3) * 1024 + 1 * (y 2).val = (i 2).val; rw [idx4, h2]; simp

/-- The gradient a point of the first layer computes. -/
def g0 (c : Dev nD) (t : Fin cfg0.N) : FVec Ideal S192x1024 .f32 :=
  k0_pay5 (View.ld (iblk m c 0 t : Vec Ideal S8x192x1024 .bf16) (Rect.unit ![0, 0, 0] ![1, 192, 1024] inb_S8x192x1024_S1x192x1024_0_0_0))
    (View.ld (iblk m c 0 t : Vec Ideal S8x192x1024 .bf16) (Rect.unit ![1, 0, 0] ![1, 192, 1024] inb_S8x192x1024_S1x192x1024_1_0_0))
    (View.ld (iblk m c 0 t : Vec Ideal S8x192x1024 .bf16) (Rect.unit ![2, 0, 0] ![1, 192, 1024] inb_S8x192x1024_S1x192x1024_2_0_0))
    (View.ld (iblk m c 0 t : Vec Ideal S8x192x1024 .bf16) (Rect.unit ![3, 0, 0] ![1, 192, 1024] inb_S8x192x1024_S1x192x1024_3_0_0))
    (View.ld (iblk m c 0 t : Vec Ideal S8x192x1024 .bf16) (Rect.unit ![4, 0, 0] ![1, 192, 1024] inb_S8x192x1024_S1x192x1024_4_0_0))
    (View.ld (iblk m c 0 t : Vec Ideal S8x192x1024 .bf16) (Rect.unit ![5, 0, 0] ![1, 192, 1024] inb_S8x192x1024_S1x192x1024_5_0_0))
    (View.ld (iblk m c 0 t : Vec Ideal S8x192x1024 .bf16) (Rect.unit ![6, 0, 0] ![1, 192, 1024] inb_S8x192x1024_S1x192x1024_6_0_0))
    (View.ld (iblk m c 0 t : Vec Ideal S8x192x1024 .bf16) (Rect.unit ![7, 0, 0] ![1, 192, 1024] inb_S8x192x1024_S1x192x1024_7_0_0))

/-- It is the first layer's gradient there. -/
theorem g0_at (c : Dev nD) (t : Fin cfg0.N) (h : t.val / 1 = 0) (y : S1x192x1024.Idx) (i : S2x192x1024.Idx) (h0 : (i 0).val = t.val / 1 + (y 0).val)
    (h1 : (i 1).val = t.val % 1 * 192 + (y 1).val) (h2 : (i 2).val = (y 2).val) :
    g0 m c t (ix2 (y 1) (y 2)) = G (P m c) (Q m c) i := by
  have hy : (y 0).val < 1 := (y 0).isLt
  refine (pay5_apply _ _ _ _ _ _ _ _ _).trans ?_
  unfold G grad
  rw [if_pos (by omega)]
  refine eight (fun q => P m c (ix3 q (i 1) (i 2))) _ _ _ _ _ _ _ _ ?_ ?_ ?_ ?_ ?_ ?_ ?_ ?_
  · exact (part (Val := Elt Ideal) (e := .bf16) (R := 192) (C := 1024) _ 0 _ (y 1) (y 2)).trans (blk0 m c t h _ _ rfl h1 h2)
  · exact (part (Val := Elt Ideal) (e := .bf16) (R := 192) (C := 1024) _ 1 _ (y 1) (y 2)).trans (blk0 m c t h _ _ rfl h1 h2)
  · exact (part (Val := Elt Ideal) (e := .bf16) (R := 192) (C := 1024) _ 2 _ (y 1) (y 2)).trans (blk0 m c t h _ _ rfl h1 h2)
  · exact (part (Val := Elt Ideal) (e := .bf16) (R := 192) (C := 1024) _ 3 _ (y 1) (y 2)).trans (blk0 m c t h _ _ rfl h1 h2)
  · exact (part (Val := Elt Ideal) (e := .bf16) (R := 192) (C := 1024) _ 4 _ (y 1) (y 2)).trans (blk0 m c t h _ _ rfl h1 h2)
  · exact (part (Val := Elt Ideal) (e := .bf16) (R := 192) (C := 1024) _ 5 _ (y 1) (y 2)).trans (blk0 m c t h _ _ rfl h1 h2)
  · exact (part (Val := Elt Ideal) (e := .bf16) (R := 192) (C := 1024) _ 6 _ (y 1) (y 2)).trans (blk0 m c t h _ _ rfl h1 h2)
  · exact (part (Val := Elt Ideal) (e := .bf16) (R := 192) (C := 1024) _ 7 _ (y 1) (y 2)).trans (blk0 m c t h _ _ rfl h1 h2)

/-- The gradient a point of the second layer computes. -/
def g1 (c : Dev nD) (t : Fin cfg0.N) : FVec Ideal S192x1024 .f32 :=
  k0_pay11 (View.ld (iblk m c 1 t : Vec Ideal S8x192x1024 .bf16) (Rect.unit ![0, 0, 0] ![1, 192, 1024] inb_S8x192x1024_S1x192x1024_0_0_0))
    (View.ld (iblk m c 1 t : Vec Ideal S8x192x1024 .bf16) (Rect.unit ![1, 0, 0] ![1, 192, 1024] inb_S8x192x1024_S1x192x1024_1_0_0))
    (View.ld (iblk m c 1 t : Vec Ideal S8x192x1024 .bf16) (Rect.unit ![2, 0, 0] ![1, 192, 1024] inb_S8x192x1024_S1x192x1024_2_0_0))
    (View.ld (iblk m c 1 t : Vec Ideal S8x192x1024 .bf16) (Rect.unit ![3, 0, 0] ![1, 192, 1024] inb_S8x192x1024_S1x192x1024_3_0_0))
    (View.ld (iblk m c 1 t : Vec Ideal S8x192x1024 .bf16) (Rect.unit ![4, 0, 0] ![1, 192, 1024] inb_S8x192x1024_S1x192x1024_4_0_0))
    (View.ld (iblk m c 1 t : Vec Ideal S8x192x1024 .bf16) (Rect.unit ![5, 0, 0] ![1, 192, 1024] inb_S8x192x1024_S1x192x1024_5_0_0))
    (View.ld (iblk m c 1 t : Vec Ideal S8x192x1024 .bf16) (Rect.unit ![6, 0, 0] ![1, 192, 1024] inb_S8x192x1024_S1x192x1024_6_0_0))
    (View.ld (iblk m c 1 t : Vec Ideal S8x192x1024 .bf16) (Rect.unit ![7, 0, 0] ![1, 192, 1024] inb_S8x192x1024_S1x192x1024_7_0_0))

/-- It is the second layer's gradient there. -/
theorem g1_at (c : Dev nD) (t : Fin cfg0.N) (h : t.val / 1 = 1) (y : S1x192x1024.Idx) (i : S2x192x1024.Idx) (h0 : (i 0).val = t.val / 1 + (y 0).val)
    (h1 : (i 1).val = t.val % 1 * 192 + (y 1).val) (h2 : (i 2).val = (y 2).val) :
    g1 m c t (ix2 (y 1) (y 2)) = G (P m c) (Q m c) i := by
  have hy : (y 0).val < 1 := (y 0).isLt
  refine (pay5_apply _ _ _ _ _ _ _ _ _).trans ?_
  unfold G grad
  rw [if_neg (by omega)]
  refine eight (fun q => Q m c (ix3 q (i 1) (i 2))) _ _ _ _ _ _ _ _ ?_ ?_ ?_ ?_ ?_ ?_ ?_ ?_
  · exact (part (Val := Elt Ideal) (e := .bf16) (R := 192) (C := 1024) _ 0 _ (y 1) (y 2)).trans (blk1 m c t h _ _ rfl h1 h2)
  · exact (part (Val := Elt Ideal) (e := .bf16) (R := 192) (C := 1024) _ 1 _ (y 1) (y 2)).trans (blk1 m c t h _ _ rfl h1 h2)
  · exact (part (Val := Elt Ideal) (e := .bf16) (R := 192) (C := 1024) _ 2 _ (y 1) (y 2)).trans (blk1 m c t h _ _ rfl h1 h2)
  · exact (part (Val := Elt Ideal) (e := .bf16) (R := 192) (C := 1024) _ 3 _ (y 1) (y 2)).trans (blk1 m c t h _ _ rfl h1 h2)
  · exact (part (Val := Elt Ideal) (e := .bf16) (R := 192) (C := 1024) _ 4 _ (y 1) (y 2)).trans (blk1 m c t h _ _ rfl h1 h2)
  · exact (part (Val := Elt Ideal) (e := .bf16) (R := 192) (C := 1024) _ 5 _ (y 1) (y 2)).trans (blk1 m c t h _ _ rfl h1 h2)
  · exact (part (Val := Elt Ideal) (e := .bf16) (R := 192) (C := 1024) _ 6 _ (y 1) (y 2)).trans (blk1 m c t h _ _ rfl h1 h2)
  · exact (part (Val := Elt Ideal) (e := .bf16) (R := 192) (C := 1024) _ 7 _ (y 1) (y 2)).trans (blk1 m c t h _ _ rfl h1 h2)

/-- The gradient after the run. -/
theorem arrG (c : Dev nD) : (dats m 0 c).arrAt 5 cfg0.N = G (P m c) (Q m c) := by
  refine (dats m 0 c).arrAt_eq_of_covers 5 _ (by decide +kernel) fun t hf y => ?_
  blk_simp [idx5]
  rw [after0_5]
  have e0 : (((View.whole main_v3_0).slice (win0_5.rect t)).emb y 0).val = win0_5.index t (0 : Fin 3) * 1 + 1 * (y 0).val := rfl
  have e1 : (((View.whole main_v3_0).slice (win0_5.rect t)).emb y 1).val = win0_5.index t (1 : Fin 3) * 192 + 1 * (y 1).val := rfl
  have e2 : (((View.whole main_v3_0).slice (win0_5.rect t)).emb y 2).val = win0_5.index t (2 : Fin 3) * 1024 + 1 * (y 2).val := rfl
  rw [idx5] at e0 e1 e2
  replace e0 : (((View.whole main_v3_0).slice (win0_5.rect t)).emb y 0).val = t.val / 1 + (y 0).val := by simpa using e0
  replace e1 : (((View.whole main_v3_0).slice (win0_5.rect t)).emb y 1).val = t.val % 1 * 192 + (y 1).val := by simpa using e1
  replace e2 : (((View.whole main_v3_0).slice (win0_5.rect t)).emb y 2).val = (y 2).val := by simpa using e2
  have hN : t.val < 2 := t.isLt
  have hl : t.val / 1 = 0 ∨ t.val / 1 = 1 := by omega
  rcases hl with h | h
  · rw [outsAt0_A m c t (by omega) (by omega)]
    frame_out
    exact (pay9_apply (g0 m c t) y).trans (g0_at m c t h y _ e0 e1 e2)
  · rw [outsAt0_B m c t (by omega) (by omega)]
    frame_out
    exact (pay9_apply (g1 m c t) y).trans (g1_at m c t h y _ e0 e1 e2)

/-- The changes of the weights after the run. -/
theorem arrD (c : Dev nD) : (dats m 0 c).arrAt 6 cfg0.N = D (P m c) (Q m c) (W m c) (M m c) (V m c) := by
  refine (dats m 0 c).arrAt_eq_of_covers 6 _ (by decide +kernel) fun t hf y => ?_
  blk_simp [idx6]
  rw [after0_6]
  have e0 : (((View.whole main_v3_1).slice (win0_6.rect t)).emb y 0).val = win0_6.index t (0 : Fin 3) * 1 + 1 * (y 0).val := rfl
  have e1 : (((View.whole main_v3_1).slice (win0_6.rect t)).emb y 1).val = win0_6.index t (1 : Fin 3) * 192 + 1 * (y 1).val := rfl
  have e2 : (((View.whole main_v3_1).slice (win0_6.rect t)).emb y 2).val = win0_6.index t (2 : Fin 3) * 1024 + 1 * (y 2).val := rfl
  rw [idx6] at e0 e1 e2
  replace e0 : (((View.whole main_v3_1).slice (win0_6.rect t)).emb y 0).val = t.val / 1 + (y 0).val := by simpa using e0
  replace e1 : (((View.whole main_v3_1).slice (win0_6.rect t)).emb y 1).val = t.val % 1 * 192 + (y 1).val := by simpa using e1
  replace e2 : (((View.whole main_v3_1).slice (win0_6.rect t)).emb y 2).val = (y 2).val := by simpa using e2
  have hN : t.val < 2 := t.isLt
  have hl : t.val / 1 = 0 ∨ t.val / 1 = 1 := by omega
  rcases hl with h | h
  · rw [outsAt0_A m c t (by omega) (by omega)]
    frame_out
    refine (pay10_apply (g0 m c t) _ _ _ y).trans ?_
    rw [(g0_at m c t h y _ e0 e1 e2), (blk2 m c t y _ e0 e1 e2), (blk3 m c t y _ e0 e1 e2), (blk4 m c t y _ e0 e1 e2)]
    rfl
  · rw [outsAt0_B m c t (by omega) (by omega)]
    frame_out
    refine (pay10_apply (g1 m c t) _ _ _ y).trans ?_
    rw [(g1_at m c t h y _ e0 e1 e2), (blk2 m c t y _ e0 e1 e2), (blk3 m c t y _ e0 e1 e2), (blk4 m c t y _ e0 e1 e2)]
    rfl

/-- The running means after the run. -/
theorem arrM (c : Dev nD) : (dats m 0 c).arrAt 7 cfg0.N = M' (P m c) (Q m c) (M m c) := by
  refine (dats m 0 c).arrAt_eq_of_covers 7 _ (by decide +kernel) fun t hf y => ?_
  blk_simp [idx7]
  rw [after0_7]
  have e0 : (((View.whole main_v3_2).slice (win0_7.rect t)).emb y 0).val = win0_7.index t (0 : Fin 3) * 1 + 1 * (y 0).val := rfl
  have e1 : (((View.whole main_v3_2).slice (win0_7.rect t)).emb y 1).val = win0_7.index t (1 : Fin 3) * 192 + 1 * (y 1).val := rfl
  have e2 : (((View.whole main_v3_2).slice (win0_7.rect t)).emb y 2).val = win0_7.index t (2 : Fin 3) * 1024 + 1 * (y 2).val := rfl
  rw [idx7] at e0 e1 e2
  replace e0 : (((View.whole main_v3_2).slice (win0_7.rect t)).emb y 0).val = t.val / 1 + (y 0).val := by simpa using e0
  replace e1 : (((View.whole main_v3_2).slice (win0_7.rect t)).emb y 1).val = t.val % 1 * 192 + (y 1).val := by simpa using e1
  replace e2 : (((View.whole main_v3_2).slice (win0_7.rect t)).emb y 2).val = (y 2).val := by simpa using e2
  have hN : t.val < 2 := t.isLt
  have hl : t.val / 1 = 0 ∨ t.val / 1 = 1 := by omega
  rcases hl with h | h
  · rw [outsAt0_A m c t (by omega) (by omega)]
    frame_out
    refine (pay1_apply (g0 m c t) _ y).trans ?_
    rw [(g0_at m c t h y _ e0 e1 e2), (blk3 m c t y _ e0 e1 e2)]
    rfl
  · rw [outsAt0_B m c t (by omega) (by omega)]
    frame_out
    refine (pay1_apply (g1 m c t) _ y).trans ?_
    rw [(g1_at m c t h y _ e0 e1 e2), (blk3 m c t y _ e0 e1 e2)]
    rfl

/-- The running means of squares after the run. -/
theorem arrV (c : Dev nD) : (dats m 0 c).arrAt 8 cfg0.N = V' (P m c) (Q m c) (V m c) := by
  refine (dats m 0 c).arrAt_eq_of_covers 8 _ (by decide +kernel) fun t hf y => ?_
  blk_simp [idx8]
  rw [after0_8]
  have e0 : (((View.whole main_v3_3).slice (win0_8.rect t)).emb y 0).val = win0_8.index t (0 : Fin 3) * 1 + 1 * (y 0).val := rfl
  have e1 : (((View.whole main_v3_3).slice (win0_8.rect t)).emb y 1).val = win0_8.index t (1 : Fin 3) * 192 + 1 * (y 1).val := rfl
  have e2 : (((View.whole main_v3_3).slice (win0_8.rect t)).emb y 2).val = win0_8.index t (2 : Fin 3) * 1024 + 1 * (y 2).val := rfl
  rw [idx8] at e0 e1 e2
  replace e0 : (((View.whole main_v3_3).slice (win0_8.rect t)).emb y 0).val = t.val / 1 + (y 0).val := by simpa using e0
  replace e1 : (((View.whole main_v3_3).slice (win0_8.rect t)).emb y 1).val = t.val % 1 * 192 + (y 1).val := by simpa using e1
  replace e2 : (((View.whole main_v3_3).slice (win0_8.rect t)).emb y 2).val = (y 2).val := by simpa using e2
  have hN : t.val < 2 := t.isLt
  have hl : t.val / 1 = 0 ∨ t.val / 1 = 1 := by omega
  rcases hl with h | h
  · rw [outsAt0_A m c t (by omega) (by omega)]
    frame_out
    refine (pay2_apply (g0 m c t) _ y).trans ?_
    rw [(g0_at m c t h y _ e0 e1 e2), (blk4 m c t y _ e0 e1 e2)]
    rfl
  · rw [outsAt0_B m c t (by omega) (by omega)]
    frame_out
    refine (pay2_apply (g1 m c t) _ y).trans ?_
    rw [(g1_at m c t h y _ e0 e1 e2), (blk4 m c t y _ e0 e1 e2)]
    rfl

theorem tail4 (c : Dev nD) : Pipeline.afterTail₀ cfgs (dats m) 0 (V0 m) [hostOps1] c main_v4
    = transpose S2x1024x192 [0, 2, 1] ((dats m 0 c).arrAt 5 cfg0.N) transposes_S2x192x1024_S2x1024x192_0_2_1 := by
  show StableHlo.after hostOps1 _ (Proc.devRef .tc main_v4) = _
  after_results
  exact congrArg (fun x => transpose S2x1024x192 [0, 2, 1] (x) transposes_S2x192x1024_S2x1024x192_0_2_1) (Pipeline.withArrays_arr spec0 (by decide) c (V0 m c) _ 5)

theorem tail5 (c : Dev nD) : Pipeline.afterTail₀ cfgs (dats m) 0 (V0 m) [hostOps1] c main_v5
    = transpose S2x1024x192 [0, 2, 1] ((dats m 0 c).arrAt 6 cfg0.N) transposes_S2x192x1024_S2x1024x192_0_2_1 := by
  show StableHlo.after hostOps1 _ (Proc.devRef .tc main_v5) = _
  after_results
  exact congrArg (fun x => transpose S2x1024x192 [0, 2, 1] (x) transposes_S2x192x1024_S2x1024x192_0_2_1) (Pipeline.withArrays_arr spec0 (by decide) c (V0 m c) _ 6)

theorem tail6 (c : Dev nD) : Pipeline.afterTail₀ cfgs (dats m) 0 (V0 m) [hostOps1] c main_v6
    = transpose S2x1024x192 [0, 2, 1] ((dats m 0 c).arrAt 7 cfg0.N) transposes_S2x192x1024_S2x1024x192_0_2_1 := by
  show StableHlo.after hostOps1 _ (Proc.devRef .tc main_v6) = _
  after_results
  exact congrArg (fun x => transpose S2x1024x192 [0, 2, 1] (x) transposes_S2x192x1024_S2x1024x192_0_2_1) (Pipeline.withArrays_arr spec0 (by decide) c (V0 m c) _ 7)

theorem tail7 (c : Dev nD) : Pipeline.afterTail₀ cfgs (dats m) 0 (V0 m) [hostOps1] c main_v7
    = transpose S2x1024x192 [0, 2, 1] ((dats m 0 c).arrAt 8 cfg0.N) transposes_S2x192x1024_S2x1024x192_0_2_1 := by
  show StableHlo.after hostOps1 _ (Proc.devRef .tc main_v7) = _
  after_results
  exact congrArg (fun x => transpose S2x1024x192 [0, 2, 1] (x) transposes_S2x192x1024_S2x1024x192_0_2_1) (Pipeline.withArrays_arr spec0 (by decide) c (V0 m c) _ 8)

/-- The run: each result is the turned array of its window, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v4) = transpose S2x1024x192 [0, 2, 1] ((dats m 0 c).arrAt 5 cfg0.N) transposes_S2x192x1024_S2x1024x192_0_2_1
      ∧ r.2.mem ((c : Thread nD τ).loc main_v5) = transpose S2x1024x192 [0, 2, 1] ((dats m 0 c).arrAt 6 cfg0.N) transposes_S2x192x1024_S2x1024x192_0_2_1
      ∧ r.2.mem ((c : Thread nD τ).loc main_v6) = transpose S2x1024x192 [0, 2, 1] ((dats m 0 c).arrAt 7 cfg0.N) transposes_S2x192x1024_S2x1024x192_0_2_1
      ∧ r.2.mem ((c : Thread nD τ).loc main_v7) = transpose S2x1024x192 [0, 2, 1] ((dats m 0 c).arrAt 8 cfg0.N) transposes_S2x192x1024_S2x1024x192_0_2_1
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  run_from run_main m ρ & unchanged m ρ
  · exact tail4 m c
  · exact tail5 m c
  · exact tail6 m c
  · exact tail7 m c

/-- The kernel's results are the reference's. -/
theorem algebraic : Cert.algebraic_Kernel12Ideal_Reference12Ideal := by
  intro m ρ m' ρ' _ hagree
  refine ⟨_, _, _, _, run m ρ, ?_⟩
  refine (θ_run Cert.Reference12Ideal.defs _ _).mono (fun _ h c => ⟨?_, ?_, ?_, ?_, (h c).2.2.2.2⟩) (Cert.Reference12Ideal.Value.run (F := Ideal) m' ρ')
  · obtain ⟨h0, h1, h2, h3, h4⟩ := hagree c
    rw [(h c).1, arrG]
    unfold G grad P Q
    funext i
    pointwise
    rw [h0, h1]
    simp only [dite_eq_ite]
  · obtain ⟨h0, h1, h2, h3, h4⟩ := hagree c
    rw [(h c).2.1, arrD]
    unfold D change mean square G grad P Q W M V
    funext i
    pointwise
    rw [h0, h1, h2, h3, h4]
    simp only [dite_eq_ite]
  · obtain ⟨h0, h1, h2, h3, h4⟩ := hagree c
    rw [(h c).2.2.1, arrM]
    unfold M' mean G grad P Q M
    funext i
    pointwise
    rw [h0, h1, h3]
    simp only [dite_eq_ite]
  · obtain ⟨h0, h1, h2, h3, h4⟩ := hagree c
    rw [(h c).2.2.2.1, arrV]
    unfold V' square G grad P Q V
    funext i
    pointwise
    rw [h0, h1, h4]
    simp only [dite_eq_ite]

end Cert.Kernel12Ideal.AdamIn

end
-- ==== Proof.AdamUp.lean ====
/-
  The optimiser's update of the first product of the feed-forward layer: the host turns the weights
  and the running means and squares so that their rows are the parts' rows, and the results back; each grid point adds the eight parts of one layer's gradient over its block of
  rows and steps the two running means and the weight; the blocks of the four results tile them.
-/
module

public import proofs.«01_k».proof.Proof.Gen.Kernel13Ideal.Frame
public import proofs.«01_k».proof.Proof.Gen.Reference13Ideal.Run
public import Idealize.ShloMosaic.Lib.Pipeline.ValueKit
public import Idealize.ShloMosaic.Lib.Pipeline.ReadBack
public import Idealize.ShloMosaic.Lib.Pointwise
public import proofs.«01_k».proof.Defs
public import proofs.«01_k».proof.Proof.AdamStep

@[expose] public section

set_option maxRecDepth 16384

noncomputable section

namespace Cert.Kernel13Ideal.AdamUp

open Cert.Kernel13Ideal Cert.Kernel13Ideal.Gen Idealize.ShloMosaic Idealize.ShloMosaic.TcCoe Idealize.SL.Sem
open Idealize.ShloMosaic.Pipeline (Dat)
open Cert.AdamStep

variable (m : (ℓ : Loc nD τ sig) → Buf (Elt Ideal) ℓ)

theorem idx0 : ∀ t : Fin grid0.N, t.val / 4 = 0 → win0_0.index t = ![0, t.val % 4, 0] := by decide +kernel
theorem idx1 : ∀ t : Fin grid0.N, t.val / 4 = 1 → win0_1.index t = ![0, t.val % 4, 0] := by decide +kernel
theorem idx2 : ∀ t : Fin grid0.N, win0_2.index t = ![t.val / 4, t.val % 4, 0] := by decide +kernel
theorem idx3 : ∀ t : Fin grid0.N, win0_3.index t = ![t.val / 4, t.val % 4, 0] := by decide +kernel
theorem idx4 : ∀ t : Fin grid0.N, win0_4.index t = ![t.val / 4, t.val % 4, 0] := by decide +kernel
theorem idx5 : ∀ t : Fin grid0.N, win0_5.index t = ![t.val / 4, t.val % 4, 0] := by decide +kernel
theorem idx6 : ∀ t : Fin grid0.N, win0_6.index t = ![t.val / 4, t.val % 4, 0] := by decide +kernel
theorem idx7 : ∀ t : Fin grid0.N, win0_7.index t = ![t.val / 4, t.val % 4, 0] := by decide +kernel
theorem idx8 : ∀ t : Fin grid0.N, win0_8.index t = ![t.val / 4, t.val % 4, 0] := by decide +kernel

/-- The parts of the first layer's gradient. -/
def P (c : Dev nD) : Vec Ideal S8x704x1024 .bf16 := m ((c : Thread nD τ).loc main_arg0)

theorem V_P (c : Dev nD) : Cert.Kernel13Ideal.Gen.V m c main_arg0 = P m c :=
  V_main_arg0 m c

/-- The parts of the second layer's gradient. -/
def Q (c : Dev nD) : Vec Ideal S8x704x1024 .bf16 := m ((c : Thread nD τ).loc main_arg1)

theorem V_Q (c : Dev nD) : Cert.Kernel13Ideal.Gen.V m c main_arg1 = Q m c :=
  V_main_arg1 m c

/-- The weights. -/
def W (c : Dev nD) : Vec Ideal S2x704x1024 .f32 :=
  transpose S2x704x1024 [0, 2, 1] (m ((c : Thread nD τ).loc main_arg2)) transposes_S2x1024x704_S2x704x1024_0_2_1

theorem V_W (c : Dev nD) : Cert.Kernel13Ideal.Gen.V m c main_v0 = W m c := by
  show StableHlo.after hostOps0 (fun b => m (c, b)) (Proc.devRef .tc main_v0) = _
  after_results
  rfl

/-- The running means. -/
def M (c : Dev nD) : Vec Ideal S2x704x1024 .f32 :=
  transpose S2x704x1024 [0, 2, 1] (m ((c : Thread nD τ).loc main_arg3)) transposes_S2x1024x704_S2x704x1024_0_2_1

theorem V_M (c : Dev nD) : Cert.Kernel13Ideal.Gen.V m c main_v1 = M m c := by
  show StableHlo.after hostOps0 (fun b => m (c, b)) (Proc.devRef .tc main_v1) = _
  after_results
  rfl

/-- The running means of squares. -/
def V (c : Dev nD) : Vec Ideal S2x704x1024 .f32 :=
  transpose S2x704x1024 [0, 2, 1] (m ((c : Thread nD τ).loc main_arg4)) transposes_S2x1024x704_S2x704x1024_0_2_1

theorem V_V (c : Dev nD) : Cert.Kernel13Ideal.Gen.V m c main_v2 = V m c := by
  show StableHlo.after hostOps0 (fun b => m (c, b)) (Proc.devRef .tc main_v2) = _
  after_results
  rfl

/-- The gradient of both layers, as a function of the parts. -/
def G (p q : Vec Ideal S8x704x1024 .bf16) : Vec Ideal S2x704x1024 .f32 := fun i =>
  (if (i 0).val < 1 then grad (R := 704) (C := 1024) p (i 1) (i 2) else grad (R := 704) (C := 1024) q (i 1) (i 2) : EReal)

/-- The running means after the step. -/
def M' (p q : Vec Ideal S8x704x1024 .bf16) (a : Vec Ideal S2x704x1024 .f32) : Vec Ideal S2x704x1024 .f32 := fun i =>
  mean (G p q i) (a i)

/-- The running means of squares after the step. -/
def V' (p q : Vec Ideal S8x704x1024 .bf16) (v : Vec Ideal S2x704x1024 .f32) : Vec Ideal S2x704x1024 .f32 := fun i =>
  square (G p q i) (v i)

/-- The change of the weights. -/
def D (p q : Vec Ideal S8x704x1024 .bf16) (w a v : Vec Ideal S2x704x1024 .f32) : Vec Ideal S2x704x1024 .f32 := fun i =>
  change (G p q i) (w i) (a i) (v i)

/-- The block's gradient at an element: the parts, one after the other. -/
theorem pay5_apply (x0 x1 x2 x3 x4 x5 x6 x7 : Vec Ideal S1x176x1024 .bf16) (j : S176x1024.Idx) :
    k0_pay5 x0 x1 x2 x3 x4 x5 x6 x7 j = (x0 (ix3 0 (j 0) (j 1)) + x1 (ix3 0 (j 0) (j 1)) + x2 (ix3 0 (j 0) (j 1)) + x3 (ix3 0 (j 0) (j 1))
      + x4 (ix3 0 (j 0) (j 1)) + x5 (ix3 0 (j 0) (j 1)) + x6 (ix3 0 (j 0) (j 1)) + x7 (ix3 0 (j 0) (j 1)) : EReal) := by
  unfold k0_pay5
  pointwise

/-- The block's change at an element. -/
theorem pay10_apply (g : FVec Ideal S176x1024 .f32) (w a v : Vec Ideal S1x176x1024 .f32) (j : S1x176x1024.Idx) :
    k0_pay10 g (k0_pay6 w) a v j = change (g (ix2 (j 1) (j 2))) (w j) (a j) (v j) := by
  unfold k0_pay10 k0_pay6 k0_pay7 k0_pay8 change mean square
  pointwise

/-- The block's running mean at an element. -/
theorem pay1_apply (g : FVec Ideal S176x1024 .f32) (a : Vec Ideal S1x176x1024 .f32) (j : S1x176x1024.Idx) :
    k0_pay1 (k0_pay7 g a) j = mean (g (ix2 (j 1) (j 2))) (a j) := by
  unfold k0_pay1 k0_pay7 mean
  pointwise

/-- The block's running mean of squares at an element. -/
theorem pay2_apply (g : FVec Ideal S176x1024 .f32) (v : Vec Ideal S1x176x1024 .f32) (j : S1x176x1024.Idx) :
    k0_pay2 (k0_pay8 g v) j = square (g (ix2 (j 1) (j 2))) (v j) := by
  unfold k0_pay2 k0_pay8 square
  pointwise

/-- The block's gradient as it is stored, at an element. -/
theorem pay9_apply (g : FVec Ideal S176x1024 .f32) (j : S1x176x1024.Idx) : k0_pay9 g j = g (ix2 (j 1) (j 2)) := by
  unfold k0_pay9
  pointwise

theorem blk0 (c : Dev nD) (t : Fin cfg0.N) (h : t.val / 4 = 0) (y : S8x176x1024.Idx) (i : S8x704x1024.Idx) (h0 : (i 0).val = (y 0).val)
    (h1 : (i 1).val = t.val % 4 * 176 + (y 1).val) (h2 : (i 2).val = (y 2).val) :
    (iblk m c 0 t : Vec Ideal S8x176x1024 .bf16) y = P m c i := by
  blk_simp [iblk]
  show Cert.Kernel13Ideal.Gen.V m c main_arg0 _ = P m c i
  rw [V_P]
  congr 1
  funext a; apply Fin.ext
  match a with
  | ⟨0, _⟩ => show win0_0.index t (0 : Fin 3) * 8 + 1 * (y 0).val = (i 0).val; rw [idx0 t h, h0]; simp
  | ⟨1, _⟩ => show win0_0.index t (1 : Fin 3) * 176 + 1 * (y 1).val = (i 1).val; rw [idx0 t h, h1]; simp
  | ⟨2, _⟩ => show win0_0.index t (2 : Fin 3) * 1024 + 1 * (y 2).val = (i 2).val; rw [idx0 t h, h2]; simp

theorem blk1 (c : Dev nD) (t : Fin cfg0.N) (h : t.val / 4 = 1) (y : S8x176x1024.Idx) (i : S8x704x1024.Idx) (h0 : (i 0).val = (y 0).val)
    (h1 : (i 1).val = t.val % 4 * 176 + (y 1).val) (h2 : (i 2).val = (y 2).val) :
    (iblk m c 1 t : Vec Ideal S8x176x1024 .bf16) y = Q m c i := by
  blk_simp [iblk]
  show Cert.Kernel13Ideal.Gen.V m c main_arg1 _ = Q m c i
  rw [V_Q]
  congr 1
  funext a; apply Fin.ext
  match a with
  | ⟨0, _⟩ => show win0_1.index t (0 : Fin 3) * 8 + 1 * (y 0).val = (i 0).val; rw [idx1 t h, h0]; simp
  | ⟨1, _⟩ => show win0_1.index t (1 : Fin 3) * 176 + 1 * (y 1).val = (i 1).val; rw [idx1 t h, h1]; simp
  | ⟨2, _⟩ => show win0_1.index t (2 : Fin 3) * 1024 + 1 * (y 2).val = (i 2).val; rw [idx1 t h, h2]; simp

theorem blk2 (c : Dev nD) (t : Fin cfg0.N) (y : S1x176x1024.Idx) (i : S2x704x1024.Idx) (h0 : (i 0).val = t.val / 4 + (y 0).val)
    (h1 : (i 1).val = t.val % 4 * 176 + (y 1).val) (h2 : (i 2).val = (y 2).val) :
    (iblk m c 2 t : Vec Ideal S1x176x1024 .f32) y = W m c i := by
  blk_simp [iblk]
  show Cert.Kernel13Ideal.Gen.V m c main_v0 _ = W m c i
  rw [V_W]
  congr 1
  funext a; apply Fin.ext
  match a with
  | ⟨0, _⟩ => show win0_2.index t (0 : Fin 3) * 1 + 1 * (y 0).val = (i 0).val; rw [idx2, h0]; simp
  | ⟨1, _⟩ => show win0_2.index t (1 : Fin 3) * 176 + 1 * (y 1).val = (i 1).val; rw [idx2, h1]; simp
  | ⟨2, _⟩ => show win0_2.index t (2 : Fin 3) * 1024 + 1 * (y 2).val = (i 2).val; rw [idx2, h2]; simp

theorem blk3 (c : Dev nD) (t : Fin cfg0.N) (y : S1x176x1024.Idx) (i : S2x704x1024.Idx) (h0 : (i 0).val = t.val / 4 + (y 0).val)
    (h1 : (i 1).val = t.val % 4 * 176 + (y 1).val) (h2 : (i 2).val = (y 2).val) :
    (iblk m c 3 t : Vec Ideal S1x176x1024 .f32) y = M m c i := by
  blk_simp [iblk]
  show Cert.Kernel13Ideal.Gen.V m c main_v1 _ = M m c i
  rw [V_M]
  congr 1
  funext a; apply Fin.ext
  match a with
  | ⟨0, _⟩ => show win0_3.index t (0 : Fin 3) * 1 + 1 * (y 0).val = (i 0).val; rw [idx3, h0]; simp
  | ⟨1, _⟩ => show win0_3.index t (1 : Fin 3) * 176 + 1 * (y 1).val = (i 1).val; rw [idx3, h1]; simp
  | ⟨2, _⟩ => show win0_3.index t (2 : Fin 3) * 1024 + 1 * (y 2).val = (i 2).val; rw [idx3, h2]; simp

theorem blk4 (c : Dev nD) (t : Fin cfg0.N) (y : S1x176x1024.Idx) (i : S2x704x1024.Idx) (h0 : (i 0).val = t.val / 4 + (y 0).val)
    (h1 : (i 1).val = t.val % 4 * 176 + (y 1).val) (h2 : (i 2).val = (y 2).val) :
    (iblk m c 4 t : Vec Ideal S1x176x1024 .f32) y = V m c i := by
  blk_simp [iblk]
  show Cert.Kernel13Ideal.Gen.V m c main_v2 _ = V m c i
  rw [V_V]
  congr 1
  funext a; apply Fin.ext
  match a with
  | ⟨0, _⟩ => show win0_4.index t (0 : Fin 3) * 1 + 1 * (y 0).val = (i 0).val; rw [idx4, h0]; simp
  | ⟨1, _⟩ => show win0_4.index t (1 : Fin 3) * 176 + 1 * (y 1).val = (i 1).val; rw [idx4, h1]; simp
  | ⟨2, _⟩ => show win0_4.index t (2 : Fin 3) * 1024 + 1 * (y 2).val = (i 2).val; rw [idx4, h2]; simp

/-- The gradient a point of the first layer computes. -/
def g0 (c : Dev nD) (t : Fin cfg0.N) : FVec Ideal S176x1024 .f32 :=
  k0_pay5 (View.ld (iblk m c 0 t : Vec Ideal S8x176x1024 .bf16) (Rect.unit ![0, 0, 0] ![1, 176, 1024] inb_S8x176x1024_S1x176x1024_0_0_0))
    (View.ld (iblk m c 0 t : Vec Ideal S8x176x1024 .bf16) (Rect.unit ![1, 0, 0] ![1, 176, 1024] inb_S8x176x1024_S1x176x1024_1_0_0))
    (View.ld (iblk m c 0 t : Vec Ideal S8x176x1024 .bf16) (Rect.unit ![2, 0, 0] ![1, 176, 1024] inb_S8x176x1024_S1x176x1024_2_0_0))
    (View.ld (iblk m c 0 t : Vec Ideal S8x176x1024 .bf16) (Rect.unit ![3, 0, 0] ![1, 176, 1024] inb_S8x176x1024_S1x176x1024_3_0_0))
    (View.ld (iblk m c 0 t : Vec Ideal S8x176x1024 .bf16) (Rect.unit ![4, 0, 0] ![1, 176, 1024] inb_S8x176x1024_S1x176x1024_4_0_0))
    (View.ld (iblk m c 0 t : Vec Ideal S8x176x1024 .bf16) (Rect.unit ![5, 0, 0] ![1, 176, 1024] inb_S8x176x1024_S1x176x1024_5_0_0))
    (View.ld (iblk m c 0 t : Vec Ideal S8x176x1024 .bf16) (Rect.unit ![6, 0, 0] ![1, 176, 1024] inb_S8x176x1024_S1x176x1024_6_0_0))
    (View.ld (iblk m c 0 t : Vec Ideal S8x176x1024 .bf16) (Rect.unit ![7, 0, 0] ![1, 176, 1024] inb_S8x176x1024_S1x176x1024_7_0_0))

/-- It is the first layer's gradient there. -/
theorem g0_at (c : Dev nD) (t : Fin cfg0.N) (h : t.val / 4 = 0) (y : S1x176x1024.Idx) (i : S2x704x1024.Idx) (h0 : (i 0).val = t.val / 4 + (y 0).val)
    (h1 : (i 1).val = t.val % 4 * 176 + (y 1).val) (h2 : (i 2).val = (y 2).val) :
    g0 m c t (ix2 (y 1) (y 2)) = G (P m c) (Q m c) i := by
  have hy : (y 0).val < 1 := (y 0).isLt
  refine (pay5_apply _ _ _ _ _ _ _ _ _).trans ?_
  unfold G grad
  rw [if_pos (by omega)]
  refine eight (fun q => P m c (ix3 q (i 1) (i 2))) _ _ _ _ _ _ _ _ ?_ ?_ ?_ ?_ ?_ ?_ ?_ ?_
  · exact (part (Val := Elt Ideal) (e := .bf16) (R := 176) (C := 1024) _ 0 _ (y 1) (y 2)).trans (blk0 m c t h _ _ rfl h1 h2)
  · exact (part (Val := Elt Ideal) (e := .bf16) (R := 176) (C := 1024) _ 1 _ (y 1) (y 2)).trans (blk0 m c t h _ _ rfl h1 h2)
  · exact (part (Val := Elt Ideal) (e := .bf16) (R := 176) (C := 1024) _ 2 _ (y 1) (y 2)).trans (blk0 m c t h _ _ rfl h1 h2)
  · exact (part (Val := Elt Ideal) (e := .bf16) (R := 176) (C := 1024) _ 3 _ (y 1) (y 2)).trans (blk0 m c t h _ _ rfl h1 h2)
  · exact (part (Val := Elt Ideal) (e := .bf16) (R := 176) (C := 1024) _ 4 _ (y 1) (y 2)).trans (blk0 m c t h _ _ rfl h1 h2)
  · exact (part (Val := Elt Ideal) (e := .bf16) (R := 176) (C := 1024) _ 5 _ (y 1) (y 2)).trans (blk0 m c t h _ _ rfl h1 h2)
  · exact (part (Val := Elt Ideal) (e := .bf16) (R := 176) (C := 1024) _ 6 _ (y 1) (y 2)).trans (blk0 m c t h _ _ rfl h1 h2)
  · exact (part (Val := Elt Ideal) (e := .bf16) (R := 176) (C := 1024) _ 7 _ (y 1) (y 2)).trans (blk0 m c t h _ _ rfl h1 h2)

/-- The gradient a point of the second layer computes. -/
def g1 (c : Dev nD) (t : Fin cfg0.N) : FVec Ideal S176x1024 .f32 :=
  k0_pay11 (View.ld (iblk m c 1 t : Vec Ideal S8x176x1024 .bf16) (Rect.unit ![0, 0, 0] ![1, 176, 1024] inb_S8x176x1024_S1x176x1024_0_0_0))
    (View.ld (iblk m c 1 t : Vec Ideal S8x176x1024 .bf16) (Rect.unit ![1, 0, 0] ![1, 176, 1024] inb_S8x176x1024_S1x176x1024_1_0_0))
    (View.ld (iblk m c 1 t : Vec Ideal S8x176x1024 .bf16) (Rect.unit ![2, 0, 0] ![1, 176, 1024] inb_S8x176x1024_S1x176x1024_2_0_0))
    (View.ld (iblk m c 1 t : Vec Ideal S8x176x1024 .bf16) (Rect.unit ![3, 0, 0] ![1, 176, 1024] inb_S8x176x1024_S1x176x1024_3_0_0))
    (View.ld (iblk m c 1 t : Vec Ideal S8x176x1024 .bf16) (Rect.unit ![4, 0, 0] ![1, 176, 1024] inb_S8x176x1024_S1x176x1024_4_0_0))
    (View.ld (iblk m c 1 t : Vec Ideal S8x176x1024 .bf16) (Rect.unit ![5, 0, 0] ![1, 176, 1024] inb_S8x176x1024_S1x176x1024_5_0_0))
    (View.ld (iblk m c 1 t : Vec Ideal S8x176x1024 .bf16) (Rect.unit ![6, 0, 0] ![1, 176, 1024] inb_S8x176x1024_S1x176x1024_6_0_0))
    (View.ld (iblk m c 1 t : Vec Ideal S8x176x1024 .bf16) (Rect.unit ![7, 0, 0] ![1, 176, 1024] inb_S8x176x1024_S1x176x1024_7_0_0))

/-- It is the second layer's gradient there. -/
theorem g1_at (c : Dev nD) (t : Fin cfg0.N) (h : t.val / 4 = 1) (y : S1x176x1024.Idx) (i : S2x704x1024.Idx) (h0 : (i 0).val = t.val / 4 + (y 0).val)
    (h1 : (i 1).val = t.val % 4 * 176 + (y 1).val) (h2 : (i 2).val = (y 2).val) :
    g1 m c t (ix2 (y 1) (y 2)) = G (P m c) (Q m c) i := by
  have hy : (y 0).val < 1 := (y 0).isLt
  refine (pay5_apply _ _ _ _ _ _ _ _ _).trans ?_
  unfold G grad
  rw [if_neg (by omega)]
  refine eight (fun q => Q m c (ix3 q (i 1) (i 2))) _ _ _ _ _ _ _ _ ?_ ?_ ?_ ?_ ?_ ?_ ?_ ?_
  · exact (part (Val := Elt Ideal) (e := .bf16) (R := 176) (C := 1024) _ 0 _ (y 1) (y 2)).trans (blk1 m c t h _ _ rfl h1 h2)
  · exact (part (Val := Elt Ideal) (e := .bf16) (R := 176) (C := 1024) _ 1 _ (y 1) (y 2)).trans (blk1 m c t h _ _ rfl h1 h2)
  · exact (part (Val := Elt Ideal) (e := .bf16) (R := 176) (C := 1024) _ 2 _ (y 1) (y 2)).trans (blk1 m c t h _ _ rfl h1 h2)
  · exact (part (Val := Elt Ideal) (e := .bf16) (R := 176) (C := 1024) _ 3 _ (y 1) (y 2)).trans (blk1 m c t h _ _ rfl h1 h2)
  · exact (part (Val := Elt Ideal) (e := .bf16) (R := 176) (C := 1024) _ 4 _ (y 1) (y 2)).trans (blk1 m c t h _ _ rfl h1 h2)
  · exact (part (Val := Elt Ideal) (e := .bf16) (R := 176) (C := 1024) _ 5 _ (y 1) (y 2)).trans (blk1 m c t h _ _ rfl h1 h2)
  · exact (part (Val := Elt Ideal) (e := .bf16) (R := 176) (C := 1024) _ 6 _ (y 1) (y 2)).trans (blk1 m c t h _ _ rfl h1 h2)
  · exact (part (Val := Elt Ideal) (e := .bf16) (R := 176) (C := 1024) _ 7 _ (y 1) (y 2)).trans (blk1 m c t h _ _ rfl h1 h2)

/-- The gradient after the run. -/
theorem arrG (c : Dev nD) : (dats m 0 c).arrAt 5 cfg0.N = G (P m c) (Q m c) := by
  refine (dats m 0 c).arrAt_eq_of_covers 5 _ (by decide +kernel) fun t hf y => ?_
  blk_simp [idx5]
  rw [after0_5]
  have e0 : (((View.whole main_v3_0).slice (win0_5.rect t)).emb y 0).val = win0_5.index t (0 : Fin 3) * 1 + 1 * (y 0).val := rfl
  have e1 : (((View.whole main_v3_0).slice (win0_5.rect t)).emb y 1).val = win0_5.index t (1 : Fin 3) * 176 + 1 * (y 1).val := rfl
  have e2 : (((View.whole main_v3_0).slice (win0_5.rect t)).emb y 2).val = win0_5.index t (2 : Fin 3) * 1024 + 1 * (y 2).val := rfl
  rw [idx5] at e0 e1 e2
  replace e0 : (((View.whole main_v3_0).slice (win0_5.rect t)).emb y 0).val = t.val / 4 + (y 0).val := by simpa using e0
  replace e1 : (((View.whole main_v3_0).slice (win0_5.rect t)).emb y 1).val = t.val % 4 * 176 + (y 1).val := by simpa using e1
  replace e2 : (((View.whole main_v3_0).slice (win0_5.rect t)).emb y 2).val = (y 2).val := by simpa using e2
  have hN : t.val < 8 := t.isLt
  have hl : t.val / 4 = 0 ∨ t.val / 4 = 1 := by omega
  rcases hl with h | h
  · rw [outsAt0_A m c t (by omega) (by omega)]
    frame_out
    exact (pay9_apply (g0 m c t) y).trans (g0_at m c t h y _ e0 e1 e2)
  · rw [outsAt0_B m c t (by omega) (by omega)]
    frame_out
    exact (pay9_apply (g1 m c t) y).trans (g1_at m c t h y _ e0 e1 e2)

/-- The changes of the weights after the run. -/
theorem arrD (c : Dev nD) : (dats m 0 c).arrAt 6 cfg0.N = D (P m c) (Q m c) (W m c) (M m c) (V m c) := by
  refine (dats m 0 c).arrAt_eq_of_covers 6 _ (by decide +kernel) fun t hf y => ?_
  blk_simp [idx6]
  rw [after0_6]
  have e0 : (((View.whole main_v3_1).slice (win0_6.rect t)).emb y 0).val = win0_6.index t (0 : Fin 3) * 1 + 1 * (y 0).val := rfl
  have e1 : (((View.whole main_v3_1).slice (win0_6.rect t)).emb y 1).val = win0_6.index t (1 : Fin 3) * 176 + 1 * (y 1).val := rfl
  have e2 : (((View.whole main_v3_1).slice (win0_6.rect t)).emb y 2).val = win0_6.index t (2 : Fin 3) * 1024 + 1 * (y 2).val := rfl
  rw [idx6] at e0 e1 e2
  replace e0 : (((View.whole main_v3_1).slice (win0_6.rect t)).emb y 0).val = t.val / 4 + (y 0).val := by simpa using e0
  replace e1 : (((View.whole main_v3_1).slice (win0_6.rect t)).emb y 1).val = t.val % 4 * 176 + (y 1).val := by simpa using e1
  replace e2 : (((View.whole main_v3_1).slice (win0_6.rect t)).emb y 2).val = (y 2).val := by simpa using e2
  have hN : t.val < 8 := t.isLt
  have hl : t.val / 4 = 0 ∨ t.val / 4 = 1 := by omega
  rcases hl with h | h
  · rw [outsAt0_A m c t (by omega) (by omega)]
    frame_out
    refine (pay10_apply (g0 m c t) _ _ _ y).trans ?_
    rw [(g0_at m c t h y _ e0 e1 e2), (blk2 m c t y _ e0 e1 e2), (blk3 m c t y _ e0 e1 e2), (blk4 m c t y _ e0 e1 e2)]
    rfl
  · rw [outsAt0_B m c t (by omega) (by omega)]
    frame_out
    refine (pay10_apply (g1 m c t) _ _ _ y).trans ?_
    rw [(g1_at m c t h y _ e0 e1 e2), (blk2 m c t y _ e0 e1 e2), (blk3 m c t y _ e0 e1 e2), (blk4 m c t y _ e0 e1 e2)]
    rfl

/-- The running means after the run. -/
theorem arrM (c : Dev nD) : (dats m 0 c).arrAt 7 cfg0.N = M' (P m c) (Q m c) (M m c) := by
  refine (dats m 0 c).arrAt_eq_of_covers 7 _ (by decide +kernel) fun t hf y => ?_
  blk_simp [idx7]
  rw [after0_7]
  have e0 : (((View.whole main_v3_2).slice (win0_7.rect t)).emb y 0).val = win0_7.index t (0 : Fin 3) * 1 + 1 * (y 0).val := rfl
  have e1 : (((View.whole main_v3_2).slice (win0_7.rect t)).emb y 1).val = win0_7.index t (1 : Fin 3) * 176 + 1 * (y 1).val := rfl
  have e2 : (((View.whole main_v3_2).slice (win0_7.rect t)).emb y 2).val = win0_7.index t (2 : Fin 3) * 1024 + 1 * (y 2).val := rfl
  rw [idx7] at e0 e1 e2
  replace e0 : (((View.whole main_v3_2).slice (win0_7.rect t)).emb y 0).val = t.val / 4 + (y 0).val := by simpa using e0
  replace e1 : (((View.whole main_v3_2).slice (win0_7.rect t)).emb y 1).val = t.val % 4 * 176 + (y 1).val := by simpa using e1
  replace e2 : (((View.whole main_v3_2).slice (win0_7.rect t)).emb y 2).val = (y 2).val := by simpa using e2
  have hN : t.val < 8 := t.isLt
  have hl : t.val / 4 = 0 ∨ t.val / 4 = 1 := by omega
  rcases hl with h | h
  · rw [outsAt0_A m c t (by omega) (by omega)]
    frame_out
    refine (pay1_apply (g0 m c t) _ y).trans ?_
    rw [(g0_at m c t h y _ e0 e1 e2), (blk3 m c t y _ e0 e1 e2)]
    rfl
  · rw [outsAt0_B m c t (by omega) (by omega)]
    frame_out
    refine (pay1_apply (g1 m c t) _ y).trans ?_
    rw [(g1_at m c t h y _ e0 e1 e2), (blk3 m c t y _ e0 e1 e2)]
    rfl

/-- The running means of squares after the run. -/
theorem arrV (c : Dev nD) : (dats m 0 c).arrAt 8 cfg0.N = V' (P m c) (Q m c) (V m c) := by
  refine (dats m 0 c).arrAt_eq_of_covers 8 _ (by decide +kernel) fun t hf y => ?_
  blk_simp [idx8]
  rw [after0_8]
  have e0 : (((View.whole main_v3_3).slice (win0_8.rect t)).emb y 0).val = win0_8.index t (0 : Fin 3) * 1 + 1 * (y 0).val := rfl
  have e1 : (((View.whole main_v3_3).slice (win0_8.rect t)).emb y 1).val = win0_8.index t (1 : Fin 3) * 176 + 1 * (y 1).val := rfl
  have e2 : (((View.whole main_v3_3).slice (win0_8.rect t)).emb y 2).val = win0_8.index t (2 : Fin 3) * 1024 + 1 * (y 2).val := rfl
  rw [idx8] at e0 e1 e2
  replace e0 : (((View.whole main_v3_3).slice (win0_8.rect t)).emb y 0).val = t.val / 4 + (y 0).val := by simpa using e0
  replace e1 : (((View.whole main_v3_3).slice (win0_8.rect t)).emb y 1).val = t.val % 4 * 176 + (y 1).val := by simpa using e1
  replace e2 : (((View.whole main_v3_3).slice (win0_8.rect t)).emb y 2).val = (y 2).val := by simpa using e2
  have hN : t.val < 8 := t.isLt
  have hl : t.val / 4 = 0 ∨ t.val / 4 = 1 := by omega
  rcases hl with h | h
  · rw [outsAt0_A m c t (by omega) (by omega)]
    frame_out
    refine (pay2_apply (g0 m c t) _ y).trans ?_
    rw [(g0_at m c t h y _ e0 e1 e2), (blk4 m c t y _ e0 e1 e2)]
    rfl
  · rw [outsAt0_B m c t (by omega) (by omega)]
    frame_out
    refine (pay2_apply (g1 m c t) _ y).trans ?_
    rw [(g1_at m c t h y _ e0 e1 e2), (blk4 m c t y _ e0 e1 e2)]
    rfl

theorem tail4 (c : Dev nD) : Pipeline.afterTail₀ cfgs (dats m) 0 (V0 m) [hostOps1] c main_v4
    = transpose S2x1024x704 [0, 2, 1] ((dats m 0 c).arrAt 5 cfg0.N) transposes_S2x704x1024_S2x1024x704_0_2_1 := by
  show StableHlo.after hostOps1 _ (Proc.devRef .tc main_v4) = _
  after_results
  exact congrArg (fun x => transpose S2x1024x704 [0, 2, 1] (x) transposes_S2x704x1024_S2x1024x704_0_2_1) (Pipeline.withArrays_arr spec0 (by decide) c (V0 m c) _ 5)

theorem tail5 (c : Dev nD) : Pipeline.afterTail₀ cfgs (dats m) 0 (V0 m) [hostOps1] c main_v5
    = transpose S2x1024x704 [0, 2, 1] ((dats m 0 c).arrAt 6 cfg0.N) transposes_S2x704x1024_S2x1024x704_0_2_1 := by
  show StableHlo.after hostOps1 _ (Proc.devRef .tc main_v5) = _
  after_results
  exact congrArg (fun x => transpose S2x1024x704 [0, 2, 1] (x) transposes_S2x704x1024_S2x1024x704_0_2_1) (Pipeline.withArrays_arr spec0 (by decide) c (V0 m c) _ 6)

theorem tail6 (c : Dev nD) : Pipeline.afterTail₀ cfgs (dats m) 0 (V0 m) [hostOps1] c main_v6
    = transpose S2x1024x704 [0, 2, 1] ((dats m 0 c).arrAt 7 cfg0.N) transposes_S2x704x1024_S2x1024x704_0_2_1 := by
  show StableHlo.after hostOps1 _ (Proc.devRef .tc main_v6) = _
  after_results
  exact congrArg (fun x => transpose S2x1024x704 [0, 2, 1] (x) transposes_S2x704x1024_S2x1024x704_0_2_1) (Pipeline.withArrays_arr spec0 (by decide) c (V0 m c) _ 7)

theorem tail7 (c : Dev nD) : Pipeline.afterTail₀ cfgs (dats m) 0 (V0 m) [hostOps1] c main_v7
    = transpose S2x1024x704 [0, 2, 1] ((dats m 0 c).arrAt 8 cfg0.N) transposes_S2x704x1024_S2x1024x704_0_2_1 := by
  show StableHlo.after hostOps1 _ (Proc.devRef .tc main_v7) = _
  after_results
  exact congrArg (fun x => transpose S2x1024x704 [0, 2, 1] (x) transposes_S2x704x1024_S2x1024x704_0_2_1) (Pipeline.withArrays_arr spec0 (by decide) c (V0 m c) _ 8)

/-- The run: each result is the turned array of its window, the arguments are unchanged. -/
theorem run (ρ : Dev nD → PrngReg) : θ_run defs (onTc (τ := τ) (main (F := Ideal))) ⟨m, fun _ => 0, ρ⟩ fun r => ∀ c : Dev nD,
      r.2.mem ((c : Thread nD τ).loc main_v4) = transpose S2x1024x704 [0, 2, 1] ((dats m 0 c).arrAt 5 cfg0.N) transposes_S2x704x1024_S2x1024x704_0_2_1
      ∧ r.2.mem ((c : Thread nD τ).loc main_v5) = transpose S2x1024x704 [0, 2, 1] ((dats m 0 c).arrAt 6 cfg0.N) transposes_S2x704x1024_S2x1024x704_0_2_1
      ∧ r.2.mem ((c : Thread nD τ).loc main_v6) = transpose S2x1024x704 [0, 2, 1] ((dats m 0 c).arrAt 7 cfg0.N) transposes_S2x704x1024_S2x1024x704_0_2_1
      ∧ r.2.mem ((c : Thread nD τ).loc main_v7) = transpose S2x1024x704 [0, 2, 1] ((dats m 0 c).arrAt 8 cfg0.N) transposes_S2x704x1024_S2x1024x704_0_2_1
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  run_from run_main m ρ & unchanged m ρ
  · exact tail4 m c
  · exact tail5 m c
  · exact tail6 m c
  · exact tail7 m c

/-- The kernel's results are the reference's. -/
theorem algebraic : Cert.algebraic_Kernel13Ideal_Reference13Ideal := by
  intro m ρ m' ρ' _ hagree
  refine ⟨_, _, _, _, run m ρ, ?_⟩
  refine (θ_run Cert.Reference13Ideal.defs _ _).mono (fun _ h c => ⟨?_, ?_, ?_, ?_, (h c).2.2.2.2⟩) (Cert.Reference13Ideal.Value.run (F := Ideal) m' ρ')
  · obtain ⟨h0, h1, h2, h3, h4⟩ := hagree c
    rw [(h c).1, arrG]
    unfold G grad P Q
    funext i
    pointwise
    rw [h0, h1]
    simp only [dite_eq_ite]
  · obtain ⟨h0, h1, h2, h3, h4⟩ := hagree c
    rw [(h c).2.1, arrD]
    unfold D change mean square G grad P Q W M V
    funext i
    pointwise
    rw [h0, h1, h2, h3, h4]
    simp only [dite_eq_ite]
  · obtain ⟨h0, h1, h2, h3, h4⟩ := hagree c
    rw [(h c).2.2.1, arrM]
    unfold M' mean G grad P Q M
    funext i
    pointwise
    rw [h0, h1, h3]
    simp only [dite_eq_ite]
  · obtain ⟨h0, h1, h2, h3, h4⟩ := hagree c
    rw [(h c).2.2.2.1, arrV]
    unfold V' square G grad P Q V
    funext i
    pointwise
    rw [h0, h1, h4]
    simp only [dite_eq_ite]

end Cert.Kernel13Ideal.AdamUp

end
-- ==== Proof.lean ====
/-
  The claims put together.  Every program's frame is its run weakened; the equations between a kernel's results and its
  reference's are proved in the modules imported last, one for each call.
-/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal.Run
public import Idealize.ShloMosaic.Adequacy
public import Idealize.ShloMosaic.Init
public import Idealize.ShloMosaic.Lib.Quiescent
public import proofs.«01_k».proof.Proof.GradDown
public import proofs.«01_k».proof.Proof.GradUp
public import proofs.«01_k».proof.Proof.GradOut
public import proofs.«01_k».proof.Proof.GradIn
public import proofs.«01_k».proof.Proof.BackFfn
public import proofs.«01_k».proof.Proof.BackWord
public import proofs.«01_k».proof.Proof.ForwardFfn
public import proofs.«01_k».proof.Proof.FfnWord
public import proofs.«01_k».proof.Proof.BackOut
public import proofs.«01_k».proof.Proof.ForwardIn
public import proofs.«01_k».proof.Proof.ForwardOut
public import proofs.«01_k».proof.Proof.AdamOut
public import proofs.«01_k».proof.Proof.AdamDown
public import proofs.«01_k».proof.Proof.AdamIn
public import proofs.«01_k».proof.Proof.AdamUp

@[expose] public section

noncomputable section

namespace Cert.Proof

open Idealize.ShloMosaic Idealize.SL.Sem

theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem quiescent_Reference2Ideal : quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem quiescent_Reference3Ideal : quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem quiescent_Reference4Ideal : quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem quiescent_Reference5Ideal : quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

attribute [local instance] Cert.Pre_finite.facts

theorem quiescent_Reference5Ideal_pre_finite : quiescent_Reference5Ideal_pre_finite := fun m ρ _ => quiescent_Reference5Ideal m ρ trivial

theorem quiescent_Reference6Ideal : quiescent_Reference6Ideal := fun m ρ _ =>
  (θ_run Cert.Reference6Ideal.defs _ _).mono (fun r h => ⟨fun c => (h c).2.2.2.2.2, sem_eq_zero_of_no_sems (by decide) r.2⟩)
    (Cert.Reference6Ideal.Value.run (F := Ideal) m ρ)

theorem quiescent_Reference7Ideal : quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

theorem quiescent_Reference8Ideal : quiescent_Reference8Ideal := fun m ρ _ =>
  (θ_run Cert.Reference8Ideal.defs _ _).mono (fun r h => ⟨fun c => (h c).2.2, sem_eq_zero_of_no_sems (by decide) r.2⟩)
    (Cert.Reference8Ideal.Value.run (F := Ideal) m ρ)

theorem quiescent_Reference9Ideal : quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

theorem quiescent_Reference10Ideal : quiescent_Reference10Ideal := fun m ρ _ =>
  (θ_run Cert.Reference10Ideal.defs _ _).mono (fun r h => ⟨fun c => (h c).2.2.2.2, sem_eq_zero_of_no_sems (by decide) r.2⟩)
    (Cert.Reference10Ideal.Value.run (F := Ideal) m ρ)

theorem quiescent_Reference11Ideal : quiescent_Reference11Ideal := fun m ρ _ =>
  (θ_run Cert.Reference11Ideal.defs _ _).mono (fun r h => ⟨fun c => (h c).2.2.2.2, sem_eq_zero_of_no_sems (by decide) r.2⟩)
    (Cert.Reference11Ideal.Value.run (F := Ideal) m ρ)

theorem quiescent_Reference12Ideal : quiescent_Reference12Ideal := fun m ρ _ =>
  (θ_run Cert.Reference12Ideal.defs _ _).mono (fun r h => ⟨fun c => (h c).2.2.2.2, sem_eq_zero_of_no_sems (by decide) r.2⟩)
    (Cert.Reference12Ideal.Value.run (F := Ideal) m ρ)

theorem quiescent_Reference13Ideal : quiescent_Reference13Ideal := fun m ρ _ =>
  (θ_run Cert.Reference13Ideal.defs _ _).mono (fun r h => ⟨fun c => (h c).2.2.2.2, sem_eq_zero_of_no_sems (by decide) r.2⟩)
    (Cert.Reference13Ideal.Value.run (F := Ideal) m ρ)

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Pre_finite.facts,
  fun m ρ _ => Cert.Kernel.Gen.frame m ρ, fun m ρ _ => Cert.KernelIdeal.Gen.frame m ρ, quiescent_ReferenceIdeal,
  fun m ρ _ => Cert.Kernel2.Gen.frame m ρ, fun m ρ _ => Cert.Kernel2Ideal.Gen.frame m ρ, quiescent_Reference2Ideal,
  fun m ρ _ => Cert.Kernel3.Gen.frame m ρ, fun m ρ _ => Cert.Kernel3Ideal.Gen.frame m ρ, quiescent_Reference3Ideal,
  fun m ρ _ => Cert.Kernel4.Gen.frame m ρ, fun m ρ _ => Cert.Kernel4Ideal.Gen.frame m ρ, quiescent_Reference4Ideal,
  fun m ρ _ => Cert.Kernel5.BackFfn.frame m ρ, fun m ρ _ => Cert.Kernel5Ideal.BackFfn.frame m ρ, fun m ρ _ => Cert.Kernel5Ideal.BackFfn.frame m ρ, quiescent_Reference5Ideal, quiescent_Reference5Ideal_pre_finite,
  fun m ρ _ => Cert.Kernel6.ForwardFfn.frame m ρ, fun m ρ _ => Cert.Kernel6Ideal.ForwardFfn.frame m ρ, quiescent_Reference6Ideal,
  fun m ρ _ => Cert.Kernel7.Gen.frame m ρ, fun m ρ _ => Cert.Kernel7Ideal.Gen.frame m ρ, quiescent_Reference7Ideal,
  fun m ρ _ => Cert.Kernel8.Gen.frame m ρ, fun m ρ _ => Cert.Kernel8Ideal.Gen.frame m ρ, quiescent_Reference8Ideal,
  fun m ρ _ => Cert.Kernel9.Gen.frame m ρ, fun m ρ _ => Cert.Kernel9Ideal.Gen.frame m ρ, quiescent_Reference9Ideal,
  fun m ρ _ => Cert.Kernel10.Gen.frame m ρ, fun m ρ _ => Cert.Kernel10Ideal.Gen.frame m ρ, quiescent_Reference10Ideal,
  fun m ρ _ => Cert.Kernel11.Gen.frame m ρ, fun m ρ _ => Cert.Kernel11Ideal.Gen.frame m ρ, quiescent_Reference11Ideal,
  fun m ρ _ => Cert.Kernel12.Gen.frame m ρ, fun m ρ _ => Cert.Kernel12Ideal.Gen.frame m ρ, quiescent_Reference12Ideal,
  fun m ρ _ => Cert.Kernel13.Gen.frame m ρ, fun m ρ _ => Cert.Kernel13Ideal.Gen.frame m ρ, quiescent_Reference13Ideal,
  (trivial : preserves_Kernel_KernelIdeal), Cert.KernelIdeal.GradDown.algebraic,
  (trivial : preserves_Kernel2_Kernel2Ideal), Cert.Kernel2Ideal.GradUp.algebraic,
  (trivial : preserves_Kernel3_Kernel3Ideal), Cert.Kernel3Ideal.GradOut.algebraic,
  (trivial : preserves_Kernel4_Kernel4Ideal), Cert.Kernel4Ideal.GradIn.algebraic,
  (trivial : preserves_Kernel5_Kernel5Ideal), Cert.Kernel5Ideal.BackFfn.algebraic,
  (trivial : preserves_Kernel6_Kernel6Ideal), Cert.Kernel6Ideal.ForwardFfn.algebraic,
  (trivial : preserves_Kernel7_Kernel7Ideal), Cert.Kernel7Ideal.BackOut.algebraic,
  (trivial : preserves_Kernel8_Kernel8Ideal), Cert.Kernel8Ideal.ForwardIn.algebraic,
  (trivial : preserves_Kernel9_Kernel9Ideal), Cert.Kernel9Ideal.ForwardOut.algebraic,
  (trivial : preserves_Kernel10_Kernel10Ideal), Cert.Kernel10Ideal.AdamOut.algebraic,
  (trivial : preserves_Kernel11_Kernel11Ideal), Cert.Kernel11Ideal.AdamDown.algebraic,
  (trivial : preserves_Kernel12_Kernel12Ideal), Cert.Kernel12Ideal.AdamIn.algebraic,
  (trivial : preserves_Kernel13_Kernel13Ideal), Cert.Kernel13Ideal.AdamUp.algebraic⟩

end Cert.Proof

end
